-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_ConvOutDx (m : (ℓ : Loc Cert.ConvOutDx.nD Cert.ConvOutDx.τ Cert.ConvOutDx.sig) → Buf (Elt Bits) ℓ) : Prop :=
  True

def Pre_ConvOutDxIdeal (m : (ℓ : Loc Cert.ConvOutDxIdeal.nD Cert.ConvOutDxIdeal.τ Cert.ConvOutDxIdeal.sig) → Buf (Elt Ideal) ℓ) : Prop :=
  True

def Pre_ConvOutDxRefIdeal (m : (ℓ : Loc Cert.ConvOutDxRefIdeal.nD Cert.ConvOutDxRefIdeal.τ Cert.ConvOutDxRefIdeal.sig) → Buf (Elt Ideal) ℓ) : Prop :=
  True

def Pre_ConvOutDw (m : (ℓ : Loc Cert.ConvOutDw.nD Cert.ConvOutDw.τ Cert.ConvOutDw.sig) → Buf (Elt Bits) ℓ) : Prop :=
  True

def Pre_ConvOutDwIdeal (m : (ℓ : Loc Cert.ConvOutDwIdeal.nD Cert.ConvOutDwIdeal.τ Cert.ConvOutDwIdeal.sig) → Buf (Elt Ideal) ℓ) : Prop :=
  True

def Pre_ConvOutDwRefIdeal (m : (ℓ : Loc Cert.ConvOutDwRefIdeal.nD Cert.ConvOutDwRefIdeal.τ Cert.ConvOutDwRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxRefIdeal (m : (ℓ : Loc Cert.AttnOutDxRefIdeal.nD Cert.AttnOutDxRefIdeal.τ Cert.AttnOutDxRefIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwRefIdeal (m : (ℓ : Loc Cert.AttnOutDwRefIdeal.nD Cert.AttnOutDwRefIdeal.τ Cert.AttnOutDwRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_ResBwd (m : (ℓ : Loc Cert.ResBwd.nD Cert.ResBwd.τ Cert.ResBwd.sig) → Buf (Elt Bits) ℓ) : Prop :=
  True

def Pre_ResBwdIdeal (m : (ℓ : Loc Cert.ResBwdIdeal.nD Cert.ResBwdIdeal.τ Cert.ResBwdIdeal.sig) → Buf (Elt Ideal) ℓ) : Prop :=
  True

def Pre_ResBwdRefIdeal (m : (ℓ : Loc Cert.ResBwdRefIdeal.nD Cert.ResBwdRefIdeal.τ Cert.ResBwdRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def Pre_ConvDx (m : (ℓ : Loc Cert.ConvDx.nD Cert.ConvDx.τ Cert.ConvDx.sig) → Buf (Elt Bits) ℓ) : Prop :=
  True

def Pre_ConvDxIdeal (m : (ℓ : Loc Cert.ConvDxIdeal.nD Cert.ConvDxIdeal.τ Cert.ConvDxIdeal.sig) → Buf (Elt Ideal) ℓ) : Prop :=
  True

def Pre_ConvDxRefIdeal (m : (ℓ : Loc Cert.ConvDxRefIdeal.nD Cert.ConvDxRefIdeal.τ Cert.ConvDxRefIdeal.sig) → Buf (Elt Ideal) ℓ) : Prop :=
  True

def Pre_ConvDw (m : (ℓ : Loc Cert.ConvDw.nD Cert.ConvDw.τ Cert.ConvDw.sig) → Buf (Elt Bits) ℓ) : Prop :=
  True

def Pre_ConvDwIdeal (m : (ℓ : Loc Cert.ConvDwIdeal.nD Cert.ConvDwIdeal.τ Cert.ConvDwIdeal.sig) → Buf (Elt Ideal) ℓ) : Prop :=
  True

def Pre_ConvDwRefIdeal (m : (ℓ : Loc Cert.ConvDwRefIdeal.nD Cert.ConvDwRefIdeal.τ Cert.ConvDwRefIdeal.sig) → Buf (Elt Ideal) ℓ) : Prop :=
  True

def Pre_ConvFw (m : (ℓ : Loc Cert.ConvFw.nD Cert.ConvFw.τ Cert.ConvFw.sig) → Buf (Elt Bits) ℓ) : Prop :=
  True

def Pre_ConvFwIdeal (m : (ℓ : Loc Cert.ConvFwIdeal.nD Cert.ConvFwIdeal.τ Cert.ConvFwIdeal.sig) → Buf (Elt Ideal) ℓ) : Prop :=
  True

def Pre_ConvFwRefIdeal (m : (ℓ : Loc Cert.ConvFwRefIdeal.nD Cert.ConvFwRefIdeal.τ Cert.ConvFwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1))
      ∧ r.2.sem = fun _ => 0)

def quiescent_ConvOutDx [hConvOutDx : Cert.ConvOutDx.Facts] : Prop :=
  ∀ (m : (ℓ : Loc Cert.ConvOutDx.nD Cert.ConvOutDx.τ Cert.ConvOutDx.sig) → Buf (Elt Bits) ℓ) (g : Dev Cert.ConvOutDx.nD → PrngReg), Pre_ConvOutDx m →
    θ_run (Cert.ConvOutDx.defs (F := Bits)) (onTc (τ := Cert.ConvOutDx.τ) (Cert.ConvOutDx.main (F := Bits))) ⟨m, fun _ => 0, g⟩ (fun r => (∀ c : Dev Cert.ConvOutDx.nD,
      r.2.mem ((c.tc : Thread Cert.ConvOutDx.nD Cert.ConvOutDx.τ).loc Cert.ConvOutDx.main_arg0) = m ((c.tc : Thread Cert.ConvOutDx.nD Cert.ConvOutDx.τ).loc Cert.ConvOutDx.main_arg0)
      ∧ r.2.mem ((c.tc : Thread Cert.ConvOutDx.nD Cert.ConvOutDx.τ).loc Cert.ConvOutDx.main_arg1) = m ((c.tc : Thread Cert.ConvOutDx.nD Cert.ConvOutDx.τ).loc Cert.ConvOutDx.main_arg1))
      ∧ r.2.sem = fun _ => 0)

def quiescent_ConvOutDxIdeal [hConvOutDxIdeal : Cert.ConvOutDxIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg), Pre_ConvOutDxIdeal m →
    θ_run (Cert.ConvOutDxIdeal.defs (F := Ideal)) (onTc (τ := Cert.ConvOutDxIdeal.τ) (Cert.ConvOutDxIdeal.main (F := Ideal))) ⟨m, fun _ => 0, g⟩ (fun r => (∀ c : Dev Cert.ConvOutDxIdeal.nD,
      r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
      ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1))
      ∧ r.2.sem = fun _ => 0)

def quiescent_ConvOutDxRefIdeal [hConvOutDxRefIdeal : Cert.ConvOutDxRefIdeal.Facts] : Prop :=
  ∀ (m : (ℓ : Loc Cert.ConvOutDxRefIdeal.nD Cert.ConvOutDxRefIdeal.τ Cert.ConvOutDxRefIdeal.sig) → Buf (Elt Ideal) ℓ) (g : Dev Cert.ConvOutDxRefIdeal.nD → PrngReg), Pre_ConvOutDxRefIdeal m →
    θ_run (Cert.ConvOutDxRefIdeal.defs (F := Ideal)) (onTc (τ := Cert.ConvOutDxRefIdeal.τ) (Cert.ConvOutDxRefIdeal.main (F := Ideal))) ⟨m, fun _ => 0, g⟩ (fun r => (∀ c : Dev Cert.ConvOutDxRefIdeal.nD,
      r.2.mem ((c.tc : Thread Cert.ConvOutDxRefIdeal.nD Cert.ConvOutDxRefIdeal.τ).loc Cert.ConvOutDxRefIdeal.main_arg0) = m ((c.tc : Thread Cert.ConvOutDxRefIdeal.nD Cert.ConvOutDxRefIdeal.τ).loc Cert.ConvOutDxRefIdeal.main_arg0)
      ∧ r.2.mem ((c.tc : Thread Cert.ConvOutDxRefIdeal.nD Cert.ConvOutDxRefIdeal.τ).loc Cert.ConvOutDxRefIdeal.main_arg1) = m ((c.tc : Thread Cert.ConvOutDxRefIdeal.nD Cert.ConvOutDxRefIdeal.τ).loc Cert.ConvOutDxRefIdeal.main_arg1))
      ∧ r.2.sem = fun _ => 0)

def quiescent_ConvOutDw [hConvOutDw : Cert.ConvOutDw.Facts] : Prop :=
  ∀ (m : (ℓ : Loc Cert.ConvOutDw.nD Cert.ConvOutDw.τ Cert.ConvOutDw.sig) → Buf (Elt Bits) ℓ) (g : Dev Cert.ConvOutDw.nD → PrngReg), Pre_ConvOutDw m →
    θ_run (Cert.ConvOutDw.defs (F := Bits)) (onTc (τ := Cert.ConvOutDw.τ) (Cert.ConvOutDw.main (F := Bits))) ⟨m, fun _ => 0, g⟩ (fun r => (∀ c : Dev Cert.ConvOutDw.nD,
      r.2.mem ((c.tc : Thread Cert.ConvOutDw.nD Cert.ConvOutDw.τ).loc Cert.ConvOutDw.main_arg0) = m ((c.tc : Thread Cert.ConvOutDw.nD Cert.ConvOutDw.τ).loc Cert.ConvOutDw.main_arg0)
      ∧ r.2.mem ((c.tc : Thread Cert.ConvOutDw.nD Cert.ConvOutDw.τ).loc Cert.ConvOutDw.main_arg1) = m ((c.tc : Thread Cert.ConvOutDw.nD Cert.ConvOutDw.τ).loc Cert.ConvOutDw.main_arg1))
      ∧ r.2.sem = fun _ => 0)

def quiescent_ConvOutDwIdeal [hConvOutDwIdeal : Cert.ConvOutDwIdeal.Facts] : Prop :=
  ∀ (m : (ℓ : Loc Cert.ConvOutDwIdeal.nD Cert.ConvOutDwIdeal.τ Cert.ConvOutDwIdeal.sig) → Buf (Elt Ideal) ℓ) (g : Dev Cert.ConvOutDwIdeal.nD → PrngReg), Pre_ConvOutDwIdeal m →
    θ_run (Cert.ConvOutDwIdeal.defs (F := Ideal)) (onTc (τ := Cert.ConvOutDwIdeal.τ) (Cert.ConvOutDwIdeal.main (F := Ideal))) ⟨m, fun _ => 0, g⟩ (fun r => (∀ c : Dev Cert.ConvOutDwIdeal.nD,
      r.2.mem ((c.tc : Thread Cert.ConvOutDwIdeal.nD Cert.ConvOutDwIdeal.τ).loc Cert.ConvOutDwIdeal.main_arg0) = m ((c.tc : Thread Cert.ConvOutDwIdeal.nD Cert.ConvOutDwIdeal.τ).loc Cert.ConvOutDwIdeal.main_arg0)
      ∧ r.2.mem ((c.tc : Thread Cert.ConvOutDwIdeal.nD Cert.ConvOutDwIdeal.τ).loc Cert.ConvOutDwIdeal.main_arg1) = m ((c.tc : Thread Cert.ConvOutDwIdeal.nD Cert.ConvOutDwIdeal.τ).loc Cert.ConvOutDwIdeal.main_arg1))
      ∧ r.2.sem = fun _ => 0)

def quiescent_ConvOutDwRefIdeal [hConvOutDwRefIdeal : Cert.ConvOutDwRefIdeal.Facts] : Prop :=
  ∀ (m : (ℓ : Loc Cert.ConvOutDwRefIdeal.nD Cert.ConvOutDwRefIdeal.τ Cert.ConvOutDwRefIdeal.sig) → Buf (Elt Ideal) ℓ) (g : Dev Cert.ConvOutDwRefIdeal.nD → PrngReg), Pre_ConvOutDwRefIdeal m →
    θ_run (Cert.ConvOutDwRefIdeal.defs (F := Ideal)) (onTc (τ := Cert.ConvOutDwRefIdeal.τ) (Cert.ConvOutDwRefIdeal.main (F := Ideal))) ⟨m, fun _ => 0, g⟩ (fun r => (∀ c : Dev Cert.ConvOutDwRefIdeal.nD,
      r.2.mem ((c.tc : Thread Cert.ConvOutDwRefIdeal.nD Cert.ConvOutDwRefIdeal.τ).loc Cert.ConvOutDwRefIdeal.main_arg0) = m ((c.tc : Thread Cert.ConvOutDwRefIdeal.nD Cert.ConvOutDwRefIdeal.τ).loc Cert.ConvOutDwRefIdeal.main_arg0)
      ∧ r.2.mem ((c.tc : Thread Cert.ConvOutDwRefIdeal.nD Cert.ConvOutDwRefIdeal.τ).loc Cert.ConvOutDwRefIdeal.main_arg1) = m ((c.tc : Thread Cert.ConvOutDwRefIdeal.nD Cert.ConvOutDwRefIdeal.τ).loc Cert.ConvOutDwRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxRefIdeal [hAttnOutDxRefIdeal : Cert.AttnOutDxRefIdeal.Facts] : Prop :=
  ∀ (m : (ℓ : Loc Cert.AttnOutDxRefIdeal.nD Cert.AttnOutDxRefIdeal.τ Cert.AttnOutDxRefIdeal.sig) → Buf (Elt Ideal) ℓ) (g : Dev Cert.AttnOutDxRefIdeal.nD → PrngReg), Pre_AttnOutDxRefIdeal m →
    θ_run (Cert.AttnOutDxRefIdeal.defs (F := Ideal)) (onTc (τ := Cert.AttnOutDxRefIdeal.τ) (Cert.AttnOutDxRefIdeal.main (F := Ideal))) ⟨m, fun _ => 0, g⟩ (fun r => (∀ c : Dev Cert.AttnOutDxRefIdeal.nD,
      r.2.mem ((c.tc : Thread Cert.AttnOutDxRefIdeal.nD Cert.AttnOutDxRefIdeal.τ).loc Cert.AttnOutDxRefIdeal.main_arg0) = m ((c.tc : Thread Cert.AttnOutDxRefIdeal.nD Cert.AttnOutDxRefIdeal.τ).loc Cert.AttnOutDxRefIdeal.main_arg0)
      ∧ r.2.mem ((c.tc : Thread Cert.AttnOutDxRefIdeal.nD Cert.AttnOutDxRefIdeal.τ).loc Cert.AttnOutDxRefIdeal.main_arg1) = m ((c.tc : Thread Cert.AttnOutDxRefIdeal.nD Cert.AttnOutDxRefIdeal.τ).loc Cert.AttnOutDxRefIdeal.main_arg1))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ r.2.sem = fun _ => 0)

def quiescent_AttnOutDwRefIdeal [hAttnOutDwRefIdeal : Cert.AttnOutDwRefIdeal.Facts] : Prop :=
  ∀ (m : (ℓ : Loc Cert.AttnOutDwRefIdeal.nD Cert.AttnOutDwRefIdeal.τ Cert.AttnOutDwRefIdeal.sig) → Buf (Elt Ideal) ℓ) (g : Dev Cert.AttnOutDwRefIdeal.nD → PrngReg), Pre_AttnOutDwRefIdeal m →
    θ_run (Cert.AttnOutDwRefIdeal.defs (F := Ideal)) (onTc (τ := Cert.AttnOutDwRefIdeal.τ) (Cert.AttnOutDwRefIdeal.main (F := Ideal))) ⟨m, fun _ => 0, g⟩ (fun r => (∀ c : Dev Cert.AttnOutDwRefIdeal.nD,
      r.2.mem ((c.tc : Thread Cert.AttnOutDwRefIdeal.nD Cert.AttnOutDwRefIdeal.τ).loc Cert.AttnOutDwRefIdeal.main_arg0) = m ((c.tc : Thread Cert.AttnOutDwRefIdeal.nD Cert.AttnOutDwRefIdeal.τ).loc Cert.AttnOutDwRefIdeal.main_arg0)
      ∧ r.2.mem ((c.tc : Thread Cert.AttnOutDwRefIdeal.nD Cert.AttnOutDwRefIdeal.τ).loc Cert.AttnOutDwRefIdeal.main_arg1) = m ((c.tc : Thread Cert.AttnOutDwRefIdeal.nD Cert.AttnOutDwRefIdeal.τ).loc Cert.AttnOutDwRefIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_ResBwd [hResBwd : Cert.ResBwd.Facts] : Prop :=
  ∀ (m : (ℓ : Loc Cert.ResBwd.nD Cert.ResBwd.τ Cert.ResBwd.sig) → Buf (Elt Bits) ℓ) (g : Dev Cert.ResBwd.nD → PrngReg), Pre_ResBwd m →
    θ_run (Cert.ResBwd.defs (F := Bits)) (onTc (τ := Cert.ResBwd.τ) (Cert.ResBwd.main (F := Bits))) ⟨m, fun _ => 0, g⟩ (fun r => (∀ c : Dev Cert.ResBwd.nD,
      r.2.mem ((c.tc : Thread Cert.ResBwd.nD Cert.ResBwd.τ).loc Cert.ResBwd.main_arg0) = m ((c.tc : Thread Cert.ResBwd.nD Cert.ResBwd.τ).loc Cert.ResBwd.main_arg0)
      ∧ r.2.mem ((c.tc : Thread Cert.ResBwd.nD Cert.ResBwd.τ).loc Cert.ResBwd.main_arg1) = m ((c.tc : Thread Cert.ResBwd.nD Cert.ResBwd.τ).loc Cert.ResBwd.main_arg1)
      ∧ r.2.mem ((c.tc : Thread Cert.ResBwd.nD Cert.ResBwd.τ).loc Cert.ResBwd.main_arg2) = m ((c.tc : Thread Cert.ResBwd.nD Cert.ResBwd.τ).loc Cert.ResBwd.main_arg2)
      ∧ r.2.mem ((c.tc : Thread Cert.ResBwd.nD Cert.ResBwd.τ).loc Cert.ResBwd.main_arg3) = m ((c.tc : Thread Cert.ResBwd.nD Cert.ResBwd.τ).loc Cert.ResBwd.main_arg3))
      ∧ r.2.sem = fun _ => 0)

def quiescent_ResBwdIdeal [hResBwdIdeal : Cert.ResBwdIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg), Pre_ResBwdIdeal m →
    θ_run (Cert.ResBwdIdeal.defs (F := Ideal)) (onTc (τ := Cert.ResBwdIdeal.τ) (Cert.ResBwdIdeal.main (F := Ideal))) ⟨m, fun _ => 0, g⟩ (fun r => (∀ c : Dev Cert.ResBwdIdeal.nD,
      r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
      ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
      ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2)
      ∧ r.2.mem ((c.tc : Thread Cert.ResBwdIdeal.nD Cert.ResBwdIdeal.τ).loc Cert.ResBwdIdeal.main_arg3) = m ((c.tc : Thread Cert.ResBwdIdeal.nD Cert.ResBwdIdeal.τ).loc Cert.ResBwdIdeal.main_arg3))
      ∧ r.2.sem = fun _ => 0)

def quiescent_ResBwdRefIdeal [hResBwdRefIdeal : Cert.ResBwdRefIdeal.Facts] : Prop :=
  ∀ (m : (ℓ : Loc Cert.ResBwdRefIdeal.nD Cert.ResBwdRefIdeal.τ Cert.ResBwdRefIdeal.sig) → Buf (Elt Ideal) ℓ) (g : Dev Cert.ResBwdRefIdeal.nD → PrngReg), Pre_ResBwdRefIdeal m →
    θ_run (Cert.ResBwdRefIdeal.defs (F := Ideal)) (onTc (τ := Cert.ResBwdRefIdeal.τ) (Cert.ResBwdRefIdeal.main (F := Ideal))) ⟨m, fun _ => 0, g⟩ (fun r => (∀ c : Dev Cert.ResBwdRefIdeal.nD,
      r.2.mem ((c.tc : Thread Cert.ResBwdRefIdeal.nD Cert.ResBwdRefIdeal.τ).loc Cert.ResBwdRefIdeal.main_arg0) = m ((c.tc : Thread Cert.ResBwdRefIdeal.nD Cert.ResBwdRefIdeal.τ).loc Cert.ResBwdRefIdeal.main_arg0)
      ∧ r.2.mem ((c.tc : Thread Cert.ResBwdRefIdeal.nD Cert.ResBwdRefIdeal.τ).loc Cert.ResBwdRefIdeal.main_arg1) = m ((c.tc : Thread Cert.ResBwdRefIdeal.nD Cert.ResBwdRefIdeal.τ).loc Cert.ResBwdRefIdeal.main_arg1)
      ∧ r.2.mem ((c.tc : Thread Cert.ResBwdRefIdeal.nD Cert.ResBwdRefIdeal.τ).loc Cert.ResBwdRefIdeal.main_arg2) = m ((c.tc : Thread Cert.ResBwdRefIdeal.nD Cert.ResBwdRefIdeal.τ).loc Cert.ResBwdRefIdeal.main_arg2)
      ∧ r.2.mem ((c.tc : Thread Cert.ResBwdRefIdeal.nD Cert.ResBwdRefIdeal.τ).loc Cert.ResBwdRefIdeal.main_arg3) = m ((c.tc : Thread Cert.ResBwdRefIdeal.nD Cert.ResBwdRefIdeal.τ).loc Cert.ResBwdRefIdeal.main_arg3))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3)
      ∧ r.2.mem ((c.tc : Thread Cert.PostBwdRefIdeal.nD Cert.PostBwdRefIdeal.τ).loc Cert.PostBwdRefIdeal.main_arg4) = m ((c.tc : Thread Cert.PostBwdRefIdeal.nD Cert.PostBwdRefIdeal.τ).loc Cert.PostBwdRefIdeal.main_arg4))
      ∧ r.2.sem = fun _ => 0)

def quiescent_ConvDx [hConvDx : Cert.ConvDx.Facts] : Prop :=
  ∀ (m : (ℓ : Loc Cert.ConvDx.nD Cert.ConvDx.τ Cert.ConvDx.sig) → Buf (Elt Bits) ℓ) (g : Dev Cert.ConvDx.nD → PrngReg), Pre_ConvDx m →
    θ_run (Cert.ConvDx.defs (F := Bits)) (onTc (τ := Cert.ConvDx.τ) (Cert.ConvDx.main (F := Bits))) ⟨m, fun _ => 0, g⟩ (fun r => (∀ c : Dev Cert.ConvDx.nD,
      r.2.mem ((c.tc : Thread Cert.ConvDx.nD Cert.ConvDx.τ).loc Cert.ConvDx.main_arg0) = m ((c.tc : Thread Cert.ConvDx.nD Cert.ConvDx.τ).loc Cert.ConvDx.main_arg0)
      ∧ r.2.mem ((c.tc : Thread Cert.ConvDx.nD Cert.ConvDx.τ).loc Cert.ConvDx.main_arg1) = m ((c.tc : Thread Cert.ConvDx.nD Cert.ConvDx.τ).loc Cert.ConvDx.main_arg1))
      ∧ r.2.sem = fun _ => 0)

def quiescent_ConvDxIdeal [hConvDxIdeal : Cert.ConvDxIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg), Pre_ConvDxIdeal m →
    θ_run (Cert.ConvDxIdeal.defs (F := Ideal)) (onTc (τ := Cert.ConvDxIdeal.τ) (Cert.ConvDxIdeal.main (F := Ideal))) ⟨m, fun _ => 0, g⟩ (fun r => (∀ c : Dev Cert.ConvDxIdeal.nD,
      r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
      ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1))
      ∧ r.2.sem = fun _ => 0)

def quiescent_ConvDxRefIdeal [hConvDxRefIdeal : Cert.ConvDxRefIdeal.Facts] : Prop :=
  ∀ (m : (ℓ : Loc Cert.ConvDxRefIdeal.nD Cert.ConvDxRefIdeal.τ Cert.ConvDxRefIdeal.sig) → Buf (Elt Ideal) ℓ) (g : Dev Cert.ConvDxRefIdeal.nD → PrngReg), Pre_ConvDxRefIdeal m →
    θ_run (Cert.ConvDxRefIdeal.defs (F := Ideal)) (onTc (τ := Cert.ConvDxRefIdeal.τ) (Cert.ConvDxRefIdeal.main (F := Ideal))) ⟨m, fun _ => 0, g⟩ (fun r => (∀ c : Dev Cert.ConvDxRefIdeal.nD,
      r.2.mem ((c.tc : Thread Cert.ConvDxRefIdeal.nD Cert.ConvDxRefIdeal.τ).loc Cert.ConvDxRefIdeal.main_arg0) = m ((c.tc : Thread Cert.ConvDxRefIdeal.nD Cert.ConvDxRefIdeal.τ).loc Cert.ConvDxRefIdeal.main_arg0)
      ∧ r.2.mem ((c.tc : Thread Cert.ConvDxRefIdeal.nD Cert.ConvDxRefIdeal.τ).loc Cert.ConvDxRefIdeal.main_arg1) = m ((c.tc : Thread Cert.ConvDxRefIdeal.nD Cert.ConvDxRefIdeal.τ).loc Cert.ConvDxRefIdeal.main_arg1))
      ∧ r.2.sem = fun _ => 0)

def quiescent_ConvDw [hConvDw : Cert.ConvDw.Facts] : Prop :=
  ∀ (m : (ℓ : Loc Cert.ConvDw.nD Cert.ConvDw.τ Cert.ConvDw.sig) → Buf (Elt Bits) ℓ) (g : Dev Cert.ConvDw.nD → PrngReg), Pre_ConvDw m →
    θ_run (Cert.ConvDw.defs (F := Bits)) (onTc (τ := Cert.ConvDw.τ) (Cert.ConvDw.main (F := Bits))) ⟨m, fun _ => 0, g⟩ (fun r => (∀ c : Dev Cert.ConvDw.nD,
      r.2.mem ((c.tc : Thread Cert.ConvDw.nD Cert.ConvDw.τ).loc Cert.ConvDw.main_arg0) = m ((c.tc : Thread Cert.ConvDw.nD Cert.ConvDw.τ).loc Cert.ConvDw.main_arg0)
      ∧ r.2.mem ((c.tc : Thread Cert.ConvDw.nD Cert.ConvDw.τ).loc Cert.ConvDw.main_arg1) = m ((c.tc : Thread Cert.ConvDw.nD Cert.ConvDw.τ).loc Cert.ConvDw.main_arg1))
      ∧ r.2.sem = fun _ => 0)

def quiescent_ConvDwIdeal [hConvDwIdeal : Cert.ConvDwIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg), Pre_ConvDwIdeal m →
    θ_run (Cert.ConvDwIdeal.defs (F := Ideal)) (onTc (τ := Cert.ConvDwIdeal.τ) (Cert.ConvDwIdeal.main (F := Ideal))) ⟨m, fun _ => 0, g⟩ (fun r => (∀ c : Dev Cert.ConvDwIdeal.nD,
      r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
      ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1))
      ∧ r.2.sem = fun _ => 0)

def quiescent_ConvDwRefIdeal [hConvDwRefIdeal : Cert.ConvDwRefIdeal.Facts] : Prop :=
  ∀ (m : (ℓ : Loc Cert.ConvDwRefIdeal.nD Cert.ConvDwRefIdeal.τ Cert.ConvDwRefIdeal.sig) → Buf (Elt Ideal) ℓ) (g : Dev Cert.ConvDwRefIdeal.nD → PrngReg), Pre_ConvDwRefIdeal m →
    θ_run (Cert.ConvDwRefIdeal.defs (F := Ideal)) (onTc (τ := Cert.ConvDwRefIdeal.τ) (Cert.ConvDwRefIdeal.main (F := Ideal))) ⟨m, fun _ => 0, g⟩ (fun r => (∀ c : Dev Cert.ConvDwRefIdeal.nD,
      r.2.mem ((c.tc : Thread Cert.ConvDwRefIdeal.nD Cert.ConvDwRefIdeal.τ).loc Cert.ConvDwRefIdeal.main_arg0) = m ((c.tc : Thread Cert.ConvDwRefIdeal.nD Cert.ConvDwRefIdeal.τ).loc Cert.ConvDwRefIdeal.main_arg0)
      ∧ r.2.mem ((c.tc : Thread Cert.ConvDwRefIdeal.nD Cert.ConvDwRefIdeal.τ).loc Cert.ConvDwRefIdeal.main_arg1) = m ((c.tc : Thread Cert.ConvDwRefIdeal.nD Cert.ConvDwRefIdeal.τ).loc Cert.ConvDwRefIdeal.main_arg1))
      ∧ r.2.sem = fun _ => 0)

def quiescent_ConvFw [hConvFw : Cert.ConvFw.Facts] : Prop :=
  ∀ (m : (ℓ : Loc Cert.ConvFw.nD Cert.ConvFw.τ Cert.ConvFw.sig) → Buf (Elt Bits) ℓ) (g : Dev Cert.ConvFw.nD → PrngReg), Pre_ConvFw m →
    θ_run (Cert.ConvFw.defs (F := Bits)) (onTc (τ := Cert.ConvFw.τ) (Cert.ConvFw.main (F := Bits))) ⟨m, fun _ => 0, g⟩ (fun r => (∀ c : Dev Cert.ConvFw.nD,
      r.2.mem ((c.tc : Thread Cert.ConvFw.nD Cert.ConvFw.τ).loc Cert.ConvFw.main_arg0) = m ((c.tc : Thread Cert.ConvFw.nD Cert.ConvFw.τ).loc Cert.ConvFw.main_arg0)
      ∧ r.2.mem ((c.tc : Thread Cert.ConvFw.nD Cert.ConvFw.τ).loc Cert.ConvFw.main_arg1) = m ((c.tc : Thread Cert.ConvFw.nD Cert.ConvFw.τ).loc Cert.ConvFw.main_arg1))
      ∧ r.2.sem = fun _ => 0)

def quiescent_ConvFwIdeal [hConvFwIdeal : Cert.ConvFwIdeal.Facts] : Prop :=
  ∀ (m : (ℓ : Loc Cert.ConvFwIdeal.nD Cert.ConvFwIdeal.τ Cert.ConvFwIdeal.sig) → Buf (Elt Ideal) ℓ) (g : Dev Cert.ConvFwIdeal.nD → PrngReg), Pre_ConvFwIdeal m →
    θ_run (Cert.ConvFwIdeal.defs (F := Ideal)) (onTc (τ := Cert.ConvFwIdeal.τ) (Cert.ConvFwIdeal.main (F := Ideal))) ⟨m, fun _ => 0, g⟩ (fun r => (∀ c : Dev Cert.ConvFwIdeal.nD,
      r.2.mem ((c.tc : Thread Cert.ConvFwIdeal.nD Cert.ConvFwIdeal.τ).loc Cert.ConvFwIdeal.main_arg0) = m ((c.tc : Thread Cert.ConvFwIdeal.nD Cert.ConvFwIdeal.τ).loc Cert.ConvFwIdeal.main_arg0)
      ∧ r.2.mem ((c.tc : Thread Cert.ConvFwIdeal.nD Cert.ConvFwIdeal.τ).loc Cert.ConvFwIdeal.main_arg1) = m ((c.tc : Thread Cert.ConvFwIdeal.nD Cert.ConvFwIdeal.τ).loc Cert.ConvFwIdeal.main_arg1))
      ∧ r.2.sem = fun _ => 0)

def quiescent_ConvFwRefIdeal [hConvFwRefIdeal : Cert.ConvFwRefIdeal.Facts] : Prop :=
  ∀ (m : (ℓ : Loc Cert.ConvFwRefIdeal.nD Cert.ConvFwRefIdeal.τ Cert.ConvFwRefIdeal.sig) → Buf (Elt Ideal) ℓ) (g : Dev Cert.ConvFwRefIdeal.nD → PrngReg), Pre_ConvFwRefIdeal m →
    θ_run (Cert.ConvFwRefIdeal.defs (F := Ideal)) (onTc (τ := Cert.ConvFwRefIdeal.τ) (Cert.ConvFwRefIdeal.main (F := Ideal))) ⟨m, fun _ => 0, g⟩ (fun r => (∀ c : Dev Cert.ConvFwRefIdeal.nD,
      r.2.mem ((c.tc : Thread Cert.ConvFwRefIdeal.nD Cert.ConvFwRefIdeal.τ).loc Cert.ConvFwRefIdeal.main_arg0) = m ((c.tc : Thread Cert.ConvFwRefIdeal.nD Cert.ConvFwRefIdeal.τ).loc Cert.ConvFwRefIdeal.main_arg0)
      ∧ r.2.mem ((c.tc : Thread Cert.ConvFwRefIdeal.nD Cert.ConvFwRefIdeal.τ).loc Cert.ConvFwRefIdeal.main_arg1) = m ((c.tc : Thread Cert.ConvFwRefIdeal.nD Cert.ConvFwRefIdeal.τ).loc Cert.ConvFwRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v1) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v5)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v5) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v4)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v4) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v5)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v5) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v1) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v5)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v5) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v3) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v4)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v4) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v5) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v3)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v3) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v1) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v3)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v3) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v3) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v4)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v4) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v3) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v1) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v3)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v3) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v3) = v0 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v4)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v4) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v3) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)) →
    ∃ (v0 : (c : Dev Cert.ConvOutIdeal.nD) → Buf (Elt Ideal) ((c.tc : Thread Cert.ConvOutIdeal.nD Cert.ConvOutIdeal.τ).loc Cert.ConvOutIdeal.main_v3)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v3) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v1) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1))

def preserves_ConvOutDx_ConvOutDxIdeal : Prop :=
  True

def algebraic_ConvOutDxIdeal_ConvOutDxRefIdeal [hConvOutDxIdeal : Cert.ConvOutDxIdeal.Facts] [hConvOutDxRefIdeal : Cert.ConvOutDxRefIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg)
    (m' : (ℓ : Loc Cert.ConvOutDxRefIdeal.nD Cert.ConvOutDxRefIdeal.τ Cert.ConvOutDxRefIdeal.sig) → Buf (Elt Ideal) ℓ) (g' : Dev Cert.ConvOutDxRefIdeal.nD → PrngReg), Pre_ConvOutDxIdeal m →
    (∀ c : Dev Cert.ConvOutDxIdeal.nD,
      m' ((c.tc : Thread Cert.ConvOutDxRefIdeal.nD Cert.ConvOutDxRefIdeal.τ).loc Cert.ConvOutDxRefIdeal.main_arg0) = m ((c.tc : Thread Cert.ConvOutDxIdeal.nD Cert.ConvOutDxIdeal.τ).loc Cert.ConvOutDxIdeal.main_arg0)
      ∧ m' ((c.tc : Thread Cert.ConvOutDxRefIdeal.nD Cert.ConvOutDxRefIdeal.τ).loc Cert.ConvOutDxRefIdeal.main_arg1) = m ((c.tc : Thread Cert.ConvOutDxIdeal.nD Cert.ConvOutDxIdeal.τ).loc Cert.ConvOutDxIdeal.main_arg1)) →
    ∃ (v0 : (c : Dev Cert.ConvOutDxIdeal.nD) → Buf (Elt Ideal) ((c.tc : Thread Cert.ConvOutDxIdeal.nD Cert.ConvOutDxIdeal.τ).loc Cert.ConvOutDxIdeal.main_v3)),
      θ_run (Cert.ConvOutDxIdeal.defs (F := Ideal)) (onTc (τ := Cert.ConvOutDxIdeal.τ) (Cert.ConvOutDxIdeal.main (F := Ideal))) ⟨m, fun _ => 0, g⟩ (fun r => ∀ c : Dev Cert.ConvOutDxIdeal.nD,
          r.2.mem ((c.tc : Thread Cert.ConvOutDxIdeal.nD Cert.ConvOutDxIdeal.τ).loc Cert.ConvOutDxIdeal.main_v3) = v0 c
          ∧ r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
          ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1))
      ∧ θ_run (Cert.ConvOutDxRefIdeal.defs (F := Ideal)) (onTc (τ := Cert.ConvOutDxRefIdeal.τ) (Cert.ConvOutDxRefIdeal.main (F := Ideal))) ⟨m', fun _ => 0, g'⟩ (fun r => ∀ c : Dev Cert.ConvOutDxRefIdeal.nD,
          r.2.mem ((c.tc : Thread Cert.ConvOutDxRefIdeal.nD Cert.ConvOutDxRefIdeal.τ).loc Cert.ConvOutDxRefIdeal.main_v3) = v0 c
          ∧ r.2.mem ((c.tc : Thread Cert.ConvOutDxRefIdeal.nD Cert.ConvOutDxRefIdeal.τ).loc Cert.ConvOutDxRefIdeal.main_arg0) = m' ((c.tc : Thread Cert.ConvOutDxRefIdeal.nD Cert.ConvOutDxRefIdeal.τ).loc Cert.ConvOutDxRefIdeal.main_arg0)
          ∧ r.2.mem ((c.tc : Thread Cert.ConvOutDxRefIdeal.nD Cert.ConvOutDxRefIdeal.τ).loc Cert.ConvOutDxRefIdeal.main_arg1) = m' ((c.tc : Thread Cert.ConvOutDxRefIdeal.nD Cert.ConvOutDxRefIdeal.τ).loc Cert.ConvOutDxRefIdeal.main_arg1))

def preserves_ConvOutDw_ConvOutDwIdeal : Prop :=
  True

def algebraic_ConvOutDwIdeal_ConvOutDwRefIdeal [hConvOutDwIdeal : Cert.ConvOutDwIdeal.Facts] [hConvOutDwRefIdeal : Cert.ConvOutDwRefIdeal.Facts] : Prop :=
  ∀ (m : (ℓ : Loc Cert.ConvOutDwIdeal.nD Cert.ConvOutDwIdeal.τ Cert.ConvOutDwIdeal.sig) → Buf (Elt Ideal) ℓ) (g : Dev Cert.ConvOutDwIdeal.nD → PrngReg)
    (m' : (ℓ : Loc Cert.ConvOutDwRefIdeal.nD Cert.ConvOutDwRefIdeal.τ Cert.ConvOutDwRefIdeal.sig) → Buf (Elt Ideal) ℓ) (g' : Dev Cert.ConvOutDwRefIdeal.nD → PrngReg), Pre_ConvOutDwIdeal m →
    (∀ c : Dev Cert.ConvOutDwIdeal.nD,
      m' ((c.tc : Thread Cert.ConvOutDwRefIdeal.nD Cert.ConvOutDwRefIdeal.τ).loc Cert.ConvOutDwRefIdeal.main_arg0) = m ((c.tc : Thread Cert.ConvOutDwIdeal.nD Cert.ConvOutDwIdeal.τ).loc Cert.ConvOutDwIdeal.main_arg0)
      ∧ m' ((c.tc : Thread Cert.ConvOutDwRefIdeal.nD Cert.ConvOutDwRefIdeal.τ).loc Cert.ConvOutDwRefIdeal.main_arg1) = m ((c.tc : Thread Cert.ConvOutDwIdeal.nD Cert.ConvOutDwIdeal.τ).loc Cert.ConvOutDwIdeal.main_arg1)) →
    ∃ (v0 : (c : Dev Cert.ConvOutDwIdeal.nD) → Buf (Elt Ideal) ((c.tc : Thread Cert.ConvOutDwIdeal.nD Cert.ConvOutDwIdeal.τ).loc Cert.ConvOutDwIdeal.main_v4)),
      θ_run (Cert.ConvOutDwIdeal.defs (F := Ideal)) (onTc (τ := Cert.ConvOutDwIdeal.τ) (Cert.ConvOutDwIdeal.main (F := Ideal))) ⟨m, fun _ => 0, g⟩ (fun r => ∀ c : Dev Cert.ConvOutDwIdeal.nD,
          r.2.mem ((c.tc : Thread Cert.ConvOutDwIdeal.nD Cert.ConvOutDwIdeal.τ).loc Cert.ConvOutDwIdeal.main_v4) = v0 c
          ∧ r.2.mem ((c.tc : Thread Cert.ConvOutDwIdeal.nD Cert.ConvOutDwIdeal.τ).loc Cert.ConvOutDwIdeal.main_arg0) = m ((c.tc : Thread Cert.ConvOutDwIdeal.nD Cert.ConvOutDwIdeal.τ).loc Cert.ConvOutDwIdeal.main_arg0)
          ∧ r.2.mem ((c.tc : Thread Cert.ConvOutDwIdeal.nD Cert.ConvOutDwIdeal.τ).loc Cert.ConvOutDwIdeal.main_arg1) = m ((c.tc : Thread Cert.ConvOutDwIdeal.nD Cert.ConvOutDwIdeal.τ).loc Cert.ConvOutDwIdeal.main_arg1))
      ∧ θ_run (Cert.ConvOutDwRefIdeal.defs (F := Ideal)) (onTc (τ := Cert.ConvOutDwRefIdeal.τ) (Cert.ConvOutDwRefIdeal.main (F := Ideal))) ⟨m', fun _ => 0, g'⟩ (fun r => ∀ c : Dev Cert.ConvOutDwRefIdeal.nD,
          r.2.mem ((c.tc : Thread Cert.ConvOutDwRefIdeal.nD Cert.ConvOutDwRefIdeal.τ).loc Cert.ConvOutDwRefIdeal.main_v3) = v0 c
          ∧ r.2.mem ((c.tc : Thread Cert.ConvOutDwRefIdeal.nD Cert.ConvOutDwRefIdeal.τ).loc Cert.ConvOutDwRefIdeal.main_arg0) = m' ((c.tc : Thread Cert.ConvOutDwRefIdeal.nD Cert.ConvOutDwRefIdeal.τ).loc Cert.ConvOutDwRefIdeal.main_arg0)
          ∧ r.2.mem ((c.tc : Thread Cert.ConvOutDwRefIdeal.nD Cert.ConvOutDwRefIdeal.τ).loc Cert.ConvOutDwRefIdeal.main_arg1) = m' ((c.tc : Thread Cert.ConvOutDwRefIdeal.nD Cert.ConvOutDwRefIdeal.τ).loc Cert.ConvOutDwRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v3)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v3) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v1) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1))

def preserves_AttnOutDx_AttnOutDxIdeal : Prop :=
  True

def algebraic_AttnOutDxIdeal_AttnOutDxRefIdeal [hAttnOutDxIdeal : Cert.AttnOutDxIdeal.Facts] [hAttnOutDxRefIdeal : Cert.AttnOutDxRefIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxRefIdeal.nD Cert.AttnOutDxRefIdeal.τ Cert.AttnOutDxRefIdeal.sig) → Buf (Elt Ideal) ℓ) (g' : Dev Cert.AttnOutDxRefIdeal.nD → PrngReg), Pre_AttnOutDxIdeal m →
    (∀ c : Dev Cert.AttnOutDxIdeal.nD,
      m' ((c.tc : Thread Cert.AttnOutDxRefIdeal.nD Cert.AttnOutDxRefIdeal.τ).loc Cert.AttnOutDxRefIdeal.main_arg0) = m ((c.tc : Thread Cert.AttnOutDxIdeal.nD Cert.AttnOutDxIdeal.τ).loc Cert.AttnOutDxIdeal.main_arg0)
      ∧ m' ((c.tc : Thread Cert.AttnOutDxRefIdeal.nD Cert.AttnOutDxRefIdeal.τ).loc Cert.AttnOutDxRefIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v4)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v4) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxRefIdeal.defs (F := Ideal)) (onTc (τ := Cert.AttnOutDxRefIdeal.τ) (Cert.AttnOutDxRefIdeal.main (F := Ideal))) ⟨m', fun _ => 0, g'⟩ (fun r => ∀ c : Dev Cert.AttnOutDxRefIdeal.nD,
          r.2.mem ((c.tc : Thread Cert.AttnOutDxRefIdeal.nD Cert.AttnOutDxRefIdeal.τ).loc Cert.AttnOutDxRefIdeal.main_v4) = v0 c
          ∧ r.2.mem ((c.tc : Thread Cert.AttnOutDxRefIdeal.nD Cert.AttnOutDxRefIdeal.τ).loc Cert.AttnOutDxRefIdeal.main_arg0) = m' ((c.tc : Thread Cert.AttnOutDxRefIdeal.nD Cert.AttnOutDxRefIdeal.τ).loc Cert.AttnOutDxRefIdeal.main_arg0)
          ∧ r.2.mem ((c.tc : Thread Cert.AttnOutDxRefIdeal.nD Cert.AttnOutDxRefIdeal.τ).loc Cert.AttnOutDxRefIdeal.main_arg1) = m' ((c.tc : Thread Cert.AttnOutDxRefIdeal.nD Cert.AttnOutDxRefIdeal.τ).loc Cert.AttnOutDxRefIdeal.main_arg1))

def preserves_AttnOutDw_AttnOutDwIdeal : Prop :=
  True

def algebraic_AttnOutDwIdeal_AttnOutDwRefIdeal [hAttnOutDwIdeal : Cert.AttnOutDwIdeal.Facts] [hAttnOutDwRefIdeal : Cert.AttnOutDwRefIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwRefIdeal.nD Cert.AttnOutDwRefIdeal.τ Cert.AttnOutDwRefIdeal.sig) → Buf (Elt Ideal) ℓ) (g' : Dev Cert.AttnOutDwRefIdeal.nD → PrngReg), Pre_AttnOutDwIdeal m →
    (∀ c : Dev Cert.AttnOutDwIdeal.nD,
      m' ((c.tc : Thread Cert.AttnOutDwRefIdeal.nD Cert.AttnOutDwRefIdeal.τ).loc Cert.AttnOutDwRefIdeal.main_arg0) = m ((c.tc : Thread Cert.AttnOutDwIdeal.nD Cert.AttnOutDwIdeal.τ).loc Cert.AttnOutDwIdeal.main_arg0)
      ∧ m' ((c.tc : Thread Cert.AttnOutDwRefIdeal.nD Cert.AttnOutDwRefIdeal.τ).loc Cert.AttnOutDwRefIdeal.main_arg1) = m ((c.tc : Thread Cert.AttnOutDwIdeal.nD Cert.AttnOutDwIdeal.τ).loc Cert.AttnOutDwIdeal.main_arg1)) →
    ∃ (v0 : (c : Dev Cert.AttnOutDwIdeal.nD) → Buf (Elt Ideal) ((c.tc : Thread Cert.AttnOutDwIdeal.nD Cert.AttnOutDwIdeal.τ).loc Cert.AttnOutDwIdeal.main_v4)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v4) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ θ_run (Cert.AttnOutDwRefIdeal.defs (F := Ideal)) (onTc (τ := Cert.AttnOutDwRefIdeal.τ) (Cert.AttnOutDwRefIdeal.main (F := Ideal))) ⟨m', fun _ => 0, g'⟩ (fun r => ∀ c : Dev Cert.AttnOutDwRefIdeal.nD,
          r.2.mem ((c.tc : Thread Cert.AttnOutDwRefIdeal.nD Cert.AttnOutDwRefIdeal.τ).loc Cert.AttnOutDwRefIdeal.main_v3) = v0 c
          ∧ r.2.mem ((c.tc : Thread Cert.AttnOutDwRefIdeal.nD Cert.AttnOutDwRefIdeal.τ).loc Cert.AttnOutDwRefIdeal.main_arg0) = m' ((c.tc : Thread Cert.AttnOutDwRefIdeal.nD Cert.AttnOutDwRefIdeal.τ).loc Cert.AttnOutDwRefIdeal.main_arg0)
          ∧ r.2.mem ((c.tc : Thread Cert.AttnOutDwRefIdeal.nD Cert.AttnOutDwRefIdeal.τ).loc Cert.AttnOutDwRefIdeal.main_arg1) = m' ((c.tc : Thread Cert.AttnOutDwRefIdeal.nD Cert.AttnOutDwRefIdeal.τ).loc Cert.AttnOutDwRefIdeal.main_arg1))

def preserves_SwigluBwd_SwigluBwdIdeal : Prop :=
  True

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v2)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v2) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v9) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)) →
    ∃ (v0 : (c : Dev Cert.GluBwdIdeal.nD) → Buf (Elt Ideal) ((c.tc : Thread Cert.GluBwdIdeal.nD Cert.GluBwdIdeal.τ).loc Cert.GluBwdIdeal.main_v2)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v2) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v18) = v0 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v4_0)) (v1 : (c : Dev Cert.GateBwdIdeal.nD) → Buf (Elt Ideal) ((c.tc : Thread Cert.GateBwdIdeal.nD Cert.GateBwdIdeal.τ).loc Cert.GateBwdIdeal.main_v4_1)) (v2 : (c : Dev Cert.GateBwdIdeal.nD) → Buf (Elt Ideal) ((c.tc : Thread Cert.GateBwdIdeal.nD Cert.GateBwdIdeal.τ).loc Cert.GateBwdIdeal.main_v4_2)) (v3 : (c : Dev Cert.GateBwdIdeal.nD) → Buf (Elt Ideal) ((c.tc : Thread Cert.GateBwdIdeal.nD Cert.GateBwdIdeal.τ).loc Cert.GateBwdIdeal.main_v4_3)) (v4 : (c : Dev Cert.GateBwdIdeal.nD) → Buf (Elt Ideal) ((c.tc : Thread Cert.GateBwdIdeal.nD Cert.GateBwdIdeal.τ).loc Cert.GateBwdIdeal.main_v4_4)) (v5 : (c : Dev Cert.GateBwdIdeal.nD) → Buf (Elt Ideal) ((c.tc : Thread Cert.GateBwdIdeal.nD Cert.GateBwdIdeal.τ).loc Cert.GateBwdIdeal.main_v4_5)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v4_0) = v0 c
          ∧ r.2.mem ((c.tc : Thread Cert.GateBwdIdeal.nD Cert.GateBwdIdeal.τ).loc Cert.GateBwdIdeal.main_v4_1) = v1 c
          ∧ r.2.mem ((c.tc : Thread Cert.GateBwdIdeal.nD Cert.GateBwdIdeal.τ).loc Cert.GateBwdIdeal.main_v4_2) = v2 c
          ∧ r.2.mem ((c.tc : Thread Cert.GateBwdIdeal.nD Cert.GateBwdIdeal.τ).loc Cert.GateBwdIdeal.main_v4_3) = v3 c
          ∧ r.2.mem ((c.tc : Thread Cert.GateBwdIdeal.nD Cert.GateBwdIdeal.τ).loc Cert.GateBwdIdeal.main_v4_4) = v4 c
          ∧ r.2.mem ((c.tc : Thread Cert.GateBwdIdeal.nD Cert.GateBwdIdeal.τ).loc Cert.GateBwdIdeal.main_v4_5) = v5 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v34) = v0 c
          ∧ r.2.mem ((c.tc : Thread Cert.GateBwdRefIdeal.nD Cert.GateBwdRefIdeal.τ).loc Cert.GateBwdRefIdeal.main_v36) = v1 c
          ∧ r.2.mem ((c.tc : Thread Cert.GateBwdRefIdeal.nD Cert.GateBwdRefIdeal.τ).loc Cert.GateBwdRefIdeal.main_v38) = v2 c
          ∧ r.2.mem ((c.tc : Thread Cert.GateBwdRefIdeal.nD Cert.GateBwdRefIdeal.τ).loc Cert.GateBwdRefIdeal.main_v40) = v3 c
          ∧ r.2.mem ((c.tc : Thread Cert.GateBwdRefIdeal.nD Cert.GateBwdRefIdeal.τ).loc Cert.GateBwdRefIdeal.main_v41) = v4 c
          ∧ r.2.mem ((c.tc : Thread Cert.GateBwdRefIdeal.nD Cert.GateBwdRefIdeal.τ).loc Cert.GateBwdRefIdeal.main_v42) = v5 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v3_0)) (v1 : (c : Dev Cert.RmsBwdIdeal.nD) → Buf (Elt Ideal) ((c.tc : Thread Cert.RmsBwdIdeal.nD Cert.RmsBwdIdeal.τ).loc Cert.RmsBwdIdeal.main_v3_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v3_0) = v0 c
          ∧ r.2.mem ((c.tc : Thread Cert.RmsBwdIdeal.nD Cert.RmsBwdIdeal.τ).loc Cert.RmsBwdIdeal.main_v3_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v39) = v0 c
          ∧ r.2.mem ((c.tc : Thread Cert.RmsBwdRefIdeal.nD Cert.RmsBwdRefIdeal.τ).loc Cert.RmsBwdRefIdeal.main_v38) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_ResBwd_ResBwdIdeal : Prop :=
  True

def algebraic_ResBwdIdeal_ResBwdRefIdeal [hResBwdIdeal : Cert.ResBwdIdeal.Facts] [hResBwdRefIdeal : Cert.ResBwdRefIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg)
    (m' : (ℓ : Loc Cert.ResBwdRefIdeal.nD Cert.ResBwdRefIdeal.τ Cert.ResBwdRefIdeal.sig) → Buf (Elt Ideal) ℓ) (g' : Dev Cert.ResBwdRefIdeal.nD → PrngReg), Pre_ResBwdIdeal m →
    (∀ c : Dev Cert.ResBwdIdeal.nD,
      m' ((c.tc : Thread Cert.ResBwdRefIdeal.nD Cert.ResBwdRefIdeal.τ).loc Cert.ResBwdRefIdeal.main_arg0) = m ((c.tc : Thread Cert.ResBwdIdeal.nD Cert.ResBwdIdeal.τ).loc Cert.ResBwdIdeal.main_arg0)
      ∧ m' ((c.tc : Thread Cert.ResBwdRefIdeal.nD Cert.ResBwdRefIdeal.τ).loc Cert.ResBwdRefIdeal.main_arg1) = m ((c.tc : Thread Cert.ResBwdIdeal.nD Cert.ResBwdIdeal.τ).loc Cert.ResBwdIdeal.main_arg1)
      ∧ m' ((c.tc : Thread Cert.ResBwdRefIdeal.nD Cert.ResBwdRefIdeal.τ).loc Cert.ResBwdRefIdeal.main_arg2) = m ((c.tc : Thread Cert.ResBwdIdeal.nD Cert.ResBwdIdeal.τ).loc Cert.ResBwdIdeal.main_arg2)
      ∧ m' ((c.tc : Thread Cert.ResBwdRefIdeal.nD Cert.ResBwdRefIdeal.τ).loc Cert.ResBwdRefIdeal.main_arg3) = m ((c.tc : Thread Cert.ResBwdIdeal.nD Cert.ResBwdIdeal.τ).loc Cert.ResBwdIdeal.main_arg3)) →
    ∃ (v0 : (c : Dev Cert.ResBwdIdeal.nD) → Buf (Elt Ideal) ((c.tc : Thread Cert.ResBwdIdeal.nD Cert.ResBwdIdeal.τ).loc Cert.ResBwdIdeal.main_v3_0)) (v1 : (c : Dev Cert.ResBwdIdeal.nD) → Buf (Elt Ideal) ((c.tc : Thread Cert.ResBwdIdeal.nD Cert.ResBwdIdeal.τ).loc Cert.ResBwdIdeal.main_v3_1)),
      θ_run (Cert.ResBwdIdeal.defs (F := Ideal)) (onTc (τ := Cert.ResBwdIdeal.τ) (Cert.ResBwdIdeal.main (F := Ideal))) ⟨m, fun _ => 0, g⟩ (fun r => ∀ c : Dev Cert.ResBwdIdeal.nD,
          r.2.mem ((c.tc : Thread Cert.ResBwdIdeal.nD Cert.ResBwdIdeal.τ).loc Cert.ResBwdIdeal.main_v3_0) = v0 c
          ∧ r.2.mem ((c.tc : Thread Cert.ResBwdIdeal.nD Cert.ResBwdIdeal.τ).loc Cert.ResBwdIdeal.main_v3_1) = v1 c
          ∧ r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
          ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
          ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2)
          ∧ r.2.mem ((c.tc : Thread Cert.ResBwdIdeal.nD Cert.ResBwdIdeal.τ).loc Cert.ResBwdIdeal.main_arg3) = m ((c.tc : Thread Cert.ResBwdIdeal.nD Cert.ResBwdIdeal.τ).loc Cert.ResBwdIdeal.main_arg3))
      ∧ θ_run (Cert.ResBwdRefIdeal.defs (F := Ideal)) (onTc (τ := Cert.ResBwdRefIdeal.τ) (Cert.ResBwdRefIdeal.main (F := Ideal))) ⟨m', fun _ => 0, g'⟩ (fun r => ∀ c : Dev Cert.ResBwdRefIdeal.nD,
          r.2.mem ((c.tc : Thread Cert.ResBwdRefIdeal.nD Cert.ResBwdRefIdeal.τ).loc Cert.ResBwdRefIdeal.main_v40) = v0 c
          ∧ r.2.mem ((c.tc : Thread Cert.ResBwdRefIdeal.nD Cert.ResBwdRefIdeal.τ).loc Cert.ResBwdRefIdeal.main_v38) = v1 c
          ∧ r.2.mem ((c.tc : Thread Cert.ResBwdRefIdeal.nD Cert.ResBwdRefIdeal.τ).loc Cert.ResBwdRefIdeal.main_arg0) = m' ((c.tc : Thread Cert.ResBwdRefIdeal.nD Cert.ResBwdRefIdeal.τ).loc Cert.ResBwdRefIdeal.main_arg0)
          ∧ r.2.mem ((c.tc : Thread Cert.ResBwdRefIdeal.nD Cert.ResBwdRefIdeal.τ).loc Cert.ResBwdRefIdeal.main_arg1) = m' ((c.tc : Thread Cert.ResBwdRefIdeal.nD Cert.ResBwdRefIdeal.τ).loc Cert.ResBwdRefIdeal.main_arg1)
          ∧ r.2.mem ((c.tc : Thread Cert.ResBwdRefIdeal.nD Cert.ResBwdRefIdeal.τ).loc Cert.ResBwdRefIdeal.main_arg2) = m' ((c.tc : Thread Cert.ResBwdRefIdeal.nD Cert.ResBwdRefIdeal.τ).loc Cert.ResBwdRefIdeal.main_arg2)
          ∧ r.2.mem ((c.tc : Thread Cert.ResBwdRefIdeal.nD Cert.ResBwdRefIdeal.τ).loc Cert.ResBwdRefIdeal.main_arg3) = m' ((c.tc : Thread Cert.ResBwdRefIdeal.nD Cert.ResBwdRefIdeal.τ).loc Cert.ResBwdRefIdeal.main_arg3))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)
      ∧ m' ((c.tc : Thread Cert.PostBwdRefIdeal.nD Cert.PostBwdRefIdeal.τ).loc Cert.PostBwdRefIdeal.main_arg3) = m ((c.tc : Thread Cert.PostBwdIdeal.nD Cert.PostBwdIdeal.τ).loc Cert.PostBwdIdeal.main_arg3)
      ∧ m' ((c.tc : Thread Cert.PostBwdRefIdeal.nD Cert.PostBwdRefIdeal.τ).loc Cert.PostBwdRefIdeal.main_arg4) = m ((c.tc : Thread Cert.PostBwdIdeal.nD Cert.PostBwdIdeal.τ).loc Cert.PostBwdIdeal.main_arg4)) →
    ∃ (v0 : (c : Dev Cert.PostBwdIdeal.nD) → Buf (Elt Ideal) ((c.tc : Thread Cert.PostBwdIdeal.nD Cert.PostBwdIdeal.τ).loc Cert.PostBwdIdeal.main_v2_0)) (v1 : (c : Dev Cert.PostBwdIdeal.nD) → Buf (Elt Ideal) ((c.tc : Thread Cert.PostBwdIdeal.nD Cert.PostBwdIdeal.τ).loc Cert.PostBwdIdeal.main_v2_1)) (v2 : (c : Dev Cert.PostBwdIdeal.nD) → Buf (Elt Ideal) ((c.tc : Thread Cert.PostBwdIdeal.nD Cert.PostBwdIdeal.τ).loc Cert.PostBwdIdeal.main_v2_2)) (v3 : (c : Dev Cert.PostBwdIdeal.nD) → Buf (Elt Ideal) ((c.tc : Thread Cert.PostBwdIdeal.nD Cert.PostBwdIdeal.τ).loc Cert.PostBwdIdeal.main_v2_3)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v2_0) = v0 c
          ∧ r.2.mem ((c.tc : Thread Cert.PostBwdIdeal.nD Cert.PostBwdIdeal.τ).loc Cert.PostBwdIdeal.main_v2_1) = v1 c
          ∧ r.2.mem ((c.tc : Thread Cert.PostBwdIdeal.nD Cert.PostBwdIdeal.τ).loc Cert.PostBwdIdeal.main_v2_2) = v2 c
          ∧ r.2.mem ((c.tc : Thread Cert.PostBwdIdeal.nD Cert.PostBwdIdeal.τ).loc Cert.PostBwdIdeal.main_v2_3) = v3 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v70) = v0 c
          ∧ r.2.mem ((c.tc : Thread Cert.PostBwdRefIdeal.nD Cert.PostBwdRefIdeal.τ).loc Cert.PostBwdRefIdeal.main_v69) = v1 c
          ∧ r.2.mem ((c.tc : Thread Cert.PostBwdRefIdeal.nD Cert.PostBwdRefIdeal.τ).loc Cert.PostBwdRefIdeal.main_v65) = v2 c
          ∧ r.2.mem ((c.tc : Thread Cert.PostBwdRefIdeal.nD Cert.PostBwdRefIdeal.τ).loc Cert.PostBwdRefIdeal.main_v64) = v3 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2)
          ∧ r.2.mem ((c.tc : Thread Cert.PostBwdRefIdeal.nD Cert.PostBwdRefIdeal.τ).loc Cert.PostBwdRefIdeal.main_arg3) = m' ((c.tc : Thread Cert.PostBwdRefIdeal.nD Cert.PostBwdRefIdeal.τ).loc Cert.PostBwdRefIdeal.main_arg3)
          ∧ r.2.mem ((c.tc : Thread Cert.PostBwdRefIdeal.nD Cert.PostBwdRefIdeal.τ).loc Cert.PostBwdRefIdeal.main_arg4) = m' ((c.tc : Thread Cert.PostBwdRefIdeal.nD Cert.PostBwdRefIdeal.τ).loc Cert.PostBwdRefIdeal.main_arg4))

def preserves_ConvDx_ConvDxIdeal : Prop :=
  True

def algebraic_ConvDxIdeal_ConvDxRefIdeal [hConvDxIdeal : Cert.ConvDxIdeal.Facts] [hConvDxRefIdeal : Cert.ConvDxRefIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg)
    (m' : (ℓ : Loc Cert.ConvDxRefIdeal.nD Cert.ConvDxRefIdeal.τ Cert.ConvDxRefIdeal.sig) → Buf (Elt Ideal) ℓ) (g' : Dev Cert.ConvDxRefIdeal.nD → PrngReg), Pre_ConvDxIdeal m →
    (∀ c : Dev Cert.ConvDxIdeal.nD,
      m' ((c.tc : Thread Cert.ConvDxRefIdeal.nD Cert.ConvDxRefIdeal.τ).loc Cert.ConvDxRefIdeal.main_arg0) = m ((c.tc : Thread Cert.ConvDxIdeal.nD Cert.ConvDxIdeal.τ).loc Cert.ConvDxIdeal.main_arg0)
      ∧ m' ((c.tc : Thread Cert.ConvDxRefIdeal.nD Cert.ConvDxRefIdeal.τ).loc Cert.ConvDxRefIdeal.main_arg1) = m ((c.tc : Thread Cert.ConvDxIdeal.nD Cert.ConvDxIdeal.τ).loc Cert.ConvDxIdeal.main_arg1)) →
    ∃ (v0 : (c : Dev Cert.ConvDxIdeal.nD) → Buf (Elt Ideal) ((c.tc : Thread Cert.ConvDxIdeal.nD Cert.ConvDxIdeal.τ).loc Cert.ConvDxIdeal.main_v2)),
      θ_run (Cert.ConvDxIdeal.defs (F := Ideal)) (onTc (τ := Cert.ConvDxIdeal.τ) (Cert.ConvDxIdeal.main (F := Ideal))) ⟨m, fun _ => 0, g⟩ (fun r => ∀ c : Dev Cert.ConvDxIdeal.nD,
          r.2.mem ((c.tc : Thread Cert.ConvDxIdeal.nD Cert.ConvDxIdeal.τ).loc Cert.ConvDxIdeal.main_v2) = v0 c
          ∧ r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
          ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1))
      ∧ θ_run (Cert.ConvDxRefIdeal.defs (F := Ideal)) (onTc (τ := Cert.ConvDxRefIdeal.τ) (Cert.ConvDxRefIdeal.main (F := Ideal))) ⟨m', fun _ => 0, g'⟩ (fun r => ∀ c : Dev Cert.ConvDxRefIdeal.nD,
          r.2.mem ((c.tc : Thread Cert.ConvDxRefIdeal.nD Cert.ConvDxRefIdeal.τ).loc Cert.ConvDxRefIdeal.main_v349) = v0 c
          ∧ r.2.mem ((c.tc : Thread Cert.ConvDxRefIdeal.nD Cert.ConvDxRefIdeal.τ).loc Cert.ConvDxRefIdeal.main_arg0) = m' ((c.tc : Thread Cert.ConvDxRefIdeal.nD Cert.ConvDxRefIdeal.τ).loc Cert.ConvDxRefIdeal.main_arg0)
          ∧ r.2.mem ((c.tc : Thread Cert.ConvDxRefIdeal.nD Cert.ConvDxRefIdeal.τ).loc Cert.ConvDxRefIdeal.main_arg1) = m' ((c.tc : Thread Cert.ConvDxRefIdeal.nD Cert.ConvDxRefIdeal.τ).loc Cert.ConvDxRefIdeal.main_arg1))

def preserves_ConvDw_ConvDwIdeal : Prop :=
  True

def algebraic_ConvDwIdeal_ConvDwRefIdeal [hConvDwIdeal : Cert.ConvDwIdeal.Facts] [hConvDwRefIdeal : Cert.ConvDwRefIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg)
    (m' : (ℓ : Loc Cert.ConvDwRefIdeal.nD Cert.ConvDwRefIdeal.τ Cert.ConvDwRefIdeal.sig) → Buf (Elt Ideal) ℓ) (g' : Dev Cert.ConvDwRefIdeal.nD → PrngReg), Pre_ConvDwIdeal m →
    (∀ c : Dev Cert.ConvDwIdeal.nD,
      m' ((c.tc : Thread Cert.ConvDwRefIdeal.nD Cert.ConvDwRefIdeal.τ).loc Cert.ConvDwRefIdeal.main_arg0) = m ((c.tc : Thread Cert.ConvDwIdeal.nD Cert.ConvDwIdeal.τ).loc Cert.ConvDwIdeal.main_arg0)
      ∧ m' ((c.tc : Thread Cert.ConvDwRefIdeal.nD Cert.ConvDwRefIdeal.τ).loc Cert.ConvDwRefIdeal.main_arg1) = m ((c.tc : Thread Cert.ConvDwIdeal.nD Cert.ConvDwIdeal.τ).loc Cert.ConvDwIdeal.main_arg1)) →
    ∃ (v0 : (c : Dev Cert.ConvDwIdeal.nD) → Buf (Elt Ideal) ((c.tc : Thread Cert.ConvDwIdeal.nD Cert.ConvDwIdeal.τ).loc Cert.ConvDwIdeal.main_v2)),
      θ_run (Cert.ConvDwIdeal.defs (F := Ideal)) (onTc (τ := Cert.ConvDwIdeal.τ) (Cert.ConvDwIdeal.main (F := Ideal))) ⟨m, fun _ => 0, g⟩ (fun r => ∀ c : Dev Cert.ConvDwIdeal.nD,
          r.2.mem ((c.tc : Thread Cert.ConvDwIdeal.nD Cert.ConvDwIdeal.τ).loc Cert.ConvDwIdeal.main_v2) = v0 c
          ∧ r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
          ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1))
      ∧ θ_run (Cert.ConvDwRefIdeal.defs (F := Ideal)) (onTc (τ := Cert.ConvDwRefIdeal.τ) (Cert.ConvDwRefIdeal.main (F := Ideal))) ⟨m', fun _ => 0, g'⟩ (fun r => ∀ c : Dev Cert.ConvDwRefIdeal.nD,
          r.2.mem ((c.tc : Thread Cert.ConvDwRefIdeal.nD Cert.ConvDwRefIdeal.τ).loc Cert.ConvDwRefIdeal.main_v438) = v0 c
          ∧ r.2.mem ((c.tc : Thread Cert.ConvDwRefIdeal.nD Cert.ConvDwRefIdeal.τ).loc Cert.ConvDwRefIdeal.main_arg0) = m' ((c.tc : Thread Cert.ConvDwRefIdeal.nD Cert.ConvDwRefIdeal.τ).loc Cert.ConvDwRefIdeal.main_arg0)
          ∧ r.2.mem ((c.tc : Thread Cert.ConvDwRefIdeal.nD Cert.ConvDwRefIdeal.τ).loc Cert.ConvDwRefIdeal.main_arg1) = m' ((c.tc : Thread Cert.ConvDwRefIdeal.nD Cert.ConvDwRefIdeal.τ).loc Cert.ConvDwRefIdeal.main_arg1))

def preserves_ConvFw_ConvFwIdeal : Prop :=
  True

def algebraic_ConvFwIdeal_ConvFwRefIdeal [hConvFwIdeal : Cert.ConvFwIdeal.Facts] [hConvFwRefIdeal : Cert.ConvFwRefIdeal.Facts] : Prop :=
  ∀ (m : (ℓ : Loc Cert.ConvFwIdeal.nD Cert.ConvFwIdeal.τ Cert.ConvFwIdeal.sig) → Buf (Elt Ideal) ℓ) (g : Dev Cert.ConvFwIdeal.nD → PrngReg)
    (m' : (ℓ : Loc Cert.ConvFwRefIdeal.nD Cert.ConvFwRefIdeal.τ Cert.ConvFwRefIdeal.sig) → Buf (Elt Ideal) ℓ) (g' : Dev Cert.ConvFwRefIdeal.nD → PrngReg), Pre_ConvFwIdeal m →
    (∀ c : Dev Cert.ConvFwIdeal.nD,
      m' ((c.tc : Thread Cert.ConvFwRefIdeal.nD Cert.ConvFwRefIdeal.τ).loc Cert.ConvFwRefIdeal.main_arg0) = m ((c.tc : Thread Cert.ConvFwIdeal.nD Cert.ConvFwIdeal.τ).loc Cert.ConvFwIdeal.main_arg0)
      ∧ m' ((c.tc : Thread Cert.ConvFwRefIdeal.nD Cert.ConvFwRefIdeal.τ).loc Cert.ConvFwRefIdeal.main_arg1) = m ((c.tc : Thread Cert.ConvFwIdeal.nD Cert.ConvFwIdeal.τ).loc Cert.ConvFwIdeal.main_arg1)) →
    ∃ (v0 : (c : Dev Cert.ConvFwIdeal.nD) → Buf (Elt Ideal) ((c.tc : Thread Cert.ConvFwIdeal.nD Cert.ConvFwIdeal.τ).loc Cert.ConvFwIdeal.main_v1)),
      θ_run (Cert.ConvFwIdeal.defs (F := Ideal)) (onTc (τ := Cert.ConvFwIdeal.τ) (Cert.ConvFwIdeal.main (F := Ideal))) ⟨m, fun _ => 0, g⟩ (fun r => ∀ c : Dev Cert.ConvFwIdeal.nD,
          r.2.mem ((c.tc : Thread Cert.ConvFwIdeal.nD Cert.ConvFwIdeal.τ).loc Cert.ConvFwIdeal.main_v1) = v0 c
          ∧ r.2.mem ((c.tc : Thread Cert.ConvFwIdeal.nD Cert.ConvFwIdeal.τ).loc Cert.ConvFwIdeal.main_arg0) = m ((c.tc : Thread Cert.ConvFwIdeal.nD Cert.ConvFwIdeal.τ).loc Cert.ConvFwIdeal.main_arg0)
          ∧ r.2.mem ((c.tc : Thread Cert.ConvFwIdeal.nD Cert.ConvFwIdeal.τ).loc Cert.ConvFwIdeal.main_arg1) = m ((c.tc : Thread Cert.ConvFwIdeal.nD Cert.ConvFwIdeal.τ).loc Cert.ConvFwIdeal.main_arg1))
      ∧ θ_run (Cert.ConvFwRefIdeal.defs (F := Ideal)) (onTc (τ := Cert.ConvFwRefIdeal.τ) (Cert.ConvFwRefIdeal.main (F := Ideal))) ⟨m', fun _ => 0, g'⟩ (fun r => ∀ c : Dev Cert.ConvFwRefIdeal.nD,
          r.2.mem ((c.tc : Thread Cert.ConvFwRefIdeal.nD Cert.ConvFwRefIdeal.τ).loc Cert.ConvFwRefIdeal.main_v220) = v0 c
          ∧ r.2.mem ((c.tc : Thread Cert.ConvFwRefIdeal.nD Cert.ConvFwRefIdeal.τ).loc Cert.ConvFwRefIdeal.main_arg0) = m' ((c.tc : Thread Cert.ConvFwRefIdeal.nD Cert.ConvFwRefIdeal.τ).loc Cert.ConvFwRefIdeal.main_arg0)
          ∧ r.2.mem ((c.tc : Thread Cert.ConvFwRefIdeal.nD Cert.ConvFwRefIdeal.τ).loc Cert.ConvFwRefIdeal.main_arg1) = m' ((c.tc : Thread Cert.ConvFwRefIdeal.nD Cert.ConvFwRefIdeal.τ).loc Cert.ConvFwRefIdeal.main_arg1))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInRefIdeal : Cert.InRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hFfnIn : Cert.FfnIn.Facts) (hFfnInIdeal : Cert.FfnInIdeal.Facts) (hFfnInRefIdeal : Cert.FfnInRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hFfnOut : Cert.FfnOut.Facts) (hFfnOutIdeal : Cert.FfnOutIdeal.Facts) (hFfnOutRefIdeal : Cert.FfnOutRefIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hMix : Cert.Mix.Facts) (hMixIdeal : Cert.MixIdeal.Facts) (hMixRefIdeal : Cert.MixRefIdeal.Facts) (hMixDx : Cert.MixDx.Facts) (hMixDxIdeal : Cert.MixDxIdeal.Facts) (hMixDxRefIdeal : Cert.MixDxRefIdeal.Facts) (hMixDw : Cert.MixDw.Facts) (hMixDwIdeal : Cert.MixDwIdeal.Facts) (hMixDwRefIdeal : Cert.MixDwRefIdeal.Facts) (hConvOut : Cert.ConvOut.Facts) (hConvOutIdeal : Cert.ConvOutIdeal.Facts) (hConvOutRefIdeal : Cert.ConvOutRefIdeal.Facts) (hConvOutDx : Cert.ConvOutDx.Facts) (hConvOutDxIdeal : Cert.ConvOutDxIdeal.Facts) (hConvOutDxRefIdeal : Cert.ConvOutDxRefIdeal.Facts) (hConvOutDw : Cert.ConvOutDw.Facts) (hConvOutDwIdeal : Cert.ConvOutDwIdeal.Facts) (hConvOutDwRefIdeal : Cert.ConvOutDwRefIdeal.Facts) (hAttnOut : Cert.AttnOut.Facts) (hAttnOutIdeal : Cert.AttnOutIdeal.Facts) (hAttnOutRefIdeal : Cert.AttnOutRefIdeal.Facts) (hAttnOutDx : Cert.AttnOutDx.Facts) (hAttnOutDxIdeal : Cert.AttnOutDxIdeal.Facts) (hAttnOutDxRefIdeal : Cert.AttnOutDxRefIdeal.Facts) (hAttnOutDw : Cert.AttnOutDw.Facts) (hAttnOutDwIdeal : Cert.AttnOutDwIdeal.Facts) (hAttnOutDwRefIdeal : Cert.AttnOutDwRefIdeal.Facts) (hSwigluBwd : Cert.SwigluBwd.Facts) (hSwigluBwdIdeal : Cert.SwigluBwdIdeal.Facts) (hSwigluBwdRefIdeal : Cert.SwigluBwdRefIdeal.Facts) (hGluBwd : Cert.GluBwd.Facts) (hGluBwdIdeal : Cert.GluBwdIdeal.Facts) (hGluBwdRefIdeal : Cert.GluBwdRefIdeal.Facts) (hGateBwd : Cert.GateBwd.Facts) (hGateBwdIdeal : Cert.GateBwdIdeal.Facts) (hGateBwdRefIdeal : Cert.GateBwdRefIdeal.Facts) (hRmsBwd : Cert.RmsBwd.Facts) (hRmsBwdIdeal : Cert.RmsBwdIdeal.Facts) (hRmsBwdRefIdeal : Cert.RmsBwdRefIdeal.Facts) (hResBwd : Cert.ResBwd.Facts) (hResBwdIdeal : Cert.ResBwdIdeal.Facts) (hResBwdRefIdeal : Cert.ResBwdRefIdeal.Facts) (hPostBwd : Cert.PostBwd.Facts) (hPostBwdIdeal : Cert.PostBwdIdeal.Facts) (hPostBwdRefIdeal : Cert.PostBwdRefIdeal.Facts) (hConvDx : Cert.ConvDx.Facts) (hConvDxIdeal : Cert.ConvDxIdeal.Facts) (hConvDxRefIdeal : Cert.ConvDxRefIdeal.Facts) (hConvDw : Cert.ConvDw.Facts) (hConvDwIdeal : Cert.ConvDwIdeal.Facts) (hConvDwRefIdeal : Cert.ConvDwRefIdeal.Facts) (hConvFw : Cert.ConvFw.Facts) (hConvFwIdeal : Cert.ConvFwIdeal.Facts) (hConvFwRefIdeal : Cert.ConvFwRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_In (hIn := hIn)
    ∧ quiescent_InIdeal (hInIdeal := hInIdeal)
    ∧ quiescent_InRefIdeal (hInRefIdeal := hInRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_Mix (hMix := hMix)
    ∧ quiescent_MixIdeal (hMixIdeal := hMixIdeal)
    ∧ quiescent_MixRefIdeal (hMixRefIdeal := hMixRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_ConvOutDx (hConvOutDx := hConvOutDx)
    ∧ quiescent_ConvOutDxIdeal (hConvOutDxIdeal := hConvOutDxIdeal)
    ∧ quiescent_ConvOutDxRefIdeal (hConvOutDxRefIdeal := hConvOutDxRefIdeal)
    ∧ quiescent_ConvOutDw (hConvOutDw := hConvOutDw)
    ∧ quiescent_ConvOutDwIdeal (hConvOutDwIdeal := hConvOutDwIdeal)
    ∧ quiescent_ConvOutDwRefIdeal (hConvOutDwRefIdeal := hConvOutDwRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_AttnOutDx (hAttnOutDx := hAttnOutDx)
    ∧ quiescent_AttnOutDxIdeal (hAttnOutDxIdeal := hAttnOutDxIdeal)
    ∧ quiescent_AttnOutDxRefIdeal (hAttnOutDxRefIdeal := hAttnOutDxRefIdeal)
    ∧ quiescent_AttnOutDw (hAttnOutDw := hAttnOutDw)
    ∧ quiescent_AttnOutDwIdeal (hAttnOutDwIdeal := hAttnOutDwIdeal)
    ∧ quiescent_AttnOutDwRefIdeal (hAttnOutDwRefIdeal := hAttnOutDwRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_ResBwd (hResBwd := hResBwd)
    ∧ quiescent_ResBwdIdeal (hResBwdIdeal := hResBwdIdeal)
    ∧ quiescent_ResBwdRefIdeal (hResBwdRefIdeal := hResBwdRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ quiescent_ConvDx (hConvDx := hConvDx)
    ∧ quiescent_ConvDxIdeal (hConvDxIdeal := hConvDxIdeal)
    ∧ quiescent_ConvDxRefIdeal (hConvDxRefIdeal := hConvDxRefIdeal)
    ∧ quiescent_ConvDw (hConvDw := hConvDw)
    ∧ quiescent_ConvDwIdeal (hConvDwIdeal := hConvDwIdeal)
    ∧ quiescent_ConvDwRefIdeal (hConvDwRefIdeal := hConvDwRefIdeal)
    ∧ quiescent_ConvFw (hConvFw := hConvFw)
    ∧ quiescent_ConvFwIdeal (hConvFwIdeal := hConvFwIdeal)
    ∧ quiescent_ConvFwRefIdeal (hConvFwRefIdeal := hConvFwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_In_InIdeal
    ∧ algebraic_InIdeal_InRefIdeal (hInIdeal := hInIdeal) (hInRefIdeal := hInRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_FfnIn_FfnInIdeal
    ∧ algebraic_FfnInIdeal_FfnInRefIdeal (hFfnInIdeal := hFfnInIdeal) (hFfnInRefIdeal := hFfnInRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_Mix_MixIdeal
    ∧ algebraic_MixIdeal_MixRefIdeal (hMixIdeal := hMixIdeal) (hMixRefIdeal := hMixRefIdeal)
    ∧ preserves_MixDx_MixDxIdeal
    ∧ algebraic_MixDxIdeal_MixDxRefIdeal (hMixDxIdeal := hMixDxIdeal) (hMixDxRefIdeal := hMixDxRefIdeal)
    ∧ preserves_MixDw_MixDwIdeal
    ∧ algebraic_MixDwIdeal_MixDwRefIdeal (hMixDwIdeal := hMixDwIdeal) (hMixDwRefIdeal := hMixDwRefIdeal)
    ∧ preserves_ConvOut_ConvOutIdeal
    ∧ algebraic_ConvOutIdeal_ConvOutRefIdeal (hConvOutIdeal := hConvOutIdeal) (hConvOutRefIdeal := hConvOutRefIdeal)
    ∧ preserves_ConvOutDx_ConvOutDxIdeal
    ∧ algebraic_ConvOutDxIdeal_ConvOutDxRefIdeal (hConvOutDxIdeal := hConvOutDxIdeal) (hConvOutDxRefIdeal := hConvOutDxRefIdeal)
    ∧ preserves_ConvOutDw_ConvOutDwIdeal
    ∧ algebraic_ConvOutDwIdeal_ConvOutDwRefIdeal (hConvOutDwIdeal := hConvOutDwIdeal) (hConvOutDwRefIdeal := hConvOutDwRefIdeal)
    ∧ preserves_AttnOut_AttnOutIdeal
    ∧ algebraic_AttnOutIdeal_AttnOutRefIdeal (hAttnOutIdeal := hAttnOutIdeal) (hAttnOutRefIdeal := hAttnOutRefIdeal)
    ∧ preserves_AttnOutDx_AttnOutDxIdeal
    ∧ algebraic_AttnOutDxIdeal_AttnOutDxRefIdeal (hAttnOutDxIdeal := hAttnOutDxIdeal) (hAttnOutDxRefIdeal := hAttnOutDxRefIdeal)
    ∧ preserves_AttnOutDw_AttnOutDwIdeal
    ∧ algebraic_AttnOutDwIdeal_AttnOutDwRefIdeal (hAttnOutDwIdeal := hAttnOutDwIdeal) (hAttnOutDwRefIdeal := hAttnOutDwRefIdeal)
    ∧ preserves_SwigluBwd_SwigluBwdIdeal
    ∧ algebraic_SwigluBwdIdeal_SwigluBwdRefIdeal (hSwigluBwdIdeal := hSwigluBwdIdeal) (hSwigluBwdRefIdeal := hSwigluBwdRefIdeal)
    ∧ preserves_GluBwd_GluBwdIdeal
    ∧ algebraic_GluBwdIdeal_GluBwdRefIdeal (hGluBwdIdeal := hGluBwdIdeal) (hGluBwdRefIdeal := hGluBwdRefIdeal)
    ∧ preserves_GateBwd_GateBwdIdeal
    ∧ algebraic_GateBwdIdeal_GateBwdRefIdeal (hGateBwdIdeal := hGateBwdIdeal) (hGateBwdRefIdeal := hGateBwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_ResBwd_ResBwdIdeal
    ∧ algebraic_ResBwdIdeal_ResBwdRefIdeal (hResBwdIdeal := hResBwdIdeal) (hResBwdRefIdeal := hResBwdRefIdeal)
    ∧ preserves_PostBwd_PostBwdIdeal
    ∧ algebraic_PostBwdIdeal_PostBwdRefIdeal (hPostBwdIdeal := hPostBwdIdeal) (hPostBwdRefIdeal := hPostBwdRefIdeal)
    ∧ preserves_ConvDx_ConvDxIdeal
    ∧ algebraic_ConvDxIdeal_ConvDxRefIdeal (hConvDxIdeal := hConvDxIdeal) (hConvDxRefIdeal := hConvDxRefIdeal)
    ∧ preserves_ConvDw_ConvDwIdeal
    ∧ algebraic_ConvDwIdeal_ConvDwRefIdeal (hConvDwIdeal := hConvDwIdeal) (hConvDwRefIdeal := hConvDwRefIdeal)
    ∧ preserves_ConvFw_ConvFwIdeal
    ∧ algebraic_ConvFwIdeal_ConvFwRefIdeal (hConvFwIdeal := hConvFwIdeal) (hConvFwRefIdeal := hConvFwRefIdeal)
-- ==== Pre_finite.lean ====
abbrev S2064x1024 : Shape := ⟨2, ![2064, 1024]⟩
abbrev S_ : Shape := ⟨0, ![]⟩

class Facts : Prop where
  bcast_S_S2064x1024 : S_.BroadcastsInDim S2064x1024 (![] : Fin 0 → Fin S2064x1024.rank)

variable [Facts]

def fn {F : FTy → Type} [FloatOps F] (main_arg0 : FVec F S2064x1024 .f32) (main_arg1 : FVec F S2064x1024 .f32) (main_arg2 : FVec F S2064x1024 .f32) (main_arg3 : FVec F S2064x1024 .f32) : IVec S2064x1024 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_v3 : FVec F S2064x1024 .f32 := Host.absf main_arg1
  let main_cst_0 : FVec F S_ .f32 := constant S_ .f32 0x7F800000#32
  let main_v4 : FVec F S2064x1024 .f32 := broadcastInDim S2064x1024 ![] bcast_S_S2064x1024 main_cst_0
  let main_v5 : IVec S2064x1024 1 := cmpf .olt main_v3 main_v4
  let main_v6 : FVec F S2064x1024 .f32 := Host.absf main_arg2
  let main_cst_1 : FVec F S_ .f32 := constant S_ .f32 0x7F800000#32
  let main_v7 : FVec F S2064x1024 .f32 := broadcastInDim S2064x1024 ![] bcast_S_S2064x1024 main_cst_1
  let main_v8 : IVec S2064x1024 1 := cmpf .olt main_v6 main_v7
  let main_v9 : FVec F S2064x1024 .f32 := Host.absf main_arg3
  let main_cst_2 : FVec F S_ .f32 := constant S_ .f32 0x7F800000#32
  let main_v10 : FVec F S2064x1024 .f32 := broadcastInDim S2064x1024 ![] bcast_S_S2064x1024 main_cst_2
  let main_v11 : IVec S2064x1024 1 := cmpf .olt main_v9 main_v10
  let main_v12 : IVec S2064x1024 1 := andi main_v2 main_v5
  let main_v13 : IVec S2064x1024 1 := andi main_v12 main_v8
  let main_v14 : IVec S2064x1024 1 := andi main_v13 main_v11
  main_v14
-- ==== Kernel.lean ====
abbrev S2064x1024 : Shape := ⟨2, ![2064, 1024]⟩
abbrev S2064x16x64 : Shape := ⟨3, ![2064, 16, 64]⟩
abbrev S16x2064x2064 : Shape := ⟨3, ![16, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S16x2064 : Shape := ⟨2, ![16, 2064]⟩
abbrev S16x2304 : Shape := ⟨2, ![16, 2304]⟩
abbrev S16x2304x1 : Shape := ⟨3, ![16, 2304, 1]⟩
abbrev S2304x1024 : Shape := ⟨2, ![2304, 1024]⟩
abbrev S8x128 : Shape := ⟨2, ![8, 128]⟩
abbrev S256x256 : Shape := ⟨2, ![256, 256]⟩
abbrev S2304x256 : Shape := ⟨2, ![2304, 256]⟩
abbrev S4x256x1 : Shape := ⟨3, ![4, 256, 1]⟩
abbrev S256x128 : Shape := ⟨2, ![256, 128]⟩
abbrev S512x128 : Shape := ⟨2, ![512, 128]⟩
abbrev S512x256 : Shape := ⟨2, ![512, 256]⟩
abbrev S1x256x1 : Shape := ⟨3, ![1, 256, 1]⟩
abbrev S256x1 : Shape := ⟨2, ![256, 1]⟩
abbrev S512x1 : Shape := ⟨2, ![512, 1]⟩
abbrev S1024x256 : Shape := ⟨2, ![1024, 256]⟩
abbrev S16x256 : Shape := ⟨2, ![16, 256]⟩
abbrev S32x256 : Shape := ⟨2, ![32, 256]⟩
abbrev S16x128 : Shape := ⟨2, ![16, 128]⟩
abbrev S32x128 : Shape := ⟨2, ![32, 128]⟩
abbrev S1x16x1 : Shape := ⟨3, ![1, 16, 1]⟩
abbrev S16x1 : Shape := ⟨2, ![16, 1]⟩
abbrev S32x1 : Shape := ⟨2, ![32, 1]⟩
abbrev S64x256 : Shape := ⟨2, ![64, 256]⟩
abbrev S240x128 : Shape := ⟨2, ![240, 128]⟩

abbrev nBuf : Space → Nat
  | .hbm => 66
  | .vmem => 18
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x1024, .f32⟩
  | .hbm, ⟨3, _⟩ => ⟨S2064x1024, .f32⟩
  | .hbm, ⟨4, _⟩ => ⟨S2064x16x64, .f32⟩
  | .hbm, ⟨5, _⟩ => ⟨S2064x16x64, .f32⟩
  | .hbm, ⟨6, _⟩ => ⟨S16x2064x2064, .f32⟩
  | .hbm, ⟨7, _⟩ => ⟨S_, .f32⟩
  | .hbm, ⟨8, _⟩ => ⟨S16x2064x2064, .f32⟩
  | .hbm, ⟨9, _⟩ => ⟨S16x2064x2064, .f32⟩
  | .hbm, ⟨10, _⟩ => ⟨S2064, .i32⟩
  | .hbm, ⟨11, _⟩ => ⟨S1x2064, .i32⟩
  | .hbm, ⟨12, _⟩ => ⟨S2064, .i32⟩
  | .hbm, ⟨13, _⟩ => ⟨S2064x1, .i32⟩
  | .hbm, ⟨14, _⟩ => ⟨S2064x2064, .i32⟩
  | .hbm, ⟨15, _⟩ => ⟨S2064x2064, .i32⟩
  | .hbm, ⟨16, _⟩ => ⟨S2064x2064, .i1⟩
  | .hbm, ⟨17, _⟩ => ⟨S_, .f32⟩
  | .hbm, ⟨18, _⟩ => ⟨S16x2064x2064, .f32⟩
  | .hbm, ⟨19, _⟩ => ⟨S16x2064x2064, .f32⟩
  | .hbm, ⟨20, _⟩ => ⟨S16x2064x2064, .f32⟩
  | .hbm, ⟨21, _⟩ => ⟨S16x2064x2064, .f32⟩
  | .hbm, ⟨22, _⟩ => ⟨S16x2064x2064, .i1⟩
  | .hbm, ⟨23, _⟩ => ⟨S16x2064x2064, .f32⟩
  | .hbm, ⟨24, _⟩ => ⟨S16x2064x2064, .f32⟩
  | .hbm, ⟨25, _⟩ => ⟨S16x2064x2064, .f32⟩
  | .hbm, ⟨26, _⟩ => ⟨S16x2064x2064, .f32⟩
  | .hbm, ⟨27, _⟩ => ⟨S16x2064x2064, .f32⟩
  | .hbm, ⟨28, _⟩ => ⟨S16x2064x2064, .f32⟩
  | .hbm, ⟨29, _⟩ => ⟨S16x2064x2064, .f32⟩
  | .hbm, ⟨30, _⟩ => ⟨S16x2064x2064, .f32⟩
  | .hbm, ⟨31, _⟩ => ⟨S_, .f32⟩
  | .hbm, ⟨32, _⟩ => ⟨S_, .f32⟩
  | .hbm, ⟨33, _⟩ => ⟨S16x2064x2064, .i1⟩
  | .hbm, ⟨34, _⟩ => ⟨S16x2064x2064, .f32⟩
  | .hbm, ⟨35, _⟩ => ⟨S16x2064x2064, .f32⟩
  | .hbm, ⟨36, _⟩ => ⟨S_, .f32⟩
  | .hbm, ⟨37, _⟩ => ⟨S16x2064, .f32⟩
  | .hbm, ⟨38, _⟩ => ⟨S_, .i32⟩
  | .hbm, ⟨39, _⟩ => ⟨S_, .f32⟩
  | .hbm, ⟨40, _⟩ => ⟨S16x2304, .f32⟩
  | .hbm, ⟨41, _⟩ => ⟨S16x2304x1, .f32⟩
  | .hbm, ⟨42, _⟩ => ⟨S_, .f32⟩
  | .hbm, ⟨43, _⟩ => ⟨S2064x1024, .f32⟩
  | .hbm, ⟨44, _⟩ => ⟨S2064x1024, .f32⟩
  | .hbm, ⟨45, _⟩ => ⟨S2064x1024, .bf16⟩
  | .hbm, ⟨46, _⟩ => ⟨S_, .i32⟩
  | .hbm, ⟨47, _⟩ => ⟨S_, .bf16⟩
  | .hbm, ⟨48, _⟩ => ⟨S2304x1024, .bf16⟩
  | .hbm, ⟨49, _⟩ => ⟨S2064x1024, .bf16⟩
  | .hbm, ⟨50, _⟩ => ⟨S_, .i32⟩
  | .hbm, ⟨51, _⟩ => ⟨S_, .bf16⟩
  | .hbm, ⟨52, _⟩ => ⟨S2304x1024, .bf16⟩
  | .hbm, ⟨53, _⟩ => ⟨S2064x1024, .bf16⟩
  | .hbm, ⟨54, _⟩ => ⟨S_, .i32⟩
  | .hbm, ⟨55, _⟩ => ⟨S_, .bf16⟩
  | .hbm, ⟨56, _⟩ => ⟨S2304x1024, .bf16⟩
  | .hbm, ⟨57, _⟩ => ⟨S2064x1024, .bf16⟩
  | .hbm, ⟨58, _⟩ => ⟨S_, .i32⟩
  | .hbm, ⟨59, _⟩ => ⟨S_, .bf16⟩
  | .hbm, ⟨60, _⟩ => ⟨S2304x1024, .bf16⟩
  | .hbm, ⟨61, _⟩ => ⟨S_, .f32⟩
  | .hbm, ⟨62, _⟩ => ⟨S8x128, .f32⟩
  | .hbm, ⟨63, _⟩ => ⟨S2304x1024, .bf16⟩
  | .hbm, ⟨64, _⟩ => ⟨S2304x1024, .bf16⟩
  | .hbm, ⟨65, _⟩ => ⟨S2304x1024, .bf16⟩
  | .local _ .vmem, ⟨0, _⟩ => ⟨S256x256, .bf16⟩
  | .local _ .vmem, ⟨1, _⟩ => ⟨S256x256, .bf16⟩
  | .local _ .vmem, ⟨2, _⟩ => ⟨S2304x256, .bf16⟩
  | .local _ .vmem, ⟨3, _⟩ => ⟨S2304x256, .bf16⟩
  | .local _ .vmem, ⟨4, _⟩ => ⟨S2304x256, .bf16⟩
  | .local _ .vmem, ⟨5, _⟩ => ⟨S2304x256, .bf16⟩
  | .local _ .vmem, ⟨6, _⟩ => ⟨S256x256, .bf16⟩
  | .local _ .vmem, ⟨7, _⟩ => ⟨S256x256, .bf16⟩
  | .local _ .vmem, ⟨8, _⟩ => ⟨S4x256x1, .f32⟩
  | .local _ .vmem, ⟨9, _⟩ => ⟨S4x256x1, .f32⟩
  | .local _ .vmem, ⟨10, _⟩ => ⟨S256x256, .bf16⟩
  | .local _ .vmem, ⟨11, _⟩ => ⟨S256x256, .bf16⟩
  | .local _ .vmem, ⟨12, _⟩ => ⟨S2304x256, .bf16⟩
  | .local _ .vmem, ⟨13, _⟩ => ⟨S2304x256, .bf16⟩
  | .local _ .vmem, ⟨14, _⟩ => ⟨S2304x256, .bf16⟩
  | .local _ .vmem, ⟨15, _⟩ => ⟨S2304x256, .bf16⟩
  | .local _ .vmem, ⟨16, _⟩ => ⟨S2304x256, .f32⟩
  | .local _ .vmem, ⟨17, _⟩ => ⟨S2304x256, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v12 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_c : Ref sig .tc := ⟨.hbm, 38, rfl⟩
abbrev main_call2_v0 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_3 : Ref sig .tc := ⟨.hbm, 46, rfl⟩
abbrev main_call3_v0 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_call4_v0 : Ref sig .tc := ⟨.hbm, 51, rfl⟩
abbrev main_v22 : Ref sig .tc := ⟨.hbm, 52, rfl⟩
abbrev main_v23 : Ref sig .tc := ⟨.hbm, 53, rfl⟩
abbrev main_c_5 : Ref sig .tc := ⟨.hbm, 54, rfl⟩
abbrev main_call5_v0 : Ref sig .tc := ⟨.hbm, 55, rfl⟩
abbrev main_v24 : Ref sig .tc := ⟨.hbm, 56, rfl⟩
abbrev main_v25 : Ref sig .tc := ⟨.hbm, 57, rfl⟩
abbrev main_c_6 : Ref sig .tc := ⟨.hbm, 58, rfl⟩
abbrev main_call6_v0 : Ref sig .tc := ⟨.hbm, 59, rfl⟩
abbrev main_v26 : Ref sig .tc := ⟨.hbm, 60, rfl⟩
abbrev main_cst_7 : Ref sig .tc := ⟨.hbm, 61, rfl⟩
abbrev main_v27 : Ref sig .tc := ⟨.hbm, 62, rfl⟩
abbrev main_v28_0 : Ref sig .tc := ⟨.hbm, 63, rfl⟩
abbrev main_v28_1 : Ref sig .tc := ⟨.hbm, 64, rfl⟩
abbrev main_v28_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c8_i32 : BitVec 32 := 8#32
  let v39 : BitVec 1 := Scalar.cmpi .slt arg1 c8_i32
  let v40 : BitVec 32 := Scalar.extui v39
  let c0_i32_11 : BitVec 32 := 0#32
  let v41 : BitVec 1 := Scalar.cmpi .ne v40 c0_i32_11
  v41

@[reducible] def k0_t1_loop (i : grid0.Coords) : Scf.Loop 32 :=
  let c0_i32_28 : BitVec 32 := 0#32
  let arg1 : BitVec 32 := BitVec.ofNat 32 (i 1).val
  let v63 : BitVec 32 := Scalar.subi arg1 c0_i32_28
  let c1_i32 : BitVec 32 := 1#32
  let v65 : BitVec 32 := Scalar.divsi v63 c1_i32
  let v66 : BitVec 32 := Scalar.muli v65 c1_i32
  let v67 : BitVec 32 := Scalar.addi c0_i32_28 v66
  let c1_i32_29 : BitVec 32 := 1#32
  ⟨c0_i32_28, v67, c1_i32_29⟩
def k0_mult1 (i : grid0.Coords) (k0_t1 : Fin (k0_t1_loop i).trips) : BitVec 32 :=
  let c0_i32_28 : BitVec 32 := 0#32
  let c1_i32_29 : BitVec 32 := 1#32
  let arg13 : BitVec 32 := Scf.iv c0_i32_28 c1_i32_29 k0_t1
  let c256_i32_79 : BitVec 32 := 256#32
  let v224 : BitVec 32 := Scalar.muli arg13 c256_i32_79
  v224
def k0_off1 (i : grid0.Coords) (k0_t1 : Fin (k0_t1_loop i).trips) : Fin 2 → Nat :=
  let c0_i32_28 : BitVec 32 := 0#32
  let c1_i32_29 : BitVec 32 := 1#32
  let arg13 : BitVec 32 := Scf.iv c0_i32_28 c1_i32_29 k0_t1
  let c256_i32_79 : BitVec 32 := 256#32
  let v224 : BitVec 32 := Scalar.muli arg13 c256_i32_79
  let v225 : BitVec 32 := v224
  let v226 : Index := Scalar.indexCast v225
  let c0_80 : Index := 0#32
  ![v226.toNat, 0]
def k0_off2 (i : grid0.Coords) (k0_t1 : Fin (k0_t1_loop i).trips) : Fin 2 → Nat :=
  let c0_i32_28 : BitVec 32 := 0#32
  let c1_i32_29 : BitVec 32 := 1#32
  let arg13 : BitVec 32 := Scf.iv c0_i32_28 c1_i32_29 k0_t1
  let c256_i32_79 : BitVec 32 := 256#32
  let v224 : BitVec 32 := Scalar.muli arg13 c256_i32_79
  let v225 : BitVec 32 := v224
  let v246 : Index := Scalar.indexCast v225
  let c128_87 : Index := 128#32
  ![v246.toNat, 128]
@[reducible] def k0_t2_loop (i : grid0.Coords) : Scf.Loop 32 :=
  let c0_i32_28 : BitVec 32 := 0#32
  let arg1 : BitVec 32 := BitVec.ofNat 32 (i 1).val
  let v63 : BitVec 32 := Scalar.subi arg1 c0_i32_28
  let c1_i32 : BitVec 32 := 1#32
  let v65 : BitVec 32 := Scalar.divsi v63 c1_i32
  let v66 : BitVec 32 := Scalar.muli v65 c1_i32
  let v67 : BitVec 32 := Scalar.addi c0_i32_28 v66
  let v64 : BitVec 32 := Scalar.addi c0_i32_28 v63
  let c1_i32_30 : BitVec 32 := 1#32
  ⟨v67, v64, c1_i32_30⟩
def k0_mult2 (i : grid0.Coords) (k0_t2 : Fin (k0_t2_loop i).trips) : BitVec 32 :=
  let c0_i32_28 : BitVec 32 := 0#32
  let arg1 : BitVec 32 := BitVec.ofNat 32 (i 1).val
  let v63 : BitVec 32 := Scalar.subi arg1 c0_i32_28
  let c1_i32 : BitVec 32 := 1#32
  let v65 : BitVec 32 := Scalar.divsi v63 c1_i32
  let v66 : BitVec 32 := Scalar.muli v65 c1_i32
  let v67 : BitVec 32 := Scalar.addi c0_i32_28 v66
  let c1_i32_30 : BitVec 32 := 1#32
  let arg13 : BitVec 32 := Scf.iv v67 c1_i32_30 k0_t2
  let c256_i32_79 : BitVec 32 := 256#32
  let v224 : BitVec 32 := Scalar.muli arg13 c256_i32_79
  v224
def k0_off3 (i : grid0.Coords) (k0_t2 : Fin (k0_t2_loop i).trips) : Fin 2 → Nat :=
  let c0_i32_28 : BitVec 32 := 0#32
  let arg1 : BitVec 32 := BitVec.ofNat 32 (i 1).val
  let v63 : BitVec 32 := Scalar.subi arg1 c0_i32_28
  let c1_i32 : BitVec 32 := 1#32
  let v65 : BitVec 32 := Scalar.divsi v63 c1_i32
  let v66 : BitVec 32 := Scalar.muli v65 c1_i32
  let v67 : BitVec 32 := Scalar.addi c0_i32_28 v66
  let c1_i32_30 : BitVec 32 := 1#32
  let arg13 : BitVec 32 := Scf.iv v67 c1_i32_30 k0_t2
  let c256_i32_79 : BitVec 32 := 256#32
  let v224 : BitVec 32 := Scalar.muli arg13 c256_i32_79
  let v225 : BitVec 32 := v224
  let v226 : Index := Scalar.indexCast v225
  let c0_80 : Index := 0#32
  ![v226.toNat, 0]
def k0_off4 (i : grid0.Coords) (k0_t2 : Fin (k0_t2_loop i).trips) : Fin 2 → Nat :=
  let c0_i32_28 : BitVec 32 := 0#32
  let arg1 : BitVec 32 := BitVec.ofNat 32 (i 1).val
  let v63 : BitVec 32 := Scalar.subi arg1 c0_i32_28
  let c1_i32 : BitVec 32 := 1#32
  let v65 : BitVec 32 := Scalar.divsi v63 c1_i32
  let v66 : BitVec 32 := Scalar.muli v65 c1_i32
  let v67 : BitVec 32 := Scalar.addi c0_i32_28 v66
  let c1_i32_30 : BitVec 32 := 1#32
  let arg13 : BitVec 32 := Scf.iv v67 c1_i32_30 k0_t2
  let c256_i32_79 : BitVec 32 := 256#32
  let v224 : BitVec 32 := Scalar.muli arg13 c256_i32_79
  let v225 : BitVec 32 := v224
  let v246 : Index := Scalar.indexCast v225
  let c128_87 : Index := 128#32
  ![v246.toNat, 128]
def k0_mult3 (i : grid0.Coords) : BitVec 32 :=
  let arg1 : BitVec 32 := BitVec.ofNat 32 (i 1).val
  let c256_i32 : BitVec 32 := 256#32
  let v70 : BitVec 32 := Scalar.muli arg1 c256_i32
  v70
def k0_off5 (i : grid0.Coords) : Fin 2 → Nat :=
  let arg1 : BitVec 32 := BitVec.ofNat 32 (i 1).val
  let c256_i32 : BitVec 32 := 256#32
  let v70 : BitVec 32 := Scalar.muli arg1 c256_i32
  let v71 : BitVec 32 := v70
  let v72 : Index := Scalar.indexCast v71
  let c0_31 : Index := 0#32
  ![v72.toNat, 0]
def k0_off6 (i : grid0.Coords) : Fin 2 → Nat :=
  let arg1 : BitVec 32 := BitVec.ofNat 32 (i 1).val
  let c256_i32 : BitVec 32 := 256#32
  let v70 : BitVec 32 := Scalar.muli arg1 c256_i32
  let v71 : BitVec 32 := v70
  let v94 : Index := Scalar.indexCast v71
  let c128_39 : Index := 128#32
  ![v94.toNat, 128]
def k0_cond3 (i : grid0.Coords) : BitVec 1 :=
  let arg1 : BitVec 32 := BitVec.ofNat 32 (i 1).val
  let c8_i32_12 : BitVec 32 := 8#32
  let v42 : BitVec 1 := Scalar.cmpi .eq arg1 c8_i32_12
  let v43 : BitVec 32 := Scalar.extui v42
  let c0_i32_13 : BitVec 32 := 0#32
  let v44 : BitVec 1 := Scalar.cmpi .ne v43 c0_i32_13
  v44

@[reducible] def k0_t3_loop (i : grid0.Coords) : Scf.Loop 32 :=
  let c0_i32_28 : BitVec 32 := 0#32
  let arg1 : BitVec 32 := BitVec.ofNat 32 (i 1).val
  let v76 : BitVec 32 := Scalar.subi arg1 c0_i32_28
  let c1_i32 : BitVec 32 := 1#32
  let v78 : BitVec 32 := Scalar.divsi v76 c1_i32
  let v79 : BitVec 32 := Scalar.muli v78 c1_i32
  let v80 : BitVec 32 := Scalar.addi c0_i32_28 v79
  let c1_i32_29 : BitVec 32 := 1#32
  ⟨c0_i32_28, v80, c1_i32_29⟩
def k0_mult4 (i : grid0.Coords) (k0_t3 : Fin (k0_t3_loop i).trips) : BitVec 32 :=
  let c0_i32_28 : BitVec 32 := 0#32
  let c1_i32_29 : BitVec 32 := 1#32
  let arg13 : BitVec 32 := Scf.iv c0_i32_28 c1_i32_29 k0_t3
  let c256_i32_84 : BitVec 32 := 256#32
  let v243 : BitVec 32 := Scalar.muli arg13 c256_i32_84
  v243
def k0_off7 (i : grid0.Coords) (k0_t3 : Fin (k0_t3_loop i).trips) : Fin 2 → Nat :=
  let c0_i32_28 : BitVec 32 := 0#32
  let c1_i32_29 : BitVec 32 := 1#32
  let arg13 : BitVec 32 := Scf.iv c0_i32_28 c1_i32_29 k0_t3
  let c256_i32_84 : BitVec 32 := 256#32
  let v243 : BitVec 32 := Scalar.muli arg13 c256_i32_84
  let v244 : BitVec 32 := v243
  let v245 : Index := Scalar.indexCast v244
  let c0_85 : Index := 0#32
  ![v245.toNat, 0]
def k0_off8 (i : grid0.Coords) (k0_t3 : Fin (k0_t3_loop i).trips) : Fin 2 → Nat :=
  let c0_i32_28 : BitVec 32 := 0#32
  let c1_i32_29 : BitVec 32 := 1#32
  let arg13 : BitVec 32 := Scf.iv c0_i32_28 c1_i32_29 k0_t3
  let c256_i32_84 : BitVec 32 := 256#32
  let v243 : BitVec 32 := Scalar.muli arg13 c256_i32_84
  let v244 : BitVec 32 := v243
  let v265 : Index := Scalar.indexCast v244
  let c128_92 : Index := 128#32
  ![v265.toNat, 128]
@[reducible] def k0_t4_loop (i : grid0.Coords) : Scf.Loop 32 :=
  let c0_i32_28 : BitVec 32 := 0#32
  let arg1 : BitVec 32 := BitVec.ofNat 32 (i 1).val
  let v76 : BitVec 32 := Scalar.subi arg1 c0_i32_28
  let c1_i32 : BitVec 32 := 1#32
  let v78 : BitVec 32 := Scalar.divsi v76 c1_i32
  let v79 : BitVec 32 := Scalar.muli v78 c1_i32
  let v80 : BitVec 32 := Scalar.addi c0_i32_28 v79
  let v77 : BitVec 32 := Scalar.addi c0_i32_28 v76
  let c1_i32_30 : BitVec 32 := 1#32
  ⟨v80, v77, c1_i32_30⟩
def k0_mult5 (i : grid0.Coords) (k0_t4 : Fin (k0_t4_loop i).trips) : BitVec 32 :=
  let c0_i32_28 : BitVec 32 := 0#32
  let arg1 : BitVec 32 := BitVec.ofNat 32 (i 1).val
  let v76 : BitVec 32 := Scalar.subi arg1 c0_i32_28
  let c1_i32 : BitVec 32 := 1#32
  let v78 : BitVec 32 := Scalar.divsi v76 c1_i32
  let v79 : BitVec 32 := Scalar.muli v78 c1_i32
  let v80 : BitVec 32 := Scalar.addi c0_i32_28 v79
  let c1_i32_30 : BitVec 32 := 1#32
  let arg13 : BitVec 32 := Scf.iv v80 c1_i32_30 k0_t4
  let c256_i32_84 : BitVec 32 := 256#32
  let v243 : BitVec 32 := Scalar.muli arg13 c256_i32_84
  v243
def k0_off9 (i : grid0.Coords) (k0_t4 : Fin (k0_t4_loop i).trips) : Fin 2 → Nat :=
  let c0_i32_28 : BitVec 32 := 0#32
  let arg1 : BitVec 32 := BitVec.ofNat 32 (i 1).val
  let v76 : BitVec 32 := Scalar.subi arg1 c0_i32_28
  let c1_i32 : BitVec 32 := 1#32
  let v78 : BitVec 32 := Scalar.divsi v76 c1_i32
  let v79 : BitVec 32 := Scalar.muli v78 c1_i32
  let v80 : BitVec 32 := Scalar.addi c0_i32_28 v79
  let c1_i32_30 : BitVec 32 := 1#32
  let arg13 : BitVec 32 := Scf.iv v80 c1_i32_30 k0_t4
  let c256_i32_84 : BitVec 32 := 256#32
  let v243 : BitVec 32 := Scalar.muli arg13 c256_i32_84
  let v244 : BitVec 32 := v243
  let v245 : Index := Scalar.indexCast v244
  let c0_85 : Index := 0#32
  ![v245.toNat, 0]
def k0_off10 (i : grid0.Coords) (k0_t4 : Fin (k0_t4_loop i).trips) : Fin 2 → Nat :=
  let c0_i32_28 : BitVec 32 := 0#32
  let arg1 : BitVec 32 := BitVec.ofNat 32 (i 1).val
  let v76 : BitVec 32 := Scalar.subi arg1 c0_i32_28
  let c1_i32 : BitVec 32 := 1#32
  let v78 : BitVec 32 := Scalar.divsi v76 c1_i32
  let v79 : BitVec 32 := Scalar.muli v78 c1_i32
  let v80 : BitVec 32 := Scalar.addi c0_i32_28 v79
  let c1_i32_30 : BitVec 32 := 1#32
  let arg13 : BitVec 32 := Scf.iv v80 c1_i32_30 k0_t4
  let c256_i32_84 : BitVec 32 := 256#32
  let v243 : BitVec 32 := Scalar.muli arg13 c256_i32_84
  let v244 : BitVec 32 := v243
  let v265 : Index := Scalar.indexCast v244
  let c128_92 : Index := 128#32
  ![v265.toNat, 128]
def k0_mult6 (i : grid0.Coords) : BitVec 32 :=
  let arg1 : BitVec 32 := BitVec.ofNat 32 (i 1).val
  let c256_i32 : BitVec 32 := 256#32
  let v83 : BitVec 32 := Scalar.muli arg1 c256_i32
  v83
def k0_off11 (i : grid0.Coords) : Fin 2 → Nat :=
  let arg1 : BitVec 32 := BitVec.ofNat 32 (i 1).val
  let c256_i32 : BitVec 32 := 256#32
  let v83 : BitVec 32 := Scalar.muli arg1 c256_i32
  let v84 : BitVec 32 := v83
  let v85 : Index := Scalar.indexCast v84
  let c0_31 : Index := 0#32
  ![v85.toNat, 0]
def k0_off12 (i : grid0.Coords) : Fin 2 → Nat :=
  let arg1 : BitVec 32 := BitVec.ofNat 32 (i 1).val
  let c256_i32 : BitVec 32 := 256#32
  let v83 : BitVec 32 := Scalar.muli arg1 c256_i32
  let v84 : BitVec 32 := v83
  let v107 : Index := Scalar.indexCast v84
  let c128_39 : Index := 128#32
  ![v107.toNat, 128]
def k0_cond4 (i : grid0.Coords) : BitVec 1 :=
  let arg1 : BitVec 32 := BitVec.ofNat 32 (i 1).val
  let c8_i32_14 : BitVec 32 := 8#32
  let v45 : BitVec 1 := Scalar.cmpi .eq arg1 c8_i32_14
  let v46 : BitVec 32 := Scalar.extui v45
  let c0_i32_15 : BitVec 32 := 0#32
  let v47 : BitVec 1 := Scalar.cmpi .ne v46 c0_i32_15
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2304x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2304x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2064x1024 : Shape := ⟨2, ![2064, 1024]⟩
abbrev S2064x16x64 : Shape := ⟨3, ![2064, 16, 64]⟩
abbrev S16x2064x2064 : Shape := ⟨3, ![16, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S16x64x2064 : Shape := ⟨3, ![16, 64, 2064]⟩
abbrev S16x2064x64 : Shape := ⟨3, ![16, 2064, 64]⟩
abbrev S2304x1024 : Shape := ⟨2, ![2304, 1024]⟩

abbrev nBuf : Space → Nat
  | .hbm => 126
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S2064x1024, .f32⟩
  | .hbm, ⟨3, _⟩ => ⟨S2064x1024, .f32⟩
  | .hbm, ⟨4, _⟩ => ⟨S2064x16x64, .f32⟩
  | .hbm, ⟨5, _⟩ => ⟨S2064x16x64, .f32⟩
  | .hbm, ⟨6, _⟩ => ⟨S2064x16x64, .f32⟩
  | .hbm, ⟨7, _⟩ => ⟨S16x2064x2064, .f32⟩
  | .hbm, ⟨8, _⟩ => ⟨S_, .f32⟩
  | .hbm, ⟨9, _⟩ => ⟨S16x2064x2064, .f32⟩
  | .hbm, ⟨10, _⟩ => ⟨S16x2064x2064, .f32⟩
  | .hbm, ⟨11, _⟩ => ⟨S2064, .i32⟩
  | .hbm, ⟨12, _⟩ => ⟨S1x2064, .i32⟩
  | .hbm, ⟨13, _⟩ => ⟨S2064, .i32⟩
  | .hbm, ⟨14, _⟩ => ⟨S2064x1, .i32⟩
  | .hbm, ⟨15, _⟩ => ⟨S2064x2064, .i32⟩
  | .hbm, ⟨16, _⟩ => ⟨S2064x2064, .i32⟩
  | .hbm, ⟨17, _⟩ => ⟨S2064x2064, .i1⟩
  | .hbm, ⟨18, _⟩ => ⟨S_, .f32⟩
  | .hbm, ⟨19, _⟩ => ⟨S16x2064x2064, .f32⟩
  | .hbm, ⟨20, _⟩ => ⟨S16x2064x2064, .f32⟩
  | .hbm, ⟨21, _⟩ => ⟨S16x2064x2064, .f32⟩
  | .hbm, ⟨22, _⟩ => ⟨S16x2064x2064, .f32⟩
  | .hbm, ⟨23, _⟩ => ⟨S16x2064x2064, .i1⟩
  | .hbm, ⟨24, _⟩ => ⟨S16x2064x2064, .f32⟩
  | .hbm, ⟨25, _⟩ => ⟨S16x2064x2064, .f32⟩
  | .hbm, ⟨26, _⟩ => ⟨S16x2064x2064, .f32⟩
  | .hbm, ⟨27, _⟩ => ⟨S16x2064x2064, .f32⟩
  | .hbm, ⟨28, _⟩ => ⟨S16x2064x2064, .f32⟩
  | .hbm, ⟨29, _⟩ => ⟨S16x2064x2064, .f32⟩
  | .hbm, ⟨30, _⟩ => ⟨S16x2064x2064, .f32⟩
  | .hbm, ⟨31, _⟩ => ⟨S16x2064x2064, .f32⟩
  | .hbm, ⟨32, _⟩ => ⟨S_, .f32⟩
  | .hbm, ⟨33, _⟩ => ⟨S16x2064x2064, .f32⟩
  | .hbm, ⟨34, _⟩ => ⟨S16x2064x2064, .i1⟩
  | .hbm, ⟨35, _⟩ => ⟨S_, .f32⟩
  | .hbm, ⟨36, _⟩ => ⟨S16x2064x2064, .f32⟩
  | .hbm, ⟨37, _⟩ => ⟨S16x2064x2064, .f32⟩
  | .hbm, ⟨38, _⟩ => ⟨S_, .f32⟩
  | .hbm, ⟨39, _⟩ => ⟨S16x2064x2064, .f32⟩
  | .hbm, ⟨40, _⟩ => ⟨S16x2064x2064, .i1⟩
  | .hbm, ⟨41, _⟩ => ⟨S_, .f32⟩
  | .hbm, ⟨42, _⟩ => ⟨S16x2064x2064, .f32⟩
  | .hbm, ⟨43, _⟩ => ⟨S16x2064x2064, .f32⟩
  | .hbm, ⟨44, _⟩ => ⟨S16x2064x2064, .f32⟩
  | .hbm, ⟨45, _⟩ => ⟨S16x2064x2064, .f32⟩
  | .hbm, ⟨46, _⟩ => ⟨S_, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16x2064x2064, .f32⟩
  | .hbm, ⟨54, _⟩ => ⟨S16x2064x2064, .i1⟩
  | .hbm, ⟨55, _⟩ => ⟨S_, .f32⟩
  | .hbm, ⟨56, _⟩ => ⟨S16x2064x2064, .f32⟩
  | .hbm, ⟨57, _⟩ => ⟨S16x2064x2064, .f32⟩
  | .hbm, ⟨58, _⟩ => ⟨S16x2064x2064, .f32⟩
  | .hbm, ⟨59, _⟩ => ⟨S16x2064x2064, .f32⟩
  | .hbm, ⟨60, _⟩ => ⟨S16x2064x2064, .f32⟩
  | .hbm, ⟨61, _⟩ => ⟨S_, .f32⟩
  | .hbm, ⟨62, _⟩ => ⟨S16x2064x2064, .f32⟩
  | .hbm, ⟨63, _⟩ => ⟨S16x2064x2064, .f32⟩
  | .hbm, ⟨64, _⟩ => ⟨S_, .f32⟩
  | .hbm, ⟨65, _⟩ => ⟨S_, .f32⟩
  | .hbm, ⟨66, _⟩ => ⟨S16x2064x2064, .i1⟩
  | .hbm, ⟨67, _⟩ => ⟨S16x2064x2064, .f32⟩
  | .hbm, ⟨68, _⟩ => ⟨S16x2064x2064, .f32⟩
  | .hbm, ⟨69, _⟩ => ⟨S_, .f32⟩
  | .hbm, ⟨70, _⟩ => ⟨S16x2064x2064, .f32⟩
  | .hbm, ⟨71, _⟩ => ⟨S_, .f32⟩
  | .hbm, ⟨72, _⟩ => ⟨S_, .f32⟩
  | .hbm, ⟨73, _⟩ => ⟨S16x2064x2064, .f32⟩
  | .hbm, ⟨74, _⟩ => ⟨S16x2064x2064, .f32⟩
  | .hbm, ⟨75, _⟩ => ⟨S_, .f32⟩
  | .hbm, ⟨76, _⟩ => ⟨S_, .f32⟩
  | .hbm, ⟨77, _⟩ => ⟨S16x2064x2064, .i1⟩
  | .hbm, ⟨78, _⟩ => ⟨S16x2064x2064, .f32⟩
  | .hbm, ⟨79, _⟩ => ⟨S16x2064x2064, .f32⟩
  | .hbm, ⟨80, _⟩ => ⟨S_, .f32⟩
  | .hbm, ⟨81, _⟩ => ⟨S16x2064x2064, .f32⟩
  | .hbm, ⟨82, _⟩ => ⟨S16x2064x2064, .f32⟩
  | .hbm, ⟨83, _⟩ => ⟨S16x64x2064, .f32⟩
  | .hbm, ⟨84, _⟩ => ⟨S2064x16x64, .f32⟩
  | .hbm, ⟨85, _⟩ => ⟨S2064x1024, .f32⟩
  | .hbm, ⟨86, _⟩ => ⟨S2064x16x64, .f32⟩
  | .hbm, ⟨87, _⟩ => ⟨S16x64x2064, .f32⟩
  | .hbm, ⟨88, _⟩ => ⟨S16x2064x2064, .f32⟩
  | .hbm, ⟨89, _⟩ => ⟨S16x64x2064, .f32⟩
  | .hbm, ⟨90, _⟩ => ⟨S2064x16x64, .f32⟩
  | .hbm, ⟨91, _⟩ => ⟨S16x2064x2064, .f32⟩
  | .hbm, ⟨92, _⟩ => ⟨S_, .f32⟩
  | .hbm, ⟨93, _⟩ => ⟨S16x2064x2064, .f32⟩
  | .hbm, ⟨94, _⟩ => ⟨S16x2064x2064, .f32⟩
  | .hbm, ⟨95, _⟩ => ⟨S16x2064x2064, .f32⟩
  | .hbm, ⟨96, _⟩ => ⟨S_, .f32⟩
  | .hbm, ⟨97, _⟩ => ⟨S_, .f32⟩
  | .hbm, ⟨98, _⟩ => ⟨S16x2064x2064, .f32⟩
  | .hbm, ⟨99, _⟩ => ⟨S_, .f32⟩
  | .hbm, ⟨100, _⟩ => ⟨S16x2064x2064, .f32⟩
  | .hbm, ⟨101, _⟩ => ⟨S16x2064x2064, .f32⟩
  | .hbm, ⟨102, _⟩ => ⟨S16x2064x2064, .f32⟩
  | .hbm, ⟨103, _⟩ => ⟨S16x2064x2064, .f32⟩
  | .hbm, ⟨104, _⟩ => ⟨S_, .f32⟩
  | .hbm, ⟨105, _⟩ => ⟨S16x2064x2064, .f32⟩
  | .hbm, ⟨106, _⟩ => ⟨S16x2064x2064, .f32⟩
  | .hbm, ⟨107, _⟩ => ⟨S16x2064x64, .f32⟩
  | .hbm, ⟨108, _⟩ => ⟨S2064x16x64, .f32⟩
  | .hbm, ⟨109, _⟩ => ⟨S16x2064x64, .f32⟩
  | .hbm, ⟨110, _⟩ => ⟨S2064x16x64, .f32⟩
  | .hbm, ⟨111, _⟩ => ⟨S2064x1024, .f32⟩
  | .hbm, ⟨112, _⟩ => ⟨S2064x1024, .f32⟩
  | .hbm, ⟨113, _⟩ => ⟨S2064x1024, .f32⟩
  | .hbm, ⟨114, _⟩ => ⟨S2064x1024, .bf16⟩
  | .hbm, ⟨115, _⟩ => ⟨S_, .i32⟩
  | .hbm, ⟨116, _⟩ => ⟨S_, .bf16⟩
  | .hbm, ⟨117, _⟩ => ⟨S2304x1024, .bf16⟩
  | .hbm, ⟨118, _⟩ => ⟨S2064x1024, .bf16⟩
  | .hbm, ⟨119, _⟩ => ⟨S_, .i32⟩
  | .hbm, ⟨120, _⟩ => ⟨S_, .bf16⟩
  | .hbm, ⟨121, _⟩ => ⟨S2304x1024, .bf16⟩
  | .hbm, ⟨122, _⟩ => ⟨S2064x1024, .bf16⟩
  | .hbm, ⟨123, _⟩ => ⟨S_, .i32⟩
  | .hbm, ⟨124, _⟩ => ⟨S_, .bf16⟩
  | .hbm, ⟨125, _⟩ => ⟨S2304x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13_0 : Ref sig .tc := ⟨.hbm, 31, rfl⟩
abbrev main_call0_cst_0 : Ref sig .tc := ⟨.hbm, 32, rfl⟩
abbrev main_call0_v13 : Ref sig .tc := ⟨.hbm, 33, rfl⟩
abbrev main_call0_v14 : Ref sig .tc := ⟨.hbm, 34, rfl⟩
abbrev main_call0_cst_1 : Ref sig .tc := ⟨.hbm, 35, rfl⟩
abbrev main_call0_v15 : Ref sig .tc := ⟨.hbm, 36, rfl⟩
abbrev main_call0_v16 : Ref sig .tc := ⟨.hbm, 37, rfl⟩
abbrev main_call0_cst_2 : Ref sig .tc := ⟨.hbm, 38, rfl⟩
abbrev main_call0_v17 : Ref sig .tc := ⟨.hbm, 39, rfl⟩
abbrev main_call0_v18 : Ref sig .tc := ⟨.hbm, 40, rfl⟩
abbrev main_call0_cst_3 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_v13_1 : Ref sig .tc := ⟨.hbm, 45, rfl⟩
abbrev main_call0_cst_4 : Ref sig .tc := ⟨.hbm, 46, rfl⟩
abbrev main_call0_cst_5 : Ref sig .tc := ⟨.hbm, 47, rfl⟩
abbrev main_call0_v23 : Ref sig .tc := ⟨.hbm, 48, rfl⟩
abbrev main_call0_cst_6 : Ref sig .tc := ⟨.hbm, 49, rfl⟩
abbrev main_call0_cst_7 : Ref sig .tc := ⟨.hbm, 50, rfl⟩
abbrev main_call0_v24 : Ref sig .tc := ⟨.hbm, 51, rfl⟩
abbrev main_call0_cst_8 : Ref sig .tc := ⟨.hbm, 52, rfl⟩
abbrev main_call0_v25 : Ref sig .tc := ⟨.hbm, 53, rfl⟩
abbrev main_call0_v26 : Ref sig .tc := ⟨.hbm, 54, rfl⟩
abbrev main_call0_cst_9 : Ref sig .tc := ⟨.hbm, 55, rfl⟩
abbrev main_call0_v27 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_v31 : Ref sig .tc := ⟨.hbm, 60, rfl⟩
abbrev main_call0_cst_10 : Ref sig .tc := ⟨.hbm, 61, rfl⟩
abbrev main_call0_v32 : Ref sig .tc := ⟨.hbm, 62, rfl⟩
abbrev main_v13_2 : Ref sig .tc := ⟨.hbm, 63, rfl⟩
abbrev main_cst_0 : Ref sig .tc := ⟨.hbm, 64, rfl⟩
abbrev main_call1_v0 : Ref sig .tc := ⟨.hbm, 65, rfl⟩
abbrev main_v14_1 : Ref sig .tc := ⟨.hbm, 66, rfl⟩
abbrev main_call1_v2 : Ref sig .tc := ⟨.hbm, 67, rfl⟩
abbrev main_v14_0 : Ref sig .tc := ⟨.hbm, 68, rfl⟩
abbrev main_call1_cst : Ref sig .tc := ⟨.hbm, 69, rfl⟩
abbrev main_v14_2 : Ref sig .tc := ⟨.hbm, 70, rfl⟩
abbrev main_call2_cst : Ref sig .tc := ⟨.hbm, 71, rfl⟩
abbrev main_call2_v0 : Ref sig .tc := ⟨.hbm, 72, rfl⟩
abbrev main_v15 : Ref sig .tc := ⟨.hbm, 73, rfl⟩
abbrev main_v16 : Ref sig .tc := ⟨.hbm, 74, rfl⟩
abbrev main_cst_1 : Ref sig .tc := ⟨.hbm, 75, rfl⟩
abbrev main_call3_v0 : Ref sig .tc := ⟨.hbm, 76, rfl⟩
abbrev main_v17_1 : Ref sig .tc := ⟨.hbm, 77, rfl⟩
abbrev main_call3_v2 : Ref sig .tc := ⟨.hbm, 78, rfl⟩
abbrev main_v17_0 : Ref sig .tc := ⟨.hbm, 79, rfl⟩
abbrev main_call3_cst : Ref sig .tc := ⟨.hbm, 80, rfl⟩
abbrev main_v17_2 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_call4_cst : Ref sig .tc := ⟨.hbm, 92, rfl⟩
abbrev main_call4_v0 : Ref sig .tc := ⟨.hbm, 93, rfl⟩
abbrev main_v28 : Ref sig .tc := ⟨.hbm, 94, rfl⟩
abbrev main_v29 : Ref sig .tc := ⟨.hbm, 95, rfl⟩
abbrev main_call5_cst : Ref sig .tc := ⟨.hbm, 96, rfl⟩
abbrev main_call5_v0 : Ref sig .tc := ⟨.hbm, 97, rfl⟩
abbrev main_v30 : Ref sig .tc := ⟨.hbm, 98, rfl⟩
abbrev main_call6_cst : Ref sig .tc := ⟨.hbm, 99, rfl⟩
abbrev main_call6_v0 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_cst_2 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_c : Ref sig .tc := ⟨.hbm, 115, rfl⟩
abbrev main_call8_v0 : Ref sig .tc := ⟨.hbm, 116, rfl⟩
abbrev main_v44 : Ref sig .tc := ⟨.hbm, 117, rfl⟩
abbrev main_v45 : Ref sig .tc := ⟨.hbm, 118, rfl⟩
abbrev main_c_3 : Ref sig .tc := ⟨.hbm, 119, rfl⟩
abbrev main_call9_v0 : Ref sig .tc := ⟨.hbm, 120, rfl⟩
abbrev main_v46 : Ref sig .tc := ⟨.hbm, 121, rfl⟩
abbrev main_v47 : Ref sig .tc := ⟨.hbm, 122, rfl⟩
abbrev main_c_4 : Ref sig .tc := ⟨.hbm, 123, rfl⟩
abbrev main_call10_v0 : Ref sig .tc := ⟨.hbm, 124, rfl⟩
abbrev main_v48 : Ref sig .tc := ⟨.hbm, 125, rfl⟩

abbrev nD : Nat := 1
abbrev τ : Topo := Topo.v7x

variable {F : FTy → Type} [FloatOps F]
-- ==== In.lean ====
abbrev S2064x1024 : Shape := ⟨2, ![2064, 1024]⟩
abbrev S1024x7168 : Shape := ⟨2, ![1024, 7168]⟩
abbrev S_ : Shape := ⟨0, ![]⟩
abbrev S2176x1024 : Shape := ⟨2, ![2176, 1024]⟩
abbrev S1024x4x1792 : Shape := ⟨3, ![1024, 4, 1792]⟩
abbrev S4x1024x1792 : Shape := ⟨3, ![4, 1024, 1792]⟩
abbrev S2176x7168 : Shape := ⟨2, ![2176, 7168]⟩
abbrev S544x1024 : Shape := ⟨2, ![544, 1024]⟩
abbrev S1x1024x1792 : Shape := ⟨3, ![1, 1024, 1792]⟩
abbrev S544x1792 : Shape := ⟨2, ![544, 1792]⟩
abbrev S1024x1792 : Shape := ⟨2, ![1024, 1792]⟩

abbrev nBuf : Space → Nat
  | .hbm => 10
  | .vmem => 6
  | .smem => 0
  | _ => 0

abbrev bufTy : (tb : Table) → Fin (tcTables nBuf tb) → BufTy
  | .hbm, ⟨0, _⟩ => ⟨S2064x1024, .f32⟩
  | .hbm, ⟨1, _⟩ => ⟨S1024x7168, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S1024x4x1792, .f32⟩
  | .hbm, ⟨7, _⟩ => ⟨S4x1024x1792, .f32⟩
  | .hbm, ⟨8, _⟩ => ⟨S4x1024x1792, .bf16⟩
  | .hbm, ⟨9, _⟩ => ⟨S2176x7168, .f32⟩
  | .local _ .vmem, ⟨0, _⟩ => ⟨S544x1024, .bf16⟩
  | .local _ .vmem, ⟨1, _⟩ => ⟨S544x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S544x1792, .f32⟩
  | .local _ .vmem, ⟨5, _⟩ => ⟨S544x1792, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S2064x1024 : Shape := ⟨2, ![2064, 1024]⟩
abbrev S1024x7168 : Shape := ⟨2, ![1024, 7168]⟩
abbrev S2064x7168 : Shape := ⟨2, ![2064, 7168]⟩
abbrev S_ : Shape := ⟨0, ![]⟩
abbrev S2176x7168 : Shape := ⟨2, ![2176, 7168]⟩

abbrev nBuf : Space → Nat
  | .hbm => 6
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x7168, .f32⟩
  | .hbm, ⟨2, _⟩ => ⟨S2064x7168, .f32⟩
  | .hbm, ⟨3, _⟩ => ⟨S_, .i32⟩
  | .hbm, ⟨4, _⟩ => ⟨S_, .f32⟩
  | .hbm, ⟨5, _⟩ => ⟨S2176x7168, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== InDx.lean ====
abbrev S2064x7168 : Shape := ⟨2, ![2064, 7168]⟩
abbrev S1024x7168 : Shape := ⟨2, ![1024, 7168]⟩
abbrev S_ : Shape := ⟨0, ![]⟩
abbrev S2176x7168 : Shape := ⟨2, ![2176, 7168]⟩
abbrev S1024x4x1792 : Shape := ⟨3, ![1024, 4, 1792]⟩
abbrev S4x1024x1792 : Shape := ⟨3, ![4, 1024, 1792]⟩
abbrev S2176x1024 : Shape := ⟨2, ![2176, 1024]⟩
abbrev S1088x1792 : Shape := ⟨2, ![1088, 1792]⟩
abbrev S1x1024x1792 : Shape := ⟨3, ![1, 1024, 1792]⟩
abbrev S1088x1024 : Shape := ⟨2, ![1088, 1024]⟩
abbrev S1024x1792 : Shape := ⟨2, ![1024, 1792]⟩

abbrev nBuf : Space → Nat
  | .hbm => 10
  | .vmem => 6
  | .smem => 0
  | _ => 0

abbrev bufTy : (tb : Table) → Fin (tcTables nBuf tb) → BufTy
  | .hbm, ⟨0, _⟩ => ⟨S2064x7168, .f32⟩
  | .hbm, ⟨1, _⟩ => ⟨S1024x7168, .f32⟩
  | .hbm, ⟨2, _⟩ => ⟨S_, .i32⟩
  | .hbm, ⟨3, _⟩ => ⟨S_, .f32⟩
  | .hbm, ⟨4, _⟩ => ⟨S2176x7168, .f32⟩
  | .hbm, ⟨5, _⟩ => ⟨S2176x7168, .bf16⟩
  | .hbm, ⟨6, _⟩ => ⟨S1024x4x1792, .f32⟩
  | .hbm, ⟨7, _⟩ => ⟨S4x1024x1792, .f32⟩
  | .hbm, ⟨8, _⟩ => ⟨S4x1024x1792, .bf16⟩
  | .hbm, ⟨9, _⟩ => ⟨S2176x1024, .f32⟩
  | .local _ .vmem, ⟨0, _⟩ => ⟨S1088x1792, .bf16⟩
  | .local _ .vmem, ⟨1, _⟩ => ⟨S1088x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1088x1024, .f32⟩
  | .local _ .vmem, ⟨5, _⟩ => ⟨S1088x1024, .f32⟩
  | _, _ => ⟨S2064x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDxRefIdeal.lean ====
abbrev S2064x7168 : Shape := ⟨2, ![2064, 7168]⟩
abbrev S1024x7168 : Shape := ⟨2, ![1024, 7168]⟩
abbrev S_ : Shape := ⟨0, ![]⟩
abbrev S2064x1024 : Shape := ⟨2, ![2064, 1024]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2064x7168, .f32⟩
  | .hbm, ⟨1, _⟩ => ⟨S1024x7168, .f32⟩
  | .hbm, ⟨2, _⟩ => ⟨S_, .f32⟩
  | .hbm, ⟨3, _⟩ => ⟨S2064x1024, .f32⟩
  | .hbm, ⟨4, _⟩ => ⟨S2064x7168, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x1024, .f32⟩
  | _, _ => ⟨S2064x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== InDw.lean ====
abbrev S2064x1024 : Shape := ⟨2, ![2064, 1024]⟩
abbrev S2064x7168 : Shape := ⟨2, ![2064, 7168]⟩
abbrev S_ : Shape := ⟨0, ![]⟩
abbrev S2176x1024 : Shape := ⟨2, ![2176, 1024]⟩
abbrev S2176x7168 : Shape := ⟨2, ![2176, 7168]⟩
abbrev S4x1024x1792 : Shape := ⟨3, ![4, 1024, 1792]⟩
abbrev S2176x1792 : Shape := ⟨2, ![2176, 1792]⟩
abbrev S1x1024x1792 : Shape := ⟨3, ![1, 1024, 1792]⟩
abbrev S1024x1792 : Shape := ⟨2, ![1024, 1792]⟩

abbrev nBuf : Space → Nat
  | .hbm => 11
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S2064x7168, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S_, .i32⟩
  | .hbm, ⟨7, _⟩ => ⟨S_, .f32⟩
  | .hbm, ⟨8, _⟩ => ⟨S2176x7168, .f32⟩
  | .hbm, ⟨9, _⟩ => ⟨S2176x7168, .bf16⟩
  | .hbm, ⟨10, _⟩ => ⟨S4x1024x1792, .f32⟩
  | .local _ .vmem, ⟨0, _⟩ => ⟨S2176x1024, .bf16⟩
  | .local _ .vmem, ⟨1, _⟩ => ⟨S2176x1792, .bf16⟩
  | .local _ .vmem, ⟨2, _⟩ => ⟨S2176x1792, .bf16⟩
  | .local _ .vmem, ⟨3, _⟩ => ⟨S1x1024x1792, .f32⟩
  | .local _ .vmem, ⟨4, _⟩ => ⟨S1x1024x1792, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2176x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InDwRefIdeal.lean ====
abbrev S2064x1024 : Shape := ⟨2, ![2064, 1024]⟩
abbrev S2064x7168 : Shape := ⟨2, ![2064, 7168]⟩
abbrev S_ : Shape := ⟨0, ![]⟩
abbrev S1024x7168 : Shape := ⟨2, ![1024, 7168]⟩
abbrev S7168x1024 : Shape := ⟨2, ![7168, 1024]⟩
abbrev S1024x4x1792 : Shape := ⟨3, ![1024, 4, 1792]⟩
abbrev S4x1024x1792 : Shape := ⟨3, ![4, 1024, 1792]⟩

abbrev nBuf : Space → Nat
  | .hbm => 9
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x7168, .f32⟩
  | .hbm, ⟨2, _⟩ => ⟨S_, .f32⟩
  | .hbm, ⟨3, _⟩ => ⟨S1024x7168, .f32⟩
  | .hbm, ⟨4, _⟩ => ⟨S2064x7168, .f32⟩
  | .hbm, ⟨5, _⟩ => ⟨S7168x1024, .f32⟩
  | .hbm, ⟨6, _⟩ => ⟨S1024x7168, .f32⟩
  | .hbm, ⟨7, _⟩ => ⟨S1024x4x1792, .f32⟩
  | .hbm, ⟨8, _⟩ => ⟨S4x1024x1792, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnIn.lean ====
abbrev S2064x1024 : Shape := ⟨2, ![2064, 1024]⟩
abbrev S1024x5632 : Shape := ⟨2, ![1024, 5632]⟩
abbrev S_ : Shape := ⟨0, ![]⟩
abbrev S2176x1024 : Shape := ⟨2, ![2176, 1024]⟩
abbrev S1024x4x1408 : Shape := ⟨3, ![1024, 4, 1408]⟩
abbrev S4x1024x1408 : Shape := ⟨3, ![4, 1024, 1408]⟩
abbrev S2176x5632 : Shape := ⟨2, ![2176, 5632]⟩
abbrev S544x1024 : Shape := ⟨2, ![544, 1024]⟩
abbrev S1x1024x1408 : Shape := ⟨3, ![1, 1024, 1408]⟩
abbrev S544x1408 : Shape := ⟨2, ![544, 1408]⟩
abbrev S1024x1408 : Shape := ⟨2, ![1024, 1408]⟩

abbrev nBuf : Space → Nat
  | .hbm => 10
  | .vmem => 6
  | .smem => 0
  | _ => 0

abbrev bufTy : (tb : Table) → Fin (tcTables nBuf tb) → BufTy
  | .hbm, ⟨0, _⟩ => ⟨S2064x1024, .f32⟩
  | .hbm, ⟨1, _⟩ => ⟨S1024x5632, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S2176x5632, .f32⟩
  | .local _ .vmem, ⟨0, _⟩ => ⟨S544x1024, .bf16⟩
  | .local _ .vmem, ⟨1, _⟩ => ⟨S544x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S544x1408, .f32⟩
  | .local _ .vmem, ⟨5, _⟩ => ⟨S544x1408, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnInRefIdeal.lean ====
abbrev S2064x1024 : Shape := ⟨2, ![2064, 1024]⟩
abbrev S1024x5632 : Shape := ⟨2, ![1024, 5632]⟩
abbrev S2064x5632 : Shape := ⟨2, ![2064, 5632]⟩
abbrev S_ : Shape := ⟨0, ![]⟩
abbrev S2176x5632 : Shape := ⟨2, ![2176, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x5632, .f32⟩
  | .hbm, ⟨2, _⟩ => ⟨S2064x5632, .f32⟩
  | .hbm, ⟨3, _⟩ => ⟨S_, .i32⟩
  | .hbm, ⟨4, _⟩ => ⟨S_, .f32⟩
  | .hbm, ⟨5, _⟩ => ⟨S2176x5632, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== FfnInDx.lean ====
abbrev S2064x5632 : Shape := ⟨2, ![2064, 5632]⟩
abbrev S1024x5632 : Shape := ⟨2, ![1024, 5632]⟩
abbrev S_ : Shape := ⟨0, ![]⟩
abbrev S2176x5632 : Shape := ⟨2, ![2176, 5632]⟩
abbrev S1024x4x1408 : Shape := ⟨3, ![1024, 4, 1408]⟩
abbrev S4x1024x1408 : Shape := ⟨3, ![4, 1024, 1408]⟩
abbrev S2176x1024 : Shape := ⟨2, ![2176, 1024]⟩
abbrev S1088x1408 : Shape := ⟨2, ![1088, 1408]⟩
abbrev S1x1024x1408 : Shape := ⟨3, ![1, 1024, 1408]⟩
abbrev S1088x1024 : Shape := ⟨2, ![1088, 1024]⟩
abbrev S1024x1408 : Shape := ⟨2, ![1024, 1408]⟩

abbrev nBuf : Space → Nat
  | .hbm => 10
  | .vmem => 6
  | .smem => 0
  | _ => 0

abbrev bufTy : (tb : Table) → Fin (tcTables nBuf tb) → BufTy
  | .hbm, ⟨0, _⟩ => ⟨S2064x5632, .f32⟩
  | .hbm, ⟨1, _⟩ => ⟨S1024x5632, .f32⟩
  | .hbm, ⟨2, _⟩ => ⟨S_, .i32⟩
  | .hbm, ⟨3, _⟩ => ⟨S_, .f32⟩
  | .hbm, ⟨4, _⟩ => ⟨S2176x5632, .f32⟩
  | .hbm, ⟨5, _⟩ => ⟨S2176x5632, .bf16⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S2176x1024, .f32⟩
  | .local _ .vmem, ⟨0, _⟩ => ⟨S1088x1408, .bf16⟩
  | .local _ .vmem, ⟨1, _⟩ => ⟨S1088x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1088x1024, .f32⟩
  | .local _ .vmem, ⟨5, _⟩ => ⟨S1088x1024, .f32⟩
  | _, _ => ⟨S2064x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnInDxRefIdeal.lean ====
abbrev S2064x5632 : Shape := ⟨2, ![2064, 5632]⟩
abbrev S1024x5632 : Shape := ⟨2, ![1024, 5632]⟩
abbrev S_ : Shape := ⟨0, ![]⟩
abbrev S2064x1024 : Shape := ⟨2, ![2064, 1024]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2064x5632, .f32⟩
  | .hbm, ⟨1, _⟩ => ⟨S1024x5632, .f32⟩
  | .hbm, ⟨2, _⟩ => ⟨S_, .f32⟩
  | .hbm, ⟨3, _⟩ => ⟨S2064x1024, .f32⟩
  | .hbm, ⟨4, _⟩ => ⟨S2064x5632, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x1024, .f32⟩
  | _, _ => ⟨S2064x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== FfnInDw.lean ====
abbrev S2064x1024 : Shape := ⟨2, ![2064, 1024]⟩
abbrev S2064x5632 : Shape := ⟨2, ![2064, 5632]⟩
abbrev S_ : Shape := ⟨0, ![]⟩
abbrev S2176x1024 : Shape := ⟨2, ![2176, 1024]⟩
abbrev S2176x5632 : Shape := ⟨2, ![2176, 5632]⟩
abbrev S4x1024x1408 : Shape := ⟨3, ![4, 1024, 1408]⟩
abbrev S2176x1408 : Shape := ⟨2, ![2176, 1408]⟩
abbrev S1x1024x1408 : Shape := ⟨3, ![1, 1024, 1408]⟩
abbrev S1024x1408 : Shape := ⟨2, ![1024, 1408]⟩

abbrev nBuf : Space → Nat
  | .hbm => 11
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S2064x5632, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S_, .i32⟩
  | .hbm, ⟨7, _⟩ => ⟨S_, .f32⟩
  | .hbm, ⟨8, _⟩ => ⟨S2176x5632, .f32⟩
  | .hbm, ⟨9, _⟩ => ⟨S2176x5632, .bf16⟩
  | .hbm, ⟨10, _⟩ => ⟨S4x1024x1408, .f32⟩
  | .local _ .vmem, ⟨0, _⟩ => ⟨S2176x1024, .bf16⟩
  | .local _ .vmem, ⟨1, _⟩ => ⟨S2176x1408, .bf16⟩
  | .local _ .vmem, ⟨2, _⟩ => ⟨S2176x1408, .bf16⟩
  | .local _ .vmem, ⟨3, _⟩ => ⟨S1x1024x1408, .f32⟩
  | .local _ .vmem, ⟨4, _⟩ => ⟨S1x1024x1408, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnInDwRefIdeal.lean ====
abbrev S2064x1024 : Shape := ⟨2, ![2064, 1024]⟩
abbrev S2064x5632 : Shape := ⟨2, ![2064, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x5632, .f32⟩
  | .hbm, ⟨2, _⟩ => ⟨S_, .f32⟩
  | .hbm, ⟨3, _⟩ => ⟨S1024x5632, .f32⟩
  | .hbm, ⟨4, _⟩ => ⟨S2064x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOut.lean ====
abbrev S2064x2816 : Shape := ⟨2, ![2064, 2816]⟩
abbrev S2816x1024 : Shape := ⟨2, ![2816, 1024]⟩
abbrev S_ : Shape := ⟨0, ![]⟩
abbrev S2176x2816 : Shape := ⟨2, ![2176, 2816]⟩
abbrev S2176x1024 : Shape := ⟨2, ![2176, 1024]⟩
abbrev S544x2816 : Shape := ⟨2, ![544, 2816]⟩
abbrev S544x1024 : Shape := ⟨2, ![544, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2064x2816, .f32⟩
  | .hbm, ⟨1, _⟩ => ⟨S2816x1024, .f32⟩
  | .hbm, ⟨2, _⟩ => ⟨S_, .i32⟩
  | .hbm, ⟨3, _⟩ => ⟨S_, .f32⟩
  | .hbm, ⟨4, _⟩ => ⟨S2176x2816, .f32⟩
  | .hbm, ⟨5, _⟩ => ⟨S2176x2816, .bf16⟩
  | .hbm, ⟨6, _⟩ => ⟨S2816x1024, .bf16⟩
  | .hbm, ⟨7, _⟩ => ⟨S2176x1024, .f32⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | _, _ => ⟨S2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnOutRefIdeal.lean ====
abbrev S2064x2816 : Shape := ⟨2, ![2064, 2816]⟩
abbrev S2816x1024 : Shape := ⟨2, ![2816, 1024]⟩
abbrev S2064x1024 : Shape := ⟨2, ![2064, 1024]⟩
abbrev S_ : Shape := ⟨0, ![]⟩
abbrev S2176x1024 : Shape := ⟨2, ![2176, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2064x2816, .f32⟩
  | .hbm, ⟨1, _⟩ => ⟨S2816x1024, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | _, _ => ⟨S2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== FfnOutDx.lean ====
abbrev S2064x1024 : Shape := ⟨2, ![2064, 1024]⟩
abbrev S2816x1024 : Shape := ⟨2, ![2816, 1024]⟩
abbrev S_ : Shape := ⟨0, ![]⟩
abbrev S2176x1024 : Shape := ⟨2, ![2176, 1024]⟩
abbrev S2176x2816 : Shape := ⟨2, ![2176, 2816]⟩
abbrev S544x1024 : Shape := ⟨2, ![544, 1024]⟩
abbrev S544x2816 : Shape := ⟨2, ![544, 2816]⟩

abbrev nBuf : Space → Nat
  | .hbm => 8
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S2816x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S2816x1024, .bf16⟩
  | .hbm, ⟨7, _⟩ => ⟨S2176x2816, .f32⟩
  | .local _ .vmem, ⟨0, _⟩ => ⟨S544x1024, .bf16⟩
  | .local _ .vmem, ⟨1, _⟩ => ⟨S544x1024, .bf16⟩
  | .local _ .vmem, ⟨2, _⟩ => ⟨S2816x1024, .bf16⟩
  | .local _ .vmem, ⟨3, _⟩ => ⟨S544x2816, .f32⟩
  | .local _ .vmem, ⟨4, _⟩ => ⟨S544x2816, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnOutDxRefIdeal.lean ====
abbrev S2064x1024 : Shape := ⟨2, ![2064, 1024]⟩
abbrev S2816x1024 : Shape := ⟨2, ![2816, 1024]⟩
abbrev S_ : Shape := ⟨0, ![]⟩
abbrev S2064x2816 : Shape := ⟨2, ![2064, 2816]⟩
abbrev S2176x2816 : Shape := ⟨2, ![2176, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2816x1024, .f32⟩
  | .hbm, ⟨2, _⟩ => ⟨S_, .f32⟩
  | .hbm, ⟨3, _⟩ => ⟨S2064x2816, .f32⟩
  | .hbm, ⟨4, _⟩ => ⟨S2064x1024, .f32⟩
  | .hbm, ⟨5, _⟩ => ⟨S2064x2816, .f32⟩
  | .hbm, ⟨6, _⟩ => ⟨S_, .i32⟩
  | .hbm, ⟨7, _⟩ => ⟨S_, .f32⟩
  | .hbm, ⟨8, _⟩ => ⟨S2176x2816, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== FfnOutDw.lean ====
abbrev S2064x2816 : Shape := ⟨2, ![2064, 2816]⟩
abbrev S2064x1024 : Shape := ⟨2, ![2064, 1024]⟩
abbrev S_ : Shape := ⟨0, ![]⟩
abbrev S2176x2816 : Shape := ⟨2, ![2176, 2816]⟩
abbrev S2176x1024 : Shape := ⟨2, ![2176, 1024]⟩
abbrev S2816x1024 : Shape := ⟨2, ![2816, 1024]⟩
abbrev S2176x256 : Shape := ⟨2, ![2176, 256]⟩
abbrev S256x1024 : Shape := ⟨2, ![256, 1024]⟩

abbrev nBuf : Space → Nat
  | .hbm => 11
  | .vmem => 5
  | .smem => 0
  | _ => 0

abbrev bufTy : (tb : Table) → Fin (tcTables nBuf tb) → BufTy
  | .hbm, ⟨0, _⟩ => ⟨S2064x2816, .f32⟩
  | .hbm, ⟨1, _⟩ => ⟨S2064x1024, .f32⟩
  | .hbm, ⟨2, _⟩ => ⟨S_, .i32⟩
  | .hbm, ⟨3, _⟩ => ⟨S_, .f32⟩
  | .hbm, ⟨4, _⟩ => ⟨S2176x2816, .f32⟩
  | .hbm, ⟨5, _⟩ => ⟨S2176x2816, .bf16⟩
  | .hbm, ⟨6, _⟩ => ⟨S_, .i32⟩
  | .hbm, ⟨7, _⟩ => ⟨S_, .f32⟩
  | .hbm, ⟨8, _⟩ => ⟨S2176x1024, .f32⟩
  | .hbm, ⟨9, _⟩ => ⟨S2176x1024, .bf16⟩
  | .hbm, ⟨10, _⟩ => ⟨S2816x1024, .f32⟩
  | .local _ .vmem, ⟨0, _⟩ => ⟨S2176x256, .bf16⟩
  | .local _ .vmem, ⟨1, _⟩ => ⟨S2176x256, .bf16⟩
  | .local _ .vmem, ⟨2, _⟩ => ⟨S2176x1024, .bf16⟩
  | .local _ .vmem, ⟨3, _⟩ => ⟨S256x1024, .f32⟩
  | .local _ .vmem, ⟨4, _⟩ => ⟨S256x1024, .f32⟩
  | _, _ => ⟨S2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnOutDwRefIdeal.lean ====
abbrev S2064x2816 : Shape := ⟨2, ![2064, 2816]⟩
abbrev S2064x1024 : Shape := ⟨2, ![2064, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2064x2816, .f32⟩
  | .hbm, ⟨1, _⟩ => ⟨S2064x1024, .f32⟩
  | .hbm, ⟨2, _⟩ => ⟨S_, .f32⟩
  | .hbm, ⟨3, _⟩ => ⟨S2816x1024, .f32⟩
  | .hbm, ⟨4, _⟩ => ⟨S2064x1024, .f32⟩
  | .hbm, ⟨5, _⟩ => ⟨S1024x2816, .f32⟩
  | .hbm, ⟨6, _⟩ => ⟨S2816x1024, .f32⟩
  | _, _ => ⟨S2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Mix.lean ====
abbrev S2064x1024 : Shape := ⟨2, ![2064, 1024]⟩
abbrev S1024x1024 : Shape := ⟨2, ![1024, 1024]⟩
abbrev S_ : Shape := ⟨0, ![]⟩
abbrev S2176x1024 : Shape := ⟨2, ![2176, 1024]⟩
abbrev S544x1024 : Shape := ⟨2, ![544, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S1024x1024, .bf16⟩
  | .hbm, ⟨7, _⟩ => ⟨S2176x1024, .f32⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .f32⟩
  | .local _ .vmem, ⟨4, _⟩ => ⟨S544x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixRefIdeal.lean ====
abbrev S2064x1024 : Shape := ⟨2, ![2064, 1024]⟩
abbrev S1024x1024 : Shape := ⟨2, ![1024, 1024]⟩
abbrev S_ : Shape := ⟨0, ![]⟩
abbrev S2176x1024 : Shape := ⟨2, ![2176, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== MixDx.lean ====
abbrev S2064x1024 : Shape := ⟨2, ![2064, 1024]⟩
abbrev S1024x1024 : Shape := ⟨2, ![1024, 1024]⟩
abbrev S_ : Shape := ⟨0, ![]⟩
abbrev S2176x1024 : Shape := ⟨2, ![2176, 1024]⟩
abbrev S544x1024 : Shape := ⟨2, ![544, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S1024x1024, .bf16⟩
  | .hbm, ⟨7, _⟩ => ⟨S2176x1024, .f32⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .f32⟩
  | .local _ .vmem, ⟨4, _⟩ => ⟨S544x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixDxRefIdeal.lean ====
abbrev S2064x1024 : Shape := ⟨2, ![2064, 1024]⟩
abbrev S1024x1024 : Shape := ⟨2, ![1024, 1024]⟩
abbrev S_ : Shape := ⟨0, ![]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S_, .f32⟩
  | .hbm, ⟨3, _⟩ => ⟨S2064x1024, .f32⟩
  | .hbm, ⟨4, _⟩ => ⟨S2064x1024, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== MixDw.lean ====
abbrev S2064x1024 : Shape := ⟨2, ![2064, 1024]⟩
abbrev S_ : Shape := ⟨0, ![]⟩
abbrev S2176x1024 : Shape := ⟨2, ![2176, 1024]⟩
abbrev S1024x1024 : Shape := ⟨2, ![1024, 1024]⟩
abbrev S2176x256 : Shape := ⟨2, ![2176, 256]⟩
abbrev S256x1024 : Shape := ⟨2, ![256, 1024]⟩

abbrev nBuf : Space → Nat
  | .hbm => 11
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S_, .i32⟩
  | .hbm, ⟨7, _⟩ => ⟨S_, .f32⟩
  | .hbm, ⟨8, _⟩ => ⟨S2176x1024, .f32⟩
  | .hbm, ⟨9, _⟩ => ⟨S2176x1024, .bf16⟩
  | .hbm, ⟨10, _⟩ => ⟨S1024x1024, .f32⟩
  | .local _ .vmem, ⟨0, _⟩ => ⟨S2176x256, .bf16⟩
  | .local _ .vmem, ⟨1, _⟩ => ⟨S2176x256, .bf16⟩
  | .local _ .vmem, ⟨2, _⟩ => ⟨S2176x1024, .bf16⟩
  | .local _ .vmem, ⟨3, _⟩ => ⟨S256x1024, .f32⟩
  | .local _ .vmem, ⟨4, _⟩ => ⟨S256x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MixDwRefIdeal.lean ====
abbrev S2064x1024 : Shape := ⟨2, ![2064, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S_, .f32⟩
  | .hbm, ⟨3, _⟩ => ⟨S1024x1024, .f32⟩
  | .hbm, ⟨4, _⟩ => ⟨S2064x1024, .f32⟩
  | .hbm, ⟨5, _⟩ => ⟨S1024x1024, .f32⟩
  | .hbm, ⟨6, _⟩ => ⟨S1024x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvOut.lean ====
abbrev S2064x1024 : Shape := ⟨2, ![2064, 1024]⟩
abbrev S1024x1024 : Shape := ⟨2, ![1024, 1024]⟩
abbrev S_ : Shape := ⟨0, ![]⟩
abbrev S2176x1024 : Shape := ⟨2, ![2176, 1024]⟩
abbrev S544x1024 : Shape := ⟨2, ![544, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S1024x1024, .bf16⟩
  | .hbm, ⟨7, _⟩ => ⟨S2176x1024, .f32⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .f32⟩
  | .local _ .vmem, ⟨4, _⟩ => ⟨S544x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvOutRefIdeal.lean ====
abbrev S2064x1024 : Shape := ⟨2, ![2064, 1024]⟩
abbrev S1024x1024 : Shape := ⟨2, ![1024, 1024]⟩
abbrev S_ : Shape := ⟨0, ![]⟩
abbrev S2176x1024 : Shape := ⟨2, ![2176, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== ConvOutDx.lean ====
abbrev S2064x1024 : Shape := ⟨2, ![2064, 1024]⟩
abbrev S1024x1024 : Shape := ⟨2, ![1024, 1024]⟩
abbrev S_ : Shape := ⟨0, ![]⟩
abbrev S2176x1024 : Shape := ⟨2, ![2176, 1024]⟩
abbrev S544x1024 : Shape := ⟨2, ![544, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S1024x1024, .bf16⟩
  | .hbm, ⟨7, _⟩ => ⟨S2176x1024, .f32⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .f32⟩
  | .local _ .vmem, ⟨4, _⟩ => ⟨S544x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvOutDxRefIdeal.lean ====
abbrev S2064x1024 : Shape := ⟨2, ![2064, 1024]⟩
abbrev S1024x1024 : Shape := ⟨2, ![1024, 1024]⟩
abbrev S_ : Shape := ⟨0, ![]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S_, .f32⟩
  | .hbm, ⟨3, _⟩ => ⟨S2064x1024, .f32⟩
  | .hbm, ⟨4, _⟩ => ⟨S2064x1024, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== ConvOutDw.lean ====
abbrev S2064x1024 : Shape := ⟨2, ![2064, 1024]⟩
abbrev S_ : Shape := ⟨0, ![]⟩
abbrev S2176x1024 : Shape := ⟨2, ![2176, 1024]⟩
abbrev S1024x1024 : Shape := ⟨2, ![1024, 1024]⟩
abbrev S2176x256 : Shape := ⟨2, ![2176, 256]⟩
abbrev S256x1024 : Shape := ⟨2, ![256, 1024]⟩

abbrev nBuf : Space → Nat
  | .hbm => 11
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S_, .i32⟩
  | .hbm, ⟨7, _⟩ => ⟨S_, .f32⟩
  | .hbm, ⟨8, _⟩ => ⟨S2176x1024, .f32⟩
  | .hbm, ⟨9, _⟩ => ⟨S2176x1024, .bf16⟩
  | .hbm, ⟨10, _⟩ => ⟨S1024x1024, .f32⟩
  | .local _ .vmem, ⟨0, _⟩ => ⟨S2176x256, .bf16⟩
  | .local _ .vmem, ⟨1, _⟩ => ⟨S2176x256, .bf16⟩
  | .local _ .vmem, ⟨2, _⟩ => ⟨S2176x1024, .bf16⟩
  | .local _ .vmem, ⟨3, _⟩ => ⟨S256x1024, .f32⟩
  | .local _ .vmem, ⟨4, _⟩ => ⟨S256x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ConvOutDwRefIdeal.lean ====
abbrev S2064x1024 : Shape := ⟨2, ![2064, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S_, .f32⟩
  | .hbm, ⟨3, _⟩ => ⟨S1024x1024, .f32⟩
  | .hbm, ⟨4, _⟩ => ⟨S2064x1024, .f32⟩
  | .hbm, ⟨5, _⟩ => ⟨S1024x1024, .f32⟩
  | .hbm, ⟨6, _⟩ => ⟨S1024x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnOut.lean ====
abbrev S2064x1024 : Shape := ⟨2, ![2064, 1024]⟩
abbrev S1024x1024 : Shape := ⟨2, ![1024, 1024]⟩
abbrev S_ : Shape := ⟨0, ![]⟩
abbrev S2304x1024 : Shape := ⟨2, ![2304, 1024]⟩
abbrev S2176x1024 : Shape := ⟨2, ![2176, 1024]⟩
abbrev S544x1024 : Shape := ⟨2, ![544, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S_, .i32⟩
  | .hbm, ⟨3, _⟩ => ⟨S_, .f32⟩
  | .hbm, ⟨4, _⟩ => ⟨S2304x1024, .f32⟩
  | .hbm, ⟨5, _⟩ => ⟨S2304x1024, .bf16⟩
  | .hbm, ⟨6, _⟩ => ⟨S1024x1024, .bf16⟩
  | .hbm, ⟨7, _⟩ => ⟨S2176x1024, .f32⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .f32⟩
  | .local _ .vmem, ⟨4, _⟩ => ⟨S544x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnOutRefIdeal.lean ====
abbrev S2064x1024 : Shape := ⟨2, ![2064, 1024]⟩
abbrev S1024x1024 : Shape := ⟨2, ![1024, 1024]⟩
abbrev S_ : Shape := ⟨0, ![]⟩
abbrev S2176x1024 : Shape := ⟨2, ![2176, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== AttnOutDx.lean ====
abbrev S2064x1024 : Shape := ⟨2, ![2064, 1024]⟩
abbrev S1024x1024 : Shape := ⟨2, ![1024, 1024]⟩
abbrev S_ : Shape := ⟨0, ![]⟩
abbrev S2176x1024 : Shape := ⟨2, ![2176, 1024]⟩
abbrev S2304x1024 : Shape := ⟨2, ![2304, 1024]⟩
abbrev S544x1024 : Shape := ⟨2, ![544, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .bf16⟩
  | .hbm, ⟨6, _⟩ => ⟨S1024x1024, .bf16⟩
  | .hbm, ⟨7, _⟩ => ⟨S_, .bf16⟩
  | .hbm, ⟨8, _⟩ => ⟨S2304x1024, .bf16⟩
  | .hbm, ⟨9, _⟩ => ⟨S2304x1024, .bf16⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x1024, .bf16⟩
  | .local _ .vmem, ⟨4, _⟩ => ⟨S544x1024, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnOutDxRefIdeal.lean ====
abbrev S2064x1024 : Shape := ⟨2, ![2064, 1024]⟩
abbrev S1024x1024 : Shape := ⟨2, ![1024, 1024]⟩
abbrev S_ : Shape := ⟨0, ![]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x1024, .f32⟩
  | .hbm, ⟨2, _⟩ => ⟨S_, .f32⟩
  | .hbm, ⟨3, _⟩ => ⟨S2064x1024, .f32⟩
  | .hbm, ⟨4, _⟩ => ⟨S2064x1024, .f32⟩
  | .hbm, ⟨5, _⟩ => ⟨S2064x1024, .f32⟩
  | .hbm, ⟨6, _⟩ => ⟨S2064x1024, .bf16⟩
  | .hbm, ⟨7, _⟩ => ⟨S_, .i32⟩
  | .hbm, ⟨8, _⟩ => ⟨S_, .bf16⟩
  | .hbm, ⟨9, _⟩ => ⟨S2304x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== AttnOutDw.lean ====
abbrev S2064x1024 : Shape := ⟨2, ![2064, 1024]⟩
abbrev S_ : Shape := ⟨0, ![]⟩
abbrev S2304x1024 : Shape := ⟨2, ![2304, 1024]⟩
abbrev S2176x1024 : Shape := ⟨2, ![2176, 1024]⟩
abbrev S1024x1024 : Shape := ⟨2, ![1024, 1024]⟩
abbrev S2176x256 : Shape := ⟨2, ![2176, 256]⟩
abbrev S256x1024 : Shape := ⟨2, ![256, 1024]⟩

abbrev nBuf : Space → Nat
  | .hbm => 11
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S_, .i32⟩
  | .hbm, ⟨3, _⟩ => ⟨S_, .f32⟩
  | .hbm, ⟨4, _⟩ => ⟨S2304x1024, .f32⟩
  | .hbm, ⟨5, _⟩ => ⟨S2304x1024, .bf16⟩
  | .hbm, ⟨6, _⟩ => ⟨S_, .i32⟩
  | .hbm, ⟨7, _⟩ => ⟨S_, .f32⟩
  | .hbm, ⟨8, _⟩ => ⟨S2176x1024, .f32⟩
  | .hbm, ⟨9, _⟩ => ⟨S2176x1024, .bf16⟩
  | .hbm, ⟨10, _⟩ => ⟨S1024x1024, .f32⟩
  | .local _ .vmem, ⟨0, _⟩ => ⟨S2176x256, .bf16⟩
  | .local _ .vmem, ⟨1, _⟩ => ⟨S2176x256, .bf16⟩
  | .local _ .vmem, ⟨2, _⟩ => ⟨S2176x1024, .bf16⟩
  | .local _ .vmem, ⟨3, _⟩ => ⟨S256x1024, .f32⟩
  | .local _ .vmem, ⟨4, _⟩ => ⟨S256x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== AttnOutDwRefIdeal.lean ====
abbrev S2064x1024 : Shape := ⟨2, ![2064, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S_, .f32⟩
  | .hbm, ⟨3, _⟩ => ⟨S1024x1024, .f32⟩
  | .hbm, ⟨4, _⟩ => ⟨S2064x1024, .f32⟩
  | .hbm, ⟨5, _⟩ => ⟨S1024x1024, .f32⟩
  | .hbm, ⟨6, _⟩ => ⟨S1024x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SwigluBwd.lean ====
abbrev S2064x5632 : Shape := ⟨2, ![2064, 5632]⟩
abbrev S2064x2816 : Shape := ⟨2, ![2064, 2816]⟩
abbrev S_ : Shape := ⟨0, ![]⟩
abbrev S2176x5632 : Shape := ⟨2, ![2176, 5632]⟩
abbrev S2176x2816 : Shape := ⟨2, ![2176, 2816]⟩
abbrev S128x2816 : Shape := ⟨2, ![128, 2816]⟩
abbrev S128x5632 : Shape := ⟨2, ![128, 5632]⟩

abbrev nBuf : Space → Nat
  | .hbm => 9
  | .vmem => 8
  | .smem => 0
  | _ => 0

abbrev bufTy : (tb : Table) → Fin (tcTables nBuf tb) → BufTy
  | .hbm, ⟨0, _⟩ => ⟨S2064x5632, .f32⟩
  | .hbm, ⟨1, _⟩ => ⟨S2064x2816, .f32⟩
  | .hbm, ⟨2, _⟩ => ⟨S_, .i32⟩
  | .hbm, ⟨3, _⟩ => ⟨S_, .f32⟩
  | .hbm, ⟨4, _⟩ => ⟨S2176x5632, .f32⟩
  | .hbm, ⟨5, _⟩ => ⟨S_, .i32⟩
  | .hbm, ⟨6, _⟩ => ⟨S_, .f32⟩
  | .hbm, ⟨7, _⟩ => ⟨S2176x2816, .f32⟩
  | .hbm, ⟨8, _⟩ => ⟨S2176x5632, .bf16⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x5632, .bf16⟩
  | .local _ .vmem, ⟨7, _⟩ => ⟨S128x5632, .bf16⟩
  | _, _ => ⟨S2064x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwigluBwdRefIdeal.lean ====
abbrev S2064x5632 : Shape := ⟨2, ![2064, 5632]⟩
abbrev S2064x2816 : Shape := ⟨2, ![2064, 2816]⟩
abbrev S_ : Shape := ⟨0, ![]⟩
abbrev S2176x5632 : Shape := ⟨2, ![2176, 5632]⟩

abbrev nBuf : Space → Nat
  | .hbm => 29
  | .vmem => 0
  | .smem => 0
  | _ => 0

abbrev bufTy : (tb : Table) → Fin (tcTables nBuf tb) → BufTy
  | .hbm, ⟨0, _⟩ => ⟨S2064x5632, .f32⟩
  | .hbm, ⟨1, _⟩ => ⟨S2064x2816, .f32⟩
  | .hbm, ⟨2, _⟩ => ⟨S2064x2816, .f32⟩
  | .hbm, ⟨3, _⟩ => ⟨S2064x2816, .f32⟩
  | .hbm, ⟨4, _⟩ => ⟨S2064x2816, .f32⟩
  | .hbm, ⟨5, _⟩ => ⟨S2064x2816, .f32⟩
  | .hbm, ⟨6, _⟩ => ⟨S_, .f32⟩
  | .hbm, ⟨7, _⟩ => ⟨S2064x2816, .f32⟩
  | .hbm, ⟨8, _⟩ => ⟨S2064x2816, .f32⟩
  | .hbm, ⟨9, _⟩ => ⟨S_, .f32⟩
  | .hbm, ⟨10, _⟩ => ⟨S2064x2816, .f32⟩
  | .hbm, ⟨11, _⟩ => ⟨S2064x2816, .f32⟩
  | .hbm, ⟨12, _⟩ => ⟨S_, .f32⟩
  | .hbm, ⟨13, _⟩ => ⟨S2064x2816, .f32⟩
  | .hbm, ⟨14, _⟩ => ⟨S2064x2816, .f32⟩
  | .hbm, ⟨15, _⟩ => ⟨S2064x2816, .f32⟩
  | .hbm, ⟨16, _⟩ => ⟨S2064x2816, .f32⟩
  | .hbm, ⟨17, _⟩ => ⟨S2064x2816, .f32⟩
  | .hbm, ⟨18, _⟩ => ⟨S2064x2816, .f32⟩
  | .hbm, ⟨19, _⟩ => ⟨S2064x2816, .f32⟩
  | .hbm, ⟨20, _⟩ => ⟨S2064x2816, .f32⟩
  | .hbm, ⟨21, _⟩ => ⟨S2064x2816, .f32⟩
  | .hbm, ⟨22, _⟩ => ⟨S2064x2816, .f32⟩
  | .hbm, ⟨23, _⟩ => ⟨S2064x2816, .f32⟩
  | .hbm, ⟨24, _⟩ => ⟨S2064x5632, .f32⟩
  | .hbm, ⟨25, _⟩ => ⟨S2064x5632, .bf16⟩
  | .hbm, ⟨26, _⟩ => ⟨S_, .i32⟩
  | .hbm, ⟨27, _⟩ => ⟨S_, .bf16⟩
  | .hbm, ⟨28, _⟩ => ⟨S2176x5632, .bf16⟩
  | _, _ => ⟨S2064x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_call2_v0 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== GluBwd.lean ====
abbrev S2064x7168 : Shape := ⟨2, ![2064, 7168]⟩
abbrev S2064x1024 : Shape := ⟨2, ![2064, 1024]⟩
abbrev S_ : Shape := ⟨0, ![]⟩
abbrev S2176x7168 : Shape := ⟨2, ![2176, 7168]⟩
abbrev S2176x1024 : Shape := ⟨2, ![2176, 1024]⟩
abbrev S2176x2048 : Shape := ⟨2, ![2176, 2048]⟩
abbrev S272x1024 : Shape := ⟨2, ![272, 1024]⟩
abbrev S272x2048 : Shape := ⟨2, ![272, 2048]⟩

abbrev nBuf : Space → Nat
  | .hbm => 9
  | .vmem => 8
  | .smem => 0
  | _ => 0

abbrev bufTy : (tb : Table) → Fin (tcTables nBuf tb) → BufTy
  | .hbm, ⟨0, _⟩ => ⟨S2064x7168, .f32⟩
  | .hbm, ⟨1, _⟩ => ⟨S2064x1024, .f32⟩
  | .hbm, ⟨2, _⟩ => ⟨S_, .i32⟩
  | .hbm, ⟨3, _⟩ => ⟨S_, .f32⟩
  | .hbm, ⟨4, _⟩ => ⟨S2176x7168, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S2176x2048, .bf16⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x2048, .bf16⟩
  | .local _ .vmem, ⟨7, _⟩ => ⟨S272x2048, .bf16⟩
  | _, _ => ⟨S2064x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluBwdRefIdeal.lean ====
abbrev S2064x7168 : Shape := ⟨2, ![2064, 7168]⟩
abbrev S2064x1024 : Shape := ⟨2, ![2064, 1024]⟩
abbrev S2064x2048 : Shape := ⟨2, ![2064, 2048]⟩
abbrev S_ : Shape := ⟨0, ![]⟩
abbrev S2176x2048 : Shape := ⟨2, ![2176, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2064x7168, .f32⟩
  | .hbm, ⟨1, _⟩ => ⟨S2064x1024, .f32⟩
  | .hbm, ⟨2, _⟩ => ⟨S2064x2048, .f32⟩
  | .hbm, ⟨3, _⟩ => ⟨S2064x1024, .f32⟩
  | .hbm, ⟨4, _⟩ => ⟨S2064x1024, .f32⟩
  | .hbm, ⟨5, _⟩ => ⟨S2064x1024, .f32⟩
  | .hbm, ⟨6, _⟩ => ⟨S2064x1024, .f32⟩
  | .hbm, ⟨7, _⟩ => ⟨S_, .f32⟩
  | .hbm, ⟨8, _⟩ => ⟨S2064x1024, .f32⟩
  | .hbm, ⟨9, _⟩ => ⟨S2064x1024, .f32⟩
  | .hbm, ⟨10, _⟩ => ⟨S_, .f32⟩
  | .hbm, ⟨11, _⟩ => ⟨S2064x1024, .f32⟩
  | .hbm, ⟨12, _⟩ => ⟨S2064x1024, .f32⟩
  | .hbm, ⟨13, _⟩ => ⟨S_, .f32⟩
  | .hbm, ⟨14, _⟩ => ⟨S2064x1024, .f32⟩
  | .hbm, ⟨15, _⟩ => ⟨S2064x1024, .f32⟩
  | .hbm, ⟨16, _⟩ => ⟨S2064x1024, .f32⟩
  | .hbm, ⟨17, _⟩ => ⟨S2064x1024, .f32⟩
  | .hbm, ⟨18, _⟩ => ⟨S2064x1024, .f32⟩
  | .hbm, ⟨19, _⟩ => ⟨S2064x1024, .f32⟩
  | .hbm, ⟨20, _⟩ => ⟨S2064x1024, .f32⟩
  | .hbm, ⟨21, _⟩ => ⟨S2064x2048, .f32⟩
  | .hbm, ⟨22, _⟩ => ⟨S2064x2048, .bf16⟩
  | .hbm, ⟨23, _⟩ => ⟨S_, .i32⟩
  | .hbm, ⟨24, _⟩ => ⟨S_, .bf16⟩
  | .hbm, ⟨25, _⟩ => ⟨S2176x2048, .bf16⟩
  | _, _ => ⟨S2064x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_call0_v0 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== GateBwd.lean ====
abbrev S2064x7168 : Shape := ⟨2, ![2064, 7168]⟩
abbrev S2064x1024 : Shape := ⟨2, ![2064, 1024]⟩
abbrev S1x2048 : Shape := ⟨2, ![1, 2048]⟩
abbrev S_ : Shape := ⟨0, ![]⟩
abbrev S2176x7168 : Shape := ⟨2, ![2176, 7168]⟩
abbrev S2176x1024 : Shape := ⟨2, ![2176, 1024]⟩
abbrev S1x1024 : Shape := ⟨2, ![1, 1024]⟩
abbrev S272x1024 : Shape := ⟨2, ![272, 1024]⟩
abbrev S1024 : Shape := ⟨1, ![1024]⟩

abbrev nBuf : Space → Nat
  | .hbm => 23
  | .vmem => 22
  | .smem => 0
  | _ => 0

abbrev bufTy : (tb : Table) → Fin (tcTables nBuf tb) → BufTy
  | .hbm, ⟨0, _⟩ => ⟨S2064x7168, .f32⟩
  | .hbm, ⟨1, _⟩ => ⟨S2064x1024, .f32⟩
  | .hbm, ⟨2, _⟩ => ⟨S2064x1024, .f32⟩
  | .hbm, ⟨3, _⟩ => ⟨S1x2048, .f32⟩
  | .hbm, ⟨4, _⟩ => ⟨S2064x1024, .f32⟩
  | .hbm, ⟨5, _⟩ => ⟨S_, .i32⟩
  | .hbm, ⟨6, _⟩ => ⟨S_, .f32⟩
  | .hbm, ⟨7, _⟩ => ⟨S2176x7168, .f32⟩
  | .hbm, ⟨8, _⟩ => ⟨S_, .i32⟩
  | .hbm, ⟨9, _⟩ => ⟨S_, .f32⟩
  | .hbm, ⟨10, _⟩ => ⟨S2176x1024, .f32⟩
  | .hbm, ⟨11, _⟩ => ⟨S_, .i32⟩
  | .hbm, ⟨12, _⟩ => ⟨S_, .f32⟩
  | .hbm, ⟨13, _⟩ => ⟨S2176x1024, .f32⟩
  | .hbm, ⟨14, _⟩ => ⟨S_, .i32⟩
  | .hbm, ⟨15, _⟩ => ⟨S_, .f32⟩
  | .hbm, ⟨16, _⟩ => ⟨S2176x1024, .f32⟩
  | .hbm, ⟨17, _⟩ => ⟨S2176x1024, .bf16⟩
  | .hbm, ⟨18, _⟩ => ⟨S2176x1024, .bf16⟩
  | .hbm, ⟨19, _⟩ => ⟨S2176x1024, .bf16⟩
  | .hbm, ⟨20, _⟩ => ⟨S2176x1024, .bf16⟩
  | .hbm, ⟨21, _⟩ => ⟨S1x1024, .f32⟩
  | .hbm, ⟨22, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S1x1024, .f32⟩
  | .local _ .vmem, ⟨9, _⟩ => ⟨S1x1024, .f32⟩
  | .local _ .vmem, ⟨10, _⟩ => ⟨S272x1024, .f32⟩
  | .local _ .vmem, ⟨11, _⟩ => ⟨S272x1024, .f32⟩
  | .local _ .vmem, ⟨12, _⟩ => ⟨S272x1024, .bf16⟩
  | .local _ .vmem, ⟨13, _⟩ => ⟨S272x1024, .bf16⟩
  | .local _ .vmem, ⟨14, _⟩ => ⟨S272x1024, .bf16⟩
  | .local _ .vmem, ⟨15, _⟩ => ⟨S272x1024, .bf16⟩
  | .local _ .vmem, ⟨16, _⟩ => ⟨S272x1024, .bf16⟩
  | .local _ .vmem, ⟨17, _⟩ => ⟨S272x1024, .bf16⟩
  | .local _ .vmem, ⟨18, _⟩ => ⟨S272x1024, .bf16⟩
  | .local _ .vmem, ⟨19, _⟩ => ⟨S272x1024, .bf16⟩
  | .local _ .vmem, ⟨20, _⟩ => ⟨S1x1024, .f32⟩
  | .local _ .vmem, ⟨21, _⟩ => ⟨S1x1024, .f32⟩
  | _, _ => ⟨S2064x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_c_2 : Ref sig .tc := ⟨.hbm, 14, rfl⟩
abbrev main_call3_v0 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S272x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GateBwdRefIdeal.lean ====
abbrev S2064x7168 : Shape := ⟨2, ![2064, 7168]⟩
abbrev S2064x1024 : Shape := ⟨2, ![2064, 1024]⟩
abbrev S1x2048 : Shape := ⟨2, ![1, 2048]⟩
abbrev S2064x2048 : Shape := ⟨2, ![2064, 2048]⟩
abbrev S2048 : Shape := ⟨1, ![2048]⟩
abbrev S_ : Shape := ⟨0, ![]⟩
abbrev S2176x1024 : Shape := ⟨2, ![2176, 1024]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2064x7168, .f32⟩
  | .hbm, ⟨1, _⟩ => ⟨S2064x1024, .f32⟩
  | .hbm, ⟨2, _⟩ => ⟨S2064x1024, .f32⟩
  | .hbm, ⟨3, _⟩ => ⟨S1x2048, .f32⟩
  | .hbm, ⟨4, _⟩ => ⟨S2064x1024, .f32⟩
  | .hbm, ⟨5, _⟩ => ⟨S2064x2048, .f32⟩
  | .hbm, ⟨6, _⟩ => ⟨S2048, .f32⟩
  | .hbm, ⟨7, _⟩ => ⟨S1x2048, .f32⟩
  | .hbm, ⟨8, _⟩ => ⟨S2064x2048, .f32⟩
  | .hbm, ⟨9, _⟩ => ⟨S2064x2048, .f32⟩
  | .hbm, ⟨10, _⟩ => ⟨S2064x2048, .f32⟩
  | .hbm, ⟨11, _⟩ => ⟨S2064x2048, .f32⟩
  | .hbm, ⟨12, _⟩ => ⟨S_, .f32⟩
  | .hbm, ⟨13, _⟩ => ⟨S2064x2048, .f32⟩
  | .hbm, ⟨14, _⟩ => ⟨S2064x2048, .f32⟩
  | .hbm, ⟨15, _⟩ => ⟨S_, .f32⟩
  | .hbm, ⟨16, _⟩ => ⟨S2064x2048, .f32⟩
  | .hbm, ⟨17, _⟩ => ⟨S2064x2048, .f32⟩
  | .hbm, ⟨18, _⟩ => ⟨S_, .f32⟩
  | .hbm, ⟨19, _⟩ => ⟨S2064x2048, .f32⟩
  | .hbm, ⟨20, _⟩ => ⟨S2064x2048, .f32⟩
  | .hbm, ⟨21, _⟩ => ⟨S2064x2048, .f32⟩
  | .hbm, ⟨22, _⟩ => ⟨S2064x1024, .f32⟩
  | .hbm, ⟨23, _⟩ => ⟨S2064x1024, .f32⟩
  | .hbm, ⟨24, _⟩ => ⟨S2064x1024, .f32⟩
  | .hbm, ⟨25, _⟩ => ⟨S2064x1024, .f32⟩
  | .hbm, ⟨26, _⟩ => ⟨S2064x1024, .f32⟩
  | .hbm, ⟨27, _⟩ => ⟨S2064x1024, .f32⟩
  | .hbm, ⟨28, _⟩ => ⟨S2064x1024, .f32⟩
  | .hbm, ⟨29, _⟩ => ⟨S2064x1024, .f32⟩
  | .hbm, ⟨30, _⟩ => ⟨S2064x1024, .f32⟩
  | .hbm, ⟨31, _⟩ => ⟨S2064x1024, .f32⟩
  | .hbm, ⟨32, _⟩ => ⟨S2064x1024, .f32⟩
  | .hbm, ⟨33, _⟩ => ⟨S2064x2048, .f32⟩
  | .hbm, ⟨34, _⟩ => ⟨S2064x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2064x1024, .f32⟩
  | .hbm, ⟨42, _⟩ => ⟨S2064x1024, .f32⟩
  | .hbm, ⟨43, _⟩ => ⟨S2064x1024, .bf16⟩
  | .hbm, ⟨44, _⟩ => ⟨S_, .i32⟩
  | .hbm, ⟨45, _⟩ => ⟨S_, .bf16⟩
  | .hbm, ⟨46, _⟩ => ⟨S2176x1024, .bf16⟩
  | .hbm, ⟨47, _⟩ => ⟨S2064x1024, .bf16⟩
  | .hbm, ⟨48, _⟩ => ⟨S_, .i32⟩
  | .hbm, ⟨49, _⟩ => ⟨S_, .bf16⟩
  | .hbm, ⟨50, _⟩ => ⟨S2176x1024, .bf16⟩
  | .hbm, ⟨51, _⟩ => ⟨S2064x1024, .bf16⟩
  | .hbm, ⟨52, _⟩ => ⟨S_, .i32⟩
  | .hbm, ⟨53, _⟩ => ⟨S_, .bf16⟩
  | .hbm, ⟨54, _⟩ => ⟨S2176x1024, .bf16⟩
  | .hbm, ⟨55, _⟩ => ⟨S2064x1024, .bf16⟩
  | .hbm, ⟨56, _⟩ => ⟨S_, .i32⟩
  | .hbm, ⟨57, _⟩ => ⟨S_, .bf16⟩
  | .hbm, ⟨58, _⟩ => ⟨S2176x1024, .bf16⟩
  | .hbm, ⟨59, _⟩ => ⟨S1x1024, .f32⟩
  | .hbm, ⟨60, _⟩ => ⟨S1x1024, .f32⟩
  | _, _ => ⟨S2064x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_call2_v0 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_call3_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== RmsBwd.lean ====
abbrev S2064x1024 : Shape := ⟨2, ![2064, 1024]⟩
abbrev S1x1024 : Shape := ⟨2, ![1, 1024]⟩
abbrev S_ : Shape := ⟨0, ![]⟩
abbrev S2176x1024 : Shape := ⟨2, ![2176, 1024]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 15
  | .vmem => 10
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S2064x1024, .f32⟩
  | .hbm, ⟨3, _⟩ => ⟨S2064x1024, .f32⟩
  | .hbm, ⟨4, _⟩ => ⟨S_, .i32⟩
  | .hbm, ⟨5, _⟩ => ⟨S_, .f32⟩
  | .hbm, ⟨6, _⟩ => ⟨S2176x1024, .f32⟩
  | .hbm, ⟨7, _⟩ => ⟨S_, .i32⟩
  | .hbm, ⟨8, _⟩ => ⟨S_, .f32⟩
  | .hbm, ⟨9, _⟩ => ⟨S2176x1024, .f32⟩
  | .hbm, ⟨10, _⟩ => ⟨S_, .i32⟩
  | .hbm, ⟨11, _⟩ => ⟨S_, .f32⟩
  | .hbm, ⟨12, _⟩ => ⟨S2176x1024, .f32⟩
  | .hbm, ⟨13, _⟩ => ⟨S2176x1024, .f32⟩
  | .hbm, ⟨14, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S1x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S2064x1024 : Shape := ⟨2, ![2064, 1024]⟩
abbrev S1x1024 : Shape := ⟨2, ![1, 1024]⟩
abbrev S1024 : Shape := ⟨1, ![1024]⟩
abbrev S_ : Shape := ⟨0, ![]⟩
abbrev S2064 : Shape := ⟨1, ![2064]⟩
abbrev S2064x1 : Shape := ⟨2, ![2064, 1]⟩
abbrev S2176x1024 : Shape := ⟨2, ![2176, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S2064x1024, .f32⟩
  | .hbm, ⟨3, _⟩ => ⟨S2064x1024, .f32⟩
  | .hbm, ⟨4, _⟩ => ⟨S1024, .f32⟩
  | .hbm, ⟨5, _⟩ => ⟨S2064x1024, .f32⟩
  | .hbm, ⟨6, _⟩ => ⟨S_, .f32⟩
  | .hbm, ⟨7, _⟩ => ⟨S2064, .f32⟩
  | .hbm, ⟨8, _⟩ => ⟨S2064x1, .f32⟩
  | .hbm, ⟨9, _⟩ => ⟨S_, .f32⟩
  | .hbm, ⟨10, _⟩ => ⟨S2064x1, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S_, .f32⟩
  | .hbm, ⟨18, _⟩ => ⟨S2064x1, .f32⟩
  | .hbm, ⟨19, _⟩ => ⟨S2064x1, .f32⟩
  | .hbm, ⟨20, _⟩ => ⟨S2064x1024, .f32⟩
  | .hbm, ⟨21, _⟩ => ⟨S2064x1024, .f32⟩
  | .hbm, ⟨22, _⟩ => ⟨S1x1024, .f32⟩
  | .hbm, ⟨23, _⟩ => ⟨S2064x1024, .f32⟩
  | .hbm, ⟨24, _⟩ => ⟨S2064x1024, .f32⟩
  | .hbm, ⟨25, _⟩ => ⟨S2064x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2064x1024, .f32⟩
  | .hbm, ⟨30, _⟩ => ⟨S2064x1024, .f32⟩
  | .hbm, ⟨31, _⟩ => ⟨S_, .f32⟩
  | .hbm, ⟨32, _⟩ => ⟨S1024, .f32⟩
  | .hbm, ⟨33, _⟩ => ⟨S2064x1024, .f32⟩
  | .hbm, ⟨34, _⟩ => ⟨S_, .f32⟩
  | .hbm, ⟨35, _⟩ => ⟨S2064, .f32⟩
  | .hbm, ⟨36, _⟩ => ⟨S2064x1, .f32⟩
  | .hbm, ⟨37, _⟩ => ⟨S2064x1024, .f32⟩
  | .hbm, ⟨38, _⟩ => ⟨S2064x1024, .f32⟩
  | .hbm, ⟨39, _⟩ => ⟨S2064x1024, .f32⟩
  | .hbm, ⟨40, _⟩ => ⟨S2064x1, .f32⟩
  | .hbm, ⟨41, _⟩ => ⟨S_, .f32⟩
  | .hbm, ⟨42, _⟩ => ⟨S2064x1, .f32⟩
  | .hbm, ⟨43, _⟩ => ⟨S2064x1, .f32⟩
  | .hbm, ⟨44, _⟩ => ⟨S_, .f32⟩
  | .hbm, ⟨45, _⟩ => ⟨S2064, .f32⟩
  | .hbm, ⟨46, _⟩ => ⟨S2064x1024, .f32⟩
  | .hbm, ⟨47, _⟩ => ⟨S2064x1024, .f32⟩
  | .hbm, ⟨48, _⟩ => ⟨S2064x1024, .f32⟩
  | .hbm, ⟨49, _⟩ => ⟨S2064x1024, .f32⟩
  | .hbm, ⟨50, _⟩ => ⟨S2064x1024, .f32⟩
  | .hbm, ⟨51, _⟩ => ⟨S1x1024, .f32⟩
  | .hbm, ⟨52, _⟩ => ⟨S_, .i32⟩
  | .hbm, ⟨53, _⟩ => ⟨S_, .f32⟩
  | .hbm, ⟨54, _⟩ => ⟨S2176x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_call0_v0 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== ResBwd.lean ====
abbrev S2064x1024 : Shape := ⟨2, ![2064, 1024]⟩
abbrev S1x1024 : Shape := ⟨2, ![1, 1024]⟩
abbrev S_ : Shape := ⟨0, ![]⟩
abbrev S2176x1024 : Shape := ⟨2, ![2176, 1024]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 15
  | .vmem => 10
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S1x1024, .f32⟩
  | .hbm, ⟨3, _⟩ => ⟨S2064x1024, .f32⟩
  | .hbm, ⟨4, _⟩ => ⟨S_, .i32⟩
  | .hbm, ⟨5, _⟩ => ⟨S_, .f32⟩
  | .hbm, ⟨6, _⟩ => ⟨S2176x1024, .f32⟩
  | .hbm, ⟨7, _⟩ => ⟨S_, .i32⟩
  | .hbm, ⟨8, _⟩ => ⟨S_, .f32⟩
  | .hbm, ⟨9, _⟩ => ⟨S2176x1024, .f32⟩
  | .hbm, ⟨10, _⟩ => ⟨S_, .i32⟩
  | .hbm, ⟨11, _⟩ => ⟨S_, .f32⟩
  | .hbm, ⟨12, _⟩ => ⟨S2176x1024, .f32⟩
  | .hbm, ⟨13, _⟩ => ⟨S2176x1024, .bf16⟩
  | .hbm, ⟨14, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S1x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .bf16⟩
  | .local _ .vmem, ⟨8, _⟩ => ⟨S272x1024, .bf16⟩
  | .local _ .vmem, ⟨9, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ResBwdRefIdeal.lean ====
abbrev S2064x1024 : Shape := ⟨2, ![2064, 1024]⟩
abbrev S1x1024 : Shape := ⟨2, ![1, 1024]⟩
abbrev S1024 : Shape := ⟨1, ![1024]⟩
abbrev S_ : Shape := ⟨0, ![]⟩
abbrev S2064 : Shape := ⟨1, ![2064]⟩
abbrev S2064x1 : Shape := ⟨2, ![2064, 1]⟩
abbrev S2176x1024 : Shape := ⟨2, ![2176, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S1x1024, .f32⟩
  | .hbm, ⟨3, _⟩ => ⟨S2064x1024, .f32⟩
  | .hbm, ⟨4, _⟩ => ⟨S1024, .f32⟩
  | .hbm, ⟨5, _⟩ => ⟨S2064x1024, .f32⟩
  | .hbm, ⟨6, _⟩ => ⟨S_, .f32⟩
  | .hbm, ⟨7, _⟩ => ⟨S2064, .f32⟩
  | .hbm, ⟨8, _⟩ => ⟨S2064x1, .f32⟩
  | .hbm, ⟨9, _⟩ => ⟨S_, .f32⟩
  | .hbm, ⟨10, _⟩ => ⟨S2064x1, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S_, .f32⟩
  | .hbm, ⟨18, _⟩ => ⟨S2064x1, .f32⟩
  | .hbm, ⟨19, _⟩ => ⟨S2064x1, .f32⟩
  | .hbm, ⟨20, _⟩ => ⟨S2064x1024, .f32⟩
  | .hbm, ⟨21, _⟩ => ⟨S2064x1024, .f32⟩
  | .hbm, ⟨22, _⟩ => ⟨S1x1024, .f32⟩
  | .hbm, ⟨23, _⟩ => ⟨S2064x1024, .f32⟩
  | .hbm, ⟨24, _⟩ => ⟨S2064x1024, .f32⟩
  | .hbm, ⟨25, _⟩ => ⟨S2064x1024, .f32⟩
  | .hbm, ⟨26, _⟩ => ⟨S2064x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2064x1024, .f32⟩
  | .hbm, ⟨31, _⟩ => ⟨S2064x1024, .f32⟩
  | .hbm, ⟨32, _⟩ => ⟨S_, .f32⟩
  | .hbm, ⟨33, _⟩ => ⟨S1024, .f32⟩
  | .hbm, ⟨34, _⟩ => ⟨S2064x1024, .f32⟩
  | .hbm, ⟨35, _⟩ => ⟨S_, .f32⟩
  | .hbm, ⟨36, _⟩ => ⟨S2064, .f32⟩
  | .hbm, ⟨37, _⟩ => ⟨S2064x1, .f32⟩
  | .hbm, ⟨38, _⟩ => ⟨S2064x1024, .f32⟩
  | .hbm, ⟨39, _⟩ => ⟨S2064x1024, .f32⟩
  | .hbm, ⟨40, _⟩ => ⟨S2064x1, .f32⟩
  | .hbm, ⟨41, _⟩ => ⟨S_, .f32⟩
  | .hbm, ⟨42, _⟩ => ⟨S2064x1, .f32⟩
  | .hbm, ⟨43, _⟩ => ⟨S2064x1, .f32⟩
  | .hbm, ⟨44, _⟩ => ⟨S_, .f32⟩
  | .hbm, ⟨45, _⟩ => ⟨S2064, .f32⟩
  | .hbm, ⟨46, _⟩ => ⟨S2064x1024, .f32⟩
  | .hbm, ⟨47, _⟩ => ⟨S2064x1024, .f32⟩
  | .hbm, ⟨48, _⟩ => ⟨S2064x1024, .f32⟩
  | .hbm, ⟨49, _⟩ => ⟨S2064x1024, .f32⟩
  | .hbm, ⟨50, _⟩ => ⟨S2064x1024, .f32⟩
  | .hbm, ⟨51, _⟩ => ⟨S1x1024, .f32⟩
  | .hbm, ⟨52, _⟩ => ⟨S2064x1024, .bf16⟩
  | .hbm, ⟨53, _⟩ => ⟨S_, .i32⟩
  | .hbm, ⟨54, _⟩ => ⟨S_, .bf16⟩
  | .hbm, ⟨55, _⟩ => ⟨S2176x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_call0_v0 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== PostBwd.lean ====
abbrev S2064x1024 : Shape := ⟨2, ![2064, 1024]⟩
abbrev S1x1024 : Shape := ⟨2, ![1, 1024]⟩
abbrev S_ : Shape := ⟨0, ![]⟩
abbrev S2176x1024 : Shape := ⟨2, ![2176, 1024]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 15
  | .vmem => 12
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2064x1024, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S_, .i32⟩
  | .hbm, ⟨9, _⟩ => ⟨S_, .f32⟩
  | .hbm, ⟨10, _⟩ => ⟨S2176x1024, .f32⟩
  | .hbm, ⟨11, _⟩ => ⟨S2176x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PostBwdRefIdeal.lean ====
abbrev S2064x1024 : Shape := ⟨2, ![2064, 1024]⟩
abbrev S1x1024 : Shape := ⟨2, ![1, 1024]⟩
abbrev S1024 : Shape := ⟨1, ![1024]⟩
abbrev S_ : Shape := ⟨0, ![]⟩
abbrev S2064 : Shape := ⟨1, ![2064]⟩
abbrev S2064x1 : Shape := ⟨2, ![2064, 1]⟩
abbrev S2176x1024 : Shape := ⟨2, ![2176, 1024]⟩

abbrev nBuf : Space → Nat
  | .hbm => 111
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2064x1024, .f32⟩
  | .hbm, ⟨5, _⟩ => ⟨S1024, .f32⟩
  | .hbm, ⟨6, _⟩ => ⟨S1x1024, .f32⟩
  | .hbm, ⟨7, _⟩ => ⟨S2064x1024, .f32⟩
  | .hbm, ⟨8, _⟩ => ⟨S2064x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S2064, .f32⟩
  | .hbm, ⟨13, _⟩ => ⟨S2064x1, .f32⟩
  | .hbm, ⟨14, _⟩ => ⟨S_, .f32⟩
  | .hbm, ⟨15, _⟩ => ⟨S2064x1, .f32⟩
  | .hbm, ⟨16, _⟩ => ⟨S2064x1, .f32⟩
  | .hbm, ⟨17, _⟩ => ⟨S2064x1024, .f32⟩
  | .hbm, ⟨18, _⟩ => ⟨S2064x1024, .f32⟩
  | .hbm, ⟨19, _⟩ => ⟨S2064x1024, .f32⟩
  | .hbm, ⟨20, _⟩ => ⟨S_, .f32⟩
  | .hbm, ⟨21, _⟩ => ⟨S2064, .f32⟩
  | .hbm, ⟨22, _⟩ => ⟨S2064x1, .f32⟩
  | .hbm, ⟨23, _⟩ => ⟨S_, .f32⟩
  | .hbm, ⟨24, _⟩ => ⟨S2064x1, .f32⟩
  | .hbm, ⟨25, _⟩ => ⟨S2064x1, .f32⟩
  | .hbm, ⟨26, _⟩ => ⟨S_, .f32⟩
  | .hbm, ⟨27, _⟩ => ⟨S2064x1, .f32⟩
  | .hbm, ⟨28, _⟩ => ⟨S2064x1, .f32⟩
  | .hbm, ⟨29, _⟩ => ⟨S2064x1, .f32⟩
  | .hbm, ⟨30, _⟩ => ⟨S2064x1, .f32⟩
  | .hbm, ⟨31, _⟩ => ⟨S_, .f32⟩
  | .hbm, ⟨32, _⟩ => ⟨S2064x1, .f32⟩
  | .hbm, ⟨33, _⟩ => ⟨S2064x1, .f32⟩
  | .hbm, ⟨34, _⟩ => ⟨S2064x1024, .f32⟩
  | .hbm, ⟨35, _⟩ => ⟨S2064x1024, .f32⟩
  | .hbm, ⟨36, _⟩ => ⟨S1x1024, .f32⟩
  | .hbm, ⟨37, _⟩ => ⟨S2064x1024, .f32⟩
  | .hbm, ⟨38, _⟩ => ⟨S2064x1024, .f32⟩
  | .hbm, ⟨39, _⟩ => ⟨S1x1024, .f32⟩
  | .hbm, ⟨40, _⟩ => ⟨S2064x1024, .f32⟩
  | .hbm, ⟨41, _⟩ => ⟨S2064x1024, .f32⟩
  | .hbm, ⟨42, _⟩ => ⟨S2064x1024, .f32⟩
  | .hbm, ⟨43, _⟩ => ⟨S2064x1024, .f32⟩
  | .hbm, ⟨44, _⟩ => ⟨S_, .f32⟩
  | .hbm, ⟨45, _⟩ => ⟨S2064x1024, .f32⟩
  | .hbm, ⟨46, _⟩ => ⟨S2064x1024, .f32⟩
  | .hbm, ⟨47, _⟩ => ⟨S_, .f32⟩
  | .hbm, ⟨48, _⟩ => ⟨S2064x1024, .f32⟩
  | .hbm, ⟨49, _⟩ => ⟨S2064x1024, .f32⟩
  | .hbm, ⟨50, _⟩ => ⟨S_, .f32⟩
  | .hbm, ⟨51, _⟩ => ⟨S2064x1024, .f32⟩
  | .hbm, ⟨52, _⟩ => ⟨S2064x1024, .f32⟩
  | .hbm, ⟨53, _⟩ => ⟨S2064x1024, .f32⟩
  | .hbm, ⟨54, _⟩ => ⟨S2064x1024, .f32⟩
  | .hbm, ⟨55, _⟩ => ⟨S2064x1024, .f32⟩
  | .hbm, ⟨56, _⟩ => ⟨S2064x1024, .f32⟩
  | .hbm, ⟨57, _⟩ => ⟨S2064x1024, .f32⟩
  | .hbm, ⟨58, _⟩ => ⟨S2064x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S2064x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2064x1024, .f32⟩
  | .hbm, ⟨69, _⟩ => ⟨S2064x1024, .f32⟩
  | .hbm, ⟨70, _⟩ => ⟨S_, .f32⟩
  | .hbm, ⟨71, _⟩ => ⟨S1024, .f32⟩
  | .hbm, ⟨72, _⟩ => ⟨S2064x1024, .f32⟩
  | .hbm, ⟨73, _⟩ => ⟨S_, .f32⟩
  | .hbm, ⟨74, _⟩ => ⟨S2064, .f32⟩
  | .hbm, ⟨75, _⟩ => ⟨S2064x1, .f32⟩
  | .hbm, ⟨76, _⟩ => ⟨S2064x1024, .f32⟩
  | .hbm, ⟨77, _⟩ => ⟨S2064x1024, .f32⟩
  | .hbm, ⟨78, _⟩ => ⟨S2064x1, .f32⟩
  | .hbm, ⟨79, _⟩ => ⟨S_, .f32⟩
  | .hbm, ⟨80, _⟩ => ⟨S2064x1, .f32⟩
  | .hbm, ⟨81, _⟩ => ⟨S2064x1, .f32⟩
  | .hbm, ⟨82, _⟩ => ⟨S_, .f32⟩
  | .hbm, ⟨83, _⟩ => ⟨S2064, .f32⟩
  | .hbm, ⟨84, _⟩ => ⟨S2064x1024, .f32⟩
  | .hbm, ⟨85, _⟩ => ⟨S2064x1024, .f32⟩
  | .hbm, ⟨86, _⟩ => ⟨S2064x1024, .f32⟩
  | .hbm, ⟨87, _⟩ => ⟨S2064x1024, .f32⟩
  | .hbm, ⟨88, _⟩ => ⟨S2064x1024, .f32⟩
  | .hbm, ⟨89, _⟩ => ⟨S2064x1024, .f32⟩
  | .hbm, ⟨90, _⟩ => ⟨S_, .f32⟩
  | .hbm, ⟨91, _⟩ => ⟨S2064, .f32⟩
  | .hbm, ⟨92, _⟩ => ⟨S2064x1, .f32⟩
  | .hbm, ⟨93, _⟩ => ⟨S_, .f32⟩
  | .hbm, ⟨94, _⟩ => ⟨S2064x1, .f32⟩
  | .hbm, ⟨95, _⟩ => ⟨S2064x1, .f32⟩
  | .hbm, ⟨96, _⟩ => ⟨S_, .f32⟩
  | .hbm, ⟨97, _⟩ => ⟨S2064, .f32⟩
  | .hbm, ⟨98, _⟩ => ⟨S2064x1024, .f32⟩
  | .hbm, ⟨99, _⟩ => ⟨S2064x1024, .f32⟩
  | .hbm, ⟨100, _⟩ => ⟨S1x1024, .f32⟩
  | .hbm, ⟨101, _⟩ => ⟨S1x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S_, .i32⟩
  | .hbm, ⟨109, _⟩ => ⟨S_, .f32⟩
  | .hbm, ⟨110, _⟩ => ⟨S2176x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_cst_16 : Ref sig .tc := ⟨.hbm, 105, rfl⟩
abbrev main_v68 : Ref sig .tc := ⟨.hbm, 106, rfl⟩
abbrev main_v69 : Ref sig .tc := ⟨.hbm, 107, rfl⟩
abbrev main_c : Ref sig .tc := ⟨.hbm, 108, rfl⟩
abbrev main_call2_v0 : Ref sig .tc := ⟨.hbm, 109, rfl⟩
abbrev main_v70 : Ref sig .tc := ⟨.hbm, 110, rfl⟩

abbrev nD : Nat := 1
abbrev τ : Topo := Topo.v7x

variable {F : FTy → Type} [FloatOps F]
-- ==== ConvDx.lean ====
abbrev S2064x1024 : Shape := ⟨2, ![2064, 1024]⟩
abbrev S31x1024 : Shape := ⟨2, ![31, 1024]⟩
abbrev S_ : Shape := ⟨0, ![]⟩
abbrev S2176x1024 : Shape := ⟨2, ![2176, 1024]⟩
abbrev S2176x128 : Shape := ⟨2, ![2176, 128]⟩
abbrev S31x128 : Shape := ⟨2, ![31, 128]⟩
abbrev S2216x128 : Shape := ⟨2, ![2216, 128]⟩
abbrev S32x128 : Shape := ⟨2, ![32, 128]⟩
abbrev S8x128 : Shape := ⟨2, ![8, 128]⟩
abbrev S168x128 : Shape := ⟨2, ![168, 128]⟩
abbrev S128x128 : Shape := ⟨2, ![128, 128]⟩
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S2064x1024, .f32⟩
  | .hbm, ⟨1, _⟩ => ⟨S31x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S31x1024, .f32⟩
  | .hbm, ⟨6, _⟩ => ⟨S2176x1024, .f32⟩
  | .local _ .vmem, ⟨0, _⟩ => ⟨S2176x128, .f32⟩
  | .local _ .vmem, ⟨1, _⟩ => ⟨S2176x128, .f32⟩
  | .local _ .vmem, ⟨2, _⟩ => ⟨S31x128, .f32⟩
  | .local _ .vmem, ⟨3, _⟩ => ⟨S31x128, .f32⟩
  | .local _ .vmem, ⟨4, _⟩ => ⟨S2176x128, .f32⟩
  | .local _ .vmem, ⟨5, _⟩ => ⟨S2176x128, .f32⟩
  | .local _ .vmem, ⟨6, _⟩ => ⟨S2216x128, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c17_i32 : BitVec 32 := 17#32
  let v13 : BitVec 32 := Scalar.addi c0_i32 c17_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  v14
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v16 : Index := Scalar.indexCast v15
  let c0_7 : Index := 0#32
  ![v16.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v212 : Index := Scalar.indexCast v15
  let c0_41 : Index := 0#32
  ![v212.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvDxRefIdeal.lean ====
abbrev S2064x1024 : Shape := ⟨2, ![2064, 1024]⟩
abbrev S31x1024 : Shape := ⟨2, ![31, 1024]⟩
abbrev S_ : Shape := ⟨0, ![]⟩
abbrev S30x1024 : Shape := ⟨2, ![30, 1024]⟩
abbrev S2094x1024 : Shape := ⟨2, ![2094, 1024]⟩
abbrev S1x1024 : Shape := ⟨2, ![1, 1024]⟩
abbrev S1024 : Shape := ⟨1, ![1024]⟩
abbrev S2176x1024 : Shape := ⟨2, ![2176, 1024]⟩

abbrev nBuf : Space → Nat
  | .hbm => 389
  | .vmem => 0
  | .smem => 0
  | _ => 0

abbrev hbmTy0_0 (i : Nat) : BufTy := match i % 128 with
  | 0 => ⟨S2064x1024, .f32⟩
  | 1 => ⟨S31x1024, .f32⟩
  | 2 => ⟨S_, .f32⟩
  | 3 => ⟨S2064x1024, .f32⟩
  | 4 => ⟨S_, .f32⟩
  | 5 => ⟨S30x1024, .f32⟩
  | 6 => ⟨S2094x1024, .f32⟩
  | 7 => ⟨S_, .f32⟩
  | 8 => ⟨S30x1024, .f32⟩
  | 9 => ⟨S2064x1024, .f32⟩
  | 10 => ⟨S1x1024, .f32⟩
  | 11 => ⟨S1024, .f32⟩
  | 12 => ⟨S1x1024, .f32⟩
  | 13 => ⟨S2064x1024, .f32⟩
  | 14 => ⟨S2064x1024, .f32⟩
  | 15 => ⟨S_, .f32⟩
  | 16 => ⟨S2064x1024, .f32⟩
  | 17 => ⟨S2064x1024, .f32⟩
  | 18 => ⟨S2064x1024, .f32⟩
  | 19 => ⟨S1x1024, .f32⟩
  | 20 => ⟨S1024, .f32⟩
  | 21 => ⟨S1x1024, .f32⟩
  | 22 => ⟨S2064x1024, .f32⟩
  | 23 => ⟨S2064x1024, .f32⟩
  | 24 => ⟨S2064x1024, .f32⟩
  | 25 => ⟨S2064x1024, .f32⟩
  | 26 => ⟨S1x1024, .f32⟩
  | 27 => ⟨S1024, .f32⟩
  | 28 => ⟨S1x1024, .f32⟩
  | 29 => ⟨S2064x1024, .f32⟩
  | 30 => ⟨S2064x1024, .f32⟩
  | 31 => ⟨S2064x1024, .f32⟩
  | 32 => ⟨S2064x1024, .f32⟩
  | 33 => ⟨S1x1024, .f32⟩
  | 34 => ⟨S1024, .f32⟩
  | 35 => ⟨S1x1024, .f32⟩
  | 36 => ⟨S2064x1024, .f32⟩
  | 37 => ⟨S2064x1024, .f32⟩
  | 38 => ⟨S2064x1024, .f32⟩
  | 39 => ⟨S2064x1024, .f32⟩
  | 40 => ⟨S1x1024, .f32⟩
  | 41 => ⟨S1024, .f32⟩
  | 42 => ⟨S1x1024, .f32⟩
  | 43 => ⟨S2064x1024, .f32⟩
  | 44 => ⟨S2064x1024, .f32⟩
  | 45 => ⟨S2064x1024, .f32⟩
  | 46 => ⟨S2064x1024, .f32⟩
  | 47 => ⟨S1x1024, .f32⟩
  | 48 => ⟨S1024, .f32⟩
  | 49 => ⟨S1x1024, .f32⟩
  | 50 => ⟨S2064x1024, .f32⟩
  | 51 => ⟨S2064x1024, .f32⟩
  | 52 => ⟨S2064x1024, .f32⟩
  | 53 => ⟨S2064x1024, .f32⟩
  | 54 => ⟨S1x1024, .f32⟩
  | 55 => ⟨S1024, .f32⟩
  | 56 => ⟨S1x1024, .f32⟩
  | 57 => ⟨S2064x1024, .f32⟩
  | 58 => ⟨S2064x1024, .f32⟩
  | 59 => ⟨S2064x1024, .f32⟩
  | 60 => ⟨S2064x1024, .f32⟩
  | 61 => ⟨S1x1024, .f32⟩
  | 62 => ⟨S1024, .f32⟩
  | 63 => ⟨S1x1024, .f32⟩
  | 64 => ⟨S2064x1024, .f32⟩
  | 65 => ⟨S2064x1024, .f32⟩
  | 66 => ⟨S2064x1024, .f32⟩
  | 67 => ⟨S2064x1024, .f32⟩
  | 68 => ⟨S1x1024, .f32⟩
  | 69 => ⟨S1024, .f32⟩
  | 70 => ⟨S1x1024, .f32⟩
  | 71 => ⟨S2064x1024, .f32⟩
  | 72 => ⟨S2064x1024, .f32⟩
  | 73 => ⟨S2064x1024, .f32⟩
  | 74 => ⟨S2064x1024, .f32⟩
  | 75 => ⟨S1x1024, .f32⟩
  | 76 => ⟨S1024, .f32⟩
  | 77 => ⟨S1x1024, .f32⟩
  | 78 => ⟨S2064x1024, .f32⟩
  | 79 => ⟨S2064x1024, .f32⟩
  | 80 => ⟨S2064x1024, .f32⟩
  | 81 => ⟨S2064x1024, .f32⟩
  | 82 => ⟨S1x1024, .f32⟩
  | 83 => ⟨S1024, .f32⟩
  | 84 => ⟨S1x1024, .f32⟩
  | 85 => ⟨S2064x1024, .f32⟩
  | 86 => ⟨S2064x1024, .f32⟩
  | 87 => ⟨S2064x1024, .f32⟩
  | 88 => ⟨S2064x1024, .f32⟩
  | 89 => ⟨S1x1024, .f32⟩
  | 90 => ⟨S1024, .f32⟩
  | 91 => ⟨S1x1024, .f32⟩
  | 92 => ⟨S2064x1024, .f32⟩
  | 93 => ⟨S2064x1024, .f32⟩
  | 94 => ⟨S2064x1024, .f32⟩
  | 95 => ⟨S2064x1024, .f32⟩
  | 96 => ⟨S1x1024, .f32⟩
  | 97 => ⟨S1024, .f32⟩
  | 98 => ⟨S1x1024, .f32⟩
  | 99 => ⟨S2064x1024, .f32⟩
  | 100 => ⟨S2064x1024, .f32⟩
  | 101 => ⟨S2064x1024, .f32⟩
  | 102 => ⟨S2064x1024, .f32⟩
  | 103 => ⟨S1x1024, .f32⟩
  | 104 => ⟨S1024, .f32⟩
  | 105 => ⟨S1x1024, .f32⟩
  | 106 => ⟨S2064x1024, .f32⟩
  | 107 => ⟨S2064x1024, .f32⟩
  | 108 => ⟨S2064x1024, .f32⟩
  | 109 => ⟨S2064x1024, .f32⟩
  | 110 => ⟨S1x1024, .f32⟩
  | 111 => ⟨S1024, .f32⟩
  | 112 => ⟨S1x1024, .f32⟩
  | 113 => ⟨S2064x1024, .f32⟩
  | 114 => ⟨S2064x1024, .f32⟩
  | 115 => ⟨S2064x1024, .f32⟩
  | 116 => ⟨S2064x1024, .f32⟩
  | 117 => ⟨S1x1024, .f32⟩
  | 118 => ⟨S1024, .f32⟩
  | 119 => ⟨S1x1024, .f32⟩
  | 120 => ⟨S2064x1024, .f32⟩
  | 121 => ⟨S2064x1024, .f32⟩
  | 122 => ⟨S2064x1024, .f32⟩
  | 123 => ⟨S2064x1024, .f32⟩
  | 124 => ⟨S1x1024, .f32⟩
  | 125 => ⟨S1024, .f32⟩
  | 126 => ⟨S1x1024, .f32⟩
  | 127 => ⟨S2064x1024, .f32⟩
  | _ => ⟨S2064x1024, .f32⟩

abbrev hbmTy0_1 (i : Nat) : BufTy := match i % 128 with
  | 0 => ⟨S2064x1024, .f32⟩
  | 1 => ⟨S2064x1024, .f32⟩
  | 2 => ⟨S2064x1024, .f32⟩
  | 3 => ⟨S1x1024, .f32⟩
  | 4 => ⟨S1024, .f32⟩
  | 5 => ⟨S1x1024, .f32⟩
  | 6 => ⟨S2064x1024, .f32⟩
  | 7 => ⟨S2064x1024, .f32⟩
  | 8 => ⟨S2064x1024, .f32⟩
  | 9 => ⟨S2064x1024, .f32⟩
  | 10 => ⟨S1x1024, .f32⟩
  | 11 => ⟨S1024, .f32⟩
  | 12 => ⟨S1x1024, .f32⟩
  | 13 => ⟨S2064x1024, .f32⟩
  | 14 => ⟨S2064x1024, .f32⟩
  | 15 => ⟨S2064x1024, .f32⟩
  | 16 => ⟨S2064x1024, .f32⟩
  | 17 => ⟨S1x1024, .f32⟩
  | 18 => ⟨S1024, .f32⟩
  | 19 => ⟨S1x1024, .f32⟩
  | 20 => ⟨S2064x1024, .f32⟩
  | 21 => ⟨S2064x1024, .f32⟩
  | 22 => ⟨S2064x1024, .f32⟩
  | 23 => ⟨S2064x1024, .f32⟩
  | 24 => ⟨S1x1024, .f32⟩
  | 25 => ⟨S1024, .f32⟩
  | 26 => ⟨S1x1024, .f32⟩
  | 27 => ⟨S2064x1024, .f32⟩
  | 28 => ⟨S2064x1024, .f32⟩
  | 29 => ⟨S2064x1024, .f32⟩
  | 30 => ⟨S2064x1024, .f32⟩
  | 31 => ⟨S1x1024, .f32⟩
  | 32 => ⟨S1024, .f32⟩
  | 33 => ⟨S1x1024, .f32⟩
  | 34 => ⟨S2064x1024, .f32⟩
  | 35 => ⟨S2064x1024, .f32⟩
  | 36 => ⟨S2064x1024, .f32⟩
  | 37 => ⟨S2064x1024, .f32⟩
  | 38 => ⟨S1x1024, .f32⟩
  | 39 => ⟨S1024, .f32⟩
  | 40 => ⟨S1x1024, .f32⟩
  | 41 => ⟨S2064x1024, .f32⟩
  | 42 => ⟨S2064x1024, .f32⟩
  | 43 => ⟨S2064x1024, .f32⟩
  | 44 => ⟨S2064x1024, .f32⟩
  | 45 => ⟨S1x1024, .f32⟩
  | 46 => ⟨S1024, .f32⟩
  | 47 => ⟨S1x1024, .f32⟩
  | 48 => ⟨S2064x1024, .f32⟩
  | 49 => ⟨S2064x1024, .f32⟩
  | 50 => ⟨S2064x1024, .f32⟩
  | 51 => ⟨S2064x1024, .f32⟩
  | 52 => ⟨S1x1024, .f32⟩
  | 53 => ⟨S1024, .f32⟩
  | 54 => ⟨S1x1024, .f32⟩
  | 55 => ⟨S2064x1024, .f32⟩
  | 56 => ⟨S2064x1024, .f32⟩
  | 57 => ⟨S2064x1024, .f32⟩
  | 58 => ⟨S2064x1024, .f32⟩
  | 59 => ⟨S1x1024, .f32⟩
  | 60 => ⟨S1024, .f32⟩
  | 61 => ⟨S1x1024, .f32⟩
  | 62 => ⟨S2064x1024, .f32⟩
  | 63 => ⟨S2064x1024, .f32⟩
  | 64 => ⟨S2064x1024, .f32⟩
  | 65 => ⟨S2064x1024, .f32⟩
  | 66 => ⟨S1x1024, .f32⟩
  | 67 => ⟨S1024, .f32⟩
  | 68 => ⟨S1x1024, .f32⟩
  | 69 => ⟨S2064x1024, .f32⟩
  | 70 => ⟨S2064x1024, .f32⟩
  | 71 => ⟨S2064x1024, .f32⟩
  | 72 => ⟨S2064x1024, .f32⟩
  | 73 => ⟨S1x1024, .f32⟩
  | 74 => ⟨S1024, .f32⟩
  | 75 => ⟨S1x1024, .f32⟩
  | 76 => ⟨S2064x1024, .f32⟩
  | 77 => ⟨S2064x1024, .f32⟩
  | 78 => ⟨S2064x1024, .f32⟩
  | 79 => ⟨S2064x1024, .f32⟩
  | 80 => ⟨S1x1024, .f32⟩
  | 81 => ⟨S1024, .f32⟩
  | 82 => ⟨S1x1024, .f32⟩
  | 83 => ⟨S2064x1024, .f32⟩
  | 84 => ⟨S2064x1024, .f32⟩
  | 85 => ⟨S2064x1024, .f32⟩
  | 86 => ⟨S2064x1024, .f32⟩
  | 87 => ⟨S1x1024, .f32⟩
  | 88 => ⟨S1024, .f32⟩
  | 89 => ⟨S1x1024, .f32⟩
  | 90 => ⟨S2064x1024, .f32⟩
  | 91 => ⟨S2064x1024, .f32⟩
  | 92 => ⟨S2064x1024, .f32⟩
  | 93 => ⟨S2064x1024, .f32⟩
  | 94 => ⟨S1x1024, .f32⟩
  | 95 => ⟨S1024, .f32⟩
  | 96 => ⟨S1x1024, .f32⟩
  | 97 => ⟨S2064x1024, .f32⟩
  | 98 => ⟨S2064x1024, .f32⟩
  | 99 => ⟨S2064x1024, .f32⟩
  | 100 => ⟨S2064x1024, .f32⟩
  | 101 => ⟨S2064x1024, .f32⟩
  | 102 => ⟨S2064x1024, .f32⟩
  | 103 => ⟨S2064x1024, .f32⟩
  | 104 => ⟨S_, .f32⟩
  | 105 => ⟨S2094x1024, .f32⟩
  | 106 => ⟨S2064x1024, .f32⟩
  | 107 => ⟨S2064x1024, .f32⟩
  | 108 => ⟨S_, .f32⟩
  | 109 => ⟨S2094x1024, .f32⟩
  | 110 => ⟨S2094x1024, .f32⟩
  | 111 => ⟨S2064x1024, .f32⟩
  | 112 => ⟨S2064x1024, .f32⟩
  | 113 => ⟨S_, .f32⟩
  | 114 => ⟨S2094x1024, .f32⟩
  | 115 => ⟨S2094x1024, .f32⟩
  | 116 => ⟨S2064x1024, .f32⟩
  | 117 => ⟨S2064x1024, .f32⟩
  | 118 => ⟨S_, .f32⟩
  | 119 => ⟨S2094x1024, .f32⟩
  | 120 => ⟨S2094x1024, .f32⟩
  | 121 => ⟨S2064x1024, .f32⟩
  | 122 => ⟨S2064x1024, .f32⟩
  | 123 => ⟨S_, .f32⟩
  | 124 => ⟨S2094x1024, .f32⟩
  | 125 => ⟨S2094x1024, .f32⟩
  | 126 => ⟨S2064x1024, .f32⟩
  | 127 => ⟨S2064x1024, .f32⟩
  | _ => ⟨S2064x1024, .f32⟩

abbrev hbmTy0_2 (i : Nat) : BufTy := match i % 128 with
  | 0 => ⟨S_, .f32⟩
  | 1 => ⟨S2094x1024, .f32⟩
  | 2 => ⟨S2094x1024, .f32⟩
  | 3 => ⟨S2064x1024, .f32⟩
  | 4 => ⟨S2064x1024, .f32⟩
  | 5 => ⟨S_, .f32⟩
  | 6 => ⟨S2094x1024, .f32⟩
  | 7 => ⟨S2094x1024, .f32⟩
  | 8 => ⟨S2064x1024, .f32⟩
  | 9 => ⟨S2064x1024, .f32⟩
  | 10 => ⟨S_, .f32⟩
  | 11 => ⟨S2094x1024, .f32⟩
  | 12 => ⟨S2094x1024, .f32⟩
  | 13 => ⟨S2064x1024, .f32⟩
  | 14 => ⟨S2064x1024, .f32⟩
  | 15 => ⟨S_, .f32⟩
  | 16 => ⟨S2094x1024, .f32⟩
  | 17 => ⟨S2094x1024, .f32⟩
  | 18 => ⟨S2064x1024, .f32⟩
  | 19 => ⟨S2064x1024, .f32⟩
  | 20 => ⟨S_, .f32⟩
  | 21 => ⟨S2094x1024, .f32⟩
  | 22 => ⟨S2094x1024, .f32⟩
  | 23 => ⟨S2064x1024, .f32⟩
  | 24 => ⟨S2064x1024, .f32⟩
  | 25 => ⟨S_, .f32⟩
  | 26 => ⟨S2094x1024, .f32⟩
  | 27 => ⟨S2094x1024, .f32⟩
  | 28 => ⟨S2064x1024, .f32⟩
  | 29 => ⟨S2064x1024, .f32⟩
  | 30 => ⟨S_, .f32⟩
  | 31 => ⟨S2094x1024, .f32⟩
  | 32 => ⟨S2094x1024, .f32⟩
  | 33 => ⟨S2064x1024, .f32⟩
  | 34 => ⟨S2064x1024, .f32⟩
  | 35 => ⟨S_, .f32⟩
  | 36 => ⟨S2094x1024, .f32⟩
  | 37 => ⟨S2094x1024, .f32⟩
  | 38 => ⟨S2064x1024, .f32⟩
  | 39 => ⟨S2064x1024, .f32⟩
  | 40 => ⟨S_, .f32⟩
  | 41 => ⟨S2094x1024, .f32⟩
  | 42 => ⟨S2094x1024, .f32⟩
  | 43 => ⟨S2064x1024, .f32⟩
  | 44 => ⟨S2064x1024, .f32⟩
  | 45 => ⟨S_, .f32⟩
  | 46 => ⟨S2094x1024, .f32⟩
  | 47 => ⟨S2094x1024, .f32⟩
  | 48 => ⟨S2064x1024, .f32⟩
  | 49 => ⟨S2064x1024, .f32⟩
  | 50 => ⟨S_, .f32⟩
  | 51 => ⟨S2094x1024, .f32⟩
  | 52 => ⟨S2094x1024, .f32⟩
  | 53 => ⟨S2064x1024, .f32⟩
  | 54 => ⟨S2064x1024, .f32⟩
  | 55 => ⟨S_, .f32⟩
  | 56 => ⟨S2094x1024, .f32⟩
  | 57 => ⟨S2094x1024, .f32⟩
  | 58 => ⟨S2064x1024, .f32⟩
  | 59 => ⟨S2064x1024, .f32⟩
  | 60 => ⟨S_, .f32⟩
  | 61 => ⟨S2094x1024, .f32⟩
  | 62 => ⟨S2094x1024, .f32⟩
  | 63 => ⟨S2064x1024, .f32⟩
  | 64 => ⟨S2064x1024, .f32⟩
  | 65 => ⟨S_, .f32⟩
  | 66 => ⟨S2094x1024, .f32⟩
  | 67 => ⟨S2094x1024, .f32⟩
  | 68 => ⟨S2064x1024, .f32⟩
  | 69 => ⟨S2064x1024, .f32⟩
  | 70 => ⟨S_, .f32⟩
  | 71 => ⟨S2094x1024, .f32⟩
  | 72 => ⟨S2094x1024, .f32⟩
  | 73 => ⟨S2064x1024, .f32⟩
  | 74 => ⟨S2064x1024, .f32⟩
  | 75 => ⟨S_, .f32⟩
  | 76 => ⟨S2094x1024, .f32⟩
  | 77 => ⟨S2094x1024, .f32⟩
  | 78 => ⟨S2064x1024, .f32⟩
  | 79 => ⟨S2064x1024, .f32⟩
  | 80 => ⟨S_, .f32⟩
  | 81 => ⟨S2094x1024, .f32⟩
  | 82 => ⟨S2094x1024, .f32⟩
  | 83 => ⟨S2064x1024, .f32⟩
  | 84 => ⟨S2064x1024, .f32⟩
  | 85 => ⟨S_, .f32⟩
  | 86 => ⟨S2094x1024, .f32⟩
  | 87 => ⟨S2094x1024, .f32⟩
  | 88 => ⟨S2064x1024, .f32⟩
  | 89 => ⟨S2064x1024, .f32⟩
  | 90 => ⟨S_, .f32⟩
  | 91 => ⟨S2094x1024, .f32⟩
  | 92 => ⟨S2094x1024, .f32⟩
  | 93 => ⟨S2064x1024, .f32⟩
  | 94 => ⟨S2064x1024, .f32⟩
  | 95 => ⟨S_, .f32⟩
  | 96 => ⟨S2094x1024, .f32⟩
  | 97 => ⟨S2094x1024, .f32⟩
  | 98 => ⟨S2064x1024, .f32⟩
  | 99 => ⟨S2064x1024, .f32⟩
  | 100 => ⟨S_, .f32⟩
  | 101 => ⟨S2094x1024, .f32⟩
  | 102 => ⟨S2094x1024, .f32⟩
  | 103 => ⟨S2064x1024, .f32⟩
  | 104 => ⟨S2064x1024, .f32⟩
  | 105 => ⟨S_, .f32⟩
  | 106 => ⟨S2094x1024, .f32⟩
  | 107 => ⟨S2094x1024, .f32⟩
  | 108 => ⟨S2064x1024, .f32⟩
  | 109 => ⟨S2064x1024, .f32⟩
  | 110 => ⟨S_, .f32⟩
  | 111 => ⟨S2094x1024, .f32⟩
  | 112 => ⟨S2094x1024, .f32⟩
  | 113 => ⟨S2064x1024, .f32⟩
  | 114 => ⟨S2064x1024, .f32⟩
  | 115 => ⟨S_, .f32⟩
  | 116 => ⟨S2094x1024, .f32⟩
  | 117 => ⟨S2094x1024, .f32⟩
  | 118 => ⟨S2064x1024, .f32⟩
  | 119 => ⟨S2064x1024, .f32⟩
  | 120 => ⟨S_, .f32⟩
  | 121 => ⟨S2094x1024, .f32⟩
  | 122 => ⟨S2094x1024, .f32⟩
  | 123 => ⟨S2064x1024, .f32⟩
  | 124 => ⟨S2064x1024, .f32⟩
  | 125 => ⟨S_, .f32⟩
  | 126 => ⟨S2094x1024, .f32⟩
  | 127 => ⟨S2094x1024, .f32⟩
  | _ => ⟨S2064x1024, .f32⟩

abbrev hbmTy0_3 (i : Nat) : BufTy := match i % 128 with
  | 0 => ⟨S30x1024, .f32⟩
  | 1 => ⟨S2064x1024, .f32⟩
  | 2 => ⟨S_, .i32⟩
  | 3 => ⟨S_, .f32⟩
  | 4 => ⟨S2176x1024, .f32⟩
  | _ => ⟨S2064x1024, .f32⟩

abbrev hbmTy (i : Nat) : BufTy := match i / 128 with
  | 0 => hbmTy0_0 i
  | 1 => hbmTy0_1 i
  | 2 => hbmTy0_2 i
  | 3 => hbmTy0_3 i
  | _ => ⟨S2064x1024, .f32⟩

abbrev bufTy : (tb : Table) → Fin (tcTables nBuf tb) → BufTy
  | .hbm, ⟨i, _⟩ => hbmTy i
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_cst_3 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_cst_4 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_cst_5 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_cst_6 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_cst_7 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_cst_8 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_cst_9 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_cst_10 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_cst_11 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩
abbrev main_cst_12 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_cst_13 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_cst_14 : Ref sig .tc := ⟨.hbm, 286, rfl⟩
abbrev main_v269 : Ref sig .tc := ⟨.hbm, 287, rfl⟩
abbrev main_v270 : Ref sig .tc := ⟨.hbm, 288, rfl⟩
abbrev main_v271 : Ref sig .tc := ⟨.hbm, 289, rfl⟩
abbrev main_v272 : Ref sig .tc := ⟨.hbm, 290, rfl⟩
abbrev main_cst_15 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_cst_16 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_cst_17 : Ref sig .tc := ⟨.hbm, 301, rfl⟩
abbrev main_v281 : Ref sig .tc := ⟨.hbm, 302, rfl⟩
abbrev main_v282 : Ref sig .tc := ⟨.hbm, 303, rfl⟩
abbrev main_v283 : Ref sig .tc := ⟨.hbm, 304, rfl⟩
abbrev main_v284 : Ref sig .tc := ⟨.hbm, 305, rfl⟩
abbrev main_cst_18 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_v288 : Ref sig .tc := ⟨.hbm, 310, rfl⟩
abbrev main_cst_19 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_cst_20 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_cst_21 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_cst_22 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_v304 : Ref sig .tc := ⟨.hbm, 330, rfl⟩
abbrev main_cst_23 : Ref sig .tc := ⟨.hbm, 331, rfl⟩
abbrev main_v305 : Ref sig .tc := ⟨.hbm, 332, rfl⟩
abbrev main_v306 : Ref sig .tc := ⟨.hbm, 333, rfl⟩
abbrev main_v307 : Ref sig .tc := ⟨.hbm, 334, rfl⟩
abbrev main_v308 : Ref sig .tc := ⟨.hbm, 335, rfl⟩
abbrev main_cst_24 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_cst_25 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_v316 : Ref sig .tc := ⟨.hbm, 345, rfl⟩
abbrev main_cst_26 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_v320 : Ref sig .tc := ⟨.hbm, 350, rfl⟩
abbrev main_cst_27 : Ref sig .tc := ⟨.hbm, 351, rfl⟩
abbrev main_v321 : Ref sig .tc := ⟨.hbm, 352, rfl⟩
abbrev main_v322 : Ref sig .tc := ⟨.hbm, 353, rfl⟩
abbrev main_v323 : Ref sig .tc := ⟨.hbm, 354, rfl⟩
abbrev main_v324 : Ref sig .tc := ⟨.hbm, 355, rfl⟩
abbrev main_cst_28 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_v328 : Ref sig .tc := ⟨.hbm, 360, rfl⟩
abbrev main_cst_29 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_v332 : Ref sig .tc := ⟨.hbm, 365, rfl⟩
abbrev main_cst_30 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_cst_31 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_v340 : Ref sig .tc := ⟨.hbm, 375, rfl⟩
abbrev main_cst_32 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_v344 : Ref sig .tc := ⟨.hbm, 380, rfl⟩
abbrev main_cst_33 : Ref sig .tc := ⟨.hbm, 381, rfl⟩
abbrev main_v345 : Ref sig .tc := ⟨.hbm, 382, rfl⟩
abbrev main_v346 : Ref sig .tc := ⟨.hbm, 383, rfl⟩
abbrev main_v347 : Ref sig .tc := ⟨.hbm, 384, rfl⟩
abbrev main_v348 : Ref sig .tc := ⟨.hbm, 385, rfl⟩
abbrev main_c : Ref sig .tc := ⟨.hbm, 386, rfl⟩
abbrev main_call0_v0 : Ref sig .tc := ⟨.hbm, 387, rfl⟩
abbrev main_v349 : Ref sig .tc := ⟨.hbm, 388, rfl⟩

abbrev nD : Nat := 1
abbrev τ : Topo := Topo.v7x

variable {F : FTy → Type} [FloatOps F]
-- ==== ConvDw.lean ====
abbrev S2064x1024 : Shape := ⟨2, ![2064, 1024]⟩
abbrev S_ : Shape := ⟨0, ![]⟩
abbrev S2176x1024 : Shape := ⟨2, ![2176, 1024]⟩
abbrev S31x1024 : Shape := ⟨2, ![31, 1024]⟩
abbrev S2176x128 : Shape := ⟨2, ![2176, 128]⟩
abbrev S31x128 : Shape := ⟨2, ![31, 128]⟩
abbrev S2216x128 : Shape := ⟨2, ![2216, 128]⟩
abbrev S31x8x128 : Shape := ⟨3, ![31, 8, 128]⟩
abbrev S32x128 : Shape := ⟨2, ![32, 128]⟩
abbrev S8x128 : Shape := ⟨2, ![8, 128]⟩
abbrev S168x128 : Shape := ⟨2, ![168, 128]⟩
abbrev S128x128 : Shape := ⟨2, ![128, 128]⟩
abbrev S1x8x128 : Shape := ⟨3, ![1, 8, 128]⟩
abbrev S16x8x128 : Shape := ⟨3, ![16, 8, 128]⟩
abbrev S128 : Shape := ⟨1, ![128]⟩
abbrev S1x128 : Shape := ⟨2, ![1, 128]⟩

abbrev nBuf : Space → Nat
  | .hbm => 9
  | .vmem => 8
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S_, .i32⟩
  | .hbm, ⟨6, _⟩ => ⟨S_, .f32⟩
  | .hbm, ⟨7, _⟩ => ⟨S2176x1024, .f32⟩
  | .hbm, ⟨8, _⟩ => ⟨S31x1024, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S31x128, .f32⟩
  | .local _ .vmem, ⟨5, _⟩ => ⟨S31x128, .f32⟩
  | .local _ .vmem, ⟨6, _⟩ => ⟨S2216x128, .f32⟩
  | .local _ .vmem, ⟨7, _⟩ => ⟨S31x8x128, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c17_i32 : BitVec 32 := 17#32
  let v17 : BitVec 32 := Scalar.addi c0_i32 c17_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v173 : BitVec 32 := Scalar.muli arg6 c128_i32
  v173
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v173 : BitVec 32 := Scalar.muli arg6 c128_i32
  let v174 : BitVec 32 := v173
  let v175 : Index := Scalar.indexCast v174
  let c0_167 : Index := 0#32
  ![v175.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v173 : BitVec 32 := Scalar.muli arg6 c128_i32
  let v174 : BitVec 32 := v173
  let v177 : Index := Scalar.indexCast v174
  let c0_168 : Index := 0#32
  ![v177.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvDwRefIdeal.lean ====
abbrev S2064x1024 : Shape := ⟨2, ![2064, 1024]⟩
abbrev S_ : Shape := ⟨0, ![]⟩
abbrev S31x1024 : Shape := ⟨2, ![31, 1024]⟩
abbrev S30x1024 : Shape := ⟨2, ![30, 1024]⟩
abbrev S2094x1024 : Shape := ⟨2, ![2094, 1024]⟩
abbrev S1x1024 : Shape := ⟨2, ![1, 1024]⟩
abbrev S1024 : Shape := ⟨1, ![1024]⟩

abbrev nBuf : Space → Nat
  | .hbm => 537
  | .vmem => 0
  | .smem => 0
  | _ => 0

abbrev hbmTy0_0 (i : Nat) : BufTy := match i % 128 with
  | 0 => ⟨S2064x1024, .f32⟩
  | 1 => ⟨S2064x1024, .f32⟩
  | 2 => ⟨S_, .f32⟩
  | 3 => ⟨S31x1024, .f32⟩
  | 4 => ⟨S_, .f32⟩
  | 5 => ⟨S30x1024, .f32⟩
  | 6 => ⟨S2094x1024, .f32⟩
  | 7 => ⟨S2064x1024, .f32⟩
  | 8 => ⟨S1x1024, .f32⟩
  | 9 => ⟨S1024, .f32⟩
  | 10 => ⟨S1x1024, .f32⟩
  | 11 => ⟨S2064x1024, .f32⟩
  | 12 => ⟨S2064x1024, .f32⟩
  | 13 => ⟨S_, .f32⟩
  | 14 => ⟨S2064x1024, .f32⟩
  | 15 => ⟨S2064x1024, .f32⟩
  | 16 => ⟨S2064x1024, .f32⟩
  | 17 => ⟨S1x1024, .f32⟩
  | 18 => ⟨S1024, .f32⟩
  | 19 => ⟨S1x1024, .f32⟩
  | 20 => ⟨S2064x1024, .f32⟩
  | 21 => ⟨S2064x1024, .f32⟩
  | 22 => ⟨S2064x1024, .f32⟩
  | 23 => ⟨S2064x1024, .f32⟩
  | 24 => ⟨S1x1024, .f32⟩
  | 25 => ⟨S1024, .f32⟩
  | 26 => ⟨S1x1024, .f32⟩
  | 27 => ⟨S2064x1024, .f32⟩
  | 28 => ⟨S2064x1024, .f32⟩
  | 29 => ⟨S2064x1024, .f32⟩
  | 30 => ⟨S2064x1024, .f32⟩
  | 31 => ⟨S1x1024, .f32⟩
  | 32 => ⟨S1024, .f32⟩
  | 33 => ⟨S1x1024, .f32⟩
  | 34 => ⟨S2064x1024, .f32⟩
  | 35 => ⟨S2064x1024, .f32⟩
  | 36 => ⟨S2064x1024, .f32⟩
  | 37 => ⟨S2064x1024, .f32⟩
  | 38 => ⟨S1x1024, .f32⟩
  | 39 => ⟨S1024, .f32⟩
  | 40 => ⟨S1x1024, .f32⟩
  | 41 => ⟨S2064x1024, .f32⟩
  | 42 => ⟨S2064x1024, .f32⟩
  | 43 => ⟨S2064x1024, .f32⟩
  | 44 => ⟨S2064x1024, .f32⟩
  | 45 => ⟨S1x1024, .f32⟩
  | 46 => ⟨S1024, .f32⟩
  | 47 => ⟨S1x1024, .f32⟩
  | 48 => ⟨S2064x1024, .f32⟩
  | 49 => ⟨S2064x1024, .f32⟩
  | 50 => ⟨S2064x1024, .f32⟩
  | 51 => ⟨S2064x1024, .f32⟩
  | 52 => ⟨S1x1024, .f32⟩
  | 53 => ⟨S1024, .f32⟩
  | 54 => ⟨S1x1024, .f32⟩
  | 55 => ⟨S2064x1024, .f32⟩
  | 56 => ⟨S2064x1024, .f32⟩
  | 57 => ⟨S2064x1024, .f32⟩
  | 58 => ⟨S2064x1024, .f32⟩
  | 59 => ⟨S1x1024, .f32⟩
  | 60 => ⟨S1024, .f32⟩
  | 61 => ⟨S1x1024, .f32⟩
  | 62 => ⟨S2064x1024, .f32⟩
  | 63 => ⟨S2064x1024, .f32⟩
  | 64 => ⟨S2064x1024, .f32⟩
  | 65 => ⟨S2064x1024, .f32⟩
  | 66 => ⟨S1x1024, .f32⟩
  | 67 => ⟨S1024, .f32⟩
  | 68 => ⟨S1x1024, .f32⟩
  | 69 => ⟨S2064x1024, .f32⟩
  | 70 => ⟨S2064x1024, .f32⟩
  | 71 => ⟨S2064x1024, .f32⟩
  | 72 => ⟨S2064x1024, .f32⟩
  | 73 => ⟨S1x1024, .f32⟩
  | 74 => ⟨S1024, .f32⟩
  | 75 => ⟨S1x1024, .f32⟩
  | 76 => ⟨S2064x1024, .f32⟩
  | 77 => ⟨S2064x1024, .f32⟩
  | 78 => ⟨S2064x1024, .f32⟩
  | 79 => ⟨S2064x1024, .f32⟩
  | 80 => ⟨S1x1024, .f32⟩
  | 81 => ⟨S1024, .f32⟩
  | 82 => ⟨S1x1024, .f32⟩
  | 83 => ⟨S2064x1024, .f32⟩
  | 84 => ⟨S2064x1024, .f32⟩
  | 85 => ⟨S2064x1024, .f32⟩
  | 86 => ⟨S2064x1024, .f32⟩
  | 87 => ⟨S1x1024, .f32⟩
  | 88 => ⟨S1024, .f32⟩
  | 89 => ⟨S1x1024, .f32⟩
  | 90 => ⟨S2064x1024, .f32⟩
  | 91 => ⟨S2064x1024, .f32⟩
  | 92 => ⟨S2064x1024, .f32⟩
  | 93 => ⟨S2064x1024, .f32⟩
  | 94 => ⟨S1x1024, .f32⟩
  | 95 => ⟨S1024, .f32⟩
  | 96 => ⟨S1x1024, .f32⟩
  | 97 => ⟨S2064x1024, .f32⟩
  | 98 => ⟨S2064x1024, .f32⟩
  | 99 => ⟨S2064x1024, .f32⟩
  | 100 => ⟨S2064x1024, .f32⟩
  | 101 => ⟨S1x1024, .f32⟩
  | 102 => ⟨S1024, .f32⟩
  | 103 => ⟨S1x1024, .f32⟩
  | 104 => ⟨S2064x1024, .f32⟩
  | 105 => ⟨S2064x1024, .f32⟩
  | 106 => ⟨S2064x1024, .f32⟩
  | 107 => ⟨S2064x1024, .f32⟩
  | 108 => ⟨S1x1024, .f32⟩
  | 109 => ⟨S1024, .f32⟩
  | 110 => ⟨S1x1024, .f32⟩
  | 111 => ⟨S2064x1024, .f32⟩
  | 112 => ⟨S2064x1024, .f32⟩
  | 113 => ⟨S2064x1024, .f32⟩
  | 114 => ⟨S2064x1024, .f32⟩
  | 115 => ⟨S1x1024, .f32⟩
  | 116 => ⟨S1024, .f32⟩
  | 117 => ⟨S1x1024, .f32⟩
  | 118 => ⟨S2064x1024, .f32⟩
  | 119 => ⟨S2064x1024, .f32⟩
  | 120 => ⟨S2064x1024, .f32⟩
  | 121 => ⟨S2064x1024, .f32⟩
  | 122 => ⟨S1x1024, .f32⟩
  | 123 => ⟨S1024, .f32⟩
  | 124 => ⟨S1x1024, .f32⟩
  | 125 => ⟨S2064x1024, .f32⟩
  | 126 => ⟨S2064x1024, .f32⟩
  | 127 => ⟨S2064x1024, .f32⟩
  | _ => ⟨S2064x1024, .f32⟩

abbrev hbmTy0_1 (i : Nat) : BufTy := match i % 128 with
  | 0 => ⟨S2064x1024, .f32⟩
  | 1 => ⟨S1x1024, .f32⟩
  | 2 => ⟨S1024, .f32⟩
  | 3 => ⟨S1x1024, .f32⟩
  | 4 => ⟨S2064x1024, .f32⟩
  | 5 => ⟨S2064x1024, .f32⟩
  | 6 => ⟨S2064x1024, .f32⟩
  | 7 => ⟨S2064x1024, .f32⟩
  | 8 => ⟨S1x1024, .f32⟩
  | 9 => ⟨S1024, .f32⟩
  | 10 => ⟨S1x1024, .f32⟩
  | 11 => ⟨S2064x1024, .f32⟩
  | 12 => ⟨S2064x1024, .f32⟩
  | 13 => ⟨S2064x1024, .f32⟩
  | 14 => ⟨S2064x1024, .f32⟩
  | 15 => ⟨S1x1024, .f32⟩
  | 16 => ⟨S1024, .f32⟩
  | 17 => ⟨S1x1024, .f32⟩
  | 18 => ⟨S2064x1024, .f32⟩
  | 19 => ⟨S2064x1024, .f32⟩
  | 20 => ⟨S2064x1024, .f32⟩
  | 21 => ⟨S2064x1024, .f32⟩
  | 22 => ⟨S1x1024, .f32⟩
  | 23 => ⟨S1024, .f32⟩
  | 24 => ⟨S1x1024, .f32⟩
  | 25 => ⟨S2064x1024, .f32⟩
  | 26 => ⟨S2064x1024, .f32⟩
  | 27 => ⟨S2064x1024, .f32⟩
  | 28 => ⟨S2064x1024, .f32⟩
  | 29 => ⟨S1x1024, .f32⟩
  | 30 => ⟨S1024, .f32⟩
  | 31 => ⟨S1x1024, .f32⟩
  | 32 => ⟨S2064x1024, .f32⟩
  | 33 => ⟨S2064x1024, .f32⟩
  | 34 => ⟨S2064x1024, .f32⟩
  | 35 => ⟨S2064x1024, .f32⟩
  | 36 => ⟨S1x1024, .f32⟩
  | 37 => ⟨S1024, .f32⟩
  | 38 => ⟨S1x1024, .f32⟩
  | 39 => ⟨S2064x1024, .f32⟩
  | 40 => ⟨S2064x1024, .f32⟩
  | 41 => ⟨S2064x1024, .f32⟩
  | 42 => ⟨S2064x1024, .f32⟩
  | 43 => ⟨S1x1024, .f32⟩
  | 44 => ⟨S1024, .f32⟩
  | 45 => ⟨S1x1024, .f32⟩
  | 46 => ⟨S2064x1024, .f32⟩
  | 47 => ⟨S2064x1024, .f32⟩
  | 48 => ⟨S2064x1024, .f32⟩
  | 49 => ⟨S2064x1024, .f32⟩
  | 50 => ⟨S1x1024, .f32⟩
  | 51 => ⟨S1024, .f32⟩
  | 52 => ⟨S1x1024, .f32⟩
  | 53 => ⟨S2064x1024, .f32⟩
  | 54 => ⟨S2064x1024, .f32⟩
  | 55 => ⟨S2064x1024, .f32⟩
  | 56 => ⟨S2064x1024, .f32⟩
  | 57 => ⟨S1x1024, .f32⟩
  | 58 => ⟨S1024, .f32⟩
  | 59 => ⟨S1x1024, .f32⟩
  | 60 => ⟨S2064x1024, .f32⟩
  | 61 => ⟨S2064x1024, .f32⟩
  | 62 => ⟨S2064x1024, .f32⟩
  | 63 => ⟨S2064x1024, .f32⟩
  | 64 => ⟨S1x1024, .f32⟩
  | 65 => ⟨S1024, .f32⟩
  | 66 => ⟨S1x1024, .f32⟩
  | 67 => ⟨S2064x1024, .f32⟩
  | 68 => ⟨S2064x1024, .f32⟩
  | 69 => ⟨S2064x1024, .f32⟩
  | 70 => ⟨S2064x1024, .f32⟩
  | 71 => ⟨S1x1024, .f32⟩
  | 72 => ⟨S1024, .f32⟩
  | 73 => ⟨S1x1024, .f32⟩
  | 74 => ⟨S2064x1024, .f32⟩
  | 75 => ⟨S2064x1024, .f32⟩
  | 76 => ⟨S2064x1024, .f32⟩
  | 77 => ⟨S2064x1024, .f32⟩
  | 78 => ⟨S1x1024, .f32⟩
  | 79 => ⟨S1024, .f32⟩
  | 80 => ⟨S1x1024, .f32⟩
  | 81 => ⟨S2064x1024, .f32⟩
  | 82 => ⟨S2064x1024, .f32⟩
  | 83 => ⟨S2064x1024, .f32⟩
  | 84 => ⟨S2064x1024, .f32⟩
  | 85 => ⟨S1x1024, .f32⟩
  | 86 => ⟨S1024, .f32⟩
  | 87 => ⟨S1x1024, .f32⟩
  | 88 => ⟨S2064x1024, .f32⟩
  | 89 => ⟨S2064x1024, .f32⟩
  | 90 => ⟨S2064x1024, .f32⟩
  | 91 => ⟨S2064x1024, .f32⟩
  | 92 => ⟨S1x1024, .f32⟩
  | 93 => ⟨S1024, .f32⟩
  | 94 => ⟨S1x1024, .f32⟩
  | 95 => ⟨S2064x1024, .f32⟩
  | 96 => ⟨S2064x1024, .f32⟩
  | 97 => ⟨S2064x1024, .f32⟩
  | 98 => ⟨S2064x1024, .f32⟩
  | 99 => ⟨S2064x1024, .f32⟩
  | 100 => ⟨S2064x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S1x1024, .f32⟩
  | 107 => ⟨S_, .f32⟩
  | 108 => ⟨S31x1024, .f32⟩
  | 109 => ⟨S2064x1024, .f32⟩
  | 110 => ⟨S_, .f32⟩
  | 111 => ⟨S1024, .f32⟩
  | 112 => ⟨S1x1024, .f32⟩
  | 113 => ⟨S_, .f32⟩
  | 114 => ⟨S1024, .f32⟩
  | 115 => ⟨S1x1024, .f32⟩
  | 116 => ⟨S_, .f32⟩
  | 117 => ⟨S31x1024, .f32⟩
  | 118 => ⟨S31x1024, .f32⟩
  | 119 => ⟨S2064x1024, .f32⟩
  | 120 => ⟨S_, .f32⟩
  | 121 => ⟨S1024, .f32⟩
  | 122 => ⟨S1x1024, .f32⟩
  | 123 => ⟨S_, .f32⟩
  | 124 => ⟨S1024, .f32⟩
  | 125 => ⟨S1x1024, .f32⟩
  | 126 => ⟨S_, .f32⟩
  | 127 => ⟨S31x1024, .f32⟩
  | _ => ⟨S2064x1024, .f32⟩

abbrev hbmTy0_2 (i : Nat) : BufTy := match i % 128 with
  | 0 => ⟨S31x1024, .f32⟩
  | 1 => ⟨S2064x1024, .f32⟩
  | 2 => ⟨S_, .f32⟩
  | 3 => ⟨S1024, .f32⟩
  | 4 => ⟨S1x1024, .f32⟩
  | 5 => ⟨S_, .f32⟩
  | 6 => ⟨S1024, .f32⟩
  | 7 => ⟨S1x1024, .f32⟩
  | 8 => ⟨S_, .f32⟩
  | 9 => ⟨S31x1024, .f32⟩
  | 10 => ⟨S31x1024, .f32⟩
  | 11 => ⟨S2064x1024, .f32⟩
  | 12 => ⟨S_, .f32⟩
  | 13 => ⟨S1024, .f32⟩
  | 14 => ⟨S1x1024, .f32⟩
  | 15 => ⟨S_, .f32⟩
  | 16 => ⟨S1024, .f32⟩
  | 17 => ⟨S1x1024, .f32⟩
  | 18 => ⟨S_, .f32⟩
  | 19 => ⟨S31x1024, .f32⟩
  | 20 => ⟨S31x1024, .f32⟩
  | 21 => ⟨S2064x1024, .f32⟩
  | 22 => ⟨S_, .f32⟩
  | 23 => ⟨S1024, .f32⟩
  | 24 => ⟨S1x1024, .f32⟩
  | 25 => ⟨S_, .f32⟩
  | 26 => ⟨S1024, .f32⟩
  | 27 => ⟨S1x1024, .f32⟩
  | 28 => ⟨S_, .f32⟩
  | 29 => ⟨S31x1024, .f32⟩
  | 30 => ⟨S31x1024, .f32⟩
  | 31 => ⟨S2064x1024, .f32⟩
  | 32 => ⟨S_, .f32⟩
  | 33 => ⟨S1024, .f32⟩
  | 34 => ⟨S1x1024, .f32⟩
  | 35 => ⟨S_, .f32⟩
  | 36 => ⟨S1024, .f32⟩
  | 37 => ⟨S1x1024, .f32⟩
  | 38 => ⟨S_, .f32⟩
  | 39 => ⟨S31x1024, .f32⟩
  | 40 => ⟨S31x1024, .f32⟩
  | 41 => ⟨S2064x1024, .f32⟩
  | 42 => ⟨S_, .f32⟩
  | 43 => ⟨S1024, .f32⟩
  | 44 => ⟨S1x1024, .f32⟩
  | 45 => ⟨S_, .f32⟩
  | 46 => ⟨S1024, .f32⟩
  | 47 => ⟨S1x1024, .f32⟩
  | 48 => ⟨S_, .f32⟩
  | 49 => ⟨S31x1024, .f32⟩
  | 50 => ⟨S31x1024, .f32⟩
  | 51 => ⟨S2064x1024, .f32⟩
  | 52 => ⟨S_, .f32⟩
  | 53 => ⟨S1024, .f32⟩
  | 54 => ⟨S1x1024, .f32⟩
  | 55 => ⟨S_, .f32⟩
  | 56 => ⟨S1024, .f32⟩
  | 57 => ⟨S1x1024, .f32⟩
  | 58 => ⟨S_, .f32⟩
  | 59 => ⟨S31x1024, .f32⟩
  | 60 => ⟨S31x1024, .f32⟩
  | 61 => ⟨S2064x1024, .f32⟩
  | 62 => ⟨S_, .f32⟩
  | 63 => ⟨S1024, .f32⟩
  | 64 => ⟨S1x1024, .f32⟩
  | 65 => ⟨S_, .f32⟩
  | 66 => ⟨S1024, .f32⟩
  | 67 => ⟨S1x1024, .f32⟩
  | 68 => ⟨S_, .f32⟩
  | 69 => ⟨S31x1024, .f32⟩
  | 70 => ⟨S31x1024, .f32⟩
  | 71 => ⟨S2064x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S1x1024, .f32⟩
  | 78 => ⟨S_, .f32⟩
  | 79 => ⟨S31x1024, .f32⟩
  | 80 => ⟨S31x1024, .f32⟩
  | 81 => ⟨S2064x1024, .f32⟩
  | 82 => ⟨S_, .f32⟩
  | 83 => ⟨S1024, .f32⟩
  | 84 => ⟨S1x1024, .f32⟩
  | 85 => ⟨S_, .f32⟩
  | 86 => ⟨S1024, .f32⟩
  | 87 => ⟨S1x1024, .f32⟩
  | 88 => ⟨S_, .f32⟩
  | 89 => ⟨S31x1024, .f32⟩
  | 90 => ⟨S31x1024, .f32⟩
  | 91 => ⟨S2064x1024, .f32⟩
  | 92 => ⟨S_, .f32⟩
  | 93 => ⟨S1024, .f32⟩
  | 94 => ⟨S1x1024, .f32⟩
  | 95 => ⟨S_, .f32⟩
  | 96 => ⟨S1024, .f32⟩
  | 97 => ⟨S1x1024, .f32⟩
  | 98 => ⟨S_, .f32⟩
  | 99 => ⟨S31x1024, .f32⟩
  | 100 => ⟨S31x1024, .f32⟩
  | 101 => ⟨S2064x1024, .f32⟩
  | 102 => ⟨S_, .f32⟩
  | 103 => ⟨S1024, .f32⟩
  | 104 => ⟨S1x1024, .f32⟩
  | 105 => ⟨S_, .f32⟩
  | 106 => ⟨S1024, .f32⟩
  | 107 => ⟨S1x1024, .f32⟩
  | 108 => ⟨S_, .f32⟩
  | 109 => ⟨S31x1024, .f32⟩
  | 110 => ⟨S31x1024, .f32⟩
  | 111 => ⟨S2064x1024, .f32⟩
  | 112 => ⟨S_, .f32⟩
  | 113 => ⟨S1024, .f32⟩
  | 114 => ⟨S1x1024, .f32⟩
  | 115 => ⟨S_, .f32⟩
  | 116 => ⟨S1024, .f32⟩
  | 117 => ⟨S1x1024, .f32⟩
  | 118 => ⟨S_, .f32⟩
  | 119 => ⟨S31x1024, .f32⟩
  | 120 => ⟨S31x1024, .f32⟩
  | 121 => ⟨S2064x1024, .f32⟩
  | 122 => ⟨S_, .f32⟩
  | 123 => ⟨S1024, .f32⟩
  | 124 => ⟨S1x1024, .f32⟩
  | 125 => ⟨S_, .f32⟩
  | 126 => ⟨S1024, .f32⟩
  | 127 => ⟨S1x1024, .f32⟩
  | _ => ⟨S2064x1024, .f32⟩

abbrev hbmTy0_3 (i : Nat) : BufTy := match i % 128 with
  | 0 => ⟨S_, .f32⟩
  | 1 => ⟨S31x1024, .f32⟩
  | 2 => ⟨S31x1024, .f32⟩
  | 3 => ⟨S2064x1024, .f32⟩
  | 4 => ⟨S_, .f32⟩
  | 5 => ⟨S1024, .f32⟩
  | 6 => ⟨S1x1024, .f32⟩
  | 7 => ⟨S_, .f32⟩
  | 8 => ⟨S1024, .f32⟩
  | 9 => ⟨S1x1024, .f32⟩
  | 10 => ⟨S_, .f32⟩
  | 11 => ⟨S31x1024, .f32⟩
  | 12 => ⟨S31x1024, .f32⟩
  | 13 => ⟨S2064x1024, .f32⟩
  | 14 => ⟨S_, .f32⟩
  | 15 => ⟨S1024, .f32⟩
  | 16 => ⟨S1x1024, .f32⟩
  | 17 => ⟨S_, .f32⟩
  | 18 => ⟨S1024, .f32⟩
  | 19 => ⟨S1x1024, .f32⟩
  | 20 => ⟨S_, .f32⟩
  | 21 => ⟨S31x1024, .f32⟩
  | 22 => ⟨S31x1024, .f32⟩
  | 23 => ⟨S2064x1024, .f32⟩
  | 24 => ⟨S_, .f32⟩
  | 25 => ⟨S1024, .f32⟩
  | 26 => ⟨S1x1024, .f32⟩
  | 27 => ⟨S_, .f32⟩
  | 28 => ⟨S1024, .f32⟩
  | 29 => ⟨S1x1024, .f32⟩
  | 30 => ⟨S_, .f32⟩
  | 31 => ⟨S31x1024, .f32⟩
  | 32 => ⟨S31x1024, .f32⟩
  | 33 => ⟨S2064x1024, .f32⟩
  | 34 => ⟨S_, .f32⟩
  | 35 => ⟨S1024, .f32⟩
  | 36 => ⟨S1x1024, .f32⟩
  | 37 => ⟨S_, .f32⟩
  | 38 => ⟨S1024, .f32⟩
  | 39 => ⟨S1x1024, .f32⟩
  | 40 => ⟨S_, .f32⟩
  | 41 => ⟨S31x1024, .f32⟩
  | 42 => ⟨S31x1024, .f32⟩
  | 43 => ⟨S2064x1024, .f32⟩
  | 44 => ⟨S_, .f32⟩
  | 45 => ⟨S1024, .f32⟩
  | 46 => ⟨S1x1024, .f32⟩
  | 47 => ⟨S_, .f32⟩
  | 48 => ⟨S1024, .f32⟩
  | 49 => ⟨S1x1024, .f32⟩
  | 50 => ⟨S_, .f32⟩
  | 51 => ⟨S31x1024, .f32⟩
  | 52 => ⟨S31x1024, .f32⟩
  | 53 => ⟨S2064x1024, .f32⟩
  | 54 => ⟨S_, .f32⟩
  | 55 => ⟨S1024, .f32⟩
  | 56 => ⟨S1x1024, .f32⟩
  | 57 => ⟨S_, .f32⟩
  | 58 => ⟨S1024, .f32⟩
  | 59 => ⟨S1x1024, .f32⟩
  | 60 => ⟨S_, .f32⟩
  | 61 => ⟨S31x1024, .f32⟩
  | 62 => ⟨S31x1024, .f32⟩
  | 63 => ⟨S2064x1024, .f32⟩
  | 64 => ⟨S_, .f32⟩
  | 65 => ⟨S1024, .f32⟩
  | 66 => ⟨S1x1024, .f32⟩
  | 67 => ⟨S_, .f32⟩
  | 68 => ⟨S1024, .f32⟩
  | 69 => ⟨S1x1024, .f32⟩
  | 70 => ⟨S_, .f32⟩
  | 71 => ⟨S31x1024, .f32⟩
  | 72 => ⟨S31x1024, .f32⟩
  | 73 => ⟨S2064x1024, .f32⟩
  | 74 => ⟨S_, .f32⟩
  | 75 => ⟨S1024, .f32⟩
  | 76 => ⟨S1x1024, .f32⟩
  | 77 => ⟨S_, .f32⟩
  | 78 => ⟨S1024, .f32⟩
  | 79 => ⟨S1x1024, .f32⟩
  | 80 => ⟨S_, .f32⟩
  | 81 => ⟨S31x1024, .f32⟩
  | 82 => ⟨S31x1024, .f32⟩
  | 83 => ⟨S2064x1024, .f32⟩
  | 84 => ⟨S_, .f32⟩
  | 85 => ⟨S1024, .f32⟩
  | 86 => ⟨S1x1024, .f32⟩
  | 87 => ⟨S_, .f32⟩
  | 88 => ⟨S1024, .f32⟩
  | 89 => ⟨S1x1024, .f32⟩
  | 90 => ⟨S_, .f32⟩
  | 91 => ⟨S31x1024, .f32⟩
  | 92 => ⟨S31x1024, .f32⟩
  | 93 => ⟨S2064x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S1x1024, .f32⟩
  | 100 => ⟨S_, .f32⟩
  | 101 => ⟨S31x1024, .f32⟩
  | 102 => ⟨S31x1024, .f32⟩
  | 103 => ⟨S2064x1024, .f32⟩
  | 104 => ⟨S_, .f32⟩
  | 105 => ⟨S1024, .f32⟩
  | 106 => ⟨S1x1024, .f32⟩
  | 107 => ⟨S_, .f32⟩
  | 108 => ⟨S1024, .f32⟩
  | 109 => ⟨S1x1024, .f32⟩
  | 110 => ⟨S_, .f32⟩
  | 111 => ⟨S31x1024, .f32⟩
  | 112 => ⟨S31x1024, .f32⟩
  | 113 => ⟨S2064x1024, .f32⟩
  | 114 => ⟨S_, .f32⟩
  | 115 => ⟨S1024, .f32⟩
  | 116 => ⟨S1x1024, .f32⟩
  | 117 => ⟨S_, .f32⟩
  | 118 => ⟨S1024, .f32⟩
  | 119 => ⟨S1x1024, .f32⟩
  | 120 => ⟨S_, .f32⟩
  | 121 => ⟨S31x1024, .f32⟩
  | 122 => ⟨S31x1024, .f32⟩
  | 123 => ⟨S2064x1024, .f32⟩
  | 124 => ⟨S_, .f32⟩
  | 125 => ⟨S1024, .f32⟩
  | 126 => ⟨S1x1024, .f32⟩
  | 127 => ⟨S_, .f32⟩
  | _ => ⟨S2064x1024, .f32⟩

abbrev hbmTy0_4 (i : Nat) : BufTy := match i % 128 with
  | 0 => ⟨S1024, .f32⟩
  | 1 => ⟨S1x1024, .f32⟩
  | 2 => ⟨S_, .f32⟩
  | 3 => ⟨S31x1024, .f32⟩
  | 4 => ⟨S31x1024, .f32⟩
  | 5 => ⟨S2064x1024, .f32⟩
  | 6 => ⟨S_, .f32⟩
  | 7 => ⟨S1024, .f32⟩
  | 8 => ⟨S1x1024, .f32⟩
  | 9 => ⟨S_, .f32⟩
  | 10 => ⟨S1024, .f32⟩
  | 11 => ⟨S1x1024, .f32⟩
  | 12 => ⟨S_, .f32⟩
  | 13 => ⟨S31x1024, .f32⟩
  | 14 => ⟨S31x1024, .f32⟩
  | 15 => ⟨S2064x1024, .f32⟩
  | 16 => ⟨S_, .f32⟩
  | 17 => ⟨S1024, .f32⟩
  | 18 => ⟨S1x1024, .f32⟩
  | 19 => ⟨S_, .f32⟩
  | 20 => ⟨S1024, .f32⟩
  | 21 => ⟨S1x1024, .f32⟩
  | 22 => ⟨S_, .f32⟩
  | 23 => ⟨S31x1024, .f32⟩
  | 24 => ⟨S31x1024, .f32⟩
  | _ => ⟨S2064x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2064x1024, .f32⟩

abbrev bufTy : (tb : Table) → Fin (tcTables nBuf tb) → BufTy
  | .hbm, ⟨i, _⟩ => hbmTy i
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_cst_2 : Ref sig .tc := ⟨.hbm, 229, rfl⟩
abbrev main_v224 : Ref sig .tc := ⟨.hbm, 230, rfl⟩
abbrev main_v225 : Ref sig .tc := ⟨.hbm, 231, rfl⟩
abbrev main_cst_3 : Ref sig .tc := ⟨.hbm, 232, rfl⟩
abbrev main_v226 : Ref sig .tc := ⟨.hbm, 233, rfl⟩
abbrev main_v227 : Ref sig .tc := ⟨.hbm, 234, rfl⟩
abbrev main_cst_4 : Ref sig .tc := ⟨.hbm, 235, rfl⟩
abbrev main_v228 : Ref sig .tc := ⟨.hbm, 236, rfl⟩
abbrev main_v229 : Ref sig .tc := ⟨.hbm, 237, rfl⟩
abbrev main_cst_5 : Ref sig .tc := ⟨.hbm, 238, rfl⟩
abbrev main_v230 : Ref sig .tc := ⟨.hbm, 239, rfl⟩
abbrev main_v231 : Ref sig .tc := ⟨.hbm, 240, rfl⟩
abbrev main_cst_6 : Ref sig .tc := ⟨.hbm, 241, rfl⟩
abbrev main_v232 : Ref sig .tc := ⟨.hbm, 242, rfl⟩
abbrev main_v233 : Ref sig .tc := ⟨.hbm, 243, rfl⟩
abbrev main_cst_7 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_8 : Ref sig .tc := ⟨.hbm, 248, rfl⟩
abbrev main_v237 : Ref sig .tc := ⟨.hbm, 249, rfl⟩
abbrev main_v238 : Ref sig .tc := ⟨.hbm, 250, rfl⟩
abbrev main_cst_9 : Ref sig .tc := ⟨.hbm, 251, rfl⟩
abbrev main_v239 : Ref sig .tc := ⟨.hbm, 252, rfl⟩
abbrev main_v240 : Ref sig .tc := ⟨.hbm, 253, rfl⟩
abbrev main_cst_10 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_cst_11 : Ref sig .tc := ⟨.hbm, 258, rfl⟩
abbrev main_v244 : Ref sig .tc := ⟨.hbm, 259, rfl⟩
abbrev main_v245 : Ref sig .tc := ⟨.hbm, 260, rfl⟩
abbrev main_cst_12 : Ref sig .tc := ⟨.hbm, 261, rfl⟩
abbrev main_v246 : Ref sig .tc := ⟨.hbm, 262, rfl⟩
abbrev main_v247 : Ref sig .tc := ⟨.hbm, 263, rfl⟩
abbrev main_cst_13 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_cst_14 : Ref sig .tc := ⟨.hbm, 268, rfl⟩
abbrev main_v251 : Ref sig .tc := ⟨.hbm, 269, rfl⟩
abbrev main_v252 : Ref sig .tc := ⟨.hbm, 270, rfl⟩
abbrev main_cst_15 : Ref sig .tc := ⟨.hbm, 271, rfl⟩
abbrev main_v253 : Ref sig .tc := ⟨.hbm, 272, rfl⟩
abbrev main_v254 : Ref sig .tc := ⟨.hbm, 273, rfl⟩
abbrev main_cst_16 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_cst_17 : Ref sig .tc := ⟨.hbm, 278, rfl⟩
abbrev main_v258 : Ref sig .tc := ⟨.hbm, 279, rfl⟩
abbrev main_v259 : Ref sig .tc := ⟨.hbm, 280, rfl⟩
abbrev main_cst_18 : Ref sig .tc := ⟨.hbm, 281, rfl⟩
abbrev main_v260 : Ref sig .tc := ⟨.hbm, 282, rfl⟩
abbrev main_v261 : Ref sig .tc := ⟨.hbm, 283, rfl⟩
abbrev main_cst_19 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_cst_20 : Ref sig .tc := ⟨.hbm, 288, rfl⟩
abbrev main_v265 : Ref sig .tc := ⟨.hbm, 289, rfl⟩
abbrev main_v266 : Ref sig .tc := ⟨.hbm, 290, rfl⟩
abbrev main_cst_21 : Ref sig .tc := ⟨.hbm, 291, rfl⟩
abbrev main_v267 : Ref sig .tc := ⟨.hbm, 292, rfl⟩
abbrev main_v268 : Ref sig .tc := ⟨.hbm, 293, rfl⟩
abbrev main_cst_22 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_cst_23 : Ref sig .tc := ⟨.hbm, 298, rfl⟩
abbrev main_v272 : Ref sig .tc := ⟨.hbm, 299, rfl⟩
abbrev main_v273 : Ref sig .tc := ⟨.hbm, 300, rfl⟩
abbrev main_cst_24 : Ref sig .tc := ⟨.hbm, 301, rfl⟩
abbrev main_v274 : Ref sig .tc := ⟨.hbm, 302, rfl⟩
abbrev main_v275 : Ref sig .tc := ⟨.hbm, 303, rfl⟩
abbrev main_cst_25 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_cst_26 : Ref sig .tc := ⟨.hbm, 308, rfl⟩
abbrev main_v279 : Ref sig .tc := ⟨.hbm, 309, rfl⟩
abbrev main_v280 : Ref sig .tc := ⟨.hbm, 310, rfl⟩
abbrev main_cst_27 : Ref sig .tc := ⟨.hbm, 311, rfl⟩
abbrev main_v281 : Ref sig .tc := ⟨.hbm, 312, rfl⟩
abbrev main_v282 : Ref sig .tc := ⟨.hbm, 313, rfl⟩
abbrev main_cst_28 : Ref sig .tc := ⟨.hbm, 314, rfl⟩
abbrev main_v283 : Ref sig .tc := ⟨.hbm, 315, rfl⟩
abbrev main_v284 : Ref sig .tc := ⟨.hbm, 316, rfl⟩
abbrev main_v285 : Ref sig .tc := ⟨.hbm, 317, rfl⟩
abbrev main_cst_29 : Ref sig .tc := ⟨.hbm, 318, rfl⟩
abbrev main_v286 : Ref sig .tc := ⟨.hbm, 319, rfl⟩
abbrev main_v287 : Ref sig .tc := ⟨.hbm, 320, rfl⟩
abbrev main_cst_30 : Ref sig .tc := ⟨.hbm, 321, rfl⟩
abbrev main_v288 : Ref sig .tc := ⟨.hbm, 322, rfl⟩
abbrev main_v289 : Ref sig .tc := ⟨.hbm, 323, rfl⟩
abbrev main_cst_31 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_cst_32 : Ref sig .tc := ⟨.hbm, 328, rfl⟩
abbrev main_v293 : Ref sig .tc := ⟨.hbm, 329, rfl⟩
abbrev main_v294 : Ref sig .tc := ⟨.hbm, 330, rfl⟩
abbrev main_cst_33 : Ref sig .tc := ⟨.hbm, 331, rfl⟩
abbrev main_v295 : Ref sig .tc := ⟨.hbm, 332, rfl⟩
abbrev main_v296 : Ref sig .tc := ⟨.hbm, 333, rfl⟩
abbrev main_cst_34 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_cst_35 : Ref sig .tc := ⟨.hbm, 338, rfl⟩
abbrev main_v300 : Ref sig .tc := ⟨.hbm, 339, rfl⟩
abbrev main_v301 : Ref sig .tc := ⟨.hbm, 340, rfl⟩
abbrev main_cst_36 : Ref sig .tc := ⟨.hbm, 341, rfl⟩
abbrev main_v302 : Ref sig .tc := ⟨.hbm, 342, rfl⟩
abbrev main_v303 : Ref sig .tc := ⟨.hbm, 343, rfl⟩
abbrev main_cst_37 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_cst_38 : Ref sig .tc := ⟨.hbm, 348, rfl⟩
abbrev main_v307 : Ref sig .tc := ⟨.hbm, 349, rfl⟩
abbrev main_v308 : Ref sig .tc := ⟨.hbm, 350, rfl⟩
abbrev main_cst_39 : Ref sig .tc := ⟨.hbm, 351, rfl⟩
abbrev main_v309 : Ref sig .tc := ⟨.hbm, 352, rfl⟩
abbrev main_v310 : Ref sig .tc := ⟨.hbm, 353, rfl⟩
abbrev main_cst_40 : Ref sig .tc := ⟨.hbm, 354, rfl⟩
abbrev main_v311 : Ref sig .tc := ⟨.hbm, 355, rfl⟩
abbrev main_v312 : Ref sig .tc := ⟨.hbm, 356, rfl⟩
abbrev main_v313 : Ref sig .tc := ⟨.hbm, 357, rfl⟩
abbrev main_cst_41 : Ref sig .tc := ⟨.hbm, 358, rfl⟩
abbrev main_v314 : Ref sig .tc := ⟨.hbm, 359, rfl⟩
abbrev main_v315 : Ref sig .tc := ⟨.hbm, 360, rfl⟩
abbrev main_cst_42 : Ref sig .tc := ⟨.hbm, 361, rfl⟩
abbrev main_v316 : Ref sig .tc := ⟨.hbm, 362, rfl⟩
abbrev main_v317 : Ref sig .tc := ⟨.hbm, 363, rfl⟩
abbrev main_cst_43 : Ref sig .tc := ⟨.hbm, 364, rfl⟩
abbrev main_v318 : Ref sig .tc := ⟨.hbm, 365, rfl⟩
abbrev main_v319 : Ref sig .tc := ⟨.hbm, 366, rfl⟩
abbrev main_v320 : Ref sig .tc := ⟨.hbm, 367, rfl⟩
abbrev main_cst_44 : Ref sig .tc := ⟨.hbm, 368, rfl⟩
abbrev main_v321 : Ref sig .tc := ⟨.hbm, 369, rfl⟩
abbrev main_v322 : Ref sig .tc := ⟨.hbm, 370, rfl⟩
abbrev main_cst_45 : Ref sig .tc := ⟨.hbm, 371, rfl⟩
abbrev main_v323 : Ref sig .tc := ⟨.hbm, 372, rfl⟩
abbrev main_v324 : Ref sig .tc := ⟨.hbm, 373, rfl⟩
abbrev main_cst_46 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_cst_47 : Ref sig .tc := ⟨.hbm, 378, rfl⟩
abbrev main_v328 : Ref sig .tc := ⟨.hbm, 379, rfl⟩
abbrev main_v329 : Ref sig .tc := ⟨.hbm, 380, rfl⟩
abbrev main_cst_48 : Ref sig .tc := ⟨.hbm, 381, rfl⟩
abbrev main_v330 : Ref sig .tc := ⟨.hbm, 382, rfl⟩
abbrev main_v331 : Ref sig .tc := ⟨.hbm, 383, rfl⟩
abbrev main_cst_49 : Ref sig .tc := ⟨.hbm, 384, rfl⟩
abbrev main_v332 : Ref sig .tc := ⟨.hbm, 385, rfl⟩
abbrev main_v333 : Ref sig .tc := ⟨.hbm, 386, rfl⟩
abbrev main_v334 : Ref sig .tc := ⟨.hbm, 387, rfl⟩
abbrev main_cst_50 : Ref sig .tc := ⟨.hbm, 388, rfl⟩
abbrev main_v335 : Ref sig .tc := ⟨.hbm, 389, rfl⟩
abbrev main_v336 : Ref sig .tc := ⟨.hbm, 390, rfl⟩
abbrev main_cst_51 : Ref sig .tc := ⟨.hbm, 391, rfl⟩
abbrev main_v337 : Ref sig .tc := ⟨.hbm, 392, rfl⟩
abbrev main_v338 : Ref sig .tc := ⟨.hbm, 393, rfl⟩
abbrev main_cst_52 : Ref sig .tc := ⟨.hbm, 394, rfl⟩
abbrev main_v339 : Ref sig .tc := ⟨.hbm, 395, rfl⟩
abbrev main_v340 : Ref sig .tc := ⟨.hbm, 396, rfl⟩
abbrev main_v341 : Ref sig .tc := ⟨.hbm, 397, rfl⟩
abbrev main_cst_53 : Ref sig .tc := ⟨.hbm, 398, rfl⟩
abbrev main_v342 : Ref sig .tc := ⟨.hbm, 399, rfl⟩
abbrev main_v343 : Ref sig .tc := ⟨.hbm, 400, rfl⟩
abbrev main_cst_54 : Ref sig .tc := ⟨.hbm, 401, rfl⟩
abbrev main_v344 : Ref sig .tc := ⟨.hbm, 402, rfl⟩
abbrev main_v345 : Ref sig .tc := ⟨.hbm, 403, rfl⟩
abbrev main_cst_55 : Ref sig .tc := ⟨.hbm, 404, rfl⟩
abbrev main_v346 : Ref sig .tc := ⟨.hbm, 405, rfl⟩
abbrev main_v347 : Ref sig .tc := ⟨.hbm, 406, rfl⟩
abbrev main_v348 : Ref sig .tc := ⟨.hbm, 407, rfl⟩
abbrev main_cst_56 : Ref sig .tc := ⟨.hbm, 408, rfl⟩
abbrev main_v349 : Ref sig .tc := ⟨.hbm, 409, rfl⟩
abbrev main_v350 : Ref sig .tc := ⟨.hbm, 410, rfl⟩
abbrev main_cst_57 : Ref sig .tc := ⟨.hbm, 411, rfl⟩
abbrev main_v351 : Ref sig .tc := ⟨.hbm, 412, rfl⟩
abbrev main_v352 : Ref sig .tc := ⟨.hbm, 413, rfl⟩
abbrev main_cst_58 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_cst_59 : Ref sig .tc := ⟨.hbm, 418, rfl⟩
abbrev main_v356 : Ref sig .tc := ⟨.hbm, 419, rfl⟩
abbrev main_v357 : Ref sig .tc := ⟨.hbm, 420, rfl⟩
abbrev main_cst_60 : Ref sig .tc := ⟨.hbm, 421, rfl⟩
abbrev main_v358 : Ref sig .tc := ⟨.hbm, 422, rfl⟩
abbrev main_v359 : Ref sig .tc := ⟨.hbm, 423, rfl⟩
abbrev main_cst_61 : Ref sig .tc := ⟨.hbm, 424, rfl⟩
abbrev main_v360 : Ref sig .tc := ⟨.hbm, 425, rfl⟩
abbrev main_v361 : Ref sig .tc := ⟨.hbm, 426, rfl⟩
abbrev main_v362 : Ref sig .tc := ⟨.hbm, 427, rfl⟩
abbrev main_cst_62 : Ref sig .tc := ⟨.hbm, 428, rfl⟩
abbrev main_v363 : Ref sig .tc := ⟨.hbm, 429, rfl⟩
abbrev main_v364 : Ref sig .tc := ⟨.hbm, 430, rfl⟩
abbrev main_cst_63 : Ref sig .tc := ⟨.hbm, 431, rfl⟩
abbrev main_v365 : Ref sig .tc := ⟨.hbm, 432, rfl⟩
abbrev main_v366 : Ref sig .tc := ⟨.hbm, 433, rfl⟩
abbrev main_cst_64 : Ref sig .tc := ⟨.hbm, 434, rfl⟩
abbrev main_v367 : Ref sig .tc := ⟨.hbm, 435, rfl⟩
abbrev main_v368 : Ref sig .tc := ⟨.hbm, 436, rfl⟩
abbrev main_v369 : Ref sig .tc := ⟨.hbm, 437, rfl⟩
abbrev main_cst_65 : Ref sig .tc := ⟨.hbm, 438, rfl⟩
abbrev main_v370 : Ref sig .tc := ⟨.hbm, 439, rfl⟩
abbrev main_v371 : Ref sig .tc := ⟨.hbm, 440, rfl⟩
abbrev main_cst_66 : Ref sig .tc := ⟨.hbm, 441, rfl⟩
abbrev main_v372 : Ref sig .tc := ⟨.hbm, 442, rfl⟩
abbrev main_v373 : Ref sig .tc := ⟨.hbm, 443, rfl⟩
abbrev main_cst_67 : Ref sig .tc := ⟨.hbm, 444, rfl⟩
abbrev main_v374 : Ref sig .tc := ⟨.hbm, 445, rfl⟩
abbrev main_v375 : Ref sig .tc := ⟨.hbm, 446, rfl⟩
abbrev main_v376 : Ref sig .tc := ⟨.hbm, 447, rfl⟩
abbrev main_cst_68 : Ref sig .tc := ⟨.hbm, 448, rfl⟩
abbrev main_v377 : Ref sig .tc := ⟨.hbm, 449, rfl⟩
abbrev main_v378 : Ref sig .tc := ⟨.hbm, 450, rfl⟩
abbrev main_cst_69 : Ref sig .tc := ⟨.hbm, 451, rfl⟩
abbrev main_v379 : Ref sig .tc := ⟨.hbm, 452, rfl⟩
abbrev main_v380 : Ref sig .tc := ⟨.hbm, 453, rfl⟩
abbrev main_cst_70 : Ref sig .tc := ⟨.hbm, 454, rfl⟩
abbrev main_v381 : Ref sig .tc := ⟨.hbm, 455, rfl⟩
abbrev main_v382 : Ref sig .tc := ⟨.hbm, 456, rfl⟩
abbrev main_v383 : Ref sig .tc := ⟨.hbm, 457, rfl⟩
abbrev main_cst_71 : Ref sig .tc := ⟨.hbm, 458, rfl⟩
abbrev main_v384 : Ref sig .tc := ⟨.hbm, 459, rfl⟩
abbrev main_v385 : Ref sig .tc := ⟨.hbm, 460, rfl⟩
abbrev main_cst_72 : Ref sig .tc := ⟨.hbm, 461, rfl⟩
abbrev main_v386 : Ref sig .tc := ⟨.hbm, 462, rfl⟩
abbrev main_v387 : Ref sig .tc := ⟨.hbm, 463, rfl⟩
abbrev main_cst_73 : Ref sig .tc := ⟨.hbm, 464, rfl⟩
abbrev main_v388 : Ref sig .tc := ⟨.hbm, 465, rfl⟩
abbrev main_v389 : Ref sig .tc := ⟨.hbm, 466, rfl⟩
abbrev main_v390 : Ref sig .tc := ⟨.hbm, 467, rfl⟩
abbrev main_cst_74 : Ref sig .tc := ⟨.hbm, 468, rfl⟩
abbrev main_v391 : Ref sig .tc := ⟨.hbm, 469, rfl⟩
abbrev main_v392 : Ref sig .tc := ⟨.hbm, 470, rfl⟩
abbrev main_cst_75 : Ref sig .tc := ⟨.hbm, 471, rfl⟩
abbrev main_v393 : Ref sig .tc := ⟨.hbm, 472, rfl⟩
abbrev main_v394 : Ref sig .tc := ⟨.hbm, 473, rfl⟩
abbrev main_cst_76 : Ref sig .tc := ⟨.hbm, 474, rfl⟩
abbrev main_v395 : Ref sig .tc := ⟨.hbm, 475, rfl⟩
abbrev main_v396 : Ref sig .tc := ⟨.hbm, 476, rfl⟩
abbrev main_v397 : Ref sig .tc := ⟨.hbm, 477, rfl⟩
abbrev main_cst_77 : Ref sig .tc := ⟨.hbm, 478, rfl⟩
abbrev main_v398 : Ref sig .tc := ⟨.hbm, 479, rfl⟩
abbrev main_v399 : Ref sig .tc := ⟨.hbm, 480, rfl⟩
abbrev main_cst_78 : Ref sig .tc := ⟨.hbm, 481, rfl⟩
abbrev main_v400 : Ref sig .tc := ⟨.hbm, 482, rfl⟩
abbrev main_v401 : Ref sig .tc := ⟨.hbm, 483, rfl⟩
abbrev main_cst_79 : Ref sig .tc := ⟨.hbm, 484, rfl⟩
abbrev main_v402 : Ref sig .tc := ⟨.hbm, 485, rfl⟩
abbrev main_v403 : Ref sig .tc := ⟨.hbm, 486, rfl⟩
abbrev main_v404 : Ref sig .tc := ⟨.hbm, 487, rfl⟩
abbrev main_cst_80 : Ref sig .tc := ⟨.hbm, 488, rfl⟩
abbrev main_v405 : Ref sig .tc := ⟨.hbm, 489, rfl⟩
abbrev main_v406 : Ref sig .tc := ⟨.hbm, 490, rfl⟩
abbrev main_cst_81 : Ref sig .tc := ⟨.hbm, 491, rfl⟩
abbrev main_v407 : Ref sig .tc := ⟨.hbm, 492, rfl⟩
abbrev main_v408 : Ref sig .tc := ⟨.hbm, 493, rfl⟩
abbrev main_cst_82 : Ref sig .tc := ⟨.hbm, 494, rfl⟩
abbrev main_v409 : Ref sig .tc := ⟨.hbm, 495, rfl⟩
abbrev main_v410 : Ref sig .tc := ⟨.hbm, 496, rfl⟩
abbrev main_v411 : Ref sig .tc := ⟨.hbm, 497, rfl⟩
abbrev main_cst_83 : Ref sig .tc := ⟨.hbm, 498, rfl⟩
abbrev main_v412 : Ref sig .tc := ⟨.hbm, 499, rfl⟩
abbrev main_v413 : Ref sig .tc := ⟨.hbm, 500, rfl⟩
abbrev main_cst_84 : Ref sig .tc := ⟨.hbm, 501, rfl⟩
abbrev main_v414 : Ref sig .tc := ⟨.hbm, 502, rfl⟩
abbrev main_v415 : Ref sig .tc := ⟨.hbm, 503, rfl⟩
abbrev main_cst_85 : Ref sig .tc := ⟨.hbm, 504, rfl⟩
abbrev main_v416 : Ref sig .tc := ⟨.hbm, 505, rfl⟩
abbrev main_v417 : Ref sig .tc := ⟨.hbm, 506, rfl⟩
abbrev main_v418 : Ref sig .tc := ⟨.hbm, 507, rfl⟩
abbrev main_cst_86 : Ref sig .tc := ⟨.hbm, 508, rfl⟩
abbrev main_v419 : Ref sig .tc := ⟨.hbm, 509, rfl⟩
abbrev main_v420 : Ref sig .tc := ⟨.hbm, 510, rfl⟩
abbrev main_cst_87 : Ref sig .tc := ⟨.hbm, 511, rfl⟩
abbrev main_v421 : Ref sig .tc := ⟨.hbm, 512, rfl⟩
abbrev main_v422 : Ref sig .tc := ⟨.hbm, 513, rfl⟩
abbrev main_cst_88 : Ref sig .tc := ⟨.hbm, 514, rfl⟩
abbrev main_v423 : Ref sig .tc := ⟨.hbm, 515, rfl⟩
abbrev main_v424 : Ref sig .tc := ⟨.hbm, 516, rfl⟩
abbrev main_v425 : Ref sig .tc := ⟨.hbm, 517, rfl⟩
abbrev main_cst_89 : Ref sig .tc := ⟨.hbm, 518, rfl⟩
abbrev main_v426 : Ref sig .tc := ⟨.hbm, 519, rfl⟩
abbrev main_v427 : Ref sig .tc := ⟨.hbm, 520, rfl⟩
abbrev main_cst_90 : Ref sig .tc := ⟨.hbm, 521, rfl⟩
abbrev main_v428 : Ref sig .tc := ⟨.hbm, 522, rfl⟩
abbrev main_v429 : Ref sig .tc := ⟨.hbm, 523, rfl⟩
abbrev main_cst_91 : Ref sig .tc := ⟨.hbm, 524, rfl⟩
abbrev main_v430 : Ref sig .tc := ⟨.hbm, 525, rfl⟩
abbrev main_v431 : Ref sig .tc := ⟨.hbm, 526, rfl⟩
abbrev main_v432 : Ref sig .tc := ⟨.hbm, 527, rfl⟩
abbrev main_cst_92 : Ref sig .tc := ⟨.hbm, 528, rfl⟩
abbrev main_v433 : Ref sig .tc := ⟨.hbm, 529, rfl⟩
abbrev main_v434 : Ref sig .tc := ⟨.hbm, 530, rfl⟩
abbrev main_cst_93 : Ref sig .tc := ⟨.hbm, 531, rfl⟩
abbrev main_v435 : Ref sig .tc := ⟨.hbm, 532, rfl⟩
abbrev main_v436 : Ref sig .tc := ⟨.hbm, 533, rfl⟩
abbrev main_cst_94 : Ref sig .tc := ⟨.hbm, 534, rfl⟩
abbrev main_v437 : Ref sig .tc := ⟨.hbm, 535, rfl⟩
abbrev main_v438 : Ref sig .tc := ⟨.hbm, 536, rfl⟩

abbrev nD : Nat := 1
abbrev τ : Topo := Topo.v7x

variable {F : FTy → Type} [FloatOps F]
-- ==== ConvFw.lean ====
abbrev S2064x1024 : Shape := ⟨2, ![2064, 1024]⟩
abbrev S31x1024 : Shape := ⟨2, ![31, 1024]⟩
abbrev S_ : Shape := ⟨0, ![]⟩
abbrev S2176x1024 : Shape := ⟨2, ![2176, 1024]⟩
abbrev S2176x128 : Shape := ⟨2, ![2176, 128]⟩
abbrev S31x128 : Shape := ⟨2, ![31, 128]⟩
abbrev S2216x128 : Shape := ⟨2, ![2216, 128]⟩
abbrev S32x128 : Shape := ⟨2, ![32, 128]⟩
abbrev S8x128 : Shape := ⟨2, ![8, 128]⟩
abbrev S168x128 : Shape := ⟨2, ![168, 128]⟩
abbrev S128x128 : Shape := ⟨2, ![128, 128]⟩
abbrev S1x128 : Shape := ⟨2, ![1, 128]⟩

abbrev nBuf : Space → Nat
  | .hbm => 6
  | .vmem => 7
  | .smem => 0
  | _ => 0

abbrev bufTy : (tb : Table) → Fin (tcTables nBuf tb) → BufTy
  | .hbm, ⟨0, _⟩ => ⟨S2064x1024, .f32⟩
  | .hbm, ⟨1, _⟩ => ⟨S31x1024, .f32⟩
  | .hbm, ⟨2, _⟩ => ⟨S_, .i32⟩
  | .hbm, ⟨3, _⟩ => ⟨S_, .f32⟩
  | .hbm, ⟨4, _⟩ => ⟨S2176x1024, .f32⟩
  | .hbm, ⟨5, _⟩ => ⟨S2176x1024, .f32⟩
  | .local _ .vmem, ⟨0, _⟩ => ⟨S2176x128, .f32⟩
  | .local _ .vmem, ⟨1, _⟩ => ⟨S2176x128, .f32⟩
  | .local _ .vmem, ⟨2, _⟩ => ⟨S31x128, .f32⟩
  | .local _ .vmem, ⟨3, _⟩ => ⟨S31x128, .f32⟩
  | .local _ .vmem, ⟨4, _⟩ => ⟨S2176x128, .f32⟩
  | .local _ .vmem, ⟨5, _⟩ => ⟨S2176x128, .f32⟩
  | .local _ .vmem, ⟨6, _⟩ => ⟨S2216x128, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c17_i32 : BitVec 32 := 17#32
  let v13 : BitVec 32 := Scalar.addi c0_i32 c17_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  v14
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v16 : Index := Scalar.indexCast v15
  let c0_7 : Index := 0#32
  ![v16.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v14 : BitVec 32 := Scalar.muli arg5 c128_i32
  let v15 : BitVec 32 := v14
  let v181 : Index := Scalar.indexCast v15
  let c0_41 : Index := 0#32
  ![v181.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvFwRefIdeal.lean ====
abbrev S2064x1024 : Shape := ⟨2, ![2064, 1024]⟩
abbrev S31x1024 : Shape := ⟨2, ![31, 1024]⟩
abbrev S_ : Shape := ⟨0, ![]⟩
abbrev S2176x1024 : Shape := ⟨2, ![2176, 1024]⟩
abbrev S30x1024 : Shape := ⟨2, ![30, 1024]⟩
abbrev S2206x1024 : Shape := ⟨2, ![2206, 1024]⟩
abbrev S1x1024 : Shape := ⟨2, ![1, 1024]⟩
abbrev S1024 : Shape := ⟨1, ![1024]⟩

abbrev nBuf : Space → Nat
  | .hbm => 227
  | .vmem => 0
  | .smem => 0
  | _ => 0

abbrev hbmTy0_0 (i : Nat) : BufTy := match i % 128 with
  | 0 => ⟨S2064x1024, .f32⟩
  | 1 => ⟨S31x1024, .f32⟩
  | 2 => ⟨S_, .i32⟩
  | 3 => ⟨S_, .f32⟩
  | 4 => ⟨S2176x1024, .f32⟩
  | 5 => ⟨S_, .f32⟩
  | 6 => ⟨S30x1024, .f32⟩
  | 7 => ⟨S2206x1024, .f32⟩
  | 8 => ⟨S2176x1024, .f32⟩
  | 9 => ⟨S1x1024, .f32⟩
  | 10 => ⟨S1024, .f32⟩
  | 11 => ⟨S1x1024, .f32⟩
  | 12 => ⟨S2176x1024, .f32⟩
  | 13 => ⟨S2176x1024, .f32⟩
  | 14 => ⟨S_, .f32⟩
  | 15 => ⟨S2176x1024, .f32⟩
  | 16 => ⟨S2176x1024, .f32⟩
  | 17 => ⟨S2176x1024, .f32⟩
  | 18 => ⟨S1x1024, .f32⟩
  | 19 => ⟨S1024, .f32⟩
  | 20 => ⟨S1x1024, .f32⟩
  | 21 => ⟨S2176x1024, .f32⟩
  | 22 => ⟨S2176x1024, .f32⟩
  | 23 => ⟨S2176x1024, .f32⟩
  | 24 => ⟨S2176x1024, .f32⟩
  | 25 => ⟨S1x1024, .f32⟩
  | 26 => ⟨S1024, .f32⟩
  | 27 => ⟨S1x1024, .f32⟩
  | 28 => ⟨S2176x1024, .f32⟩
  | 29 => ⟨S2176x1024, .f32⟩
  | 30 => ⟨S2176x1024, .f32⟩
  | 31 => ⟨S2176x1024, .f32⟩
  | 32 => ⟨S1x1024, .f32⟩
  | 33 => ⟨S1024, .f32⟩
  | 34 => ⟨S1x1024, .f32⟩
  | 35 => ⟨S2176x1024, .f32⟩
  | 36 => ⟨S2176x1024, .f32⟩
  | 37 => ⟨S2176x1024, .f32⟩
  | 38 => ⟨S2176x1024, .f32⟩
  | 39 => ⟨S1x1024, .f32⟩
  | 40 => ⟨S1024, .f32⟩
  | 41 => ⟨S1x1024, .f32⟩
  | 42 => ⟨S2176x1024, .f32⟩
  | 43 => ⟨S2176x1024, .f32⟩
  | 44 => ⟨S2176x1024, .f32⟩
  | 45 => ⟨S2176x1024, .f32⟩
  | 46 => ⟨S1x1024, .f32⟩
  | 47 => ⟨S1024, .f32⟩
  | 48 => ⟨S1x1024, .f32⟩
  | 49 => ⟨S2176x1024, .f32⟩
  | 50 => ⟨S2176x1024, .f32⟩
  | 51 => ⟨S2176x1024, .f32⟩
  | 52 => ⟨S2176x1024, .f32⟩
  | 53 => ⟨S1x1024, .f32⟩
  | 54 => ⟨S1024, .f32⟩
  | 55 => ⟨S1x1024, .f32⟩
  | 56 => ⟨S2176x1024, .f32⟩
  | 57 => ⟨S2176x1024, .f32⟩
  | 58 => ⟨S2176x1024, .f32⟩
  | 59 => ⟨S2176x1024, .f32⟩
  | 60 => ⟨S1x1024, .f32⟩
  | 61 => ⟨S1024, .f32⟩
  | 62 => ⟨S1x1024, .f32⟩
  | 63 => ⟨S2176x1024, .f32⟩
  | 64 => ⟨S2176x1024, .f32⟩
  | 65 => ⟨S2176x1024, .f32⟩
  | 66 => ⟨S2176x1024, .f32⟩
  | 67 => ⟨S1x1024, .f32⟩
  | 68 => ⟨S1024, .f32⟩
  | 69 => ⟨S1x1024, .f32⟩
  | 70 => ⟨S2176x1024, .f32⟩
  | 71 => ⟨S2176x1024, .f32⟩
  | 72 => ⟨S2176x1024, .f32⟩
  | 73 => ⟨S2176x1024, .f32⟩
  | 74 => ⟨S1x1024, .f32⟩
  | 75 => ⟨S1024, .f32⟩
  | 76 => ⟨S1x1024, .f32⟩
  | 77 => ⟨S2176x1024, .f32⟩
  | 78 => ⟨S2176x1024, .f32⟩
  | 79 => ⟨S2176x1024, .f32⟩
  | 80 => ⟨S2176x1024, .f32⟩
  | 81 => ⟨S1x1024, .f32⟩
  | 82 => ⟨S1024, .f32⟩
  | 83 => ⟨S1x1024, .f32⟩
  | 84 => ⟨S2176x1024, .f32⟩
  | 85 => ⟨S2176x1024, .f32⟩
  | 86 => ⟨S2176x1024, .f32⟩
  | 87 => ⟨S2176x1024, .f32⟩
  | 88 => ⟨S1x1024, .f32⟩
  | 89 => ⟨S1024, .f32⟩
  | 90 => ⟨S1x1024, .f32⟩
  | 91 => ⟨S2176x1024, .f32⟩
  | 92 => ⟨S2176x1024, .f32⟩
  | 93 => ⟨S2176x1024, .f32⟩
  | 94 => ⟨S2176x1024, .f32⟩
  | 95 => ⟨S1x1024, .f32⟩
  | 96 => ⟨S1024, .f32⟩
  | 97 => ⟨S1x1024, .f32⟩
  | 98 => ⟨S2176x1024, .f32⟩
  | 99 => ⟨S2176x1024, .f32⟩
  | 100 => ⟨S2176x1024, .f32⟩
  | 101 => ⟨S2176x1024, .f32⟩
  | 102 => ⟨S1x1024, .f32⟩
  | 103 => ⟨S1024, .f32⟩
  | 104 => ⟨S1x1024, .f32⟩
  | 105 => ⟨S2176x1024, .f32⟩
  | 106 => ⟨S2176x1024, .f32⟩
  | 107 => ⟨S2176x1024, .f32⟩
  | 108 => ⟨S2176x1024, .f32⟩
  | 109 => ⟨S1x1024, .f32⟩
  | 110 => ⟨S1024, .f32⟩
  | 111 => ⟨S1x1024, .f32⟩
  | 112 => ⟨S2176x1024, .f32⟩
  | 113 => ⟨S2176x1024, .f32⟩
  | 114 => ⟨S2176x1024, .f32⟩
  | 115 => ⟨S2176x1024, .f32⟩
  | 116 => ⟨S1x1024, .f32⟩
  | 117 => ⟨S1024, .f32⟩
  | 118 => ⟨S1x1024, .f32⟩
  | 119 => ⟨S2176x1024, .f32⟩
  | 120 => ⟨S2176x1024, .f32⟩
  | 121 => ⟨S2176x1024, .f32⟩
  | 122 => ⟨S2176x1024, .f32⟩
  | 123 => ⟨S1x1024, .f32⟩
  | 124 => ⟨S1024, .f32⟩
  | 125 => ⟨S1x1024, .f32⟩
  | 126 => ⟨S2176x1024, .f32⟩
  | 127 => ⟨S2176x1024, .f32⟩
  | _ => ⟨S2064x1024, .f32⟩

abbrev hbmTy0_1 (i : Nat) : BufTy := match i % 128 with
  | 0 => ⟨S2176x1024, .f32⟩
  | 1 => ⟨S2176x1024, .f32⟩
  | 2 => ⟨S1x1024, .f32⟩
  | 3 => ⟨S1024, .f32⟩
  | 4 => ⟨S1x1024, .f32⟩
  | 5 => ⟨S2176x1024, .f32⟩
  | 6 => ⟨S2176x1024, .f32⟩
  | 7 => ⟨S2176x1024, .f32⟩
  | 8 => ⟨S2176x1024, .f32⟩
  | 9 => ⟨S1x1024, .f32⟩
  | 10 => ⟨S1024, .f32⟩
  | 11 => ⟨S1x1024, .f32⟩
  | 12 => ⟨S2176x1024, .f32⟩
  | 13 => ⟨S2176x1024, .f32⟩
  | 14 => ⟨S2176x1024, .f32⟩
  | 15 => ⟨S2176x1024, .f32⟩
  | 16 => ⟨S1x1024, .f32⟩
  | 17 => ⟨S1024, .f32⟩
  | 18 => ⟨S1x1024, .f32⟩
  | 19 => ⟨S2176x1024, .f32⟩
  | 20 => ⟨S2176x1024, .f32⟩
  | 21 => ⟨S2176x1024, .f32⟩
  | 22 => ⟨S2176x1024, .f32⟩
  | 23 => ⟨S1x1024, .f32⟩
  | 24 => ⟨S1024, .f32⟩
  | 25 => ⟨S1x1024, .f32⟩
  | 26 => ⟨S2176x1024, .f32⟩
  | 27 => ⟨S2176x1024, .f32⟩
  | 28 => ⟨S2176x1024, .f32⟩
  | 29 => ⟨S2176x1024, .f32⟩
  | 30 => ⟨S1x1024, .f32⟩
  | 31 => ⟨S1024, .f32⟩
  | 32 => ⟨S1x1024, .f32⟩
  | 33 => ⟨S2176x1024, .f32⟩
  | 34 => ⟨S2176x1024, .f32⟩
  | 35 => ⟨S2176x1024, .f32⟩
  | 36 => ⟨S2176x1024, .f32⟩
  | 37 => ⟨S1x1024, .f32⟩
  | 38 => ⟨S1024, .f32⟩
  | 39 => ⟨S1x1024, .f32⟩
  | 40 => ⟨S2176x1024, .f32⟩
  | 41 => ⟨S2176x1024, .f32⟩
  | 42 => ⟨S2176x1024, .f32⟩
  | 43 => ⟨S2176x1024, .f32⟩
  | 44 => ⟨S1x1024, .f32⟩
  | 45 => ⟨S1024, .f32⟩
  | 46 => ⟨S1x1024, .f32⟩
  | 47 => ⟨S2176x1024, .f32⟩
  | 48 => ⟨S2176x1024, .f32⟩
  | 49 => ⟨S2176x1024, .f32⟩
  | 50 => ⟨S2176x1024, .f32⟩
  | 51 => ⟨S1x1024, .f32⟩
  | 52 => ⟨S1024, .f32⟩
  | 53 => ⟨S1x1024, .f32⟩
  | 54 => ⟨S2176x1024, .f32⟩
  | 55 => ⟨S2176x1024, .f32⟩
  | 56 => ⟨S2176x1024, .f32⟩
  | 57 => ⟨S2176x1024, .f32⟩
  | 58 => ⟨S1x1024, .f32⟩
  | 59 => ⟨S1024, .f32⟩
  | 60 => ⟨S1x1024, .f32⟩
  | 61 => ⟨S2176x1024, .f32⟩
  | 62 => ⟨S2176x1024, .f32⟩
  | 63 => ⟨S2176x1024, .f32⟩
  | 64 => ⟨S2176x1024, .f32⟩
  | 65 => ⟨S1x1024, .f32⟩
  | 66 => ⟨S1024, .f32⟩
  | 67 => ⟨S1x1024, .f32⟩
  | 68 => ⟨S2176x1024, .f32⟩
  | 69 => ⟨S2176x1024, .f32⟩
  | 70 => ⟨S2176x1024, .f32⟩
  | 71 => ⟨S2176x1024, .f32⟩
  | 72 => ⟨S1x1024, .f32⟩
  | 73 => ⟨S1024, .f32⟩
  | 74 => ⟨S1x1024, .f32⟩
  | 75 => ⟨S2176x1024, .f32⟩
  | 76 => ⟨S2176x1024, .f32⟩
  | 77 => ⟨S2176x1024, .f32⟩
  | 78 => ⟨S2176x1024, .f32⟩
  | 79 => ⟨S1x1024, .f32⟩
  | 80 => ⟨S1024, .f32⟩
  | 81 => ⟨S1x1024, .f32⟩
  | 82 => ⟨S2176x1024, .f32⟩
  | 83 => ⟨S2176x1024, .f32⟩
  | 84 => ⟨S2176x1024, .f32⟩
  | 85 => ⟨S2176x1024, .f32⟩
  | 86 => ⟨S1x1024, .f32⟩
  | 87 => ⟨S1024, .f32⟩
  | 88 => ⟨S1x1024, .f32⟩
  | 89 => ⟨S2176x1024, .f32⟩
  | 90 => ⟨S2176x1024, .f32⟩
  | 91 => ⟨S2176x1024, .f32⟩
  | 92 => ⟨S2176x1024, .f32⟩
  | 93 => ⟨S1x1024, .f32⟩
  | 94 => ⟨S1024, .f32⟩
  | 95 => ⟨S1x1024, .f32⟩
  | 96 => ⟨S2176x1024, .f32⟩
  | 97 => ⟨S2176x1024, .f32⟩
  | 98 => ⟨S2176x1024, .f32⟩
  | _ => ⟨S2064x1024, .f32⟩

abbrev hbmTy (i : Nat) : BufTy := match i / 128 with
  | 0 => hbmTy0_0 i
  | 1 => hbmTy0_1 i
  | _ => ⟨S2064x1024, .f32⟩

abbrev bufTy : (tb : Table) → Fin (tcTables nBuf tb) → BufTy
  | .hbm, ⟨i, _⟩ => hbmTy i
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩

abbrev nD : Nat := 1
abbrev τ : Topo := Topo.v7x

variable {F : FTy → Type} [FloatOps F]
-- ==== Proof.Prod.lean ====
module

public import proofs.«01_k».proof.Defs
public import Idealize.ShloMosaic.Lib.MatmulPlain
public import Idealize.ShloMosaic.Lib.ValueIdx
public import Idealize.ShloMosaic.Lib.Pipeline.Value
public import Idealize.ShloMosaic.Lib.Pointwise
public import Idealize.ShloMosaic.Lib.Pointwise.ShapeOpsCore
public import Idealize.ShloMosaic.PureOps.Ideal.Laws
public import Idealize.ShloMosaic.Lib.StableHlo.RunRead
public import Idealize.ShloMosaic.Lib.Pipeline.ValueKit
public import Idealize.ShloMosaic.Lib.Tactic
public import Idealize.ShloMosaic.Lib.Quiescent

/- Products of matrices over the extended reals, by blocks and in one piece.
   Nothing here asks that a value be finite: sums may be grouped freely, and zero times anything is zero. -/
@[expose] public section
noncomputable section
namespace Cert.Prod
open Idealize.ShloMosaic
open Idealize.ShloMosaic.ValueIdx (contrEquiv1 contrEquiv1_symm_val)

/-- A matrix from a function of the row and the column. -/
def ar (a b : ℕ) (φ : FTy) (f : ℕ → ℕ → EReal) : FVec Ideal ⟨2, ![a, b]⟩ φ := fun j => f (j 0).val (j 1).val
/-- A stack of matrices from a function of the member, the row and the column. -/
def ar3 (p a b : ℕ) (φ : FTy) (f : ℕ → ℕ → ℕ → EReal) : FVec Ideal ⟨3, ![p, a, b]⟩ φ := fun j => f (j 0).val (j 1).val (j 2).val

section
variable {a b c p : ℕ} {φ ψ : FTy} {f g : ℕ → ℕ → EReal}

/-- The origin of a block. -/
theorem hz2 : (![0, 0] : Fin 2 → ℕ) = fun _ => 0 := funext fun a => by fin_cases a <;> rfl
theorem hz3 : (![0, 0, 0] : Fin 3 → ℕ) = fun _ => 0 := funext fun a => by fin_cases a <;> rfl

/-- Every matrix is one of a function. -/
theorem ar_of (x : FVec Ideal ⟨2, ![a, b]⟩ φ) : ∃ f, x = ar a b φ f :=
  ⟨fun r c => if h : r < a ∧ c < b then x (ix2 ⟨r, h.1⟩ ⟨c, h.2⟩) else 0, funext fun j => by
    have hj : (j 0).val < a ∧ (j 1).val < b := ⟨(j 0).isLt, (j 1).isLt⟩
    show x j = if h : (j 0).val < a ∧ (j 1).val < b then x (ix2 ⟨(j 0).val, h.1⟩ ⟨(j 1).val, h.2⟩) else 0
    rw [dif_pos hj]
    exact congrArg x (eq_ix2 j)⟩

theorem ar_congr (h : ∀ r k, r < a → k < b → f r k = g r k) : ar a b φ f = ar a b φ g :=
  funext fun j => h _ _ (j 0).isLt (j 1).isLt

theorem ar3_congr {f g : ℕ → ℕ → ℕ → EReal} (h : ∀ q r k, q < p → r < a → k < b → f q r k = g q r k) : ar3 p a b φ f = ar3 p a b φ g :=
  funext fun j => h _ _ _ (j 0).isLt (j 1).isLt (j 2).isLt

theorem add_ar : addf (ar a b φ f) (ar a b φ g) = ar a b φ (fun r k => f r k + g r k) := rfl

/-- The rows of a matrix and zero rows after them. -/
def rows (n : ℕ) (f : ℕ → ℕ → EReal) (r k : ℕ) : EReal := if r < n then f r k else 0

theorem pad_ar {hi : Fin 2 → ℕ} {u : Shape} (v : FVec Ideal u φ) (hu : 0 < u.numel) (hv : v (Shape.Idx.first hu) = (0 : EReal))
    (h : (⟨2, ![a, c]⟩ : Shape).Pads (![0, 0] : Fin 2 → ℕ) hi ![0, 0] ⟨2, ![b, c]⟩) :
    pad ⟨2, ![b, c]⟩ (![0, 0] : Fin 2 → ℕ) hi ![0, 0] (ar a c φ f) v h hu = ar b c φ (rows a f) := by
  funext j
  rw [pad_apply]
  have c1 : (j 1).val < c := (j 1).isLt
  by_cases hr : (j 0).val < a
  · rw [dif_pos (fun i => by
      match i with
      | ⟨0, _⟩ => exact ⟨Nat.zero_le _, Nat.mod_one _, by show ((j 0).val - 0) / 1 < a; rw [Nat.div_one]; exact hr⟩
      | ⟨1, _⟩ => exact ⟨Nat.zero_le _, Nat.mod_one _, by show ((j 1).val - 0) / 1 < c; rw [Nat.div_one]; exact c1⟩)]
    show f (((j 0).val - 0) / 1) (((j 1).val - 0) / 1) = if (j 0).val < a then f (j 0).val (j 1).val else 0
    rw [if_pos hr, Nat.div_one, Nat.div_one, Nat.sub_zero, Nat.sub_zero]
  · rw [dif_neg (fun hin => hr (by
      have h0 : ((j 0).val - 0) / 1 < a := (hin 0).2.2
      rwa [Nat.div_one] at h0)), hv]
    show _ = if (j 0).val < a then f (j 0).val (j 1).val else 0
    rw [if_neg hr]

theorem zero_pad {u : Shape} (x : IVec u 32) (i : u.Idx) (h : x i = 0#32) : sitofp (F := Ideal) φ x i = (0 : EReal) := by
  show (((x i).toInt : ℝ) : EReal) = 0
  rw [h]
  norm_num

/-- The columns of a matrix in parts, one matrix for each. -/
def parts (n : ℕ) (f : ℕ → ℕ → EReal) (q r k : ℕ) : EReal := f r (q * n + k)

theorem cut_ar (hm : c = p * b) (h1 : (⟨2, ![a, c]⟩ : Shape).ShapeCasts ⟨3, ![a, p, b]⟩) (h2 : (⟨3, ![a, p, b]⟩ : Shape).Transposes [1, 0, 2] ⟨3, ![p, a, b]⟩) :
    transpose ⟨3, ![p, a, b]⟩ [1, 0, 2] (shapeCast ⟨3, ![a, p, b]⟩ (ar a c φ f) h1) h2 = ar3 p a b φ (parts b f) := by
  subst hm
  funext j
  have c0 : (j 0).val < p := (j 0).isLt
  have c1 : (j 1).val < a := (j 1).isLt
  have c2 : (j 2).val < b := (j 2).isLt
  have hl : (j 0).val * b + (j 2).val < p * b :=
    calc (j 0).val * b + (j 2).val < (j 0).val * b + b := Nat.add_lt_add_left c2 _
      _ = ((j 0).val + 1) * b := by ring
      _ ≤ p * b := Nat.mul_le_mul_right _ c0
  rw [transpose_apply [1, 0, 2] _ h2 j (ix3 (j 1) (j 0) (j 2)) (fun i => match i with
    | ⟨0, _⟩ => rfl
    | ⟨1, _⟩ => rfl
    | ⟨2, _⟩ => rfl), shapeCast_apply _ h1 _ (ix2 ⟨(j 1).val, c1⟩ ⟨(j 0).val * b + (j 2).val, hl⟩) (by
      rewrite [Shape.rowMajor_val_two, Shape.rowMajor_val_three]
      show (j 1).val * (p * b) + ((j 0).val * b + (j 2).val) = ((j 1).val * p + (j 0).val) * b + (j 2).val
      ring)]
  rfl

theorem turn_ar (h : (⟨2, ![a, b]⟩ : Shape).Transposes [1, 0] ⟨2, ![b, a]⟩) :
    transpose ⟨2, ![b, a]⟩ [1, 0] (ar a b φ f) h = ar b a φ (fun r k => f k r) := by
  funext j
  rw [transpose_apply [1, 0] _ h j (ix2 (j 1) (j 0)) (fun i => match i with
    | ⟨0, _⟩ => rfl
    | ⟨1, _⟩ => rfl)]
  rfl

/-- What the host programs hand to the products: rows rounded and padded, and weights cut by columns and rounded. -/
theorem put_rows {hi : Fin 2 → ℕ} {u : Shape} (x : IVec u 32) (hu : 0 < u.numel) (hv : x (Shape.Idx.first hu) = 0#32)
    (h : (⟨2, ![a, c]⟩ : Shape).Pads (![0, 0] : Fin 2 → ℕ) hi ![0, 0] ⟨2, ![b, c]⟩) (ht : FTy.bits .bf16 < FTy.bits .f32) :
    truncf (F := Ideal) .bf16 (pad ⟨2, ![b, c]⟩ (![0, 0] : Fin 2 → ℕ) hi ![0, 0] (ar a c .f32 f) (sitofp (F := Ideal) .f32 x) h hu) ht = ar b c .bf16 (rows a f) :=
  pad_ar (φ := .f32) (sitofp (F := Ideal) .f32 x) hu (zero_pad _ _ hv) h
theorem put_cols (hm : c = p * b) (h1 : (⟨2, ![a, c]⟩ : Shape).ShapeCasts ⟨3, ![a, p, b]⟩) (h2 : (⟨3, ![a, p, b]⟩ : Shape).Transposes [1, 0, 2] ⟨3, ![p, a, b]⟩)
    (ht : FTy.bits .bf16 < FTy.bits .f32) :
    truncf (F := Ideal) .bf16 (transpose ⟨3, ![p, a, b]⟩ [1, 0, 2] (shapeCast ⟨3, ![a, p, b]⟩ (ar a c .f32 f) h1) h2) ht = ar3 p a b .bf16 (parts b f) :=
  cut_ar (φ := .f32) hm h1 h2

theorem drop_ar {f : ℕ → ℕ → ℕ → EReal} (h : (⟨3, ![1, a, b]⟩ : Shape).ShapeCasts ⟨2, ![a, b]⟩) : shapeCast ⟨2, ![a, b]⟩ (ar3 1 a b φ f) h = ar a b φ (f 0) := by
  funext j
  exact shapeCast_dropUnit_apply ![a, b] (ar3 1 a b φ f) h j

theorem give_ar (h : (⟨2, ![a, b]⟩ : Shape).ShapeCasts ⟨3, ![1, a, b]⟩) : shapeCast ⟨3, ![1, a, b]⟩ (ar a b φ f) h = ar3 1 a b φ (fun _ => f) := by
  funext j
  exact shapeCast_addUnit_apply ![a, b] (ar a b φ f) h j
end

section
variable {M K N : ℕ} {φ₁ φ₂ : FTy} (x y : ℕ → ℕ → EReal)

/-- Rows by columns. -/
def nn (K : ℕ) (r k : ℕ) : EReal := ∑ l ∈ Finset.range K, x r l * y l k
/-- Rows by rows. -/
def nt (K : ℕ) (r k : ℕ) : EReal := ∑ l ∈ Finset.range K, x r l * y k l
/-- Columns by columns. -/
def tn (K : ℕ) (r k : ℕ) : EReal := ∑ l ∈ Finset.range K, x l r * y l k

/-- The product that contracts the rows of both its operands. -/
def tnDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [],
    rfl, Nat.two_pos, fun b => by fin_cases b <;> rfl⟩

theorem one_axis {sl sr so : Shape} (d : DotDims sl sr so) (hr : d.contr.rank = 1) (hs : d.contr.size ⟨0, by omega⟩ = K)
    (g : d.contr.Idx → EReal) (G : ℕ → EReal) (h : ∀ q, g q = G (q ⟨0, by omega⟩).val) : ∑ q, g q = ∑ l ∈ Finset.range K, G l := by
  rw [← Equiv.sum_comp (contrEquiv1 d K hr hs).symm, ← Fin.sum_univ_eq_sum_range]
  exact Finset.sum_congr rfl fun l _ => by rw [h, contrEquiv1_symm_val]

theorem nn_sum (j : (⟨2, ![M, N]⟩ : Shape).Idx) :
    (∑ q : (DotDims.plain M K N).contr.Idx, ar M K φ₁ x ((DotDims.plain M K N).lhsIdx j q) * ar K N φ₂ y ((DotDims.plain M K N).rhsIdx j q)) = nn x y K (j 0).val (j 1).val :=
  one_axis (DotDims.plain M K N) rfl rfl _ (fun l => x (j 0).val l * y l (j 1).val) fun q => rfl

theorem nt_sum (j : (⟨2, ![M, N]⟩ : Shape).Idx) :
    (∑ q : (DotDims.transposedRhs M K N).contr.Idx, ar M K φ₁ x ((DotDims.transposedRhs M K N).lhsIdx j q) * ar N K φ₂ y ((DotDims.transposedRhs M K N).rhsIdx j q)) = nt x y K (j 0).val (j 1).val :=
  one_axis (DotDims.transposedRhs M K N) rfl rfl _ (fun l => x (j 0).val l * y (j 1).val l) fun q => rfl

theorem tn_sum (j : (⟨2, ![M, N]⟩ : Shape).Idx) :
    (∑ q : (tnDims M K N).contr.Idx, ar K M φ₁ x ((tnDims M K N).lhsIdx j q) * ar K N φ₂ y ((tnDims M K N).rhsIdx j q)) = tn x y K (j 0).val (j 1).val :=
  one_axis (tnDims M K N) rfl rfl _ (fun l => x l (j 0).val * y l (j 1).val) fun q => rfl

theorem mat_nn : matmul (DotDims.plain M K N) none (ar M K φ₁ x) (ar K N φ₂ y) (constant (F := Ideal) ⟨2, ![M, N]⟩ .f32 0x00000000#32) = ar M N .f32 (nn x y K) :=
  funext fun j => (Ideal.matmul_constant_zero_apply _ none _ _ j).trans (nn_sum x y j)
theorem mat_nt : matmul (DotDims.transposedRhs M K N) none (ar M K φ₁ x) (ar N K φ₂ y) (constant (F := Ideal) ⟨2, ![M, N]⟩ .f32 0x00000000#32) = ar M N .f32 (nt x y K) :=
  funext fun j => (Ideal.matmul_constant_zero_apply _ none _ _ j).trans (nt_sum x y j)
theorem mat_tn : matmul (tnDims M K N) none (ar K M φ₁ x) (ar K N φ₂ y) (constant (F := Ideal) ⟨2, ![M, N]⟩ .f32 0x00000000#32) = ar M N .f32 (tn x y K) :=
  funext fun j => (Ideal.matmul_constant_zero_apply _ none _ _ j).trans (tn_sum x y j)

theorem host_nn : Host.dotGeneral (DotDims.plain M K N) none (ar M K φ₁ x) (ar K N φ₂ y) = ar M N .f32 (nn x y K) :=
  funext fun j => (Ideal.dotGeneral_apply _ none .single _ _ j).trans (nn_sum x y j)
theorem host_nt : Host.dotGeneral (DotDims.transposedRhs M K N) none (ar M K φ₁ x) (ar N K φ₂ y) = ar M N .f32 (nt x y K) :=
  funext fun j => (Ideal.dotGeneral_apply _ none .single _ _ j).trans (nt_sum x y j)
theorem host_tn : Host.dotGeneral (tnDims M K N) none (ar K M φ₁ x) (ar K N φ₂ y) = ar M N .f32 (tn x y K) :=
  funext fun j => (Ideal.dotGeneral_apply _ none .single _ _ j).trans (tn_sum x y j)

/-- One program's product where an operand or the result is one panel of a stack. -/
theorem panel_nn (g : ℕ → ℕ → ℕ → EReal) (h : (⟨3, ![1, K, N]⟩ : Shape).ShapeCasts ⟨2, ![K, N]⟩) :
    matmul (DotDims.plain M K N) none (ar M K φ₁ x) (shapeCast ⟨2, ![K, N]⟩ (ar3 1 K N φ₂ g) h) (constant (F := Ideal) ⟨2, ![M, N]⟩ .f32 0x00000000#32) = ar M N .f32 (nn x (g 0) K) := by
  rw [drop_ar h]
  exact mat_nn x (g 0)
theorem panel_nt (g : ℕ → ℕ → ℕ → EReal) (h : (⟨3, ![1, N, K]⟩ : Shape).ShapeCasts ⟨2, ![N, K]⟩) :
    matmul (DotDims.transposedRhs M K N) none (ar M K φ₁ x) (shapeCast ⟨2, ![N, K]⟩ (ar3 1 N K φ₂ g) h) (constant (F := Ideal) ⟨2, ![M, N]⟩ .f32 0x00000000#32) = ar M N .f32 (nt x (g 0) K) := by
  rw [drop_ar h]
  exact mat_nt x (g 0)
theorem panel_tn (h : (⟨2, ![M, N]⟩ : Shape).ShapeCasts ⟨3, ![1, M, N]⟩) :
    shapeCast ⟨3, ![1, M, N]⟩ (matmul (tnDims M K N) none (ar K M φ₁ x) (ar K N φ₂ y) (constant (F := Ideal) ⟨2, ![M, N]⟩ .f32 0x00000000#32)) h = ar3 1 M N .f32 (fun _ => tn x y K) := by
  rw [mat_tn x y]
  exact give_ar h

/-- What the references do: a product of the whole matrices, and zero rows after it; or the product turned. -/
theorem whole_nn {T : ℕ} {hi : Fin 2 → ℕ} {u : Shape} (v : FVec Ideal u .f32) (hu : 0 < u.numel) (hv : v (Shape.Idx.first hu) = (0 : EReal))
    (h : (⟨2, ![M, N]⟩ : Shape).Pads (![0, 0] : Fin 2 → ℕ) hi ![0, 0] ⟨2, ![T, N]⟩) :
    pad ⟨2, ![T, N]⟩ (![0, 0] : Fin 2 → ℕ) hi ![0, 0] (Host.dotGeneral (DotDims.plain M K N) none (ar M K .f32 x) (ar K N .f32 y)) v h hu = ar T N .f32 (rows M (nn x y K)) := by
  rw [host_nn x y]
  exact pad_ar v hu hv h
theorem whole_nt {T : ℕ} {hi : Fin 2 → ℕ} {u : Shape} (v : FVec Ideal u .f32) (hu : 0 < u.numel) (hv : v (Shape.Idx.first hu) = (0 : EReal))
    (h : (⟨2, ![M, N]⟩ : Shape).Pads (![0, 0] : Fin 2 → ℕ) hi ![0, 0] ⟨2, ![T, N]⟩) :
    pad ⟨2, ![T, N]⟩ (![0, 0] : Fin 2 → ℕ) hi ![0, 0] (Host.dotGeneral (DotDims.transposedRhs M K N) none (ar M K .f32 x) (ar N K .f32 y)) v h hu = ar T N .f32 (rows M (nt x y K)) := by
  rw [host_nt x y]
  exact pad_ar v hu hv h

/-- Zero rows in the left operand are zero rows of the product. -/
theorem nn_rows (n r k : ℕ) : nn (rows n x) y K r k = rows n (nn x y K) r k := by
  unfold nn rows
  by_cases h : r < n
  · simp only [if_pos h]
  · simp only [if_neg h, zero_mul, Finset.sum_const_zero]
theorem nt_rows (n r k : ℕ) : nt (rows n x) y K r k = rows n (nt x y K) r k := by
  unfold nt rows
  by_cases h : r < n
  · simp only [if_pos h]
  · simp only [if_neg h, zero_mul, Finset.sum_const_zero]
/-- Zero rows in both operands leave the product as it is. -/
theorem tn_rows (n m r k : ℕ) : tn (rows n x) (rows n y) (n + m) r k = tn x y n r k := by
  unfold tn rows
  rw [Finset.sum_range_add]
  have h0 : ∑ l ∈ Finset.range m, (if n + l < n then x (n + l) r else 0) * (if n + l < n then y (n + l) k else 0) = 0 :=
    Finset.sum_eq_zero fun l _ => by rw [if_neg (by omega), zero_mul]
  rw [h0, add_zero]
  exact Finset.sum_congr rfl fun l hl => by rw [if_pos (Finset.mem_range.mp hl), if_pos (Finset.mem_range.mp hl)]
theorem tn_comm (n r k : ℕ) : tn x y n r k = tn y x n k r :=
  Finset.sum_congr rfl fun l _ => mul_comm _ _

theorem whole_tn (h : (⟨2, ![N, M]⟩ : Shape).Transposes [1, 0] ⟨2, ![M, N]⟩) :
    transpose ⟨2, ![M, N]⟩ [1, 0] (Host.dotGeneral (tnDims N K M) none (ar K N .f32 y) (ar K M .f32 x)) h = ar M N .f32 (tn x y K) := by
  rw [host_tn y x, turn_ar h]
  exact ar_congr fun r k _ _ => tn_comm y x K k r

/-- A sum in parts. -/
theorem sum_parts (P n : ℕ) (g : ℕ → EReal) : ∑ q ∈ Finset.range P, ∑ l ∈ Finset.range n, g (q * n + l) = ∑ l ∈ Finset.range (P * n), g l := by
  induction P with
  | zero => simp
  | succ P ih => rw [Finset.sum_range_succ, ih, Nat.succ_mul, Finset.sum_range_add]
end
/-- The blocks that one point of a product in four parts reads: a block of rows and a part of the columns. -/
def bx (n B S : ℕ) (x : ℕ → ℕ → EReal) (t r k : ℕ) : EReal := rows n x (t / 4 * B + r) (t % 4 * S + k)
def bw (S : ℕ) (w : ℕ → ℕ → EReal) (t : ℕ) : ℕ → ℕ → EReal := parts S w (t % 4)
/-- The sum of the parts up to a point. -/
def acc (n B S : ℕ) (x w : ℕ → ℕ → EReal) (t r k : ℕ) : EReal := ∑ q ∈ Finset.range (t % 4 + 1), nt (bx n B S x (t / 4 * 4 + q)) (bw S w q) S r k

section
variable (n B S : ℕ) (x w : ℕ → ℕ → EReal) (t r k : ℕ)
theorem acc_first (h : t % 4 = 0) : nt (bx n B S x t) (bw S w t) S r k = acc n B S x w t r k := by
  have e : t / 4 * 4 = t := by omega
  simp [acc, bw, h, e]
theorem acc_next (h : (t + 1) % 4 ≠ 0) : acc n B S x w t r k + nt (bx n B S x (t + 1)) (bw S w (t + 1)) S r k = acc n B S x w (t + 1) r k := by
  have e : (t + 1) / 4 = t / 4 := by omega
  have e1 : (t + 1) % 4 = t % 4 + 1 := by omega
  have e2 : t / 4 * 4 + (t % 4 + 1) = t + 1 := by omega
  have e3 : (t % 4 + 1) % 4 = t % 4 + 1 := by omega
  unfold acc
  rw [e, e1, Finset.sum_range_succ _ (t % 4 + 1), e2]
  simp [bw, e1, e3]
theorem acc_last (h : t % 4 = 3) : acc n B S x w t r k = rows n (nt x w (4 * S)) (t / 4 * B + r) k := by
  rw [← nt_rows]
  unfold acc nt
  rw [h, ← sum_parts 4 S]
  refine Finset.sum_congr rfl fun q hq => Finset.sum_congr rfl fun l _ => ?_
  have hq' := Finset.mem_range.mp hq
  have e : (t / 4 * 4 + q) / 4 = t / 4 := by omega
  have e1 : (t / 4 * 4 + q) % 4 = q := by omega
  have e2 : q % 4 = q := by omega
  simp [bx, bw, parts, e, e1, e2]
end
end Cert.Prod
end
-- ==== Proof.ProdIn.lean ====
module

public import proofs.«01_k».proof.Proof.Prod
public import proofs.«01_k».proof.Proof.Gen.InIdeal.Value
public import proofs.«01_k».proof.Proof.Gen.InRefIdeal.Run
public import proofs.«01_k».proof.Proof.Gen.InRefIdeal.Read

/- The product of the normalized rows and the input weights. -/
@[expose] public section
set_option maxRecDepth 16384
noncomputable section
namespace Cert.Prod.In
open Idealize.ShloMosaic Idealize.ShloMosaic.TcCoe Idealize.ShloMosaic.Pipeline Idealize.SL.Sem

section
open Cert.InIdeal Cert.InIdeal.Gen
theorem ix_0 : ∀ t : Fin cfg0.N, win0_0.index t = ![t.val % 4, 0] := by decide +kernel
theorem ix_1 : ∀ t : Fin cfg0.N, win0_1.index t = ![t.val / 4, 0, 0] := by decide +kernel
theorem ix_2 : ∀ t : Fin cfg0.N, win0_2.index t = ![t.val % 4, t.val / 4] := by decide +kernel

section
variable (m : (ℓ : Loc nD τ sig) → Buf (Elt Ideal) ℓ) (c : Dev nD) (x w : ℕ → ℕ → EReal)

variable (hx : m ((c : Thread nD τ).loc main_arg0) = ar 2064 1024 .f32 x) (hw : m ((c : Thread nD τ).loc main_arg1) = ar 1024 7168 .f32 w)

include hx in
theorem host_x : V m c main_v1 = ar 2176 1024 .bf16 (rows 2064 x) := by
  unfold V
  after_reads_simp
  rw [hx]
  exact put_rows _ h_S_ rfl pads_S2064x1024_S2176x1024_01120_000 bitsLt_bf16_f32

include hw in
theorem host_w : V m c main_v4 = ar3 4 1024 1792 .bf16 (parts 1792 w) := by
  unfold V
  after_reads_simp
  rw [hw]
  exact put_cols (p := 4) rfl shapeCasts_S1024x7168_S1024x4x1792 transposes_S1024x4x1792_S4x1024x1792_1_0_2 bitsLt_bf16_f32

include hx in
theorem iblk_x (t : Fin cfg0.N) : iblk m c 0 t = ar 544 1024 .bf16 (fun r k => rows 2064 x (t.val % 4 * 544 + r) k) := by
  funext y
  blk_simp [iblk, ix_0]
  rw [host_x m c x hx]
  show rows 2064 x ((((cfg0.win 0).blk t).view.emb y) 0).val ((((cfg0.win 0).blk t).view.emb y) 1).val = rows 2064 x (t.val % 4 * 544 + (y 0).val) (y 1).val
  blk_simp [ix_0]

include hw in
theorem iblk_w (t : Fin cfg0.N) : iblk m c 1 t = ar3 1 1024 1792 .bf16 (fun q k n => parts 1792 w (t.val / 4 + q) k n) := by
  funext y
  blk_simp [iblk, ix_1]
  rw [host_w m c w hw]
  show parts 1792 w ((((cfg0.win 1).blk t).view.emb y) 0).val ((((cfg0.win 1).blk t).view.emb y) 1).val ((((cfg0.win 1).blk t).view.emb y) 2).val = parts 1792 w (t.val / 4 + (y 0).val) (y 1).val (y 2).val
  blk_simp [ix_1]

theorem body (f : ℕ → ℕ → EReal) (g : ℕ → ℕ → ℕ → EReal) : out0_2 (F := Ideal) (ar 544 1024 .bf16 f) (ar3 1 1024 1792 .bf16 g) = ar 544 1792 .f32 (nn f (g 0) 1024) := by
  unfold out0_2
  rw [View.canon_unit_zero hz2, View.ld_unit_zero (S := S544x1024) hz2, View.ld_unit_zero (S := S1x1024x1792) hz3]
  unfold k0_pay1
  rw [shapeCast_self]
  exact panel_nn f g shapeCasts_S1x1024x1792_S1024x1792

include hx hw in
theorem arr : (dats m 0 c).arrAt 2 cfg0.N = ar 2176 7168 .f32 (rows 2064 (nn x w 1024)) := by
  refine Dat.arrAt_eq_of_covers (dats m 0 c) 2 _ (by decide +kernel) fun t hf y => ?_
  blk_simp
  rw [after0_2, iblk_x m c x hx, iblk_w m c w hw, body]
  show nn (fun r k => rows 2064 x (t.val % 4 * 544 + r) k) (parts 1792 w (t.val / 4 + 0)) 1024 (y 0).val (y 1).val = rows 2064 (nn x w 1024) ((((cfg0.win 2).blk t).view.emb y) 0).val ((((cfg0.win 2).blk t).view.emb y) 1).val
  blk_simp [ix_2]
  rw [← nn_rows]
  simp [nn, parts]
end

/-- What the reference computes. -/
def want (x : FVec Ideal Cert.InRefIdeal.S2064x1024 .f32) (w : FVec Ideal Cert.InRefIdeal.S1024x7168 .f32) : FVec Ideal Cert.InRefIdeal.S2176x7168 .f32 :=
  Cert.InRefIdeal.Read.val_main_v1 (F := Ideal) x w
theorem ref (x w : ℕ → ℕ → EReal) : want (ar 2064 1024 .f32 x) (ar 1024 7168 .f32 w) = ar 2176 7168 .f32 (rows 2064 (nn x w 1024)) := by
  unfold want Cert.InRefIdeal.Read.val_main_v1 Cert.InRefIdeal.Read.val_main_v0
  exact whole_nn x w (Cert.InRefIdeal.Read.val_main_call0_v0 (F := Ideal)) Cert.InRefIdeal.Gen.facts.h_S_ (zero_pad _ _ rfl) Cert.InRefIdeal.Gen.facts.pads_S2064x7168_S2176x7168_01120_000

theorem same : @Cert.algebraic_InIdeal_InRefIdeal Cert.InIdeal.Gen.facts Cert.InRefIdeal.Gen.facts := by
  intro m g m' g' _ hag
  refine ⟨_, Cert.InIdeal.Value.run_blocks m g, (θ_run _ _ _).mono ?_ (Cert.InRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨w, hw⟩ := ar_of (a := 1024) (b := 7168) (φ := .f32) (m ((c : Thread nD τ).loc main_arg1))
  refine ⟨r0.trans ?_, ra⟩
  rw [a0, a1]
  exact (congrArg₂ want hx hw).trans ((ref x w).trans (arr m c x w hx hw).symm)

end
open Cert.InRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.In
end
-- ==== Proof.ProdInDx.lean ====
module

public import proofs.«01_k».proof.Proof.Prod
public import proofs.«01_k».proof.Proof.Gen.InDxIdeal.Value
public import proofs.«01_k».proof.Proof.Gen.InDxRefIdeal.Run
public import proofs.«01_k».proof.Proof.Gen.InDxRefIdeal.Read

/- The cotangents of the normalized rows: a product with the input weights, summed over four parts of the columns. -/
@[expose] public section
set_option maxRecDepth 16384
noncomputable section
namespace Cert.Prod.InDx
open Idealize.ShloMosaic Idealize.ShloMosaic.TcCoe Idealize.ShloMosaic.Pipeline Idealize.SL.Sem

section
open Cert.InDxIdeal Cert.InDxIdeal.Gen
theorem ix_0 : ∀ t : Fin cfg0.N, win0_0.index t = ![t.val / 4, t.val % 4] := by decide +kernel
theorem ix_1 : ∀ t : Fin cfg0.N, win0_1.index t = ![t.val % 4, 0, 0] := by decide +kernel
theorem ix_2 : ∀ t : Fin cfg0.N, win0_2.index t = ![t.val / 4, 0] := by decide +kernel
theorem last_2 : ∀ t : Fin cfg0.N, (cfg0.win 2).flush t = true → t.val % 4 = 3 := by decide +kernel

section
variable (m : (ℓ : Loc nD τ sig) → Buf (Elt Ideal) ℓ) (c : Dev nD) (x w : ℕ → ℕ → EReal)
variable (hx : m ((c : Thread nD τ).loc main_arg0) = ar 2064 7168 .f32 x) (hw : m ((c : Thread nD τ).loc main_arg1) = ar 1024 7168 .f32 w)

include hx in
theorem host_x : V m c main_v1 = ar 2176 7168 .bf16 (rows 2064 x) := by
  unfold V
  after_reads_simp
  rw [hx]
  exact put_rows _ h_S_ rfl pads_S2064x7168_S2176x7168_01120_000 bitsLt_bf16_f32

include hw in
theorem host_w : V m c main_v4 = ar3 4 1024 1792 .bf16 (parts 1792 w) := by
  unfold V
  after_reads_simp
  rw [hw]
  exact put_cols (p := 4) rfl shapeCasts_S1024x7168_S1024x4x1792 transposes_S1024x4x1792_S4x1024x1792_1_0_2 bitsLt_bf16_f32

include hx in
theorem iblk_x (t : Fin cfg0.N) : iblk m c 0 t = ar 1088 1792 .bf16 (bx 2064 1088 1792 x t.val) := by
  funext y
  blk_simp [iblk, ix_0]
  rw [host_x m c x hx]
  show rows 2064 x ((((cfg0.win 0).blk t).view.emb y) 0).val ((((cfg0.win 0).blk t).view.emb y) 1).val = bx 2064 1088 1792 x t.val (y 0).val (y 1).val
  blk_simp [ix_0]
  simp [bx]

include hw in
theorem iblk_w (t : Fin cfg0.N) : iblk m c 1 t = ar3 1 1024 1792 .bf16 (fun q => parts 1792 w (t.val % 4 + q)) := by
  funext y
  blk_simp [iblk, ix_1]
  rw [host_w m c w hw]
  show parts 1792 w ((((cfg0.win 1).blk t).view.emb y) 0).val ((((cfg0.win 1).blk t).view.emb y) 1).val ((((cfg0.win 1).blk t).view.emb y) 2).val = parts 1792 w (t.val % 4 + (y 0).val) (y 1).val (y 2).val
  blk_simp [ix_1]

theorem pay (f : ℕ → ℕ → EReal) (g : ℕ → ℕ → ℕ → EReal) : k0_pay1 (F := Ideal) (ar 1088 1792 .bf16 f) (ar3 1 1024 1792 .bf16 g) = ar 1088 1024 .f32 (nt f (g 0) 1792) := by
  unfold k0_pay1
  rw [shapeCast_self]
  exact panel_nt f g shapeCasts_S1x1024x1792_S1024x1792

theorem out_A (i : grid0.Coords) (a2) (h2) (a3) (h3) (a4) (h4) (hc0) (hc1) (f : ℕ → ℕ → EReal) (g : ℕ → ℕ → ℕ → EReal) :
    out0_A_2 (F := Ideal) c i a2 h2 a3 h3 a4 h4 hc0 hc1 (ar 1088 1792 .bf16 f) (ar3 1 1024 1792 .bf16 g) = ar 1088 1024 .f32 (nt f (g 0) 1792) := by
  unfold out0_A_2
  rw [View.read_writes_eq_canon _ _ _ (cover0_A_2 c i a2 h2 a3 h3 a4 h4 hc0 hc1 _ _)]
  unfold kernelRun0_A
  dsimp only
  rw [View.canon_unit_zero hz2]
  simp only [View.readAt_eq_ld, h2.read_unread, h3.read_unread, View.ld_unit_zero (S := S1088x1792) hz2, View.ld_unit_zero (S := S1x1024x1792) hz3]
  exact pay f g

theorem out_B (i : grid0.Coords) (a2) (h2) (a3) (h3) (a4) (h4) (hc0) (hc1) (f : ℕ → ℕ → EReal) (g : ℕ → ℕ → ℕ → EReal) (o : ℕ → ℕ → EReal) :
    out0_B_2 (F := Ideal) c i a2 h2 a3 h3 a4 h4 hc0 hc1 (ar 1088 1792 .bf16 f) (ar3 1 1024 1792 .bf16 g) (ar 1088 1024 .f32 o) = ar 1088 1024 .f32 (fun r k => o r k + nt f (g 0) 1792 r k) := by
  unfold out0_B_2
  rw [View.read_writes_eq_canon _ _ _ (cover0_B_2 c i a2 h2 a3 h3 a4 h4 hc0 hc1 _ _ _)]
  unfold kernelRun0_B
  dsimp only
  rw [View.canon_unit_zero hz2]
  simp only [View.readAt_eq_ld, h2.read_unread, h3.read_unread, h4.read_unread, View.ld_unit_zero (S := S1088x1792) hz2, View.ld_unit_zero (S := S1x1024x1792) hz3, View.ld_unit_zero (S := S1088x1024) hz2]
  unfold k0_pay2
  rw [shapeCast_self]
  exact (congrArg (fun b => addf (ar 1088 1024 .f32 o) b) (pay f g)).trans add_ar

include hx hw in
theorem outs (n : ℕ) (hn : n < cfg0.N) : outsAt0 m c n hn = ar 1088 1024 .f32 (acc 2064 1088 1792 x w n) := by
  induction n with
  | zero =>
    rw [outsAt0_A m c ⟨0, hn⟩ rfl (by dsimp only; omega), iblk_x m c x hx, iblk_w m c w hw, out_A]
    exact ar_congr fun r k _ _ => acc_first 2064 1088 1792 x w 0 r k rfl
  | succ n ih =>
    by_cases h0 : (n + 1) % 4 = 0
    · rw [outsAt0_A m c ⟨n + 1, hn⟩ h0 (by dsimp only; omega), iblk_x m c x hx, iblk_w m c w hw, out_A]
      exact ar_congr fun r k _ _ => acc_first 2064 1088 1792 x w (n + 1) r k h0
    · rw [outsAt0_B m c ⟨n + 1, hn⟩ h0 (by dsimp only; omega), iblk_x m c x hx, iblk_w m c w hw]
      rw [show outsAt0 m c ((⟨n + 1, hn⟩ : Fin cfg0.N).val - 1) _ = _ from ih _, out_B]
      exact ar_congr fun r k _ _ => acc_next 2064 1088 1792 x w n r k h0

include hx hw in
theorem arr : (dats m 0 c).arrAt 2 cfg0.N = ar 2176 1024 .f32 (rows 2064 (nt x w 7168)) := by
  refine Dat.arrAt_eq_of_covers (dats m 0 c) 2 _ (by decide +kernel) fun t hf y => ?_
  blk_simp
  rw [after0_2, outs m c x w hx hw]
  show acc 2064 1088 1792 x w t.val (y 0).val (y 1).val = rows 2064 (nt x w 7168) ((((cfg0.win 2).blk t).view.emb y) 0).val ((((cfg0.win 2).blk t).view.emb y) 1).val
  blk_simp [ix_2]
  exact acc_last 2064 1088 1792 x w t.val _ _ (last_2 t hf)
end

/-- What the reference computes. -/
def want (x : FVec Ideal Cert.InDxRefIdeal.S2064x7168 .f32) (w : FVec Ideal Cert.InDxRefIdeal.S1024x7168 .f32) : FVec Ideal Cert.InDxRefIdeal.S2176x1024 .f32 :=
  Cert.InDxRefIdeal.Read.val_main_v3 (F := Ideal) x w
theorem ref (x w : ℕ → ℕ → EReal) : want (ar 2064 7168 .f32 x) (ar 1024 7168 .f32 w) = ar 2176 1024 .f32 (rows 2064 (nt x w 7168)) := by
  unfold want Cert.InDxRefIdeal.Read.val_main_v3 Cert.InDxRefIdeal.Read.val_main_v2
  exact whole_nt x w (Cert.InDxRefIdeal.Read.val_main_call0_v0 (F := Ideal)) Cert.InDxRefIdeal.Gen.facts.h_S_ (zero_pad _ _ rfl) Cert.InDxRefIdeal.Gen.facts.pads_S2064x1024_S2176x1024_01120_000

theorem same : @Cert.algebraic_InDxIdeal_InDxRefIdeal Cert.InDxIdeal.Gen.facts Cert.InDxRefIdeal.Gen.facts := by
  intro m g m' g' _ hag
  refine ⟨_, Cert.InDxIdeal.Value.run_blocks m g, (θ_run _ _ _).mono ?_ (Cert.InDxRefIdeal.Value.run m' g')⟩
  intro r h c
  obtain ⟨r0, ra⟩ := h c
  obtain ⟨a0, a1⟩ := hag c
  obtain ⟨x, hx⟩ := ar_of (a := 2064) (b := 7168) (φ := .f32) (m ((c : Thread nD τ).loc main_arg0))
  obtain ⟨w, hw⟩ := ar_of (a := 1024) (b := 7168) (φ := .f32) (m ((c : Thread nD τ).loc main_arg1))
  refine ⟨r0.trans ?_, ra⟩
  rw [a0, a1]
  exact (congrArg₂ want hx hw).trans ((ref x w).trans (arr m c x w hx hw).symm)
end

open Cert.InDxRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.InDx
end
-- ==== Proof.ProdInDw.lean ====
module

public import proofs.«01_k».proof.Proof.Prod
public import proofs.«01_k».proof.Proof.Gen.InDwIdeal.Value
public import proofs.«01_k».proof.Proof.Gen.InDwRefIdeal.Run
public import proofs.«01_k».proof.Proof.Gen.InDwRefIdeal.Read

/- The gradient of the input weights, one matrix for each part of the columns. -/
@[expose] public section
set_option maxRecDepth 16384
noncomputable section
namespace Cert.Prod.InDw
open Idealize.ShloMosaic Idealize.ShloMosaic.TcCoe Idealize.ShloMosaic.Pipeline Idealize.SL.Sem

section
open Cert.InDwIdeal Cert.InDwIdeal.Gen
theorem ix_0 : ∀ t : Fin cfg0.N, win0_0.index t = ![0, 0] := by decide +kernel
theorem ix_1 : ∀ t : Fin cfg0.N, win0_1.index t = ![0, t.val] := by decide +kernel
theorem ix_2 : ∀ t : Fin cfg0.N, win0_2.index t = ![t.val, 0, 0] := by decide +kernel

section
variable (m : (ℓ : Loc nD τ sig) → Buf (Elt Ideal) ℓ) (c : Dev nD) (x y : ℕ → ℕ → EReal)
variable (hx : m ((c : Thread nD τ).loc main_arg0) = ar 2064 1024 .f32 x) (hy : m ((c : Thread nD τ).loc main_arg1) = ar 2064 7168 .f32 y)

include hx in
theorem host_x : V m c main_v1 = ar 2176 1024 .bf16 (rows 2064 x) := by
  unfold V
  after_reads_simp
  rw [hx]
  exact put_rows _ h_S_ rfl pads_S2064x1024_S2176x1024_01120_000 bitsLt_bf16_f32

include hy in
theorem host_y : V m c main_v3 = ar 2176 7168 .bf16 (rows 2064 y) := by
  unfold V
  after_reads_simp
  rw [hy]
  exact put_rows _ h_S_ rfl pads_S2064x7168_S2176x7168_01120_000 bitsLt_bf16_f32

include hx in
theorem iblk_x (t : Fin cfg0.N) : iblk m c 0 t = ar 2176 1024 .bf16 (rows 2064 x) := by
  funext j
  blk_simp [iblk, ix_0]
  rw [host_x m c x hx]
  show rows 2064 x ((((cfg0.win 0).blk t).view.emb j) 0).val ((((cfg0.win 0).blk t).view.emb j) 1).val = rows 2064 x (j 0).val (j 1).val
  blk_simp [ix_0]

include hy in
theorem iblk_y (t : Fin cfg0.N) : iblk m c 1 t = ar 2176 1792 .bf16 (rows 2064 (parts 1792 y t.val)) := by
  funext j
  blk_simp [iblk, ix_1]
  rw [host_y m c y hy]
  show rows 2064 y ((((cfg0.win 1).blk t).view.emb j) 0).val ((((cfg0.win 1).blk t).view.emb j) 1).val = rows 2064 (parts 1792 y t.val) (j 0).val (j 1).val
  blk_simp [ix_1]
  simp [rows, parts]

theorem out_A (i : grid0.Coords) (a2) (h2) (a3) (h3) (a4) (h4) (hc0) (hc1) (f g : ℕ → ℕ → EReal) :
    out0_A_2 (F := Ideal) c i a2 h2 a3 h3 a4 h4 hc0 hc1 (ar 2176 1024 .bf16 f) (ar 2176 1792 .bf16 g) = ar3 1 1024 1792 .f32 (fun _ => tn f g 2176) := by
  unfold out0_A_2
  rw [View.read_writes_eq_canon _ _ _ (cover0_A_2 c i a2 h2 a3 h3 a4 h4 hc0 hc1 _ _)]
  unfold kernelRun0_A
  dsimp only
  rw [View.canon_unit_zero hz3]
  simp only [View.readAt_eq_ld, h2.read_unread, h3.read_unread, View.ld_unit_zero (S := S2176x1024) hz2, View.ld_unit_zero (S := S2176x1792) hz2]
  unfold k0_pay2 k0_pay1
  rw [shapeCast_self, shapeCast_self]
  exact panel_tn (K := 2176) f g shapeCasts_S1024x1792_S1x1024x1792

include hx hy in
theorem arr : (dats m 0 c).arrAt 2 cfg0.N = ar3 4 1024 1792 .f32 (parts 1792 (tn x y 2064)) := by
  refine Dat.arrAt_eq_of_covers (dats m 0 c) 2 _ (by decide +kernel) fun t hf j => ?_
  blk_simp
  rw [after0_2]
  unfold outsAt0
  rw [iblk_x m c x hx, iblk_y m c y hy, out_A]
  show tn (rows 2064 x) (rows 2064 (parts 1792 y t.val)) 2176 (j 1).val (j 2).val = parts 1792 (tn x y 2064) ((((cfg0.win 2).blk t).view.emb j) 0).val ((((cfg0.win 2).blk t).view.emb j) 1).val ((((cfg0.win 2).blk t).view.emb j) 2).val
  blk_simp [ix_2]
  have c0 : (j 0).val < 1 := (j 0).isLt
  have e : t.val + (j 0).val = t.val := by omega
  rw [tn_rows _ _ 2064 112]
  simp [tn, parts, e]
end

/-- What the reference computes. -/
def want (x : FVec Ideal Cert.InDwRefIdeal.S2064x1024 .f32) (y : FVec Ideal Cert.InDwRefIdeal.S2064x7168 .f32) : FVec Ideal Cert.InDwRefIdeal.S4x1024x1792 .f32 :=
  Cert.InDwRefIdeal.Read.val_main_v5 (F := Ideal) x y
theorem ref (x y : ℕ → ℕ → EReal) : want (ar 2064 1024 .f32 x) (ar 2064 7168 .f32 y) = ar3 4 1024 1792 .f32 (parts 1792 (tn x y 2064)) := by
  have e : Cert.InDwRefIdeal.Read.val_main_v3 (F := Ideal) (ar 2064 1024 .f32 x) (ar 2064 7168 .f32 y) = ar 1024 7168 .f32 (tn x y 2064) :=
    whole_tn x y Cert.InDwRefIdeal.Gen.facts.transposes_S7168x1024_S1024x7168_1_0
  unfold want Cert.InDwRefIdeal.Read.val_main_v5 Cert.InDwRefIdeal.Read.val_main_v4
  rw [e]
  exact cut_ar (p := 4) rfl Cert.InDwRefIdeal.Gen.facts.shapeCasts_S1024x7168_S1024x4x1792 Cert.InDwRefIdeal.Gen.facts.transposes_S1024x4x1792_S4x1024x1792_1_0_2

theorem same : @Cert.algebraic_InDwIdeal_InDwRefIdeal Cert.InDwIdeal.Gen.facts Cert.InDwRefIdeal.Gen.facts := by
  intro m g m' g' _ hag
  refine ⟨_, Cert.InDwIdeal.Value.run_blocks m g, (θ_run _ _ _).mono ?_ (Cert.InDwRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨y, hy⟩ := ar_of (a := 2064) (b := 7168) (φ := .f32) (m ((c : Thread nD τ).loc main_arg1))
  refine ⟨r0.trans ?_, ra⟩
  rw [a0, a1]
  exact (congrArg₂ want hx hy).trans ((ref x y).trans (arr m c x y hx hy).symm)
end

open Cert.InDwRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.InDw
end
-- ==== Proof.ProdFfnIn.lean ====
module

public import proofs.«01_k».proof.Proof.Prod
public import proofs.«01_k».proof.Proof.Gen.FfnInIdeal.Value
public import proofs.«01_k».proof.Proof.Gen.FfnInRefIdeal.Run
public import proofs.«01_k».proof.Proof.Gen.FfnInRefIdeal.Read

/- The first product of the SwiGLU layer: the normalized rows and its input weights. -/
@[expose] public section
set_option maxRecDepth 16384
noncomputable section
namespace Cert.Prod.FfnIn
open Idealize.ShloMosaic Idealize.ShloMosaic.TcCoe Idealize.ShloMosaic.Pipeline Idealize.SL.Sem

section
open Cert.FfnInIdeal Cert.FfnInIdeal.Gen
theorem ix_0 : ∀ t : Fin cfg0.N, win0_0.index t = ![t.val % 4, 0] := by decide +kernel
theorem ix_1 : ∀ t : Fin cfg0.N, win0_1.index t = ![t.val / 4, 0, 0] := by decide +kernel
theorem ix_2 : ∀ t : Fin cfg0.N, win0_2.index t = ![t.val % 4, t.val / 4] := by decide +kernel

section
variable (m : (ℓ : Loc nD τ sig) → Buf (Elt Ideal) ℓ) (c : Dev nD) (x w : ℕ → ℕ → EReal)

variable (hx : m ((c : Thread nD τ).loc main_arg0) = ar 2064 1024 .f32 x) (hw : m ((c : Thread nD τ).loc main_arg1) = ar 1024 5632 .f32 w)

include hx in
theorem host_x : V m c main_v1 = ar 2176 1024 .bf16 (rows 2064 x) := by
  unfold V
  after_reads_simp
  rw [hx]
  exact put_rows _ h_S_ rfl pads_S2064x1024_S2176x1024_01120_000 bitsLt_bf16_f32

include hw in
theorem host_w : V m c main_v4 = ar3 4 1024 1408 .bf16 (parts 1408 w) := by
  unfold V
  after_reads_simp
  rw [hw]
  exact put_cols (p := 4) rfl shapeCasts_S1024x5632_S1024x4x1408 transposes_S1024x4x1408_S4x1024x1408_1_0_2 bitsLt_bf16_f32

include hx in
theorem iblk_x (t : Fin cfg0.N) : iblk m c 0 t = ar 544 1024 .bf16 (fun r k => rows 2064 x (t.val % 4 * 544 + r) k) := by
  funext y
  blk_simp [iblk, ix_0]
  rw [host_x m c x hx]
  show rows 2064 x ((((cfg0.win 0).blk t).view.emb y) 0).val ((((cfg0.win 0).blk t).view.emb y) 1).val = rows 2064 x (t.val % 4 * 544 + (y 0).val) (y 1).val
  blk_simp [ix_0]

include hw in
theorem iblk_w (t : Fin cfg0.N) : iblk m c 1 t = ar3 1 1024 1408 .bf16 (fun q k n => parts 1408 w (t.val / 4 + q) k n) := by
  funext y
  blk_simp [iblk, ix_1]
  rw [host_w m c w hw]
  show parts 1408 w ((((cfg0.win 1).blk t).view.emb y) 0).val ((((cfg0.win 1).blk t).view.emb y) 1).val ((((cfg0.win 1).blk t).view.emb y) 2).val = parts 1408 w (t.val / 4 + (y 0).val) (y 1).val (y 2).val
  blk_simp [ix_1]

theorem body (f : ℕ → ℕ → EReal) (g : ℕ → ℕ → ℕ → EReal) : out0_2 (F := Ideal) (ar 544 1024 .bf16 f) (ar3 1 1024 1408 .bf16 g) = ar 544 1408 .f32 (nn f (g 0) 1024) := by
  unfold out0_2
  rw [View.canon_unit_zero hz2, View.ld_unit_zero (S := S544x1024) hz2, View.ld_unit_zero (S := S1x1024x1408) hz3]
  unfold k0_pay1
  rw [shapeCast_self]
  exact panel_nn f g shapeCasts_S1x1024x1408_S1024x1408

include hx hw in
theorem arr : (dats m 0 c).arrAt 2 cfg0.N = ar 2176 5632 .f32 (rows 2064 (nn x w 1024)) := by
  refine Dat.arrAt_eq_of_covers (dats m 0 c) 2 _ (by decide +kernel) fun t hf y => ?_
  blk_simp
  rw [after0_2, iblk_x m c x hx, iblk_w m c w hw, body]
  show nn (fun r k => rows 2064 x (t.val % 4 * 544 + r) k) (parts 1408 w (t.val / 4 + 0)) 1024 (y 0).val (y 1).val = rows 2064 (nn x w 1024) ((((cfg0.win 2).blk t).view.emb y) 0).val ((((cfg0.win 2).blk t).view.emb y) 1).val
  blk_simp [ix_2]
  rw [← nn_rows]
  simp [nn, parts]
end

/-- What the reference computes. -/
def want (x : FVec Ideal Cert.FfnInRefIdeal.S2064x1024 .f32) (w : FVec Ideal Cert.FfnInRefIdeal.S1024x5632 .f32) : FVec Ideal Cert.FfnInRefIdeal.S2176x5632 .f32 :=
  Cert.FfnInRefIdeal.Read.val_main_v1 (F := Ideal) x w
theorem ref (x w : ℕ → ℕ → EReal) : want (ar 2064 1024 .f32 x) (ar 1024 5632 .f32 w) = ar 2176 5632 .f32 (rows 2064 (nn x w 1024)) := by
  unfold want Cert.FfnInRefIdeal.Read.val_main_v1 Cert.FfnInRefIdeal.Read.val_main_v0
  exact whole_nn x w (Cert.FfnInRefIdeal.Read.val_main_call0_v0 (F := Ideal)) Cert.FfnInRefIdeal.Gen.facts.h_S_ (zero_pad _ _ rfl) Cert.FfnInRefIdeal.Gen.facts.pads_S2064x5632_S2176x5632_01120_000

theorem same : @Cert.algebraic_FfnInIdeal_FfnInRefIdeal Cert.FfnInIdeal.Gen.facts Cert.FfnInRefIdeal.Gen.facts := by
  intro m g m' g' _ hag
  refine ⟨_, Cert.FfnInIdeal.Value.run_blocks m g, (θ_run _ _ _).mono ?_ (Cert.FfnInRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨w, hw⟩ := ar_of (a := 1024) (b := 5632) (φ := .f32) (m ((c : Thread nD τ).loc main_arg1))
  refine ⟨r0.trans ?_, ra⟩
  rw [a0, a1]
  exact (congrArg₂ want hx hw).trans ((ref x w).trans (arr m c x w hx hw).symm)

end
open Cert.FfnInRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.FfnIn
end
-- ==== Proof.ProdFfnInDx.lean ====
module

public import proofs.«01_k».proof.Proof.Prod
public import proofs.«01_k».proof.Proof.Gen.FfnInDxIdeal.Value
public import proofs.«01_k».proof.Proof.Gen.FfnInDxRefIdeal.Run
public import proofs.«01_k».proof.Proof.Gen.FfnInDxRefIdeal.Read

/- The cotangents of the rows of the SwiGLU layer: a product with its input weights, summed over four parts of the columns. -/
@[expose] public section
set_option maxRecDepth 16384
noncomputable section
namespace Cert.Prod.FfnInDx
open Idealize.ShloMosaic Idealize.ShloMosaic.TcCoe Idealize.ShloMosaic.Pipeline Idealize.SL.Sem

section
open Cert.FfnInDxIdeal Cert.FfnInDxIdeal.Gen
theorem ix_0 : ∀ t : Fin cfg0.N, win0_0.index t = ![t.val / 4, t.val % 4] := by decide +kernel
theorem ix_1 : ∀ t : Fin cfg0.N, win0_1.index t = ![t.val % 4, 0, 0] := by decide +kernel
theorem ix_2 : ∀ t : Fin cfg0.N, win0_2.index t = ![t.val / 4, 0] := by decide +kernel
theorem last_2 : ∀ t : Fin cfg0.N, (cfg0.win 2).flush t = true → t.val % 4 = 3 := by decide +kernel

section
variable (m : (ℓ : Loc nD τ sig) → Buf (Elt Ideal) ℓ) (c : Dev nD) (x w : ℕ → ℕ → EReal)
variable (hx : m ((c : Thread nD τ).loc main_arg0) = ar 2064 5632 .f32 x) (hw : m ((c : Thread nD τ).loc main_arg1) = ar 1024 5632 .f32 w)

include hx in
theorem host_x : V m c main_v1 = ar 2176 5632 .bf16 (rows 2064 x) := by
  unfold V
  after_reads_simp
  rw [hx]
  exact put_rows _ h_S_ rfl pads_S2064x5632_S2176x5632_01120_000 bitsLt_bf16_f32

include hw in
theorem host_w : V m c main_v4 = ar3 4 1024 1408 .bf16 (parts 1408 w) := by
  unfold V
  after_reads_simp
  rw [hw]
  exact put_cols (p := 4) rfl shapeCasts_S1024x5632_S1024x4x1408 transposes_S1024x4x1408_S4x1024x1408_1_0_2 bitsLt_bf16_f32

include hx in
theorem iblk_x (t : Fin cfg0.N) : iblk m c 0 t = ar 1088 1408 .bf16 (bx 2064 1088 1408 x t.val) := by
  funext y
  blk_simp [iblk, ix_0]
  rw [host_x m c x hx]
  show rows 2064 x ((((cfg0.win 0).blk t).view.emb y) 0).val ((((cfg0.win 0).blk t).view.emb y) 1).val = bx 2064 1088 1408 x t.val (y 0).val (y 1).val
  blk_simp [ix_0]
  simp [bx]

include hw in
theorem iblk_w (t : Fin cfg0.N) : iblk m c 1 t = ar3 1 1024 1408 .bf16 (fun q => parts 1408 w (t.val % 4 + q)) := by
  funext y
  blk_simp [iblk, ix_1]
  rw [host_w m c w hw]
  show parts 1408 w ((((cfg0.win 1).blk t).view.emb y) 0).val ((((cfg0.win 1).blk t).view.emb y) 1).val ((((cfg0.win 1).blk t).view.emb y) 2).val = parts 1408 w (t.val % 4 + (y 0).val) (y 1).val (y 2).val
  blk_simp [ix_1]

theorem pay (f : ℕ → ℕ → EReal) (g : ℕ → ℕ → ℕ → EReal) : k0_pay1 (F := Ideal) (ar 1088 1408 .bf16 f) (ar3 1 1024 1408 .bf16 g) = ar 1088 1024 .f32 (nt f (g 0) 1408) := by
  unfold k0_pay1
  rw [shapeCast_self]
  exact panel_nt f g shapeCasts_S1x1024x1408_S1024x1408

theorem out_A (i : grid0.Coords) (a2) (h2) (a3) (h3) (a4) (h4) (hc0) (hc1) (f : ℕ → ℕ → EReal) (g : ℕ → ℕ → ℕ → EReal) :
    out0_A_2 (F := Ideal) c i a2 h2 a3 h3 a4 h4 hc0 hc1 (ar 1088 1408 .bf16 f) (ar3 1 1024 1408 .bf16 g) = ar 1088 1024 .f32 (nt f (g 0) 1408) := by
  unfold out0_A_2
  rw [View.read_writes_eq_canon _ _ _ (cover0_A_2 c i a2 h2 a3 h3 a4 h4 hc0 hc1 _ _)]
  unfold kernelRun0_A
  dsimp only
  rw [View.canon_unit_zero hz2]
  simp only [View.readAt_eq_ld, h2.read_unread, h3.read_unread, View.ld_unit_zero (S := S1088x1408) hz2, View.ld_unit_zero (S := S1x1024x1408) hz3]
  exact pay f g

theorem out_B (i : grid0.Coords) (a2) (h2) (a3) (h3) (a4) (h4) (hc0) (hc1) (f : ℕ → ℕ → EReal) (g : ℕ → ℕ → ℕ → EReal) (o : ℕ → ℕ → EReal) :
    out0_B_2 (F := Ideal) c i a2 h2 a3 h3 a4 h4 hc0 hc1 (ar 1088 1408 .bf16 f) (ar3 1 1024 1408 .bf16 g) (ar 1088 1024 .f32 o) = ar 1088 1024 .f32 (fun r k => o r k + nt f (g 0) 1408 r k) := by
  unfold out0_B_2
  rw [View.read_writes_eq_canon _ _ _ (cover0_B_2 c i a2 h2 a3 h3 a4 h4 hc0 hc1 _ _ _)]
  unfold kernelRun0_B
  dsimp only
  rw [View.canon_unit_zero hz2]
  simp only [View.readAt_eq_ld, h2.read_unread, h3.read_unread, h4.read_unread, View.ld_unit_zero (S := S1088x1408) hz2, View.ld_unit_zero (S := S1x1024x1408) hz3, View.ld_unit_zero (S := S1088x1024) hz2]
  unfold k0_pay2
  rw [shapeCast_self]
  exact (congrArg (fun b => addf (ar 1088 1024 .f32 o) b) (pay f g)).trans add_ar

include hx hw in
theorem outs (n : ℕ) (hn : n < cfg0.N) : outsAt0 m c n hn = ar 1088 1024 .f32 (acc 2064 1088 1408 x w n) := by
  induction n with
  | zero =>
    rw [outsAt0_A m c ⟨0, hn⟩ rfl (by dsimp only; omega), iblk_x m c x hx, iblk_w m c w hw, out_A]
    exact ar_congr fun r k _ _ => acc_first 2064 1088 1408 x w 0 r k rfl
  | succ n ih =>
    by_cases h0 : (n + 1) % 4 = 0
    · rw [outsAt0_A m c ⟨n + 1, hn⟩ h0 (by dsimp only; omega), iblk_x m c x hx, iblk_w m c w hw, out_A]
      exact ar_congr fun r k _ _ => acc_first 2064 1088 1408 x w (n + 1) r k h0
    · rw [outsAt0_B m c ⟨n + 1, hn⟩ h0 (by dsimp only; omega), iblk_x m c x hx, iblk_w m c w hw]
      rw [show outsAt0 m c ((⟨n + 1, hn⟩ : Fin cfg0.N).val - 1) _ = _ from ih _, out_B]
      exact ar_congr fun r k _ _ => acc_next 2064 1088 1408 x w n r k h0

include hx hw in
theorem arr : (dats m 0 c).arrAt 2 cfg0.N = ar 2176 1024 .f32 (rows 2064 (nt x w 5632)) := by
  refine Dat.arrAt_eq_of_covers (dats m 0 c) 2 _ (by decide +kernel) fun t hf y => ?_
  blk_simp
  rw [after0_2, outs m c x w hx hw]
  show acc 2064 1088 1408 x w t.val (y 0).val (y 1).val = rows 2064 (nt x w 5632) ((((cfg0.win 2).blk t).view.emb y) 0).val ((((cfg0.win 2).blk t).view.emb y) 1).val
  blk_simp [ix_2]
  exact acc_last 2064 1088 1408 x w t.val _ _ (last_2 t hf)
end

/-- What the reference computes. -/
def want (x : FVec Ideal Cert.FfnInDxRefIdeal.S2064x5632 .f32) (w : FVec Ideal Cert.FfnInDxRefIdeal.S1024x5632 .f32) : FVec Ideal Cert.FfnInDxRefIdeal.S2176x1024 .f32 :=
  Cert.FfnInDxRefIdeal.Read.val_main_v3 (F := Ideal) x w
theorem ref (x w : ℕ → ℕ → EReal) : want (ar 2064 5632 .f32 x) (ar 1024 5632 .f32 w) = ar 2176 1024 .f32 (rows 2064 (nt x w 5632)) := by
  unfold want Cert.FfnInDxRefIdeal.Read.val_main_v3 Cert.FfnInDxRefIdeal.Read.val_main_v2
  exact whole_nt x w (Cert.FfnInDxRefIdeal.Read.val_main_call0_v0 (F := Ideal)) Cert.FfnInDxRefIdeal.Gen.facts.h_S_ (zero_pad _ _ rfl) Cert.FfnInDxRefIdeal.Gen.facts.pads_S2064x1024_S2176x1024_01120_000

theorem same : @Cert.algebraic_FfnInDxIdeal_FfnInDxRefIdeal Cert.FfnInDxIdeal.Gen.facts Cert.FfnInDxRefIdeal.Gen.facts := by
  intro m g m' g' _ hag
  refine ⟨_, Cert.FfnInDxIdeal.Value.run_blocks m g, (θ_run _ _ _).mono ?_ (Cert.FfnInDxRefIdeal.Value.run m' g')⟩
  intro r h c
  obtain ⟨r0, ra⟩ := h c
  obtain ⟨a0, a1⟩ := hag c
  obtain ⟨x, hx⟩ := ar_of (a := 2064) (b := 5632) (φ := .f32) (m ((c : Thread nD τ).loc main_arg0))
  obtain ⟨w, hw⟩ := ar_of (a := 1024) (b := 5632) (φ := .f32) (m ((c : Thread nD τ).loc main_arg1))
  refine ⟨r0.trans ?_, ra⟩
  rw [a0, a1]
  exact (congrArg₂ want hx hw).trans ((ref x w).trans (arr m c x w hx hw).symm)
end

open Cert.FfnInDxRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.FfnInDx
end
-- ==== Proof.ProdFfnInDw.lean ====
module

public import proofs.«01_k».proof.Proof.Prod
public import proofs.«01_k».proof.Proof.Gen.FfnInDwIdeal.Value
public import proofs.«01_k».proof.Proof.Gen.FfnInDwRefIdeal.Run
public import proofs.«01_k».proof.Proof.Gen.FfnInDwRefIdeal.Read

/- The gradient of the SwiGLU layer's input weights, one matrix for each part of the columns. -/
@[expose] public section
set_option maxRecDepth 16384
noncomputable section
namespace Cert.Prod.FfnInDw
open Idealize.ShloMosaic Idealize.ShloMosaic.TcCoe Idealize.ShloMosaic.Pipeline Idealize.SL.Sem

section
open Cert.FfnInDwIdeal Cert.FfnInDwIdeal.Gen
theorem ix_0 : ∀ t : Fin cfg0.N, win0_0.index t = ![0, 0] := by decide +kernel
theorem ix_1 : ∀ t : Fin cfg0.N, win0_1.index t = ![0, t.val] := by decide +kernel
theorem ix_2 : ∀ t : Fin cfg0.N, win0_2.index t = ![t.val, 0, 0] := by decide +kernel

section
variable (m : (ℓ : Loc nD τ sig) → Buf (Elt Ideal) ℓ) (c : Dev nD) (x y : ℕ → ℕ → EReal)
variable (hx : m ((c : Thread nD τ).loc main_arg0) = ar 2064 1024 .f32 x) (hy : m ((c : Thread nD τ).loc main_arg1) = ar 2064 5632 .f32 y)

include hx in
theorem host_x : V m c main_v1 = ar 2176 1024 .bf16 (rows 2064 x) := by
  unfold V
  after_reads_simp
  rw [hx]
  exact put_rows _ h_S_ rfl pads_S2064x1024_S2176x1024_01120_000 bitsLt_bf16_f32

include hy in
theorem host_y : V m c main_v3 = ar 2176 5632 .bf16 (rows 2064 y) := by
  unfold V
  after_reads_simp
  rw [hy]
  exact put_rows _ h_S_ rfl pads_S2064x5632_S2176x5632_01120_000 bitsLt_bf16_f32

include hx in
theorem iblk_x (t : Fin cfg0.N) : iblk m c 0 t = ar 2176 1024 .bf16 (rows 2064 x) := by
  funext j
  blk_simp [iblk, ix_0]
  rw [host_x m c x hx]
  show rows 2064 x ((((cfg0.win 0).blk t).view.emb j) 0).val ((((cfg0.win 0).blk t).view.emb j) 1).val = rows 2064 x (j 0).val (j 1).val
  blk_simp [ix_0]

include hy in
theorem iblk_y (t : Fin cfg0.N) : iblk m c 1 t = ar 2176 1408 .bf16 (rows 2064 (parts 1408 y t.val)) := by
  funext j
  blk_simp [iblk, ix_1]
  rw [host_y m c y hy]
  show rows 2064 y ((((cfg0.win 1).blk t).view.emb j) 0).val ((((cfg0.win 1).blk t).view.emb j) 1).val = rows 2064 (parts 1408 y t.val) (j 0).val (j 1).val
  blk_simp [ix_1]
  simp [rows, parts]

theorem out_A (i : grid0.Coords) (a2) (h2) (a3) (h3) (a4) (h4) (hc0) (hc1) (f g : ℕ → ℕ → EReal) :
    out0_A_2 (F := Ideal) c i a2 h2 a3 h3 a4 h4 hc0 hc1 (ar 2176 1024 .bf16 f) (ar 2176 1408 .bf16 g) = ar3 1 1024 1408 .f32 (fun _ => tn f g 2176) := by
  unfold out0_A_2
  rw [View.read_writes_eq_canon _ _ _ (cover0_A_2 c i a2 h2 a3 h3 a4 h4 hc0 hc1 _ _)]
  unfold kernelRun0_A
  dsimp only
  rw [View.canon_unit_zero hz3]
  simp only [View.readAt_eq_ld, h2.read_unread, h3.read_unread, View.ld_unit_zero (S := S2176x1024) hz2, View.ld_unit_zero (S := S2176x1408) hz2]
  unfold k0_pay2 k0_pay1
  rw [shapeCast_self, shapeCast_self]
  exact panel_tn (K := 2176) f g shapeCasts_S1024x1408_S1x1024x1408

include hx hy in
theorem arr : (dats m 0 c).arrAt 2 cfg0.N = ar3 4 1024 1408 .f32 (parts 1408 (tn x y 2064)) := by
  refine Dat.arrAt_eq_of_covers (dats m 0 c) 2 _ (by decide +kernel) fun t hf j => ?_
  blk_simp
  rw [after0_2]
  unfold outsAt0
  rw [iblk_x m c x hx, iblk_y m c y hy, out_A]
  show tn (rows 2064 x) (rows 2064 (parts 1408 y t.val)) 2176 (j 1).val (j 2).val = parts 1408 (tn x y 2064) ((((cfg0.win 2).blk t).view.emb j) 0).val ((((cfg0.win 2).blk t).view.emb j) 1).val ((((cfg0.win 2).blk t).view.emb j) 2).val
  blk_simp [ix_2]
  have c0 : (j 0).val < 1 := (j 0).isLt
  have e : t.val + (j 0).val = t.val := by omega
  rw [tn_rows _ _ 2064 112]
  simp [tn, parts, e]
end

/-- What the reference computes. -/
def want (x : FVec Ideal Cert.FfnInDwRefIdeal.S2064x1024 .f32) (y : FVec Ideal Cert.FfnInDwRefIdeal.S2064x5632 .f32) : FVec Ideal Cert.FfnInDwRefIdeal.S4x1024x1408 .f32 :=
  Cert.FfnInDwRefIdeal.Read.val_main_v5 (F := Ideal) x y
theorem ref (x y : ℕ → ℕ → EReal) : want (ar 2064 1024 .f32 x) (ar 2064 5632 .f32 y) = ar3 4 1024 1408 .f32 (parts 1408 (tn x y 2064)) := by
  have e : Cert.FfnInDwRefIdeal.Read.val_main_v3 (F := Ideal) (ar 2064 1024 .f32 x) (ar 2064 5632 .f32 y) = ar 1024 5632 .f32 (tn x y 2064) :=
    whole_tn x y Cert.FfnInDwRefIdeal.Gen.facts.transposes_S5632x1024_S1024x5632_1_0
  unfold want Cert.FfnInDwRefIdeal.Read.val_main_v5 Cert.FfnInDwRefIdeal.Read.val_main_v4
  rw [e]
  exact cut_ar (p := 4) rfl Cert.FfnInDwRefIdeal.Gen.facts.shapeCasts_S1024x5632_S1024x4x1408 Cert.FfnInDwRefIdeal.Gen.facts.transposes_S1024x4x1408_S4x1024x1408_1_0_2

theorem same : @Cert.algebraic_FfnInDwIdeal_FfnInDwRefIdeal Cert.FfnInDwIdeal.Gen.facts Cert.FfnInDwRefIdeal.Gen.facts := by
  intro m g m' g' _ hag
  refine ⟨_, Cert.FfnInDwIdeal.Value.run_blocks m g, (θ_run _ _ _).mono ?_ (Cert.FfnInDwRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨y, hy⟩ := ar_of (a := 2064) (b := 5632) (φ := .f32) (m ((c : Thread nD τ).loc main_arg1))
  refine ⟨r0.trans ?_, ra⟩
  rw [a0, a1]
  exact (congrArg₂ want hx hy).trans ((ref x y).trans (arr m c x y hx hy).symm)
end

open Cert.FfnInDwRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.FfnInDw
end
-- ==== Proof.ProdFfnOut.lean ====
module

public import proofs.«01_k».proof.Proof.Prod
public import proofs.«01_k».proof.Proof.Gen.FfnOutIdeal.Value
public import proofs.«01_k».proof.Proof.Gen.FfnOutRefIdeal.Run
public import proofs.«01_k».proof.Proof.Gen.FfnOutRefIdeal.Read

/- The last product of the SwiGLU layer: its gated rows and its output weights. -/
@[expose] public section
set_option maxRecDepth 16384
noncomputable section
namespace Cert.Prod.FfnOut
open Idealize.ShloMosaic Idealize.ShloMosaic.TcCoe Idealize.ShloMosaic.Pipeline Idealize.SL.Sem

section
open Cert.FfnOutIdeal Cert.FfnOutIdeal.Gen
theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel

section
variable (m : (ℓ : Loc nD τ sig) → Buf (Elt Ideal) ℓ) (c : Dev nD) (x w : ℕ → ℕ → EReal)
variable (hx : m ((c : Thread nD τ).loc main_arg0) = ar 2064 2816 .f32 x) (hw : m ((c : Thread nD τ).loc main_arg1) = ar 2816 1024 .f32 w)

include hx in
theorem host_x : V m c main_v1 = ar 2176 2816 .bf16 (rows 2064 x) := by
  unfold V
  after_reads_simp
  rw [hx]
  exact put_rows _ h_S_ rfl pads_S2064x2816_S2176x2816_01120_000 bitsLt_bf16_f32

include hw in
theorem host_w : V m c main_v2 = ar 2816 1024 .bf16 w := by
  unfold V
  after_reads_simp
  rw [hw]
  rfl

include hx in
theorem iblk_x (t : Fin cfg0.N) : iblk m c 0 t = ar 544 2816 .bf16 (fun r k => rows 2064 x (t.val * 544 + r) k) := by
  funext y
  blk_simp [iblk, ix_0]
  rw [host_x m c x hx]
  show rows 2064 x ((((cfg0.win 0).blk t).view.emb y) 0).val ((((cfg0.win 0).blk t).view.emb y) 1).val = rows 2064 x (t.val * 544 + (y 0).val) (y 1).val
  blk_simp [ix_0]

include hw in
theorem iblk_w (t : Fin cfg0.N) : iblk m c 1 t = ar 2816 1024 .bf16 w := by
  funext y
  blk_simp [iblk, ix_1]
  rw [host_w m c w hw]
  show w ((((cfg0.win 1).blk t).view.emb y) 0).val ((((cfg0.win 1).blk t).view.emb y) 1).val = w (y 0).val (y 1).val
  blk_simp [ix_1]

theorem body (f g : ℕ → ℕ → EReal) : out0_2 (F := Ideal) (ar 544 2816 .bf16 f) (ar 2816 1024 .bf16 g) = ar 544 1024 .f32 (nn f g 2816) := by
  unfold out0_2
  rw [View.canon_unit_zero hz2, View.ld_unit_zero (S := S544x2816) hz2, View.ld_unit_zero (S := S2816x1024) hz2]
  unfold k0_pay1
  rw [shapeCast_self, shapeCast_self]
  exact mat_nn f g

include hx hw in
theorem arr : (dats m 0 c).arrAt 2 cfg0.N = ar 2176 1024 .f32 (rows 2064 (nn x w 2816)) := by
  refine Dat.arrAt_eq_of_covers (dats m 0 c) 2 _ (by decide +kernel) fun t hf y => ?_
  blk_simp
  rw [after0_2, iblk_x m c x hx, iblk_w m c w hw, body]
  show nn (fun r k => rows 2064 x (t.val * 544 + r) k) w 2816 (y 0).val (y 1).val = rows 2064 (nn x w 2816) ((((cfg0.win 2).blk t).view.emb y) 0).val ((((cfg0.win 2).blk t).view.emb y) 1).val
  blk_simp [ix_2]
  exact nn_rows x w 2064 _ _
end

/-- What the reference computes. -/
def want (x : FVec Ideal Cert.FfnOutRefIdeal.S2064x2816 .f32) (w : FVec Ideal Cert.FfnOutRefIdeal.S2816x1024 .f32) : FVec Ideal Cert.FfnOutRefIdeal.S2176x1024 .f32 :=
  Cert.FfnOutRefIdeal.Read.val_main_v1 (F := Ideal) x w
theorem ref (x w : ℕ → ℕ → EReal) : want (ar 2064 2816 .f32 x) (ar 2816 1024 .f32 w) = ar 2176 1024 .f32 (rows 2064 (nn x w 2816)) := by
  unfold want Cert.FfnOutRefIdeal.Read.val_main_v1 Cert.FfnOutRefIdeal.Read.val_main_v0
  exact whole_nn x w (Cert.FfnOutRefIdeal.Read.val_main_call0_v0 (F := Ideal)) Cert.FfnOutRefIdeal.Gen.facts.h_S_ (zero_pad _ _ rfl) Cert.FfnOutRefIdeal.Gen.facts.pads_S2064x1024_S2176x1024_01120_000

theorem same : @Cert.algebraic_FfnOutIdeal_FfnOutRefIdeal Cert.FfnOutIdeal.Gen.facts Cert.FfnOutRefIdeal.Gen.facts := by
  intro m g m' g' _ hag
  refine ⟨_, Cert.FfnOutIdeal.Value.run_blocks m g, (θ_run _ _ _).mono ?_ (Cert.FfnOutRefIdeal.Value.run m' g')⟩
  intro r h c
  obtain ⟨r0, ra⟩ := h c
  obtain ⟨a0, a1⟩ := hag c
  obtain ⟨x, hx⟩ := ar_of (a := 2064) (b := 2816) (φ := .f32) (m ((c : Thread nD τ).loc main_arg0))
  obtain ⟨w, hw⟩ := ar_of (a := 2816) (b := 1024) (φ := .f32) (m ((c : Thread nD τ).loc main_arg1))
  refine ⟨r0.trans ?_, ra⟩
  rw [a0, a1]
  exact (congrArg₂ want hx hw).trans ((ref x w).trans (arr m c x w hx hw).symm)
end

open Cert.FfnOutRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.FfnOut
end
-- ==== Proof.ProdFfnOutDx.lean ====
module

public import proofs.«01_k».proof.Proof.Prod
public import proofs.«01_k».proof.Proof.Gen.FfnOutDxIdeal.Value
public import proofs.«01_k».proof.Proof.Gen.FfnOutDxRefIdeal.Run
public import proofs.«01_k».proof.Proof.Gen.FfnOutDxRefIdeal.Read

/- The cotangents of the gated rows: a product with the output weights turned. -/
@[expose] public section
set_option maxRecDepth 16384
noncomputable section
namespace Cert.Prod.FfnOutDx
open Idealize.ShloMosaic Idealize.ShloMosaic.TcCoe Idealize.ShloMosaic.Pipeline Idealize.SL.Sem

section
open Cert.FfnOutDxIdeal Cert.FfnOutDxIdeal.Gen
theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel

section
variable (m : (ℓ : Loc nD τ sig) → Buf (Elt Ideal) ℓ) (c : Dev nD) (x w : ℕ → ℕ → EReal)
variable (hx : m ((c : Thread nD τ).loc main_arg0) = ar 2064 1024 .f32 x) (hw : m ((c : Thread nD τ).loc main_arg1) = ar 2816 1024 .f32 w)

include hx in
theorem host_x : V m c main_v1 = ar 2176 1024 .bf16 (rows 2064 x) := by
  unfold V
  after_reads_simp
  rw [hx]
  exact put_rows _ h_S_ rfl pads_S2064x1024_S2176x1024_01120_000 bitsLt_bf16_f32

include hw in
theorem host_w : V m c main_v2 = ar 2816 1024 .bf16 w := by
  unfold V
  after_reads_simp
  rw [hw]
  rfl

include hx in
theorem iblk_x (t : Fin cfg0.N) : iblk m c 0 t = ar 544 1024 .bf16 (fun r k => rows 2064 x (t.val * 544 + r) k) := by
  funext y
  blk_simp [iblk, ix_0]
  rw [host_x m c x hx]
  show rows 2064 x ((((cfg0.win 0).blk t).view.emb y) 0).val ((((cfg0.win 0).blk t).view.emb y) 1).val = rows 2064 x (t.val * 544 + (y 0).val) (y 1).val
  blk_simp [ix_0]

include hw in
theorem iblk_w (t : Fin cfg0.N) : iblk m c 1 t = ar 2816 1024 .bf16 w := by
  funext y
  blk_simp [iblk, ix_1]
  rw [host_w m c w hw]
  show w ((((cfg0.win 1).blk t).view.emb y) 0).val ((((cfg0.win 1).blk t).view.emb y) 1).val = w (y 0).val (y 1).val
  blk_simp [ix_1]

theorem body (f g : ℕ → ℕ → EReal) : out0_2 (F := Ideal) (ar 544 1024 .bf16 f) (ar 2816 1024 .bf16 g) = ar 544 2816 .f32 (nt f g 1024) := by
  unfold out0_2
  rw [View.canon_unit_zero hz2, View.ld_unit_zero (S := S544x1024) hz2, View.ld_unit_zero (S := S2816x1024) hz2]
  unfold k0_pay1
  rw [shapeCast_self, shapeCast_self]
  exact mat_nt f g

include hx hw in
theorem arr : (dats m 0 c).arrAt 2 cfg0.N = ar 2176 2816 .f32 (rows 2064 (nt x w 1024)) := by
  refine Dat.arrAt_eq_of_covers (dats m 0 c) 2 _ (by decide +kernel) fun t hf y => ?_
  blk_simp
  rw [after0_2, iblk_x m c x hx, iblk_w m c w hw, body]
  show nt (fun r k => rows 2064 x (t.val * 544 + r) k) w 1024 (y 0).val (y 1).val = rows 2064 (nt x w 1024) ((((cfg0.win 2).blk t).view.emb y) 0).val ((((cfg0.win 2).blk t).view.emb y) 1).val
  blk_simp [ix_2]
  exact nt_rows x w 2064 _ _
end

/-- What the reference computes. -/
def want (x : FVec Ideal Cert.FfnOutDxRefIdeal.S2064x1024 .f32) (w : FVec Ideal Cert.FfnOutDxRefIdeal.S2816x1024 .f32) : FVec Ideal Cert.FfnOutDxRefIdeal.S2176x2816 .f32 :=
  Cert.FfnOutDxRefIdeal.Read.val_main_v3 (F := Ideal) x w
theorem ref (x w : ℕ → ℕ → EReal) : want (ar 2064 1024 .f32 x) (ar 2816 1024 .f32 w) = ar 2176 2816 .f32 (rows 2064 (nt x w 1024)) := by
  unfold want Cert.FfnOutDxRefIdeal.Read.val_main_v3 Cert.FfnOutDxRefIdeal.Read.val_main_v2
  exact whole_nt x w (Cert.FfnOutDxRefIdeal.Read.val_main_call0_v0 (F := Ideal)) Cert.FfnOutDxRefIdeal.Gen.facts.h_S_ (zero_pad _ _ rfl) Cert.FfnOutDxRefIdeal.Gen.facts.pads_S2064x2816_S2176x2816_01120_000

theorem same : @Cert.algebraic_FfnOutDxIdeal_FfnOutDxRefIdeal Cert.FfnOutDxIdeal.Gen.facts Cert.FfnOutDxRefIdeal.Gen.facts := by
  intro m g m' g' _ hag
  refine ⟨_, Cert.FfnOutDxIdeal.Value.run_blocks m g, (θ_run _ _ _).mono ?_ (Cert.FfnOutDxRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨w, hw⟩ := ar_of (a := 2816) (b := 1024) (φ := .f32) (m ((c : Thread nD τ).loc main_arg1))
  refine ⟨r0.trans ?_, ra⟩
  rw [a0, a1]
  exact (congrArg₂ want hx hw).trans ((ref x w).trans (arr m c x w hx hw).symm)
end

open Cert.FfnOutDxRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.FfnOutDx
end
-- ==== Proof.ProdFfnOutDw.lean ====
module

public import proofs.«01_k».proof.Proof.Prod
public import proofs.«01_k».proof.Proof.Gen.FfnOutDwIdeal.Value
public import proofs.«01_k».proof.Proof.Gen.FfnOutDwRefIdeal.Run
public import proofs.«01_k».proof.Proof.Gen.FfnOutDwRefIdeal.Read

/- The gradient of the SwiGLU layer's output weights, 256 rows of it at a point. -/
@[expose] public section
set_option maxRecDepth 16384
noncomputable section
namespace Cert.Prod.FfnOutDw
open Idealize.ShloMosaic Idealize.ShloMosaic.TcCoe Idealize.ShloMosaic.Pipeline Idealize.SL.Sem

section
open Cert.FfnOutDwIdeal Cert.FfnOutDwIdeal.Gen
theorem ix_0 : ∀ t : Fin cfg0.N, win0_0.index t = ![0, t.val] := by decide +kernel
theorem ix_1 : ∀ t : Fin cfg0.N, win0_1.index t = ![0, 0] := by decide +kernel
theorem ix_2 : ∀ t : Fin cfg0.N, win0_2.index t = ![t.val, 0] := by decide +kernel

section
variable (m : (ℓ : Loc nD τ sig) → Buf (Elt Ideal) ℓ) (c : Dev nD) (x y : ℕ → ℕ → EReal)
variable (hx : m ((c : Thread nD τ).loc main_arg0) = ar 2064 2816 .f32 x) (hy : m ((c : Thread nD τ).loc main_arg1) = ar 2064 1024 .f32 y)

include hx in
theorem host_x : V m c main_v1 = ar 2176 2816 .bf16 (rows 2064 x) := by
  unfold V
  after_reads_simp
  rw [hx]
  exact put_rows _ h_S_ rfl pads_S2064x2816_S2176x2816_01120_000 bitsLt_bf16_f32

include hy in
theorem host_y : V m c main_v3 = ar 2176 1024 .bf16 (rows 2064 y) := by
  unfold V
  after_reads_simp
  rw [hy]
  exact put_rows _ h_S_ rfl pads_S2064x1024_S2176x1024_01120_000 bitsLt_bf16_f32

include hx in
theorem iblk_x (t : Fin cfg0.N) : iblk m c 0 t = ar 2176 256 .bf16 (rows 2064 (parts 256 x t.val)) := by
  funext j
  blk_simp [iblk, ix_0]
  rw [host_x m c x hx]
  show rows 2064 x ((((cfg0.win 0).blk t).view.emb j) 0).val ((((cfg0.win 0).blk t).view.emb j) 1).val = rows 2064 (parts 256 x t.val) (j 0).val (j 1).val
  blk_simp [ix_0]
  simp [rows, parts]

include hy in
theorem iblk_y (t : Fin cfg0.N) : iblk m c 1 t = ar 2176 1024 .bf16 (rows 2064 y) := by
  funext j
  blk_simp [iblk, ix_1]
  rw [host_y m c y hy]
  show rows 2064 y ((((cfg0.win 1).blk t).view.emb j) 0).val ((((cfg0.win 1).blk t).view.emb j) 1).val = rows 2064 y (j 0).val (j 1).val
  blk_simp [ix_1]

theorem out_A (i : grid0.Coords) (a2) (h2) (a3) (h3) (a4) (h4) (hc0) (hc1) (f g : ℕ → ℕ → EReal) :
    out0_A_2 (F := Ideal) c i a2 h2 a3 h3 a4 h4 hc0 hc1 (ar 2176 256 .bf16 f) (ar 2176 1024 .bf16 g) = ar 256 1024 .f32 (tn f g 2176) := by
  unfold out0_A_2
  rw [View.read_writes_eq_canon _ _ _ (cover0_A_2 c i a2 h2 a3 h3 a4 h4 hc0 hc1 _ _)]
  unfold kernelRun0_A
  dsimp only
  rw [View.canon_unit_zero hz2]
  simp only [View.readAt_eq_ld, h2.read_unread, h3.read_unread, View.ld_unit_zero (S := S2176x256) hz2, View.ld_unit_zero (S := S2176x1024) hz2]
  unfold k0_pay1
  rw [shapeCast_self, shapeCast_self]
  exact mat_tn (K := 2176) f g

include hx hy in
theorem arr : (dats m 0 c).arrAt 2 cfg0.N = ar 2816 1024 .f32 (tn x y 2064) := by
  refine Dat.arrAt_eq_of_covers (dats m 0 c) 2 _ (by decide +kernel) fun t hf j => ?_
  blk_simp
  rw [after0_2]
  unfold outsAt0
  rw [iblk_x m c x hx, iblk_y m c y hy, out_A]
  show tn (rows 2064 (parts 256 x t.val)) (rows 2064 y) 2176 (j 0).val (j 1).val = tn x y 2064 ((((cfg0.win 2).blk t).view.emb j) 0).val ((((cfg0.win 2).blk t).view.emb j) 1).val
  blk_simp [ix_2]
  rw [tn_rows _ _ 2064 112]
  simp [tn, parts]
end

/-- What the reference computes. -/
def want (x : FVec Ideal Cert.FfnOutDwRefIdeal.S2064x2816 .f32) (y : FVec Ideal Cert.FfnOutDwRefIdeal.S2064x1024 .f32) : FVec Ideal Cert.FfnOutDwRefIdeal.S2816x1024 .f32 :=
  Cert.FfnOutDwRefIdeal.Read.val_main_v3 (F := Ideal) x y
theorem ref (x y : ℕ → ℕ → EReal) : want (ar 2064 2816 .f32 x) (ar 2064 1024 .f32 y) = ar 2816 1024 .f32 (tn x y 2064) :=
  whole_tn x y Cert.FfnOutDwRefIdeal.Gen.facts.transposes_S1024x2816_S2816x1024_1_0

theorem same : @Cert.algebraic_FfnOutDwIdeal_FfnOutDwRefIdeal Cert.FfnOutDwIdeal.Gen.facts Cert.FfnOutDwRefIdeal.Gen.facts := by
  intro m g m' g' _ hag
  refine ⟨_, Cert.FfnOutDwIdeal.Value.run_blocks m g, (θ_run _ _ _).mono ?_ (Cert.FfnOutDwRefIdeal.Value.run m' g')⟩
  intro r h c
  obtain ⟨r0, ra⟩ := h c
  obtain ⟨a0, a1⟩ := hag c
  obtain ⟨x, hx⟩ := ar_of (a := 2064) (b := 2816) (φ := .f32) (m ((c : Thread nD τ).loc main_arg0))
  obtain ⟨w, hw⟩ := ar_of (a := 2064) (b := 1024) (φ := .f32) (m ((c : Thread nD τ).loc main_arg1))
  refine ⟨r0.trans ?_, ra⟩
  rw [a0, a1]
  exact (congrArg₂ want hx hw).trans ((ref x w).trans (arr m c x w hx hw).symm)
end

open Cert.FfnOutDwRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.FfnOutDw
end
-- ==== Proof.ProdMix.lean ====
module

public import proofs.«01_k».proof.Proof.Prod
public import proofs.«01_k».proof.Proof.Gen.MixIdeal.Value
public import proofs.«01_k».proof.Proof.Gen.MixRefIdeal.Run
public import proofs.«01_k».proof.Proof.Gen.MixRefIdeal.Read

/- The product of the mixed rows and the weights after them. -/
@[expose] public section
set_option maxRecDepth 16384
noncomputable section
namespace Cert.Prod.Mix
open Idealize.ShloMosaic Idealize.ShloMosaic.TcCoe Idealize.ShloMosaic.Pipeline Idealize.SL.Sem

section
open Cert.MixIdeal Cert.MixIdeal.Gen
theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel

section
variable (m : (ℓ : Loc nD τ sig) → Buf (Elt Ideal) ℓ) (c : Dev nD) (x w : ℕ → ℕ → EReal)
variable (hx : m ((c : Thread nD τ).loc main_arg0) = ar 2064 1024 .f32 x) (hw : m ((c : Thread nD τ).loc main_arg1) = ar 1024 1024 .f32 w)

include hx in
theorem host_x : V m c main_v1 = ar 2176 1024 .bf16 (rows 2064 x) := by
  unfold V
  after_reads_simp
  rw [hx]
  exact put_rows _ h_S_ rfl pads_S2064x1024_S2176x1024_01120_000 bitsLt_bf16_f32

include hw in
theorem host_w : V m c main_v2 = ar 1024 1024 .bf16 w := by
  unfold V
  after_reads_simp
  rw [hw]
  rfl

include hx in
theorem iblk_x (t : Fin cfg0.N) : iblk m c 0 t = ar 544 1024 .bf16 (fun r k => rows 2064 x (t.val * 544 + r) k) := by
  funext y
  blk_simp [iblk, ix_0]
  rw [host_x m c x hx]
  show rows 2064 x ((((cfg0.win 0).blk t).view.emb y) 0).val ((((cfg0.win 0).blk t).view.emb y) 1).val = rows 2064 x (t.val * 544 + (y 0).val) (y 1).val
  blk_simp [ix_0]

include hw in
theorem iblk_w (t : Fin cfg0.N) : iblk m c 1 t = ar 1024 1024 .bf16 w := by
  funext y
  blk_simp [iblk, ix_1]
  rw [host_w m c w hw]
  show w ((((cfg0.win 1).blk t).view.emb y) 0).val ((((cfg0.win 1).blk t).view.emb y) 1).val = w (y 0).val (y 1).val
  blk_simp [ix_1]

theorem body (f g : ℕ → ℕ → EReal) : out0_2 (F := Ideal) (ar 544 1024 .bf16 f) (ar 1024 1024 .bf16 g) = ar 544 1024 .f32 (nn f g 1024) := by
  unfold out0_2
  rw [View.canon_unit_zero hz2, View.ld_unit_zero (S := S544x1024) hz2, View.ld_unit_zero (S := S1024x1024) hz2]
  unfold k0_pay1
  rw [shapeCast_self, shapeCast_self]
  exact mat_nn f g

include hx hw in
theorem arr : (dats m 0 c).arrAt 2 cfg0.N = ar 2176 1024 .f32 (rows 2064 (nn x w 1024)) := by
  refine Dat.arrAt_eq_of_covers (dats m 0 c) 2 _ (by decide +kernel) fun t hf y => ?_
  blk_simp
  rw [after0_2, iblk_x m c x hx, iblk_w m c w hw, body]
  show nn (fun r k => rows 2064 x (t.val * 544 + r) k) w 1024 (y 0).val (y 1).val = rows 2064 (nn x w 1024) ((((cfg0.win 2).blk t).view.emb y) 0).val ((((cfg0.win 2).blk t).view.emb y) 1).val
  blk_simp [ix_2]
  exact nn_rows x w 2064 _ _
end

/-- What the reference computes. -/
def want (x : FVec Ideal Cert.MixRefIdeal.S2064x1024 .f32) (w : FVec Ideal Cert.MixRefIdeal.S1024x1024 .f32) : FVec Ideal Cert.MixRefIdeal.S2176x1024 .f32 :=
  Cert.MixRefIdeal.Read.val_main_v1 (F := Ideal) x w
theorem ref (x w : ℕ → ℕ → EReal) : want (ar 2064 1024 .f32 x) (ar 1024 1024 .f32 w) = ar 2176 1024 .f32 (rows 2064 (nn x w 1024)) := by
  unfold want Cert.MixRefIdeal.Read.val_main_v1 Cert.MixRefIdeal.Read.val_main_v0
  exact whole_nn x w (Cert.MixRefIdeal.Read.val_main_call0_v0 (F := Ideal)) Cert.MixRefIdeal.Gen.facts.h_S_ (zero_pad _ _ rfl) Cert.MixRefIdeal.Gen.facts.pads_S2064x1024_S2176x1024_01120_000

theorem same : @Cert.algebraic_MixIdeal_MixRefIdeal Cert.MixIdeal.Gen.facts Cert.MixRefIdeal.Gen.facts := by
  intro m g m' g' _ hag
  refine ⟨_, Cert.MixIdeal.Value.run_blocks m g, (θ_run _ _ _).mono ?_ (Cert.MixRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨w, hw⟩ := ar_of (a := 1024) (b := 1024) (φ := .f32) (m ((c : Thread nD τ).loc main_arg1))
  refine ⟨r0.trans ?_, ra⟩
  rw [a0, a1]
  exact (congrArg₂ want hx hw).trans ((ref x w).trans (arr m c x w hx hw).symm)
end

open Cert.MixRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.Mix
end
-- ==== Proof.ProdMixDx.lean ====
module

public import proofs.«01_k».proof.Proof.Prod
public import proofs.«01_k».proof.Proof.Gen.MixDxIdeal.Value
public import proofs.«01_k».proof.Proof.Gen.MixDxRefIdeal.Run
public import proofs.«01_k».proof.Proof.Gen.MixDxRefIdeal.Read

/- The cotangents of the mixed rows. -/
@[expose] public section
set_option maxRecDepth 16384
noncomputable section
namespace Cert.Prod.MixDx
open Idealize.ShloMosaic Idealize.ShloMosaic.TcCoe Idealize.ShloMosaic.Pipeline Idealize.SL.Sem

section
open Cert.MixDxIdeal Cert.MixDxIdeal.Gen
theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel

section
variable (m : (ℓ : Loc nD τ sig) → Buf (Elt Ideal) ℓ) (c : Dev nD) (x w : ℕ → ℕ → EReal)
variable (hx : m ((c : Thread nD τ).loc main_arg0) = ar 2064 1024 .f32 x) (hw : m ((c : Thread nD τ).loc main_arg1) = ar 1024 1024 .f32 w)

include hx in
theorem host_x : V m c main_v1 = ar 2176 1024 .bf16 (rows 2064 x) := by
  unfold V
  after_reads_simp
  rw [hx]
  exact put_rows _ h_S_ rfl pads_S2064x1024_S2176x1024_01120_000 bitsLt_bf16_f32

include hw in
theorem host_w : V m c main_v2 = ar 1024 1024 .bf16 w := by
  unfold V
  after_reads_simp
  rw [hw]
  rfl

include hx in
theorem iblk_x (t : Fin cfg0.N) : iblk m c 0 t = ar 544 1024 .bf16 (fun r k => rows 2064 x (t.val * 544 + r) k) := by
  funext y
  blk_simp [iblk, ix_0]
  rw [host_x m c x hx]
  show rows 2064 x ((((cfg0.win 0).blk t).view.emb y) 0).val ((((cfg0.win 0).blk t).view.emb y) 1).val = rows 2064 x (t.val * 544 + (y 0).val) (y 1).val
  blk_simp [ix_0]

include hw in
theorem iblk_w (t : Fin cfg0.N) : iblk m c 1 t = ar 1024 1024 .bf16 w := by
  funext y
  blk_simp [iblk, ix_1]
  rw [host_w m c w hw]
  show w ((((cfg0.win 1).blk t).view.emb y) 0).val ((((cfg0.win 1).blk t).view.emb y) 1).val = w (y 0).val (y 1).val
  blk_simp [ix_1]

theorem body (f g : ℕ → ℕ → EReal) : out0_2 (F := Ideal) (ar 544 1024 .bf16 f) (ar 1024 1024 .bf16 g) = ar 544 1024 .f32 (nt f g 1024) := by
  unfold out0_2
  rw [View.canon_unit_zero hz2, View.ld_unit_zero (S := S544x1024) hz2, View.ld_unit_zero (S := S1024x1024) hz2]
  unfold k0_pay1
  rw [shapeCast_self, shapeCast_self]
  exact mat_nt f g

include hx hw in
theorem arr : (dats m 0 c).arrAt 2 cfg0.N = ar 2176 1024 .f32 (rows 2064 (nt x w 1024)) := by
  refine Dat.arrAt_eq_of_covers (dats m 0 c) 2 _ (by decide +kernel) fun t hf y => ?_
  blk_simp
  rw [after0_2, iblk_x m c x hx, iblk_w m c w hw, body]
  show nt (fun r k => rows 2064 x (t.val * 544 + r) k) w 1024 (y 0).val (y 1).val = rows 2064 (nt x w 1024) ((((cfg0.win 2).blk t).view.emb y) 0).val ((((cfg0.win 2).blk t).view.emb y) 1).val
  blk_simp [ix_2]
  exact nt_rows x w 2064 _ _
end

/-- What the reference computes. -/
def want (x : FVec Ideal Cert.MixDxRefIdeal.S2064x1024 .f32) (w : FVec Ideal Cert.MixDxRefIdeal.S1024x1024 .f32) : FVec Ideal Cert.MixDxRefIdeal.S2176x1024 .f32 :=
  Cert.MixDxRefIdeal.Read.val_main_v3 (F := Ideal) x w
theorem ref (x w : ℕ → ℕ → EReal) : want (ar 2064 1024 .f32 x) (ar 1024 1024 .f32 w) = ar 2176 1024 .f32 (rows 2064 (nt x w 1024)) := by
  unfold want Cert.MixDxRefIdeal.Read.val_main_v3 Cert.MixDxRefIdeal.Read.val_main_v2
  exact whole_nt x w (Cert.MixDxRefIdeal.Read.val_main_call0_v0 (F := Ideal)) Cert.MixDxRefIdeal.Gen.facts.h_S_ (zero_pad _ _ rfl) Cert.MixDxRefIdeal.Gen.facts.pads_S2064x1024_S2176x1024_01120_000

theorem same : @Cert.algebraic_MixDxIdeal_MixDxRefIdeal Cert.MixDxIdeal.Gen.facts Cert.MixDxRefIdeal.Gen.facts := by
  intro m g m' g' _ hag
  refine ⟨_, Cert.MixDxIdeal.Value.run_blocks m g, (θ_run _ _ _).mono ?_ (Cert.MixDxRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨w, hw⟩ := ar_of (a := 1024) (b := 1024) (φ := .f32) (m ((c : Thread nD τ).loc main_arg1))
  refine ⟨r0.trans ?_, ra⟩
  rw [a0, a1]
  exact (congrArg₂ want hx hw).trans ((ref x w).trans (arr m c x w hx hw).symm)
end

open Cert.MixDxRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.MixDx
end
-- ==== Proof.ProdMixDw.lean ====
module

public import proofs.«01_k».proof.Proof.Prod
public import proofs.«01_k».proof.Proof.Gen.MixDwIdeal.Value
public import proofs.«01_k».proof.Proof.Gen.MixDwRefIdeal.Run
public import proofs.«01_k».proof.Proof.Gen.MixDwRefIdeal.Read

/- The gradient of the weights after the mixing, 256 rows of it at a point. -/
@[expose] public section
set_option maxRecDepth 16384
noncomputable section
namespace Cert.Prod.MixDw
open Idealize.ShloMosaic Idealize.ShloMosaic.TcCoe Idealize.ShloMosaic.Pipeline Idealize.SL.Sem

section
open Cert.MixDwIdeal Cert.MixDwIdeal.Gen
theorem ix_0 : ∀ t : Fin cfg0.N, win0_0.index t = ![0, t.val] := by decide +kernel
theorem ix_1 : ∀ t : Fin cfg0.N, win0_1.index t = ![0, 0] := by decide +kernel
theorem ix_2 : ∀ t : Fin cfg0.N, win0_2.index t = ![t.val, 0] := by decide +kernel

section
variable (m : (ℓ : Loc nD τ sig) → Buf (Elt Ideal) ℓ) (c : Dev nD) (x y : ℕ → ℕ → EReal)
variable (hx : m ((c : Thread nD τ).loc main_arg0) = ar 2064 1024 .f32 x) (hy : m ((c : Thread nD τ).loc main_arg1) = ar 2064 1024 .f32 y)

include hx in
theorem host_x : V m c main_v1 = ar 2176 1024 .bf16 (rows 2064 x) := by
  unfold V
  after_reads_simp
  rw [hx]
  exact put_rows _ h_S_ rfl pads_S2064x1024_S2176x1024_01120_000 bitsLt_bf16_f32

include hy in
theorem host_y : V m c main_v3 = ar 2176 1024 .bf16 (rows 2064 y) := by
  unfold V
  after_reads_simp
  rw [hy]
  exact put_rows _ h_S_ rfl pads_S2064x1024_S2176x1024_01120_000 bitsLt_bf16_f32

include hx in
theorem iblk_x (t : Fin cfg0.N) : iblk m c 0 t = ar 2176 256 .bf16 (rows 2064 (parts 256 x t.val)) := by
  funext j
  blk_simp [iblk, ix_0]
  rw [host_x m c x hx]
  show rows 2064 x ((((cfg0.win 0).blk t).view.emb j) 0).val ((((cfg0.win 0).blk t).view.emb j) 1).val = rows 2064 (parts 256 x t.val) (j 0).val (j 1).val
  blk_simp [ix_0]
  simp [rows, parts]

include hy in
theorem iblk_y (t : Fin cfg0.N) : iblk m c 1 t = ar 2176 1024 .bf16 (rows 2064 y) := by
  funext j
  blk_simp [iblk, ix_1]
  rw [host_y m c y hy]
  show rows 2064 y ((((cfg0.win 1).blk t).view.emb j) 0).val ((((cfg0.win 1).blk t).view.emb j) 1).val = rows 2064 y (j 0).val (j 1).val
  blk_simp [ix_1]

theorem out_A (i : grid0.Coords) (a2) (h2) (a3) (h3) (a4) (h4) (hc0) (hc1) (f g : ℕ → ℕ → EReal) :
    out0_A_2 (F := Ideal) c i a2 h2 a3 h3 a4 h4 hc0 hc1 (ar 2176 256 .bf16 f) (ar 2176 1024 .bf16 g) = ar 256 1024 .f32 (tn f g 2176) := by
  unfold out0_A_2
  rw [View.read_writes_eq_canon _ _ _ (cover0_A_2 c i a2 h2 a3 h3 a4 h4 hc0 hc1 _ _)]
  unfold kernelRun0_A
  dsimp only
  rw [View.canon_unit_zero hz2]
  simp only [View.readAt_eq_ld, h2.read_unread, h3.read_unread, View.ld_unit_zero (S := S2176x256) hz2, View.ld_unit_zero (S := S2176x1024) hz2]
  unfold k0_pay1
  rw [shapeCast_self, shapeCast_self]
  exact mat_tn (K := 2176) f g

include hx hy in
theorem arr : (dats m 0 c).arrAt 2 cfg0.N = ar 1024 1024 .f32 (tn x y 2064) := by
  refine Dat.arrAt_eq_of_covers (dats m 0 c) 2 _ (by decide +kernel) fun t hf j => ?_
  blk_simp
  rw [after0_2]
  unfold outsAt0
  rw [iblk_x m c x hx, iblk_y m c y hy, out_A]
  show tn (rows 2064 (parts 256 x t.val)) (rows 2064 y) 2176 (j 0).val (j 1).val = tn x y 2064 ((((cfg0.win 2).blk t).view.emb j) 0).val ((((cfg0.win 2).blk t).view.emb j) 1).val
  blk_simp [ix_2]
  rw [tn_rows _ _ 2064 112]
  simp [tn, parts]
end

/-- What the reference computes. -/
def want (x : FVec Ideal Cert.MixDwRefIdeal.S2064x1024 .f32) (y : FVec Ideal Cert.MixDwRefIdeal.S2064x1024 .f32) : FVec Ideal Cert.MixDwRefIdeal.S1024x1024 .f32 :=
  Cert.MixDwRefIdeal.Read.val_main_v3 (F := Ideal) x y
theorem ref (x y : ℕ → ℕ → EReal) : want (ar 2064 1024 .f32 x) (ar 2064 1024 .f32 y) = ar 1024 1024 .f32 (tn x y 2064) :=
  whole_tn x y Cert.MixDwRefIdeal.Gen.facts.transposes_S1024x1024_S1024x1024_1_0

theorem same : @Cert.algebraic_MixDwIdeal_MixDwRefIdeal Cert.MixDwIdeal.Gen.facts Cert.MixDwRefIdeal.Gen.facts := by
  intro m g m' g' _ hag
  refine ⟨_, Cert.MixDwIdeal.Value.run_blocks m g, (θ_run _ _ _).mono ?_ (Cert.MixDwRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨w, hw⟩ := ar_of (a := 2064) (b := 1024) (φ := .f32) (m ((c : Thread nD τ).loc main_arg1))
  refine ⟨r0.trans ?_, ra⟩
  rw [a0, a1]
  exact (congrArg₂ want hx hw).trans ((ref x w).trans (arr m c x w hx hw).symm)
end

open Cert.MixDwRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.MixDw
end
-- ==== Proof.ProdConvOut.lean ====
module

public import proofs.«01_k».proof.Proof.ProdMix
public import proofs.«01_k».proof.Proof.Gen.ConvOut
public import proofs.«01_k».proof.Proof.Gen.ConvOutIdeal
public import proofs.«01_k».proof.Proof.Gen.ConvOutRefIdeal
public import proofs.«01_k».proof.Proof.Gen.MixIdeal.Frame
public import proofs.«01_k».proof.Proof.ProdMixDx
public import proofs.«01_k».proof.Proof.Gen.ConvOutDx
public import proofs.«01_k».proof.Proof.Gen.ConvOutDxIdeal
public import proofs.«01_k».proof.Proof.Gen.ConvOutDxRefIdeal
public import proofs.«01_k».proof.Proof.Gen.MixDxIdeal.Frame
public import proofs.«01_k».proof.Proof.ProdMixDw
public import proofs.«01_k».proof.Proof.Gen.ConvOutDw
public import proofs.«01_k».proof.Proof.Gen.ConvOutDwIdeal
public import proofs.«01_k».proof.Proof.Gen.ConvOutDwRefIdeal
public import proofs.«01_k».proof.Proof.Gen.MixDwIdeal.Frame

/- The three products of the convolution's output weights are computed by programs with the text of the three after the
mixing: their kernels are the same kernels under other names. What is proved of those holds of these. -/
@[expose] public section
set_option maxRecDepth 16384
noncomputable section
open Idealize.ShloMosaic Idealize.SL.Sem
variable {F : FTy → Type} [FloatOps F]

namespace Cert.Prod.ConvOut
theorem defs_ideal : Cert.ConvOutIdeal.defs (F := F) = Cert.MixIdeal.defs (F := F) :=
  congrArg (Pipeline.defs _) (congrArg Defs.onTc (funext fun l => by
    match l with
    | 0 => rfl))
theorem defs_bits : Cert.ConvOut.defs (F := F) = Cert.MixIdeal.defs (F := F) :=
  congrArg (Pipeline.defs _) (congrArg Defs.onTc (funext fun l => by
    match l with
    | 0 => rfl))
/-- The product of the convolution's rows and its output weights. -/
theorem same : @Cert.algebraic_ConvOutIdeal_ConvOutRefIdeal Cert.ConvOutIdeal.Gen.facts Cert.ConvOutRefIdeal.Gen.facts := by
  unfold Cert.algebraic_ConvOutIdeal_ConvOutRefIdeal
  rw [defs_ideal]
  exact Cert.Prod.Mix.same
theorem frame : @Cert.quiescent_ConvOut Cert.ConvOut.Gen.facts := by
  unfold Cert.quiescent_ConvOut
  rw [defs_bits]
  exact fun m ρ _ => Cert.MixIdeal.Gen.frame m ρ
theorem ideal_frame : @Cert.quiescent_ConvOutIdeal Cert.ConvOutIdeal.Gen.facts := by
  unfold Cert.quiescent_ConvOutIdeal
  rw [defs_ideal]
  exact fun m ρ _ => Cert.MixIdeal.Gen.frame m ρ
theorem ref_frame : @Cert.quiescent_ConvOutRefIdeal Cert.ConvOutRefIdeal.Gen.facts := fun m ρ _ => Cert.Prod.Mix.ref_frame m ρ
end Cert.Prod.ConvOut

namespace Cert.Prod.ConvOutDx
theorem defs_ideal : Cert.ConvOutDxIdeal.defs (F := F) = Cert.MixDxIdeal.defs (F := F) :=
  congrArg (Pipeline.defs _) (congrArg Defs.onTc (funext fun l => by
    match l with
    | 0 => rfl))
theorem defs_bits : Cert.ConvOutDx.defs (F := F) = Cert.MixDxIdeal.defs (F := F) :=
  congrArg (Pipeline.defs _) (congrArg Defs.onTc (funext fun l => by
    match l with
    | 0 => rfl))
/-- The product of the cotangents and those weights. -/
theorem same : @Cert.algebraic_ConvOutDxIdeal_ConvOutDxRefIdeal Cert.ConvOutDxIdeal.Gen.facts Cert.ConvOutDxRefIdeal.Gen.facts := by
  unfold Cert.algebraic_ConvOutDxIdeal_ConvOutDxRefIdeal
  rw [defs_ideal]
  exact Cert.Prod.MixDx.same
theorem frame : @Cert.quiescent_ConvOutDx Cert.ConvOutDx.Gen.facts := by
  unfold Cert.quiescent_ConvOutDx
  rw [defs_bits]
  exact fun m ρ _ => Cert.MixDxIdeal.Gen.frame m ρ
theorem ideal_frame : @Cert.quiescent_ConvOutDxIdeal Cert.ConvOutDxIdeal.Gen.facts := by
  unfold Cert.quiescent_ConvOutDxIdeal
  rw [defs_ideal]
  exact fun m ρ _ => Cert.MixDxIdeal.Gen.frame m ρ
theorem ref_frame : @Cert.quiescent_ConvOutDxRefIdeal Cert.ConvOutDxRefIdeal.Gen.facts := fun m ρ _ => Cert.Prod.MixDx.ref_frame m ρ
end Cert.Prod.ConvOutDx

namespace Cert.Prod.ConvOutDw
theorem defs_ideal : Cert.ConvOutDwIdeal.defs (F := F) = Cert.MixDwIdeal.defs (F := F) :=
  congrArg (Pipeline.defs _) (congrArg Defs.onTc (funext fun l => by
    match l with
    | 0 => rfl))
theorem defs_bits : Cert.ConvOutDw.defs (F := F) = Cert.MixDwIdeal.defs (F := F) :=
  congrArg (Pipeline.defs _) (congrArg Defs.onTc (funext fun l => by
    match l with
    | 0 => rfl))
/-- The product of the convolution's rows and the cotangents. -/
theorem same : @Cert.algebraic_ConvOutDwIdeal_ConvOutDwRefIdeal Cert.ConvOutDwIdeal.Gen.facts Cert.ConvOutDwRefIdeal.Gen.facts := by
  unfold Cert.algebraic_ConvOutDwIdeal_ConvOutDwRefIdeal
  rw [defs_ideal]
  exact Cert.Prod.MixDw.same
theorem frame : @Cert.quiescent_ConvOutDw Cert.ConvOutDw.Gen.facts := by
  unfold Cert.quiescent_ConvOutDw
  rw [defs_bits]
  exact fun m ρ _ => Cert.MixDwIdeal.Gen.frame m ρ
theorem ideal_frame : @Cert.quiescent_ConvOutDwIdeal Cert.ConvOutDwIdeal.Gen.facts := by
  unfold Cert.quiescent_ConvOutDwIdeal
  rw [defs_ideal]
  exact fun m ρ _ => Cert.MixDwIdeal.Gen.frame m ρ
theorem ref_frame : @Cert.quiescent_ConvOutDwRefIdeal Cert.ConvOutDwRefIdeal.Gen.facts := fun m ρ _ => Cert.Prod.MixDw.ref_frame m ρ
end Cert.Prod.ConvOutDw
end
-- ==== Proof.ProdAttnOut.lean ====
module

public import proofs.«01_k».proof.Proof.Prod
public import proofs.«01_k».proof.Proof.Gen.AttnOutIdeal.Value
public import proofs.«01_k».proof.Proof.Gen.AttnOutRefIdeal.Run
public import proofs.«01_k».proof.Proof.Gen.AttnOutRefIdeal.Read

/- The product of the attention's rows and its output weights: the rows are held with more zero rows than the product takes. -/
@[expose] public section
set_option maxRecDepth 16384
noncomputable section
namespace Cert.Prod.AttnOut
open Idealize.ShloMosaic Idealize.ShloMosaic.TcCoe Idealize.ShloMosaic.Pipeline Idealize.SL.Sem

section
open Cert.AttnOutIdeal Cert.AttnOutIdeal.Gen
theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel

section
variable (m : (ℓ : Loc nD τ sig) → Buf (Elt Ideal) ℓ) (c : Dev nD) (x w : ℕ → ℕ → EReal)
variable (hx : m ((c : Thread nD τ).loc main_arg0) = ar 2064 1024 .f32 x) (hw : m ((c : Thread nD τ).loc main_arg1) = ar 1024 1024 .f32 w)

include hx in
theorem host_x : V m c main_v1 = ar 2304 1024 .bf16 (rows 2064 x) := by
  unfold V
  after_reads_simp
  rw [hx]
  exact put_rows _ h_S_ rfl pads_S2064x1024_S2304x1024_02400_000 bitsLt_bf16_f32

include hw in
theorem host_w : V m c main_v2 = ar 1024 1024 .bf16 w := by
  unfold V
  after_reads_simp
  rw [hw]
  rfl

include hx in
theorem iblk_x (t : Fin cfg0.N) : X0_0 m c t = ar 544 1024 .bf16 (fun r k => rows 2064 x (t.val * 544 + r) k) := by
  have e (i) : iblk m c 0 t i = (fun r k => rows 2064 x (t.val * 544 + r) k) (i 0).val (i 1).val := by
    blk_simp [iblk, ix_0]
    rw [host_x m c x hx]
    show rows 2064 x ((((cfg0.win 0).blk t).view.emb i) 0).val ((((cfg0.win 0).blk t).view.emb i) 1).val = rows 2064 x (t.val * 544 + (i 0).val) (i 1).val
    have a0 : ((((cfg0.win 0).blk t).view.emb i) 0).val = win0_0.index t 0 * 544 + (i 0).val := ValueKit.rect_emb_unit_val _ _ _ _ _
    have a1 : ((((cfg0.win 0).blk t).view.emb i) 1).val = win0_0.index t 1 * 1024 + (i 1).val := ValueKit.rect_emb_unit_val _ _ _ _ _
    rw [a0, a1, ix_0]
    show rows 2064 x (t.val * 544 + (i 0).val) (0 * 1024 + (i 1).val) = rows 2064 x (t.val * 544 + (i 0).val) (i 1).val
    rw [Nat.zero_mul, Nat.zero_add]
  funext y
  unfold X0_0 Pipeline.Window.fill
  rw [dif_pos (moved0_0 t y)]
  exact e _

include hw in
theorem iblk_w (t : Fin cfg0.N) : iblk m c 1 t = ar 1024 1024 .bf16 w := by
  funext y
  blk_simp [iblk, ix_1]
  rw [host_w m c w hw]
  show w ((((cfg0.win 1).blk t).view.emb y) 0).val ((((cfg0.win 1).blk t).view.emb y) 1).val = w (y 0).val (y 1).val
  blk_simp [ix_1]

theorem out_A (i : grid0.Coords) (a1) (h1) (a2) (h2) (a3) (h3) (f g : ℕ → ℕ → EReal) :
    out0_A_2 (F := Ideal) c i a1 h1 a2 h2 a3 h3 (ar 544 1024 .bf16 f) (ar 1024 1024 .bf16 g) = ar 544 1024 .f32 (nn f g 1024) := by
  unfold out0_A_2
  rw [View.read_writes_eq_canon _ _ _ (cover0_A_2 c i a1 h1 a2 h2 a3 h3 _ _)]
  unfold kernelRun0_A
  dsimp only
  rw [View.canon_unit_zero hz2]
  simp only [View.readAt_eq_ld, h1.read_unread, h2.read_unread, View.ld_unit_zero (S := S544x1024) hz2, View.ld_unit_zero (S := S1024x1024) hz2]
  unfold k0_pay1
  rw [shapeCast_self, shapeCast_self]
  exact mat_nn f g

include hx hw in
theorem arr : (dats m 0 c).arrAt 2 cfg0.N = ar 2176 1024 .f32 (rows 2064 (nn x w 1024)) := by
  refine Dat.arrAt_eq_of_covers (dats m 0 c) 2 _ (by decide +kernel) fun t hf y => ?_
  blk_simp
  rw [after0_2]
  unfold outsAt0
  rw [iblk_x m c x hx, iblk_w m c w hw, out_A]
  show nn (fun r k => rows 2064 x (t.val * 544 + r) k) w 1024 (y 0).val (y 1).val = rows 2064 (nn x w 1024) ((((cfg0.win 2).blk t).view.emb y) 0).val ((((cfg0.win 2).blk t).view.emb y) 1).val
  blk_simp [ix_2]
  exact nn_rows x w 2064 _ _
end

/-- What the reference computes. -/
def want (x : FVec Ideal Cert.AttnOutRefIdeal.S2064x1024 .f32) (w : FVec Ideal Cert.AttnOutRefIdeal.S1024x1024 .f32) : FVec Ideal Cert.AttnOutRefIdeal.S2176x1024 .f32 :=
  Cert.AttnOutRefIdeal.Read.val_main_v1 (F := Ideal) x w
theorem ref (x w : ℕ → ℕ → EReal) : want (ar 2064 1024 .f32 x) (ar 1024 1024 .f32 w) = ar 2176 1024 .f32 (rows 2064 (nn x w 1024)) := by
  unfold want Cert.AttnOutRefIdeal.Read.val_main_v1 Cert.AttnOutRefIdeal.Read.val_main_v0
  exact whole_nn x w (Cert.AttnOutRefIdeal.Read.val_main_call0_v0 (F := Ideal)) Cert.AttnOutRefIdeal.Gen.facts.h_S_ (zero_pad _ _ rfl) Cert.AttnOutRefIdeal.Gen.facts.pads_S2064x1024_S2176x1024_01120_000

theorem same : @Cert.algebraic_AttnOutIdeal_AttnOutRefIdeal Cert.AttnOutIdeal.Gen.facts Cert.AttnOutRefIdeal.Gen.facts := by
  intro m g m' g' _ hag
  refine ⟨_, Cert.AttnOutIdeal.Value.run_blocks m g, (θ_run _ _ _).mono ?_ (Cert.AttnOutRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨w, hw⟩ := ar_of (a := 1024) (b := 1024) (φ := .f32) (m ((c : Thread nD τ).loc main_arg1))
  refine ⟨r0.trans ?_, ra⟩
  rw [a0, a1]
  exact (congrArg₂ want hx hw).trans ((ref x w).trans (arr m c x w hx hw).symm)
end

open Cert.AttnOutRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.AttnOut
end
-- ==== Proof.ProdAttnOutDx.lean ====
module

public import proofs.«01_k».proof.Proof.Prod
public import proofs.«01_k».proof.Proof.Gen.AttnOutDxIdeal.Value
public import proofs.«01_k».proof.Proof.Gen.AttnOutDxRefIdeal.Run
public import proofs.«01_k».proof.Proof.Gen.AttnOutDxRefIdeal.Read
public import Idealize.ShloMosaic.Lib.Pipeline.ValueKit.Partial

/- The cotangents of the attention's rows, written over the zero rows of an array that has more of them. -/
@[expose] public section
set_option maxRecDepth 16384
noncomputable section
namespace Cert.Prod.AttnOutDx
open Idealize.ShloMosaic Idealize.ShloMosaic.TcCoe Idealize.ShloMosaic.Pipeline Idealize.SL.Sem

section
open Cert.AttnOutDxIdeal Cert.AttnOutDxIdeal.Gen
theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel

section
variable (m : (ℓ : Loc nD τ sig) → Buf (Elt Ideal) ℓ) (c : Dev nD) (x w : ℕ → ℕ → EReal)
variable (hx : m ((c : Thread nD τ).loc main_arg0) = ar 2064 1024 .f32 x) (hw : m ((c : Thread nD τ).loc main_arg1) = ar 1024 1024 .f32 w)

include hx in
theorem host_x : V m c main_v1 = ar 2176 1024 .bf16 (rows 2064 x) := by
  unfold V
  after_reads_simp
  rw [hx]
  exact put_rows _ h_S_ rfl pads_S2064x1024_S2176x1024_01120_000 bitsLt_bf16_f32

include hw in
theorem host_w : V m c main_v2 = ar 1024 1024 .bf16 w := by
  unfold V
  after_reads_simp
  rw [hw]
  rfl

include hx in
theorem iblk_x (t : Fin cfg0.N) : iblk m c 0 t = ar 544 1024 .bf16 (fun r k => rows 2064 x (t.val * 544 + r) k) := by
  funext y
  blk_simp [iblk, ix_0]
  rw [host_x m c x hx]
  show rows 2064 x ((((cfg0.win 0).blk t).view.emb y) 0).val ((((cfg0.win 0).blk t).view.emb y) 1).val = rows 2064 x (t.val * 544 + (y 0).val) (y 1).val
  blk_simp [ix_0]

include hw in
theorem iblk_w (t : Fin cfg0.N) : iblk m c 1 t = ar 1024 1024 .bf16 w := by
  funext y
  blk_simp [iblk, ix_1]
  rw [host_w m c w hw]
  show w ((((cfg0.win 1).blk t).view.emb y) 0).val ((((cfg0.win 1).blk t).view.emb y) 1).val = w (y 0).val (y 1).val
  blk_simp [ix_1]

theorem out_A (i : grid0.Coords) (a1) (h1) (a2) (h2) (a3) (h3) (f g : ℕ → ℕ → EReal) :
    out0_A_2 (F := Ideal) c i a1 h1 a2 h2 a3 h3 (ar 544 1024 .bf16 f) (ar 1024 1024 .bf16 g) = ar 544 1024 .bf16 (nt f g 1024) := by
  unfold out0_A_2
  rw [View.read_writes_eq_canon _ _ _ (cover0_A_2 c i a1 h1 a2 h2 a3 h3 _ _)]
  unfold kernelRun0_A
  dsimp only
  rw [View.canon_unit_zero hz2]
  simp only [View.readAt_eq_ld, h1.read_unread, h2.read_unread, View.ld_unit_zero (S := S544x1024) hz2, View.ld_unit_zero (S := S1024x1024) hz2]
  unfold k0_pay1
  rw [shapeCast_self, shapeCast_self]
  exact mat_nt f g

/-- The zero rows that the call finds in its result. -/
theorem host_0 : V m c main_v4 = ar 2304 1024 .bf16 (fun _ _ => 0) := by
  unfold V
  after_reads_simp
  funext j
  exact Ideal.ofBits_zero_bf16

include hx hw in
theorem arr : (dats m 0 c).arrAt 2 cfg0.N = ar 2304 1024 .bf16 (rows 2064 (nt x w 1024)) := by
  refine Dat.arrAt_eq_of_coversWhere_of_agree (dats m 0 c) 2 _ (fun β => β (0 : Fin _) < 4) (by decide +kernel) (fun t hf y => ?_) fun j hj => ?_
  · blk_simp
    rw [after0_2]
    unfold outsAt0
    rw [iblk_x m c x hx, iblk_w m c w hw, out_A]
    show nt (fun r k => rows 2064 x (t.val * 544 + r) k) w 1024 (y 0).val (y 1).val = rows 2064 (nt x w 1024) ((((cfg0.win 2).blk t).view.emb y) 0).val ((((cfg0.win 2).blk t).view.emb y) 1).val
    have a0 : ((((cfg0.win 2).blk t).view.emb y) 0).val = win0_2.index t 0 * 544 + (y 0).val := ValueKit.rect_emb_unit_val _ _ _ _ _
    have a1 : ((((cfg0.win 2).blk t).view.emb y) 1).val = win0_2.index t 1 * 1024 + (y 1).val := ValueKit.rect_emb_unit_val _ _ _ _ _
    rw [a0, a1, ix_2]
    show nt (fun r k => rows 2064 x (t.val * 544 + r) k) w 1024 (y 0).val (y 1).val = rows 2064 (nt x w 1024) (t.val * 544 + (y 0).val) (0 * 1024 + (y 1).val)
    rw [Nat.zero_mul, Nat.zero_add]
    exact nt_rows x w 2064 _ _
  · rw [A_eq]
    show V m c main_v4 ((cfg0.win 2).arr.view.emb j) = rows 2064 (nt x w 1024) (j 0).val (j 1).val
    rw [host_0 m c]
    have h : ¬ (j 0).val / 544 < 4 := hj
    unfold rows
    rw [if_neg (by omega)]
    rfl
end

/-- What the reference computes. -/
def want (x : FVec Ideal Cert.AttnOutDxRefIdeal.S2064x1024 .f32) (w : FVec Ideal Cert.AttnOutDxRefIdeal.S1024x1024 .f32) : FVec Ideal Cert.AttnOutDxRefIdeal.S2304x1024 .bf16 :=
  Cert.AttnOutDxRefIdeal.Read.val_main_v4 (F := Ideal) x w
theorem ref (x w : ℕ → ℕ → EReal) : want (ar 2064 1024 .f32 x) (ar 1024 1024 .f32 w) = ar 2304 1024 .bf16 (rows 2064 (nt x w 1024)) := by
  unfold want Cert.AttnOutDxRefIdeal.Read.val_main_v4 Cert.AttnOutDxRefIdeal.Read.val_main_v3 Cert.AttnOutDxRefIdeal.Read.val_main_v2
  have e : Host.dotGeneral Cert.AttnOutDxRefIdeal.dot_S2064x1024_S1024x1024_S2064x1024_1_1_0_0_n_n none (ar 2064 1024 .f32 x) (ar 1024 1024 .f32 w) = ar 2064 1024 .f32 (nt x w 1024) := host_nt x w
  have e2 : truncf .bf16 (ar 2064 1024 .f32 (nt x w 1024)) Cert.AttnOutDxRefIdeal.Gen.facts.bitsLt_bf16_f32 = ar 2064 1024 .bf16 (nt x w 1024) := rfl
  rw [e, e2]
  exact pad_ar (φ := .bf16) (Cert.AttnOutDxRefIdeal.Read.val_main_call0_v0 (F := Ideal)) Cert.AttnOutDxRefIdeal.Gen.facts.h_S_ (zero_pad _ _ rfl) Cert.AttnOutDxRefIdeal.Gen.facts.pads_S2064x1024_S2304x1024_02400_000

theorem same : @Cert.algebraic_AttnOutDxIdeal_AttnOutDxRefIdeal Cert.AttnOutDxIdeal.Gen.facts Cert.AttnOutDxRefIdeal.Gen.facts := by
  intro m g m' g' _ hag
  refine ⟨_, Cert.AttnOutDxIdeal.Value.run_blocks m g, (θ_run _ _ _).mono ?_ (Cert.AttnOutDxRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨w, hw⟩ := ar_of (a := 1024) (b := 1024) (φ := .f32) (m ((c : Thread nD τ).loc main_arg1))
  refine ⟨r0.trans ?_, ra⟩
  rw [a0, a1]
  exact (congrArg₂ want hx hw).trans ((ref x w).trans (arr m c x w hx hw).symm)
end

open Cert.AttnOutDxRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.AttnOutDx
end
-- ==== Proof.ProdAttnOutDw.lean ====
module

public import proofs.«01_k».proof.Proof.Prod
public import proofs.«01_k».proof.Proof.Gen.AttnOutDwIdeal.Value
public import proofs.«01_k».proof.Proof.Gen.AttnOutDwRefIdeal.Run
public import proofs.«01_k».proof.Proof.Gen.AttnOutDwRefIdeal.Read

/- The gradient of the attention's output weights, 256 rows of it at a point. -/
@[expose] public section
set_option maxRecDepth 16384
noncomputable section
namespace Cert.Prod.AttnOutDw
open Idealize.ShloMosaic Idealize.ShloMosaic.TcCoe Idealize.ShloMosaic.Pipeline Idealize.SL.Sem

section
open Cert.AttnOutDwIdeal Cert.AttnOutDwIdeal.Gen
theorem ix_0 : ∀ t : Fin cfg0.N, win0_0.index t = ![0, t.val] := by decide +kernel
theorem ix_1 : ∀ t : Fin cfg0.N, win0_1.index t = ![0, 0] := by decide +kernel
theorem ix_2 : ∀ t : Fin cfg0.N, win0_2.index t = ![t.val, 0] := by decide +kernel

section
variable (m : (ℓ : Loc nD τ sig) → Buf (Elt Ideal) ℓ) (c : Dev nD) (x y : ℕ → ℕ → EReal)
variable (hx : m ((c : Thread nD τ).loc main_arg0) = ar 2064 1024 .f32 x) (hy : m ((c : Thread nD τ).loc main_arg1) = ar 2064 1024 .f32 y)

include hx in
theorem host_x : V m c main_v1 = ar 2304 1024 .bf16 (rows 2064 x) := by
  unfold V
  after_reads_simp
  rw [hx]
  exact put_rows _ h_S_ rfl pads_S2064x1024_S2304x1024_02400_000 bitsLt_bf16_f32

include hy in
theorem host_y : V m c main_v3 = ar 2176 1024 .bf16 (rows 2064 y) := by
  unfold V
  after_reads_simp
  rw [hy]
  exact put_rows _ h_S_ rfl pads_S2064x1024_S2176x1024_01120_000 bitsLt_bf16_f32

include hx in
theorem iblk_x (t : Fin cfg0.N) : X0_0 m c t = ar 2176 256 .bf16 (rows 2064 (parts 256 x t.val)) := by
  have e (i) : iblk m c 0 t i = (rows 2064 (parts 256 x t.val)) (i 0).val (i 1).val := by
    blk_simp [iblk, ix_0]
    rw [host_x m c x hx]
    show rows 2064 x ((((cfg0.win 0).blk t).view.emb i) 0).val ((((cfg0.win 0).blk t).view.emb i) 1).val = rows 2064 (parts 256 x t.val) (i 0).val (i 1).val
    blk_simp [ix_0]
    simp [rows, parts]
  funext j
  unfold X0_0 Pipeline.Window.fill
  rw [dif_pos (moved0_0 t j)]
  exact e _

include hy in
theorem iblk_y (t : Fin cfg0.N) : iblk m c 1 t = ar 2176 1024 .bf16 (rows 2064 y) := by
  funext j
  blk_simp [iblk, ix_1]
  rw [host_y m c y hy]
  show rows 2064 y ((((cfg0.win 1).blk t).view.emb j) 0).val ((((cfg0.win 1).blk t).view.emb j) 1).val = rows 2064 y (j 0).val (j 1).val
  blk_simp [ix_1]

theorem out_A (i : grid0.Coords) (a2) (h2) (a3) (h3) (a4) (h4) (hc0) (hc1) (f g : ℕ → ℕ → EReal) :
    out0_A_2 (F := Ideal) c i a2 h2 a3 h3 a4 h4 hc0 hc1 (ar 2176 256 .bf16 f) (ar 2176 1024 .bf16 g) = ar 256 1024 .f32 (tn f g 2176) := by
  unfold out0_A_2
  rw [View.read_writes_eq_canon _ _ _ (cover0_A_2 c i a2 h2 a3 h3 a4 h4 hc0 hc1 _ _)]
  unfold kernelRun0_A
  dsimp only
  rw [View.canon_unit_zero hz2]
  simp only [View.readAt_eq_ld, h2.read_unread, h3.read_unread, View.ld_unit_zero (S := S2176x256) hz2, View.ld_unit_zero (S := S2176x1024) hz2]
  unfold k0_pay1
  rw [shapeCast_self, shapeCast_self]
  exact mat_tn (K := 2176) f g

include hx hy in
theorem arr : (dats m 0 c).arrAt 2 cfg0.N = ar 1024 1024 .f32 (tn x y 2064) := by
  refine Dat.arrAt_eq_of_covers (dats m 0 c) 2 _ (by decide +kernel) fun t hf j => ?_
  blk_simp
  rw [after0_2]
  unfold outsAt0
  rw [iblk_x m c x hx, iblk_y m c y hy, out_A]
  show tn (rows 2064 (parts 256 x t.val)) (rows 2064 y) 2176 (j 0).val (j 1).val = tn x y 2064 ((((cfg0.win 2).blk t).view.emb j) 0).val ((((cfg0.win 2).blk t).view.emb j) 1).val
  blk_simp [ix_2]
  rw [tn_rows _ _ 2064 112]
  simp [tn, parts]
end

/-- What the reference computes. -/
def want (x : FVec Ideal Cert.AttnOutDwRefIdeal.S2064x1024 .f32) (y : FVec Ideal Cert.AttnOutDwRefIdeal.S2064x1024 .f32) : FVec Ideal Cert.AttnOutDwRefIdeal.S1024x1024 .f32 :=
  Cert.AttnOutDwRefIdeal.Read.val_main_v3 (F := Ideal) x y
theorem ref (x y : ℕ → ℕ → EReal) : want (ar 2064 1024 .f32 x) (ar 2064 1024 .f32 y) = ar 1024 1024 .f32 (tn x y 2064) :=
  whole_tn x y Cert.AttnOutDwRefIdeal.Gen.facts.transposes_S1024x1024_S1024x1024_1_0

theorem same : @Cert.algebraic_AttnOutDwIdeal_AttnOutDwRefIdeal Cert.AttnOutDwIdeal.Gen.facts Cert.AttnOutDwRefIdeal.Gen.facts := by
  intro m g m' g' _ hag
  refine ⟨_, Cert.AttnOutDwIdeal.Value.run_blocks m g, (θ_run _ _ _).mono ?_ (Cert.AttnOutDwRefIdeal.Value.run m' g')⟩
  intro r h c
  obtain ⟨r0, ra⟩ := h c
  obtain ⟨a0, a1⟩ := hag c
  obtain ⟨x, hx⟩ := ar_of (a := 2064) (b := 1024) (φ := .f32) (m ((c : Thread nD τ).loc main_arg0))
  obtain ⟨w, hw⟩ := ar_of (a := 2064) (b := 1024) (φ := .f32) (m ((c : Thread nD τ).loc main_arg1))
  refine ⟨r0.trans ?_, ra⟩
  rw [a0, a1]
  exact (congrArg₂ want hx hw).trans ((ref x w).trans (arr m c x w hx hw).symm)
end

open Cert.AttnOutDwRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.AttnOutDw
end
-- ==== Proof.Row.lean ====
module

public import proofs.«01_k».proof.Proof.Prod
public import Idealize.ShloMosaic.Lib.Pointwise.SelectCore

/- Operations on the rows of matrices of extended reals: halves of the columns, the logistic function and its slope. -/
@[expose] public section
noncomputable section
namespace Cert.Row
open Idealize.ShloMosaic Cert.Prod

/-- The columns from column `n` on. -/
def from_ (n : ℕ) (f : ℕ → ℕ → EReal) (r k : ℕ) : EReal := f r (n + k)
/-- Two matrices side by side, the first of `n` columns. -/
def side (n : ℕ) (p q : ℕ → ℕ → EReal) (r k : ℕ) : EReal := if k < n then p r k else q r (k - n)
/-- The logistic function of a matrix. -/
def sg (f : ℕ → ℕ → EReal) (r k : ℕ) : EReal := Ideal.logistic (f r k)
/-- The product of two values at each place. -/
def tm (f g : ℕ → ℕ → EReal) (r k : ℕ) : EReal := f r k * g r k
/-- The slope of the logistic function, of its value. -/
def sl (s : ℕ → ℕ → EReal) (r k : ℕ) : EReal := s r k * (1 - s r k)

/-- What the activation's gradient is: of the gate's columns `x`, of the other columns `y` and of the cotangent `d`. -/
def act1 (x y d : ℕ → ℕ → EReal) : ℕ → ℕ → EReal := fun r k => tm (tm d y) (sg x) r k + tm (tm x (tm d y)) (sl (sg x)) r k
def act2 (x d : ℕ → ℕ → EReal) : ℕ → ℕ → EReal := tm (tm x (sg x)) d
/-- What the gate's gradient is, of the gated columns, of the gate's columns and of the cotangent. -/
def gate1 (y d : ℕ → ℕ → EReal) : ℕ → ℕ → EReal := tm d (sg y)
def gate2 (x y d : ℕ → ℕ → EReal) : ℕ → ℕ → EReal := tm (tm x d) (sl (sg y))
/-- A block of rows. -/
def at_ (o : ℕ) (f : ℕ → ℕ → EReal) (r k : ℕ) : EReal := f (o + r) k

section
variable {a b c n : ℕ} {φ ψ : FTy} {f g p q : ℕ → ℕ → EReal}

theorem slice_ar (h : (⟨2, ![a, c]⟩ : Shape).Slices ![0, n] ⟨2, ![a, b]⟩) :
    extractStridedSlice ⟨2, ![a, b]⟩ ![0, n] (ar a c φ f) h = ar a b φ (from_ n f) := by
  funext j
  have h0 : (j 0).val < a := (j 0).isLt
  have h1 : n + (j 1).val < c := by
    have := h.2 1
    have e : (j 1).val < b := (j 1).isLt
    change n + b ≤ c at this
    omega
  rw [extractStridedSlice_apply _ _ h j (ix2 ⟨(j 0).val, h0⟩ ⟨n + (j 1).val, h1⟩) (fun i => by
    match i with
    | ⟨0, _⟩ => exact (Nat.zero_add _).symm
    | ⟨1, _⟩ => rfl)]
  rfl

theorem side_ar (h : Shape.Concatenates [(⟨2, ![a, n]⟩ : Shape), ⟨2, ![a, b]⟩] ⟨2, ![a, c]⟩ 1) :
    concatenate ⟨2, ![a, c]⟩ 1 [⟨⟨2, ![a, n]⟩, ar a n φ p⟩, ⟨⟨2, ![a, b]⟩, ar a b φ q⟩] h = ar a c φ (side n p q) := by
  funext j
  rw [concatenate_pair_apply]
  by_cases hk : (j 1).val < n
  · refine (dif_pos hk).trans ?_
    exact (if_pos hk).symm
  · refine (dif_neg hk).trans ?_
    exact (if_neg hk).symm

theorem from_zero : from_ 0 f = f := funext fun r => funext fun k => congrArg (f r) (Nat.zero_add k)

theorem one_eq : Ideal.ofBits .f32 0x3F800000#32 = 1 := Ideal.ofBits_one_f32

/-- A constant at every place of a matrix. -/
theorem fill_ar {u : Shape} (z : BitVec φ.bits) {dims} (h : u.BroadcastsInDim ⟨2, ![a, b]⟩ dims) :
    broadcastInDim ⟨2, ![a, b]⟩ dims h (constant (F := Ideal) u φ z) = ar a b φ (fun _ _ => Ideal.ofBits φ z) := rfl
theorem ones_ar {u : Shape} {dims} (h : u.BroadcastsInDim ⟨2, ![a, b]⟩ dims) :
    broadcastInDim ⟨2, ![a, b]⟩ dims h (constant (F := Ideal) u .f32 0x3F800000#32) = ar a b .f32 (fun _ _ => 1) :=
  (fill_ar _ h).trans (by rw [one_eq])

/-- Two stores into a block, of its first columns and then of the rest. -/
theorem canon_side {Val : EltTy → Type} {e : EltTy} [∀ e, Nonempty (Val e)] (p q : ℕ → ℕ → Val e) (h0 : ∀ i, (![0, 0] : Fin 2 → ℕ) i + (![a, n] : Fin 2 → ℕ) i ≤ (⟨2, ![a, c]⟩ : Shape).size i)
    (h1 : ∀ i, (![0, n] : Fin 2 → ℕ) i + (![a, b] : Fin 2 → ℕ) i ≤ (⟨2, ![a, c]⟩ : Shape).size i) (hc : c = n + b) :
    View.canon (Val := Val) (e := e) [⟨Rect.unit (s := ⟨2, ![a, c]⟩) ![0, n] ![a, b] h1, fun j => q (j 0).val (j 1).val⟩,
      ⟨Rect.unit (s := ⟨2, ![a, c]⟩) ![0, 0] ![a, n] h0, fun j => p (j 0).val (j 1).val⟩] =
      fun j => if (j 1).val < n then p (j 0).val (j 1).val else q (j 0).val ((j 1).val - n) := by
  subst hc
  funext y
  have y0 : (y 0).val < a := (y 0).isLt
  have y1 : (y 1).val < n + b := (y 1).isLt
  refine View.canon_apply_of_pieces (fun j : (⟨2, ![a, n + b]⟩ : Shape).Idx => if (j 1).val < n then p (j 0).val (j 1).val else q (j 0).val ((j 1).val - n)) _ (fun pc hpc x => ?_) y ?_
  · rcases List.mem_cons.mp hpc with rfl | hpc
    · show q (x 0).val (x 1).val = if n + 1 * (x 1).val < n then p (0 + 1 * (x 0).val) (n + 1 * (x 1).val) else q (0 + 1 * (x 0).val) (n + 1 * (x 1).val - n)
      rw [if_neg (by omega), Nat.zero_add, Nat.one_mul, Nat.one_mul, Nat.add_sub_cancel_left]
    · obtain rfl := List.mem_singleton.mp hpc
      have hx : (x 1).val < n := (x 1).isLt
      show p (x 0).val (x 1).val = if 0 + 1 * (x 1).val < n then p (0 + 1 * (x 0).val) (0 + 1 * (x 1).val) else q (0 + 1 * (x 0).val) (0 + 1 * (x 1).val - n)
      rw [if_pos (by omega), Nat.zero_add, Nat.zero_add, Nat.one_mul, Nat.one_mul]
  · by_cases hk : (y 1).val < n
    · refine ⟨_, List.mem_cons_of_mem _ List.mem_cons_self, (Rect.mem_set_unit (inb := h0)).mpr (Fin.forall_fin_two.mpr ⟨⟨Nat.zero_le _, ?_⟩, ⟨Nat.zero_le _, ?_⟩⟩)⟩
      · show (y 0).val < 0 + a; omega
      · show (y 1).val < 0 + n; omega
    · refine ⟨_, List.mem_cons_self, (Rect.mem_set_unit (inb := h1)).mpr (Fin.forall_fin_two.mpr ⟨⟨Nat.zero_le _, ?_⟩, ⟨?_, ?_⟩⟩)⟩
      · show (y 0).val < 0 + a; omega
      · show n ≤ (y 1).val; omega
      · show (y 1).val < n + b; omega
end
end Cert.Row
end
-- ==== Proof.ProdSwigluBwd.lean ====
module

public import proofs.«01_k».proof.Proof.Row
public import proofs.«01_k».proof.Proof.Gen.SwigluBwdIdeal.Value
public import proofs.«01_k».proof.Proof.Gen.SwigluBwdRefIdeal.Run
public import proofs.«01_k».proof.Proof.Gen.SwigluBwdRefIdeal.Read

/- The gradient of the activation of the two halves of the columns. -/
@[expose] public section
set_option maxRecDepth 16384
noncomputable section
namespace Cert.Prod.SwigluBwd
open Cert.Row Idealize.ShloMosaic Idealize.ShloMosaic.TcCoe Idealize.ShloMosaic.Pipeline Idealize.SL.Sem

section
open Cert.SwigluBwdIdeal Cert.SwigluBwdIdeal.Gen
theorem ix_0 : ∀ t : Fin cfg0.N, win0_0.index t = ![t.val, 0] := by decide +kernel
theorem ix_1 : ∀ t : Fin cfg0.N, win0_1.index t = ![t.val, 1] := by decide +kernel
theorem ix_2 : ∀ t : Fin cfg0.N, win0_2.index t = ![t.val, 0] := by decide +kernel
theorem ix_3 : ∀ t : Fin cfg0.N, win0_3.index t = ![t.val, 0] := by decide +kernel

section
variable (m : (ℓ : Loc nD τ sig) → Buf (Elt Ideal) ℓ) (c : Dev nD) (x d : ℕ → ℕ → EReal)
variable (hx : m ((c : Thread nD τ).loc main_arg0) = ar 2064 5632 .f32 x) (hd : m ((c : Thread nD τ).loc main_arg1) = ar 2064 2816 .f32 d)

include hx in
theorem host_x : V m c main_v0 = ar 2176 5632 .f32 (rows 2064 x) := by
  unfold V
  after_reads_simp
  rw [hx]
  exact pad_ar (φ := .f32) _ h_S_ (zero_pad _ _ rfl) pads_S2064x5632_S2176x5632_01120_000

include hd in
theorem host_d : V m c main_v1 = ar 2176 2816 .f32 (rows 2064 d) := by
  unfold V
  after_reads_simp
  rw [hd]
  exact pad_ar (φ := .f32) _ h_S_ (zero_pad _ _ rfl) pads_S2064x2816_S2176x2816_01120_000

include hx in
theorem iblk_0 (t : Fin cfg0.N) : iblk m c 0 t = ar 128 2816 .f32 (at_ (t.val * 128) (rows 2064 x)) := by
  funext y
  blk_simp [iblk, ix_0]
  rw [host_x m c x hx]
  show rows 2064 x ((((cfg0.win 0).blk t).view.emb y) 0).val ((((cfg0.win 0).blk t).view.emb y) 1).val = rows 2064 x (t.val * 128 + (y 0).val) (y 1).val
  blk_simp [ix_0]

include hx in
theorem iblk_1 (t : Fin cfg0.N) : iblk m c 1 t = ar 128 2816 .f32 (at_ (t.val * 128) (rows 2064 (from_ 2816 x))) := by
  funext y
  blk_simp [iblk, ix_1]
  rw [host_x m c x hx]
  show rows 2064 x ((((cfg0.win 1).blk t).view.emb y) 0).val ((((cfg0.win 1).blk t).view.emb y) 1).val = rows 2064 x (t.val * 128 + (y 0).val) (2816 + (y 1).val)
  blk_simp [ix_1]

include hd in
theorem iblk_2 (t : Fin cfg0.N) : iblk m c 2 t = ar 128 2816 .f32 (at_ (t.val * 128) (rows 2064 d)) := by
  funext y
  blk_simp [iblk, ix_2]
  rw [host_d m c d hd]
  show rows 2064 d ((((cfg0.win 2).blk t).view.emb y) 0).val ((((cfg0.win 2).blk t).view.emb y) 1).val = rows 2064 d (t.val * 128 + (y 0).val) (y 1).val
  blk_simp [ix_2]

theorem pay_1 (f g h : ℕ → ℕ → EReal) : k0_pay4 (F := Ideal) (ar 128 2816 .f32 f) (ar 128 2816 .f32 g) (ar 128 2816 .f32 h) = ar 128 2816 .bf16 (act1 f g h) := by
  unfold k0_pay4 k0_pay3 k0_pay2 k0_pay1
  simp only [shapeCast_self]
  show ar 128 2816 .bf16 (fun r k => tm (tm h g) (sg f) r k + tm (tm f (tm h g)) (fun r k => sg f r k * (Ideal.ofBits .f32 0x3F800000#32 - sg f r k)) r k) = _
  rw [one_eq]
  rfl

theorem pay_2 (f h : ℕ → ℕ → EReal) : k0_pay5 (F := Ideal) (ar 128 2816 .f32 f) (ar 128 2816 .f32 h) = ar 128 2816 .bf16 (act2 f h) := by
  unfold k0_pay5 k0_pay3 k0_pay2 k0_pay1
  simp only [shapeCast_self]
  rfl

theorem body (f g h : ℕ → ℕ → EReal) : out0_3 (F := Ideal) (ar 128 2816 .f32 f) (ar 128 2816 .f32 g) (ar 128 2816 .f32 h) =
    ar 128 5632 .bf16 (side 2816 (act1 f g h) (act2 f h)) := by
  unfold out0_3
  simp only [View.ld_unit_zero (S := S128x2816) hz2]
  rw [pay_1, pay_2]
  exact canon_side (Val := Elt Ideal) (e := .bf16) (act1 f g h) (act2 f h) _ _ rfl

include hx hd in
theorem arr : (dats m 0 c).arrAt 3 cfg0.N = ar 2176 5632 .bf16 (rows 2064 (side 2816 (act1 x (from_ 2816 x) d) (act2 x d))) := by
  refine Dat.arrAt_eq_of_covers (dats m 0 c) 3 _ (by decide +kernel) fun t hf y => ?_
  blk_simp
  rw [after0_3, iblk_0 m c x hx, iblk_1 m c x hx, iblk_2 m c d hd, body]
  show side 2816 (act1 (at_ (t.val * 128) (rows 2064 x)) (at_ (t.val * 128) (rows 2064 (from_ 2816 x))) (at_ (t.val * 128) (rows 2064 d)))
    (act2 (at_ (t.val * 128) (rows 2064 x)) (at_ (t.val * 128) (rows 2064 d))) (y 0).val (y 1).val =
    rows 2064 (side 2816 (act1 x (from_ 2816 x) d) (act2 x d)) ((((cfg0.win 3).blk t).view.emb y) 0).val ((((cfg0.win 3).blk t).view.emb y) 1).val
  blk_simp [ix_3]
  simp only [side, act1, act2, tm, sg, sl, at_, rows]
  split_ifs <;> simp
end

/-- What the reference computes. -/
def want (x : FVec Ideal Cert.SwigluBwdRefIdeal.S2064x5632 .f32) (d : FVec Ideal Cert.SwigluBwdRefIdeal.S2064x2816 .f32) : FVec Ideal Cert.SwigluBwdRefIdeal.S2176x5632 .bf16 :=
  Cert.SwigluBwdRefIdeal.Read.val_main_v9 (F := Ideal) x d

section
open Cert.SwigluBwdRefIdeal.Read
variable (x d : ℕ → ℕ → EReal)
theorem ref_x : val_main_v0 (F := Ideal) (ar 2064 5632 .f32 x) = ar 2064 2816 .f32 x := by
  unfold val_main_v0
  rw [slice_ar, from_zero]
theorem ref_y : val_main_v1 (F := Ideal) (ar 2064 5632 .f32 x) = ar 2064 2816 .f32 (from_ 2816 x) := slice_ar _
theorem ref_s : val_main_v2_2 (F := Ideal) (ar 2064 5632 .f32 x) = ar 2064 2816 .f32 (sg x) := by
  have e0 : val_main_call0_v4 (F := Ideal) = ar 2064 2816 .f32 fun _ _ => 1 := ones_ar _
  have e1 : val_main_call0_v2 (F := Ideal) = ar 2064 2816 .f32 fun _ _ => 1 := ones_ar _
  unfold val_main_v2_2 val_main_call0_v3 val_main_call0_v1 val_main_call0_v0
  rw [ref_x, e0, e1]
  rfl
theorem ref_t : val_main_v2_1 (F := Ideal) (ar 2064 5632 .f32 x) = ar 2064 2816 .f32 (sl (sg x)) := by
  have e : val_main_call0_v6 (F := Ideal) = ar 2064 2816 .f32 fun _ _ => 1 := ones_ar _
  unfold val_main_v2_1 val_main_call0_v7
  rw [ref_s, e]
  rfl
theorem ref_1 : val_main_v6 (F := Ideal) (ar 2064 5632 .f32 x) (ar 2064 2816 .f32 d) = ar 2064 2816 .f32 (act1 x (from_ 2816 x) d) := by
  unfold val_main_v6 val_main_call1_v2 val_main_call1_v1 val_main_call1_v0 val_main_v5
  rw [ref_t, ref_s, ref_x, ref_y]
  rfl
theorem ref_2 : val_main_v4 (F := Ideal) (ar 2064 5632 .f32 x) (ar 2064 2816 .f32 d) = ar 2064 2816 .f32 (act2 x d) := by
  unfold val_main_v4 val_main_v2_0
  rw [ref_s, ref_x]
  rfl

theorem ref (x d : ℕ → ℕ → EReal) : want (ar 2064 5632 .f32 x) (ar 2064 2816 .f32 d) = ar 2176 5632 .bf16 (rows 2064 (side 2816 (act1 x (from_ 2816 x) d) (act2 x d))) := by
  unfold want val_main_v9 val_main_v8 val_main_v7
  rw [ref_1, ref_2, side_ar]
  exact pad_ar (φ := .bf16) (f := side 2816 (act1 x (from_ 2816 x) d) (act2 x d)) _ Cert.SwigluBwdRefIdeal.Gen.facts.h_S_ (zero_pad val_main_c _ rfl) Cert.SwigluBwdRefIdeal.Gen.facts.pads_S2064x5632_S2176x5632_01120_000
end

theorem same : @Cert.algebraic_SwigluBwdIdeal_SwigluBwdRefIdeal Cert.SwigluBwdIdeal.Gen.facts Cert.SwigluBwdRefIdeal.Gen.facts := by
  intro m g m' g' _ hag
  refine ⟨_, Cert.SwigluBwdIdeal.Value.run_blocks m g, (θ_run _ _ _).mono ?_ (Cert.SwigluBwdRefIdeal.Value.run m' g')⟩
  intro r h c
  obtain ⟨r0, ra⟩ := h c
  obtain ⟨a0, a1⟩ := hag c
  obtain ⟨x, hx⟩ := ar_of (a := 2064) (b := 5632) (φ := .f32) (m ((c : Thread nD τ).loc main_arg0))
  obtain ⟨w, hw⟩ := ar_of (a := 2064) (b := 2816) (φ := .f32) (m ((c : Thread nD τ).loc main_arg1))
  refine ⟨r0.trans ?_, ra⟩
  rw [a0, a1]
  exact (congrArg₂ want hx hw).trans ((ref x w).trans (arr m c x w hx hw).symm)
end

open Cert.SwigluBwdRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.SwigluBwd
end
-- ==== Proof.ProdGluBwd.lean ====
module

public import proofs.«01_k».proof.Proof.Row
public import proofs.«01_k».proof.Proof.Gen.GluBwdIdeal.Value
public import proofs.«01_k».proof.Proof.Gen.GluBwdRefIdeal.Run
public import proofs.«01_k».proof.Proof.Gen.GluBwdRefIdeal.Read

/- The gradient of the gate after the first product of the convolution branch. -/
@[expose] public section
set_option maxRecDepth 16384
noncomputable section
namespace Cert.Prod.GluBwd
open Cert.Row Idealize.ShloMosaic Idealize.ShloMosaic.TcCoe Idealize.ShloMosaic.Pipeline Idealize.SL.Sem

section
open Cert.GluBwdIdeal Cert.GluBwdIdeal.Gen
theorem ix_0 : ∀ t : Fin cfg0.N, win0_0.index t = ![t.val, 0] := by decide +kernel
theorem ix_1 : ∀ t : Fin cfg0.N, win0_1.index t = ![t.val, 1] := by decide +kernel
theorem ix_2 : ∀ t : Fin cfg0.N, win0_2.index t = ![t.val, 0] := by decide +kernel
theorem ix_3 : ∀ t : Fin cfg0.N, win0_3.index t = ![t.val, 0] := by decide +kernel

section
variable (m : (ℓ : Loc nD τ sig) → Buf (Elt Ideal) ℓ) (c : Dev nD) (x d : ℕ → ℕ → EReal)
variable (hx : m ((c : Thread nD τ).loc main_arg0) = ar 2064 7168 .f32 x) (hd : m ((c : Thread nD τ).loc main_arg1) = ar 2064 1024 .f32 d)

include hx in
theorem host_x : V m c main_v0 = ar 2176 7168 .f32 (rows 2064 x) := by
  unfold V
  after_reads_simp
  rw [hx]
  exact pad_ar (φ := .f32) _ h_S_ (zero_pad _ _ rfl) pads_S2064x7168_S2176x7168_01120_000

include hd in
theorem host_d : V m c main_v1 = ar 2176 1024 .f32 (rows 2064 d) := by
  unfold V
  after_reads_simp
  rw [hd]
  exact pad_ar (φ := .f32) _ h_S_ (zero_pad _ _ rfl) pads_S2064x1024_S2176x1024_01120_000

include hx in
theorem iblk_0 (t : Fin cfg0.N) : iblk m c 0 t = ar 272 1024 .f32 (at_ (t.val * 272) (rows 2064 x)) := by
  funext y
  blk_simp [iblk, ix_0]
  rw [host_x m c x hx]
  show rows 2064 x ((((cfg0.win 0).blk t).view.emb y) 0).val ((((cfg0.win 0).blk t).view.emb y) 1).val = rows 2064 x (t.val * 272 + (y 0).val) (y 1).val
  blk_simp [ix_0]

include hx in
theorem iblk_1 (t : Fin cfg0.N) : iblk m c 1 t = ar 272 1024 .f32 (at_ (t.val * 272) (rows 2064 (from_ 1024 x))) := by
  funext y
  blk_simp [iblk, ix_1]
  rw [host_x m c x hx]
  show rows 2064 x ((((cfg0.win 1).blk t).view.emb y) 0).val ((((cfg0.win 1).blk t).view.emb y) 1).val = rows 2064 x (t.val * 272 + (y 0).val) (1024 + (y 1).val)
  blk_simp [ix_1]

include hd in
theorem iblk_2 (t : Fin cfg0.N) : iblk m c 2 t = ar 272 1024 .f32 (at_ (t.val * 272) (rows 2064 d)) := by
  funext y
  blk_simp [iblk, ix_2]
  rw [host_d m c d hd]
  show rows 2064 d ((((cfg0.win 2).blk t).view.emb y) 0).val ((((cfg0.win 2).blk t).view.emb y) 1).val = rows 2064 d (t.val * 272 + (y 0).val) (y 1).val
  blk_simp [ix_2]

theorem pay_1 (g h : ℕ → ℕ → EReal) : k0_pay3 (F := Ideal) (ar 272 1024 .f32 g) (ar 272 1024 .f32 h) = ar 272 1024 .bf16 (gate1 g h) := by
  unfold k0_pay3 k0_pay2 k0_pay1
  simp only [shapeCast_self]
  rfl

theorem pay_2 (f g h : ℕ → ℕ → EReal) : k0_pay4 (F := Ideal) (ar 272 1024 .f32 f) (ar 272 1024 .f32 g) (ar 272 1024 .f32 h) = ar 272 1024 .bf16 (gate2 f g h) := by
  unfold k0_pay4 k0_pay2 k0_pay1
  simp only [shapeCast_self]
  show ar 272 1024 .bf16 (tm (tm f h) (fun r k => sg g r k * (Ideal.ofBits .f32 0x3F800000#32 - sg g r k))) = _
  rw [one_eq]
  rfl

theorem body (f g h : ℕ → ℕ → EReal) : out0_3 (F := Ideal) (ar 272 1024 .f32 f) (ar 272 1024 .f32 g) (ar 272 1024 .f32 h) =
    ar 272 2048 .bf16 (side 1024 (gate1 g h) (gate2 f g h)) := by
  unfold out0_3
  simp only [View.ld_unit_zero (S := S272x1024) hz2]
  rw [pay_1, pay_2]
  exact canon_side (Val := Elt Ideal) (e := .bf16) (gate1 g h) (gate2 f g h) _ _ rfl

include hx hd in
theorem arr : (dats m 0 c).arrAt 3 cfg0.N = ar 2176 2048 .bf16 (rows 2064 (side 1024 (gate1 (from_ 1024 x) d) (gate2 x (from_ 1024 x) d))) := by
  refine Dat.arrAt_eq_of_covers (dats m 0 c) 3 _ (by decide +kernel) fun t hf y => ?_
  blk_simp
  rw [after0_3, iblk_0 m c x hx, iblk_1 m c x hx, iblk_2 m c d hd, body]
  show side 1024 (gate1 (at_ (t.val * 272) (rows 2064 (from_ 1024 x))) (at_ (t.val * 272) (rows 2064 d)))
    (gate2 (at_ (t.val * 272) (rows 2064 x)) (at_ (t.val * 272) (rows 2064 (from_ 1024 x))) (at_ (t.val * 272) (rows 2064 d))) (y 0).val (y 1).val =
    rows 2064 (side 1024 (gate1 (from_ 1024 x) d) (gate2 x (from_ 1024 x) d)) ((((cfg0.win 3).blk t).view.emb y) 0).val ((((cfg0.win 3).blk t).view.emb y) 1).val
  blk_simp [ix_3]
  simp only [side, gate1, gate2, tm, sg, sl, at_, rows]
  split_ifs <;> simp
end

/-- What the reference computes. -/
def want (x : FVec Ideal Cert.GluBwdRefIdeal.S2064x7168 .f32) (d : FVec Ideal Cert.GluBwdRefIdeal.S2064x1024 .f32) : FVec Ideal Cert.GluBwdRefIdeal.S2176x2048 .bf16 :=
  Cert.GluBwdRefIdeal.Read.val_main_v18 (F := Ideal) x d

section
open Cert.GluBwdRefIdeal.Read
variable (x d : ℕ → ℕ → EReal)
theorem ref_0 : val_main_v0 (F := Ideal) (ar 2064 7168 .f32 x) = ar 2064 2048 .f32 x := by
  unfold val_main_v0
  rw [slice_ar, from_zero]
theorem ref_x : val_main_v1 (F := Ideal) (ar 2064 7168 .f32 x) = ar 2064 1024 .f32 x := by
  unfold val_main_v1
  rw [ref_0, slice_ar, from_zero]
theorem ref_y : val_main_v2 (F := Ideal) (ar 2064 7168 .f32 x) = ar 2064 1024 .f32 (from_ 1024 x) := by
  unfold val_main_v2
  rw [ref_0, slice_ar]
theorem ref_s : val_main_v8 (F := Ideal) (ar 2064 7168 .f32 x) = ar 2064 1024 .f32 (sg (from_ 1024 x)) := by
  have e0 : val_main_v7 (F := Ideal) = ar 2064 1024 .f32 fun _ _ => 1 := ones_ar _
  have e1 : val_main_v5 (F := Ideal) = ar 2064 1024 .f32 fun _ _ => 1 := ones_ar _
  unfold val_main_v8 val_main_v6 val_main_v4 val_main_v3
  rw [ref_y, e0, e1]
  rfl
theorem ref_t : val_main_v11 (F := Ideal) (ar 2064 7168 .f32 x) = ar 2064 1024 .f32 (sl (sg (from_ 1024 x))) := by
  have e : val_main_v9 (F := Ideal) = ar 2064 1024 .f32 fun _ _ => 1 := ones_ar _
  unfold val_main_v11 val_main_v10
  rw [ref_s, e]
  rfl
theorem ref_1 : val_main_v14 (F := Ideal) (ar 2064 7168 .f32 x) (ar 2064 1024 .f32 d) = ar 2064 1024 .f32 (gate1 (from_ 1024 x) d) := by
  unfold val_main_v14
  rw [ref_s]
  rfl
theorem ref_2 : val_main_v15 (F := Ideal) (ar 2064 7168 .f32 x) (ar 2064 1024 .f32 d) = ar 2064 1024 .f32 (gate2 x (from_ 1024 x) d) := by
  unfold val_main_v15 val_main_v13
  rw [ref_t, ref_x]
  rfl

theorem ref (x d : ℕ → ℕ → EReal) : want (ar 2064 7168 .f32 x) (ar 2064 1024 .f32 d) = ar 2176 2048 .bf16 (rows 2064 (side 1024 (gate1 (from_ 1024 x) d) (gate2 x (from_ 1024 x) d))) := by
  unfold want val_main_v18 val_main_v17 val_main_v16
  rw [ref_1, ref_2, side_ar]
  exact pad_ar (φ := .bf16) (f := side 1024 (gate1 (from_ 1024 x) d) (gate2 x (from_ 1024 x) d)) _ Cert.GluBwdRefIdeal.Gen.facts.h_S_ (zero_pad val_main_c _ rfl) Cert.GluBwdRefIdeal.Gen.facts.pads_S2064x2048_S2176x2048_01120_000
end

theorem same : @Cert.algebraic_GluBwdIdeal_GluBwdRefIdeal Cert.GluBwdIdeal.Gen.facts Cert.GluBwdRefIdeal.Gen.facts := by
  intro m g m' g' _ hag
  refine ⟨_, Cert.GluBwdIdeal.Value.run_blocks m g, (θ_run _ _ _).mono ?_ (Cert.GluBwdRefIdeal.Value.run m' g')⟩
  intro r h c
  obtain ⟨r0, ra⟩ := h c
  obtain ⟨a0, a1⟩ := hag c
  obtain ⟨x, hx⟩ := ar_of (a := 2064) (b := 7168) (φ := .f32) (m ((c : Thread nD τ).loc main_arg0))
  obtain ⟨w, hw⟩ := ar_of (a := 2064) (b := 1024) (φ := .f32) (m ((c : Thread nD τ).loc main_arg1))
  refine ⟨r0.trans ?_, ra⟩
  rw [a0, a1]
  exact (congrArg₂ want hx hw).trans ((ref x w).trans (arr m c x w hx hw).symm)
end

open Cert.GluBwdRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.GluBwd
end
-- ==== Proof.Norm.lean ====
module

public import proofs.«01_k».proof.Proof.Row
public import Idealize.ShloMosaic.Lib.IdealHost

/- Sums over the rows and the columns of matrices of extended reals, and the gradient of a normalisation by the mean of squares. -/
@[expose] public section
noncomputable section
namespace Cert.Row
open Idealize.ShloMosaic Cert.Prod

/-- A vector from a function of the index. -/
def vec (n : ℕ) (φ : FTy) (f : ℕ → EReal) : FVec Ideal ⟨1, ![n]⟩ φ := fun j => f (j 0).val
/-- The sum of a row of `b` columns, and of a column of `a` rows. -/
def sumr (b : ℕ) (f : ℕ → ℕ → EReal) (r : ℕ) : EReal := ∑ k ∈ Finset.range b, f r k
def sumc (a : ℕ) (f : ℕ → ℕ → EReal) (k : ℕ) : EReal := ∑ r ∈ Finset.range a, f r k

section
variable {a b c n : ℕ} {φ ψ : FTy} {f g p q : ℕ → ℕ → EReal} {v : ℕ → EReal}

theorem red_r (acc : BitVec φ.bits) (h : (⟨2, ![a, b]⟩ : Shape).Reduces [1] ⟨1, ![a]⟩) (hφ : FKind.Formats φ) (hacc : acc = FKind.add.neutral φ hφ) :
    multiReduction .add [1] ⟨1, ![a]⟩ (ar a b φ f) acc h hφ hacc = vec a φ (sumr b f) :=
  funext fun j => (Ideal.multiReduction_add_single _ _ h hφ hacc j).trans (Fin.sum_univ_eq_sum_range (fun k => f (j 0).val k) b)
theorem red_c (acc : BitVec φ.bits) (h : (⟨2, ![a, b]⟩ : Shape).Reduces [0] ⟨1, ![b]⟩) (hφ : FKind.Formats φ) (hacc : acc = FKind.add.neutral φ hφ) :
    multiReduction .add [0] ⟨1, ![b]⟩ (ar a b φ f) acc h hφ hacc = vec b φ (sumc a f) :=
  funext fun j => (Ideal.multiReduction_add_single _ _ h hφ hacc j).trans (Fin.sum_univ_eq_sum_range (fun r => f r (j 0).val) a)

theorem host_r {u : Shape} (z : FVec Ideal u φ) (hu : 0 < u.numel) (hz : z (Shape.Idx.first hu) = (0 : EReal)) (h' : (⟨2, ![a, b]⟩ : Shape).ReducesTo [1] ⟨1, ![a]⟩)
    (h : (⟨2, ![a, b]⟩ : Shape).Reduces [1] ⟨1, ![a]⟩) : Host.reduceAdd (ar a b φ f) z h' hu = vec a φ (sumr b f) :=
  funext fun j => ((ValueIdx.hostReduceAdd_apply _ _ h' hu j).trans (Ideal.hostReduceAdd_single h' h _ _ j)).trans
    (by rw [hz, zero_add]; exact Fin.sum_univ_eq_sum_range (fun k => f (j 0).val k) b)
theorem host_c {u : Shape} (z : FVec Ideal u φ) (hu : 0 < u.numel) (hz : z (Shape.Idx.first hu) = (0 : EReal)) (h' : (⟨2, ![a, b]⟩ : Shape).ReducesTo [0] ⟨1, ![b]⟩)
    (h : (⟨2, ![a, b]⟩ : Shape).Reduces [0] ⟨1, ![b]⟩) : Host.reduceAdd (ar a b φ f) z h' hu = vec b φ (sumc a f) :=
  funext fun j => ((ValueIdx.hostReduceAdd_apply _ _ h' hu j).trans (Ideal.hostReduceAdd_single h' h _ _ j)).trans
    (by rw [hz, zero_add]; exact Fin.sum_univ_eq_sum_range (fun r => f r (j 0).val) a)

theorem cast_r (h : (⟨1, ![a]⟩ : Shape).ShapeCasts ⟨2, ![a, 1]⟩) : shapeCast ⟨2, ![a, 1]⟩ (vec a φ v) h = ar a 1 φ (fun r _ => v r) :=
  funext fun j => shapeCast_apply _ h j (ix1 (j 0)) (by
    have h1 : (j 1).val < 1 := (j 1).isLt
    rewrite [Shape.rowMajor_val_one, Shape.rowMajor_val_two]
    show (j 0).val = (j 0).val * 1 + (j 1).val
    omega)
theorem cast_c (h : (⟨1, ![b]⟩ : Shape).ShapeCasts ⟨2, ![1, b]⟩) : shapeCast ⟨2, ![1, b]⟩ (vec b φ v) h = ar 1 b φ (fun _ k => v k) :=
  funext fun j => shapeCast_apply _ h j (ix1 (j 1)) (by
    have h0 : (j 0).val < 1 := (j 0).isLt
    rewrite [Shape.rowMajor_val_one, Shape.rowMajor_val_two]
    show (j 1).val = (j 0).val * b + (j 1).val
    rw [show (j 0).val = 0 by omega]; omega)
theorem cast_v (h : (⟨2, ![1, b]⟩ : Shape).ShapeCasts ⟨1, ![b]⟩) : shapeCast ⟨1, ![b]⟩ (ar 1 b φ f) h = vec b φ (f 0) :=
  funext fun j => (shapeCast_apply _ h j (ix2 (0 : Fin 1) (j 0)) (by
    rewrite [Shape.rowMajor_val_one, Shape.rowMajor_val_two]
    show 0 * b + (j 0).val = (j 0).val
    omega)).trans rfl

theorem bt_r (h : (⟨2, ![a, 1]⟩ : Shape).Broadcasts ⟨2, ![a, b]⟩) : broadcastTo ⟨2, ![a, b]⟩ (ar a 1 φ f) h = ar a b φ (fun r _ => f r 0) :=
  funext fun j => (broadcastTo_apply _ h j (ix2 (j 0) (0 : Fin 1)) (fun i => by
    match i with
    | ⟨0, _⟩ =>
      have h0 : (j 0).val < a := (j 0).isLt
      show (j 0).val = if a = 1 then 0 else (j 0).val
      split_ifs <;> omega
    | ⟨1, _⟩ => rfl)).trans rfl
theorem bt_c (h : (⟨2, ![1, b]⟩ : Shape).Broadcasts ⟨2, ![a, b]⟩) : broadcastTo ⟨2, ![a, b]⟩ (ar 1 b φ f) h = ar a b φ (fun _ k => f 0 k) :=
  funext fun j => (broadcastTo_apply _ h j (ix2 (0 : Fin 1) (j 1)) (fun i => by
    match i with
    | ⟨0, _⟩ => rfl
    | ⟨1, _⟩ =>
      have h0 : (j 1).val < b := (j 1).isLt
      show (j 1).val = if b = 1 then 0 else (j 1).val
      split_ifs <;> omega)).trans rfl

theorem bi_vr (h : (⟨1, ![a]⟩ : Shape).BroadcastsInDim ⟨2, ![a, b]⟩ ![0]) : broadcastInDim ⟨2, ![a, b]⟩ ![0] h (vec a φ v) = ar a b φ (fun r _ => v r) :=
  funext fun j => (broadcastInDim_apply _ h _ j (ix1 (j 0)) (fun i => by
    match i with
    | ⟨0, _⟩ =>
      have h0 : (j 0).val < a := (j 0).isLt
      show (j 0).val = if a = 1 then 0 else (j 0).val
      split_ifs <;> omega)).trans rfl
theorem bi_vc (h : (⟨1, ![b]⟩ : Shape).BroadcastsInDim ⟨2, ![a, b]⟩ ![1]) : broadcastInDim ⟨2, ![a, b]⟩ ![1] h (vec b φ v) = ar a b φ (fun _ k => v k) :=
  funext fun j => (broadcastInDim_apply _ h _ j (ix1 (j 1)) (fun i => by
    match i with
    | ⟨0, _⟩ =>
      have h0 : (j 1).val < b := (j 1).isLt
      show (j 1).val = if b = 1 then 0 else (j 1).val
      split_ifs <;> omega)).trans rfl
theorem bi_r (h : (⟨2, ![a, 1]⟩ : Shape).BroadcastsInDim ⟨2, ![a, b]⟩ ![0, 1]) : broadcastInDim ⟨2, ![a, b]⟩ ![0, 1] h (ar a 1 φ f) = ar a b φ (fun r _ => f r 0) :=
  funext fun j => (broadcastInDim_apply _ h _ j (ix2 (j 0) (0 : Fin 1)) (fun i => by
    match i with
    | ⟨0, _⟩ =>
      have h0 : (j 0).val < a := (j 0).isLt
      show (j 0).val = if a = 1 then 0 else (j 0).val
      split_ifs <;> omega
    | ⟨1, _⟩ => rfl)).trans rfl
theorem bi_c (h : (⟨2, ![1, b]⟩ : Shape).BroadcastsInDim ⟨2, ![a, b]⟩ ![0, 1]) : broadcastInDim ⟨2, ![a, b]⟩ ![0, 1] h (ar 1 b φ f) = ar a b φ (fun _ k => f 0 k) :=
  funext fun j => (broadcastInDim_apply _ h _ j (ix2 (0 : Fin 1) (j 1)) (fun i => by
    match i with
    | ⟨0, _⟩ => rfl
    | ⟨1, _⟩ =>
      have h0 : (j 1).val < b := (j 1).isLt
      show (j 1).val = if b = 1 then 0 else (j 1).val
      split_ifs <;> omega)).trans rfl
end

/-- The mean of squares of a row, its inverse root, the slope of that, and the row's part in the gradient. -/
def ms (x : ℕ → ℕ → EReal) (r : ℕ) : EReal := Ideal.div (sumr 1024 (tm x x) r) (Ideal.ofBits .f32 0x44800000#32) + Ideal.ofBits .f32 0x358637BD#32
def rt (x : ℕ → ℕ → EReal) (r : ℕ) : EReal := Ideal.rsqrt (ms x r)
def rsl (x : ℕ → ℕ → EReal) (r : ℕ) : EReal := Ideal.ofBits .f32 0xBF000000#32 * Ideal.div (rt x r) (ms x r)
/-- Each row times the same row. -/
def by_ (d g : ℕ → ℕ → EReal) (r k : ℕ) : EReal := d r k * g 0 k
def cf (x g d : ℕ → ℕ → EReal) (r : ℕ) : EReal :=
  sumr 1 (fun r _ => Ideal.div (sumr 1024 (tm x (by_ d g)) r * rsl x r) (Ideal.ofBits .f32 0x44800000#32)) r
/-- The gradient of the rows without and with another cotangent `e`, and what a row gives to the gradient of the scale. -/
def nrow (x g d : ℕ → ℕ → EReal) (r k : ℕ) : EReal := by_ d g r k * rt x r + x r k * cf x g d r + cf x g d r * x r k
def nrow' (x g d e : ℕ → ℕ → EReal) (r k : ℕ) : EReal := e r k + by_ d g r k * rt x r + x r k * cf x g d r + cf x g d r * x r k
def npar (x d : ℕ → ℕ → EReal) (r k : ℕ) : EReal := x r k * rt x r * d r k

/-- The sum over the blocks of rows up to block `t`. -/
def accu (a B : ℕ) (p : ℕ → ℕ → EReal) (t k : ℕ) : EReal := ∑ q ∈ Finset.range (t + 1), sumc B (at_ (q * B) (rows a p)) k
theorem accu_last (a B T m : ℕ) (h : (T + 1) * B = a + m) (p : ℕ → ℕ → EReal) (k : ℕ) : accu a B p T k = sumc a p k := by
  unfold accu sumc at_ rows
  rw [sum_parts (T + 1) B fun l => if l < a then p l k else 0, h, Finset.sum_range_add, Finset.sum_eq_zero (s := Finset.range m) (fun r _ => if_neg (by omega)), add_zero]
  exact Finset.sum_congr rfl fun r hr => if_pos (Finset.mem_range.mp hr)
theorem accu_next (a B : ℕ) (p : ℕ → ℕ → EReal) (t k : ℕ) : accu a B p t k + sumc B (at_ ((t + 1) * B) (rows a p)) k = accu a B p (t + 1) k :=
  (Finset.sum_range_succ _ _).symm
theorem accu_first (a B : ℕ) (p : ℕ → ℕ → EReal) (k : ℕ) : sumc B (at_ (0 * B) (rows a p)) k = accu a B p 0 k :=
  (Finset.sum_range_one fun q => sumc B (at_ (q * B) (rows a p)) k).symm

section
variable (x g d e : ℕ → ℕ → EReal) (n o r k : ℕ)
theorem nrow'_rows : nrow' (at_ o (rows n x)) g (at_ o (rows n d)) (at_ o (rows n e)) r k = rows n (nrow' x g d e) (o + r) k := by
  by_cases h : o + r < n
  · simp only [nrow', by_, rt, ms, rsl, cf, sumr, tm, at_, rows, if_pos h]
  · simp [nrow', by_, at_, rows, if_neg h]
theorem nrow_rows : nrow (at_ o (rows n x)) g (at_ o (rows n d)) r k = rows n (nrow x g d) (o + r) k := by
  by_cases h : o + r < n
  · simp only [nrow, by_, rt, ms, rsl, cf, sumr, tm, at_, rows, if_pos h]
  · simp [nrow, by_, at_, rows, if_neg h]
theorem npar_rows : npar (at_ o (rows n x)) (at_ o (rows n d)) r k = at_ o (rows n (npar x d)) r k := by
  by_cases h : o + r < n
  · simp only [npar, rt, ms, sumr, tm, at_, rows, if_pos h]
  · simp [npar, at_, rows, if_neg h]
theorem npar_sum (n B o k : ℕ) : sumc B (npar (at_ (o * B) (rows n x)) (at_ (o * B) (rows n d))) k = sumc B (at_ (o * B) (rows n (npar x d))) k :=
  Finset.sum_congr rfl fun r _ => npar_rows x d n (o * B) r k
end
end Cert.Row
end
-- ==== Proof.ProdRmsBwd.lean ====
module

public import proofs.«01_k».proof.Proof.Norm
public import proofs.«01_k».proof.Proof.Gen.RmsBwdIdeal.Value
public import proofs.«01_k».proof.Proof.Gen.RmsBwdRefIdeal.Run
public import proofs.«01_k».proof.Proof.Gen.RmsBwdRefIdeal.Read

/- The gradient of the normalisation before a layer, with the cotangent of the rows themselves added. -/
@[expose] public section
set_option maxRecDepth 16384
noncomputable section
namespace Cert.Prod.RmsBwd
open Cert.Row Idealize.ShloMosaic Idealize.ShloMosaic.TcCoe Idealize.ShloMosaic.Pipeline Idealize.SL.Sem

section
open Cert.RmsBwdIdeal Cert.RmsBwdIdeal.Gen
theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![0, 0] := by decide +kernel
theorem last_5 : ∀ t : Fin cfg0.N, (cfg0.win 5).flush t = true → t.val = 7 := by decide +kernel

section
variable (m : (ℓ : Loc nD τ sig) → Buf (Elt Ideal) ℓ) (c : Dev nD) (x g d e : ℕ → ℕ → EReal)
variable (hx : m ((c : Thread nD τ).loc main_arg0) = ar 2064 1024 .f32 x) (hg : m ((c : Thread nD τ).loc main_arg1) = ar 1 1024 .f32 g)
variable (hd : m ((c : Thread nD τ).loc main_arg2) = ar 2064 1024 .f32 d) (he : m ((c : Thread nD τ).loc main_arg3) = ar 2064 1024 .f32 e)

include hx in
theorem host_x : V m c main_v0 = ar 2176 1024 .f32 (rows 2064 x) := by
  unfold V
  after_reads_simp
  rw [hx]
  exact pad_ar (φ := .f32) _ h_S_ (zero_pad _ _ rfl) pads_S2064x1024_S2176x1024_01120_000

include hd in
theorem host_d : V m c main_v1 = ar 2176 1024 .f32 (rows 2064 d) := by
  unfold V
  after_reads_simp
  rw [hd]
  exact pad_ar (φ := .f32) _ h_S_ (zero_pad _ _ rfl) pads_S2064x1024_S2176x1024_01120_000

include he in
theorem host_e : V m c main_v2 = ar 2176 1024 .f32 (rows 2064 e) := by
  unfold V
  after_reads_simp
  rw [he]
  exact pad_ar (φ := .f32) _ h_S_ (zero_pad _ _ rfl) pads_S2064x1024_S2176x1024_01120_000

include hx in
theorem iblk_x (t : Fin cfg0.N) : iblk m c 0 t = ar 272 1024 .f32 (at_ (t.val * 272) (rows 2064 x)) := by
  funext y
  blk_simp [iblk, ix_0]
  rw [host_x m c x hx]
  show rows 2064 x ((((cfg0.win 0).blk t).view.emb y) 0).val ((((cfg0.win 0).blk t).view.emb y) 1).val = rows 2064 x (t.val * 272 + (y 0).val) (y 1).val
  blk_simp [ix_0]

include hd in
theorem iblk_d (t : Fin cfg0.N) : iblk m c 2 t = ar 272 1024 .f32 (at_ (t.val * 272) (rows 2064 d)) := by
  funext y
  blk_simp [iblk, ix_2]
  rw [host_d m c d hd]
  show rows 2064 d ((((cfg0.win 2).blk t).view.emb y) 0).val ((((cfg0.win 2).blk t).view.emb y) 1).val = rows 2064 d (t.val * 272 + (y 0).val) (y 1).val
  blk_simp [ix_2]

include he in
theorem iblk_e (t : Fin cfg0.N) : iblk m c 3 t = ar 272 1024 .f32 (at_ (t.val * 272) (rows 2064 e)) := by
  funext y
  blk_simp [iblk, ix_3]
  rw [host_e m c e he]
  show rows 2064 e ((((cfg0.win 3).blk t).view.emb y) 0).val ((((cfg0.win 3).blk t).view.emb y) 1).val = rows 2064 e (t.val * 272 + (y 0).val) (y 1).val
  blk_simp [ix_3]

include hg in
theorem iblk_g (t : Fin cfg0.N) : iblk m c 1 t = ar 1 1024 .f32 g := by
  funext y
  blk_simp [iblk, ix_1]
  rw [V_main_arg1, hg]
  show g ((((cfg0.win 1).blk t).view.emb y) 0).val ((((cfg0.win 1).blk t).view.emb y) 1).val = g (y 0).val (y 1).val
  blk_simp [ix_1]

section
variable (f g h k o : ℕ → ℕ → EReal)
theorem pay_ms : k0_pay5 (F := Ideal) (ar 272 1024 .f32 f) = ar 272 1 .f32 (fun r _ => ms f r) := by
  unfold k0_pay5 k0_pay3
  rw [shapeCast_self]
  dsimp only
  have e : mulf (F := Ideal) (ar 272 1024 .f32 f) (ar 272 1024 .f32 f) = ar 272 1024 .f32 (tm f f) := rfl
  rw [e]
  erw [red_r]
  rw [cast_r]
  rfl
theorem pay_rt : k0_pay6 (F := Ideal) (ar 272 1024 .f32 f) = ar 272 1 .f32 (fun r _ => rt f r) := by
  unfold k0_pay6
  rw [pay_ms]
  rfl
theorem pay_par : k0_pay7 (F := Ideal) (ar 272 1024 .f32 f) (ar 272 1024 .f32 h) = ar 1 1024 .f32 (fun _ k => sumc 272 (npar f h) k) := by
  unfold k0_pay7 k0_pay4 k0_pay3
  rw [pay_rt, shapeCast_self, shapeCast_self, bt_r]
  dsimp only
  have e : mulf (F := Ideal) (mulf (ar 272 1024 .f32 f) (ar 272 1024 .f32 fun r _ => rt f r)) (ar 272 1024 .f32 h) = ar 272 1024 .f32 (npar f h) := rfl
  rw [e]
  erw [red_c]
  rw [cast_c]
theorem pay_row : k0_pay8 (F := Ideal) (ar 272 1024 .f32 f) (ar 1 1024 .f32 g) (ar 272 1024 .f32 h) (ar 272 1024 .f32 k) = ar 272 1024 .f32 (nrow' f g h k) := by
  unfold k0_pay8 k0_pay4 k0_pay3
  rw [pay_rt, pay_ms]
  dsimp only
  rw [shapeCast_self, shapeCast_self, shapeCast_self, bt_c]
  have e : mulf (F := Ideal) (ar 272 1024 .f32 f) (mulf (ar 272 1024 .f32 h) (ar 272 1024 .f32 fun _ k => g 0 k)) = ar 272 1024 .f32 (tm f (by_ h g)) := rfl
  rw [e]
  erw [red_r]
  rw [cast_r]
  have e : divf (F := Ideal) (mulf (ar 272 1 .f32 fun r _ => sumr 1024 (tm f (by_ h g)) r)
    (mulf (broadcast S272x1 (Scalar.ofBits .f32 0xBF000000#32)) (divf (ar 272 1 .f32 fun r _ => rt f r) (ar 272 1 .f32 fun r _ => ms f r))))
    (broadcast S272x1 (Scalar.ofBits .f32 0x44800000#32)) = ar 272 1 .f32 (fun r _ => Ideal.div (sumr 1024 (tm f (by_ h g)) r * rsl f r) (Ideal.ofBits .f32 0x44800000#32)) := rfl
  rw [e]
  erw [red_r]
  rw [cast_r, bt_r, bt_r]
  rfl
end

/-- The sum kept over the blocks: what the first block and a later one leave. -/
theorem add_first (p : ℕ → ℕ → EReal) : k0_pay2 (F := Ideal) (ar 1 1024 .f32 p) (k0_pay1 (F := Ideal)) = ar 1 1024 .f32 p := by
  unfold k0_pay2 k0_pay1
  rw [shapeCast_self]
  exact funext fun i => (congrArg (· + _) Ideal.ofBits_zero_f32).trans (zero_add _)
theorem add_more (p o : ℕ → ℕ → EReal) : k0_pay2 (F := Ideal) (ar 1 1024 .f32 p) (ar 1 1024 .f32 o) = ar 1 1024 .f32 (fun r k => o r k + p r k) := by
  unfold k0_pay2
  rw [shapeCast_self]
  rfl

theorem out_A4 (i : grid0.Coords) (a1) (h1) (a2) (h2) (a3) (h3) (a4) (h4) (a5) (h5) (a6) (h6) (hc0) (f g h k : ℕ → ℕ → EReal) :
    out0_A_4 (F := Ideal) c i a1 h1 a2 h2 a3 h3 a4 h4 a5 h5 a6 h6 hc0 (ar 272 1024 .f32 f) (ar 1 1024 .f32 g) (ar 272 1024 .f32 h) (ar 272 1024 .f32 k) = ar 272 1024 .f32 (nrow' f g h k) := by
  unfold out0_A_4
  rw [View.read_writes_eq_canon _ _ _ (cover0_A_4 c i a1 h1 a2 h2 a3 h3 a4 h4 a5 h5 a6 h6 hc0 _ _ _ _)]
  unfold kernelRun0_A
  dsimp only
  rw [View.canon_unit_zero hz2]
  unfold kernelRun0_A.sl.r_1
  simp only [View.readAt_eq_ld, h1.read_unread, h2.read_unread, h3.read_unread, h4.read_unread, View.ld_unit_zero (S := S272x1024) hz2, View.ld_unit_zero (S := S1x1024) hz2]
  exact pay_row f g h k

theorem out_B4 (i : grid0.Coords) (a1) (h1) (a2) (h2) (a3) (h3) (a4) (h4) (a5) (h5) (a6) (h6) (hc0) (f g h k o : ℕ → ℕ → EReal) :
    out0_B_4 (F := Ideal) c i a1 h1 a2 h2 a3 h3 a4 h4 a5 h5 a6 h6 hc0 (ar 272 1024 .f32 f) (ar 1 1024 .f32 g) (ar 272 1024 .f32 h) (ar 272 1024 .f32 k) (ar 1 1024 .f32 o) = ar 272 1024 .f32 (nrow' f g h k) := by
  unfold out0_B_4
  rw [View.read_writes_eq_canon _ _ _ (cover0_B_4 c i a1 h1 a2 h2 a3 h3 a4 h4 a5 h5 a6 h6 hc0 _ _ _ _ _)]
  unfold kernelRun0_B
  dsimp only
  rw [View.canon_unit_zero hz2]
  unfold kernelRun0_B.sl.r_1
  simp only [View.readAt_eq_ld, h1.read_unread, h2.read_unread, h3.read_unread, h4.read_unread, View.ld_unit_zero (S := S272x1024) hz2, View.ld_unit_zero (S := S1x1024) hz2]
  exact pay_row f g h k

theorem out_A5 (i : grid0.Coords) (a1) (h1) (a2) (h2) (a3) (h3) (a4) (h4) (a5) (h5) (a6) (h6) (hc0) (f g h k : ℕ → ℕ → EReal) :
    out0_A_5 (F := Ideal) c i a1 h1 a2 h2 a3 h3 a4 h4 a5 h5 a6 h6 hc0 (ar 272 1024 .f32 f) (ar 1 1024 .f32 g) (ar 272 1024 .f32 h) (ar 272 1024 .f32 k) = ar 1 1024 .f32 (fun _ k => sumc 272 (npar f h) k) := by
  unfold out0_A_5
  rw [View.read_writes_eq_canon _ _ _ (cover0_A_5 c i a1 h1 a2 h2 a3 h3 a4 h4 a5 h5 a6 h6 hc0 _ _ _ _)]
  unfold kernelRun0_A
  dsimp only
  rw [View.canon_cons_unit_zero hz2]
  unfold kernelRun0_A.sl.r kernelRun0_A.sl.v45
  simp only [View.readAt_eq_ld, h1.read_unread, h2.read_unread, h3.read_unread, h4.read_unread, View.ld_unit_zero (S := S272x1024) hz2, View.ld_unit_zero (S := S1x1024) hz2]
  rw [pay_par]
  unfold kernelRun0_A.sl.H5_1
  rw [View.readCov_unit_zero _ hz2]
  exact add_first _

theorem out_B5 (i : grid0.Coords) (a1) (h1) (a2) (h2) (a3) (h3) (a4) (h4) (a5) (h5) (a6) (h6) (hc0) (f g h k o : ℕ → ℕ → EReal) :
    out0_B_5 (F := Ideal) c i a1 h1 a2 h2 a3 h3 a4 h4 a5 h5 a6 h6 hc0 (ar 272 1024 .f32 f) (ar 1 1024 .f32 g) (ar 272 1024 .f32 h) (ar 272 1024 .f32 k) (ar 1 1024 .f32 o) = ar 1 1024 .f32 (fun r k => o r k + sumc 272 (npar f h) k) := by
  unfold out0_B_5
  rw [View.read_writes_eq_canon _ _ _ (cover0_B_5 c i a1 h1 a2 h2 a3 h3 a4 h4 a5 h5 a6 h6 hc0 _ _ _ _ _)]
  unfold kernelRun0_B
  dsimp only
  rw [View.canon_unit_zero hz2]
  unfold kernelRun0_B.sl.r
  simp only [View.readAt_eq_ld, h1.read_unread, h2.read_unread, h3.read_unread, h4.read_unread, h6.read_unread, View.ld_unit_zero (S := S272x1024) hz2, View.ld_unit_zero (S := S1x1024) hz2]
  rw [pay_par]
  exact add_more _ _

include hx hg hd he in
theorem outs (n : ℕ) (hn : n < cfg0.N) : outsAt0 m c n hn =
    (ar 272 1024 .f32 (nrow' (at_ (n * 272) (rows 2064 x)) g (at_ (n * 272) (rows 2064 d)) (at_ (n * 272) (rows 2064 e))), ar 1 1024 .f32 (fun _ => accu 2064 272 (npar x d) n)) := by
  induction n with
  | zero =>
    rw [outsAt0_A m c ⟨0, hn⟩ rfl, iblk_x m c x hx, iblk_g m c g hg, iblk_d m c d hd, iblk_e m c e he, out_A4, out_A5]
    exact congrArg (Prod.mk _) (ar_congr fun r k _ _ => (npar_sum x d 2064 272 0 k).trans (accu_first 2064 272 (npar x d) k))
  | succ n ih =>
    have h0 : ¬ (n + 1) % 8 = 0 := by have : n + 1 < 8 := hn; omega
    rw [outsAt0_B m c ⟨n + 1, hn⟩ h0, iblk_x m c x hx, iblk_g m c g hg, iblk_d m c d hd, iblk_e m c e he]
    rw [show outsAt0 m c ((⟨n + 1, hn⟩ : Fin cfg0.N).val - 1) _ = _ from ih _, out_B4, out_B5]
    exact congrArg (Prod.mk _) (ar_congr fun r k _ _ => (congrArg (_ + ·) (npar_sum x d 2064 272 (n + 1) k)).trans (accu_next 2064 272 (npar x d) n k))

include hx hg hd he in
theorem arr_4 : (dats m 0 c).arrAt 4 cfg0.N = ar 2176 1024 .f32 (rows 2064 (nrow' x g d e)) := by
  refine Dat.arrAt_eq_of_covers (dats m 0 c) 4 _ (by decide +kernel) fun t hf y => ?_
  blk_simp
  rw [after0_4, outs m c x g d e hx hg hd he]
  show nrow' (at_ (t.val * 272) (rows 2064 x)) g (at_ (t.val * 272) (rows 2064 d)) (at_ (t.val * 272) (rows 2064 e)) (y 0).val (y 1).val =
    rows 2064 (nrow' x g d e) ((((cfg0.win 4).blk t).view.emb y) 0).val ((((cfg0.win 4).blk t).view.emb y) 1).val
  blk_simp [ix_4]
  exact nrow'_rows x g d e 2064 _ _ _

include hx hg hd he in
theorem arr_5 : (dats m 0 c).arrAt 5 cfg0.N = ar 1 1024 .f32 (fun _ => sumc 2064 (npar x d)) := by
  refine Dat.arrAt_eq_of_covers (dats m 0 c) 5 _ (by decide +kernel) fun t hf y => ?_
  blk_simp
  rw [after0_5, outs m c x g d e hx hg hd he]
  show accu 2064 272 (npar x d) t.val (y 1).val = sumc 2064 (npar x d) ((((cfg0.win 5).blk t).view.emb y) 1).val
  blk_simp [ix_5]
  rw [last_5 t hf]
  exact accu_last 2064 272 7 112 rfl _ _
end

section
open Cert.RmsBwdRefIdeal.Read
variable (x g d e : ℕ → ℕ → EReal)
theorem ref_ms : val_main_v7 (F := Ideal) (ar 2064 1024 .f32 x) = ar 2064 1 .f32 (fun r _ => ms x r) := by
  have e4 : val_main_v4 (F := Ideal) = ar 2064 1 .f32 fun _ _ => Ideal.ofBits .f32 0x44800000#32 := fill_ar _ _
  have e6 : val_main_v6 (F := Ideal) = ar 2064 1 .f32 fun _ _ => Ideal.ofBits .f32 0x358637BD#32 := fill_ar _ _
  have e1 : val_main_v1 (F := Ideal) (ar 2064 1024 .f32 x) = ar 2064 1024 .f32 (tm x x) := rfl
  unfold val_main_v7 val_main_v5 val_main_v3 val_main_v2
  rw [e1, host_r _ _ Ideal.ofBits_zero_f32 _ (by decide), bi_vr, e4, e6]
  rfl
theorem ref_rt : val_main_v8 (F := Ideal) (ar 2064 1024 .f32 x) = ar 2064 1 .f32 (fun r _ => rt x r) := by
  unfold val_main_v8
  rw [ref_ms]
  rfl
theorem ref_sl : val_main_v11 (F := Ideal) (ar 2064 1024 .f32 x) = ar 2064 1 .f32 (fun r _ => rsl x r) := by
  have e : val_main_v10 (F := Ideal) = ar 2064 1 .f32 fun _ _ => Ideal.ofBits .f32 0xBF000000#32 := fill_ar _ _
  unfold val_main_v11 val_main_v9
  rw [ref_ms, ref_rt, e]
  rfl
theorem ref_by : val_main_v21 (F := Ideal) (ar 1 1024 .f32 g) (ar 2064 1024 .f32 d) = ar 2064 1024 .f32 (by_ d g) := by
  unfold val_main_v21 val_main_v20 val_main_v14 val_main_v0
  rw [cast_v, bi_vc, bi_c]
  rfl
theorem ref_cf : val_main_v33 (F := Ideal) (ar 2064 1024 .f32 x) (ar 1 1024 .f32 g) (ar 2064 1024 .f32 d) = ar 2064 1024 .f32 (fun r _ => cf x g d r) := by
  have e : val_main_v30 (F := Ideal) = ar 2064 1 .f32 fun _ _ => Ideal.ofBits .f32 0x44800000#32 := fill_ar _ _
  have e1 : mulf (F := Ideal) (ar 2064 1024 .f32 x) (ar 2064 1024 .f32 (by_ d g)) = ar 2064 1024 .f32 (tm x (by_ d g)) := rfl
  have e2 : Host.divf (F := Ideal) (mulf (ar 2064 1 .f32 fun r _ => sumr 1024 (tm x (by_ d g)) r) (ar 2064 1 .f32 fun r _ => rsl x r)) (ar 2064 1 .f32 fun _ _ => Ideal.ofBits .f32 0x44800000#32) =
    ar 2064 1 .f32 (fun r _ => Ideal.div (sumr 1024 (tm x (by_ d g)) r * rsl x r) (Ideal.ofBits .f32 0x44800000#32)) := rfl
  unfold val_main_v33 val_main_v32 val_main_v31 val_main_v29 val_main_v25 val_main_v24 val_main_v23
  rw [ref_by, e1, host_r _ _ Ideal.ofBits_zero_f32 _ (by decide), cast_r, ref_sl, e, e2, host_r _ _ Ideal.ofBits_zero_f32 _ (by decide), bi_vr]
  rfl
theorem ref_rows : val_main_v39 (F := Ideal) (ar 2064 1024 .f32 x) (ar 1 1024 .f32 g) (ar 2064 1024 .f32 d) (ar 2064 1024 .f32 e) = ar 2176 1024 .f32 (rows 2064 (nrow' x g d e)) := by
  have e1 : val_main_v37 (F := Ideal) (ar 2064 1024 .f32 x) (ar 1 1024 .f32 g) (ar 2064 1024 .f32 d) (ar 2064 1024 .f32 e) = ar 2064 1024 .f32 (nrow' x g d e) := by
    unfold val_main_v37 val_main_v36 val_main_v35 val_main_v34 val_main_v28 val_main_v27 val_main_v26
    rw [ref_cf, ref_by, ref_rt, bi_r]
    rfl
  unfold val_main_v39
  rw [e1]
  exact pad_ar (φ := .f32) _ Cert.RmsBwdRefIdeal.Gen.facts.h_S_ (zero_pad val_main_c _ rfl) Cert.RmsBwdRefIdeal.Gen.facts.pads_S2064x1024_S2176x1024_01120_000
theorem ref_sum : val_main_v38 (F := Ideal) (ar 2064 1024 .f32 x) (ar 2064 1024 .f32 d) = ar 1 1024 .f32 (fun _ => sumc 2064 (npar x d)) := by
  have e1 : mulf (F := Ideal) (mulf (ar 2064 1024 .f32 x) (ar 2064 1024 .f32 fun r _ => rt x r)) (ar 2064 1024 .f32 d) = ar 2064 1024 .f32 (npar x d) := rfl
  unfold val_main_v38 val_main_v22 val_main_v19 val_main_v18 val_main_v17 val_main_v13 val_main_v12
  rw [ref_rt, bi_r, e1, host_c _ _ Ideal.ofBits_zero_f32 _ (by decide), cast_c, host_c _ _ Ideal.ofBits_zero_f32 _ (by decide), bi_vc]
  exact ar_congr fun r k _ _ => Finset.sum_range_one _
end

theorem same : @Cert.algebraic_RmsBwdIdeal_RmsBwdRefIdeal Cert.RmsBwdIdeal.Gen.facts Cert.RmsBwdRefIdeal.Gen.facts := by
  intro m g m' g' _ hag
  refine ⟨_, _, Cert.RmsBwdIdeal.Value.run_blocks m g, (θ_run _ _ _).mono ?_ (Cert.RmsBwdRefIdeal.Value.run m' g')⟩
  intro r h c
  obtain ⟨r0, r1, ra⟩ := h c
  obtain ⟨a0, a1, a2, a3⟩ := hag c
  obtain ⟨x, hx⟩ := ar_of (a := 2064) (b := 1024) (φ := .f32) (m ((c : Thread nD τ).loc main_arg0))
  obtain ⟨w, hw⟩ := ar_of (a := 1) (b := 1024) (φ := .f32) (m ((c : Thread nD τ).loc main_arg1))
  obtain ⟨d, hd⟩ := ar_of (a := 2064) (b := 1024) (φ := .f32) (m ((c : Thread nD τ).loc main_arg2))
  obtain ⟨e, he⟩ := ar_of (a := 2064) (b := 1024) (φ := .f32) (m ((c : Thread nD τ).loc main_arg3))
  refine ⟨(r0.trans (Cert.RmsBwdRefIdeal.Read.val_main_v39_eq m' c)).trans ?_, (r1.trans (Cert.RmsBwdRefIdeal.Read.val_main_v38_eq _ _)).trans ?_, ra⟩
  · rw [a0, a1, a2, a3, hx, hw, hd, he]
    exact (ref_rows x w d e).trans (arr_4 m c x w d e hx hw hd he).symm
  · rw [a0, a2, hx, hd]
    exact (ref_sum x d).trans (arr_5 m c x w d e hx hw hd he).symm
end

open Cert.RmsBwdRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2, sem_eq_zero_of_no_sems (by decide) r.2⟩) (Value.run m g)
end Cert.Prod.RmsBwd
end
-- ==== Proof.ProdGateBwd.lean ====
module

public import proofs.«01_k».proof.Proof.ProdRmsBwd
public import proofs.«01_k».proof.Proof.Gen.GateBwdIdeal.Value
public import proofs.«01_k».proof.Proof.Gen.GateBwdRefIdeal.Run
public import proofs.«01_k».proof.Proof.Gen.GateBwdRefIdeal.Read

/- The gradient of the two gates which mix the convolution with the attention. -/
@[expose] public section
set_option maxRecDepth 16384
noncomputable section
namespace Cert.Prod.GateBwd
open Cert.Row Idealize.ShloMosaic Idealize.ShloMosaic.TcCoe Idealize.ShloMosaic.Pipeline Idealize.SL.Sem

/-- A gate of the columns `x` with the row `b` added, its slope times the cotangent and the gated values, and the cotangent gated. -/
def gt (x b : ℕ → ℕ → EReal) : ℕ → ℕ → EReal := sg fun r k => x r k + b 0 k
def slope (x b y d : ℕ → ℕ → EReal) : ℕ → ℕ → EReal := tm (tm d y) (sl (gt x b))
def gated (x b d : ℕ → ℕ → EReal) : ℕ → ℕ → EReal := tm (gt x b) d

theorem slope_rows (x b y d : ℕ → ℕ → EReal) (n o r k : ℕ) : slope (at_ o (rows n x)) b (at_ o (rows n y)) (at_ o (rows n d)) r k = rows n (slope x b y d) (o + r) k := by
  by_cases h : o + r < n
  · simp only [slope, gt, sg, sl, tm, at_, rows, if_pos h]
  · simp [slope, tm, at_, rows, if_neg h]
theorem gated_rows (x b d : ℕ → ℕ → EReal) (n o r k : ℕ) : gated (at_ o (rows n x)) b (at_ o (rows n d)) r k = rows n (gated x b d) (o + r) k := by
  by_cases h : o + r < n
  · simp only [gated, gt, sg, tm, at_, rows, if_pos h]
  · simp [gated, tm, at_, rows, if_neg h]

section
open Cert.GateBwdIdeal Cert.GateBwdIdeal.Gen
theorem ix_0 : ∀ t : Fin cfg0.N, win0_0.index t = ![t.val, 5] := by decide +kernel
theorem ix_1 : ∀ t : Fin cfg0.N, win0_1.index t = ![t.val, 6] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![0, 0] := by decide +kernel
theorem ix_5 : ∀ t : Fin cfg0.N, win0_5.index t = ![0, 1] := by decide +kernel
theorem ix_6 : ∀ t : Fin cfg0.N, win0_6.index t = ![t.val, 0] := by decide +kernel
theorem ix_7 : ∀ t : Fin cfg0.N, win0_7.index t = ![t.val, 0] := by decide +kernel
theorem ix_8 : ∀ t : Fin cfg0.N, win0_8.index t = ![t.val, 0] := by decide +kernel
theorem ix_9 : ∀ t : Fin cfg0.N, win0_9.index t = ![t.val, 0] := by decide +kernel
theorem ix_10 : ∀ t : Fin cfg0.N, win0_10.index t = ![t.val, 0] := by decide +kernel
theorem ix_11 : ∀ t : Fin cfg0.N, win0_11.index t = ![0, 0] := by decide +kernel
theorem ix_12 : ∀ t : Fin cfg0.N, win0_12.index t = ![0, 0] := by decide +kernel
theorem last_11 : ∀ t : Fin cfg0.N, (cfg0.win 11).flush t = true → t.val = 7 := by decide +kernel
theorem last_12 : ∀ t : Fin cfg0.N, (cfg0.win 12).flush t = true → t.val = 7 := by decide +kernel

section
variable (f g y v d b w o p : ℕ → ℕ → EReal)
theorem pay_g : k0_pay8 (F := Ideal) (ar 272 1024 .f32 f) (ar 1 1024 .f32 b) = ar 272 1024 .f32 (gt f b) := by
  unfold k0_pay8
  rw [shapeCast_self, bt_c]
  rfl
theorem pay_h : k0_pay9 (F := Ideal) (ar 272 1024 .f32 f) (ar 1 1024 .f32 b) = ar 272 1024 .f32 (gt f b) := pay_g f b
theorem pay_s : k0_pay14 (F := Ideal) (ar 272 1024 .f32 f) (ar 272 1024 .f32 y) (ar 1 1024 .f32 b) (ar 272 1024 .f32 d) = ar 272 1024 .f32 (slope f b y d) := by
  unfold k0_pay14 k0_pay7
  rw [pay_g, shapeCast_self, shapeCast_self]
  show ar 272 1024 .f32 (tm (tm d y) (fun r k => gt f b r k * (Ideal.ofBits .f32 0x3F800000#32 - gt f b r k))) = _
  rw [one_eq]
  rfl
theorem pay_t : k0_pay11 (F := Ideal) (ar 272 1024 .f32 f) (ar 272 1024 .f32 y) (ar 1 1024 .f32 b) (ar 272 1024 .f32 d) = ar 272 1024 .f32 (slope f b y d) := pay_s f y d b
theorem pay_16 : k0_pay16 (F := Ideal) (ar 272 1024 .f32 f) (ar 272 1024 .f32 y) (ar 1 1024 .f32 b) (ar 272 1024 .f32 d) = ar 272 1024 .bf16 (slope f b y d) := by
  unfold k0_pay16
  rw [pay_s]
  rfl
theorem pay_17 : k0_pay17 (F := Ideal) (ar 272 1024 .f32 f) (ar 272 1024 .f32 y) (ar 1 1024 .f32 b) (ar 272 1024 .f32 d) = ar 272 1024 .bf16 (slope f b y d) := pay_16 f y d b
theorem pay_15 : k0_pay15 (F := Ideal) (ar 272 1024 .f32 f) (ar 272 1024 .f32 y) (ar 1 1024 .f32 b) (ar 272 1024 .f32 d) = ar 1 1024 .f32 (fun _ => sumc 272 (slope f b y d)) := by
  unfold k0_pay15
  dsimp only
  rw [pay_s]
  erw [red_c]
  rw [cast_c]
theorem pay_12 : k0_pay12 (F := Ideal) (ar 272 1024 .f32 f) (ar 272 1024 .f32 y) (ar 1 1024 .f32 b) (ar 272 1024 .f32 d) = ar 1 1024 .f32 (fun _ => sumc 272 (slope f b y d)) := pay_15 f y d b
theorem pay_13 : k0_pay13 (F := Ideal) (ar 272 1024 .f32 f) (ar 1 1024 .f32 b) (ar 272 1024 .f32 d) = ar 272 1024 .f32 (gated f b d) := by
  unfold k0_pay13 k0_pay7
  rw [pay_g, shapeCast_self]
  rfl
theorem pay_10 : k0_pay10 (F := Ideal) (ar 272 1024 .f32 f) (ar 1 1024 .f32 b) (ar 272 1024 .f32 d) = ar 272 1024 .f32 (gated f b d) := pay_13 f d b
theorem add_first : k0_pay5 (F := Ideal) (ar 1 1024 .f32 p) (k0_pay3 (F := Ideal)) = ar 1 1024 .f32 p := RmsBwd.add_first p
theorem add_more : k0_pay5 (F := Ideal) (ar 1 1024 .f32 p) (ar 1 1024 .f32 o) = ar 1 1024 .f32 (fun r k => o r k + p r k) := RmsBwd.add_more p o
theorem add_first' : k0_pay6 (F := Ideal) (ar 1 1024 .f32 p) (k0_pay4 (F := Ideal)) = ar 1 1024 .f32 p := RmsBwd.add_first p
theorem add_more' : k0_pay6 (F := Ideal) (ar 1 1024 .f32 p) (ar 1 1024 .f32 o) = ar 1 1024 .f32 (fun r k => o r k + p r k) := RmsBwd.add_more p o

variable (c : Dev nD) (i : grid0.Coords) (a1 : _) (h1 : _) (a2 : _) (h2 : _) (a3 : _) (h3 : _) (a4 : _) (h4 : _) (a5 : _) (h5 : _) (a6 : _) (h6 : _) (a7 : _) (h7 : _)
  (a8 : _) (h8 : _) (a9 : _) (h9 : _) (a10 : _) (h10 : _) (a11 : _) (h11 : _) (a12 : _) (h12 : _) (a13 : _) (h13 : _)
theorem out_A7 (hc0) : out0_A_7 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) = ar 272 1024 .bf16 (slope f b y d) := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 hc0 _ _ _ _ _ _ _)]
  unfold kernelRun0_A
  dsimp only
  rw [View.canon_unit_zero hz2]
  simp only [View.readAt_eq_ld, h1.read_unread, h3.read_unread, h5.read_unread, h7.read_unread, View.ld_unit_zero (S := S272x1024) hz2, View.ld_unit_zero (S := S1x1024) hz2]
  exact pay_16 f y d b
theorem out_B7 (hc0) : out0_B_7 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) (ar 1 1024 .f32 o) (ar 1 1024 .f32 p) = ar 272 1024 .bf16 (slope f b y d) := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 hc0 _ _ _ _ _ _ _ _ _)]
  unfold kernelRun0_B
  dsimp only
  rw [View.canon_unit_zero hz2]
  simp only [View.readAt_eq_ld, h1.read_unread, h3.read_unread, h5.read_unread, h7.read_unread, View.ld_unit_zero (S := S272x1024) hz2, View.ld_unit_zero (S := S1x1024) hz2]
  exact pay_16 f y d b
theorem out_A8 (hc0) : out0_A_8 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) = ar 272 1024 .bf16 (slope g w v d) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc0 _ _ _ _ _ _ _)]
  unfold kernelRun0_A
  dsimp only
  rw [View.canon_unit_zero hz2]
  unfold kernelRun0_A.sl.r_4
  simp only [View.readAt_eq_ld, h2.read_unread, h4.read_unread, h6.read_unread, h7.read_unread, View.ld_unit_zero (S := S272x1024) hz2, View.ld_unit_zero (S := S1x1024) hz2]
  exact pay_17 g v d w
theorem out_B8 (hc0) : out0_B_8 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) (ar 1 1024 .f32 o) (ar 1 1024 .f32 p) = ar 272 1024 .bf16 (slope g w v d) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc0 _ _ _ _ _ _ _ _ _)]
  unfold kernelRun0_B
  dsimp only
  rw [View.canon_unit_zero hz2]
  unfold kernelRun0_B.sl.r_4
  simp only [View.readAt_eq_ld, h2.read_unread, h4.read_unread, h6.read_unread, h7.read_unread, View.ld_unit_zero (S := S272x1024) hz2, View.ld_unit_zero (S := S1x1024) hz2]
  exact pay_17 g v d w
theorem out_A9 (hc0) : out0_A_9 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) = ar 272 1024 .bf16 (gated f b d) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc0 _ _ _ _ _ _ _)]
  unfold kernelRun0_A
  dsimp only
  rw [View.canon_unit_zero hz2]
  unfold kernelRun0_A.sl.r_2
  simp only [View.readAt_eq_ld, h1.read_unread, h5.read_unread, h7.read_unread, View.ld_unit_zero (S := S272x1024) hz2, View.ld_unit_zero (S := S1x1024) hz2]
  rw [pay_13]
  rfl
theorem out_B9 (hc0) : out0_B_9 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) (ar 1 1024 .f32 o) (ar 1 1024 .f32 p) = ar 272 1024 .bf16 (gated f b d) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc0 _ _ _ _ _ _ _ _ _)]
  unfold kernelRun0_B
  dsimp only
  rw [View.canon_unit_zero hz2]
  unfold kernelRun0_B.sl.r_2
  simp only [View.readAt_eq_ld, h1.read_unread, h5.read_unread, h7.read_unread, View.ld_unit_zero (S := S272x1024) hz2, View.ld_unit_zero (S := S1x1024) hz2]
  rw [pay_13]
  rfl
theorem out_A10 (hc0) : out0_A_10 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) = ar 272 1024 .bf16 (gated g w d) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc0 _ _ _ _ _ _ _)]
  unfold kernelRun0_A
  dsimp only
  rw [View.canon_unit_zero hz2]
  unfold kernelRun0_A.sl.r
  simp only [View.readAt_eq_ld, h2.read_unread, h6.read_unread, h7.read_unread, View.ld_unit_zero (S := S272x1024) hz2, View.ld_unit_zero (S := S1x1024) hz2]
  rw [pay_10]
  rfl
theorem out_B10 (hc0) : out0_B_10 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) (ar 1 1024 .f32 o) (ar 1 1024 .f32 p) = ar 272 1024 .bf16 (gated g w d) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc0 _ _ _ _ _ _ _ _ _)]
  unfold kernelRun0_B
  dsimp only
  rw [View.canon_unit_zero hz2]
  unfold kernelRun0_B.sl.r
  simp only [View.readAt_eq_ld, h2.read_unread, h6.read_unread, h7.read_unread, View.ld_unit_zero (S := S272x1024) hz2, View.ld_unit_zero (S := S1x1024) hz2]
  rw [pay_10]
  rfl
theorem out_A11 (hc0) : out0_A_11 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) = ar 1 1024 .f32 (fun _ => sumc 272 (slope f b y d)) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc0 _ _ _ _ _ _ _)]
  unfold kernelRun0_A
  dsimp only
  rw [View.canon_cons_unit_zero hz2]
  unfold kernelRun0_A.sl.r_3 kernelRun0_A.sl.v45
  simp only [View.readAt_eq_ld, h1.read_unread, h3.read_unread, h5.read_unread, h7.read_unread, View.ld_unit_zero (S := S272x1024) hz2, View.ld_unit_zero (S := S1x1024) hz2]
  rw [pay_15]
  unfold kernelRun0_A.sl.H11_1
  rw [View.readCov_unit_zero _ hz2]
  exact add_first _
theorem out_B11 (hc0) : out0_B_11 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) (ar 1 1024 .f32 o) (ar 1 1024 .f32 p) = ar 1 1024 .f32 (fun r k => o r k + sumc 272 (slope f b y d) k) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc0 _ _ _ _ _ _ _ _ _)]
  unfold kernelRun0_B
  dsimp only
  rw [View.canon_unit_zero hz2]
  unfold kernelRun0_B.sl.r_3
  simp only [View.readAt_eq_ld, h1.read_unread, h3.read_unread, h5.read_unread, h7.read_unread, h12.read_unread, View.ld_unit_zero (S := S272x1024) hz2, View.ld_unit_zero (S := S1x1024) hz2]
  rw [pay_15]
  exact add_more _ _
theorem out_A12 (hc0) : out0_A_12 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) = ar 1 1024 .f32 (fun _ => sumc 272 (slope g w v d)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc0 _ _ _ _ _ _ _)]
  unfold kernelRun0_A
  dsimp only
  rw [View.canon_cons_unit_zero hz2]
  unfold kernelRun0_A.sl.r_1 kernelRun0_A.sl.v49
  simp only [View.readAt_eq_ld, h2.read_unread, h4.read_unread, h6.read_unread, h7.read_unread, View.ld_unit_zero (S := S272x1024) hz2, View.ld_unit_zero (S := S1x1024) hz2]
  rw [pay_12]
  unfold kernelRun0_A.sl.H12_1
  rw [View.readCov_unit_zero _ hz2]
  exact add_first' _
theorem out_B12 (hc0) : out0_B_12 (F := Ideal) c i a1 h1 a2 h2 a3 h3 a4 h4 a5 h5 a6 h6 a7 h7 a8 h8 a9 h9 a10 h10 a11 h11 a12 h12 a13 h13 hc0
    (ar 272 1024 .f32 f) (ar 272 1024 .f32 g) (ar 272 1024 .f32 y) (ar 272 1024 .f32 v) (ar 1 1024 .f32 b) (ar 1 1024 .f32 w) (ar 272 1024 .f32 d) (ar 1 1024 .f32 o) (ar 1 1024 .f32 p) = ar 1 1024 .f32 (fun r k => p r k + sumc 272 (slope g w v d) k) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc0 _ _ _ _ _ _ _ _ _)]
  unfold kernelRun0_B
  dsimp only
  rw [View.canon_unit_zero hz2]
  unfold kernelRun0_B.sl.r_1
  simp only [View.readAt_eq_ld, h2.read_unread, h4.read_unread, h6.read_unread, h7.read_unread, h13.read_unread, View.ld_unit_zero (S := S272x1024) hz2, View.ld_unit_zero (S := S1x1024) hz2]
  rw [pay_12]
  exact add_more' _ _
end

section
variable (m : (ℓ : Loc nD τ sig) → Buf (Elt Ideal) ℓ) (c : Dev nD) (x y v b d : ℕ → ℕ → EReal)
variable (hx : m ((c : Thread nD τ).loc main_arg0) = ar 2064 7168 .f32 x) (hy : m ((c : Thread nD τ).loc main_arg1) = ar 2064 1024 .f32 y)
variable (hv : m ((c : Thread nD τ).loc main_arg2) = ar 2064 1024 .f32 v) (hb : m ((c : Thread nD τ).loc main_arg3) = ar 1 2048 .f32 b)
variable (hd : m ((c : Thread nD τ).loc main_arg4) = ar 2064 1024 .f32 d)

include hx in
theorem host_x : V m c main_v0 = ar 2176 7168 .f32 (rows 2064 x) := by
  unfold V
  after_reads_simp
  rw [hx]
  exact pad_ar (φ := .f32) _ h_S_ (zero_pad _ _ rfl) pads_S2064x7168_S2176x7168_01120_000
include hy in
theorem host_y : V m c main_v1 = ar 2176 1024 .f32 (rows 2064 y) := by
  unfold V
  after_reads_simp
  rw [hy]
  exact pad_ar (φ := .f32) _ h_S_ (zero_pad _ _ rfl) pads_S2064x1024_S2176x1024_01120_000
include hv in
theorem host_v : V m c main_v2 = ar 2176 1024 .f32 (rows 2064 v) := by
  unfold V
  after_reads_simp
  rw [hv]
  exact pad_ar (φ := .f32) _ h_S_ (zero_pad _ _ rfl) pads_S2064x1024_S2176x1024_01120_000
include hd in
theorem host_d : V m c main_v3 = ar 2176 1024 .f32 (rows 2064 d) := by
  unfold V
  after_reads_simp
  rw [hd]
  exact pad_ar (φ := .f32) _ h_S_ (zero_pad _ _ rfl) pads_S2064x1024_S2176x1024_01120_000

include hx in
theorem iblk_0 (t : Fin cfg0.N) : iblk m c 0 t = ar 272 1024 .f32 (at_ (t.val * 272) (rows 2064 (from_ 5120 x))) := by
  funext j
  blk_simp [iblk, ix_0]
  rw [host_x m c x hx]
  show rows 2064 x ((((cfg0.win 0).blk t).view.emb j) 0).val ((((cfg0.win 0).blk t).view.emb j) 1).val = rows 2064 x (t.val * 272 + (j 0).val) (5120 + (j 1).val)
  blk_simp [ix_0]
include hx in
theorem iblk_1 (t : Fin cfg0.N) : iblk m c 1 t = ar 272 1024 .f32 (at_ (t.val * 272) (rows 2064 (from_ 6144 x))) := by
  funext j
  blk_simp [iblk, ix_1]
  rw [host_x m c x hx]
  show rows 2064 x ((((cfg0.win 1).blk t).view.emb j) 0).val ((((cfg0.win 1).blk t).view.emb j) 1).val = rows 2064 x (t.val * 272 + (j 0).val) (6144 + (j 1).val)
  blk_simp [ix_1]
include hy in
theorem iblk_2 (t : Fin cfg0.N) : iblk m c 2 t = ar 272 1024 .f32 (at_ (t.val * 272) (rows 2064 y)) := by
  funext j
  blk_simp [iblk, ix_2]
  rw [host_y m c y hy]
  show rows 2064 y ((((cfg0.win 2).blk t).view.emb j) 0).val ((((cfg0.win 2).blk t).view.emb j) 1).val = rows 2064 y (t.val * 272 + (j 0).val) (j 1).val
  blk_simp [ix_2]
include hv in
theorem iblk_3 (t : Fin cfg0.N) : iblk m c 3 t = ar 272 1024 .f32 (at_ (t.val * 272) (rows 2064 v)) := by
  funext j
  blk_simp [iblk, ix_3]
  rw [host_v m c v hv]
  show rows 2064 v ((((cfg0.win 3).blk t).view.emb j) 0).val ((((cfg0.win 3).blk t).view.emb j) 1).val = rows 2064 v (t.val * 272 + (j 0).val) (j 1).val
  blk_simp [ix_3]
include hb in
theorem iblk_4 (t : Fin cfg0.N) : iblk m c 4 t = ar 1 1024 .f32 b := by
  funext j
  blk_simp [iblk, ix_4]
  rw [V_main_arg3, hb]
  show b ((((cfg0.win 4).blk t).view.emb j) 0).val ((((cfg0.win 4).blk t).view.emb j) 1).val = b (j 0).val (j 1).val
  blk_simp [ix_4]
include hb in
theorem iblk_5 (t : Fin cfg0.N) : iblk m c 5 t = ar 1 1024 .f32 (from_ 1024 b) := by
  funext j
  blk_simp [iblk, ix_5]
  rw [V_main_arg3, hb]
  show b ((((cfg0.win 5).blk t).view.emb j) 0).val ((((cfg0.win 5).blk t).view.emb j) 1).val = b (j 0).val (1024 + (j 1).val)
  blk_simp [ix_5]
include hd in
theorem iblk_6 (t : Fin cfg0.N) : iblk m c 6 t = ar 272 1024 .f32 (at_ (t.val * 272) (rows 2064 d)) := by
  funext j
  blk_simp [iblk, ix_6]
  rw [host_d m c d hd]
  show rows 2064 d ((((cfg0.win 6).blk t).view.emb j) 0).val ((((cfg0.win 6).blk t).view.emb j) 1).val = rows 2064 d (t.val * 272 + (j 0).val) (j 1).val
  blk_simp [ix_6]

theorem slope_sum (x b y d : ℕ → ℕ → EReal) (o k : ℕ) : sumc 272 (slope (at_ (o * 272) (rows 2064 x)) b (at_ (o * 272) (rows 2064 y)) (at_ (o * 272) (rows 2064 d))) k =
    sumc 272 (at_ (o * 272) (rows 2064 (slope x b y d))) k :=
  Finset.sum_congr rfl fun r _ => slope_rows x b y d 2064 (o * 272) r k

/-- What the blocks up to the one numbered `n` leave. -/
def left (x y v b d : ℕ → ℕ → EReal) (n : ℕ) : FVec Ideal S272x1024 .bf16 × FVec Ideal S272x1024 .bf16 × FVec Ideal S272x1024 .bf16 × FVec Ideal S272x1024 .bf16 × FVec Ideal S1x1024 .f32 × FVec Ideal S1x1024 .f32 :=
  (ar 272 1024 .bf16 (at_ (n * 272) (rows 2064 (slope (from_ 5120 x) b y d))), ar 272 1024 .bf16 (at_ (n * 272) (rows 2064 (slope (from_ 6144 x) (from_ 1024 b) v d))),
    ar 272 1024 .bf16 (at_ (n * 272) (rows 2064 (gated (from_ 5120 x) b d))), ar 272 1024 .bf16 (at_ (n * 272) (rows 2064 (gated (from_ 6144 x) (from_ 1024 b) d))),
    ar 1 1024 .f32 (fun _ => accu 2064 272 (slope (from_ 5120 x) b y d) n), ar 1 1024 .f32 (fun _ => accu 2064 272 (slope (from_ 6144 x) (from_ 1024 b) v d) n))

include hx hy hv hb hd in
theorem outs (n : ℕ) (hn : n < cfg0.N) : outsAt0 m c n hn = left x y v b d n := by
  have s (x b y d : ℕ → ℕ → EReal) (o : ℕ) : ar 272 1024 .bf16 (slope (at_ o (rows 2064 x)) b (at_ o (rows 2064 y)) (at_ o (rows 2064 d))) = ar 272 1024 .bf16 (at_ o (rows 2064 (slope x b y d))) :=
    ar_congr fun r k _ _ => slope_rows x b y d 2064 o r k
  have g (x b d : ℕ → ℕ → EReal) (o : ℕ) : ar 272 1024 .bf16 (gated (at_ o (rows 2064 x)) b (at_ o (rows 2064 d))) = ar 272 1024 .bf16 (at_ o (rows 2064 (gated x b d))) :=
    ar_congr fun r k _ _ => gated_rows x b d 2064 o r k
  induction n with
  | zero =>
    rw [outsAt0_A m c ⟨0, hn⟩ rfl, iblk_0 m c x hx, iblk_1 m c x hx, iblk_2 m c y hy, iblk_3 m c v hv, iblk_4 m c b hb, iblk_5 m c b hb, iblk_6 m c d hd, out_A7, out_A8, out_A9, out_A10, out_A11, out_A12, s, s, g, g]
    have f (x b y d : ℕ → ℕ → EReal) : ar 1 1024 .f32 (fun _ => sumc 272 (slope (at_ (0 * 272) (rows 2064 x)) b (at_ (0 * 272) (rows 2064 y)) (at_ (0 * 272) (rows 2064 d)))) = ar 1 1024 .f32 (fun _ => accu 2064 272 (slope x b y d) 0) :=
      ar_congr fun r k _ _ => (slope_sum x b y d 0 k).trans (accu_first 2064 272 (slope x b y d) k)
    rw [f, f]
    rfl
  | succ n ih =>
    have h0 : ¬ (n + 1) % 8 = 0 := by have : n + 1 < 8 := hn; omega
    rw [outsAt0_B m c ⟨n + 1, hn⟩ h0, iblk_0 m c x hx, iblk_1 m c x hx, iblk_2 m c y hy, iblk_3 m c v hv, iblk_4 m c b hb, iblk_5 m c b hb, iblk_6 m c d hd]
    rw [show outsAt0 m c ((⟨n + 1, hn⟩ : Fin cfg0.N).val - 1) _ = _ from ih _]
    unfold left
    rw [out_B7, out_B8, out_B9, out_B10, out_B11, out_B12, s, s, g, g]
    have f (x b y d : ℕ → ℕ → EReal) : ar 1 1024 .f32 (fun _ k => accu 2064 272 (slope x b y d) n k + sumc 272 (slope (at_ ((n + 1) * 272) (rows 2064 x)) b (at_ ((n + 1) * 272) (rows 2064 y)) (at_ ((n + 1) * 272) (rows 2064 d))) k) =
        ar 1 1024 .f32 (fun _ => accu 2064 272 (slope x b y d) (n + 1)) :=
      ar_congr fun r k _ _ => (congrArg (_ + ·) (slope_sum x b y d (n + 1) k)).trans (accu_next 2064 272 (slope x b y d) n k)
    rw [f, f]

include hx hy hv hb hd in
theorem arr_7 : (dats m 0 c).arrAt 7 cfg0.N = ar 2176 1024 .bf16 (rows 2064 (slope (from_ 5120 x) b y d)) := by
  refine Dat.arrAt_eq_of_covers (dats m 0 c) 7 _ (by decide +kernel) fun t hf j => ?_
  blk_simp
  rw [after0_7, outs m c x y v b d hx hy hv hb hd]
  show rows 2064 (slope (from_ 5120 x) b y d) (t.val * 272 + (j 0).val) (j 1).val = rows 2064 (slope (from_ 5120 x) b y d) ((((cfg0.win 7).blk t).view.emb j) 0).val ((((cfg0.win 7).blk t).view.emb j) 1).val
  blk_simp [ix_7]
include hx hy hv hb hd in
theorem arr_8 : (dats m 0 c).arrAt 8 cfg0.N = ar 2176 1024 .bf16 (rows 2064 (slope (from_ 6144 x) (from_ 1024 b) v d)) := by
  refine Dat.arrAt_eq_of_covers (dats m 0 c) 8 _ (by decide +kernel) fun t hf j => ?_
  blk_simp
  rw [after0_8, outs m c x y v b d hx hy hv hb hd]
  show rows 2064 (slope (from_ 6144 x) (from_ 1024 b) v d) (t.val * 272 + (j 0).val) (j 1).val = rows 2064 (slope (from_ 6144 x) (from_ 1024 b) v d) ((((cfg0.win 8).blk t).view.emb j) 0).val ((((cfg0.win 8).blk t).view.emb j) 1).val
  blk_simp [ix_8]
include hx hy hv hb hd in
theorem arr_9 : (dats m 0 c).arrAt 9 cfg0.N = ar 2176 1024 .bf16 (rows 2064 (gated (from_ 5120 x) b d)) := by
  refine Dat.arrAt_eq_of_covers (dats m 0 c) 9 _ (by decide +kernel) fun t hf j => ?_
  blk_simp
  rw [after0_9, outs m c x y v b d hx hy hv hb hd]
  show rows 2064 (gated (from_ 5120 x) b d) (t.val * 272 + (j 0).val) (j 1).val = rows 2064 (gated (from_ 5120 x) b d) ((((cfg0.win 9).blk t).view.emb j) 0).val ((((cfg0.win 9).blk t).view.emb j) 1).val
  blk_simp [ix_9]
include hx hy hv hb hd in
theorem arr_10 : (dats m 0 c).arrAt 10 cfg0.N = ar 2176 1024 .bf16 (rows 2064 (gated (from_ 6144 x) (from_ 1024 b) d)) := by
  refine Dat.arrAt_eq_of_covers (dats m 0 c) 10 _ (by decide +kernel) fun t hf j => ?_
  blk_simp
  rw [after0_10, outs m c x y v b d hx hy hv hb hd]
  show rows 2064 (gated (from_ 6144 x) (from_ 1024 b) d) (t.val * 272 + (j 0).val) (j 1).val = rows 2064 (gated (from_ 6144 x) (from_ 1024 b) d) ((((cfg0.win 10).blk t).view.emb j) 0).val ((((cfg0.win 10).blk t).view.emb j) 1).val
  blk_simp [ix_10]
include hx hy hv hb hd in
theorem arr_11 : (dats m 0 c).arrAt 11 cfg0.N = ar 1 1024 .f32 (fun _ => sumc 2064 (slope (from_ 5120 x) b y d)) := by
  refine Dat.arrAt_eq_of_covers (dats m 0 c) 11 _ (by decide +kernel) fun t hf j => ?_
  blk_simp
  rw [after0_11, outs m c x y v b d hx hy hv hb hd]
  show accu 2064 272 (slope (from_ 5120 x) b y d) t.val (j 1).val = sumc 2064 (slope (from_ 5120 x) b y d) ((((cfg0.win 11).blk t).view.emb j) 1).val
  blk_simp [ix_11]
  rw [last_11 t hf]
  exact accu_last 2064 272 7 112 rfl _ _
include hx hy hv hb hd in
theorem arr_12 : (dats m 0 c).arrAt 12 cfg0.N = ar 1 1024 .f32 (fun _ => sumc 2064 (slope (from_ 6144 x) (from_ 1024 b) v d)) := by
  refine Dat.arrAt_eq_of_covers (dats m 0 c) 12 _ (by decide +kernel) fun t hf j => ?_
  blk_simp
  rw [after0_12, outs m c x y v b d hx hy hv hb hd]
  show accu 2064 272 (slope (from_ 6144 x) (from_ 1024 b) v d) t.val (j 1).val = sumc 2064 (slope (from_ 6144 x) (from_ 1024 b) v d) ((((cfg0.win 12).blk t).view.emb j) 1).val
  blk_simp [ix_12]
  rw [last_12 t hf]
  exact accu_last 2064 272 7 112 rfl _ _
end

section
open Cert.GateBwdRefIdeal.Read
variable (x y v b d : ℕ → ℕ → EReal)
theorem gt_from (n k : ℕ) : from_ k (gt (from_ n x) b) = gt (from_ (n + k) x) (from_ k b) :=
  funext fun r => funext fun j => by simp only [from_, gt, sg, Nat.add_assoc]
theorem side_from (n : ℕ) (p q : ℕ → ℕ → EReal) : from_ n (side n p q) = q :=
  funext fun r => funext fun j => by simp [from_, side]
theorem side_left (n : ℕ) (p q : ℕ → ℕ → EReal) (r k : ℕ) (h : k < n) : side n p q r k = p r k := if_pos h

theorem ref_g : val_main_v10 (F := Ideal) (ar 2064 7168 .f32 x) (ar 1 2048 .f32 b) = ar 2064 2048 .f32 (gt (from_ 5120 x) b) := by
  have e7 : val_main_v7 (F := Ideal) = ar 2064 2048 .f32 fun _ _ => 1 := ones_ar _
  have e9 : val_main_v9 (F := Ideal) = ar 2064 2048 .f32 fun _ _ => 1 := ones_ar _
  unfold val_main_v10 val_main_v8 val_main_v6 val_main_v5 val_main_v4 val_main_v3 val_main_v2 val_main_v1 val_main_v0
  rw [e7, e9, cast_v, bi_vc, bi_c, slice_ar]
  rfl
theorem ref_sl : val_main_v13 (F := Ideal) (ar 2064 7168 .f32 x) (ar 1 2048 .f32 b) = ar 2064 2048 .f32 (sl (gt (from_ 5120 x) b)) := by
  have e : val_main_v11 (F := Ideal) = ar 2064 2048 .f32 fun _ _ => 1 := ones_ar _
  unfold val_main_v13 val_main_v12
  rw [ref_g, e]
  rfl
theorem ref_g1 : val_main_v14 (F := Ideal) (ar 2064 7168 .f32 x) (ar 1 2048 .f32 b) = ar 2064 1024 .f32 (gt (from_ 5120 x) b) := by
  unfold val_main_v14
  rw [ref_g, slice_ar, from_zero]
theorem ref_g2 : val_main_v15 (F := Ideal) (ar 2064 7168 .f32 x) (ar 1 2048 .f32 b) = ar 2064 1024 .f32 (gt (from_ 6144 x) (from_ 1024 b)) := by
  unfold val_main_v15
  rw [ref_g, slice_ar, gt_from]

/-- The slopes of both gates side by side. -/
def both (x y v b d : ℕ → ℕ → EReal) : ℕ → ℕ → EReal := tm (side 1024 (tm d y) (tm d v)) (sl (gt (from_ 5120 x) b))
theorem both_1 (r k : ℕ) (h : k < 1024) : both x y v b d r k = slope (from_ 5120 x) b y d r k :=
  congrArg (· * _) (side_left 1024 (tm d y) (tm d v) r k h)
theorem both_2 : from_ 1024 (both x y v b d) = slope (from_ 6144 x) (from_ 1024 b) v d := by
  have e1 := side_from 1024 (tm d y) (tm d v)
  have e2 := gt_from x b 5120 1024
  funext r k
  show side 1024 (tm d y) (tm d v) r (1024 + k) * sl (gt (from_ 5120 x) b) r (1024 + k) = tm d v r k * sl (gt (from_ (5120 + 1024) x) (from_ 1024 b)) r k
  rw [show side 1024 (tm d y) (tm d v) r (1024 + k) = tm d v r k from congrFun (congrFun e1 r) k,
    show sl (gt (from_ 5120 x) b) r (1024 + k) = sl (from_ 1024 (gt (from_ 5120 x) b)) r k from rfl, e2]
theorem ref_b : val_main_v26 (F := Ideal) (ar 2064 7168 .f32 x) (ar 2064 1024 .f32 y) (ar 2064 1024 .f32 v) (ar 1 2048 .f32 b) (ar 2064 1024 .f32 d) = ar 2064 2048 .f32 (both x y v b d) := by
  have e1 : mulf (F := Ideal) (ar 2064 1024 .f32 d) (ar 2064 1024 .f32 y) = ar 2064 1024 .f32 (tm d y) := rfl
  have e2 : mulf (F := Ideal) (ar 2064 1024 .f32 d) (ar 2064 1024 .f32 v) = ar 2064 1024 .f32 (tm d v) := rfl
  unfold val_main_v26 val_main_v25 val_main_v24 val_main_v22 val_main_v20 val_main_v19
  rw [ref_sl, shapeCast_self, e1, e2, side_ar]
  rfl
theorem ref_s : val_main_v30 (F := Ideal) (ar 2064 7168 .f32 x) (ar 2064 1024 .f32 y) (ar 2064 1024 .f32 v) (ar 1 2048 .f32 b) (ar 2064 1024 .f32 d) = ar 1 2048 .f32 (fun _ => sumc 2064 (both x y v b d)) := by
  unfold val_main_v30 val_main_v29 val_main_v28 val_main_v27
  rw [ref_b, host_c _ _ Ideal.ofBits_zero_f32 _ (by decide), cast_c, host_c _ _ Ideal.ofBits_zero_f32 _ (by decide), bi_vc]
  exact ar_congr fun r k _ _ => Finset.sum_range_one _

theorem ref_7 : val_main_v34 (F := Ideal) (ar 2064 7168 .f32 x) (ar 2064 1024 .f32 y) (ar 2064 1024 .f32 v) (ar 1 2048 .f32 b) (ar 2064 1024 .f32 d) = ar 2176 1024 .bf16 (rows 2064 (slope (from_ 5120 x) b y d)) := by
  have e : val_main_v33 (F := Ideal) (ar 2064 7168 .f32 x) (ar 2064 1024 .f32 y) (ar 2064 1024 .f32 v) (ar 1 2048 .f32 b) (ar 2064 1024 .f32 d) = ar 2064 1024 .bf16 (slope (from_ 5120 x) b y d) := by
    unfold val_main_v33 val_main_v31
    rw [ref_b, slice_ar, from_zero]
    exact ar_congr fun r k _ hk => both_1 x y v b d r k hk
  unfold val_main_v34
  rw [e]
  exact pad_ar (φ := .bf16) _ Cert.GateBwdRefIdeal.Gen.facts.h_S_ (zero_pad val_main_c _ rfl) Cert.GateBwdRefIdeal.Gen.facts.pads_S2064x1024_S2176x1024_01120_000
theorem ref_8 : val_main_v36 (F := Ideal) (ar 2064 7168 .f32 x) (ar 2064 1024 .f32 y) (ar 2064 1024 .f32 v) (ar 1 2048 .f32 b) (ar 2064 1024 .f32 d) = ar 2176 1024 .bf16 (rows 2064 (slope (from_ 6144 x) (from_ 1024 b) v d)) := by
  have e : val_main_v35 (F := Ideal) (ar 2064 7168 .f32 x) (ar 2064 1024 .f32 y) (ar 2064 1024 .f32 v) (ar 1 2048 .f32 b) (ar 2064 1024 .f32 d) = ar 2064 1024 .bf16 (slope (from_ 6144 x) (from_ 1024 b) v d) := by
    unfold val_main_v35 val_main_v32
    rw [ref_b, slice_ar, both_2]
    rfl
  unfold val_main_v36
  rw [e]
  exact pad_ar (φ := .bf16) _ Cert.GateBwdRefIdeal.Gen.facts.h_S_ (zero_pad val_main_c_4 _ rfl) Cert.GateBwdRefIdeal.Gen.facts.pads_S2064x1024_S2176x1024_01120_000
theorem ref_9 : val_main_v38 (F := Ideal) (ar 2064 7168 .f32 x) (ar 1 2048 .f32 b) (ar 2064 1024 .f32 d) = ar 2176 1024 .bf16 (rows 2064 (gated (from_ 5120 x) b d)) := by
  have e : val_main_v37 (F := Ideal) (ar 2064 7168 .f32 x) (ar 1 2048 .f32 b) (ar 2064 1024 .f32 d) = ar 2064 1024 .bf16 (gated (from_ 5120 x) b d) := by
    unfold val_main_v37 val_main_v23 val_main_v19
    rw [ref_g1, shapeCast_self]
    rfl
  unfold val_main_v38
  rw [e]
  exact pad_ar (φ := .bf16) _ Cert.GateBwdRefIdeal.Gen.facts.h_S_ (zero_pad val_main_c_5 _ rfl) Cert.GateBwdRefIdeal.Gen.facts.pads_S2064x1024_S2176x1024_01120_000
theorem ref_10 : val_main_v40 (F := Ideal) (ar 2064 7168 .f32 x) (ar 1 2048 .f32 b) (ar 2064 1024 .f32 d) = ar 2176 1024 .bf16 (rows 2064 (gated (from_ 6144 x) (from_ 1024 b) d)) := by
  have e : val_main_v39 (F := Ideal) (ar 2064 7168 .f32 x) (ar 1 2048 .f32 b) (ar 2064 1024 .f32 d) = ar 2064 1024 .bf16 (gated (from_ 6144 x) (from_ 1024 b) d) := by
    unfold val_main_v39 val_main_v21 val_main_v20
    rw [ref_g2, shapeCast_self]
    rfl
  unfold val_main_v40
  rw [e]
  exact pad_ar (φ := .bf16) _ Cert.GateBwdRefIdeal.Gen.facts.h_S_ (zero_pad val_main_c_6 _ rfl) Cert.GateBwdRefIdeal.Gen.facts.pads_S2064x1024_S2176x1024_01120_000
theorem ref_11 : val_main_v41 (F := Ideal) (ar 2064 7168 .f32 x) (ar 2064 1024 .f32 y) (ar 2064 1024 .f32 v) (ar 1 2048 .f32 b) (ar 2064 1024 .f32 d) = ar 1 1024 .f32 (fun _ => sumc 2064 (slope (from_ 5120 x) b y d)) := by
  unfold val_main_v41
  rw [ref_s, slice_ar, from_zero]
  exact ar_congr fun r k _ hk => Finset.sum_congr rfl fun q _ => both_1 x y v b d q k hk
theorem ref_12 : val_main_v42 (F := Ideal) (ar 2064 7168 .f32 x) (ar 2064 1024 .f32 y) (ar 2064 1024 .f32 v) (ar 1 2048 .f32 b) (ar 2064 1024 .f32 d) = ar 1 1024 .f32 (fun _ => sumc 2064 (slope (from_ 6144 x) (from_ 1024 b) v d)) := by
  unfold val_main_v42
  rw [ref_s, slice_ar, ← both_2 x y]
  rfl
end

set_option maxHeartbeats 1600000 in
theorem same : @Cert.algebraic_GateBwdIdeal_GateBwdRefIdeal Cert.GateBwdIdeal.Gen.facts Cert.GateBwdRefIdeal.Gen.facts := by
  intro m g m' g' _ hag
  refine ⟨_, _, _, _, _, _, Cert.GateBwdIdeal.Value.run_blocks m g, (θ_run _ _ _).mono ?_ (Cert.GateBwdRefIdeal.Value.run m' g')⟩
  intro r h c
  obtain ⟨r0, r1, r2, r3, r4, r5, ra⟩ := h c
  obtain ⟨a0, a1, a2, a3, a4⟩ := hag c
  obtain ⟨x, hx⟩ := ar_of (a := 2064) (b := 7168) (φ := .f32) (m ((c : Thread nD τ).loc main_arg0))
  obtain ⟨y, hy⟩ := ar_of (a := 2064) (b := 1024) (φ := .f32) (m ((c : Thread nD τ).loc main_arg1))
  obtain ⟨v, hv⟩ := ar_of (a := 2064) (b := 1024) (φ := .f32) (m ((c : Thread nD τ).loc main_arg2))
  obtain ⟨b, hb⟩ := ar_of (a := 1) (b := 2048) (φ := .f32) (m ((c : Thread nD τ).loc main_arg3))
  obtain ⟨d, hd⟩ := ar_of (a := 2064) (b := 1024) (φ := .f32) (m ((c : Thread nD τ).loc main_arg4))
  refine ⟨(r0.trans (Cert.GateBwdRefIdeal.Read.val_main_v34_eq _ _ _ _ _)).trans ?_, (r1.trans (Cert.GateBwdRefIdeal.Read.val_main_v36_eq _ _ _ _ _)).trans ?_,
    (r2.trans (Cert.GateBwdRefIdeal.Read.val_main_v38_eq _ _ _)).trans ?_, (r3.trans (Cert.GateBwdRefIdeal.Read.val_main_v40_eq _ _ _)).trans ?_,
    (r4.trans (Cert.GateBwdRefIdeal.Read.val_main_v41_eq _ _ _ _ _)).trans ?_, (r5.trans (Cert.GateBwdRefIdeal.Read.val_main_v42_eq _ _ _ _ _)).trans ?_, ra⟩
  · rw [a0, a1, a2, a3, a4, hx, hy, hv, hb, hd]
    exact (ref_7 x y v b d).trans (arr_7 m c x y v b d hx hy hv hb hd).symm
  · rw [a0, a1, a2, a3, a4, hx, hy, hv, hb, hd]
    exact (ref_8 x y v b d).trans (arr_8 m c x y v b d hx hy hv hb hd).symm
  · rw [a0, a3, a4, hx, hb, hd]
    exact (ref_9 x b d).trans (arr_9 m c x y v b d hx hy hv hb hd).symm
  · rw [a0, a3, a4, hx, hb, hd]
    exact (ref_10 x b d).trans (arr_10 m c x y v b d hx hy hv hb hd).symm
  · rw [a0, a1, a2, a3, a4, hx, hy, hv, hb, hd]
    exact (ref_11 x y v b d).trans (arr_11 m c x y v b d hx hy hv hb hd).symm
  · rw [a0, a1, a2, a3, a4, hx, hy, hv, hb, hd]
    exact (ref_12 x y v b d).trans (arr_12 m c x y v b d hx hy hv hb hd).symm
end

open Cert.GateBwdRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2.2.2.2.2, sem_eq_zero_of_no_sems (by decide) r.2⟩) (Value.run m g)
end Cert.Prod.GateBwd
end
-- ==== Proof.ProdResBwd.lean ====
module

public import proofs.«01_k».proof.Proof.ProdRmsBwd
public import proofs.«01_k».proof.Proof.Gen.ResBwdIdeal.Value
public import proofs.«01_k».proof.Proof.Gen.ResBwdRefIdeal.Run
public import proofs.«01_k».proof.Proof.Gen.ResBwdRefIdeal.Read

/- The gradient of the normalisation after a layer: the sums are those of the normalisation before it, and no cotangent is added. -/
@[expose] public section
set_option maxRecDepth 16384
noncomputable section
namespace Cert.Prod.ResBwd
open Cert.Row Idealize.ShloMosaic Idealize.ShloMosaic.TcCoe Idealize.ShloMosaic.Pipeline Idealize.SL.Sem

section
open Cert.ResBwdIdeal Cert.ResBwdIdeal.Gen
theorem ix_1 : ∀ t : Fin cfg0.N, win0_1.index t = ![t.val, 0] := by decide +kernel
theorem ix_2 : ∀ t : Fin cfg0.N, win0_2.index t = ![0, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![0, 0] := by decide +kernel
theorem last_5 : ∀ t : Fin cfg0.N, (cfg0.win 5).flush t = true → t.val = 7 := by decide +kernel

section
variable (f g h o : ℕ → ℕ → EReal)
theorem pay_par : k0_pay7 (F := Ideal) (ar 272 1024 .f32 f) (ar 272 1024 .f32 h) = ar 1 1024 .f32 (fun _ k => sumc 272 (npar f h) k) := RmsBwd.pay_par f h
theorem pay_row : k0_pay8 (F := Ideal) (ar 272 1024 .f32 f) (ar 1 1024 .f32 g) (ar 272 1024 .f32 h) = ar 272 1024 .bf16 (nrow f g h) := by
  have m1 : k0_pay5 (F := Ideal) (ar 272 1024 .f32 f) = _ := RmsBwd.pay_ms f
  have r1 : k0_pay6 (F := Ideal) (ar 272 1024 .f32 f) = _ := RmsBwd.pay_rt f
  unfold k0_pay8 k0_pay4 k0_pay3
  rw [r1, m1]
  dsimp only
  rw [shapeCast_self, shapeCast_self, bt_c]
  have e : mulf (F := Ideal) (ar 272 1024 .f32 f) (mulf (ar 272 1024 .f32 h) (ar 272 1024 .f32 fun _ k => g 0 k)) = ar 272 1024 .f32 (tm f (by_ h g)) := rfl
  rw [e]
  erw [red_r]
  rw [cast_r]
  have e : divf (F := Ideal) (mulf (ar 272 1 .f32 fun r _ => sumr 1024 (tm f (by_ h g)) r)
    (mulf (broadcast S272x1 (Scalar.ofBits .f32 0xBF000000#32)) (divf (ar 272 1 .f32 fun r _ => rt f r) (ar 272 1 .f32 fun r _ => ms f r))))
    (broadcast S272x1 (Scalar.ofBits .f32 0x44800000#32)) = ar 272 1 .f32 (fun r _ => Ideal.div (sumr 1024 (tm f (by_ h g)) r * rsl f r) (Ideal.ofBits .f32 0x44800000#32)) := rfl
  rw [e]
  erw [red_r]
  rw [cast_r, bt_r, bt_r]
  rfl

variable (c : Dev nD) (i : grid0.Coords) (a1 : _) (h1 : _) (a2 : _) (h2 : _) (a3 : _) (h3 : _) (a4 : _) (h4 : _) (a5 : _) (h5 : _) (a6 : _) (h6 : _) (x0 : _)
theorem out_A4 (hc0) : out0_A_4 (F := Ideal) c i a1 h1 a2 h2 a3 h3 a4 h4 a5 h5 a6 h6 hc0 x0 (ar 272 1024 .f32 f) (ar 1 1024 .f32 g) (ar 272 1024 .f32 h) =
    ar 272 1024 .bf16 (nrow f g h) := by
  unfold out0_A_4
  rw [View.read_writes_eq_canon _ _ _ (cover0_A_4 c i a1 h1 a2 h2 a3 h3 a4 h4 a5 h5 a6 h6 hc0 _ _ _ _)]
  unfold kernelRun0_A
  dsimp only
  rw [View.canon_unit_zero hz2]
  simp only [View.readAt_eq_ld, h2.read_unread, h3.read_unread, h4.read_unread, View.ld_unit_zero (S := S272x1024) hz2, View.ld_unit_zero (S := S1x1024) hz2]
  exact pay_row f g h

theorem out_B4 (hc0) : out0_B_4 (F := Ideal) c i a1 h1 a2 h2 a3 h3 a4 h4 a5 h5 a6 h6 hc0 x0 (ar 272 1024 .f32 f) (ar 1 1024 .f32 g) (ar 272 1024 .f32 h) (ar 1 1024 .f32 o) =
    ar 272 1024 .bf16 (nrow f g h) := by
  unfold out0_B_4
  rw [View.read_writes_eq_canon _ _ _ (cover0_B_4 c i a1 h1 a2 h2 a3 h3 a4 h4 a5 h5 a6 h6 hc0 _ _ _ _ _)]
  unfold kernelRun0_B
  dsimp only
  rw [View.canon_unit_zero hz2]
  simp only [View.readAt_eq_ld, h2.read_unread, h3.read_unread, h4.read_unread, View.ld_unit_zero (S := S272x1024) hz2, View.ld_unit_zero (S := S1x1024) hz2]
  exact pay_row f g h

theorem out_A5 (hc0) : out0_A_5 (F := Ideal) c i a1 h1 a2 h2 a3 h3 a4 h4 a5 h5 a6 h6 hc0 x0 (ar 272 1024 .f32 f) (ar 1 1024 .f32 g) (ar 272 1024 .f32 h) =
    ar 1 1024 .f32 (fun _ k => sumc 272 (npar f h) k) := by
  unfold out0_A_5
  rw [View.read_writes_eq_canon _ _ _ (cover0_A_5 c i a1 h1 a2 h2 a3 h3 a4 h4 a5 h5 a6 h6 hc0 _ _ _ _)]
  unfold kernelRun0_A
  dsimp only
  rw [View.canon_cons_unit_zero hz2]
  unfold kernelRun0_A.sl.r kernelRun0_A.sl.v43
  simp only [View.readAt_eq_ld, h2.read_unread, h4.read_unread, View.ld_unit_zero (S := S272x1024) hz2]
  rw [pay_par]
  unfold kernelRun0_A.sl.H5_1
  rw [View.readCov_unit_zero _ hz2]
  exact RmsBwd.add_first _

theorem out_B5 (hc0) : out0_B_5 (F := Ideal) c i a1 h1 a2 h2 a3 h3 a4 h4 a5 h5 a6 h6 hc0 x0 (ar 272 1024 .f32 f) (ar 1 1024 .f32 g) (ar 272 1024 .f32 h) (ar 1 1024 .f32 o) =
    ar 1 1024 .f32 (fun r k => o r k + sumc 272 (npar f h) k) := by
  unfold out0_B_5
  rw [View.read_writes_eq_canon _ _ _ (cover0_B_5 c i a1 h1 a2 h2 a3 h3 a4 h4 a5 h5 a6 h6 hc0 _ _ _ _ _)]
  unfold kernelRun0_B
  dsimp only
  rw [View.canon_unit_zero hz2]
  unfold kernelRun0_B.sl.r
  simp only [View.readAt_eq_ld, h2.read_unread, h4.read_unread, h6.read_unread, View.ld_unit_zero (S := S272x1024) hz2, View.ld_unit_zero (S := S1x1024) hz2]
  rw [pay_par]
  exact RmsBwd.add_more _ _
end

section
variable (m : (ℓ : Loc nD τ sig) → Buf (Elt Ideal) ℓ) (c : Dev nD) (x g d : ℕ → ℕ → EReal)
variable (hx : m ((c : Thread nD τ).loc main_arg1) = ar 2064 1024 .f32 x) (hg : m ((c : Thread nD τ).loc main_arg2) = ar 1 1024 .f32 g)
variable (hd : m ((c : Thread nD τ).loc main_arg3) = ar 2064 1024 .f32 d)

include hx in
theorem host_x : V m c main_v1 = ar 2176 1024 .f32 (rows 2064 x) := by
  unfold V
  after_reads_simp
  rw [hx]
  exact pad_ar (φ := .f32) _ h_S_ (zero_pad _ _ rfl) pads_S2064x1024_S2176x1024_01120_000

include hd in
theorem host_d : V m c main_v2 = ar 2176 1024 .f32 (rows 2064 d) := by
  unfold V
  after_reads_simp
  rw [hd]
  exact pad_ar (φ := .f32) _ h_S_ (zero_pad _ _ rfl) pads_S2064x1024_S2176x1024_01120_000

include hx in
theorem iblk_x (t : Fin cfg0.N) : iblk m c 1 t = ar 272 1024 .f32 (at_ (t.val * 272) (rows 2064 x)) := by
  funext y
  blk_simp [iblk, ix_1]
  rw [host_x m c x hx]
  show rows 2064 x ((((cfg0.win 1).blk t).view.emb y) 0).val ((((cfg0.win 1).blk t).view.emb y) 1).val = rows 2064 x (t.val * 272 + (y 0).val) (y 1).val
  blk_simp [ix_1]

include hd in
theorem iblk_d (t : Fin cfg0.N) : iblk m c 3 t = ar 272 1024 .f32 (at_ (t.val * 272) (rows 2064 d)) := by
  funext y
  blk_simp [iblk, ix_3]
  rw [host_d m c d hd]
  show rows 2064 d ((((cfg0.win 3).blk t).view.emb y) 0).val ((((cfg0.win 3).blk t).view.emb y) 1).val = rows 2064 d (t.val * 272 + (y 0).val) (y 1).val
  blk_simp [ix_3]

include hg in
theorem iblk_g (t : Fin cfg0.N) : iblk m c 2 t = ar 1 1024 .f32 g := by
  funext y
  blk_simp [iblk, ix_2]
  rw [V_main_arg2, hg]
  show g ((((cfg0.win 2).blk t).view.emb y) 0).val ((((cfg0.win 2).blk t).view.emb y) 1).val = g (y 0).val (y 1).val
  blk_simp [ix_2]

include hx hg hd in
theorem outs (n : ℕ) (hn : n < cfg0.N) : outsAt0 m c n hn =
    (ar 272 1024 .bf16 (nrow (at_ (n * 272) (rows 2064 x)) g (at_ (n * 272) (rows 2064 d))), ar 1 1024 .f32 (fun _ => accu 2064 272 (npar x d) n)) := by
  induction n with
  | zero =>
    rw [outsAt0_A m c ⟨0, hn⟩ rfl, iblk_x m c x hx, iblk_g m c g hg, iblk_d m c d hd, out_A4, out_A5]
    exact congrArg (Prod.mk _) (ar_congr fun r k _ _ => (npar_sum x d 2064 272 0 k).trans (accu_first 2064 272 (npar x d) k))
  | succ n ih =>
    have h0 : ¬ (n + 1) % 8 = 0 := by have : n + 1 < 8 := hn; omega
    rw [outsAt0_B m c ⟨n + 1, hn⟩ h0, iblk_x m c x hx, iblk_g m c g hg, iblk_d m c d hd]
    rw [show outsAt0 m c ((⟨n + 1, hn⟩ : Fin cfg0.N).val - 1) _ = _ from ih _, out_B4, out_B5]
    exact congrArg (Prod.mk _) (ar_congr fun r k _ _ => (congrArg (_ + ·) (npar_sum x d 2064 272 (n + 1) k)).trans (accu_next 2064 272 (npar x d) n k))

include hx hg hd in
theorem arr_4 : (dats m 0 c).arrAt 4 cfg0.N = ar 2176 1024 .bf16 (rows 2064 (nrow x g d)) := by
  refine Dat.arrAt_eq_of_covers (dats m 0 c) 4 _ (by decide +kernel) fun t hf y => ?_
  blk_simp
  rw [after0_4, outs m c x g d hx hg hd]
  show nrow (at_ (t.val * 272) (rows 2064 x)) g (at_ (t.val * 272) (rows 2064 d)) (y 0).val (y 1).val =
    rows 2064 (nrow x g d) ((((cfg0.win 4).blk t).view.emb y) 0).val ((((cfg0.win 4).blk t).view.emb y) 1).val
  blk_simp [ix_4]
  exact nrow_rows x g d 2064 _ _ _

include hx hg hd in
theorem arr_5 : (dats m 0 c).arrAt 5 cfg0.N = ar 1 1024 .f32 (fun _ => sumc 2064 (npar x d)) := by
  refine Dat.arrAt_eq_of_covers (dats m 0 c) 5 _ (by decide +kernel) fun t hf y => ?_
  blk_simp
  rw [after0_5, outs m c x g d hx hg hd]
  show accu 2064 272 (npar x d) t.val (y 1).val = sumc 2064 (npar x d) ((((cfg0.win 5).blk t).view.emb y) 1).val
  blk_simp [ix_5]
  rw [last_5 t hf]
  exact accu_last 2064 272 7 112 rfl _ _
end

section
open Cert.ResBwdRefIdeal.Read
variable (x g d : ℕ → ℕ → EReal)
theorem ref_rows : val_main_v40 (F := Ideal) (ar 2064 1024 .f32 x) (ar 1 1024 .f32 g) (ar 2064 1024 .f32 d) = ar 2176 1024 .bf16 (rows 2064 (nrow x g d)) := by
  have b1 : val_main_v22 (F := Ideal) (ar 1 1024 .f32 g) (ar 2064 1024 .f32 d) = _ := RmsBwd.ref_by g d
  have c1 : val_main_v33 (F := Ideal) (ar 2064 1024 .f32 x) (ar 1 1024 .f32 g) (ar 2064 1024 .f32 d) = _ := RmsBwd.ref_cf x g d
  have r1 : val_main_v8 (F := Ideal) (ar 2064 1024 .f32 x) = _ := RmsBwd.ref_rt x
  have e1 : val_main_v39 (F := Ideal) (ar 2064 1024 .f32 x) (ar 1 1024 .f32 g) (ar 2064 1024 .f32 d) = ar 2064 1024 .bf16 (nrow x g d) := by
    unfold val_main_v39 val_main_v37 val_main_v36 val_main_v35 val_main_v34 val_main_v28 val_main_v27
    rw [c1, b1, r1, bi_r]
    rfl
  unfold val_main_v40
  rw [e1]
  exact pad_ar (φ := .bf16) _ Cert.ResBwdRefIdeal.Gen.facts.h_S_ (zero_pad val_main_c _ rfl) Cert.ResBwdRefIdeal.Gen.facts.pads_S2064x1024_S2176x1024_01120_000
theorem ref_sum : val_main_v38 (F := Ideal) (ar 2064 1024 .f32 x) (ar 2064 1024 .f32 d) = ar 1 1024 .f32 (fun _ => sumc 2064 (npar x d)) := RmsBwd.ref_sum x d
end

theorem same : @Cert.algebraic_ResBwdIdeal_ResBwdRefIdeal Cert.ResBwdIdeal.Gen.facts Cert.ResBwdRefIdeal.Gen.facts := by
  intro m g m' g' _ hag
  refine ⟨_, _, Cert.ResBwdIdeal.Value.run_blocks m g, (θ_run _ _ _).mono ?_ (Cert.ResBwdRefIdeal.Value.run m' g')⟩
  intro r h c
  obtain ⟨r0, r1, ra⟩ := h c
  obtain ⟨a0, a1, a2, a3⟩ := hag c
  obtain ⟨x, hx⟩ := ar_of (a := 2064) (b := 1024) (φ := .f32) (m ((c : Thread nD τ).loc main_arg1))
  obtain ⟨w, hw⟩ := ar_of (a := 1) (b := 1024) (φ := .f32) (m ((c : Thread nD τ).loc main_arg2))
  obtain ⟨d, hd⟩ := ar_of (a := 2064) (b := 1024) (φ := .f32) (m ((c : Thread nD τ).loc main_arg3))
  refine ⟨(r0.trans (Cert.ResBwdRefIdeal.Read.val_main_v40_eq m' c)).trans ?_, (r1.trans (Cert.ResBwdRefIdeal.Read.val_main_v38_eq _ _)).trans ?_, ra⟩
  · rw [a1, a2, a3, hx, hw, hd]
    exact (ref_rows x w d).trans (arr_4 m c x w d hx hw hd).symm
  · rw [a1, a3, hx, hd]
    exact (ref_sum x d).trans (arr_5 m c x w d hx hw hd).symm
end

open Cert.ResBwdRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2, sem_eq_zero_of_no_sems (by decide) r.2⟩) (Value.run m g)
end Cert.Prod.ResBwd
end
-- ==== Proof.ProdPostBwd.lean ====
module

public import proofs.«01_k».proof.Proof.ProdRmsBwd
public import proofs.«01_k».proof.Proof.Gen.PostBwdIdeal.Value
public import proofs.«01_k».proof.Proof.Gen.PostBwdRefIdeal.Run
public import proofs.«01_k».proof.Proof.Gen.PostBwdRefIdeal.Read

/- The gradient of the layer norm and the activation after the convolution. -/
@[expose] public section
set_option maxRecDepth 16384
noncomputable section
namespace Cert.Prod.PostBwd
open Cert.Row Idealize.ShloMosaic Idealize.ShloMosaic.TcCoe Idealize.ShloMosaic.Pipeline Idealize.SL.Sem

/-- The number of columns, and the mean of a row. -/
def cols : EReal := Ideal.ofBits .f32 0x44800000#32
def mean (s : ℕ → EReal) : EReal := Ideal.div (∑ k ∈ Finset.range 1024, s k) cols
/- Of one row: `x` the row, `b` what is added to it, `g` and `c` the scale and the shift of the layer norm, `d` the row's cotangent. -/
section
variable (x b g c d : ℕ → EReal)
/-- The row less its mean, its variance, the inverse root of that and the slope of the inverse root, and the layer norm before and after its scale. -/
def cen (k : ℕ) : EReal := (x k + b k) - mean fun k => x k + b k
def vr : EReal := (mean fun k => cen x b k * cen x b k) + Ideal.ofBits .f32 0x3727C5AC#32
def irt : EReal := Ideal.rsqrt (vr x b)
def isl : EReal := Ideal.ofBits .f32 0xBF000000#32 * Ideal.div (irt x b) (vr x b)
def nm (k : ℕ) : EReal := cen x b k * irt x b
def ln (k : ℕ) : EReal := nm x b k * g k + c k
/-- The gradients before the activation, through the norm with the mean held, and of the row. -/
def dln (k : ℕ) : EReal := d k * Ideal.logistic (ln x b g c k) + ln x b g c k * d k * (Ideal.logistic (ln x b g c k) * (1 - Ideal.logistic (ln x b g c k)))
def dot : EReal := ∑ k ∈ Finset.range 1024, cen x b k * (dln x b g c d k * g k)
def co : EReal := ∑ _k ∈ Finset.range 1, Ideal.div (dot x b g c d * isl x b) cols
def dcen (k : ℕ) : EReal := dln x b g c d k * g k * irt x b + cen x b k * co x b g c d + co x b g c d * cen x b k
def dmean : EReal := ∑ _k ∈ Finset.range 1, mean fun k => -dcen x b g c d k
def dx (k : ℕ) : EReal := dcen x b g c d k + dmean x b g c d
def dg (k : ℕ) : EReal := nm x b k * dln x b g c d k

theorem cols_ne : cols ≠ 0 := by
  unfold cols
  simp [Ideal.ofBits, Ideal.ieee]
theorem div_zero_cols : Ideal.div 0 cols = 0 := by
  unfold Ideal.div
  rw [if_neg cols_ne, zero_mul]
/-- Without a cotangent the gradients are zero. -/
theorem dln_zero : dln x b g c (fun _ => 0) = fun _ => 0 :=
  funext fun k => by simp [dln]
theorem co_zero : co x b g c (fun _ => 0) = 0 := by
  simp [co, dot, dln_zero, div_zero_cols]
theorem dcen_zero : dcen x b g c (fun _ => 0) = fun _ => 0 :=
  funext fun k => by simp [dcen, co_zero, dln_zero]
theorem dx_zero : dx x b g c (fun _ => 0) = fun _ => 0 :=
  funext fun k => by simp [dx, dmean, mean, dcen_zero, div_zero_cols]
theorem dg_zero : dg x b g c (fun _ => 0) = fun _ => 0 :=
  funext fun k => by simp [dg, dln_zero]
end

/-- A function of a row of two matrices, row by row; a function zero without a cotangent ignores the added rows. -/
def each (φ : (ℕ → EReal) → (ℕ → EReal) → ℕ → EReal) (x d : ℕ → ℕ → EReal) (r : ℕ) : ℕ → EReal := φ (x r) (d r)
theorem each_rows (φ : (ℕ → EReal) → (ℕ → EReal) → ℕ → EReal) (h : ∀ x, φ x (fun _ => 0) = fun _ => 0) (x d : ℕ → ℕ → EReal) (n o : ℕ) :
    each φ (at_ o (rows n x)) (at_ o (rows n d)) = at_ o (rows n (each φ x d)) := by
  funext r
  by_cases hr : o + r < n
  · have e (f : ℕ → ℕ → EReal) : at_ o (rows n f) r = f (o + r) := funext fun k => if_pos hr
    unfold each
    rw [e, e, e]
  · have e (f : ℕ → ℕ → EReal) : at_ o (rows n f) r = fun _ => 0 := funext fun k => if_neg hr
    unfold each
    rw [e d, e, h, e]

/-- The three gradients of a matrix: of its rows, of the scale and of the layer norm, row by row. -/
def gx (b g w x d : ℕ → ℕ → EReal) : ℕ → ℕ → EReal := each (fun x d => dx x (b 0) (g 0) (w 0) d) x d
def gg (b g w x d : ℕ → ℕ → EReal) : ℕ → ℕ → EReal := each (fun x d => dg x (b 0) (g 0) (w 0) d) x d
def gl (b g w x d : ℕ → ℕ → EReal) : ℕ → ℕ → EReal := each (fun x d => dln x (b 0) (g 0) (w 0) d) x d
section
variable (b g w x d : ℕ → ℕ → EReal) (n o : ℕ)
theorem gx_rows : gx b g w (at_ o (rows n x)) (at_ o (rows n d)) = at_ o (rows n (gx b g w x d)) := each_rows _ (fun x => dx_zero x (b 0) (g 0) (w 0)) x d n o
theorem gg_rows : gg b g w (at_ o (rows n x)) (at_ o (rows n d)) = at_ o (rows n (gg b g w x d)) := each_rows _ (fun x => dg_zero x (b 0) (g 0) (w 0)) x d n o
theorem gl_rows : gl b g w (at_ o (rows n x)) (at_ o (rows n d)) = at_ o (rows n (gl b g w x d)) := each_rows _ (fun x => dln_zero x (b 0) (g 0) (w 0)) x d n o
end

section
open Cert.PostBwdIdeal Cert.PostBwdIdeal.Gen
theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![0, 0] := by decide +kernel
theorem ix_3 : ∀ t : Fin cfg0.N, win0_3.index t = ![0, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![0, 0] := by decide +kernel
theorem ix_7 : ∀ t : Fin cfg0.N, win0_7.index t = ![0, 0] := by decide +kernel
theorem ix_8 : ∀ t : Fin cfg0.N, win0_8.index t = ![0, 0] := by decide +kernel
theorem last_6 : ∀ t : Fin cfg0.N, (cfg0.win 6).flush t = true → t.val = 7 := by decide +kernel
theorem last_7 : ∀ t : Fin cfg0.N, (cfg0.win 7).flush t = true → t.val = 7 := by decide +kernel
theorem last_8 : ∀ t : Fin cfg0.N, (cfg0.win 8).flush t = true → t.val = 7 := by decide +kernel

section
variable (f b g w d o p q : ℕ → ℕ → EReal)
theorem pay_cen : k0_pay3 (F := Ideal) (ar 272 1024 .f32 f) (ar 1 1024 .f32 b) = ar 272 1024 .f32 (fun r => cen (f r) (b 0)) := by
  unfold k0_pay3
  rw [shapeCast_self, bt_c]
  dsimp only
  have e : addf (F := Ideal) (ar 272 1024 .f32 f) (ar 272 1024 .f32 fun _ k => b 0 k) = ar 272 1024 .f32 (fun r k => f r k + b 0 k) := rfl
  rw [e]
  erw [red_r]
  rw [cast_r]
  have e : divf (F := Ideal) (ar 272 1 .f32 fun r _ => sumr 1024 (fun r k => f r k + b 0 k) r) (broadcast S272x1 (Scalar.ofBits .f32 0x44800000#32)) =
    ar 272 1 .f32 (fun r _ => mean fun k => f r k + b 0 k) := rfl
  rw [e, bt_r]
  rfl
theorem pay_vr : k0_pay4 (F := Ideal) (ar 272 1024 .f32 f) (ar 1 1024 .f32 b) = ar 272 1 .f32 (fun r _ => vr (f r) (b 0)) := by
  unfold k0_pay4
  rw [pay_cen]
  dsimp only
  have e : mulf (F := Ideal) (ar 272 1024 .f32 fun r => cen (f r) (b 0)) (ar 272 1024 .f32 fun r => cen (f r) (b 0)) = ar 272 1024 .f32 (fun r k => cen (f r) (b 0) k * cen (f r) (b 0) k) := rfl
  rw [e]
  erw [red_r]
  rw [cast_r]
  rfl
theorem pay_irt : k0_pay5 (F := Ideal) (ar 272 1024 .f32 f) (ar 1 1024 .f32 b) = ar 272 1 .f32 (fun r _ => irt (f r) (b 0)) := by
  unfold k0_pay5
  rw [pay_vr]
  rfl
theorem pay_isl : k0_pay6 (F := Ideal) (ar 272 1024 .f32 f) (ar 1 1024 .f32 b) = ar 272 1 .f32 (fun r _ => isl (f r) (b 0)) := by
  unfold k0_pay6
  rw [pay_vr, pay_irt]
  rfl
theorem pay_nm : k0_pay7 (F := Ideal) (ar 272 1024 .f32 f) (ar 1 1024 .f32 b) = ar 272 1024 .f32 (fun r => nm (f r) (b 0)) := by
  unfold k0_pay7
  rw [pay_cen, pay_irt, bt_r]
  rfl
theorem pay_dln : k0_pay8 (F := Ideal) (ar 272 1024 .f32 f) (ar 1 1024 .f32 b) (ar 1 1024 .f32 g) (ar 1 1024 .f32 w) (ar 272 1024 .f32 d) =
    ar 272 1024 .f32 (fun r => dln (f r) (b 0) (g 0) (w 0) (d r)) := by
  unfold k0_pay8
  rw [pay_nm, shapeCast_self, bt_c, bt_c]
  show ar 272 1024 .f32 (fun r k => d r k * Ideal.logistic (ln (f r) (b 0) (g 0) (w 0) k) +
    ln (f r) (b 0) (g 0) (w 0) k * d r k * (Ideal.logistic (ln (f r) (b 0) (g 0) (w 0) k) * (Ideal.ofBits .f32 0x3F800000#32 - Ideal.logistic (ln (f r) (b 0) (g 0) (w 0) k)))) = _
  rw [one_eq]
  rfl
/-- The gradient of the rows, of the parts kept for it. -/
theorem pay_dx : k0_pay12 (F := Ideal) (ar 1 1024 .f32 g) (ar 272 1024 .f32 fun r => cen (f r) (b 0)) (ar 272 1 .f32 fun r _ => irt (f r) (b 0)) (ar 272 1 .f32 fun r _ => isl (f r) (b 0))
    (ar 272 1024 .f32 fun r => dln (f r) (b 0) (g 0) (w 0) (d r)) = ar 272 1024 .f32 (fun r => dx (f r) (b 0) (g 0) (w 0) (d r)) := by
  unfold k0_pay12
  dsimp only
  rw [bt_c, bt_r]
  have e : mulf (F := Ideal) (ar 272 1024 .f32 fun r => cen (f r) (b 0)) (mulf (ar 272 1024 .f32 fun r => dln (f r) (b 0) (g 0) (w 0) (d r)) (ar 272 1024 .f32 fun _ k => g 0 k)) =
    ar 272 1024 .f32 (fun r k => cen (f r) (b 0) k * (dln (f r) (b 0) (g 0) (w 0) (d r) k * g 0 k)) := rfl
  rw [e]
  erw [red_r]
  rw [cast_r]
  have e : divf (F := Ideal) (mulf (ar 272 1 .f32 fun r _ => sumr 1024 (fun r k => cen (f r) (b 0) k * (dln (f r) (b 0) (g 0) (w 0) (d r) k * g 0 k)) r) (ar 272 1 .f32 fun r _ => isl (f r) (b 0)))
    (broadcast S272x1 (Scalar.ofBits .f32 0x44800000#32)) = ar 272 1 .f32 (fun r _ => Ideal.div (dot (f r) (b 0) (g 0) (w 0) (d r) * isl (f r) (b 0)) cols) := rfl
  rw [e]
  erw [red_r]
  rw [cast_r, bt_r]
  have e : addf (F := Ideal) (addf (mulf (mulf (ar 272 1024 .f32 fun r => dln (f r) (b 0) (g 0) (w 0) (d r)) (ar 272 1024 .f32 fun _ k => g 0 k)) (ar 272 1024 .f32 fun r _ => irt (f r) (b 0)))
    (mulf (ar 272 1024 .f32 fun r => cen (f r) (b 0)) (ar 272 1024 .f32 fun r _ => sumr 1 (fun r _ => Ideal.div (dot (f r) (b 0) (g 0) (w 0) (d r) * isl (f r) (b 0)) cols) r)))
    (mulf (ar 272 1024 .f32 fun r _ => sumr 1 (fun r _ => Ideal.div (dot (f r) (b 0) (g 0) (w 0) (d r) * isl (f r) (b 0)) cols) r) (ar 272 1024 .f32 fun r => cen (f r) (b 0))) =
    ar 272 1024 .f32 (fun r => dcen (f r) (b 0) (g 0) (w 0) (d r)) := rfl
  rw [e]
  have e : subf (F := Ideal) (broadcast S272x1024 (Scalar.ofBits .f32 0x00000000#32)) (ar 272 1024 .f32 fun r => dcen (f r) (b 0) (g 0) (w 0) (d r)) =
      ar 272 1024 .f32 (fun r k => -dcen (f r) (b 0) (g 0) (w 0) (d r) k) :=
    funext fun j => (congrArg (· - _) Ideal.ofBits_zero_f32).trans (zero_sub _)
  rw [e]
  erw [red_r]
  rw [cast_r]
  have e : divf (F := Ideal) (ar 272 1 .f32 fun r _ => sumr 1024 (fun r k => -dcen (f r) (b 0) (g 0) (w 0) (d r) k) r) (broadcast S272x1 (Scalar.ofBits .f32 0x44800000#32)) =
    ar 272 1 .f32 (fun r _ => mean fun k => -dcen (f r) (b 0) (g 0) (w 0) (d r) k) := rfl
  rw [e]
  erw [red_r]
  rw [cast_r, bt_r]
  rfl
theorem pay_db (v : _) : k0_pay16 (F := Ideal) (ar 1 1024 .f32 g) (ar 272 1024 .f32 fun r => cen (f r) (b 0)) (ar 272 1 .f32 fun r _ => irt (f r) (b 0)) (ar 272 1 .f32 fun r _ => isl (f r) (b 0))
    (ar 272 1024 .f32 fun r => dln (f r) (b 0) (g 0) (w 0) (d r)) v = k0_pay1 (F := Ideal) (ar 1 1024 .f32 fun _ => sumc 272 (fun r => dx (f r) (b 0) (g 0) (w 0) (d r))) v := by
  unfold k0_pay16 k0_pay1
  dsimp only
  rw [pay_dx]
  erw [red_c]
  rw [cast_c]
theorem pay_dg : k0_pay11 (F := Ideal) (ar 272 1024 .f32 fun r => nm (f r) (b 0)) (ar 272 1024 .f32 fun r => dln (f r) (b 0) (g 0) (w 0) (d r)) =
    ar 1 1024 .f32 (fun _ => sumc 272 (fun r => dg (f r) (b 0) (g 0) (w 0) (d r))) := by
  unfold k0_pay11
  dsimp only
  have e : mulf (F := Ideal) (ar 272 1024 .f32 fun r => nm (f r) (b 0)) (ar 272 1024 .f32 fun r => dln (f r) (b 0) (g 0) (w 0) (d r)) = ar 272 1024 .f32 (fun r => dg (f r) (b 0) (g 0) (w 0) (d r)) := rfl
  rw [e]
  erw [red_c]
  rw [cast_c]
theorem pay_dc : k0_pay10 (F := Ideal) (k0_pay9 (F := Ideal) (ar 272 1024 .f32 f) (ar 1 1024 .f32 b) (ar 1 1024 .f32 g) (ar 1 1024 .f32 w) (ar 272 1024 .f32 d)) =
    ar 1 1024 .f32 (fun _ => sumc 272 (fun r => dln (f r) (b 0) (g 0) (w 0) (d r))) := by
  unfold k0_pay10 k0_pay9
  dsimp only
  rw [pay_dln]
  erw [red_c]
  rw [cast_c]
theorem add_first : k0_pay1 (F := Ideal) (ar 1 1024 .f32 p) (k0_pay14 (F := Ideal)) = ar 1 1024 .f32 p := RmsBwd.add_first p
theorem add_more : k0_pay1 (F := Ideal) (ar 1 1024 .f32 p) (ar 1 1024 .f32 o) = ar 1 1024 .f32 (fun r k => o r k + p r k) := RmsBwd.add_more p o

variable (c : Dev nD) (i : grid0.Coords) (a1 : _) (h1 : _) (a2 : _) (h2 : _) (a3 : _) (h3 : _) (a4 : _) (h4 : _) (a5 : _) (h5 : _) (a6 : _) (h6 : _) (a7 : _) (h7 : _)
  (a8 : _) (h8 : _) (a9 : _) (h9 : _)
theorem out_A5 (hc0) : out0_A_5 (F := Ideal) c i a1 h1 a2 h2 a3 h3 a4 h4 a5 h5 a6 h6 a7 h7 a8 h8 a9 h9 hc0
    (ar 272 1024 .f32 f) (ar 1 1024 .f32 b) (ar 1 1024 .f32 g) (ar 1 1024 .f32 w) (ar 272 1024 .f32 d) = ar 272 1024 .f32 (gx b g w f d) := by
  unfold out0_A_5
  rw [View.read_writes_eq_canon _ _ _ (cover0_A_5 c i a1 h1 a2 h2 a3 h3 a4 h4 a5 h5 a6 h6 a7 h7 a8 h8 a9 h9 hc0 _ _ _ _ _)]
  unfold kernelRun0_A
  dsimp only
  rw [View.canon_unit_zero hz2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, View.readAt_eq_ld, h1.read_unread, h2.read_unread, h3.read_unread, h4.read_unread, h5.read_unread,
    View.ld_unit_zero (S := S272x1024) hz2, View.ld_unit_zero (S := S1x1024) hz2, pay_cen, pay_irt, pay_isl, pay_nm, pay_dln, pay_dx, pay_db, pay_dg, pay_dc]
  rfl
theorem out_B5 (hc0) : out0_B_5 (F := Ideal) c i a1 h1 a2 h2 a3 h3 a4 h4 a5 h5 a6 h6 a7 h7 a8 h8 a9 h9 hc0
    (ar 272 1024 .f32 f) (ar 1 1024 .f32 b) (ar 1 1024 .f32 g) (ar 1 1024 .f32 w) (ar 272 1024 .f32 d) (ar 1 1024 .f32 o) (ar 1 1024 .f32 p) (ar 1 1024 .f32 q) = ar 272 1024 .f32 (gx b g w f d) := by
  unfold out0_B_5
  rw [View.read_writes_eq_canon _ _ _ (cover0_B_5 c i a1 h1 a2 h2 a3 h3 a4 h4 a5 h5 a6 h6 a7 h7 a8 h8 a9 h9 hc0 _ _ _ _ _ _ _ _)]
  unfold kernelRun0_B
  dsimp only
  rw [View.canon_unit_zero hz2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, View.readAt_eq_ld, h1.read_unread, h2.read_unread, h3.read_unread, h4.read_unread, h5.read_unread,
    View.ld_unit_zero (S := S272x1024) hz2, View.ld_unit_zero (S := S1x1024) hz2, pay_cen, pay_irt, pay_isl, pay_nm, pay_dln, pay_dx, pay_db, pay_dg, pay_dc]
  rfl
theorem out_A6 (hc0) : out0_A_6 (F := Ideal) c i a1 h1 a2 h2 a3 h3 a4 h4 a5 h5 a6 h6 a7 h7 a8 h8 a9 h9 hc0
    (ar 272 1024 .f32 f) (ar 1 1024 .f32 b) (ar 1 1024 .f32 g) (ar 1 1024 .f32 w) (ar 272 1024 .f32 d) = ar 1 1024 .f32 (fun _ => sumc 272 (gx b g w f d)) := by
  unfold out0_A_6
  rw [View.read_writes_eq_canon _ _ _ (cover0_A_6 c i a1 h1 a2 h2 a3 h3 a4 h4 a5 h5 a6 h6 a7 h7 a8 h8 a9 h9 hc0 _ _ _ _ _)]
  unfold kernelRun0_A
  dsimp only
  rw [View.canon_cons_unit_zero hz2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, View.readAt_eq_ld, h1.read_unread, h2.read_unread, h3.read_unread, h4.read_unread, h5.read_unread,
    View.ld_unit_zero (S := S272x1024) hz2, View.ld_unit_zero (S := S1x1024) hz2, pay_cen, pay_irt, pay_isl, pay_nm, pay_dln, pay_dx, pay_db, pay_dg, pay_dc]
  unfold kernelRun0_A.sl.v78 kernelRun0_A.sl.H6_1
  rw [View.readCov_unit_zero _ hz2]
  exact add_first _
theorem out_B6 (hc0) : out0_B_6 (F := Ideal) c i a1 h1 a2 h2 a3 h3 a4 h4 a5 h5 a6 h6 a7 h7 a8 h8 a9 h9 hc0
    (ar 272 1024 .f32 f) (ar 1 1024 .f32 b) (ar 1 1024 .f32 g) (ar 1 1024 .f32 w) (ar 272 1024 .f32 d) (ar 1 1024 .f32 o) (ar 1 1024 .f32 p) (ar 1 1024 .f32 q) = ar 1 1024 .f32 (fun r k => o r k + sumc 272 (gx b g w f d) k) := by
  unfold out0_B_6
  rw [View.read_writes_eq_canon _ _ _ (cover0_B_6 c i a1 h1 a2 h2 a3 h3 a4 h4 a5 h5 a6 h6 a7 h7 a8 h8 a9 h9 hc0 _ _ _ _ _ _ _ _)]
  unfold kernelRun0_B
  dsimp only
  rw [View.canon_unit_zero hz2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, View.readAt_eq_ld, h1.read_unread, h2.read_unread, h3.read_unread, h4.read_unread, h5.read_unread, h7.read_unread,
    View.ld_unit_zero (S := S272x1024) hz2, View.ld_unit_zero (S := S1x1024) hz2, pay_cen, pay_irt, pay_isl, pay_nm, pay_dln, pay_dx, pay_db, pay_dg, pay_dc]
  exact add_more _ _
theorem out_A7 (hc0) : out0_A_7 (F := Ideal) c i a1 h1 a2 h2 a3 h3 a4 h4 a5 h5 a6 h6 a7 h7 a8 h8 a9 h9 hc0
    (ar 272 1024 .f32 f) (ar 1 1024 .f32 b) (ar 1 1024 .f32 g) (ar 1 1024 .f32 w) (ar 272 1024 .f32 d) = ar 1 1024 .f32 (fun _ => sumc 272 (gg b g w f d)) := by
  unfold out0_A_7
  rw [View.read_writes_eq_canon _ _ _ (cover0_A_7 c i a1 h1 a2 h2 a3 h3 a4 h4 a5 h5 a6 h6 a7 h7 a8 h8 a9 h9 hc0 _ _ _ _ _)]
  unfold kernelRun0_A
  dsimp only
  rw [View.canon_cons_unit_zero hz2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, View.readAt_eq_ld, h1.read_unread, h2.read_unread, h3.read_unread, h4.read_unread, h5.read_unread,
    View.ld_unit_zero (S := S272x1024) hz2, View.ld_unit_zero (S := S1x1024) hz2, pay_cen, pay_irt, pay_isl, pay_nm, pay_dln, pay_dx, pay_db, pay_dg, pay_dc]
  unfold kernelRun0_A.sl.v82 kernelRun0_A.sl.H7_1
  rw [View.readCov_unit_zero _ hz2]
  exact add_first _
theorem out_B7 (hc0) : out0_B_7 (F := Ideal) c i a1 h1 a2 h2 a3 h3 a4 h4 a5 h5 a6 h6 a7 h7 a8 h8 a9 h9 hc0
    (ar 272 1024 .f32 f) (ar 1 1024 .f32 b) (ar 1 1024 .f32 g) (ar 1 1024 .f32 w) (ar 272 1024 .f32 d) (ar 1 1024 .f32 o) (ar 1 1024 .f32 p) (ar 1 1024 .f32 q) = ar 1 1024 .f32 (fun r k => p r k + sumc 272 (gg b g w f d) k) := by
  unfold out0_B_7
  rw [View.read_writes_eq_canon _ _ _ (cover0_B_7 c i a1 h1 a2 h2 a3 h3 a4 h4 a5 h5 a6 h6 a7 h7 a8 h8 a9 h9 hc0 _ _ _ _ _ _ _ _)]
  unfold kernelRun0_B
  dsimp only
  rw [View.canon_unit_zero hz2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, View.readAt_eq_ld, h1.read_unread, h2.read_unread, h3.read_unread, h4.read_unread, h5.read_unread, h8.read_unread,
    View.ld_unit_zero (S := S272x1024) hz2, View.ld_unit_zero (S := S1x1024) hz2, pay_cen, pay_irt, pay_isl, pay_nm, pay_dln, pay_dx, pay_db, pay_dg, pay_dc]
  exact add_more _ _
theorem out_A8 (hc0) : out0_A_8 (F := Ideal) c i a1 h1 a2 h2 a3 h3 a4 h4 a5 h5 a6 h6 a7 h7 a8 h8 a9 h9 hc0
    (ar 272 1024 .f32 f) (ar 1 1024 .f32 b) (ar 1 1024 .f32 g) (ar 1 1024 .f32 w) (ar 272 1024 .f32 d) = ar 1 1024 .f32 (fun _ => sumc 272 (gl b g w f d)) := by
  unfold out0_A_8
  rw [View.read_writes_eq_canon _ _ _ (cover0_A_8 c i a1 h1 a2 h2 a3 h3 a4 h4 a5 h5 a6 h6 a7 h7 a8 h8 a9 h9 hc0 _ _ _ _ _)]
  unfold kernelRun0_A
  dsimp only
  rw [View.canon_cons_unit_zero hz2]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, View.readAt_eq_ld, h1.read_unread, h2.read_unread, h3.read_unread, h4.read_unread, h5.read_unread,
    View.ld_unit_zero (S := S272x1024) hz2, View.ld_unit_zero (S := S1x1024) hz2, pay_cen, pay_irt, pay_isl, pay_nm, pay_dln, pay_dx, pay_db, pay_dg, pay_dc]
  unfold kernelRun0_A.sl.v86 kernelRun0_A.sl.H8_1
  rw [View.readCov_unit_zero _ hz2]
  exact add_first _
theorem out_B8 (hc0) : out0_B_8 (F := Ideal) c i a1 h1 a2 h2 a3 h3 a4 h4 a5 h5 a6 h6 a7 h7 a8 h8 a9 h9 hc0
    (ar 272 1024 .f32 f) (ar 1 1024 .f32 b) (ar 1 1024 .f32 g) (ar 1 1024 .f32 w) (ar 272 1024 .f32 d) (ar 1 1024 .f32 o) (ar 1 1024 .f32 p) (ar 1 1024 .f32 q) = ar 1 1024 .f32 (fun r k => q r k + sumc 272 (gl b g w f d) k) := by
  unfold out0_B_8
  rw [View.read_writes_eq_canon _ _ _ (cover0_B_8 c i a1 h1 a2 h2 a3 h3 a4 h4 a5 h5 a6 h6 a7 h7 a8 h8 a9 h9 hc0 _ _ _ _ _ _ _ _)]
  unfold kernelRun0_B
  dsimp only
  rw [View.canon_unit_zero hz2]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, View.readAt_eq_ld, h1.read_unread, h2.read_unread, h3.read_unread, h4.read_unread, h5.read_unread, h9.read_unread,
    View.ld_unit_zero (S := S272x1024) hz2, View.ld_unit_zero (S := S1x1024) hz2, pay_cen, pay_irt, pay_isl, pay_nm, pay_dln, pay_dx, pay_db, pay_dg, pay_dc]
  exact add_more _ _
end

section
variable (m : (ℓ : Loc nD τ sig) → Buf (Elt Ideal) ℓ) (c : Dev nD) (x b g w d : ℕ → ℕ → EReal)
variable (hx : m ((c : Thread nD τ).loc main_arg0) = ar 2064 1024 .f32 x) (hb : m ((c : Thread nD τ).loc main_arg1) = ar 1 1024 .f32 b)
variable (hg : m ((c : Thread nD τ).loc main_arg2) = ar 1 1024 .f32 g) (hw : m ((c : Thread nD τ).loc main_arg3) = ar 1 1024 .f32 w)
variable (hd : m ((c : Thread nD τ).loc main_arg4) = ar 2064 1024 .f32 d)

include hx in
theorem host_x : V m c main_v0 = ar 2176 1024 .f32 (rows 2064 x) := by
  unfold V
  after_reads_simp
  rw [hx]
  exact pad_ar (φ := .f32) _ h_S_ (zero_pad _ _ rfl) pads_S2064x1024_S2176x1024_01120_000
include hd in
theorem host_d : V m c main_v1 = ar 2176 1024 .f32 (rows 2064 d) := by
  unfold V
  after_reads_simp
  rw [hd]
  exact pad_ar (φ := .f32) _ h_S_ (zero_pad _ _ rfl) pads_S2064x1024_S2176x1024_01120_000

include hx in
theorem iblk_0 (t : Fin cfg0.N) : iblk m c 0 t = ar 272 1024 .f32 (at_ (t.val * 272) (rows 2064 x)) := by
  funext j
  blk_simp [iblk, ix_0]
  rw [host_x m c x hx]
  show rows 2064 x ((((cfg0.win 0).blk t).view.emb j) 0).val ((((cfg0.win 0).blk t).view.emb j) 1).val = rows 2064 x (t.val * 272 + (j 0).val) (j 1).val
  blk_simp [ix_0]
include hb in
theorem iblk_1 (t : Fin cfg0.N) : iblk m c 1 t = ar 1 1024 .f32 b := by
  funext j
  blk_simp [iblk, ix_1]
  rw [V_main_arg1, hb]
  show b ((((cfg0.win 1).blk t).view.emb j) 0).val ((((cfg0.win 1).blk t).view.emb j) 1).val = b (j 0).val (j 1).val
  blk_simp [ix_1]
include hg in
theorem iblk_2 (t : Fin cfg0.N) : iblk m c 2 t = ar 1 1024 .f32 g := by
  funext j
  blk_simp [iblk, ix_2]
  rw [V_main_arg2, hg]
  show g ((((cfg0.win 2).blk t).view.emb j) 0).val ((((cfg0.win 2).blk t).view.emb j) 1).val = g (j 0).val (j 1).val
  blk_simp [ix_2]
include hw in
theorem iblk_3 (t : Fin cfg0.N) : iblk m c 3 t = ar 1 1024 .f32 w := by
  funext j
  blk_simp [iblk, ix_3]
  rw [V_main_arg3, hw]
  show w ((((cfg0.win 3).blk t).view.emb j) 0).val ((((cfg0.win 3).blk t).view.emb j) 1).val = w (j 0).val (j 1).val
  blk_simp [ix_3]
include hd in
theorem iblk_4 (t : Fin cfg0.N) : iblk m c 4 t = ar 272 1024 .f32 (at_ (t.val * 272) (rows 2064 d)) := by
  funext j
  blk_simp [iblk, ix_4]
  rw [host_d m c d hd]
  show rows 2064 d ((((cfg0.win 4).blk t).view.emb j) 0).val ((((cfg0.win 4).blk t).view.emb j) 1).val = rows 2064 d (t.val * 272 + (j 0).val) (j 1).val
  blk_simp [ix_4]

/-- What the blocks up to the one numbered `n` leave. -/
def left (n : ℕ) : FVec Ideal S272x1024 .f32 × FVec Ideal S1x1024 .f32 × FVec Ideal S1x1024 .f32 × FVec Ideal S1x1024 .f32 :=
  (ar 272 1024 .f32 (at_ (n * 272) (rows 2064 (gx b g w x d))), ar 1 1024 .f32 (fun _ => accu 2064 272 (gx b g w x d) n),
    ar 1 1024 .f32 (fun _ => accu 2064 272 (gg b g w x d) n), ar 1 1024 .f32 (fun _ => accu 2064 272 (gl b g w x d) n))

include hx hb hg hw hd in
theorem outs (n : ℕ) (hn : n < cfg0.N) : outsAt0 m c n hn = left x b g w d n := by
  induction n with
  | zero =>
    rw [outsAt0_A m c ⟨0, hn⟩ rfl, iblk_0 m c x hx, iblk_1 m c b hb, iblk_2 m c g hg, iblk_3 m c w hw, iblk_4 m c d hd, out_A5, out_A6, out_A7, out_A8, gx_rows, gg_rows, gl_rows]
    have f (p : ℕ → ℕ → EReal) : ar 1 1024 .f32 (fun _ => sumc 272 (at_ (0 * 272) (rows 2064 p))) = ar 1 1024 .f32 (fun _ => accu 2064 272 p 0) :=
      ar_congr fun r k _ _ => accu_first 2064 272 p k
    rw [f, f, f]
    rfl
  | succ n ih =>
    have h0 : ¬ (n + 1) % 8 = 0 := by have : n + 1 < 8 := hn; omega
    rw [outsAt0_B m c ⟨n + 1, hn⟩ h0, iblk_0 m c x hx, iblk_1 m c b hb, iblk_2 m c g hg, iblk_3 m c w hw, iblk_4 m c d hd]
    rw [show outsAt0 m c ((⟨n + 1, hn⟩ : Fin cfg0.N).val - 1) _ = _ from ih _]
    unfold left
    rw [out_B5, out_B6, out_B7, out_B8, gx_rows, gg_rows, gl_rows]
    have f (p : ℕ → ℕ → EReal) : ar 1 1024 .f32 (fun _ k => accu 2064 272 p n k + sumc 272 (at_ ((n + 1) * 272) (rows 2064 p)) k) = ar 1 1024 .f32 (fun _ => accu 2064 272 p (n + 1)) :=
      ar_congr fun r k _ _ => accu_next 2064 272 p n k
    rw [f, f, f]

include hx hb hg hw hd in
theorem arr_5 : (dats m 0 c).arrAt 5 cfg0.N = ar 2176 1024 .f32 (rows 2064 (gx b g w x d)) := by
  refine Dat.arrAt_eq_of_covers (dats m 0 c) 5 _ (by decide +kernel) fun t hf j => ?_
  blk_simp
  rw [after0_5, outs m c x b g w d hx hb hg hw hd]
  show rows 2064 (gx b g w x d) (t.val * 272 + (j 0).val) (j 1).val = rows 2064 (gx b g w x d) ((((cfg0.win 5).blk t).view.emb j) 0).val ((((cfg0.win 5).blk t).view.emb j) 1).val
  blk_simp [ix_5]
include hx hb hg hw hd in
theorem arr_6 : (dats m 0 c).arrAt 6 cfg0.N = ar 1 1024 .f32 (fun _ => sumc 2064 (gx b g w x d)) := by
  refine Dat.arrAt_eq_of_covers (dats m 0 c) 6 _ (by decide +kernel) fun t hf j => ?_
  blk_simp
  rw [after0_6, outs m c x b g w d hx hb hg hw hd]
  show accu 2064 272 (gx b g w x d) t.val (j 1).val = sumc 2064 (gx b g w x d) ((((cfg0.win 6).blk t).view.emb j) 1).val
  blk_simp [ix_6]
  rw [last_6 t hf]
  exact accu_last 2064 272 7 112 rfl _ _
include hx hb hg hw hd in
theorem arr_7 : (dats m 0 c).arrAt 7 cfg0.N = ar 1 1024 .f32 (fun _ => sumc 2064 (gg b g w x d)) := by
  refine Dat.arrAt_eq_of_covers (dats m 0 c) 7 _ (by decide +kernel) fun t hf j => ?_
  blk_simp
  rw [after0_7, outs m c x b g w d hx hb hg hw hd]
  show accu 2064 272 (gg b g w x d) t.val (j 1).val = sumc 2064 (gg b g w x d) ((((cfg0.win 7).blk t).view.emb j) 1).val
  blk_simp [ix_7]
  rw [last_7 t hf]
  exact accu_last 2064 272 7 112 rfl _ _
include hx hb hg hw hd in
theorem arr_8 : (dats m 0 c).arrAt 8 cfg0.N = ar 1 1024 .f32 (fun _ => sumc 2064 (gl b g w x d)) := by
  refine Dat.arrAt_eq_of_covers (dats m 0 c) 8 _ (by decide +kernel) fun t hf j => ?_
  blk_simp
  rw [after0_8, outs m c x b g w d hx hb hg hw hd]
  show accu 2064 272 (gl b g w x d) t.val (j 1).val = sumc 2064 (gl b g w x d) ((((cfg0.win 8).blk t).view.emb j) 1).val
  blk_simp [ix_8]
  rw [last_8 t hf]
  exact accu_last 2064 272 7 112 rfl _ _
end

section
open Cert.PostBwdRefIdeal.Read
variable (x b g w d : ℕ → ℕ → EReal)
theorem ref_cen : val_main_v11 (F := Ideal) (ar 2064 1024 .f32 x) (ar 1 1024 .f32 b) = ar 2064 1024 .f32 (fun r => cen (x r) (b 0)) := by
  have e8 : val_main_v8 (F := Ideal) = ar 2064 1 .f32 fun _ _ => cols := fill_ar _ _
  have e3 : val_main_v3 (F := Ideal) (ar 2064 1024 .f32 x) (ar 1 1024 .f32 b) = ar 2064 1024 .f32 (fun r k => x r k + b 0 k) := by
    unfold val_main_v3 val_main_v2 val_main_v1 val_main_v0
    rw [cast_v, bi_vc, bi_c]
    rfl
  have e : Host.divf (F := Ideal) (ar 2064 1 .f32 fun r _ => sumr 1024 (fun r k => x r k + b 0 k) r) (ar 2064 1 .f32 fun _ _ => cols) = ar 2064 1 .f32 (fun r _ => mean fun k => x r k + b 0 k) := rfl
  unfold val_main_v11 val_main_v10 val_main_v9 val_main_v7 val_main_v6
  rw [e3, host_r _ _ Ideal.ofBits_zero_f32 _ (by decide), bi_vr, e8, e, bi_r]
  rfl
theorem ref_vr : val_main_v18 (F := Ideal) (ar 2064 1024 .f32 x) (ar 1 1024 .f32 b) = ar 2064 1 .f32 (fun r _ => vr (x r) (b 0)) := by
  have e15 : val_main_v15 (F := Ideal) = ar 2064 1 .f32 fun _ _ => cols := fill_ar _ _
  have e17 : val_main_v17 (F := Ideal) = ar 2064 1 .f32 fun _ _ => Ideal.ofBits .f32 0x3727C5AC#32 := fill_ar _ _
  have e : mulf (F := Ideal) (ar 2064 1024 .f32 fun r => cen (x r) (b 0)) (ar 2064 1024 .f32 fun r => cen (x r) (b 0)) = ar 2064 1024 .f32 (fun r k => cen (x r) (b 0) k * cen (x r) (b 0) k) := rfl
  unfold val_main_v18 val_main_v16 val_main_v14 val_main_v13 val_main_v12
  rw [ref_cen, e, host_r _ _ Ideal.ofBits_zero_f32 _ (by decide), bi_vr, e15, e17]
  rfl
theorem ref_irt : val_main_v19 (F := Ideal) (ar 2064 1024 .f32 x) (ar 1 1024 .f32 b) = ar 2064 1 .f32 (fun r _ => irt (x r) (b 0)) := by
  unfold val_main_v19
  rw [ref_vr]
  rfl
theorem ref_isl : val_main_v22 (F := Ideal) (ar 2064 1024 .f32 x) (ar 1 1024 .f32 b) = ar 2064 1 .f32 (fun r _ => isl (x r) (b 0)) := by
  have e : val_main_v21 (F := Ideal) = ar 2064 1 .f32 fun _ _ => Ideal.ofBits .f32 0xBF000000#32 := fill_ar _ _
  unfold val_main_v22 val_main_v20
  rw [ref_vr, ref_irt, e]
  rfl
theorem ref_nm : val_main_v24 (F := Ideal) (ar 2064 1024 .f32 x) (ar 1 1024 .f32 b) = ar 2064 1024 .f32 (fun r => nm (x r) (b 0)) := by
  unfold val_main_v24 val_main_v23
  rw [ref_cen, ref_irt, bi_r]
  rfl
theorem ref_ln : val_main_v30 (F := Ideal) (ar 2064 1024 .f32 x) (ar 1 1024 .f32 b) (ar 1 1024 .f32 g) (ar 1 1024 .f32 w) = ar 2064 1024 .f32 (fun r => ln (x r) (b 0) (g 0) (w 0)) := by
  unfold val_main_v30 val_main_v29 val_main_v28 val_main_v27 val_main_v26 val_main_v25 val_main_v5 val_main_v4
  rw [ref_nm, cast_v, cast_v, bi_vc, bi_vc, bi_c, bi_c]
  rfl
theorem ref_sg : val_main_v31_2 (F := Ideal) (ar 2064 1024 .f32 x) (ar 1 1024 .f32 b) (ar 1 1024 .f32 g) (ar 1 1024 .f32 w) =
    ar 2064 1024 .f32 (fun r k => Ideal.logistic (ln (x r) (b 0) (g 0) (w 0) k)) := by
  have e2 : val_main_call0_v2 (F := Ideal) = ar 2064 1024 .f32 fun _ _ => 1 := ones_ar _
  have e4 : val_main_call0_v4 (F := Ideal) = ar 2064 1024 .f32 fun _ _ => 1 := ones_ar _
  unfold val_main_v31_2 val_main_call0_v3 val_main_call0_v1 val_main_call0_v0
  rw [ref_ln, e2, e4]
  rfl
theorem ref_dln : val_main_v32 (F := Ideal) (ar 2064 1024 .f32 x) (ar 1 1024 .f32 b) (ar 1 1024 .f32 g) (ar 1 1024 .f32 w) (ar 2064 1024 .f32 d) =
    ar 2064 1024 .f32 (gl b g w x d) := by
  have e : val_main_call0_v6 (F := Ideal) = ar 2064 1024 .f32 fun _ _ => 1 := ones_ar _
  unfold val_main_v32 val_main_call1_v2 val_main_call1_v1 val_main_call1_v0 val_main_v31_1 val_main_call0_v7
  rw [ref_sg, ref_ln, e]
  rfl
theorem ref_by : val_main_v40 (F := Ideal) (ar 2064 1024 .f32 x) (ar 1 1024 .f32 b) (ar 1 1024 .f32 g) (ar 1 1024 .f32 w) (ar 2064 1024 .f32 d) =
    ar 2064 1024 .f32 (fun r k => dln (x r) (b 0) (g 0) (w 0) (d r) k * g 0 k) := by
  unfold val_main_v40 val_main_v39 val_main_v25 val_main_v4
  rw [ref_dln, cast_v, bi_vc, bi_c]
  rfl
theorem ref_co : val_main_v51 (F := Ideal) (ar 2064 1024 .f32 x) (ar 1 1024 .f32 b) (ar 1 1024 .f32 g) (ar 1 1024 .f32 w) (ar 2064 1024 .f32 d) =
    ar 2064 1024 .f32 (fun r _ => co (x r) (b 0) (g 0) (w 0) (d r)) := by
  have e48 : val_main_v48 (F := Ideal) = ar 2064 1 .f32 fun _ _ => cols := fill_ar _ _
  have e1 : mulf (F := Ideal) (ar 2064 1024 .f32 fun r => cen (x r) (b 0)) (ar 2064 1024 .f32 fun r k => dln (x r) (b 0) (g 0) (w 0) (d r) k * g 0 k) =
    ar 2064 1024 .f32 (fun r k => cen (x r) (b 0) k * (dln (x r) (b 0) (g 0) (w 0) (d r) k * g 0 k)) := rfl
  have e2 : Host.divf (F := Ideal) (mulf (ar 2064 1 .f32 fun r _ => sumr 1024 (fun r k => cen (x r) (b 0) k * (dln (x r) (b 0) (g 0) (w 0) (d r) k * g 0 k)) r) (ar 2064 1 .f32 fun r _ => isl (x r) (b 0)))
    (ar 2064 1 .f32 fun _ _ => cols) = ar 2064 1 .f32 (fun r _ => Ideal.div (dot (x r) (b 0) (g 0) (w 0) (d r) * isl (x r) (b 0)) cols) := rfl
  unfold val_main_v51 val_main_v50 val_main_v49 val_main_v47 val_main_v44 val_main_v43 val_main_v42
  rw [ref_cen, ref_by, e1, host_r _ _ Ideal.ofBits_zero_f32 _ (by decide), cast_r, ref_isl, e48, e2, host_r _ _ Ideal.ofBits_zero_f32 _ (by decide), bi_vr]
  rfl
theorem ref_dcen : val_main_v55 (F := Ideal) (ar 2064 1024 .f32 x) (ar 1 1024 .f32 b) (ar 1 1024 .f32 g) (ar 1 1024 .f32 w) (ar 2064 1024 .f32 d) =
    ar 2064 1024 .f32 (fun r => dcen (x r) (b 0) (g 0) (w 0) (d r)) := by
  unfold val_main_v55 val_main_v54 val_main_v53 val_main_v52 val_main_v46 val_main_v45
  rw [ref_co, ref_cen, ref_by, ref_irt, bi_r]
  rfl
theorem ref_dx : val_main_v63 (F := Ideal) (ar 2064 1024 .f32 x) (ar 1 1024 .f32 b) (ar 1 1024 .f32 g) (ar 1 1024 .f32 w) (ar 2064 1024 .f32 d) =
    ar 2064 1024 .f32 (gx b g w x d) := by
  have e59 : val_main_v59 (F := Ideal) = ar 2064 1 .f32 fun _ _ => cols := fill_ar _ _
  have e1 : Host.negf (F := Ideal) (ar 2064 1024 .f32 fun r => dcen (x r) (b 0) (g 0) (w 0) (d r)) = ar 2064 1024 .f32 (fun r k => -dcen (x r) (b 0) (g 0) (w 0) (d r) k) := rfl
  have e2 : Host.divf (F := Ideal) (ar 2064 1 .f32 fun r _ => sumr 1024 (fun r k => -dcen (x r) (b 0) (g 0) (w 0) (d r) k) r) (ar 2064 1 .f32 fun _ _ => cols) =
    ar 2064 1 .f32 (fun r _ => mean fun k => -dcen (x r) (b 0) (g 0) (w 0) (d r) k) := rfl
  unfold val_main_v63 val_main_v62 val_main_v61 val_main_v60 val_main_v58 val_main_v57 val_main_v56
  rw [ref_dcen, e1, host_r _ _ Ideal.ofBits_zero_f32 _ (by decide), cast_r, e59, e2, host_r _ _ Ideal.ofBits_zero_f32 _ (by decide), bi_vr]
  rfl

theorem ref_5 : val_main_v70 (F := Ideal) (ar 2064 1024 .f32 x) (ar 1 1024 .f32 b) (ar 1 1024 .f32 g) (ar 1 1024 .f32 w) (ar 2064 1024 .f32 d) = ar 2176 1024 .f32 (rows 2064 (gx b g w x d)) := by
  unfold val_main_v70
  rw [ref_dx]
  exact pad_ar (φ := .f32) _ Cert.PostBwdRefIdeal.Gen.facts.h_S_ (zero_pad val_main_c _ rfl) Cert.PostBwdRefIdeal.Gen.facts.pads_S2064x1024_S2176x1024_01120_000
theorem ref_6 : val_main_v69 (F := Ideal) (ar 2064 1024 .f32 x) (ar 1 1024 .f32 b) (ar 1 1024 .f32 g) (ar 1 1024 .f32 w) (ar 2064 1024 .f32 d) = ar 1 1024 .f32 (fun _ => sumc 2064 (gx b g w x d)) := by
  unfold val_main_v69 val_main_v68 val_main_v67 val_main_v66
  rw [ref_dx, host_c _ _ Ideal.ofBits_zero_f32 _ (by decide), cast_c, host_c _ _ Ideal.ofBits_zero_f32 _ (by decide), bi_vc]
  exact ar_congr fun r k _ _ => Finset.sum_range_one _
theorem ref_7 : val_main_v65 (F := Ideal) (ar 2064 1024 .f32 x) (ar 1 1024 .f32 b) (ar 1 1024 .f32 g) (ar 1 1024 .f32 w) (ar 2064 1024 .f32 d) = ar 1 1024 .f32 (fun _ => sumc 2064 (gg b g w x d)) := by
  have e : mulf (F := Ideal) (ar 2064 1024 .f32 fun r => nm (x r) (b 0)) (ar 2064 1024 .f32 (gl b g w x d)) = ar 2064 1024 .f32 (gg b g w x d) := rfl
  unfold val_main_v65 val_main_v41 val_main_v38 val_main_v37 val_main_v36
  rw [ref_nm, ref_dln, e, host_c _ _ Ideal.ofBits_zero_f32 _ (by decide), cast_c, host_c _ _ Ideal.ofBits_zero_f32 _ (by decide), bi_vc]
  exact ar_congr fun r k _ _ => Finset.sum_range_one _
theorem ref_8 : val_main_v64 (F := Ideal) (ar 2064 1024 .f32 x) (ar 1 1024 .f32 b) (ar 1 1024 .f32 g) (ar 1 1024 .f32 w) (ar 2064 1024 .f32 d) = ar 1 1024 .f32 (fun _ => sumc 2064 (gl b g w x d)) := by
  unfold val_main_v64 val_main_v35 val_main_v34 val_main_v33
  rw [ref_dln, host_c _ _ Ideal.ofBits_zero_f32 _ (by decide), cast_c, host_c _ _ Ideal.ofBits_zero_f32 _ (by decide), bi_vc]
  exact ar_congr fun r k _ _ => Finset.sum_range_one _
end

theorem same : @Cert.algebraic_PostBwdIdeal_PostBwdRefIdeal Cert.PostBwdIdeal.Gen.facts Cert.PostBwdRefIdeal.Gen.facts := by
  intro m g m' g' _ hag
  refine ⟨_, _, _, _, Cert.PostBwdIdeal.Value.run_blocks m g, (θ_run _ _ _).mono ?_ (Cert.PostBwdRefIdeal.Value.run m' g')⟩
  intro r h c
  obtain ⟨r0, r1, r2, r3, ra⟩ := h c
  obtain ⟨a0, a1, a2, a3, a4⟩ := hag c
  obtain ⟨x, hx⟩ := ar_of (a := 2064) (b := 1024) (φ := .f32) (m ((c : Thread nD τ).loc main_arg0))
  obtain ⟨b, hb⟩ := ar_of (a := 1) (b := 1024) (φ := .f32) (m ((c : Thread nD τ).loc main_arg1))
  obtain ⟨s, hs⟩ := ar_of (a := 1) (b := 1024) (φ := .f32) (m ((c : Thread nD τ).loc main_arg2))
  obtain ⟨w, hw⟩ := ar_of (a := 1) (b := 1024) (φ := .f32) (m ((c : Thread nD τ).loc main_arg3))
  obtain ⟨d, hd⟩ := ar_of (a := 2064) (b := 1024) (φ := .f32) (m ((c : Thread nD τ).loc main_arg4))
  have e0 := a0.trans hx
  have e1 := a1.trans hb
  have e2 := a2.trans hs
  have e3 := a3.trans hw
  have e4 := a4.trans hd
  refine ⟨(r0.trans (Cert.PostBwdRefIdeal.Read.val_main_v70_eq _)).trans ?_, (r1.trans (Cert.PostBwdRefIdeal.Read.val_main_v69_eq _)).trans ?_,
    (r2.trans (Cert.PostBwdRefIdeal.Read.val_main_v65_eq _)).trans ?_, (r3.trans (Cert.PostBwdRefIdeal.Read.val_main_v64_eq _)).trans ?_, ra⟩
  · show Cert.PostBwdRefIdeal.Read.val_main_v70 (F := Ideal) (m' ((c : Thread nD τ).loc Cert.PostBwdRefIdeal.main_arg0)) (m' ((c : Thread nD τ).loc Cert.PostBwdRefIdeal.main_arg1))
      (m' ((c : Thread nD τ).loc Cert.PostBwdRefIdeal.main_arg2)) (m' ((c : Thread nD τ).loc Cert.PostBwdRefIdeal.main_arg3)) (m' ((c : Thread nD τ).loc Cert.PostBwdRefIdeal.main_arg4)) = _
    rw [e0, e1, e2, e3, e4]
    exact (ref_5 x b s w d).trans (arr_5 m c x b s w d hx hb hs hw hd).symm
  · show Cert.PostBwdRefIdeal.Read.val_main_v69 (F := Ideal) (m' ((c : Thread nD τ).loc Cert.PostBwdRefIdeal.main_arg0)) (m' ((c : Thread nD τ).loc Cert.PostBwdRefIdeal.main_arg1))
      (m' ((c : Thread nD τ).loc Cert.PostBwdRefIdeal.main_arg2)) (m' ((c : Thread nD τ).loc Cert.PostBwdRefIdeal.main_arg3)) (m' ((c : Thread nD τ).loc Cert.PostBwdRefIdeal.main_arg4)) = _
    rw [e0, e1, e2, e3, e4]
    exact (ref_6 x b s w d).trans (arr_6 m c x b s w d hx hb hs hw hd).symm
  · show Cert.PostBwdRefIdeal.Read.val_main_v65 (F := Ideal) (m' ((c : Thread nD τ).loc Cert.PostBwdRefIdeal.main_arg0)) (m' ((c : Thread nD τ).loc Cert.PostBwdRefIdeal.main_arg1))
      (m' ((c : Thread nD τ).loc Cert.PostBwdRefIdeal.main_arg2)) (m' ((c : Thread nD τ).loc Cert.PostBwdRefIdeal.main_arg3)) (m' ((c : Thread nD τ).loc Cert.PostBwdRefIdeal.main_arg4)) = _
    rw [e0, e1, e2, e3, e4]
    exact (ref_7 x b s w d).trans (arr_7 m c x b s w d hx hb hs hw hd).symm
  · show Cert.PostBwdRefIdeal.Read.val_main_v64 (F := Ideal) (m' ((c : Thread nD τ).loc Cert.PostBwdRefIdeal.main_arg0)) (m' ((c : Thread nD τ).loc Cert.PostBwdRefIdeal.main_arg1))
      (m' ((c : Thread nD τ).loc Cert.PostBwdRefIdeal.main_arg2)) (m' ((c : Thread nD τ).loc Cert.PostBwdRefIdeal.main_arg3)) (m' ((c : Thread nD τ).loc Cert.PostBwdRefIdeal.main_arg4)) = _
    rw [e0, e1, e2, e3, e4]
    exact (ref_8 x b s w d).trans (arr_8 m c x b s w d hx hb hs hw hd).symm
end

open Cert.PostBwdRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2.2.2, sem_eq_zero_of_no_sems (by decide) r.2⟩) (Value.run m g)
end Cert.Prod.PostBwd
end
-- ==== Proof.Conv.lean ====
module

public import proofs.«01_k».proof.Proof.Norm
public import Idealize.ShloMosaic.Lib.WritesUnit

/- Matrices shifted by rows: blocks of rows cut, turned and loaded, zero rows before and after, and the sums over the taps. -/
@[expose] public section
noncomputable section
namespace Cert.Row
open Cert.Prod Idealize.ShloMosaic Idealize.ShloMosaic.TcCoe Idealize.SL.Sem

section
variable {a b c n : ℕ} {φ : FTy} {f g : ℕ → ℕ → EReal}

theorem mul_ar : mulf (ar a b φ f) (ar a b φ g) = ar a b φ (fun r k => f r k * g r k) := rfl

theorem cut_r (h : (⟨2, ![a, c]⟩ : Shape).Slices ![n, 0] ⟨2, ![b, c]⟩) :
    extractStridedSlice ⟨2, ![b, c]⟩ ![n, 0] (ar a c φ f) h = ar b c φ (at_ n f) := by
  funext j
  have h1 : (j 1).val < c := (j 1).isLt
  have h0 : n + (j 0).val < a := by
    have := h.2 0
    have e : (j 0).val < b := (j 0).isLt
    change n + b ≤ a at this
    omega
  rw [extractStridedSlice_apply _ _ h j (ix2 ⟨n + (j 0).val, h0⟩ ⟨(j 1).val, h1⟩) (fun i => by
    match i with
    | ⟨0, _⟩ => rfl
    | ⟨1, _⟩ => exact (Nat.zero_add _).symm)]
  rfl

/-- A matrix turned by all its rows but `s`, and a block of rows of it that does not come round. -/
theorem roll_cut (s : ℕ) (z : BitVec 32) (h' : (⟨2, ![a, c]⟩ : Shape).Rotates 0 none) (h : (⟨2, ![a, c]⟩ : Shape).Slices ![n, 0] ⟨2, ![b, c]⟩)
    (hz : z.toNat + s = a) (hs : 0 < s) (hn : n + b + s ≤ a) :
    extractStridedSlice ⟨2, ![b, c]⟩ ![n, 0] (dynamicRotate 0 z none (ar a c φ f) h') h = ar b c φ (at_ (n + s) f) := by
  funext j
  have h1 : (j 1).val < c := (j 1).isLt
  have hb : (j 0).val < b := (j 0).isLt
  have h0 : n + (j 0).val < a := by omega
  rw [extractStridedSlice_apply _ _ h j (ix2 ⟨n + (j 0).val, h0⟩ ⟨(j 1).val, h1⟩) (fun i => by
    match i with
    | ⟨0, _⟩ => rfl
    | ⟨1, _⟩ => exact (Nat.zero_add _).symm)]
  show f ((n + (j 0).val + a - (z.toNat + 0) % a) % a) (j 1).val = f (n + s + (j 0).val) (j 1).val
  rw [Nat.add_zero, Nat.mod_eq_of_lt (show z.toNat < a by omega), show n + (j 0).val + a - z.toNat = n + s + (j 0).val by omega,
    Nat.mod_eq_of_lt (by omega)]

theorem load_r {sig : RefSig} {κ sp} (v : View sig κ sp ⟨2, ![b, c]⟩ .f32) (X : v.ty.Contents (Elt Ideal)) (h : v.read (Elt Ideal) X = ar b c .f32 f)
    (off : Fin 2 → ℕ) (o : ℕ) (ho : off = ![o, 0]) (inb) :
    v.readAt (Elt Ideal) (Rect.unit (s := ⟨2, ![b, c]⟩) off ![a, c] inb).toLoadRect X = ar a c .f32 (at_ o f) := by
  subst ho
  funext x
  refine (congrFun h _).trans ?_
  show f (o + 1 * (x 0).val) (0 + 1 * (x 1).val) = f (o + (x 0).val) (x 1).val
  rw [Nat.one_mul, Nat.one_mul, Nat.zero_add]

/-- `o` zero rows, the `n` rows of a matrix, and zero rows after them. -/
def low (o n : ℕ) (f : ℕ → ℕ → EReal) (r k : ℕ) : EReal := if o ≤ r ∧ r < o + n then f (r - o) k else 0

theorem pad_low {o : ℕ} {hi : Fin 2 → ℕ} {u : Shape} (hu : 0 < u.numel) (h : (⟨2, ![a, c]⟩ : Shape).Pads (![o, 0] : Fin 2 → ℕ) hi ![0, 0] ⟨2, ![b, c]⟩) :
    pad ⟨2, ![b, c]⟩ (![o, 0] : Fin 2 → ℕ) hi ![0, 0] (ar a c .f32 f) (constant (F := Ideal) u .f32 0x00000000#32) h hu = ar b c .f32 (low o a f) := by
  funext j
  rw [pad_apply]
  have c1 : (j 1).val < c := (j 1).isLt
  by_cases hr : o ≤ (j 0).val ∧ (j 0).val < o + a
  · rw [dif_pos (fun i => by
      match i with
      | ⟨0, _⟩ => exact ⟨hr.1, Nat.mod_one _, by show ((j 0).val - o) / 1 < a; rw [Nat.div_one]; omega⟩
      | ⟨1, _⟩ => exact ⟨Nat.zero_le _, Nat.mod_one _, by show ((j 1).val - 0) / 1 < c; rw [Nat.div_one]; exact c1⟩)]
    show f (((j 0).val - o) / 1) (((j 1).val - 0) / 1) = if o ≤ (j 0).val ∧ (j 0).val < o + a then f ((j 0).val - o) (j 1).val else 0
    rw [if_pos hr, Nat.div_one, Nat.div_one, Nat.sub_zero]
  · rw [dif_neg (fun hin => hr (by
      have h0 : ((j 0).val - o) / 1 < a := (hin 0).2.2
      have h1 : o ≤ (j 0).val := (hin 0).1
      rw [Nat.div_one] at h0
      omega))]
    show Ideal.ofBits .f32 0x00000000#32 = if o ≤ (j 0).val ∧ (j 0).val < o + a then f ((j 0).val - o) (j 1).val else 0
    rw [if_neg hr, Ideal.ofBits_zero_f32]

theorem below_ar {h} (hc : c = n + a) : concatenate ⟨2, ![c, b]⟩ 0 [⟨⟨2, ![n, b]⟩, ar n b .f32 fun _ _ => 0⟩, ⟨⟨2, ![a, b]⟩, ar a b .f32 f⟩] h = ar c b .f32 (low n a f) := by
  subst hc
  funext j
  have h0 : (j 0).val < n + a := (j 0).isLt
  rw [concatenate_pair_apply]
  by_cases hk : (j 0).val < n
  · exact (dif_pos hk).trans (if_neg (by omega)).symm
  · exact (dif_neg hk).trans (if_pos ⟨by omega, h0⟩).symm

theorem turn_r : Host.reverse [0] (ar (n + 1) b φ f) = ar (n + 1) b φ (fun r k => f (n - r) k) := by
  funext j
  have h0 : (j 0).val < n + 1 := (j 0).isLt
  show f (n + 1 - ((j 0).val + 1)) (j 1).val = f (n - (j 0).val) (j 1).val
  rw [Nat.add_sub_add_right]

theorem load_3 {sig : RefSig} {κ sp} (v : View sig κ sp ⟨3, ![n, b, c]⟩ .f32) (X : v.ty.Contents (Elt Ideal)) {g : ℕ → ℕ → ℕ → EReal} (h : v.read (Elt Ideal) X = ar3 n b c .f32 g)
    (j : ℕ) (inb) : v.readAt (Elt Ideal) (Rect.unit (s := ⟨3, ![n, b, c]⟩) ![j, 0, 0] ![1, b, c] inb).toLoadRect X = ar3 1 b c .f32 (fun _ => g j) := by
  funext y
  refine (congrFun h _).trans ?_
  have h0 : (y 0).val < 1 := (y 0).isLt
  show g (j + 1 * (y 0).val) (0 + 1 * (y 1).val) (0 + 1 * (y 2).val) = g j (y 1).val (y 2).val
  rw [show (y 0).val = 0 by omega, Nat.mul_zero, Nat.one_mul, Nat.one_mul, Nat.add_zero, Nat.zero_add, Nat.zero_add]

theorem cov_3 {sig : RefSig} {κ sp} (v : View sig κ sp ⟨3, ![n, b, c]⟩ .f32) (L : List (View.Piece (Elt Ideal) ⟨3, ![n, b, c]⟩ .f32)) {g : ℕ → ℕ → ℕ → EReal}
    (h : v.read (Elt Ideal) (v.writes (Elt Ideal) v.junk L) = ar3 n b c .f32 g) (j : ℕ) (inb) :
    v.readCov L (Rect.unit (s := ⟨3, ![n, b, c]⟩) ![j, 0, 0] ![1, b, c] inb).toLoadRect = ar3 1 b c .f32 (fun _ => g j) := load_3 v _ h j inb

/-- The sum of a matrix's blocks of `b` rows. -/
theorem fold_ar (hm : c = n * b) (h1 : (⟨2, ![c, a]⟩ : Shape).ShapeCasts ⟨3, ![n, b, a]⟩) (acc : BitVec φ.bits) (h : (⟨3, ![n, b, a]⟩ : Shape).Reduces [0] ⟨2, ![b, a]⟩)
    (hφ : FKind.Formats φ) (hacc : acc = FKind.add.neutral φ hφ) :
    multiReduction .add [0] ⟨2, ![b, a]⟩ (shapeCast ⟨3, ![n, b, a]⟩ (ar c a φ f) h1) acc h hφ hacc = ar b a φ (fun s k => ∑ q ∈ Finset.range n, f (q * b + s) k) := by
  have e : shapeCast ⟨3, ![n, b, a]⟩ (ar c a φ f) h1 = ar3 n b a φ (fun q s k => f (q * b + s) k) := funext fun j => by
    have h0 : (j 0).val < n := (j 0).isLt
    have h2 : (j 1).val < b := (j 1).isLt
    have hb : (j 0).val * b + (j 1).val < c := by
      have := Nat.mul_le_mul_right b (Nat.succ_le_of_lt h0)
      rw [Nat.succ_mul] at this
      omega
    exact shapeCast_apply _ h1 j (ix2 ⟨(j 0).val * b + (j 1).val, hb⟩ (j 2)) (by
      rw [Shape.rowMajor_val_three, Shape.rowMajor_val_two]; rfl)
  rw [e]
  exact funext fun j => (Ideal.multiReduction_add_single _ _ h hφ hacc j).trans (Fin.sum_univ_eq_sum_range (fun q => f (q * b + (j 0).val) (j 1).val) n)
end

theorem at_zero {f : ℕ → ℕ → EReal} : at_ 0 f = f := funext fun r => funext fun k => congrArg (f · k) (Nat.zero_add r)

/-- A scratch holds a block with zero rows before and after it. -/
theorem scratch {sig : RefSig} {κ sp} (v : View sig κ sp ⟨2, ![2216, 128]⟩ .f32) (X : v.ty.Contents (Elt Ideal)) (d : ℕ → ℕ → EReal) (i1 i2 i3) :
    v.read (Elt Ideal) (v.writes (Elt Ideal) X [⟨Rect.unit (s := ⟨2, ![2216, 128]⟩) ![32, 0] ![2176, 128] i1, ar 2176 128 .f32 d⟩,
      ⟨Rect.unit (s := ⟨2, ![2216, 128]⟩) ![2208, 0] ![8, 128] i2, fun _ => (0 : EReal)⟩, ⟨Rect.unit (s := ⟨2, ![2216, 128]⟩) ![0, 0] ![32, 128] i3, fun _ => (0 : EReal)⟩]) =
      ar 2216 128 .f32 (low 32 2176 d) := by
  funext y
  have hb : (y 0).val < 2216 := (y 0).isLt
  by_cases h : 32 ≤ (y 0).val ∧ (y 0).val < 32 + 2176
  · refine (View.read_writes_cons_rows_of_mem (o := 32) _ _ _ _ _ y (ix2 (n0 := 2176) (n1 := 128) ⟨(y 0).val - 32, by omega⟩ (y 1)) rfl (show (y 0).val = 32 + ((y 0).val - 32) by omega) rfl).trans ?_
    exact (if_pos h).symm
  · refine (View.read_writes_cons_rows_of_not_mem (o := 32) (W := 2176) _ _ _ _ _ y rfl rfl (by omega)).trans (Eq.trans ?_ (if_neg h).symm)
    by_cases h' : (y 0).val < 2208
    · exact (View.read_writes_cons_rows_of_not_mem (o := 2208) (W := 8) _ _ _ _ _ y rfl rfl (Or.inl h')).trans
        (View.read_writes_cons_rows_of_mem (o := 0) _ _ _ _ _ y (ix2 (n0 := 32) (n1 := 128) ⟨(y 0).val, by omega⟩ (y 1)) rfl (Nat.zero_add _).symm rfl)
    · exact View.read_writes_cons_rows_of_mem (o := 2208) _ _ _ _ _ y (ix2 (n0 := 8) (n1 := 128) ⟨(y 0).val - 2208, by omega⟩ (y 1)) rfl (show (y 0).val = 2208 + ((y 0).val - 2208) by omega) rfl

theorem low_two (d : ℕ → ℕ → EReal) : at_ 2 (low 32 2176 d) = low 30 2176 d := by
  funext r k
  unfold at_ low
  by_cases h : 30 ≤ r ∧ r < 30 + 2176
  · rw [if_pos h, if_pos ⟨by omega, by omega⟩, show 2 + r - 32 = r - 30 by omega]
  · rw [if_neg h, if_neg (fun h' => h (by omega))]

/-- The convolution's sum over its taps. -/
def taps (x w : ℕ → ℕ → EReal) (r k : ℕ) : EReal := ∑ j ∈ Finset.range 31, x (r + j) k * w j k
end Cert.Row
end
-- ==== Proof.ProdConvDx.lean ====
module

public import proofs.«01_k».proof.Proof.Conv
public import proofs.«01_k».proof.Proof.Gen.ConvDxIdeal.Value
public import proofs.«01_k».proof.Proof.Gen.ConvDxRefIdeal.Run
public import proofs.«01_k».proof.Proof.Gen.ConvDxRefIdeal.Read

/- The gradient of the convolution for its input. -/
@[expose] public section
set_option maxRecDepth 16384
noncomputable section
namespace Cert.Prod.ConvDx
open Cert.Row Idealize.ShloMosaic Idealize.ShloMosaic.TcCoe Idealize.SL.Sem
open Idealize.ShloMosaic.Pipeline

/-- The taps in the other order. -/
def back (w : ℕ → ℕ → EReal) (j k : ℕ) : EReal := w (30 - j) k
theorem rows_again (o : ℕ) (d : ℕ → ℕ → EReal) : rows 2176 (from_ o (rows 2064 d)) = from_ o (rows 2064 d) := by
  funext r k
  by_cases h : r < 2176
  · exact if_pos h
  · exact (if_neg h).trans (if_neg (by omega)).symm

section
open Cert.ConvDxIdeal Cert.ConvDxIdeal.Gen
variable (x w : ℕ → ℕ → EReal)
variable (𝒱 : Variants) (c : Dev nD) (bd : Option 𝒱.V) (i : grid0.Coords) (a1 : Memref sig .tc .vmem S2176x128 .f32) (h1 : a1.IsWhole)
  (a2 : Memref sig .tc .vmem S31x128 .f32) (h2 : a2.IsWhole) (a3 : Memref sig .tc .vmem S2176x128 .f32) (h3 : a3.IsWhole)
  (a4 : Memref sig .tc .vmem S2216x128 .f32) (h4 : a4.IsWhole) (X2 : BufTy.Contents (Elt Ideal) a2.view.ty) (X4 : BufTy.Contents (Elt Ideal) a4.view.ty)

theorem off_1 : ∀ t : Fin k0_t1_loop.trips, k0_off1 t = ![128 * t.val, 0] := by decide +kernel
theorem off_2 : ∀ t : Fin k0_t1_loop.trips, k0_off2 t = ![128 * t.val, 0] := by decide +kernel

theorem trip (e2 : a2.view.read (Elt Ideal) X2 = ar 31 128 .f32 w) (e4 : a4.view.read (Elt Ideal) X4 = ar 2216 128 .f32 x) (t : Fin k0_t1_loop.trips) :
    tripL_k0_t1 (F := Ideal) 𝒱 c bd i a1 h1 a2 h2 a3 h3 a4 h4 X2 X4 t =
      [⟨Rect.unit (s := S2176x128) (k0_off2 t) S128x128.size (k0_off2_inb t), ar 128 128 .f32 (at_ (128 * t.val) (taps x w))⟩] := by
  unfold tripL_k0_t1 trip_k0_t1
  dsimp only
  sl_unfold_run_names
  have hw (j : ℕ) (inb) : a2.view.readAt (Elt Ideal) (Rect.unit (s := S31x128) ![j, 0] S1x128.size inb).toLoadRect X2 = ar 1 128 .f32 (at_ j w) :=
    load_r a2.view X2 e2 _ j rfl inb
  have hx (inb) : a4.view.readAt (Elt Ideal) (Rect.unit (s := S2216x128) (k0_off1 t) S168x128.size inb).toLoadRect X4 = ar 168 128 .f32 (at_ (128 * t.val) x) :=
    load_r a4.view X4 e4 _ _ (off_1 t) inb
  have z : broadcast S128x128 (Scalar.ofBits (F := Ideal) .f32 0x00000000#32) = ar 128 128 .f32 fun _ _ => 0 := funext fun _ => Ideal.ofBits_zero_f32
  simp only [hw, hx, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21]
  simp (disch := decide) only [shapeCast_self, z, roll_cut 1 167#32, roll_cut 2 166#32, roll_cut 3 165#32, roll_cut 4 164#32, roll_cut 5 163#32,
    roll_cut 6 162#32, roll_cut 7 161#32, cut_r, bt_c, mul_ar, add_ar]
  refine congrArg (fun v : FVec Ideal S128x128 .f32 => [(⟨Rect.unit (s := S2176x128) (k0_off2 t) S128x128.size (k0_off2_inb t), v⟩ : View.Piece (Elt Ideal) S2176x128 .f32)]) (ar_congr fun r k _ _ => ?_)
  have p (n : ℕ) : x (128 * t.val + (n + r)) k = x (128 * t.val + r + n) k := by rw [Nat.add_comm n r, ← Nat.add_assoc]
  simp only [at_, taps, Finset.sum_range_succ, Finset.sum_range_zero, p, Nat.reduceAdd, Nat.add_zero]
  ac_rfl

/-- Every piece that the trips leave is a block of the whole sum. -/
theorem pieces (e2 : a2.view.read (Elt Ideal) X2 = ar 31 128 .f32 w) (e4 : a4.view.read (Elt Ideal) X4 = ar 2216 128 .f32 x) (n : ℕ) (hn : n ≤ k0_t1_loop.trips) :
    ∀ p ∈ pb_k0_t1 (F := Ideal) 𝒱 c bd i a1 h1 a2 h2 a3 h3 a4 h4 X2 X4 n, ∀ y : p.1.shape.Idx, p.2 y = ar 2176 128 .f32 (taps x w) (p.1.emb y) := by
  induction n with
  | zero => intro p hp; exact absurd hp List.not_mem_nil
  | succ n ih =>
    rw [pb_k0_t1_succ 𝒱 c bd i a1 h1 a2 h2 a3 h3 a4 h4 X2 X4 ⟨n, hn⟩, trip x w 𝒱 c bd i a1 h1 a2 h2 a3 h3 a4 h4 X2 X4 e2 e4]
    intro p hp y
    rcases List.mem_cons.mp hp with rfl | hp
    · show taps x w (128 * n + (y 0).val) (y 1).val = taps x w (k0_off2 ⟨n, hn⟩ 0 + 1 * (y 0).val) (k0_off2 ⟨n, hn⟩ 1 + 1 * (y 1).val)
      have h0 : k0_off2 ⟨n, hn⟩ 0 = 128 * n := congrFun (off_2 _) 0
      have h1 : k0_off2 ⟨n, hn⟩ 1 = 0 := congrFun (off_2 _) 1
      simp only [h0, h1, Nat.one_mul, Nat.zero_add]
    · exact ih (Nat.le_of_succ_le hn) p hp y

/-- The scratch holds the block with zero rows after it. -/
theorem scr (d : ℕ → ℕ → EReal) (X1 : a1.view.ty.Contents (Elt Ideal)) (X4 : a4.view.ty.Contents (Elt Ideal)) (e1 : a1.view.read (Elt Ideal) X1 = ar 2176 128 .f32 d) :
    a4.view.read (Elt Ideal) (a4.view.writes (Elt Ideal) X4
      [⟨Rect.unit ![0, 0] S2176x128.size inb_S2216x128_S2176x128_0_0, k0_pay3 (F := Ideal) (a1.view.readAt (Elt Ideal) (Rect.unit ![0, 0] S2176x128.size inb_S2176x128_S2176x128_0_0).toLoadRect X1)⟩,
        ⟨Rect.unit ![2208, 0] S8x128.size inb_S2216x128_S8x128_2208_0, k0_pay2 (F := Ideal)⟩, ⟨Rect.unit ![2176, 0] S32x128.size inb_S2216x128_S32x128_2176_0, k0_pay1 (F := Ideal)⟩]) =
      ar 2216 128 .f32 (rows 2176 d) := by
  funext y
  have hb : (y 0).val < 2216 := (y 0).isLt
  have e0 : (k0_pay1 : FVec Ideal S32x128 .f32) = fun _ => 0 := by
    unfold k0_pay1; dsimp only; rw [shapeCast_self]; funext j; exact Ideal.ofBits_zero_f32
  have e2 : (k0_pay2 : FVec Ideal S8x128 .f32) = fun _ => 0 := by
    unfold k0_pay2; dsimp only; rw [shapeCast_self]; funext j; exact Ideal.ofBits_zero_f32
  rw [show k0_pay3 (F := Ideal) (a1.view.readAt (Elt Ideal) (Rect.unit ![0, 0] S2176x128.size inb_S2176x128_S2176x128_0_0).toLoadRect X1) = ar 2176 128 .f32 (at_ 0 d) by
    unfold k0_pay3; dsimp only; rw [shapeCast_self, shapeCast_self]; exact load_r _ _ e1 _ _ rfl _, e0, e2]
  by_cases h : (y 0).val < 2176
  · refine (View.read_writes_cons_rows_of_mem (o := 0) _ _ _ _ _ y (ix2 (n0 := 2176) (n1 := 128) ⟨(y 0).val, h⟩ (y 1)) rfl (Nat.zero_add _).symm rfl).trans ?_
    show d (0 + (y 0).val) (y 1).val = if (y 0).val < 2176 then d (y 0).val (y 1).val else 0
    rw [if_pos h, Nat.zero_add]
  · refine (View.read_writes_cons_rows_of_not_mem (o := 0) (W := 2176) _ _ _ _ _ y rfl rfl (Or.inr (by omega))).trans (Eq.trans ?_ (if_neg h).symm)
    by_cases h' : (y 0).val < 2208
    · exact (View.read_writes_cons_rows_of_not_mem (o := 2208) (W := 8) _ _ _ _ _ y rfl rfl (Or.inl h')).trans
        (View.read_writes_cons_rows_of_mem (o := 2176) _ _ _ _ _ y (ix2 (n0 := 32) (n1 := 128) ⟨(y 0).val - 2176, by omega⟩ (y 1)) rfl (show (y 0).val = 2176 + ((y 0).val - 2176) by omega) rfl)
    · exact View.read_writes_cons_rows_of_mem (o := 2208) _ _ _ _ _ y (ix2 (n0 := 8) (n1 := 128) ⟨(y 0).val - 2208, by omega⟩ (y 1)) rfl (show (y 0).val = 2208 + ((y 0).val - 2208) by omega) rfl

theorem out (d : ℕ → ℕ → EReal) : out0_A_2 (F := Ideal) c i a1 h1 a2 h2 a3 h3 a4 h4 (ar 2176 128 .f32 d) (ar 31 128 .f32 w) =
    ar 2176 128 .f32 (taps (rows 2176 d) w) := by
  unfold out0_A_2
  rw [View.read_writes_eq_canon _ _ _ (cover0_A_2 c i a1 h1 a2 h2 a3 h3 a4 h4 _ _)]
  funext y
  refine View.canon_apply_of_pieces _ _ ?_ y (cover0_A_2 c i a1 h1 a2 h2 a3 h3 a4 h4 _ _ y)
  unfold kernelRun0_A
  dsimp only
  sl_unfold_run_names
  exact pieces (rows 2176 d) w _ c _ i a1 h1 a2 h2 a3 h3 a4 h4 _ _ (h2.read_unread _) (scr a1 a4 d _ _ (h1.read_unread _)) _ (by decide +kernel)

end

section
open Cert.ConvDxIdeal Cert.ConvDxIdeal.Gen
theorem ix_0 : ∀ t : Fin cfg0.N, win0_0.index t = ![0, t.val] := by decide +kernel
theorem ix_1 : ∀ t : Fin cfg0.N, win0_1.index t = ![0, t.val] := by decide +kernel
theorem ix_2 : ∀ t : Fin cfg0.N, win0_2.index t = ![0, t.val] := by decide +kernel

variable (m : (ℓ : Loc nD τ sig) → Buf (Elt Ideal) ℓ) (c : Dev nD) (d w : ℕ → ℕ → EReal)
variable (hd : m ((c : Thread nD τ).loc main_arg0) = ar 2064 1024 .f32 d) (hw : m ((c : Thread nD τ).loc main_arg1) = ar 31 1024 .f32 w)

include hd in
theorem host_d : V m c main_v0 = ar 2176 1024 .f32 (rows 2064 d) := by
  unfold V
  after_reads_simp
  rw [hd]
  exact pad_ar (φ := .f32) _ h_S_ (zero_pad _ _ rfl) pads_S2064x1024_S2176x1024_01120_000
include hw in
theorem host_w : V m c main_v1 = ar 31 1024 .f32 (back w) := by
  unfold V
  after_reads_simp
  rw [hw]
  exact turn_r

include hd in
theorem iblk_0 (t : Fin cfg0.N) : iblk m c 0 t = ar 2176 128 .f32 (from_ (t.val * 128) (rows 2064 d)) := by
  funext j
  blk_simp [iblk, ix_0]
  rw [host_d m c d hd]
  show rows 2064 d _ _ = rows 2064 d (j 0).val (t.val * 128 + (j 1).val)
  blk_simp [ix_0]
include hw in
theorem iblk_1 (t : Fin cfg0.N) : iblk m c 1 t = ar 31 128 .f32 (from_ (t.val * 128) (back w)) := by
  funext j
  blk_simp [iblk, ix_1]
  rw [host_w m c w hw]
  show back w _ _ = back w (j 0).val (t.val * 128 + (j 1).val)
  blk_simp [ix_1]

include hd hw in
theorem arr : (dats m 0 c).arrAt 2 cfg0.N = ar 2176 1024 .f32 (taps (rows 2064 d) (back w)) := by
  refine Dat.arrAt_eq_of_covers (dats m 0 c) 2 _ (by decide +kernel) fun t hf j => ?_
  blk_simp
  rw [after0_2, outsAt0, iblk_0 m c d hd, iblk_1 m c w hw, out, rows_again]
  show taps (rows 2064 d) (back w) (j 0).val (t.val * 128 + (j 1).val) = taps (rows 2064 d) (back w) ((((cfg0.win 2).blk t).view.emb j) 0).val ((((cfg0.win 2).blk t).view.emb j) 1).val
  blk_simp [ix_2]
end

section
open Cert.ConvDxRefIdeal.Read
variable (d w : ℕ → ℕ → EReal)
theorem low_again (s : ℕ) (hs : s ≤ 30) (u : ℕ → ℕ → EReal) (r k : ℕ) : low s 2064 (fun r k => d r k * u 0 k) (30 + r) k = rows 2064 d (r + (30 - s)) k * u 0 k := by
  unfold low rows
  by_cases h : r + (30 - s) < 2064
  · rw [if_pos ⟨by omega, by omega⟩, if_pos h, show 30 + r - s = r + (30 - s) by omega]
  · rw [if_neg (fun h' => h (by omega)), if_neg h, zero_mul]

theorem ref_sum : val_main_v348 (F := Ideal) (ar 2064 1024 .f32 d) (ar 31 1024 .f32 w) = ar 2064 1024 .f32 (taps (rows 2064 d) (back w)) := by
  have tap (f : ℕ → EReal) : broadcastInDim Cert.ConvDxRefIdeal.S2064x1024 ![0, 1] Cert.ConvDxRefIdeal.Gen.bcast_S1x1024_S2064x1024_0_1
      (broadcastInDim Cert.ConvDxRefIdeal.S1x1024 ![1] Cert.ConvDxRefIdeal.Gen.bcast_S1024_S1x1024_1 (vec 1024 .f32 f)) = ar 2064 1024 .f32 fun _ k => f k := by
    rw [bi_vc, bi_c]
  unfold val_main_v348
  rw [show val_main_v346 (F := Ideal) (ar 2064 1024 .f32 d) (ar 31 1024 .f32 w) = ar 2094 1024 .f32 fun r k =>
      ∑ j ∈ Finset.range 31, low (30 - j) 2064 (fun r k => d r k * at_ (30 - j) w 0 k) r k by
    simp only [
    val_main_v222, val_main_v223, val_main_v5, val_main_v6, val_main_v7, val_main_v13, val_main_v14, val_main_v15, val_main_v20, val_main_v21, val_main_v22, val_main_v27, val_main_v28,
    val_main_v29, val_main_v34, val_main_v35, val_main_v36, val_main_v41, val_main_v42, val_main_v43, val_main_v48, val_main_v49, val_main_v50, val_main_v55, val_main_v56, val_main_v57,
    val_main_v62, val_main_v63, val_main_v64, val_main_v69, val_main_v70, val_main_v71, val_main_v76, val_main_v77, val_main_v78, val_main_v83, val_main_v84, val_main_v85, val_main_v90,
    val_main_v91, val_main_v92, val_main_v97, val_main_v98, val_main_v99, val_main_v104, val_main_v105, val_main_v106, val_main_v111, val_main_v112, val_main_v113, val_main_v118,
    val_main_v119, val_main_v120, val_main_v125, val_main_v126, val_main_v127, val_main_v132, val_main_v133, val_main_v134, val_main_v139, val_main_v140, val_main_v141, val_main_v146,
    val_main_v147, val_main_v148, val_main_v153, val_main_v154, val_main_v155, val_main_v160, val_main_v161, val_main_v162, val_main_v167, val_main_v168, val_main_v169, val_main_v174,
    val_main_v175, val_main_v176, val_main_v181, val_main_v182, val_main_v183, val_main_v188, val_main_v189, val_main_v190, val_main_v195, val_main_v196, val_main_v197, val_main_v202,
    val_main_v203, val_main_v204, val_main_v209, val_main_v210, val_main_v211, val_main_v216, val_main_v217, val_main_v218, val_main_v224, val_main_v225, val_main_v226, val_main_v227,
    val_main_v228, val_main_v229, val_main_v230, val_main_v231, val_main_v232, val_main_v233, val_main_v234, val_main_v235, val_main_v236, val_main_v237, val_main_v238, val_main_v239,
    val_main_v240, val_main_v241, val_main_v242, val_main_v243, val_main_v244, val_main_v245, val_main_v246, val_main_v247, val_main_v248, val_main_v249, val_main_v250, val_main_v251,
    val_main_v252, val_main_v253, val_main_v254, val_main_v255, val_main_v256, val_main_v257, val_main_v258, val_main_v259, val_main_v260, val_main_v261, val_main_v262, val_main_v263,
    val_main_v264, val_main_v265, val_main_v266, val_main_v267, val_main_v268, val_main_v269, val_main_v270, val_main_v271, val_main_v272, val_main_v273, val_main_v274, val_main_v275,
    val_main_v276, val_main_v277, val_main_v278, val_main_v279, val_main_v280, val_main_v281, val_main_v282, val_main_v283, val_main_v284, val_main_v285, val_main_v286, val_main_v287,
    val_main_v288, val_main_v289, val_main_v290, val_main_v291, val_main_v292, val_main_v293, val_main_v294, val_main_v295, val_main_v296, val_main_v297, val_main_v298, val_main_v299,
    val_main_v300, val_main_v301, val_main_v302, val_main_v303, val_main_v304, val_main_v305, val_main_v306, val_main_v307, val_main_v308, val_main_v309, val_main_v310, val_main_v311,
    val_main_v312, val_main_v313, val_main_v314, val_main_v315, val_main_v316, val_main_v317, val_main_v318, val_main_v319, val_main_v320, val_main_v321, val_main_v322, val_main_v323,
    val_main_v324, val_main_v325, val_main_v326, val_main_v327, val_main_v328, val_main_v329, val_main_v330, val_main_v331, val_main_v332, val_main_v333, val_main_v334, val_main_v335,
    val_main_v336, val_main_v337, val_main_v338, val_main_v339, val_main_v340, val_main_v341, val_main_v342, val_main_v343, val_main_v344, val_main_v345, val_main_v346, val_main_cst_3,
    val_main_cst_4, val_main_cst_5, val_main_cst_6, val_main_cst_7, val_main_cst_8, val_main_cst_9, val_main_cst_10, val_main_cst_11, val_main_cst_12, val_main_cst_13, val_main_cst_14,
    val_main_cst_15, val_main_cst_16, val_main_cst_17, val_main_cst_18, val_main_cst_19, val_main_cst_20, val_main_cst_21, val_main_cst_22, val_main_cst_23, val_main_cst_24, val_main_cst_25,
    val_main_cst_26, val_main_cst_27, val_main_cst_28, val_main_cst_29, val_main_cst_30, val_main_cst_31, val_main_cst_32, val_main_cst_33,
      cut_r, cast_v, tap, shapeCast_self, mul_ar, pad_low, add_ar, Finset.sum_range_succ, Finset.sum_range_zero, zero_add, Nat.reduceSub, Nat.sub_zero], cut_r]
  refine ar_congr fun r k _ _ => Finset.sum_congr rfl fun j hj => ?_
  have hj : j < 31 := Finset.mem_range.mp hj
  rw [low_again d (30 - j) (Nat.sub_le _ _) (at_ (30 - j) w), show 30 - (30 - j) = j by omega]
  rfl

theorem ref_out : val_main_v349 (F := Ideal) (ar 2064 1024 .f32 d) (ar 31 1024 .f32 w) = ar 2176 1024 .f32 (taps (rows 2064 d) (back w)) := by
  unfold val_main_v349
  rw [ref_sum]
  refine (pad_ar (φ := .f32) _ Cert.ConvDxRefIdeal.Gen.facts.h_S_ (zero_pad val_main_c _ rfl) Cert.ConvDxRefIdeal.Gen.facts.pads_S2064x1024_S2176x1024_01120_000).trans ?_
  refine ar_congr fun r k _ _ => ?_
  by_cases h : r < 2064
  · exact if_pos h
  · refine (if_neg h).trans (Finset.sum_eq_zero fun j _ => ?_).symm
    rw [show rows 2064 d (r + j) k = 0 from if_neg (by omega), zero_mul]
end

section
open Cert.ConvDxIdeal Cert.ConvDxIdeal.Gen
theorem same : @Cert.algebraic_ConvDxIdeal_ConvDxRefIdeal Cert.ConvDxIdeal.Gen.facts Cert.ConvDxRefIdeal.Gen.facts := by
  intro m g m' g' _ hag
  refine ⟨_, Cert.ConvDxIdeal.Value.run_blocks m g, (θ_run _ _ _).mono ?_ (Cert.ConvDxRefIdeal.Value.run m' g')⟩
  intro r h c
  obtain ⟨r0, ra⟩ := h c
  obtain ⟨a0, a1⟩ := hag c
  obtain ⟨d, hd⟩ := ar_of (a := 2064) (b := 1024) (φ := .f32) (m ((c : Thread nD τ).loc main_arg0))
  obtain ⟨w, hw⟩ := ar_of (a := 31) (b := 1024) (φ := .f32) (m ((c : Thread nD τ).loc main_arg1))
  refine ⟨(r0.trans (Cert.ConvDxRefIdeal.Read.val_main_v349_eq _)).trans ?_, ra⟩
  show Cert.ConvDxRefIdeal.Read.val_main_v349 (F := Ideal) (m' ((c : Thread nD τ).loc Cert.ConvDxRefIdeal.main_arg0)) (m' ((c : Thread nD τ).loc Cert.ConvDxRefIdeal.main_arg1)) = _
  rw [a0, a1, hd, hw]
  exact (ref_out d w).trans (arr m c d w hd hw).symm
end

open Cert.ConvDxRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.ConvDx
end
-- ==== Proof.ConvDwSum.lean ====
module

public import proofs.«01_k».proof.Proof.Conv
public import Idealize.ShloMosaic.Lib.VecWindow
public import proofs.«01_k».proof.Proof.Gen.ConvDwIdeal.Value

/- The convolution's gradient for its taps: the sums that the body keeps, and the rows it returns. -/
@[expose] public section
set_option maxRecDepth 16384
noncomputable section
namespace Cert.Prod.ConvDw
open Cert.Row Idealize.ShloMosaic Idealize.ShloMosaic.TcCoe Idealize.SL.Sem
open Idealize.ShloMosaic.Pipeline

section
open Cert.ConvDwIdeal Cert.ConvDwIdeal.Gen
variable (x d : ℕ → ℕ → EReal) (g : ℕ → ℕ → ℕ → EReal)
variable (𝒱 : Variants) (c : Dev nD) (bd : Option 𝒱.V) (i : grid0.Coords) (a1 : Memref sig .tc .vmem S2176x128 .f32) (h1 : a1.IsWhole)
  (a2 : Memref sig .tc .vmem S2176x128 .f32) (h2 : a2.IsWhole) (a3 : Memref sig .tc .vmem S31x128 .f32) (h3 : a3.IsWhole)
  (a4 : Memref sig .tc .vmem S2216x128 .f32) (h4 : a4.IsWhole) (a5 : Memref sig .tc .vmem S31x8x128 .f32) (h5 : a5.IsWhole)
  (X2 : BufTy.Contents (Elt Ideal) a2.view.ty) (X4 : BufTy.Contents (Elt Ideal) a4.view.ty) (X5 : BufTy.Contents (Elt Ideal) a5.view.ty)

theorem off_1 : ∀ t : Fin k0_t1_loop.trips, k0_off1 t = ![128 * t.val, 0] := by decide +kernel
theorem off_2 : ∀ t : Fin k0_t1_loop.trips, k0_off2 t = ![128 * t.val, 0] := by decide +kernel

/-- What trip `t` adds for tap `j`. -/
def part (t j s k : ℕ) : EReal := ∑ q ∈ Finset.range 16, x (128 * t + (2 + j + (q * 8 + s))) k * d (128 * t + (q * 8 + s)) k
/-- What the trips before `n` leave. -/
def sofar (n j s k : ℕ) : EReal := ∑ t ∈ Finset.range n, part x d t j s k

/-- A piece of writes that agrees with an array. -/
def Good {S : Shape} (G : S.Idx → EReal) (p : View.Piece (Elt Ideal) S .f32) : Prop := ∀ y : p.1.shape.Idx, p.2 y = G (p.1.emb y)

theorem piece (G : ℕ → ℕ → ℕ → EReal) (p : ℕ → ℕ → EReal) (j : ℕ) (inb) (hp : ∀ s k, p s k = G j s k) :
    Good (ar3 31 8 128 .f32 G) ⟨Rect.unit (s := S31x8x128) ![j, 0, 0] S1x8x128.size inb, ar3 1 8 128 .f32 (fun _ => p)⟩ := by
  intro y
  have h0 : (y 0).val < 1 := (y 0).isLt
  show p (y 1).val (y 2).val = G (j + 1 * (y 0).val) (0 + 1 * (y 1).val) (0 + 1 * (y 2).val)
  rw [hp, show (y 0).val = 0 by omega, Nat.mul_zero, Nat.one_mul, Nat.one_mul, Nat.add_zero, Nat.zero_add, Nat.zero_add]

theorem trip (e2 : a2.view.read (Elt Ideal) X2 = ar 2176 128 .f32 d) (e4 : a4.view.read (Elt Ideal) X4 = ar 2216 128 .f32 x)
    (e5 : a5.view.read (Elt Ideal) X5 = ar3 31 8 128 .f32 g) (t : Fin k0_t1_loop.trips) :
    a5.view.read (Elt Ideal) (a5.view.writes (Elt Ideal) X5 (tripL_k0_t1 (F := Ideal) 𝒱 c bd i a1 h1 a2 h2 a3 h3 a4 h4 a5 h5 X2 X4 t X5)) =
      ar3 31 8 128 .f32 (fun j s k => g j s k + part x d t.val j s k) := by
  funext y
  refine View.read_writes_apply_of_pieces a5.view X5 _ _ ?_ y (View.cover_of_tiledL (tripL_k0_t1 (F := Ideal) 𝒱 c bd i a1 h1 a2 h2 a3 h3 a4 h4 a5 h5 X2 X4 t X5) S1x8x128.size ?_ y)
  rotate_left
  · unfold tripL_k0_t1 trip_k0_t1
    sl_kernel_rfl
  unfold tripL_k0_t1 trip_k0_t1
  dsimp only
  sl_unfold_run_names
  have hd (inb) : a2.view.readAt (Elt Ideal) (Rect.unit (s := S2176x128) (k0_off2 t) S128x128.size inb).toLoadRect X2 = ar 128 128 .f32 (at_ (128 * t.val) d) :=
    load_r a2.view X2 e2 _ _ (off_2 t) inb
  have hx (inb) : a4.view.readAt (Elt Ideal) (Rect.unit (s := S2216x128) (k0_off1 t) S168x128.size inb).toLoadRect X4 = ar 168 128 .f32 (at_ (128 * t.val) x) :=
    load_r a4.view X4 e4 _ _ (off_1 t) inb
  have hg (j : ℕ) (inb) : a5.view.readAt (Elt Ideal) (Rect.unit (s := S31x8x128) ![j, 0, 0] S1x8x128.size inb).toLoadRect X5 = ar3 1 8 128 .f32 (fun _ => g j) :=
    load_3 a5.view X5 e5 j inb
  have fold (p : ℕ → ℕ → EReal) : multiReduction .add [0] S8x128 (shapeCast S16x8x128 (ar 128 128 .f32 p) shapeCasts_S128x128_S16x8x128) 0x00000000#32 reduces_S16x8x128_S8x128
      (.inl rfl) rfl = ar 8 128 .f32 (fun s k => ∑ q ∈ Finset.range 16, p (q * 8 + s) k) := fold_ar rfl _ _ _ _ _
  simp only [hd, hx, hg, k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25, k0_pay26, k0_pay27, k0_pay28, k0_pay29,
    k0_pay30, k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49]
  simp (disch := decide) only [shapeCast_self, roll_cut 1 167#32, roll_cut 2 166#32, roll_cut 3 165#32, roll_cut 4 164#32, roll_cut 5 163#32,
    roll_cut 6 162#32, roll_cut 7 161#32, cut_r, mul_ar, fold, drop_ar, add_ar, give_ar]
  have hp (j n s k : ℕ) (h : n = 2 + j) : g j s k + ∑ q ∈ Finset.range 16, at_ n (at_ (128 * t.val) x) (q * 8 + s) k * at_ (128 * t.val) d (q * 8 + s) k = g j s k + part x d t.val j s k := by
    subst h; rfl
  show ∀ p ∈ _, Good _ p
  repeat' first
    | exact fun p hp => absurd hp List.not_mem_nil
    | refine List.forall_mem_cons.mpr ⟨piece (fun j s k => g j s k + part x d t.val j s k) _ _ _ fun s k => hp _ _ s k rfl, ?_⟩

theorem loop (e2 : a2.view.read (Elt Ideal) X2 = ar 2176 128 .f32 d) (e4 : a4.view.read (Elt Ideal) X4 = ar 2216 128 .f32 x)
    (e5 : a5.view.read (Elt Ideal) X5 = ar3 31 8 128 .f32 fun _ _ _ => 0) (n : ℕ) (hn : n ≤ k0_t1_loop.trips) :
    a5.view.read (Elt Ideal) (a5.view.writes (Elt Ideal) X5 (pb_k0_t1 (F := Ideal) 𝒱 c bd i a1 h1 a2 h2 a3 h3 a4 h4 a5 h5 X2 X4 X5 n)) = ar3 31 8 128 .f32 (sofar x d n) := by
  induction n with
  | zero => exact e5
  | succ n ih =>
    rw [pb_k0_t1_succ 𝒱 c bd i a1 h1 a2 h2 a3 h3 a4 h4 a5 h5 X2 X4 X5 ⟨n, hn⟩, View.writes_append]
    exact (trip x d (sofar x d n) 𝒱 c bd i a1 h1 a2 h2 a3 h3 a4 h4 a5 h5 X2 X4 _ e2 e4 (ih (Nat.le_of_succ_le hn)) ⟨n, hn⟩).trans
      (ar3_congr fun j s k _ _ _ => (Finset.sum_range_succ _ _).symm)

/-- The scratch holds the block with zero rows before and after it. -/
theorem scr (u : ℕ → ℕ → EReal) (X1 : a1.view.ty.Contents (Elt Ideal)) (X4 : a4.view.ty.Contents (Elt Ideal)) (e1 : a1.view.read (Elt Ideal) X1 = ar 2176 128 .f32 u) :
    a4.view.read (Elt Ideal) (a4.view.writes (Elt Ideal) X4
      [⟨Rect.unit ![32, 0] S2176x128.size inb_S2216x128_S2176x128_32_0, k0_pay45 (F := Ideal) (a1.view.readAt (Elt Ideal) (Rect.unit ![0, 0] S2176x128.size inb_S2176x128_S2176x128_0_0).toLoadRect X1)⟩,
        ⟨Rect.unit ![2208, 0] S8x128.size inb_S2216x128_S8x128_2208_0, k0_pay44 (F := Ideal)⟩, ⟨Rect.unit ![0, 0] S32x128.size inb_S2216x128_S32x128_0_0, k0_pay43 (F := Ideal)⟩]) =
      ar 2216 128 .f32 (low 32 2176 u) := by
  have e0 : (k0_pay43 : FVec Ideal S32x128 .f32) = fun _ => 0 := by
    unfold k0_pay43; dsimp only; rw [shapeCast_self]; funext j; exact Ideal.ofBits_zero_f32
  have e2 : (k0_pay44 : FVec Ideal S8x128 .f32) = fun _ => 0 := by
    unfold k0_pay44; dsimp only; rw [shapeCast_self]; funext j; exact Ideal.ofBits_zero_f32
  rw [show k0_pay45 (F := Ideal) (a1.view.readAt (Elt Ideal) (Rect.unit ![0, 0] S2176x128.size inb_S2176x128_S2176x128_0_0).toLoadRect X1) = ar 2176 128 .f32 u by
    unfold k0_pay45; dsimp only; rw [shapeCast_self, shapeCast_self]; exact (load_r _ _ e1 _ _ rfl _).trans (congrArg _ at_zero), e0, e2]
  exact scratch _ _ _ _ _ _

theorem row (G p : ℕ → ℕ → EReal) (j : ℕ) (inb) (hp : ∀ k, p 0 k = G j k) :
    Good (ar 31 128 .f32 G) ⟨Rect.unit (s := S31x128) ![j, 0] S1x128.size inb, ar 1 128 .f32 p⟩ := by
  intro y
  have h0 : (y 0).val < 1 := (y 0).isLt
  show p (y 0).val (y 1).val = G (j + 1 * (y 0).val) (0 + 1 * (y 1).val)
  rw [show (y 0).val = 0 by omega, hp, Nat.mul_zero, Nat.one_mul, Nat.add_zero, Nat.zero_add]

theorem out (u : ℕ → ℕ → EReal) : out0_A_2 (F := Ideal) c i a1 h1 a2 h2 a3 h3 a4 h4 a5 h5 (ar 2176 128 .f32 u) (ar 2176 128 .f32 d) =
    ar 31 128 .f32 (fun j k => sumc 8 (sofar (low 32 2176 u) d k0_t1_loop.trips j) k) := by
  unfold out0_A_2
  funext y
  refine View.read_writes_apply_of_pieces _ _ _ _ ?_ y (cover0_A_2 c i a1 h1 a2 h2 a3 h3 a4 h4 a5 h5 _ _ y)
  unfold kernelRun0_A
  dsimp only
  sl_unfold_run_names
  have z : a5.view.read (Elt Ideal) (a5.view.writes (Elt Ideal) a5.view.junk [⟨Rect.unit ![0, 0, 0] S31x8x128.size inb_S31x8x128_S31x8x128_0_0_0, k0_pay46 (F := Ideal)⟩]) =
      ar3 31 8 128 .f32 fun _ _ _ => 0 := (View.read_writes_full _ _ _ _ _).trans (by
    unfold k0_pay46; dsimp only; rw [shapeCast_self]; funext j; exact Ideal.ofBits_zero_f32)
  have l := loop (low 32 2176 u) d Variants.none c none i a1 h1 a2 h2 a3 h3 a4 h4 a5 h5 _ _ _ (h2.read_unread _) (scr a1 a4 u _ a4.view.junk (h1.read_unread _)) z
    (Scf.trips k0_t1_loop.lb k0_t1_loop.ub k0_t1_loop.st) (le_refl _)
  rw [← View.writes_append] at l
  have red (p : ℕ → ℕ → EReal) : multiReduction .add [0] S128 (ar 8 128 .f32 p) 0x00000000#32 reduces_S8x128_S128 (.inl rfl) rfl = vec 128 .f32 (sumc 8 p) := red_c _ _ _ _
  have hc := cov_3 a5.view _ l
  simp only [hc, k0_pay50, k0_pay51, k0_pay52, k0_pay53, k0_pay54, k0_pay55, k0_pay56, k0_pay57, k0_pay58, k0_pay59, k0_pay60, k0_pay61, k0_pay62, k0_pay63,
    k0_pay64, k0_pay65, k0_pay66, k0_pay67, k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85, k0_pay86, drop_ar, red, cast_c]
  show ∀ p ∈ _, Good _ p
  repeat' first
    | exact fun p hp => absurd hp List.not_mem_nil
    | refine List.forall_mem_cons.mpr ⟨row (fun j k => sumc 8 (sofar (low 32 2176 u) d k0_t1_loop.trips j) k) _ _ _ fun k => rfl, ?_⟩
end
end Cert.Prod.ConvDw
end
-- ==== Proof.ProdConvDw.lean ====
module

public import proofs.«01_k».proof.Proof.ConvDwSum
public import proofs.«01_k».proof.Proof.Gen.ConvDwRefIdeal.Run
public import proofs.«01_k».proof.Proof.Gen.ConvDwRefIdeal.Read

/- The convolution's gradient for its taps. -/
@[expose] public section
set_option maxRecDepth 16384
noncomputable section
namespace Cert.Prod.ConvDw
open Cert.Row Idealize.ShloMosaic Idealize.ShloMosaic.TcCoe Idealize.SL.Sem
open Idealize.ShloMosaic.Pipeline

/-- The gradient for a tap: the sum over the tokens. -/
def grad (u d : ℕ → ℕ → EReal) (j k : ℕ) : EReal := sumc 2064 (fun r k => low 30 2064 u (j + r) k * d r k) k

theorem whole (u d : ℕ → ℕ → EReal) (j k : ℕ) (hj : j < 31) : sumc 8 (sofar (low 32 2176 (rows 2064 u)) (rows 2064 d) 17 j) k = grad u d j k := by
  unfold sumc sofar part grad sumc
  rw [Finset.sum_comm]
  have e (t : ℕ) : ∑ s ∈ Finset.range 8, ∑ q ∈ Finset.range 16, low 32 2176 (rows 2064 u) (128 * t + (2 + j + (q * 8 + s))) k * rows 2064 d (128 * t + (q * 8 + s)) k =
      ∑ l ∈ Finset.range (16 * 8), low 32 2176 (rows 2064 u) (2 + j + (t * 128 + l)) k * rows 2064 d (t * 128 + l) k := by
    rw [← sum_parts 16 8 fun l => low 32 2176 (rows 2064 u) (2 + j + (t * 128 + l)) k * rows 2064 d (t * 128 + l) k, Finset.sum_comm]
    exact Finset.sum_congr rfl fun q _ => Finset.sum_congr rfl fun s _ => by
      rw [show 128 * t + (2 + j + (q * 8 + s)) = 2 + j + (t * 128 + (q * 8 + s)) by omega, show 128 * t + (q * 8 + s) = t * 128 + (q * 8 + s) by omega]
  rw [Finset.sum_congr rfl fun t _ => e t]
  refine (sum_parts 17 128 fun r => low 32 2176 (rows 2064 u) (2 + j + r) k * rows 2064 d r k).trans ?_
  rw [show 17 * 128 = 2064 + 112 from rfl, Finset.sum_range_add, Finset.sum_eq_zero (s := Finset.range 112) (fun r _ => by
    rw [show rows 2064 d (2064 + r) k = 0 from if_neg (by omega), mul_zero]), add_zero]
  refine Finset.sum_congr rfl fun r hr => ?_
  have h := Finset.mem_range.mp hr
  rw [show rows 2064 d r k = d r k from if_pos h]
  refine congrArg (· * _) ?_
  unfold low rows
  by_cases h0 : 30 ≤ j + r
  · refine (if_pos ⟨by omega, by omega⟩).trans ((if_pos (by omega)).trans (Eq.trans ?_ (if_pos ⟨h0, by omega⟩).symm))
    exact congrArg (u · k) (by omega)
  · exact (if_neg (by omega)).trans (if_neg (by omega)).symm

section
open Cert.ConvDwIdeal Cert.ConvDwIdeal.Gen
theorem ix_0 : ∀ t : Fin cfg0.N, win0_0.index t = ![0, t.val] := by decide +kernel
theorem ix_1 : ∀ t : Fin cfg0.N, win0_1.index t = ![0, t.val] := by decide +kernel
theorem ix_2 : ∀ t : Fin cfg0.N, win0_2.index t = ![0, t.val] := by decide +kernel

variable (m : (ℓ : Loc nD τ sig) → Buf (Elt Ideal) ℓ) (c : Dev nD) (u d : ℕ → ℕ → EReal)
variable (hu : m ((c : Thread nD τ).loc main_arg0) = ar 2064 1024 .f32 u) (hd : m ((c : Thread nD τ).loc main_arg1) = ar 2064 1024 .f32 d)

include hu in
theorem host_u : V m c main_v0 = ar 2176 1024 .f32 (rows 2064 u) := by
  unfold V
  after_reads_simp
  rw [hu]
  exact pad_ar (φ := .f32) _ h_S_ (zero_pad _ _ rfl) pads_S2064x1024_S2176x1024_01120_000
include hd in
theorem host_d : V m c main_v1 = ar 2176 1024 .f32 (rows 2064 d) := by
  unfold V
  after_reads_simp
  rw [hd]
  exact pad_ar (φ := .f32) _ h_S_ (zero_pad _ _ rfl) pads_S2064x1024_S2176x1024_01120_000

include hu in
theorem iblk_0 (t : Fin cfg0.N) : iblk m c 0 t = ar 2176 128 .f32 (from_ (t.val * 128) (rows 2064 u)) := by
  funext j
  blk_simp [iblk, ix_0]
  rw [host_u m c u hu]
  show rows 2064 u _ _ = rows 2064 u (j 0).val (t.val * 128 + (j 1).val)
  blk_simp [ix_0]
include hd in
theorem iblk_1 (t : Fin cfg0.N) : iblk m c 1 t = ar 2176 128 .f32 (from_ (t.val * 128) (rows 2064 d)) := by
  funext j
  blk_simp [iblk, ix_1]
  rw [host_d m c d hd]
  show rows 2064 d _ _ = rows 2064 d (j 0).val (t.val * 128 + (j 1).val)
  blk_simp [ix_1]

theorem trips : k0_t1_loop.trips = 17 := by decide +kernel

include hu hd in
theorem arr : (dats m 0 c).arrAt 2 cfg0.N = ar 31 1024 .f32 (grad u d) := by
  refine Dat.arrAt_eq_of_covers (dats m 0 c) 2 _ (by decide +kernel) fun t hf j => ?_
  blk_simp
  rw [after0_2, outsAt0, iblk_0 m c u hu, iblk_1 m c d hd, out, trips]
  have hj : (j 0).val < 31 := (j 0).isLt
  refine (whole u d (j 0).val (t.val * 128 + (j 1).val) hj).trans ?_
  show grad u d (j 0).val (t.val * 128 + (j 1).val) = grad u d ((((cfg0.win 2).blk t).view.emb j) 0).val ((((cfg0.win 2).blk t).view.emb j) 1).val
  blk_simp [ix_2]
end

section
open Cert.ConvDwRefIdeal.Read
variable (u d : ℕ → ℕ → EReal)
theorem ref_in : val_main_v2 (F := Ideal) (ar 2064 1024 .f32 u) = ar 2094 1024 .f32 (low 30 2064 u) := by
  have z : val_main_v1 (F := Ideal) = ar 30 1024 .f32 fun _ _ => 0 := funext fun _ => Ideal.ofBits_zero_f32
  unfold val_main_v2
  rw [z]
  exact below_ar rfl

/-- The rows that the reference puts one by one are the rows of one array. -/
theorem spread (S : ℕ → ℕ → EReal) (r k : ℕ) (hr : r < 31) : ∑ j ∈ Finset.range 31, low j 1 (fun _ => S j) r k = S r k := by
  refine (Finset.sum_eq_single r (fun j _ hj => if_neg (by omega)) (fun h => absurd (Finset.mem_range.mpr hr) h)).trans ?_
  exact if_pos ⟨le_refl _, Nat.lt_succ_self _⟩

theorem ref_out : val_main_v438 (F := Ideal) (ar 2064 1024 .f32 u) (ar 2064 1024 .f32 d) = ar 31 1024 .f32 (grad u d) := by
  have big (f : ℕ → ℕ → EReal) : Host.reduceAdd (ar 2064 1024 .f32 f) (constant (F := Ideal) Cert.ConvDwRefIdeal.S_ .f32 0x00000000#32)
      Cert.ConvDwRefIdeal.Gen.reducesTo_S2064x1024_S1024_d0 Cert.ConvDwRefIdeal.Gen.facts.h_S_ = vec 1024 .f32 (sumc 2064 f) :=
    host_c _ _ Ideal.ofBits_zero_f32 _ (by decide)
  have small (f : ℕ → ℕ → EReal) : Host.reduceAdd (ar 1 1024 .f32 f) (constant (F := Ideal) Cert.ConvDwRefIdeal.S_ .f32 0x00000000#32)
      Cert.ConvDwRefIdeal.Gen.reducesTo_S1x1024_S1024_d0 Cert.ConvDwRefIdeal.Gen.facts.h_S_ = vec 1024 .f32 (f 0) :=
    (host_c _ _ Ideal.ofBits_zero_f32 _ (by decide)).trans (congrArg _ (funext fun k => Finset.sum_range_one _))
  have put (f : ℕ → EReal) : broadcastInDim Cert.ConvDwRefIdeal.S1x1024 ![1] Cert.ConvDwRefIdeal.Gen.bcast_S1024_S1x1024_1 (vec 1024 .f32 f) = ar 1 1024 .f32 fun _ k => f k := bi_vc _
  unfold val_main_v438
  simp only [ref_in,
    val_main_v3, val_main_v11, val_main_v18, val_main_v25, val_main_v32, val_main_v39, val_main_v46, val_main_v53, val_main_v60, val_main_v67, val_main_v74,
    val_main_v81, val_main_v88, val_main_v95, val_main_v102, val_main_v109, val_main_v116, val_main_v123, val_main_v130, val_main_v137, val_main_v144,
    val_main_v151, val_main_v158, val_main_v165, val_main_v172, val_main_v179, val_main_v186, val_main_v193, val_main_v200, val_main_v207, val_main_v214,
    val_main_v221, val_main_v222, val_main_v223, val_main_v224, val_main_v225, val_main_v226, val_main_v227, val_main_v228, val_main_v229, val_main_v230,
    val_main_v231, val_main_v232, val_main_v233, val_main_v234, val_main_v235, val_main_v236, val_main_v237, val_main_v238, val_main_v239, val_main_v240,
    val_main_v241, val_main_v242, val_main_v243, val_main_v244, val_main_v245, val_main_v246, val_main_v247, val_main_v248, val_main_v249, val_main_v250,
    val_main_v251, val_main_v252, val_main_v253, val_main_v254, val_main_v255, val_main_v256, val_main_v257, val_main_v258, val_main_v259, val_main_v260,
    val_main_v261, val_main_v262, val_main_v263, val_main_v264, val_main_v265, val_main_v266, val_main_v267, val_main_v268, val_main_v269, val_main_v270,
    val_main_v271, val_main_v272, val_main_v273, val_main_v274, val_main_v275, val_main_v276, val_main_v277, val_main_v278, val_main_v279, val_main_v280,
    val_main_v281, val_main_v282, val_main_v283, val_main_v284, val_main_v285, val_main_v286, val_main_v287, val_main_v288, val_main_v289, val_main_v290,
    val_main_v291, val_main_v292, val_main_v293, val_main_v294, val_main_v295, val_main_v296, val_main_v297, val_main_v298, val_main_v299, val_main_v300,
    val_main_v301, val_main_v302, val_main_v303, val_main_v304, val_main_v305, val_main_v306, val_main_v307, val_main_v308, val_main_v309, val_main_v310,
    val_main_v311, val_main_v312, val_main_v313, val_main_v314, val_main_v315, val_main_v316, val_main_v317, val_main_v318, val_main_v319, val_main_v320,
    val_main_v321, val_main_v322, val_main_v323, val_main_v324, val_main_v325, val_main_v326, val_main_v327, val_main_v328, val_main_v329, val_main_v330,
    val_main_v331, val_main_v332, val_main_v333, val_main_v334, val_main_v335, val_main_v336, val_main_v337, val_main_v338, val_main_v339, val_main_v340,
    val_main_v341, val_main_v342, val_main_v343, val_main_v344, val_main_v345, val_main_v346, val_main_v347, val_main_v348, val_main_v349, val_main_v350,
    val_main_v351, val_main_v352, val_main_v353, val_main_v354, val_main_v355, val_main_v356, val_main_v357, val_main_v358, val_main_v359, val_main_v360,
    val_main_v361, val_main_v362, val_main_v363, val_main_v364, val_main_v365, val_main_v366, val_main_v367, val_main_v368, val_main_v369, val_main_v370,
    val_main_v371, val_main_v372, val_main_v373, val_main_v374, val_main_v375, val_main_v376, val_main_v377, val_main_v378, val_main_v379, val_main_v380,
    val_main_v381, val_main_v382, val_main_v383, val_main_v384, val_main_v385, val_main_v386, val_main_v387, val_main_v388, val_main_v389, val_main_v390,
    val_main_v391, val_main_v392, val_main_v393, val_main_v394, val_main_v395, val_main_v396, val_main_v397, val_main_v398, val_main_v399, val_main_v400,
    val_main_v401, val_main_v402, val_main_v403, val_main_v404, val_main_v405, val_main_v406, val_main_v407, val_main_v408, val_main_v409, val_main_v410,
    val_main_v411, val_main_v412, val_main_v413, val_main_v414, val_main_v415, val_main_v416, val_main_v417, val_main_v418, val_main_v419, val_main_v420,
    val_main_v421, val_main_v422, val_main_v423, val_main_v424, val_main_v425, val_main_v426, val_main_v427, val_main_v428, val_main_v429, val_main_v430,
    val_main_v431, val_main_v432, val_main_v433, val_main_v434, val_main_v435, val_main_v436, val_main_v437, val_main_cst_2, val_main_cst_3, val_main_cst_4,
    val_main_cst_5, val_main_cst_6, val_main_cst_7, val_main_cst_8, val_main_cst_9, val_main_cst_10, val_main_cst_11, val_main_cst_12, val_main_cst_13,
    val_main_cst_14, val_main_cst_15, val_main_cst_16, val_main_cst_17, val_main_cst_18, val_main_cst_19, val_main_cst_20, val_main_cst_21, val_main_cst_22,
    val_main_cst_23, val_main_cst_24, val_main_cst_25, val_main_cst_26, val_main_cst_27, val_main_cst_28, val_main_cst_29, val_main_cst_30, val_main_cst_31,
    val_main_cst_32, val_main_cst_33, val_main_cst_34, val_main_cst_35, val_main_cst_36, val_main_cst_37, val_main_cst_38, val_main_cst_39, val_main_cst_40,
    val_main_cst_41, val_main_cst_42, val_main_cst_43, val_main_cst_44, val_main_cst_45, val_main_cst_46, val_main_cst_47, val_main_cst_48, val_main_cst_49,
    val_main_cst_50, val_main_cst_51, val_main_cst_52, val_main_cst_53, val_main_cst_54, val_main_cst_55, val_main_cst_56, val_main_cst_57, val_main_cst_58,
    val_main_cst_59, val_main_cst_60, val_main_cst_61, val_main_cst_62, val_main_cst_63, val_main_cst_64, val_main_cst_65, val_main_cst_66, val_main_cst_67,
    val_main_cst_68, val_main_cst_69, val_main_cst_70, val_main_cst_71, val_main_cst_72, val_main_cst_73, val_main_cst_74, val_main_cst_75, val_main_cst_76,
    val_main_cst_77, val_main_cst_78, val_main_cst_79, val_main_cst_80, val_main_cst_81, val_main_cst_82, val_main_cst_83, val_main_cst_84, val_main_cst_85,
    val_main_cst_86, val_main_cst_87, val_main_cst_88, val_main_cst_89, val_main_cst_90, val_main_cst_91, val_main_cst_92, val_main_cst_93, val_main_cst_94,
    shapeCast_self, cut_r, mul_ar, big, cast_c, small, put, pad_low, add_ar]
  refine ar_congr fun r k hr _ => (Eq.trans ?_ (spread (grad u d) r k hr))
  have tap (n : ℕ) : (fun (_ k : ℕ) => sumc 2064 (fun r k => at_ n (low 30 2064 u) r k * d r k) k) = fun _ => grad u d n := rfl
  simp only [tap, Finset.sum_range_succ, Finset.sum_range_zero, zero_add]
  ac_rfl
end

section
open Cert.ConvDwIdeal Cert.ConvDwIdeal.Gen
theorem same : @Cert.algebraic_ConvDwIdeal_ConvDwRefIdeal Cert.ConvDwIdeal.Gen.facts Cert.ConvDwRefIdeal.Gen.facts := by
  intro m g m' g' _ hag
  refine ⟨_, Cert.ConvDwIdeal.Value.run_blocks m g, (θ_run _ _ _).mono ?_ (Cert.ConvDwRefIdeal.Value.run m' g')⟩
  intro r h c
  obtain ⟨r0, ra⟩ := h c
  obtain ⟨a0, a1⟩ := hag c
  obtain ⟨u, hu⟩ := ar_of (a := 2064) (b := 1024) (φ := .f32) (m ((c : Thread nD τ).loc main_arg0))
  obtain ⟨d, hd⟩ := ar_of (a := 2064) (b := 1024) (φ := .f32) (m ((c : Thread nD τ).loc main_arg1))
  refine ⟨(r0.trans (Cert.ConvDwRefIdeal.Read.val_main_v438_eq _)).trans ?_, ra⟩
  show Cert.ConvDwRefIdeal.Read.val_main_v438 (F := Ideal) (m' ((c : Thread nD τ).loc Cert.ConvDwRefIdeal.main_arg0)) (m' ((c : Thread nD τ).loc Cert.ConvDwRefIdeal.main_arg1)) = _
  rw [a0, a1, hu, hd]
  exact (ref_out u d).trans (arr m c u d hu hd).symm
end

open Cert.ConvDwRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.ConvDw
end
-- ==== Proof.ProdConvFw.lean ====
module

public import proofs.«01_k».proof.Proof.Conv
public import proofs.«01_k».proof.Proof.Gen.ConvFwIdeal.Value
public import proofs.«01_k».proof.Proof.Gen.ConvFwRefIdeal.Run
public import proofs.«01_k».proof.Proof.Gen.ConvFwRefIdeal.Read

/- The convolution. -/
@[expose] public section
set_option maxRecDepth 16384
noncomputable section
namespace Cert.Prod.ConvFw
open Cert.Row Idealize.ShloMosaic Idealize.ShloMosaic.TcCoe Idealize.SL.Sem
open Idealize.ShloMosaic.Pipeline

section
open Cert.ConvFwIdeal Cert.ConvFwIdeal.Gen
variable (x w : ℕ → ℕ → EReal)
variable (𝒱 : Variants) (c : Dev nD) (bd : Option 𝒱.V) (i : grid0.Coords) (a1 : Memref sig .tc .vmem S2176x128 .f32) (h1 : a1.IsWhole)
  (a2 : Memref sig .tc .vmem S31x128 .f32) (h2 : a2.IsWhole) (a3 : Memref sig .tc .vmem S2176x128 .f32) (h3 : a3.IsWhole)
  (a4 : Memref sig .tc .vmem S2216x128 .f32) (h4 : a4.IsWhole) (X2 : BufTy.Contents (Elt Ideal) a2.view.ty) (X4 : BufTy.Contents (Elt Ideal) a4.view.ty)

theorem off_1 : ∀ t : Fin k0_t1_loop.trips, k0_off1 t = ![128 * t.val, 0] := by decide +kernel
theorem off_2 : ∀ t : Fin k0_t1_loop.trips, k0_off2 t = ![128 * t.val, 0] := by decide +kernel

theorem trip (e2 : a2.view.read (Elt Ideal) X2 = ar 31 128 .f32 w) (e4 : a4.view.read (Elt Ideal) X4 = ar 2216 128 .f32 x) (t : Fin k0_t1_loop.trips) :
    tripL_k0_t1 (F := Ideal) 𝒱 c bd i a1 h1 a2 h2 a3 h3 a4 h4 X2 X4 t =
      [⟨Rect.unit (s := S2176x128) (k0_off2 t) S128x128.size (k0_off2_inb t), ar 128 128 .f32 (at_ (128 * t.val) (taps (at_ 2 x) w))⟩] := by
  unfold tripL_k0_t1 trip_k0_t1
  dsimp only
  sl_unfold_run_names
  have hw (j : ℕ) (inb) : a2.view.readAt (Elt Ideal) (Rect.unit (s := S31x128) ![j, 0] S1x128.size inb).toLoadRect X2 = ar 1 128 .f32 (at_ j w) :=
    load_r a2.view X2 e2 _ j rfl inb
  have hx (inb) : a4.view.readAt (Elt Ideal) (Rect.unit (s := S2216x128) (k0_off1 t) S168x128.size inb).toLoadRect X4 = ar 168 128 .f32 (at_ (128 * t.val) x) :=
    load_r a4.view X4 e4 _ _ (off_1 t) inb
  have z : broadcast S128x128 (Scalar.ofBits (F := Ideal) .f32 0x00000000#32) = ar 128 128 .f32 fun _ _ => 0 := funext fun _ => Ideal.ofBits_zero_f32
  simp only [hw, hx, k0_pay4, k0_pay5, k0_pay6, k0_pay7, k0_pay8, k0_pay9, k0_pay10, k0_pay11, k0_pay12, k0_pay13, k0_pay14, k0_pay15, k0_pay16,
    k0_pay17]
  simp (disch := decide) only [shapeCast_self, z, roll_cut 1 167#32, roll_cut 2 166#32, roll_cut 3 165#32, roll_cut 4 164#32, roll_cut 5 163#32,
    roll_cut 6 162#32, roll_cut 7 161#32, cut_r, bt_c, mul_ar, add_ar]
  refine congrArg (fun v : FVec Ideal S128x128 .f32 => [(⟨Rect.unit (s := S2176x128) (k0_off2 t) S128x128.size (k0_off2_inb t), v⟩ : View.Piece (Elt Ideal) S2176x128 .f32)]) (ar_congr fun r k _ _ => ?_)
  have p (n : ℕ) : x (2 + (128 * t.val + r + n)) k = x (128 * t.val + (n + 2 + r)) k := congrArg (x · k) (by omega)
  have q : x (2 + (128 * t.val + r)) k = x (128 * t.val + (2 + r)) k := congrArg (x · k) (by omega)
  simp only [at_, taps, Finset.sum_range_succ, Finset.sum_range_zero, p, q, Nat.reduceAdd, Nat.add_zero]
  ac_rfl

/-- Every piece that the trips leave is a block of the whole sum. -/
theorem pieces (e2 : a2.view.read (Elt Ideal) X2 = ar 31 128 .f32 w) (e4 : a4.view.read (Elt Ideal) X4 = ar 2216 128 .f32 x) (n : ℕ) (hn : n ≤ k0_t1_loop.trips) :
    ∀ p ∈ pb_k0_t1 (F := Ideal) 𝒱 c bd i a1 h1 a2 h2 a3 h3 a4 h4 X2 X4 n, ∀ y : p.1.shape.Idx, p.2 y = ar 2176 128 .f32 (taps (at_ 2 x) w) (p.1.emb y) := by
  induction n with
  | zero => intro p hp; exact absurd hp List.not_mem_nil
  | succ n ih =>
    rw [pb_k0_t1_succ 𝒱 c bd i a1 h1 a2 h2 a3 h3 a4 h4 X2 X4 ⟨n, hn⟩, trip x w 𝒱 c bd i a1 h1 a2 h2 a3 h3 a4 h4 X2 X4 e2 e4]
    intro p hp y
    rcases List.mem_cons.mp hp with rfl | hp
    · show taps (at_ 2 x) w (128 * n + (y 0).val) (y 1).val = taps (at_ 2 x) w (k0_off2 ⟨n, hn⟩ 0 + 1 * (y 0).val) (k0_off2 ⟨n, hn⟩ 1 + 1 * (y 1).val)
      have h0 : k0_off2 ⟨n, hn⟩ 0 = 128 * n := congrFun (off_2 _) 0
      have h1 : k0_off2 ⟨n, hn⟩ 1 = 0 := congrFun (off_2 _) 1
      simp only [h0, h1, Nat.one_mul, Nat.zero_add]
    · exact ih (Nat.le_of_succ_le hn) p hp y

/-- The scratch holds the block with zero rows before and after it. -/
theorem scr (d : ℕ → ℕ → EReal) (X1 : a1.view.ty.Contents (Elt Ideal)) (X4 : a4.view.ty.Contents (Elt Ideal)) (e1 : a1.view.read (Elt Ideal) X1 = ar 2176 128 .f32 d) :
    a4.view.read (Elt Ideal) (a4.view.writes (Elt Ideal) X4
      [⟨Rect.unit ![32, 0] S2176x128.size inb_S2216x128_S2176x128_32_0, k0_pay3 (F := Ideal) (a1.view.readAt (Elt Ideal) (Rect.unit ![0, 0] S2176x128.size inb_S2176x128_S2176x128_0_0).toLoadRect X1)⟩,
        ⟨Rect.unit ![2208, 0] S8x128.size inb_S2216x128_S8x128_2208_0, k0_pay2 (F := Ideal)⟩, ⟨Rect.unit ![0, 0] S32x128.size inb_S2216x128_S32x128_0_0, k0_pay1 (F := Ideal)⟩]) =
      ar 2216 128 .f32 (low 32 2176 d) := by
  have e0 : (k0_pay1 : FVec Ideal S32x128 .f32) = fun _ => 0 := by
    unfold k0_pay1; dsimp only; rw [shapeCast_self]; funext j; exact Ideal.ofBits_zero_f32
  have e2 : (k0_pay2 : FVec Ideal S8x128 .f32) = fun _ => 0 := by
    unfold k0_pay2; dsimp only; rw [shapeCast_self]; funext j; exact Ideal.ofBits_zero_f32
  rw [show k0_pay3 (F := Ideal) (a1.view.readAt (Elt Ideal) (Rect.unit ![0, 0] S2176x128.size inb_S2176x128_S2176x128_0_0).toLoadRect X1) = ar 2176 128 .f32 d by
    unfold k0_pay3; dsimp only; rw [shapeCast_self, shapeCast_self]; exact (load_r _ _ e1 _ _ rfl _).trans (congrArg _ at_zero), e0, e2]
  exact scratch _ _ _ _ _ _

theorem out (d : ℕ → ℕ → EReal) : out0_A_2 (F := Ideal) c i a1 h1 a2 h2 a3 h3 a4 h4 (ar 2176 128 .f32 d) (ar 31 128 .f32 w) =
    ar 2176 128 .f32 (taps (low 30 2176 d) w) := by
  rw [← low_two]
  unfold out0_A_2
  rw [View.read_writes_eq_canon _ _ _ (cover0_A_2 c i a1 h1 a2 h2 a3 h3 a4 h4 _ _)]
  funext y
  refine View.canon_apply_of_pieces _ _ ?_ y (cover0_A_2 c i a1 h1 a2 h2 a3 h3 a4 h4 _ _ y)
  unfold kernelRun0_A
  dsimp only
  sl_unfold_run_names
  exact pieces (low 32 2176 d) w _ c _ i a1 h1 a2 h2 a3 h3 a4 h4 _ _ (h2.read_unread _) (scr a1 a4 d _ _ (h1.read_unread _)) _ (by decide +kernel)

end

section
open Cert.ConvFwIdeal Cert.ConvFwIdeal.Gen
theorem ix_0 : ∀ t : Fin cfg0.N, win0_0.index t = ![0, t.val] := by decide +kernel
theorem ix_1 : ∀ t : Fin cfg0.N, win0_1.index t = ![0, t.val] := by decide +kernel
theorem ix_2 : ∀ t : Fin cfg0.N, win0_2.index t = ![0, t.val] := by decide +kernel

variable (m : (ℓ : Loc nD τ sig) → Buf (Elt Ideal) ℓ) (c : Dev nD) (d w : ℕ → ℕ → EReal)
variable (hd : m ((c : Thread nD τ).loc main_arg0) = ar 2064 1024 .f32 d) (hw : m ((c : Thread nD τ).loc main_arg1) = ar 31 1024 .f32 w)

include hd in
theorem host_d : V m c main_v0 = ar 2176 1024 .f32 (rows 2064 d) := by
  unfold V
  after_reads_simp
  rw [hd]
  exact pad_ar (φ := .f32) _ h_S_ (zero_pad _ _ rfl) pads_S2064x1024_S2176x1024_01120_000
include hw in
theorem host_w : V m c main_arg1 = ar 31 1024 .f32 w := (V_main_arg1 m c).trans hw

include hd in
theorem iblk_0 (t : Fin cfg0.N) : iblk m c 0 t = ar 2176 128 .f32 (from_ (t.val * 128) (rows 2064 d)) := by
  funext j
  blk_simp [iblk, ix_0]
  rw [host_d m c d hd]
  show rows 2064 d _ _ = rows 2064 d (j 0).val (t.val * 128 + (j 1).val)
  blk_simp [ix_0]
include hw in
theorem iblk_1 (t : Fin cfg0.N) : iblk m c 1 t = ar 31 128 .f32 (from_ (t.val * 128) w) := by
  funext j
  blk_simp [iblk, ix_1]
  rw [host_w m c w hw]
  show w _ _ = w (j 0).val (t.val * 128 + (j 1).val)
  blk_simp [ix_1]

theorem low_from (o : ℕ) (d : ℕ → ℕ → EReal) : low 30 2176 (from_ o d) = from_ o (low 30 2176 d) := rfl

include hd hw in
theorem arr : (dats m 0 c).arrAt 2 cfg0.N = ar 2176 1024 .f32 (taps (low 30 2176 (rows 2064 d)) w) := by
  refine Dat.arrAt_eq_of_covers (dats m 0 c) 2 _ (by decide +kernel) fun t hf j => ?_
  blk_simp
  rw [after0_2, outsAt0, iblk_0 m c d hd, iblk_1 m c w hw, out, low_from]
  show taps (low 30 2176 (rows 2064 d)) w (j 0).val (t.val * 128 + (j 1).val) = taps (low 30 2176 (rows 2064 d)) w ((((cfg0.win 2).blk t).view.emb j) 0).val ((((cfg0.win 2).blk t).view.emb j) 1).val
  blk_simp [ix_2]
end

section
open Cert.ConvFwRefIdeal.Read
variable (d w : ℕ → ℕ → EReal)
theorem ref_in : val_main_v2 (F := Ideal) (ar 2064 1024 .f32 d) = ar 2206 1024 .f32 (low 30 2176 (rows 2064 d)) := by
  have e : val_main_v0 (F := Ideal) (ar 2064 1024 .f32 d) = ar 2176 1024 .f32 (rows 2064 d) :=
    pad_ar (φ := .f32) _ Cert.ConvFwRefIdeal.Gen.facts.h_S_ (zero_pad val_main_c _ rfl) Cert.ConvFwRefIdeal.Gen.facts.pads_S2064x1024_S2176x1024_01120_000
  have z : val_main_v1 (F := Ideal) = ar 30 1024 .f32 fun _ _ => 0 := funext fun _ => Ideal.ofBits_zero_f32
  unfold val_main_v2
  rw [e, z]
  exact below_ar rfl

theorem ref_out : val_main_v220 (F := Ideal) (ar 2064 1024 .f32 d) (ar 31 1024 .f32 w) = ar 2176 1024 .f32 (taps (low 30 2176 (rows 2064 d)) w) := by
  have tap (f : ℕ → EReal) : broadcastInDim Cert.ConvFwRefIdeal.S2176x1024 ![0, 1] Cert.ConvFwRefIdeal.Gen.bcast_S1x1024_S2176x1024_0_1
      (broadcastInDim Cert.ConvFwRefIdeal.S1x1024 ![1] Cert.ConvFwRefIdeal.Gen.bcast_S1024_S1x1024_1 (vec 1024 .f32 f)) = ar 2176 1024 .f32 fun _ k => f k := by
    rw [bi_vc, bi_c]
  have z : val_main_v9 (F := Ideal) = ar 2176 1024 .f32 fun _ _ => 0 := funext fun _ => Ideal.ofBits_zero_f32
  unfold val_main_v220
  simp only [z, ref_in,
    val_main_v3, val_main_v4, val_main_v5, val_main_v6, val_main_v7, val_main_v8, val_main_v10, val_main_v11, val_main_v12, val_main_v13, val_main_v14, val_main_v15,
    val_main_v16, val_main_v17, val_main_v18, val_main_v19, val_main_v20, val_main_v21, val_main_v22, val_main_v23, val_main_v24, val_main_v25, val_main_v26, val_main_v27, val_main_v28,
    val_main_v29, val_main_v30, val_main_v31, val_main_v32, val_main_v33, val_main_v34, val_main_v35, val_main_v36, val_main_v37, val_main_v38, val_main_v39, val_main_v40, val_main_v41,
    val_main_v42, val_main_v43, val_main_v44, val_main_v45, val_main_v46, val_main_v47, val_main_v48, val_main_v49, val_main_v50, val_main_v51, val_main_v52, val_main_v53, val_main_v54,
    val_main_v55, val_main_v56, val_main_v57, val_main_v58, val_main_v59, val_main_v60, val_main_v61, val_main_v62, val_main_v63, val_main_v64, val_main_v65, val_main_v66, val_main_v67,
    val_main_v68, val_main_v69, val_main_v70, val_main_v71, val_main_v72, val_main_v73, val_main_v74, val_main_v75, val_main_v76, val_main_v77, val_main_v78, val_main_v79, val_main_v80,
    val_main_v81, val_main_v82, val_main_v83, val_main_v84, val_main_v85, val_main_v86, val_main_v87, val_main_v88, val_main_v89, val_main_v90, val_main_v91, val_main_v92, val_main_v93,
    val_main_v94, val_main_v95, val_main_v96, val_main_v97, val_main_v98, val_main_v99, val_main_v100, val_main_v101, val_main_v102, val_main_v103, val_main_v104, val_main_v105,
    val_main_v106, val_main_v107, val_main_v108, val_main_v109, val_main_v110, val_main_v111, val_main_v112, val_main_v113, val_main_v114, val_main_v115, val_main_v116, val_main_v117,
    val_main_v118, val_main_v119, val_main_v120, val_main_v121, val_main_v122, val_main_v123, val_main_v124, val_main_v125, val_main_v126, val_main_v127, val_main_v128, val_main_v129,
    val_main_v130, val_main_v131, val_main_v132, val_main_v133, val_main_v134, val_main_v135, val_main_v136, val_main_v137, val_main_v138, val_main_v139, val_main_v140, val_main_v141,
    val_main_v142, val_main_v143, val_main_v144, val_main_v145, val_main_v146, val_main_v147, val_main_v148, val_main_v149, val_main_v150, val_main_v151, val_main_v152, val_main_v153,
    val_main_v154, val_main_v155, val_main_v156, val_main_v157, val_main_v158, val_main_v159, val_main_v160, val_main_v161, val_main_v162, val_main_v163, val_main_v164, val_main_v165,
    val_main_v166, val_main_v167, val_main_v168, val_main_v169, val_main_v170, val_main_v171, val_main_v172, val_main_v173, val_main_v174, val_main_v175, val_main_v176, val_main_v177,
    val_main_v178, val_main_v179, val_main_v180, val_main_v181, val_main_v182, val_main_v183, val_main_v184, val_main_v185, val_main_v186, val_main_v187, val_main_v188, val_main_v189,
    val_main_v190, val_main_v191, val_main_v192, val_main_v193, val_main_v194, val_main_v195, val_main_v196, val_main_v197, val_main_v198, val_main_v199, val_main_v200, val_main_v201,
    val_main_v202, val_main_v203, val_main_v204, val_main_v205, val_main_v206, val_main_v207, val_main_v208, val_main_v209, val_main_v210, val_main_v211, val_main_v212, val_main_v213,
    val_main_v214, val_main_v215, val_main_v216, val_main_v217, val_main_v218, val_main_v219,
    cut_r, cast_v, tap, shapeCast_self, mul_ar, add_ar]
  refine ar_congr fun r k _ _ => ?_
  simp only [at_, taps, Finset.sum_range_succ, Finset.sum_range_zero, zero_add, Nat.add_zero, Nat.add_comm r]
end

section
open Cert.ConvFwIdeal Cert.ConvFwIdeal.Gen
theorem same : @Cert.algebraic_ConvFwIdeal_ConvFwRefIdeal Cert.ConvFwIdeal.Gen.facts Cert.ConvFwRefIdeal.Gen.facts := by
  intro m g m' g' _ hag
  refine ⟨_, Cert.ConvFwIdeal.Value.run_blocks m g, (θ_run _ _ _).mono ?_ (Cert.ConvFwRefIdeal.Value.run m' g')⟩
  intro r h c
  obtain ⟨r0, ra⟩ := h c
  obtain ⟨a0, a1⟩ := hag c
  obtain ⟨d, hd⟩ := ar_of (a := 2064) (b := 1024) (φ := .f32) (m ((c : Thread nD τ).loc main_arg0))
  obtain ⟨w, hw⟩ := ar_of (a := 31) (b := 1024) (φ := .f32) (m ((c : Thread nD τ).loc main_arg1))
  refine ⟨(r0.trans (Cert.ConvFwRefIdeal.Read.val_main_v220_eq _)).trans ?_, ra⟩
  show Cert.ConvFwRefIdeal.Read.val_main_v220 (F := Ideal) (m' ((c : Thread nD τ).loc Cert.ConvFwRefIdeal.main_arg0)) (m' ((c : Thread nD τ).loc Cert.ConvFwRefIdeal.main_arg1)) = _
  rw [a0, a1, hd, hw]
  exact (ref_out d w).trans (arr m c d w hd hw).symm
end

open Cert.ConvFwRefIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (Value.run m g)
end Cert.Prod.ConvFw
end
-- ==== Proof.Lift.lean ====
module

public import proofs.«01_k».proof.Proof.Gen.KernelIdeal.Skeleton
public import Idealize.ShloMosaic.Lib.Pointwise
public import Idealize.ShloMosaic.Lib.IdealHost

/- Arrays of two axes whose entries are real numbers, given as a function of the row and the column, and what
   the vector operations of the kernel make of them. -/
@[expose] public section
set_option maxRecDepth 16384
noncomputable section
namespace Cert.Att
open Cert.KernelIdeal Cert.KernelIdeal.Gen Idealize.ShloMosaic Idealize.ShloMosaic.TcCoe Idealize.SL.Sem
open scoped Classical

/-- Coordinate `n` of an index, zero where the shape has fewer axes. -/
def co (s : Shape) (j : s.Idx) (n : ℕ) : ℕ := if h : n < s.rank then (j ⟨n, h⟩).val else 0

/-- The array of shape `s` with the real number `f row column` at each place. -/
def up (s : Shape) (φ : FTy) (f : ℕ → ℕ → ℝ) : FVec Ideal s φ := fun j => ((f (co s j 0) (co s j 1) : ℝ) : EReal)

/-- The array of bits that says where `p row column` holds. -/
def msk (s : Shape) (p : ℕ → ℕ → Prop) : IVec s 1 := fun j => if p (co s j 0) (co s j 1) then 1#1 else 0#1

variable {s : Shape} {φ : FTy} (f g : ℕ → ℕ → ℝ) (p : ℕ → ℕ → Prop)

theorem up_apply (j : s.Idx) : up s φ f j = ((f (co s j 0) (co s j 1) : ℝ) : EReal) := rfl

theorem co2_0 {a b : ℕ} (j : (⟨2, ![a, b]⟩ : Shape).Idx) : co ⟨2, ![a, b]⟩ j 0 = (j 0).val := rfl
theorem co2_1 {a b : ℕ} (j : (⟨2, ![a, b]⟩ : Shape).Idx) : co ⟨2, ![a, b]⟩ j 1 = (j 1).val := rfl

theorem up_congr {a b : ℕ} {f g : ℕ → ℕ → ℝ} (h : ∀ r c, r < a → c < b → f r c = g r c) :
    up ⟨2, ![a, b]⟩ φ f = up ⟨2, ![a, b]⟩ φ g := by
  funext j
  have h0 : (j 0).val < a := (j 0).isLt
  have h1 : (j 1).val < b := (j 1).isLt
  rw [up_apply, up_apply, co2_0, co2_1, h _ _ h0 h1]

theorem addf_up : addf (up s φ f) (up s φ g) = up s φ (fun r c => f r c + g r c) := by
  funext j; exact (EReal.coe_add _ _).symm
theorem subf_up : subf (up s φ f) (up s φ g) = up s φ (fun r c => f r c - g r c) := by
  funext j; exact (EReal.coe_sub _ _).symm
theorem mulf_up : mulf (up s φ f) (up s φ g) = up s φ (fun r c => f r c * g r c) := by
  funext j; exact (EReal.coe_mul _ _).symm
theorem exp_up : exp (up s φ f) = up s φ (fun r c => Real.exp (f r c)) := by
  funext j; rfl
theorem absf_up : absf (up s φ f) = up s φ (fun r c => |f r c|) := by
  funext j
  show max ((f _ _ : ℝ) : EReal) (-((f _ _ : ℝ) : EReal)) = ((|f _ _| : ℝ) : EReal)
  rw [← EReal.coe_neg, ← EReal.coe_strictMono.monotone.map_max]; rfl
theorem maximumf_up : maximumf (up s φ f) (up s φ g) = up s φ (fun r c => max (f r c) (g r c)) := by
  funext j; exact (EReal.coe_strictMono.monotone.map_max).symm
theorem divf_one_exp :
    divf (up s φ (fun _ _ => 1)) (up s φ (fun r c => 1 + Real.exp (f r c))) = up s φ (fun r c => 1 / (1 + Real.exp (f r c))) := by
  funext j
  have h : (1 + Real.exp (f (co s j 0) (co s j 1))) ≠ 0 := by positivity
  show Ideal.div ((1 : ℝ) : EReal) ((1 + Real.exp _ : ℝ) : EReal) = _
  rw [Ideal.div, if_neg (by exact_mod_cast h), up_apply, ← EReal.coe_inv, ← EReal.coe_mul, one_div, one_mul]
theorem log_div_exp :
    log (up s φ (fun r c => 1 / (1 + Real.exp (f r c)))) = up s φ (fun r c => Real.log (1 / (1 + Real.exp (f r c)))) := by
  funext j
  have h : 0 < 1 / (1 + Real.exp (f (co s j 0) (co s j 1))) := by positivity
  show (if _ then _ else _) = _
  rw [if_neg (not_le.mpr h)]; rfl
theorem cmpf_oge_up : cmpf .oge (up s φ f) (up s φ g) = msk s (fun r c => g r c ≤ f r c) := by
  funext j
  show (BitVec.ofBool (decide (((g _ _ : ℝ) : EReal) ≤ ((f _ _ : ℝ) : EReal)))) = if g _ _ ≤ f _ _ then 1#1 else 0#1
  by_cases h : g (co s j 0) (co s j 1) ≤ f (co s j 0) (co s j 1)
  · rw [if_pos h, decide_eq_true (by exact_mod_cast h)]; rfl
  · rw [if_neg h, decide_eq_false (by exact_mod_cast h)]; rfl
theorem select_up : select (msk s p) (up s φ f) (up s φ g) = up s φ (fun r c => if p r c then f r c else g r c) := by
  funext j
  show Scalar.select (if p _ _ then 1#1 else 0#1) _ _ = _
  by_cases h : p (co s j 0) (co s j 1)
  · simp [Scalar.select, up_apply, h]
  · simp [Scalar.select, up_apply, h]
theorem truncf_up {ψ : FTy} (h : ψ.bits < φ.bits) : truncf ψ (up s φ f) h = up s ψ f := rfl
theorem shapeCast_self_up (h : s.ShapeCasts s) : shapeCast s (up s φ f) h = up s φ f := shapeCast_id _ h
theorem constant_zero : constant (F := Ideal) s .f32 0x00000000#32 = up s .f32 (fun _ _ => 0) := by
  funext j; simp [constant, Ideal.ofBits, Ideal.ieee, up_apply]
theorem constant_zero_apply : Scalar.ofBits (F := Ideal) .f32 0x00000000#32 = ((0 : ℝ) : EReal) := by
  simp [Scalar.ofBits, Ideal.ofBits, Ideal.ieee]
theorem ofBits_one : Scalar.ofBits (F := Ideal) .f32 0x3F800000#32 = ((1 : ℝ) : EReal) := by
  exact Ideal.ofBits_one_f32
theorem ofBits_eighth : Scalar.ofBits (F := Ideal) .f32 0x3E000000#32 = ((1 / 8 : ℝ) : EReal) := by
  simp [Scalar.ofBits, Ideal.ofBits, Ideal.ieee]
  rw [← EReal.coe_mul]
  norm_num
theorem ofBits_zero_bf16 : Scalar.ofBits (F := Ideal) .bf16 0x0000#16 = ((0 : ℝ) : EReal) := by
  simp [Scalar.ofBits, Ideal.ofBits, Ideal.ieee]
theorem broadcast_coe (x : ℝ) : broadcast s ((x : ℝ) : EReal) = up s φ (fun _ _ => x) := rfl

/-- The products of the rows of `x` with the rows of `y`, over `n` columns. -/
def rowsDot (n : ℕ) (x y : ℕ → ℕ → ℝ) (r c : ℕ) : ℝ := ∑ l ∈ Finset.range n, x r l * y c l
/-- The product of the matrices `x` and `y`, over `n` columns of `x`. -/
def matDot (n : ℕ) (x y : ℕ → ℕ → ℝ) (r c : ℕ) : ℝ := ∑ l ∈ Finset.range n, x r l * y l c
/-- The products of the columns of `x` with the columns of `y`, over `n` rows. -/
def colsDot (n : ℕ) (x y : ℕ → ℕ → ℝ) (r c : ℕ) : ℝ := ∑ l ∈ Finset.range n, x l r * y l c
/-- The running sum along a row. -/
def cum (x : ℕ → ℕ → ℝ) (r c : ℕ) : ℝ := ∑ l ∈ Finset.range (c + 1), x r l
/-- The upper triangle of ones. -/
def triu (r c : ℕ) : ℝ := if r ≤ c then 1 else 0
/-- `x` above `y`, from row `n` on. -/
def cat (n : ℕ) (x y : ℕ → ℕ → ℝ) (r c : ℕ) : ℝ := if r < n then x r c else y (r - n) c

theorem coe_sum {ι : Type*} (A : Finset ι) (F : ι → ℝ) : ((∑ l ∈ A, F l : ℝ) : EReal) = ∑ l ∈ A, (F l : EReal) := by
  induction A using Finset.cons_induction with
  | empty => simp
  | cons a A h ih => rw [Finset.sum_cons, Finset.sum_cons, EReal.coe_add, ih]
theorem coe_sum_range (n : ℕ) (F : ℕ → ℝ) : ((∑ l ∈ Finset.range n, F l : ℝ) : EReal) = ∑ l : Fin n, ((F l.val : ℝ) : EReal) := by
  rw [← Fin.sum_univ_eq_sum_range, coe_sum]
theorem sum_triu (x : ℕ → ℕ → ℝ) (r c : ℕ) (h : c < 256) : matDot 256 x triu r c = cum x r c := by
  rw [matDot, cum]
  simp only [triu, mul_ite, mul_one, mul_zero]
  rw [← Finset.sum_filter]
  congr 1
  ext l
  simp only [Finset.mem_filter, Finset.mem_range]
  omega
theorem cum_cat_lo (n : ℕ) (x y : ℕ → ℕ → ℝ) (r c : ℕ) (h : r < n) : cum (cat n x y) r c = cum x r c := by
  simp only [cum, cat, if_pos h]
theorem cum_cat_hi (n : ℕ) (x y : ℕ → ℕ → ℝ) (k r c : ℕ) (h : k = n + r) : cum (cat n x y) k c = cum y r c := by
  subst h
  simp only [cum, cat, if_neg (Nat.not_lt.mpr (Nat.le_add_right n r)), Nat.add_sub_cancel_left]
theorem nt512 (φ₁ φ₂ : FTy) (x y : ℕ → ℕ → ℝ) :
    matmul dot_S512x128_S256x128_S512x256_1_1_0_0_n_n none (up S512x128 φ₁ x) (up S256x128 φ₂ y) (up S512x256 .f32 fun _ _ => 0) =
      up S512x256 .f32 (rowsDot 128 x y) := by
  funext j
  idx_vars j
  pointwise
  simp only [up_apply]
  rw [EReal.coe_zero, zero_add, rowsDot, coe_sum_range]
  rfl
theorem mm1024 (φ₁ φ₂ : FTy) (x y : ℕ → ℕ → ℝ) :
    matmul dot_S1024x256_S256x256_S1024x256_1_0_0_1_n_n none (up S1024x256 φ₁ x) (up S256x256 φ₂ y) (up S1024x256 .f32 fun _ _ => 0) =
      up S1024x256 .f32 (matDot 256 x y) := by
  funext j
  idx_vars j
  pointwise
  simp only [up_apply]
  rw [EReal.coe_zero, zero_add, matDot, coe_sum_range]
  rfl
theorem nn512 (φ₁ φ₂ : FTy) (x y : ℕ → ℕ → ℝ) :
    matmul dot_S512x256_S256x128_S512x128_1_0_0_1_n_n none (up S512x256 φ₁ x) (up S256x128 φ₂ y) (up S512x128 .f32 fun _ _ => 0) =
      up S512x128 .f32 (matDot 256 x y) := by
  funext j
  idx_vars j
  pointwise
  simp only [up_apply]
  rw [EReal.coe_zero, zero_add, matDot, coe_sum_range]
  rfl
theorem tn512 (φ₁ φ₂ : FTy) (x y : ℕ → ℕ → ℝ) :
    matmul dot_S512x256_S512x128_S256x128_0_0_1_1_n_n none (up S512x256 φ₁ x) (up S512x128 φ₂ y) (up S256x128 .f32 fun _ _ => 0) =
      up S256x128 .f32 (colsDot 512 x y) := by
  funext j
  idx_vars j
  pointwise
  simp only [up_apply]
  rw [EReal.coe_zero, zero_add, colsDot, coe_sum_range]
  rfl
theorem cum1024 (φ₁ φ₂ : FTy) (x : ℕ → ℕ → ℝ) :
    matmul dot_S1024x256_S256x256_S1024x256_1_0_0_1_n_n none (up S1024x256 φ₁ x) (up S256x256 φ₂ triu) (up S1024x256 .f32 fun _ _ => 0) =
      up S1024x256 .f32 (cum x) := by
  rw [mm1024]
  exact up_congr fun r c _ h => sum_triu x r c h
theorem cat1024 (φ : FTy) (x y : ℕ → ℕ → ℝ) (h) :
    concatenate S1024x256 0 [⟨S512x256, up S512x256 φ x⟩, ⟨S512x256, up S512x256 φ y⟩] h = up S1024x256 φ (cat 512 x y) := by
  funext j
  idx_vars j
  pointwise
  show _ = ((cat 512 x y j0.val j1.val : ℝ) : EReal)
  by_cases h0 : (j0 : ℕ) < 512
  · rw [dif_pos h0, cat, if_pos h0]; rfl
  · rw [dif_neg h0, cat, if_neg h0]; rfl
theorem lo1024 (φ : FTy) (x y : ℕ → ℕ → ℝ) (h) :
    extractStridedSlice S512x256 ![0, 0] (up S1024x256 φ (cum (cat 512 x y))) h = up S512x256 φ (cum x) := by
  funext j
  idx_vars j
  pointwise
  exact congrArg _ (cum_cat_lo 512 x y j0.val j1.val j0.isLt)
theorem hi1024 (φ : FTy) (x y : ℕ → ℕ → ℝ) (h) :
    extractStridedSlice S512x256 ![512, 0] (up S1024x256 φ (cum (cat 512 x y))) h = up S512x256 φ (cum y) := by
  funext j
  idx_vars j
  pointwise
  exact congrArg _ (cum_cat_hi 512 x y _ j0.val j1.val rfl)
theorem last512 (φ : FTy) (x : ℕ → ℕ → ℝ) (h) :
    extractStridedSlice S512x1 ![0, 255] (up S512x256 φ x) h = up S512x1 φ (fun r c => x r 255) := by
  funext j
  idx_vars j
  pointwise
  rw [up_apply, up_apply]
  rfl
theorem spread512 (φ : FTy) (x : ℕ → ℕ → ℝ) (h) :
    broadcastTo S512x256 (up S512x1 φ x) h = up S512x256 φ (fun r c => x r 0) := by
  funext j
  idx_vars j
  pointwise
  rw [up_apply, up_apply]
  rfl
theorem nt32 (φ₁ φ₂ : FTy) (x y : ℕ → ℕ → ℝ) :
    matmul dot_S32x128_S256x128_S32x256_1_1_0_0_n_n none (up S32x128 φ₁ x) (up S256x128 φ₂ y) (up S32x256 .f32 fun _ _ => 0) =
      up S32x256 .f32 (rowsDot 128 x y) := by
  funext j
  idx_vars j
  pointwise
  simp only [up_apply]
  rw [EReal.coe_zero, zero_add, rowsDot, coe_sum_range]
  rfl
theorem mm64 (φ₁ φ₂ : FTy) (x y : ℕ → ℕ → ℝ) :
    matmul dot_S64x256_S256x256_S64x256_1_0_0_1_n_n none (up S64x256 φ₁ x) (up S256x256 φ₂ y) (up S64x256 .f32 fun _ _ => 0) =
      up S64x256 .f32 (matDot 256 x y) := by
  funext j
  idx_vars j
  pointwise
  simp only [up_apply]
  rw [EReal.coe_zero, zero_add, matDot, coe_sum_range]
  rfl
theorem nn32 (φ₁ φ₂ : FTy) (x y : ℕ → ℕ → ℝ) :
    matmul dot_S32x256_S256x128_S32x128_1_0_0_1_n_n none (up S32x256 φ₁ x) (up S256x128 φ₂ y) (up S32x128 .f32 fun _ _ => 0) =
      up S32x128 .f32 (matDot 256 x y) := by
  funext j
  idx_vars j
  pointwise
  simp only [up_apply]
  rw [EReal.coe_zero, zero_add, matDot, coe_sum_range]
  rfl
theorem tn32 (φ₁ φ₂ : FTy) (x y : ℕ → ℕ → ℝ) :
    matmul dot_S32x256_S32x128_S256x128_0_0_1_1_n_n none (up S32x256 φ₁ x) (up S32x128 φ₂ y) (up S256x128 .f32 fun _ _ => 0) =
      up S256x128 .f32 (colsDot 32 x y) := by
  funext j
  idx_vars j
  pointwise
  simp only [up_apply]
  rw [EReal.coe_zero, zero_add, colsDot, coe_sum_range]
  rfl
theorem cum64 (φ₁ φ₂ : FTy) (x : ℕ → ℕ → ℝ) :
    matmul dot_S64x256_S256x256_S64x256_1_0_0_1_n_n none (up S64x256 φ₁ x) (up S256x256 φ₂ triu) (up S64x256 .f32 fun _ _ => 0) =
      up S64x256 .f32 (cum x) := by
  rw [mm64]
  exact up_congr fun r c _ h => sum_triu x r c h
theorem cat64 (φ : FTy) (x y : ℕ → ℕ → ℝ) (h) :
    concatenate S64x256 0 [⟨S32x256, up S32x256 φ x⟩, ⟨S32x256, up S32x256 φ y⟩] h = up S64x256 φ (cat 32 x y) := by
  funext j
  idx_vars j
  pointwise
  show _ = ((cat 32 x y j0.val j1.val : ℝ) : EReal)
  by_cases h0 : (j0 : ℕ) < 32
  · rw [dif_pos h0, cat, if_pos h0]; rfl
  · rw [dif_neg h0, cat, if_neg h0]; rfl
theorem lo64 (φ : FTy) (x y : ℕ → ℕ → ℝ) (h) :
    extractStridedSlice S32x256 ![0, 0] (up S64x256 φ (cum (cat 32 x y))) h = up S32x256 φ (cum x) := by
  funext j
  idx_vars j
  pointwise
  exact congrArg _ (cum_cat_lo 32 x y j0.val j1.val j0.isLt)
theorem hi64 (φ : FTy) (x y : ℕ → ℕ → ℝ) (h) :
    extractStridedSlice S32x256 ![32, 0] (up S64x256 φ (cum (cat 32 x y))) h = up S32x256 φ (cum y) := by
  funext j
  idx_vars j
  pointwise
  exact congrArg _ (cum_cat_hi 32 x y _ j0.val j1.val rfl)
theorem last32 (φ : FTy) (x : ℕ → ℕ → ℝ) (h) :
    extractStridedSlice S32x1 ![0, 255] (up S32x256 φ x) h = up S32x1 φ (fun r c => x r 255) := by
  funext j
  idx_vars j
  pointwise
  rw [up_apply, up_apply]
  rfl
theorem spread32 (φ : FTy) (x : ℕ → ℕ → ℝ) (h) :
    broadcastTo S32x256 (up S32x1 φ x) h = up S32x256 φ (fun r c => x r 0) := by
  funext j
  idx_vars j
  pointwise
  rw [up_apply, up_apply]
  rfl

theorem softplus_eq (z : ℝ) : max z 0 - Real.log (1 / (1 + Real.exp (0 - |z|))) = Real.log (1 + Real.exp z) := by
  rw [one_div, Real.log_inv, sub_neg_eq_add, zero_sub]
  have hp : (0 : ℝ) < 1 + Real.exp (-|z|) := by positivity
  rcases le_total 0 z with h | h
  · rw [max_eq_left h, abs_of_nonneg h]
    rw [abs_of_nonneg h] at hp
    nth_rewrite 1 [← Real.log_exp z]
    rw [← Real.log_mul (Real.exp_pos z).ne' hp.ne', mul_add, mul_one, ← Real.exp_add, add_neg_cancel, Real.exp_zero, add_comm]
  · rw [max_eq_right h, abs_of_nonpos h, neg_neg, zero_add]
/-- The logistic function. -/
def sgm (z : ℝ) : ℝ := 1 / (1 + Real.exp (-z))
theorem sgm_eq (z : ℝ) : (if 0 ≤ z then 1 / (1 + Real.exp (0 - |z|)) else Real.exp (0 - |z|) * (1 / (1 + Real.exp (0 - |z|)))) = sgm z := by
  rw [zero_sub, sgm]
  split
  · next h => rw [abs_of_nonneg h]
  · next h =>
    rw [abs_of_neg (not_le.mp h), neg_neg, Real.exp_neg]
    have := Real.exp_pos z
    field_simp
    ring

end Cert.Att
end
-- ==== Proof.Window.lean ====
module

public import proofs.«01_k».proof.Proof.Lift
public import Idealize.ShloMosaic.Lib.Pipeline.Value

/- Arrays of rank three of real entries, and the running sums the reference takes along their last axis. -/
@[expose] public section
set_option maxRecDepth 16384
noncomputable section
namespace Cert.Att
open Idealize.ShloMosaic
open scoped Classical

/-- The array of rank three with entries `f`. -/
def up3 (s : Shape) (f : ℕ → ℕ → ℕ → ℝ) : FVec Ideal s .f32 := fun j => ((f (co s j 0) (co s j 1) (co s j 2) : ℝ) : EReal)

theorem foldl_real {ι : Type} (l : List ι) (g : ι → EReal) (F : ι → ℝ) (hg : ∀ n ∈ l, g n = (F n : EReal)) (z : ℝ) :
    l.foldl (fun r n => r + g n) (z : EReal) = ((z + (l.map F).sum : ℝ) : EReal) := by
  induction l generalizing z with
  | nil => simp
  | cons a l ih =>
    rw [List.foldl_cons, hg a List.mem_cons_self, ← EReal.coe_add, ih (fun b hb => hg b (List.mem_cons_of_mem _ hb)), List.map_cons, List.sum_cons, add_assoc]

theorem numel_window (N : ℕ) : (⟨3, ![1, 1, N]⟩ : Shape).numel = N := by
  simp [Shape.numel, Fin.prod_univ_succ]

theorem window_co (N : ℕ) (n : Fin (⟨3, ![1, 1, N]⟩ : Shape).numel) :
    ((⟨3, ![1, 1, N]⟩ : Shape).rowMajor.symm n 0).val = 0 ∧ ((⟨3, ![1, 1, N]⟩ : Shape).rowMajor.symm n 1).val = 0 ∧ ((⟨3, ![1, 1, N]⟩ : Shape).rowMajor.symm n 2).val = n.val := by
  have h := Shape.rowMajor_val_three (d := ![1, 1, N]) ((⟨3, ![1, 1, N]⟩ : Shape).rowMajor.symm n)
  rw [Equiv.apply_symm_apply] at h
  have a0 : ((⟨3, ![1, 1, N]⟩ : Shape).rowMajor.symm n 0).val < 1 := ((⟨3, ![1, 1, N]⟩ : Shape).rowMajor.symm n 0).isLt
  have a1 : ((⟨3, ![1, 1, N]⟩ : Shape).rowMajor.symm n 1).val < 1 := ((⟨3, ![1, 1, N]⟩ : Shape).rowMajor.symm n 1).isLt
  have b0 : ((⟨3, ![1, 1, N]⟩ : Shape).rowMajor.symm n 0).val = 0 := by omega
  have b1 : ((⟨3, ![1, 1, N]⟩ : Shape).rowMajor.symm n 1).val = 0 := by omega
  refine ⟨b0, b1, ?_⟩
  rw [b0, b1] at h
  simpa using h.symm

theorem window_sum {H T N p q : ℕ} (f : ℕ → ℕ → ℕ → ℝ) {u : Shape} (v : u.Idx → EReal) (hu : 0 < u.numel) (hv : v (Shape.Idx.first hu) = ((0 : ℝ) : EReal))
    (h : (⟨3, ![H, T, N]⟩ : Shape).ReduceWindows (![1, 1, N] : Fin 3 → ℕ) ![1, 1, 1] ![0, 0, p] ![0, 0, q] ⟨3, ![H, T, N]⟩) (j : (⟨3, ![H, T, N]⟩ : Shape).Idx) :
    Host.reduceWindowAdd (F := Ideal) (φ := .f32) (![1, 1, N] : Fin 3 → ℕ) ![1, 1, 1] ![0, 0, p] ![0, 0, q] (up3 ⟨3, ![H, T, N]⟩ f) v h hu j
      = ((∑ n ∈ Finset.range N, (if p ≤ (j 2).val + n ∧ (j 2).val + n - p < N then f (j 0).val (j 1).val ((j 2).val + n - p) else 0) : ℝ) : EReal) := by
  show Host.reduceWindow (· + ·) (![1, 1, N] : Fin 3 → ℕ) ![1, 1, 1] ![0, 0, p] ![0, 0, q] (up3 ⟨3, ![H, T, N]⟩ f) (fun _ : (⟨0, ![]⟩ : Shape).Idx => v (Shape.Idx.first hu)) h (by decide) j = _
  unfold Host.reduceWindow
  dsimp only
  rw [hv]
  refine (foldl_real (List.finRange (⟨3, ![1, 1, N]⟩ : Shape).numel) _ (fun n => if p ≤ (j 2).val + n.val ∧ (j 2).val + n.val - p < N then f (j 0).val (j 1).val ((j 2).val + n.val - p) else 0) (fun n _ => ?_) 0).trans ?_
  · obtain ⟨w0, w1, w2⟩ := window_co N n
    have c0 : (j 0).val < H := (j 0).isLt
    have c1 : (j 1).val < T := (j 1).isLt
    split
    · next hin =>
      have h2 : p ≤ (j 2).val * 1 + ((⟨3, ![1, 1, N]⟩ : Shape).rowMajor.symm n 2).val ∧ (j 2).val * 1 + ((⟨3, ![1, 1, N]⟩ : Shape).rowMajor.symm n 2).val - p < N := hin 2
      rw [w2, Nat.mul_one] at h2
      rw [if_pos h2]
      have e0 : (j 0).val * 1 + ((⟨3, ![1, 1, N]⟩ : Shape).rowMajor.symm n 0).val - 0 = (j 0).val := by rw [w0]; omega
      have e1 : (j 1).val * 1 + ((⟨3, ![1, 1, N]⟩ : Shape).rowMajor.symm n 1).val - 0 = (j 1).val := by rw [w1]; omega
      have e2 : (j 2).val * 1 + ((⟨3, ![1, 1, N]⟩ : Shape).rowMajor.symm n 2).val - p = (j 2).val + n.val - p := by rw [w2, Nat.mul_one]
      show ((f ((j 0).val * 1 + ((⟨3, ![1, 1, N]⟩ : Shape).rowMajor.symm n 0).val - 0) ((j 1).val * 1 + ((⟨3, ![1, 1, N]⟩ : Shape).rowMajor.symm n 1).val - 0) ((j 2).val * 1 + ((⟨3, ![1, 1, N]⟩ : Shape).rowMajor.symm n 2).val - p) : ℝ) : EReal) = _
      rw [e0, e1, e2]
    · next hin =>
      rw [if_neg fun hle => hin fun a => by
        match a with
        | ⟨0, _⟩ =>
          show 0 ≤ (j 0).val * 1 + ((⟨3, ![1, 1, N]⟩ : Shape).rowMajor.symm n 0).val ∧ (j 0).val * 1 + ((⟨3, ![1, 1, N]⟩ : Shape).rowMajor.symm n 0).val - 0 < H
          rw [w0]
          omega
        | ⟨1, _⟩ =>
          show 0 ≤ (j 1).val * 1 + ((⟨3, ![1, 1, N]⟩ : Shape).rowMajor.symm n 1).val ∧ (j 1).val * 1 + ((⟨3, ![1, 1, N]⟩ : Shape).rowMajor.symm n 1).val - 0 < T
          rw [w1]
          omega
        | ⟨2, _⟩ =>
          show p ≤ (j 2).val * 1 + ((⟨3, ![1, 1, N]⟩ : Shape).rowMajor.symm n 2).val ∧ (j 2).val * 1 + ((⟨3, ![1, 1, N]⟩ : Shape).rowMajor.symm n 2).val - p < N
          rw [w2, Nat.mul_one]
          exact hle]
  · rw [zero_add]
    refine congrArg Real.toEReal ?_
    generalize (j 2).val = e
    rw [← Fin.sum_univ_def, ← Fin.sum_univ_eq_sum_range (fun n => if p ≤ e + n ∧ e + n - p < N then f (j 0).val (j 1).val (e + n - p) else 0) N]
    exact Fintype.sum_equiv (finCongr (numel_window N)) _ _ fun n => rfl

/-- The sum from an entry of a row to its end. -/
theorem sum_suffix (N e : ℕ) (g : ℕ → ℝ) : ∑ n ∈ Finset.range N, (if 0 ≤ e + n ∧ e + n - 0 < N then g (e + n - 0) else 0) = ∑ n ∈ Finset.range (N - e), g (e + n) := by
  rw [← Finset.sum_filter]
  refine Finset.sum_congr (Finset.ext fun n => ?_) fun n _ => rfl
  simp only [Finset.mem_filter, Finset.mem_range]
  omega

/-- The sum of a row up to an entry. -/
theorem sum_prefix (N e : ℕ) (he : e < N) (g : ℕ → ℝ) : ∑ n ∈ Finset.range N, (if N - 1 ≤ e + n ∧ e + n - (N - 1) < N then g (e + n - (N - 1)) else 0) = ∑ n ∈ Finset.range (e + 1), g n := by
  rw [← Finset.sum_filter]
  refine Finset.sum_bij' (fun n _ => e + n - (N - 1)) (fun n _ => n + (N - 1) - e) ?_ ?_ ?_ ?_ ?_
  all_goals (intro n hn; simp only [Finset.mem_filter, Finset.mem_range] at hn ⊢)
  all_goals omega
end Cert.Att
end
-- ==== Proof.Scal.lean ====
module

public import proofs.«01_k».proof.Proof.Window
public import Idealize.ShloMosaic.PureOps.Ideal.Laws
public import Idealize.ShloMosaic.Lib.Pointwise.ShapeOpsCore

/- The elementwise operations of the host programs, of real numbers. -/
@[expose] public section
noncomputable section
namespace Cert.Att
open Idealize.ShloMosaic
open scoped Classical

theorem ofBits_inf : FloatOps.ofBits (F := Ideal) .f32 0x7F800000#32 = (⊤ : EReal) := by
  simp [Ideal.ofBits, Ideal.ieee]
theorem ofBits_neg_inf : FloatOps.ofBits (F := Ideal) .f32 0xFF800000#32 = (⊥ : EReal) := by
  simp [Ideal.ofBits, Ideal.ieee]
theorem zero32 : FloatOps.ofBits (F := Ideal) .f32 0x00000000#32 = ((0 : ℝ) : EReal) := constant_zero_apply
theorem eighth32 : FloatOps.ofBits (F := Ideal) .f32 0x3E000000#32 = ((1 / 8 : ℝ) : EReal) := ofBits_eighth

theorem add_coe (x y : ℝ) : FloatOps.addf (F := Ideal) (φ := .f32) (x : EReal) (y : EReal) = ((x + y : ℝ) : EReal) := (EReal.coe_add _ _).symm
theorem sub_coe (x y : ℝ) : FloatOps.subf (F := Ideal) (φ := .f32) (x : EReal) (y : EReal) = ((x - y : ℝ) : EReal) := (EReal.coe_sub _ _).symm
theorem mul_coe (x y : ℝ) : FloatOps.mulf (F := Ideal) (φ := .f32) (x : EReal) (y : EReal) = ((x * y : ℝ) : EReal) := (EReal.coe_mul _ _).symm
theorem neg_coe (x : ℝ) : FloatOps.hostNegf (F := Ideal) (φ := .f32) (x : EReal) = ((-x : ℝ) : EReal) := (EReal.coe_neg _).symm
theorem max_coe (x y : ℝ) : FloatOps.maximumf (F := Ideal) (φ := .f32) (x : EReal) (y : EReal) = ((max x y : ℝ) : EReal) := (EReal.coe_strictMono.monotone.map_max).symm
theorem abs_coe (x : ℝ) : FloatOps.hostAbsf (F := Ideal) (φ := .f32) (x : EReal) = ((|x| : ℝ) : EReal) := by
  show max (x : EReal) (-(x : EReal)) = _
  rw [← EReal.coe_neg, ← EReal.coe_strictMono.monotone.map_max]; rfl
theorem exp_coe (x : ℝ) : FloatOps.hostUnary (F := Ideal) (φ := .f32) .exp (x : EReal) = ((Real.exp x : ℝ) : EReal) := rfl
theorem exp_bot : FloatOps.hostUnary (F := Ideal) (φ := .f32) .exp (⊥ : EReal) = ((0 : ℝ) : EReal) := rfl
theorem log1p_coe (x : ℝ) (hx : 0 < x) : FloatOps.hostUnary (F := Ideal) (φ := .f32) .log1p (x : EReal) = ((Real.log (1 + x) : ℝ) : EReal) := by
  have e : ((1 : EReal) + (x : EReal)) = ((1 + x : ℝ) : EReal) := by rw [EReal.coe_add]; rfl
  show Ideal.log (1 + (x : EReal)) = _
  rw [e]
  show (if _ then _ else _) = _
  rw [if_neg (not_le.mpr (by linarith))]
theorem une_self (x : EReal) : FloatOps.cmpf (F := Ideal) (φ := .f32) .une x x = 0#1 := by
  show BitVec.ofBool (decide (x ≠ x)) = 0#1
  rw [decide_eq_false (fun h => h rfl)]
  rfl
theorem oeq_inf (x : ℝ) : FloatOps.cmpf (F := Ideal) (φ := .f32) .oeq (x : EReal) (⊤ : EReal) = 0#1 := by
  show BitVec.ofBool (decide ((x : EReal) = ⊤)) = 0#1
  rw [decide_eq_false (EReal.coe_ne_top x)]
  rfl
theorem select_one (x y : EReal) : Scalar.select 1#1 x y = x := rfl
theorem select_zero (x y : EReal) : Scalar.select 0#1 x y = y := rfl
theorem select_if (p : Prop) [Decidable p] (x y : EReal) : Scalar.select (if p then 1#1 else 0#1) x y = if p then x else y := by
  by_cases h : p
  · rw [if_pos h, if_pos h, select_one]
  · rw [if_neg h, if_neg h, select_zero]
theorem slt_if (a b : ℕ) (ha : a < 2 ^ 31) (hb : b < 2 ^ 31) : IntOp.cmpi .slt (BitVec.ofNat 32 a) (BitVec.ofNat 32 b) = if a < b then 1#1 else 0#1 := by
  have ea : (BitVec.ofNat 32 a).toInt = (a : ℤ) := by
    rw [BitVec.toInt_eq_toNat_cond, BitVec.toNat_ofNat]
    omega
  have eb : (BitVec.ofNat 32 b).toInt = (b : ℤ) := by
    rw [BitVec.toInt_eq_toNat_cond, BitVec.toNat_ofNat]
    omega
  show BitVec.ofBool (BitVec.slt _ _) = _
  rw [BitVec.slt, ea, eb]
  by_cases h : a < b
  · rw [if_pos h, decide_eq_true (by exact_mod_cast h)]; rfl
  · rw [if_neg h, decide_eq_false (by exact_mod_cast h)]; rfl

/-- Rows of zeros below an array. -/
theorem pad_up {A B C : ℕ} (hAB : A ≤ B) (φ : FTy) (f : ℕ → ℕ → ℝ) {hi : Fin 2 → ℕ} {u : Shape} (v : u.Idx → EReal) (hu : 0 < u.numel) (hv : v (Shape.Idx.first hu) = ((0 : ℝ) : EReal))
    (h : (⟨2, ![A, C]⟩ : Shape).Pads (![0, 0] : Fin 2 → ℕ) hi ![0, 0] ⟨2, ![B, C]⟩) :
    pad ⟨2, ![B, C]⟩ (![0, 0] : Fin 2 → ℕ) hi ![0, 0] (up ⟨2, ![A, C]⟩ φ f) v h hu = up ⟨2, ![B, C]⟩ φ (fun r c => if r < A then f r c else 0) := by
  funext j
  rw [pad_apply]
  have c1 : (j 1).val < C := (j 1).isLt
  by_cases hr : (j 0).val < A
  · rw [dif_pos (fun a => by
      match a with
      | ⟨0, _⟩ => exact ⟨Nat.zero_le _, Nat.mod_one _, by show ((j 0).val - 0) / 1 < A; rw [Nat.div_one]; exact hr⟩
      | ⟨1, _⟩ => exact ⟨Nat.zero_le _, Nat.mod_one _, by show ((j 1).val - 0) / 1 < C; rw [Nat.div_one]; exact c1⟩)]
    show ((f (((j 0).val - 0) / 1) (((j 1).val - 0) / 1) : ℝ) : EReal) = (((if (j 0).val < A then f (j 0).val (j 1).val else 0) : ℝ) : EReal)
    rw [if_pos hr, Nat.div_one, Nat.div_one, Nat.sub_zero, Nat.sub_zero]
  · rw [dif_neg (fun hin => hr (by
      have h0 : ((j 0).val - 0) / 1 < A := (hin 0).2.2
      rwa [Nat.div_one] at h0)), hv]
    show _ = (((if (j 0).val < A then f (j 0).val (j 1).val else 0) : ℝ) : EReal)
    rw [if_neg hr]

/-- The smooth positive part, as the host programs spell it. -/
theorem softplus_host (z : ℝ) : max z 0 + Real.log (1 + Real.exp (-|z - 0|)) = Real.log (1 + Real.exp z) := by
  rw [← softplus_eq z, sub_zero, zero_sub, one_div, Real.log_inv, sub_neg_eq_add]
/-- Its derivative. -/
theorem logistic_host (z : ℝ) : Real.exp (z - Real.log (1 + Real.exp z)) = sgm z := by
  have := Real.exp_pos z
  rw [Real.exp_sub, Real.exp_log (by positivity), sgm, Real.exp_neg]
  field_simp
  ring
end Cert.Att
end
-- ==== Proof.Tile.lean ====
module

public import proofs.«01_k».proof.Proof.Lift

/- What one tile of the sweep computes, in real numbers, and that the kernel's values are these. -/
@[expose] public section
set_option maxRecDepth 16384
noncomputable section
namespace Cert.Att
open Cert.KernelIdeal Cert.KernelIdeal.Gen Idealize.ShloMosaic Idealize.ShloMosaic.TcCoe Idealize.SL.Sem
open scoped Classical

/-- The masked softplus of the scores of a tile. -/
def tSp (M : ℕ → ℕ → Prop) (Q K : ℕ → ℕ → ℝ) (r c : ℕ) : ℝ :=
  if M r c then Real.log (1 + Real.exp (rowsDot 128 Q K r c)) else 0
/-- The weights of a tile. -/
def tA (M : ℕ → ℕ → Prop) (Q K : ℕ → ℕ → ℝ) (rt pc : ℕ → ℝ) (r c : ℕ) : ℝ :=
  if M r c then Real.exp (rowsDot 128 Q K r c - (rt r - pc r - cum (tSp M Q K) r c + tSp M Q K r c)) else 0
/-- The weights of a tile times their cotangents. -/
def tG (M : ℕ → ℕ → Prop) (Q K V D : ℕ → ℕ → ℝ) (rt pc : ℕ → ℝ) (r c : ℕ) : ℝ :=
  tA M Q K rt pc r c * rowsDot 128 D V r c
/-- The cotangents of the scores of a tile. -/
def tDz (M : ℕ → ℕ → Prop) (Q K V D : ℕ → ℕ → ℝ) (rt pc gc : ℕ → ℝ) (r c : ℕ) : ℝ :=
  if M r c then tG M Q K V D rt pc r c - sgm (rowsDot 128 Q K r c) * (gc r + cum (tG M Q K V D rt pc) r c) else 0

section Cat
def cc {s t : Shape} {α : Type} (a : Fin t.rank) (h : Shape.Concatenates [s, s] t a) (x y : s.Idx → α) : t.Idx → α :=
  concatenate t a [⟨s, x⟩, ⟨s, y⟩] h
theorem cc_def {s t : Shape} {α : Type} (a : Fin t.rank) (h : Shape.Concatenates [s, s] t a) (x y : s.Idx → α) :
    concatenate t a [⟨s, x⟩, ⟨s, y⟩] h = cc a h x y := rfl
theorem cc1024 (φ : FTy) (x y : ℕ → ℕ → ℝ) (h) :
    cc (s := S512x256) (t := S1024x256) 0 h (up S512x256 φ x) (up S512x256 φ y) = up S1024x256 φ (cat 512 x y) := cat1024 φ x y h
theorem cc64 (φ : FTy) (x y : ℕ → ℕ → ℝ) (h) :
    cc (s := S32x256) (t := S64x256) 0 h (up S32x256 φ x) (up S32x256 φ y) = up S64x256 φ (cat 32 x y) := cat64 φ x y h
theorem bc_e (s : Shape) (x : ℝ) : @broadcast EReal s ((x : ℝ) : EReal) = up s .f32 (fun _ _ => x) := rfl
end Cat

section Fold
variable {s : Shape} {φ : FTy} (M : ℕ → ℕ → Prop) (Q K V D : ℕ → ℕ → ℝ) (rt pc gc : ℕ → ℝ)
theorem fold_sp : up s φ (fun r c => Real.log (1 + Real.exp (rowsDot 128 Q K r c))) = up s φ (tSp (fun _ _ => True) Q K) :=
  congrArg (up s φ) (funext fun r => funext fun c => (if_pos trivial).symm)
theorem fold_spm : up s φ (fun r c => if M r c then Real.log (1 + Real.exp (rowsDot 128 Q K r c)) else 0) = up s φ (tSp M Q K) := rfl
theorem fold_a : up s φ (fun r c => Real.exp (rowsDot 128 Q K r c - (rt r - pc r - cum (tSp (fun _ _ => True) Q K) r c + tSp (fun _ _ => True) Q K r c))) =
    up s φ (tA (fun _ _ => True) Q K rt pc) :=
  congrArg (up s φ) (funext fun r => funext fun c => (if_pos trivial).symm)
theorem fold_am : up s φ (fun r c => if M r c then Real.exp (rowsDot 128 Q K r c - (rt r - pc r - cum (tSp M Q K) r c + tSp M Q K r c)) else 0) =
    up s φ (tA M Q K rt pc) := rfl
theorem fold_g : up s φ (fun r c => tA M Q K rt pc r c * rowsDot 128 D V r c) = up s φ (tG M Q K V D rt pc) := rfl
theorem fold_dz : up s φ (fun r c => tG (fun _ _ => True) Q K V D rt pc r c - sgm (rowsDot 128 Q K r c) * (gc r + cum (tG (fun _ _ => True) Q K V D rt pc) r c)) =
    up s φ (tDz (fun _ _ => True) Q K V D rt pc gc) :=
  congrArg (up s φ) (funext fun r => funext fun c => (if_pos trivial).symm)
theorem fold_dzm : up s φ (fun r c => if M r c then tG M Q K V D rt pc r c - sgm (rowsDot 128 Q K r c) * (gc r + cum (tG M Q K V D rt pc) r c) else 0) =
    up s φ (tDz M Q K V D rt pc gc) := rfl
end Fold

end Cert.Att
end
-- ==== Proof.Rows.lean ====
module

public import proofs.«01_k».proof.Proof.Tile

/- The rows of one block of queries, in real numbers: a tile of the sweep computes a stretch of them. -/
@[expose] public section
noncomputable section
namespace Cert.Att
open scoped Classical

/-- The rows of a pair of heads under one another, each row zero in the other head's lanes. -/
def stk (R : ℕ) (x : ℕ → ℕ → ℝ) (p r l : ℕ) : ℝ := if l / 64 = r / R then x (r % R) (128 * p + l) else 0

/-- The scores of head `g`: the products of the head's lanes. -/
def dotH (q k : ℕ → ℕ → ℝ) (g r s : ℕ) : ℝ := ∑ d ∈ Finset.range 64, q r (64 * g + d) * k s (64 * g + d)

section
variable (q k v d rt : ℕ → ℕ → ℝ) (b : ℕ)
/-- The softplus of the score where row `b + r` sees key `s`. -/
def rSp (g r s : ℕ) : ℝ := if s < b + r then Real.log (1 + Real.exp (dotH q k g r s)) else 0
def rCs (g r n : ℕ) : ℝ := ∑ s ∈ Finset.range n, rSp q k b g r s
/-- The weight of key `s` in row `b + r`. -/
def rA (g r s : ℕ) : ℝ :=
  if s < b + r then Real.exp (dotH q k g r s - (rt g r - rCs q k b g r (s + 1) + rSp q k b g r s)) else 0
def rG (g r s : ℕ) : ℝ := rA q k rt b g r s * dotH d v g r s
def rCg (g r n : ℕ) : ℝ := ∑ s ∈ Finset.range n, rG q k v d rt b g r s
/-- The cotangent of the score of key `s` in row `b + r`. -/
def rDz (g r s : ℕ) : ℝ :=
  if s < b + r then rG q k v d rt b g r s - sgm (dotH q k g r s) * rCg q k v d rt b g r (s + 1) else 0
/-- The part of the gradient of the query that the first `n` keys give. -/
def rDq (g r w n : ℕ) : ℝ := ∑ s ∈ Finset.range n, rDz q k v d rt b g r s * k s w
/-- What `R` rows give to the gradient of the keys. -/
def rDk (R s w : ℕ) : ℝ := ∑ t ∈ Finset.range R, rDz q k v d rt b (w / 64) t s * q t w
/-- What `R` rows give to the gradient of the values. -/
def rDv (R s w : ℕ) : ℝ := ∑ t ∈ Finset.range R, rA q k rt b (w / 64) t s * d t w
end

theorem sum_half (h : ℕ) (hh : h < 2) (f : ℕ → ℝ) :
    ∑ l ∈ Finset.range 128, (if l / 64 = h then f l else 0) = ∑ e ∈ Finset.range 64, f (64 * h + e) := by
  rw [show (128 : ℕ) = 64 + 64 from rfl, Finset.sum_range_add]
  obtain rfl | rfl : h = 0 ∨ h = 1 := by omega
  · rw [Finset.sum_eq_zero (s := Finset.range 64) (f := fun x => if (64 + x) / 64 = 0 then f (64 + x) else 0) (fun e _ => if_neg (by omega)), add_zero]
    refine Finset.sum_congr rfl fun e he => ?_
    have := Finset.mem_range.mp he
    rw [if_pos (by omega)]; congr 1; omega
  · rw [Finset.sum_eq_zero (s := Finset.range 64) (f := fun x => if x / 64 = 1 then f x else 0) (fun e he => if_neg (by have := Finset.mem_range.mp he; omega)), zero_add]
    refine Finset.sum_congr rfl fun e he => ?_
    have := Finset.mem_range.mp he
    rw [if_pos (by omega)]

theorem sum_rows (R l : ℕ) (hl : l < 128) (f g : ℕ → ℝ) (h : ∀ r < 2 * R, l / 64 = r / R → f r = g (r % R)) :
    ∑ r ∈ Finset.range (2 * R), (if l / 64 = r / R then f r else 0) = ∑ t ∈ Finset.range R, g t := by
  rcases Nat.eq_zero_or_pos R with rfl | hR
  · simp
  rw [two_mul, Finset.sum_range_add]
  have hd : ∀ e, e < R → (R + e) / R = 1 := fun e he => by
    rw [Nat.add_comm, Nat.add_div_right _ hR, Nat.div_eq_of_lt he]
  have hm : ∀ e, e < R → (R + e) % R = e := fun e he => by
    rw [Nat.add_mod_left, Nat.mod_eq_of_lt he]
  have : l / 64 = 0 ∨ l / 64 = 1 := by omega
  rcases this with h0 | h0
  · rw [Finset.sum_eq_zero (s := Finset.range R) (f := fun x => if l / 64 = (R + x) / R then f (R + x) else 0)
      (fun e he => if_neg (by rw [hd e (Finset.mem_range.mp he), h0]; decide)), add_zero]
    refine Finset.sum_congr rfl fun e he => ?_
    have he := Finset.mem_range.mp he
    have e0 : l / 64 = e / R := by rw [Nat.div_eq_of_lt he, h0]
    rw [if_pos e0, h e (by omega) e0, Nat.mod_eq_of_lt he]
  · rw [Finset.sum_eq_zero (s := Finset.range R) (f := fun x => if l / 64 = x / R then f x else 0)
      (fun e he => if_neg (by rw [Nat.div_eq_of_lt (Finset.mem_range.mp he), h0]; decide)), zero_add]
    refine Finset.sum_congr rfl fun e he => ?_
    have he := Finset.mem_range.mp he
    have e0 : l / 64 = (R + e) / R := by rw [hd e he, h0]
    rw [if_pos e0, h (R + e) (by omega) e0, hm e he]

theorem rowsDot_stk (R : ℕ) (x y : ℕ → ℕ → ℝ) (p r o c : ℕ) (hr : r < 2 * R) :
    rowsDot 128 (stk R x p) (fun a l => y (o + a) (128 * p + l)) r c = dotH x y (2 * p + r / R) (r % R) (o + c) := by
  have h2 : r / R < 2 := Nat.div_lt_of_lt_mul (by rwa [Nat.mul_comm])
  unfold rowsDot stk dotH
  rw [Finset.sum_congr rfl fun l _ => (ite_mul _ _ _ _)]
  simp only [zero_mul]
  rw [sum_half _ h2]
  refine Finset.sum_congr rfl fun e _ => ?_
  rw [show 128 * p + (64 * (r / R) + e) = 64 * (2 * p + r / R) + e by ring]

section
variable (q k v d rt : ℕ → ℕ → ℝ) (b R p o : ℕ) (M : ℕ → ℕ → Prop)
  (hM : ∀ r < 2 * R, ∀ c < 256, (M r c ↔ o + c < b + r % R))

include hM
theorem tSp_rows (r c : ℕ) (hr : r < 2 * R) (hc : c < 256) :
    tSp M (stk R q p) (fun a l => k (o + a) (128 * p + l)) r c = rSp q k b (2 * p + r / R) (r % R) (o + c) := by
  unfold tSp rSp
  rw [rowsDot_stk R q k p r o c hr, if_congr (hM r hr c hc) rfl rfl]

theorem cumSp_rows (r c : ℕ) (hr : r < 2 * R) (hc : c < 256) :
    rCs q k b (2 * p + r / R) (r % R) o + cum (tSp M (stk R q p) (fun a l => k (o + a) (128 * p + l))) r c =
      rCs q k b (2 * p + r / R) (r % R) (o + c + 1) := by
  unfold rCs cum
  rw [Nat.add_assoc, Finset.sum_range_add _ o (c + 1)]
  congr 1
  refine Finset.sum_congr rfl fun e he => tSp_rows q k b R p o M hM r e hr ?_
  have := Finset.mem_range.mp he; omega

theorem tA_rows (r c : ℕ) (hr : r < 2 * R) (hc : c < 256) :
    tA M (stk R q p) (fun a l => k (o + a) (128 * p + l)) (fun r => rt (2 * p + r / R) (r % R))
      (fun r => rCs q k b (2 * p + r / R) (r % R) o) r c = rA q k rt b (2 * p + r / R) (r % R) (o + c) := by
  unfold tA rA
  rw [if_congr (hM r hr c hc) rfl rfl, rowsDot_stk R q k p r o c hr, sub_sub, cumSp_rows q k b R p o M hM r c hr hc,
    tSp_rows q k b R p o M hM r c hr hc]

theorem tG_rows (r c : ℕ) (hr : r < 2 * R) (hc : c < 256) :
    tG M (stk R q p) (fun a l => k (o + a) (128 * p + l)) (fun a l => v (o + a) (128 * p + l)) (stk R d p)
      (fun r => rt (2 * p + r / R) (r % R)) (fun r => rCs q k b (2 * p + r / R) (r % R) o) r c =
      rG q k v d rt b (2 * p + r / R) (r % R) (o + c) := by
  unfold tG rG
  rw [tA_rows q k rt b R p o M hM r c hr hc, rowsDot_stk R d v p r o c hr]

theorem cumG_rows (r c : ℕ) (hr : r < 2 * R) (hc : c < 256) :
    rCg q k v d rt b (2 * p + r / R) (r % R) o +
      cum (tG M (stk R q p) (fun a l => k (o + a) (128 * p + l)) (fun a l => v (o + a) (128 * p + l)) (stk R d p)
        (fun r => rt (2 * p + r / R) (r % R)) (fun r => rCs q k b (2 * p + r / R) (r % R) o)) r c =
      rCg q k v d rt b (2 * p + r / R) (r % R) (o + c + 1) := by
  unfold rCg cum
  rw [Nat.add_assoc, Finset.sum_range_add _ o (c + 1)]
  congr 1
  refine Finset.sum_congr rfl fun e he => tG_rows q k v d rt b R p o M hM r e hr ?_
  have := Finset.mem_range.mp he; omega

theorem tDz_rows (r c : ℕ) (hr : r < 2 * R) (hc : c < 256) :
    tDz M (stk R q p) (fun a l => k (o + a) (128 * p + l)) (fun a l => v (o + a) (128 * p + l)) (stk R d p)
      (fun r => rt (2 * p + r / R) (r % R)) (fun r => rCs q k b (2 * p + r / R) (r % R) o)
      (fun r => rCg q k v d rt b (2 * p + r / R) (r % R) o) r c =
      rDz q k v d rt b (2 * p + r / R) (r % R) (o + c) := by
  unfold tDz rDz
  rw [if_congr (hM r hr c hc) rfl rfl, tG_rows q k v d rt b R p o M hM r c hr hc, rowsDot_stk R q k p r o c hr,
    cumG_rows q k v d rt b R p o M hM r c hr hc]

theorem dq_rows (r l : ℕ) (hr : r < 2 * R) :
    rDq q k v d rt b (2 * p + r / R) (r % R) (128 * p + l) o +
      matDot 256 (tDz M (stk R q p) (fun a l => k (o + a) (128 * p + l)) (fun a l => v (o + a) (128 * p + l)) (stk R d p)
      (fun r => rt (2 * p + r / R) (r % R)) (fun r => rCs q k b (2 * p + r / R) (r % R) o)
      (fun r => rCg q k v d rt b (2 * p + r / R) (r % R) o)) (fun a l => k (o + a) (128 * p + l)) r l =
      rDq q k v d rt b (2 * p + r / R) (r % R) (128 * p + l) (o + 256) := by
  unfold rDq matDot
  rw [Finset.sum_range_add]
  congr 1
  refine Finset.sum_congr rfl fun e he => ?_
  rw [tDz_rows q k v d rt b R p o M hM r e hr (Finset.mem_range.mp he)]

theorem dk_rows (c l : ℕ) (hc : c < 256) (hl : l < 128) :
    colsDot (2 * R) (tDz M (stk R q p) (fun a l => k (o + a) (128 * p + l)) (fun a l => v (o + a) (128 * p + l)) (stk R d p)
      (fun r => rt (2 * p + r / R) (r % R)) (fun r => rCs q k b (2 * p + r / R) (r % R) o)
      (fun r => rCg q k v d rt b (2 * p + r / R) (r % R) o)) (stk R q p) c l =
      rDk q k v d rt b R (o + c) (128 * p + l) := by
  unfold rDk colsDot
  rw [← sum_rows R l hl (fun r => rDz q k v d rt b (2 * p + r / R) (r % R) (o + c) * q (r % R) (128 * p + l)) _
    (fun r _ h => by rw [show (128 * p + l) / 64 = 2 * p + r / R by rw [← h]; omega])]
  refine Finset.sum_congr rfl fun r hr => ?_
  rw [tDz_rows q k v d rt b R p o M hM r c (Finset.mem_range.mp hr) hc, stk, mul_ite, mul_zero]

theorem dv_rows (c l : ℕ) (hc : c < 256) (hl : l < 128) :
    colsDot (2 * R) (tA M (stk R q p) (fun a l => k (o + a) (128 * p + l)) (fun r => rt (2 * p + r / R) (r % R))
      (fun r => rCs q k b (2 * p + r / R) (r % R) o)) (stk R d p) c l =
      rDv q k d rt b R (o + c) (128 * p + l) := by
  unfold rDv colsDot
  rw [← sum_rows R l hl (fun r => rA q k rt b (2 * p + r / R) (r % R) (o + c) * d (r % R) (128 * p + l)) _
    (fun r _ h => by rw [show (128 * p + l) / 64 = 2 * p + r / R by rw [← h]; omega])]
  refine Finset.sum_congr rfl fun r hr => ?_
  rw [tA_rows q k rt b R p o M hM r c (Finset.mem_range.mp hr) hc, stk, mul_ite, mul_zero]
end

end Cert.Att
end
-- ==== Proof.RefA.lean ====
module

public import proofs.«01_k».proof.Proof.Scal
public import proofs.«01_k».proof.Proof.Rows
public import proofs.«01_k».proof.Proof.Gen.ReferenceIdeal.Read

/- What the reference computes, entry by entry, of real arguments. -/
@[expose] public section
set_option maxRecDepth 16384
noncomputable section
namespace Cert.Att
open Cert.ReferenceIdeal Cert.ReferenceIdeal.Gen Cert.ReferenceIdeal.Read Idealize.ShloMosaic
open scoped Classical

section
variable (q k v d : ℕ → ℕ → ℝ)

/-- The queries times the scale. -/
def scl (r w : ℕ) : ℝ := q r w * (1 / 8)

theorem up3_apply (s : Shape) (f : ℕ → ℕ → ℕ → ℝ) (i : s.Idx) : up3 s f i = ((f (co s i 0) (co s i 1) (co s i 2) : ℝ) : EReal) := rfl

theorem ref_score : val_main_v5 (F := Ideal) (up S2064x1024 .f32 q) (up S2064x1024 .f32 k) = up3 S16x2064x2064 (fun h t s => dotH (scl q) k h t s) := by
  funext i
  rw [val_main_v5_apply, val_main_v3_apply, val_main_v4_apply, val_main_cst_apply, eighth32]
  simp only [val_main_v0_apply, val_main_v1_apply]
  have e : (∑ x : Fin 64, up S2064x1024 .f32 q (idx_main_v0 (lidx_main_v3 i x)) * up S2064x1024 .f32 k (idx_main_v1 (ridx_main_v3 i x)))
      = ((∑ x ∈ Finset.range 64, q (i 1).val (64 * (i 0).val + x) * k (i 2).val (64 * (i 0).val + x) : ℝ) : EReal) := by
    rw [coe_sum_range]
    refine Finset.sum_congr rfl fun x _ => ?_
    have h0 : (i 0).val < 16 := (i 0).isLt
    have hx : x.val < 64 := x.isLt
    rw [EReal.coe_mul]
    show ((q ((((i 1).val * 16 + (i 0).val) * 64 + x.val) / 1024) ((((i 1).val * 16 + (i 0).val) * 64 + x.val) % 1024) : ℝ) : EReal)
      * ((k ((((i 2).val * 16 + (i 0).val) * 64 + x.val) / 1024) ((((i 2).val * 16 + (i 0).val) * 64 + x.val) % 1024) : ℝ) : EReal) = _
    rw [show (((i 1).val * 16 + (i 0).val) * 64 + x.val) / 1024 = (i 1).val by omega, show (((i 1).val * 16 + (i 0).val) * 64 + x.val) % 1024 = 64 * (i 0).val + x.val by omega,
      show (((i 2).val * 16 + (i 0).val) * 64 + x.val) / 1024 = (i 2).val by omega, show (((i 2).val * 16 + (i 0).val) * 64 + x.val) % 1024 = 64 * (i 0).val + x.val by omega]
  rw [e, mul_coe]
  refine congrArg Real.toEReal ?_
  show _ = dotH (scl q) k (i 0).val (i 1).val (i 2).val
  rw [dotH, Finset.sum_mul]
  refine Finset.sum_congr rfl fun x _ => ?_
  unfold scl
  ring

theorem ref_mask (i : S16x2064x2064.Idx) : val_main_v14_1 (F := Ideal) i = if (i 2).val < (i 1).val then 1#1 else 0#1 := by
  rw [val_main_v14_1_apply, val_main_v12_apply, val_main_v10_apply, val_main_v7_apply, val_main_v6_apply, val_main_v11_apply, val_main_v9_apply, val_main_v8_apply]
  have h1 : (i 1).val < 2064 := (i 1).isLt
  have h2 : (i 2).val < 2064 := (i 2).isLt
  exact slt_if (i 2).val (i 1).val (by omega) (by omega)

theorem ref_mask' (i : S16x2064x2064.Idx) : val_main_v17_1 (F := Ideal) i = if (i 2).val < (i 1).val then 1#1 else 0#1 := ref_mask i

/-- The smooth positive part of a score. -/
def sp (h t s : ℕ) : ℝ := Real.log (1 + Real.exp (dotH (scl q) k h t s))

theorem ref_sp : val_main_v13_0 (F := Ideal) (up S2064x1024 .f32 q) (up S2064x1024 .f32 k) = up3 S16x2064x2064 (sp q k) := by
  funext i
  rw [val_main_v13_0_apply, val_main_call0_v4_apply, une_self, select_zero, val_main_call0_v11_apply, val_main_call0_v1_apply, val_main_call0_v10_apply, val_main_call0_v9_apply, val_main_call0_v8_apply, val_main_call0_v7_apply, val_main_call0_v3_apply, val_main_call0_v0_apply, val_main_call0_v2_apply, val_main_call0_cst_apply, ref_score, up3_apply, zero32, max_coe, sub_coe, abs_coe, neg_coe, exp_coe, log1p_coe _ (Real.exp_pos _), add_coe]
  exact congrArg Real.toEReal (softplus_host _)

theorem ref_sgm : val_main_v13_1 (F := Ideal) (up S2064x1024 .f32 q) (up S2064x1024 .f32 k) = up3 S16x2064x2064 (fun h t s => sgm (dotH (scl q) k h t s)) := by
  funext i
  rw [val_main_v13_1_apply, val_main_call0_v21_apply, val_main_call0_v16_apply, val_main_call0_v14_apply, val_main_call0_v20_apply, val_main_call0_v18_apply, val_main_call0_v13_apply, val_main_call0_v17_apply, val_main_call0_cst_0_apply, val_main_call0_cst_2_apply, ref_score, ref_sp, up3_apply, up3_apply, ofBits_inf, oeq_inf, oeq_inf, select_zero, select_zero, sub_coe, exp_coe]
  exact congrArg Real.toEReal (logistic_host _)

/-- The smooth positive parts below the diagonal. -/
def sm (h t s : ℕ) : ℝ := if s < t then sp q k h t s else 0

theorem ref_sm : val_main_v14_0 (F := Ideal) (up S2064x1024 .f32 q) (up S2064x1024 .f32 k) = up3 S16x2064x2064 (sm q k) := by
  funext i
  rw [val_main_v14_0_apply, ref_mask, ref_sp, val_main_call1_v2_apply, val_main_call1_v0_apply, val_main_cst_0_apply, select_if, up3_apply, zero32]
  show _ = ((sm q k (i 0).val (i 1).val (i 2).val : ℝ) : EReal)
  unfold sm
  by_cases h : (i 2).val < (i 1).val
  · rw [if_pos h, if_pos h]; rfl
  · rw [if_neg h, if_neg h]

/-- The sum of a row from an entry to its end. -/
def suf (h t s : ℕ) : ℝ := ∑ n ∈ Finset.range (2064 - s), sm q k h t (s + n)

theorem ref_suf : val_main_v15 (F := Ideal) (up S2064x1024 .f32 q) (up S2064x1024 .f32 k) = up3 S16x2064x2064 (suf q k) := by
  funext i
  unfold val_main_v15
  rw [ref_sm]
  refine (window_sum (sm q k) _ h_S_ (by rw [val_main_call2_v0_apply, val_main_call2_cst_apply, zero32]) _ i).trans ?_
  exact congrArg Real.toEReal (sum_suffix 2064 (i 2).val (sm q k (i 0).val (i 1).val))

/-- The weights of the attention. -/
def wt (h t s : ℕ) : ℝ := if s < t then Real.exp (dotH (scl q) k h t s - suf q k h t s) else 0

theorem ref_wt : val_main_v18 (F := Ideal) (up S2064x1024 .f32 q) (up S2064x1024 .f32 k) = up3 S16x2064x2064 (wt q k) := by
  funext i
  rw [val_main_v18_apply, val_main_v17_0_apply, ref_mask', val_main_v16_apply, ref_score, ref_suf, val_main_call3_v2_apply, val_main_call3_v0_apply, val_main_cst_1_apply, select_if, up3_apply, up3_apply, ofBits_neg_inf, sub_coe]
  show _ = ((wt q k (i 0).val (i 1).val (i 2).val : ℝ) : EReal)
  unfold wt
  by_cases h : (i 2).val < (i 1).val
  · rw [if_pos h, if_pos h, exp_coe]; rfl
  · rw [if_neg h, if_neg h, exp_bot]
end
end Cert.Att
end
-- ==== Proof.RefB.lean ====
module

public import proofs.«01_k».proof.Proof.RefA

/- What the reference computes: the three gradients, of real arguments. -/
@[expose] public section
set_option maxRecDepth 16384
noncomputable section
namespace Cert.Att
open Cert.ReferenceIdeal Cert.ReferenceIdeal.Gen Cert.ReferenceIdeal.Read Idealize.ShloMosaic
open scoped Classical

section
variable (q k v d : ℕ → ℕ → ℝ)

theorem ref_split (x : ℕ → ℕ → ℝ) (i : S2064x16x64.Idx) : up S2064x1024 .f32 x (idx_main_v0 i) = ((x (i 0).val (64 * (i 1).val + (i 2).val) : ℝ) : EReal) := by
  have h1 : (i 1).val < 16 := (i 1).isLt
  have h2 : (i 2).val < 64 := (i 2).isLt
  show ((x ((((i 0).val * 16 + (i 1).val) * 64 + (i 2).val) / 1024) ((((i 0).val * 16 + (i 1).val) * 64 + (i 2).val) % 1024) : ℝ) : EReal) = _
  rw [show (((i 0).val * 16 + (i 1).val) * 64 + (i 2).val) / 1024 = (i 0).val by omega, show (((i 0).val * 16 + (i 1).val) * 64 + (i 2).val) % 1024 = 64 * (i 1).val + (i 2).val by omega]

theorem ref_da : val_main_v24 (F := Ideal) (up S2064x1024 .f32 v) (up S2064x1024 .f32 d) = up3 S16x2064x2064 (fun h t s => dotH d v h t s) := by
  funext i
  rw [val_main_v24_apply]
  show _ = ((∑ x ∈ Finset.range 64, d (i 1).val (64 * (i 0).val + x) * v (i 2).val (64 * (i 0).val + x) : ℝ) : EReal)
  rw [coe_sum_range]
  refine Finset.sum_congr rfl fun x _ => ?_
  rw [val_main_v23_apply, val_main_v22_apply, val_main_v2_apply, EReal.coe_mul]
  exact congrArg₂ (· * ·) (ref_split d _) (ref_split v _)

/-- The products of the gradient of the weights with the weights, below the diagonal. -/
def gm (h t s : ℕ) : ℝ := if s < t then dotH d v h t s * wt q k h t s else 0

theorem ref_gm : val_main_v28 (F := Ideal) (up S2064x1024 .f32 q) (up S2064x1024 .f32 k) (up S2064x1024 .f32 v) (up S2064x1024 .f32 d) = up3 S16x2064x2064 (gm q k v d) := by
  funext i
  rw [val_main_v28_apply, ref_mask', val_main_v27_apply, ref_da, ref_wt, val_main_call4_v0_apply, val_main_call4_cst_apply, select_if, up3_apply, up3_apply, zero32, mul_coe]
  show _ = ((gm q k v d (i 0).val (i 1).val (i 2).val : ℝ) : EReal)
  unfold gm
  by_cases h : (i 2).val < (i 1).val
  · rw [if_pos h, if_pos h]; rfl
  · rw [if_neg h, if_neg h]

theorem ref_neg : val_main_v29 (F := Ideal) (up S2064x1024 .f32 q) (up S2064x1024 .f32 k) (up S2064x1024 .f32 v) (up S2064x1024 .f32 d) = up3 S16x2064x2064 (fun h t s => -gm q k v d h t s) := by
  funext i
  rw [val_main_v29_apply, ref_gm, up3_apply, neg_coe]
  rfl

theorem ref_cum : val_main_v30 (F := Ideal) (up S2064x1024 .f32 q) (up S2064x1024 .f32 k) (up S2064x1024 .f32 v) (up S2064x1024 .f32 d) = up3 S16x2064x2064 (fun h t s => ∑ n ∈ Finset.range (s + 1), -gm q k v d h t n) := by
  funext i
  unfold val_main_v30
  rw [ref_neg]
  refine (window_sum (fun h t s => -gm q k v d h t s) _ h_S_ (by rw [val_main_call5_v0_apply, val_main_call5_cst_apply, zero32]) _ i).trans ?_
  exact congrArg Real.toEReal (sum_prefix 2064 (i 2).val (i 2).isLt (fun s => -gm q k v d (i 0).val (i 1).val s))

/-- The gradient of the scaled scores. -/
def gz (h t s : ℕ) : ℝ := gm q k v d h t s + (if s < t then ∑ n ∈ Finset.range (s + 1), -gm q k v d h t n else 0) * sgm (dotH (scl q) k h t s)

theorem ref_gz : val_main_v35 (F := Ideal) (up S2064x1024 .f32 q) (up S2064x1024 .f32 k) (up S2064x1024 .f32 v) (up S2064x1024 .f32 d) = up3 S16x2064x2064 (fun h t s => gz q k v d h t s * (1 / 8)) := by
  funext i
  rw [val_main_v35_apply, val_main_v33_apply, val_main_v32_apply, val_main_v31_apply, ref_gm, ref_mask, ref_cum, ref_sgm, val_main_call6_v0_apply, val_main_call6_cst_apply, val_main_v34_apply, val_main_cst_2_apply, select_if, up3_apply, up3_apply, up3_apply, zero32, eighth32]
  show _ = ((gz q k v d (i 0).val (i 1).val (i 2).val * (1 / 8) : ℝ) : EReal)
  unfold gz
  by_cases h : (i 2).val < (i 1).val
  · rw [if_pos h, if_pos h, mul_coe, add_coe, mul_coe]; rfl
  · rw [if_neg h, if_neg h, mul_coe, add_coe, mul_coe]; rfl

theorem ref_dq : val_main_v42 (F := Ideal) (up S2064x1024 .f32 q) (up S2064x1024 .f32 k) (up S2064x1024 .f32 v) (up S2064x1024 .f32 d)
    = up S2064x1024 .f32 (fun t w => ∑ s ∈ Finset.range 2064, gz q k v d (w / 64) t s * (1 / 8) * k s w) := by
  funext i
  have h0 : (i 0).val < 2064 := (i 0).isLt
  have h1 : (i 1).val < 1024 := (i 1).isLt
  rw [val_main_v42_apply, val_main_v39_apply, val_main_v38_apply, ref_gz, up_apply, coe_sum_range]
  refine Finset.sum_congr rfl fun x _ => ?_
  rw [val_main_v1_apply, EReal.coe_mul]
  refine congrArg₂ (· * ·) ?_ ((ref_split k _).trans ?_)
  · show ((gz q k v d (((i 0).val * 1024 + (i 1).val) / 64 % 16) (((i 0).val * 1024 + (i 1).val) / 1024) x.val * (1 / 8) : ℝ) : EReal) = ((gz q k v d ((i 1).val / 64) (i 0).val x.val * (1 / 8) : ℝ) : EReal)
    rw [show ((i 0).val * 1024 + (i 1).val) / 64 % 16 = (i 1).val / 64 by omega, show ((i 0).val * 1024 + (i 1).val) / 1024 = (i 0).val by omega]
  · show ((k x.val (64 * (((i 0).val * 1024 + (i 1).val) / 64 % 16) + ((i 0).val * 1024 + (i 1).val) % 64) : ℝ) : EReal) = ((k x.val (i 1).val : ℝ) : EReal)
    rw [show 64 * (((i 0).val * 1024 + (i 1).val) / 64 % 16) + ((i 0).val * 1024 + (i 1).val) % 64 = (i 1).val by omega]

theorem ref_dk : val_main_v41 (F := Ideal) (up S2064x1024 .f32 q) (up S2064x1024 .f32 k) (up S2064x1024 .f32 v) (up S2064x1024 .f32 d)
    = up S2064x1024 .f32 (fun s w => ∑ t ∈ Finset.range 2064, gz q k v d (w / 64) t s * (1 / 8) * q t w) := by
  funext i
  have h0 : (i 0).val < 2064 := (i 0).isLt
  have h1 : (i 1).val < 1024 := (i 1).isLt
  rw [val_main_v41_apply, val_main_v37_apply, val_main_v36_apply, ref_gz, up_apply, coe_sum_range]
  refine Finset.sum_congr rfl fun x _ => ?_
  rw [val_main_v0_apply, EReal.coe_mul]
  refine congrArg₂ (· * ·) ?_ ((ref_split q _).trans ?_)
  · show ((gz q k v d (((i 0).val * 1024 + (i 1).val) / 64 % 16) x.val (((i 0).val * 1024 + (i 1).val) / 1024) * (1 / 8) : ℝ) : EReal) = ((gz q k v d ((i 1).val / 64) x.val (i 0).val * (1 / 8) : ℝ) : EReal)
    rw [show ((i 0).val * 1024 + (i 1).val) / 64 % 16 = (i 1).val / 64 by omega, show ((i 0).val * 1024 + (i 1).val) / 1024 = (i 0).val by omega]
  · show ((q x.val (64 * (((i 0).val * 1024 + (i 1).val) / 64 % 16) + ((i 0).val * 1024 + (i 1).val) % 64) : ℝ) : EReal) = ((q x.val (i 1).val : ℝ) : EReal)
    rw [show 64 * (((i 0).val * 1024 + (i 1).val) / 64 % 16) + ((i 0).val * 1024 + (i 1).val) % 64 = (i 1).val by omega]

theorem ref_dv : val_main_v40 (F := Ideal) (up S2064x1024 .f32 q) (up S2064x1024 .f32 k) (up S2064x1024 .f32 d)
    = up S2064x1024 .f32 (fun s w => ∑ t ∈ Finset.range 2064, d t w * wt q k (w / 64) t s) := by
  funext i
  have h0 : (i 0).val < 2064 := (i 0).isLt
  have h1 : (i 1).val < 1024 := (i 1).isLt
  rw [val_main_v40_apply, val_main_v26_apply, val_main_v25_apply, ref_wt, up_apply, coe_sum_range]
  refine Finset.sum_congr rfl fun x _ => ?_
  rw [val_main_v23_apply, val_main_v22_apply, EReal.coe_mul]
  refine congrArg₂ (· * ·) ((ref_split d _).trans ?_) ?_
  · show ((d x.val (64 * (((i 0).val * 1024 + (i 1).val) / 64 % 16) + ((i 0).val * 1024 + (i 1).val) % 64) : ℝ) : EReal) = ((d x.val (i 1).val : ℝ) : EReal)
    rw [show 64 * (((i 0).val * 1024 + (i 1).val) / 64 % 16) + ((i 0).val * 1024 + (i 1).val) % 64 = (i 1).val by omega]
  · show ((wt q k (((i 0).val * 1024 + (i 1).val) / 64 % 16) x.val (((i 0).val * 1024 + (i 1).val) / 1024) : ℝ) : EReal) = ((wt q k ((i 1).val / 64) x.val (i 0).val : ℝ) : EReal)
    rw [show ((i 0).val * 1024 + (i 1).val) / 64 % 16 = (i 1).val / 64 by omega, show ((i 0).val * 1024 + (i 1).val) / 1024 = (i 0).val by omega]
end
end Cert.Att
end
-- ==== Proof.Equation.lean ====
module

public import proofs.«01_k».proof.Proof.RefB

/- The equation: the sums the kernel takes, row by row, are those of the reference. -/
@[expose] public section
noncomputable section
namespace Cert.Att
open Idealize.ShloMosaic
open scoped Classical

/-- Rows of zeros from row 2064 on. -/
def ext (x : ℕ → ℕ → ℝ) (r w : ℕ) : ℝ := if r < 2064 then x r w else 0

section
variable (q k v d : ℕ → ℕ → ℝ)

/-- The sums of the rows. -/
def rowSum (h t : ℕ) : ℝ := ∑ s ∈ Finset.range 2064, sm q k h t s
/-- The sums of the rows, with zeros from row 2064 on. -/
def rowSums (h t : ℕ) : ℝ := if t < 2064 then rowSum q k h t else 0

theorem dotH_ext (x y : ℕ → ℕ → ℝ) (h t s : ℕ) (ht : t < 2064) (hs : s < 2064) : dotH (ext x) (ext y) h t s = dotH x y h t s := by
  unfold dotH ext
  simp only [if_pos ht, if_pos hs]

theorem rSp_ext (h t s : ℕ) (ht : t < 2064) (hs : s < 2064) : rSp (ext (scl q)) (ext k) 0 h t s = sm q k h t s := by
  unfold rSp sm sp
  rw [dotH_ext _ _ h t s ht hs, Nat.zero_add]

theorem row_split (h t s : ℕ) (hs : s < 2064) : rowSum q k h t - ∑ n ∈ Finset.range (s + 1), sm q k h t n + sm q k h t s = suf q k h t s := by
  have e : rowSum q k h t = ∑ n ∈ Finset.range s, sm q k h t n + suf q k h t s := by
    unfold rowSum suf
    rw [← Finset.sum_range_add, Nat.add_sub_cancel' hs.le]
  rw [e, Finset.sum_range_succ]
  ring

theorem rA_ext (h t s : ℕ) (ht : t < 2064) (hs : s < 2064) : rA (ext (scl q)) (ext k) (rowSums q k) 0 h t s = wt q k h t s := by
  unfold rA wt
  have e : rowSums q k h t - rCs (ext (scl q)) (ext k) 0 h t (s + 1) + rSp (ext (scl q)) (ext k) 0 h t s = suf q k h t s := by
    rw [← row_split q k h t s hs, rSp_ext q k h t s ht hs, rowSums, if_pos ht, rCs]
    rw [Finset.sum_congr rfl fun n hn => rSp_ext q k h t n ht (by have := Finset.mem_range.mp hn; omega)]
  rw [dotH_ext _ _ h t s ht hs, Nat.zero_add, e]

theorem rG_ext (h t s : ℕ) (ht : t < 2064) (hs : s < 2064) : rG (ext (scl q)) (ext k) (ext v) (ext d) (rowSums q k) 0 h t s = gm q k v d h t s := by
  unfold rG gm
  rw [rA_ext q k h t s ht hs, dotH_ext _ _ h t s ht hs, mul_comm]
  by_cases h' : s < t
  · rw [if_pos h']
  · rw [if_neg h', wt, if_neg h', mul_zero]

theorem rDz_ext (h t s : ℕ) (ht : t < 2064) (hs : s < 2064) : rDz (ext (scl q)) (ext k) (ext v) (ext d) (rowSums q k) 0 h t s = gz q k v d h t s := by
  unfold rDz gz
  rw [rG_ext q k v d h t s ht hs, dotH_ext _ _ h t s ht hs, Nat.zero_add, rCg,
    Finset.sum_congr rfl fun n hn => rG_ext q k v d h t n ht (by have := Finset.mem_range.mp hn; omega)]
  by_cases h' : s < t
  · rw [if_pos h', if_pos h', Finset.sum_neg_distrib]
    ring
  · rw [if_neg h', if_neg h', gm, if_neg h']
    ring

/-- The gradient of the queries. -/
theorem eq_dq (t w : ℕ) : (if t < 2064 then rDq (ext (scl q)) (ext k) (ext v) (ext d) (rowSums q k) 0 (w / 64) t w 2064 * (1 / 8) else 0)
    = ext (fun t w => ∑ s ∈ Finset.range 2064, gz q k v d (w / 64) t s * (1 / 8) * k s w) t w := by
  unfold ext
  by_cases ht : t < 2064
  · rw [if_pos ht, if_pos ht]
    change rDq (ext (scl q)) (ext k) (ext v) (ext d) (rowSums q k) 0 (w / 64) t w 2064 * (1 / 8) = _
    rw [rDq, Finset.sum_mul]
    refine Finset.sum_congr rfl fun s hs => ?_
    have hs' := Finset.mem_range.mp hs
    rw [rDz_ext q k v d _ t s ht hs', ext, if_pos hs']
    ring
  · rw [if_neg ht, if_neg ht]

/-- The gradient of the keys. -/
theorem eq_dk (s w : ℕ) : rDk (ext (scl q)) (ext k) (ext v) (ext d) (rowSums q k) 0 2064 s w
    = ext (fun s w => ∑ t ∈ Finset.range 2064, gz q k v d (w / 64) t s * (1 / 8) * q t w) s w := by
  rw [rDk, ext]
  by_cases hs : s < 2064
  · rw [if_pos hs]
    refine Finset.sum_congr rfl fun t ht => ?_
    have ht' := Finset.mem_range.mp ht
    rw [rDz_ext q k v d _ t s ht' hs, ext, if_pos ht', scl]
    ring
  · rw [if_neg hs]
    refine Finset.sum_eq_zero fun t ht => ?_
    have ht' := Finset.mem_range.mp ht
    rw [rDz, if_neg (by omega), zero_mul]

/-- The gradient of the values. -/
theorem eq_dv (s w : ℕ) : rDv (ext (scl q)) (ext k) (ext d) (rowSums q k) 0 2064 s w
    = ext (fun s w => ∑ t ∈ Finset.range 2064, d t w * wt q k (w / 64) t s) s w := by
  rw [rDv, ext]
  by_cases hs : s < 2064
  · rw [if_pos hs]
    refine Finset.sum_congr rfl fun t ht => ?_
    have ht' := Finset.mem_range.mp ht
    rw [rA_ext q k _ t s ht' hs, ext, if_pos ht', mul_comm]
  · rw [if_neg hs]
    refine Finset.sum_eq_zero fun t ht => ?_
    have ht' := Finset.mem_range.mp ht
    rw [rA, if_neg (by omega), zero_mul]

open Cert.ReferenceIdeal Cert.ReferenceIdeal.Gen Cert.ReferenceIdeal.Read

theorem sitofp_zero {u : Shape} (x : IVec u 32) (i : u.Idx) (h : x i = 0#32) : sitofp (F := Ideal) .bf16 x i = ((0 : ℝ) : EReal) := by
  show FloatOps.sitofp (F := Ideal) .bf16 (x i) = _
  rw [h]
  show (((0#32).toInt : ℝ) : EReal) = _
  norm_num

theorem res_dq : val_main_v44 (F := Ideal) (up S2064x1024 .f32 q) (up S2064x1024 .f32 k) (up S2064x1024 .f32 v) (up S2064x1024 .f32 d)
    = up S2304x1024 .bf16 (ext (fun t w => ∑ s ∈ Finset.range 2064, gz q k v d (w / 64) t s * (1 / 8) * k s w)) := by
  unfold val_main_v44 val_main_v43
  rw [ref_dq]
  exact pad_up (A := 2064) (B := 2304) (C := 1024) (by omega) .bf16 (fun t w => ∑ s ∈ Finset.range 2064, gz q k v d (w / 64) t s * (1 / 8) * k s w) (val_main_call8_v0 (F := Ideal)) h_S_ (sitofp_zero (val_main_c (F := Ideal)) _ rfl) pads_S2064x1024_S2304x1024_02400_000
theorem res_dk : val_main_v46 (F := Ideal) (up S2064x1024 .f32 q) (up S2064x1024 .f32 k) (up S2064x1024 .f32 v) (up S2064x1024 .f32 d)
    = up S2304x1024 .bf16 (ext (fun s w => ∑ t ∈ Finset.range 2064, gz q k v d (w / 64) t s * (1 / 8) * q t w)) := by
  unfold val_main_v46 val_main_v45
  rw [ref_dk]
  exact pad_up (A := 2064) (B := 2304) (C := 1024) (by omega) .bf16 (fun s w => ∑ t ∈ Finset.range 2064, gz q k v d (w / 64) t s * (1 / 8) * q t w) (val_main_call9_v0 (F := Ideal)) h_S_ (sitofp_zero (val_main_c_3 (F := Ideal)) _ rfl) pads_S2064x1024_S2304x1024_02400_000
theorem res_dv : val_main_v48 (F := Ideal) (up S2064x1024 .f32 q) (up S2064x1024 .f32 k) (up S2064x1024 .f32 d)
    = up S2304x1024 .bf16 (ext (fun s w => ∑ t ∈ Finset.range 2064, d t w * wt q k (w / 64) t s)) := by
  unfold val_main_v48 val_main_v47
  rw [ref_dv]
  exact pad_up (A := 2064) (B := 2304) (C := 1024) (by omega) .bf16 (fun s w => ∑ t ∈ Finset.range 2064, d t w * wt q k (w / 64) t s) (val_main_call10_v0 (F := Ideal)) h_S_ (sitofp_zero (val_main_c_4 (F := Ideal)) _ rfl) pads_S2064x1024_S2304x1024_02400_000
end
end Cert.Att
end
-- ==== Proof.Load.lean ====
module

public import proofs.«01_k».proof.Proof.Rows

/- What the kernel makes of its blocks before the sweep and after it: stacked pairs of heads, masks, and the
   rows of the gradient taken out of the stack. -/
@[expose] public section
set_option maxRecDepth 16384
noncomputable section
namespace Cert.Att
open Cert.KernelIdeal Cert.KernelIdeal.Gen Idealize.ShloMosaic Idealize.ShloMosaic.TcCoe Idealize.SL.Sem
open scoped Classical

/-- The column of the real numbers `f row`, in a block of one head. -/
def col (s : Shape) (f : ℕ → ℝ) : FVec Ideal s .f32 := fun j => ((f (co s j 1) : ℝ) : EReal)

theorem msk_congr {a b : ℕ} {p p' : ℕ → ℕ → Prop} (h : ∀ r c, r < a → c < b → (p r c ↔ p' r c)) :
    msk ⟨2, ![a, b]⟩ p = msk ⟨2, ![a, b]⟩ p' := by
  funext j
  exact if_congr (h _ _ (j 0).isLt (j 1).isLt) rfl rfl

theorem msk_if {s t : Shape} (p p' : ℕ → ℕ → Prop) (j : s.Idx) (j' : t.Idx) (h : p (co s j 0) (co s j 1) ↔ p' (co t j' 0) (co t j' 1)) :
    msk s p j = msk t p' j' := if_congr h rfl rfl

theorem toInt_small (a : ℕ) (ha : a < 2 ^ 31) : (BitVec.ofNat 32 a).toInt = (a : ℤ) := by
  have h : (BitVec.ofNat 32 a).toNat = a := by rw [BitVec.toNat_ofNat, Nat.mod_eq_of_lt (by omega)]
  rw [BitVec.toInt_eq_toNat_of_lt (by rw [h]; omega), h]
theorem slt_small (a b : ℕ) (ha : a < 2 ^ 31) (hb : b < 2 ^ 31) :
    (BitVec.ofNat 32 a).slt (BitVec.ofNat 32 b) = decide (a < b) := by
  rw [BitVec.slt, toInt_small a ha, toInt_small b hb]
  exact decide_eq_decide.mpr Nat.cast_lt
theorem sle_small (a b : ℕ) (ha : a < 2 ^ 31) (hb : b < 2 ^ 31) :
    (BitVec.ofNat 32 a).sle (BitVec.ofNat 32 b) = decide (a ≤ b) := by
  rw [BitVec.sle, toInt_small a ha, toInt_small b hb]
  exact decide_eq_decide.mpr Nat.cast_le
theorem ofBool_if (p : Prop) [i : Decidable p] :
    BitVec.ofBool (decide p) = @ite _ p (Classical.propDecidable p) 1#1 0#1 := by
  by_cases h : p <;> simp [h]

theorem lanes_msk : k0_pay224 = msk S256x128 (fun _ c => c < 64) := by
  unfold k0_pay224
  funext j
  idx_vars j
  pointwise
  show BitVec.ofBool ((BitVec.ofNat 32 _).slt (BitVec.ofNat 32 64)) = _
  have := j1.isLt
  rw [slt_small _ _ (by simpa using by omega) (by omega), ofBool_if]
  rfl
theorem lanes_msk' : k0_pay227 = msk S256x128 (fun _ c => c < 64) := lanes_msk
theorem below_msk : cmpi .slt (iota .tc S256x256 32 [1] iota_S256x256_d1_w32) (iota .tc S256x256 32 [0] iota_S256x256_d0_w32) =
    msk S256x256 (fun r c => c < r) := by
  funext j
  idx_vars j
  pointwise
  show BitVec.ofBool ((BitVec.ofNat 32 _).slt (BitVec.ofNat 32 _)) = _
  have := j1.isLt
  have := j0.isLt
  rw [slt_small _ _ (by simpa using by omega) (by simpa using by omega), ofBool_if]
  rfl
theorem tri_up : k0_pay223 (F := Ideal) = up S256x256 .bf16 triu := by
  unfold k0_pay223
  funext j
  idx_vars j
  pointwise
  have := j1.isLt
  have := j0.isLt
  show (((BitVec.setWidth 32 (BitVec.ofBool ((BitVec.ofNat 32 _).sle (BitVec.ofNat 32 _)))).toInt : ℝ) : EReal) = _
  rw [sle_small _ _ (by simpa using by omega) (by simpa using by omega), ofBool_if]
  show _ = ((triu j0.val j1.val : ℝ) : EReal)
  unfold triu
  refine congrArg _ ?_
  split <;> simp_all

theorem ccQ (φ : FTy) (x y : ℕ → ℕ → ℝ) (h) :
    cc (s := S256x128) (t := S512x128) 0 h (up S256x128 φ x) (up S256x128 φ y) = up S512x128 φ (cat 256 x y) := by
  unfold cc
  funext j
  idx_vars j
  pointwise
  show _ = ((cat 256 x y j0.val j1.val : ℝ) : EReal)
  skip
  by_cases h0 : (j0 : ℕ) < 256
  · rw [dif_pos h0, cat, if_pos h0]; rfl
  · rw [dif_neg h0, cat, if_neg h0]; rfl

theorem ccQt (φ : FTy) (x y : ℕ → ℕ → ℝ) (h) :
    cc (s := S16x128) (t := S32x128) 0 h (up S16x128 φ x) (up S16x128 φ y) = up S32x128 φ (cat 16 x y) := by
  unfold cc
  funext j
  idx_vars j
  pointwise
  show _ = ((cat 16 x y j0.val j1.val : ℝ) : EReal)
  skip
  by_cases h0 : (j0 : ℕ) < 16
  · rw [dif_pos h0, cat, if_pos h0]; rfl
  · rw [dif_neg h0, cat, if_neg h0]; rfl

theorem ccR (φ : FTy) (x y : ℕ → ℕ → ℝ) (h) :
    cc (s := S256x1) (t := S512x1) 0 h (up S256x1 φ x) (up S256x1 φ y) = up S512x1 φ (cat 256 x y) := by
  unfold cc
  funext j
  idx_vars j
  pointwise
  show _ = ((cat 256 x y j0.val j1.val : ℝ) : EReal)
  obtain rfl : j1 = 0 := Subsingleton.elim _ _
  by_cases h0 : (j0 : ℕ) < 256
  · rw [dif_pos h0, cat, if_pos h0]; rfl
  · rw [dif_neg h0, cat, if_neg h0]; rfl

theorem ccRt (φ : FTy) (x y : ℕ → ℕ → ℝ) (h) :
    cc (s := S16x1) (t := S32x1) 0 h (up S16x1 φ x) (up S16x1 φ y) = up S32x1 φ (cat 16 x y) := by
  unfold cc
  funext j
  idx_vars j
  pointwise
  show _ = ((cat 16 x y j0.val j1.val : ℝ) : EReal)
  obtain rfl : j1 = 0 := Subsingleton.elim _ _
  by_cases h0 : (j0 : ℕ) < 16
  · rw [dif_pos h0, cat, if_pos h0]; rfl
  · rw [dif_neg h0, cat, if_neg h0]; rfl

theorem ccM (h) :
    cc (s := S256x256) (t := S512x256) 0 h (msk S256x256 fun r c => c < r) (msk S256x256 fun r c => c < r) = msk S512x256 (fun r c => c < r % 256) := by
  unfold cc
  funext j
  idx_vars j
  pointwise
  have := j0.isLt
  by_cases h0 : (j0 : ℕ) < 256
  · rw [dif_pos h0]
    exact (msk_if _ _ _ _ (show j1.val < j0.val ↔ j1.val < j0.val % 256 by rw [Nat.mod_eq_of_lt h0]))
  · rw [dif_neg h0]
    have e : j0.val % 256 = j0.val - 256 := by have : j0.val < 2 * 256 := this; omega
    exact (msk_if _ _ _ _ (show j1.val < j0.val - 256 ↔ j1.val < j0.val % 256 by rw [e]))

theorem ccMt (h) :
    cc (s := S16x256) (t := S32x256) 0 h (msk S16x256 fun r c => c < r) (msk S16x256 fun r c => c < r) = msk S32x256 (fun r c => c < r % 16) := by
  unfold cc
  funext j
  idx_vars j
  pointwise
  have := j0.isLt
  by_cases h0 : (j0 : ℕ) < 16
  · rw [dif_pos h0]
    exact (msk_if _ _ _ _ (show j1.val < j0.val ↔ j1.val < j0.val % 16 by rw [Nat.mod_eq_of_lt h0]))
  · rw [dif_neg h0]
    have e : j0.val % 16 = j0.val - 16 := by have : j0.val < 2 * 16 := this; omega
    exact (msk_if _ _ _ _ (show j1.val < j0.val - 16 ↔ j1.val < j0.val % 16 by rw [e]))

theorem sl1 (φ : FTy) (x : ℕ → ℕ → ℝ) (h) :
    extractStridedSlice S16x128 ![0, 0] (up S512x128 φ x) h = up S16x128 φ (fun r c => x (0 + r) c) := by
  funext j
  idx_vars j
  pointwise
  rw [up_apply, up_apply]
  rfl

theorem sl2 (φ : FTy) (x : ℕ → ℕ → ℝ) (h) :
    extractStridedSlice S16x128 ![256, 0] (up S512x128 φ x) h = up S16x128 φ (fun r c => x (256 + r) c) := by
  funext j
  idx_vars j
  pointwise
  rw [up_apply, up_apply]
  rfl

theorem sl3 (φ : FTy) (x : ℕ → ℕ → ℝ) (h) :
    extractStridedSlice S256x128 ![0, 0] (up S512x128 φ x) h = up S256x128 φ (fun r c => x (0 + r) c) := by
  funext j
  idx_vars j
  pointwise
  rw [up_apply, up_apply]
  rfl

theorem sl4 (φ : FTy) (x : ℕ → ℕ → ℝ) (h) :
    extractStridedSlice S256x128 ![256, 0] (up S512x128 φ x) h = up S256x128 φ (fun r c => x (256 + r) c) := by
  funext j
  idx_vars j
  pointwise
  rw [up_apply, up_apply]
  rfl

theorem sl5 (φ : FTy) (x : ℕ → ℕ → ℝ) (h) :
    extractStridedSlice S16x128 ![0, 0] (up S32x128 φ x) h = up S16x128 φ (fun r c => x (0 + r) c) := by
  funext j
  idx_vars j
  pointwise
  rw [up_apply, up_apply]
  rfl

theorem sl6 (φ : FTy) (x : ℕ → ℕ → ℝ) (h) :
    extractStridedSlice S16x128 ![16, 0] (up S32x128 φ x) h = up S16x128 φ (fun r c => x (16 + r) c) := by
  funext j
  idx_vars j
  pointwise
  rw [up_apply, up_apply]
  rfl

theorem sm1 (p : ℕ → ℕ → Prop) (h) :
    extractStridedSlice S16x256 ![0, 0] (msk S256x256 p) h = msk S16x256 (fun r c => p r c) := by
  funext j
  idx_vars j
  pointwise
  rfl

theorem sm2 (p : ℕ → ℕ → Prop) (h) :
    extractStridedSlice S16x128 ![0, 0] (msk S256x128 p) h = msk S16x128 (fun r c => p r c) := by
  funext j
  idx_vars j
  pointwise
  rfl

theorem col_S256x1 (f : ℕ → ℝ) (h) : shapeCast S256x1 (col S1x256x1 f) h = up S256x1 .f32 (fun r _ => f r) := by
  funext j
  idx_vars j
  pointwise
  rfl

theorem col_S16x1 (f : ℕ → ℝ) (h) : shapeCast S16x1 (col S1x16x1 f) h = up S16x1 .f32 (fun r _ => f r) := by
  funext j
  idx_vars j
  pointwise
  rfl

theorem bc_b (s : Shape) (x : ℝ) : @broadcast EReal s ((x : ℝ) : EReal) = up s .bf16 (fun _ _ => x) := rfl

theorem stack225 (q : ℕ → ℕ → ℝ) (p : ℕ) :
    k0_pay225 (up S256x128 .bf16 fun r l => q r (128 * p + l)) = up S512x128 .bf16 (stk 256 q p) := by
  unfold k0_pay225
  simp only [lanes_msk, lanes_msk', shapeCast_self_up, ofBits_zero_bf16, bc_b, select_up, ↓cc_def, ccQ]
  refine up_congr fun r l hr hl => ?_
  unfold cat stk
  by_cases h0 : r < 256
  · rw [if_pos h0, Nat.div_eq_of_lt h0, Nat.mod_eq_of_lt h0]
    beta_reduce
    split_ifs <;> first | rfl | (exfalso; omega)
  · rw [if_neg h0, show r / 256 = 1 by omega, show r % 256 = r - 256 by omega]
    beta_reduce
    split_ifs <;> first | rfl | (exfalso; omega)

theorem stack226 (q : ℕ → ℕ → ℝ) (p : ℕ) :
    k0_pay226 (up S256x128 .bf16 fun r l => q r (128 * p + l)) = up S512x128 .bf16 (stk 256 q p) := by
  unfold k0_pay226
  simp only [lanes_msk, lanes_msk', shapeCast_self_up, ofBits_zero_bf16, bc_b, select_up, ↓cc_def, ccQ]
  refine up_congr fun r l hr hl => ?_
  unfold cat stk
  by_cases h0 : r < 256
  · rw [if_pos h0, Nat.div_eq_of_lt h0, Nat.mod_eq_of_lt h0]
    beta_reduce
    split_ifs <;> first | rfl | (exfalso; omega)
  · rw [if_neg h0, show r / 256 = 1 by omega, show r % 256 = r - 256 by omega]
    beta_reduce
    split_ifs <;> first | rfl | (exfalso; omega)

theorem stack228 (q : ℕ → ℕ → ℝ) (p : ℕ) :
    k0_pay228 (up S256x128 .bf16 fun r l => q r (128 * p + l)) = up S512x128 .bf16 (stk 256 q p) := by
  unfold k0_pay228
  simp only [lanes_msk, lanes_msk', shapeCast_self_up, ofBits_zero_bf16, bc_b, select_up, ↓cc_def, ccQ]
  refine up_congr fun r l hr hl => ?_
  unfold cat stk
  by_cases h0 : r < 256
  · rw [if_pos h0, Nat.div_eq_of_lt h0, Nat.mod_eq_of_lt h0]
    beta_reduce
    split_ifs <;> first | rfl | (exfalso; omega)
  · rw [if_neg h0, show r / 256 = 1 by omega, show r % 256 = r - 256 by omega]
    beta_reduce
    split_ifs <;> first | rfl | (exfalso; omega)

theorem stack229 (q : ℕ → ℕ → ℝ) (p : ℕ) :
    k0_pay229 (up S256x128 .bf16 fun r l => q r (128 * p + l)) = up S512x128 .bf16 (stk 256 q p) := by
  unfold k0_pay229
  simp only [lanes_msk, lanes_msk', shapeCast_self_up, ofBits_zero_bf16, bc_b, select_up, ↓cc_def, ccQ]
  refine up_congr fun r l hr hl => ?_
  unfold cat stk
  by_cases h0 : r < 256
  · rw [if_pos h0, Nat.div_eq_of_lt h0, Nat.mod_eq_of_lt h0]
    beta_reduce
    split_ifs <;> first | rfl | (exfalso; omega)
  · rw [if_neg h0, show r / 256 = 1 by omega, show r % 256 = r - 256 by omega]
    beta_reduce
    split_ifs <;> first | rfl | (exfalso; omega)

theorem stack185 (q : ℕ → ℕ → ℝ) (p : ℕ) :
    k0_pay185 (up S512x128 .bf16 (stk 256 q p)) = up S32x128 .bf16 (stk 16 q p) := by
  unfold k0_pay185
  simp only [sl1, sl2, ↓cc_def, ccQt]
  refine up_congr fun r l hr hl => ?_
  unfold cat stk
  by_cases h0 : r < 16
  · rw [if_pos h0]
    exact if_congr (by omega) (by rw [show (0 + r) % 256 = r % 16 by omega]) rfl
  · rw [if_neg h0]
    exact if_congr (by omega) (by rw [show (256 + (r - 16)) % 256 = r % 16 by omega]) rfl

theorem stack186 (q : ℕ → ℕ → ℝ) (p : ℕ) :
    k0_pay186 (up S512x128 .bf16 (stk 256 q p)) = up S32x128 .bf16 (stk 16 q p) := by
  unfold k0_pay186
  simp only [sl1, sl2, ↓cc_def, ccQt]
  refine up_congr fun r l hr hl => ?_
  unfold cat stk
  by_cases h0 : r < 16
  · rw [if_pos h0]
    exact if_congr (by omega) (by rw [show (0 + r) % 256 = r % 16 by omega]) rfl
  · rw [if_neg h0]
    exact if_congr (by omega) (by rw [show (256 + (r - 16)) % 256 = r % 16 by omega]) rfl

theorem stack187 (q : ℕ → ℕ → ℝ) (p : ℕ) :
    k0_pay187 (up S512x128 .bf16 (stk 256 q p)) = up S32x128 .bf16 (stk 16 q p) := by
  unfold k0_pay187
  simp only [sl1, sl2, ↓cc_def, ccQt]
  refine up_congr fun r l hr hl => ?_
  unfold cat stk
  by_cases h0 : r < 16
  · rw [if_pos h0]
    exact if_congr (by omega) (by rw [show (0 + r) % 256 = r % 16 by omega]) rfl
  · rw [if_neg h0]
    exact if_congr (by omega) (by rw [show (256 + (r - 16)) % 256 = r % 16 by omega]) rfl

theorem stack188 (q : ℕ → ℕ → ℝ) (p : ℕ) :
    k0_pay188 (up S512x128 .bf16 (stk 256 q p)) = up S32x128 .bf16 (stk 16 q p) := by
  unfold k0_pay188
  simp only [sl1, sl2, ↓cc_def, ccQt]
  refine up_congr fun r l hr hl => ?_
  unfold cat stk
  by_cases h0 : r < 16
  · rw [if_pos h0]
    exact if_congr (by omega) (by rw [show (0 + r) % 256 = r % 16 by omega]) rfl
  · rw [if_neg h0]
    exact if_congr (by omega) (by rw [show (256 + (r - 16)) % 256 = r % 16 by omega]) rfl

theorem sums79 (rt : ℕ → ℕ → ℝ) (a b p : ℕ) (ha : a = 2 * p) (hb : b = 2 * p + 1) :
    k0_pay79 (col S1x256x1 (rt a)) (col S1x256x1 (rt b)) = up S512x1 .f32 (fun r _ => rt (2 * p + r / 256) (r % 256)) := by
  subst ha hb
  unfold k0_pay79
  simp only [col_S256x1, ↓cc_def, ccR]
  refine up_congr fun r l hr hl => ?_
  unfold cat
  by_cases h0 : r < 256
  · rw [if_pos h0, Nat.div_eq_of_lt h0, Nat.mod_eq_of_lt h0, Nat.add_zero]
  · rw [if_neg h0, show r / 256 = 1 by omega, show r % 256 = r - 256 by omega]

theorem sums80 (rt : ℕ → ℕ → ℝ) (a b p : ℕ) (ha : a = 2 * p) (hb : b = 2 * p + 1) :
    k0_pay80 (col S1x256x1 (rt a)) (col S1x256x1 (rt b)) = up S512x1 .f32 (fun r _ => rt (2 * p + r / 256) (r % 256)) := by
  subst ha hb
  unfold k0_pay80
  simp only [col_S256x1, ↓cc_def, ccR]
  refine up_congr fun r l hr hl => ?_
  unfold cat
  by_cases h0 : r < 256
  · rw [if_pos h0, Nat.div_eq_of_lt h0, Nat.mod_eq_of_lt h0, Nat.add_zero]
  · rw [if_neg h0, show r / 256 = 1 by omega, show r % 256 = r - 256 by omega]

theorem sums189 (rt : ℕ → ℕ → ℝ) (a b p : ℕ) (ha : a = 2 * p) (hb : b = 2 * p + 1) :
    k0_pay189 (col S1x16x1 (rt a)) (col S1x16x1 (rt b)) = up S32x1 .f32 (fun r _ => rt (2 * p + r / 16) (r % 16)) := by
  subst ha hb
  unfold k0_pay189
  simp only [col_S16x1, ↓cc_def, ccRt]
  refine up_congr fun r l hr hl => ?_
  unfold cat
  by_cases h0 : r < 16
  · rw [if_pos h0, Nat.div_eq_of_lt h0, Nat.mod_eq_of_lt h0, Nat.add_zero]
  · rw [if_neg h0, show r / 16 = 1 by omega, show r % 16 = r - 16 by omega]

theorem sums190 (rt : ℕ → ℕ → ℝ) (a b p : ℕ) (ha : a = 2 * p) (hb : b = 2 * p + 1) :
    k0_pay190 (col S1x16x1 (rt a)) (col S1x16x1 (rt b)) = up S32x1 .f32 (fun r _ => rt (2 * p + r / 16) (r % 16)) := by
  subst ha hb
  unfold k0_pay190
  simp only [col_S16x1, ↓cc_def, ccRt]
  refine up_congr fun r l hr hl => ?_
  unfold cat
  by_cases h0 : r < 16
  · rw [if_pos h0, Nat.div_eq_of_lt h0, Nat.mod_eq_of_lt h0, Nat.add_zero]
  · rw [if_neg h0, show r / 16 = 1 by omega, show r % 16 = r - 16 by omega]

theorem mask78 : k0_pay78 (iota .tc S256x256 32 [0] iota_S256x256_d0_w32) (iota .tc S256x256 32 [1] iota_S256x256_d1_w32) =
    msk S512x256 (fun r c => c < r % 256) := by
  unfold k0_pay78
  rw [below_msk]
  exact ccM _
theorem mask184 : k0_pay184 (iota .tc S256x256 32 [0] iota_S256x256_d0_w32) (iota .tc S256x256 32 [1] iota_S256x256_d1_w32) =
    msk S32x256 (fun r c => c < r % 16) := by
  unfold k0_pay184
  rw [below_msk]
  dsimp only
  rw [sm1]
  exact ccMt _

theorem out112 (F : ℕ → ℕ → ℕ → ℝ) :
    k0_pay112 (msk S256x128 fun _ c => c < 64) (up S512x128 .f32 fun r l => F (r / 256) (r % 256) l) =
      up S256x128 .bf16 (fun r l => F (l / 64) r l * (1 / 8)) := by
  unfold k0_pay112
  simp only [sl3, sl4, select_up, ofBits_eighth, bc_e, mulf_up, truncf_up]
  refine up_congr fun r l hr hl => ?_
  by_cases h0 : l < 64
  · rw [if_pos h0, show l / 64 = 0 by omega, show (0 + r) / 256 = 0 by omega, show (0 + r) % 256 = r by omega]
  · rw [if_neg h0, show l / 64 = 1 by omega, show (256 + r) / 256 = 1 by omega, show (256 + r) % 256 = r by omega]

theorem out2 (F : ℕ → ℕ → ℕ → ℝ) :
    k0_pay2 (msk S256x128 fun _ c => c < 64) (up S32x128 .f32 fun r l => F (r / 16) (r % 16) l) =
      up S16x128 .bf16 (fun r l => F (l / 64) r l * (1 / 8)) := by
  unfold k0_pay2
  simp only [sl5, sl6, sm2, select_up, ofBits_eighth, bc_e, mulf_up, truncf_up]
  refine up_congr fun r l hr hl => ?_
  by_cases h0 : l < 64
  · rw [if_pos h0, show l / 64 = 0 by omega, show (0 + r) / 16 = 0 by omega, show (0 + r) % 16 = r by omega]
  · rw [if_neg h0, show l / 64 = 1 by omega, show (16 + r) / 16 = 1 by omega, show (16 + r) % 16 = r by omega]

theorem out4 (F : ℕ → ℕ → ℕ → ℝ) :
    k0_pay4 (msk S256x128 fun _ c => c < 64) (up S32x128 .f32 fun r l => F (r / 16) (r % 16) l) =
      up S16x128 .bf16 (fun r l => F (l / 64) r l * (1 / 8)) := by
  unfold k0_pay4
  simp only [sl5, sl6, sm2, select_up, ofBits_eighth, bc_e, mulf_up, truncf_up]
  refine up_congr fun r l hr hl => ?_
  by_cases h0 : l < 64
  · rw [if_pos h0, show l / 64 = 0 by omega, show (0 + r) / 16 = 0 by omega, show (0 + r) % 16 = r by omega]
  · rw [if_neg h0, show l / 64 = 1 by omega, show (16 + r) / 16 = 1 by omega, show (16 + r) % 16 = r by omega]

theorem out1 (F : ℕ → ℕ → ℕ → ℝ) :
    k0_pay1 (msk S256x128 fun _ c => c < 64) (up S512x128 .f32 fun r l => F (r / 256) (r % 256) l)
      (extractStridedSlice S256x128 ![0, 0] (up S512x128 .f32 fun r l => F (r / 256) (r % 256) l) slices_S512x128_o0_0_S256x128) =
      up S256x128 .bf16 (fun r l => F (l / 64) r l * (1 / 8)) := out112 F

end Cert.Att
end
-- ==== Proof.Store.lean ====
module

public import proofs.«01_k».proof.Proof.Load
public import Idealize.ShloMosaic.Lib.WritesUnit

/- Loads from arrays of real numbers, and what the two stores of one trip leave. -/
@[expose] public section
set_option maxRecDepth 16384
noncomputable section
namespace Cert.Att
open Cert.KernelIdeal Cert.KernelIdeal.Gen Idealize.ShloMosaic Idealize.ShloMosaic.TcCoe Idealize.SL.Sem
open scoped Classical

theorem load_bf {κ sp} {A B a b : ℕ} (v : View sig κ sp ⟨2, ![A, B]⟩ .bf16) (X : v.ty.Contents (Elt Ideal)) (f : ℕ → ℕ → ℝ)
    (h : v.read (Elt Ideal) X = up ⟨2, ![A, B]⟩ .bf16 f) (off : Fin 2 → ℕ) (o w : ℕ) (ho : off = ![o, w]) (inb) :
    v.readAt (Elt Ideal) (Rect.unit (s := ⟨2, ![A, B]⟩) off ![a, b] inb).toLoadRect X =
      up ⟨2, ![a, b]⟩ .bf16 (fun r l => f (o + r) (w + l)) := by
  subst ho
  funext x
  refine (congrFun h _).trans ?_
  show ((f (o + 1 * (x 0).val) (w + 1 * (x 1).val) : ℝ) : EReal) = ((f (o + (x 0).val) (w + (x 1).val) : ℝ) : EReal)
  rw [Nat.one_mul, Nat.one_mul]

theorem load_f {κ sp} {A B a b : ℕ} (v : View sig κ sp ⟨2, ![A, B]⟩ .f32) (X : v.ty.Contents (Elt Ideal)) (f : ℕ → ℕ → ℝ)
    (h : v.read (Elt Ideal) X = up ⟨2, ![A, B]⟩ .f32 f) (off : Fin 2 → ℕ) (o w : ℕ) (ho : off = ![o, w]) (inb) :
    v.readAt (Elt Ideal) (Rect.unit (s := ⟨2, ![A, B]⟩) off ![a, b] inb).toLoadRect X =
      up ⟨2, ![a, b]⟩ .f32 (fun r l => f (o + r) (w + l)) := by
  subst ho
  funext x
  refine (congrFun h _).trans ?_
  show ((f (o + 1 * (x 0).val) (w + 1 * (x 1).val) : ℝ) : EReal) = ((f (o + (x 0).val) (w + (x 1).val) : ℝ) : EReal)
  rw [Nat.one_mul, Nat.one_mul]

/-- The sums of the rows of one head. -/
def sums3 (s : Shape) (f : ℕ → ℕ → ℝ) : FVec Ideal s .f32 := fun j => ((f (co s j 0) (co s j 1) : ℝ) : EReal)

theorem load_sums {κ sp} {A B a : ℕ} (v : View sig κ sp ⟨3, ![A, B, 1]⟩ .f32) (X : v.ty.Contents (Elt Ideal)) (f : ℕ → ℕ → ℝ)
    (h : v.read (Elt Ideal) X = sums3 ⟨3, ![A, B, 1]⟩ f) (o : ℕ) (inb) :
    v.readAt (Elt Ideal) (Rect.unit (s := ⟨3, ![A, B, 1]⟩) ![o, 0, 0] ![1, a, 1] inb).toLoadRect X = col ⟨3, ![1, a, 1]⟩ (f o) := by
  funext x
  refine (congrFun h _).trans ?_
  show ((f (o + 1 * (x 0).val) (0 + 1 * (x 1).val) : ℝ) : EReal) = ((f o (x 1).val : ℝ) : EReal)
  have : (x 0).val = 0 := by have : (x 0).val < 1 := (x 0).isLt; omega
  rw [this, Nat.one_mul, Nat.zero_add, Nat.one_mul, Nat.add_zero]

/-- Two stores side by side add `I` to 256 rows. -/
theorem store_two {κ sp} {e : FTy} {A : ℕ} (v : View sig κ sp ⟨2, ![A, 256]⟩ .f32) (X : v.ty.Contents (Elt Ideal)) (B I f0 f1 : ℕ → ℕ → ℝ)
    (h : v.read (Elt Ideal) X = up ⟨2, ![A, 256]⟩ .f32 B) (off0 off1 : Fin 2 → ℕ) (o : ℕ) (h0 : off0 = ![o, 0]) (h1 : off1 = ![o, 128])
    (inb0 inb1) (hf0 : ∀ r l, r < 256 → l < 128 → f0 r l = B (o + r) l + I (o + r) l)
    (hf1 : ∀ r l, r < 256 → l < 128 → f1 r l = B (o + r) (128 + l) + I (o + r) (128 + l)) :
    v.read (Elt Ideal) (v.writes (Elt Ideal) X
      [⟨Rect.unit (s := ⟨2, ![A, 256]⟩) off1 ![256, 128] inb1, up ⟨2, ![256, 128]⟩ .f32 f1⟩,
       ⟨Rect.unit (s := ⟨2, ![A, 256]⟩) off0 ![256, 128] inb0, up ⟨2, ![256, 128]⟩ .f32 f0⟩]) =
      up ⟨2, ![A, 256]⟩ .f32 (fun s w => B s w + if o ≤ s ∧ s < o + 256 then I s w else 0) := by
  funext y
  have hy1 : (y 1).val < 256 := (y 1).isLt
  show _ = ((B (y 0).val (y 1).val + (if o ≤ (y 0).val ∧ (y 0).val < o + 256 then I (y 0).val (y 1).val else 0) : ℝ) : EReal)
  by_cases hr : o ≤ (y 0).val ∧ (y 0).val < o + 256
  · rw [if_pos hr]
    by_cases hl : (y 1).val < 128
    · rw [View.read_writes_cons_unit_of_not_mem v X inb1 _ _ y h1 1 (Or.inl hl)]
      refine (View.read_writes_cons_unit_of_mem v X inb0 _ _ y (ix2 ⟨(y 0).val - o, by omega⟩ ⟨(y 1).val, hl⟩) h0
        (Fin.forall_fin_two.mpr ⟨?_, ?_⟩)).trans ?_
      · show (y 0).val = o + ((y 0).val - o); omega
      · show (y 1).val = 0 + (y 1).val; omega
      · show ((f0 ((y 0).val - o) (y 1).val : ℝ) : EReal) = _
        rw [hf0 _ _ (by omega) hl, show o + ((y 0).val - o) = (y 0).val by omega]
    · refine (View.read_writes_cons_unit_of_mem v X inb1 _ _ y (ix2 ⟨(y 0).val - o, by omega⟩ ⟨(y 1).val - 128, by omega⟩) h1
        (Fin.forall_fin_two.mpr ⟨?_, ?_⟩)).trans ?_
      · show (y 0).val = o + ((y 0).val - o); omega
      · show (y 1).val = 128 + ((y 1).val - 128); omega
      · show ((f1 ((y 0).val - o) ((y 1).val - 128) : ℝ) : EReal) = _
        rw [hf1 _ _ (by omega) (by omega), show o + ((y 0).val - o) = (y 0).val by omega,
          show 128 + ((y 1).val - 128) = (y 1).val by omega]
  · rw [if_neg hr, add_zero]
    have hr' : (y 0).val < o ∨ o + 256 ≤ (y 0).val := by omega
    rw [View.read_writes_cons_unit_of_not_mem v X inb1 _ _ y h1 0 hr',
      View.read_writes_cons_unit_of_not_mem v X inb0 _ _ y h0 0 hr']
    exact congrFun h y

end Cert.Att
end
-- ==== Proof.Args.lean ====
module

public import proofs.«01_k».proof.Proof.Equation
public import proofs.«01_k».proof.Proof.Store
public import proofs.«01_k».proof.Proof.Gen.KernelIdeal.Frame.Runs
public import Idealize.ShloMosaic.Lib.StableHlo.RunRead

/- What the kernel finds in its operands: the host program's values, of real arguments. -/
@[expose] public section
set_option maxRecDepth 16384
noncomputable section
namespace Cert.Att
open Cert.KernelIdeal Cert.KernelIdeal.Gen Idealize.ShloMosaic Idealize.ShloMosaic.TcCoe Idealize.SL.Sem
open scoped Classical

section
variable (m : (ℓ : Loc nD τ sig) → Buf (Elt Ideal) ℓ) (c : Dev nD) (q k v d : ℕ → ℕ → ℝ)

/-- The scaled queries, as the host program writes them. -/
def prepQ (x : FVec Ideal S2064x1024 .f32) : FVec Ideal S2304x1024 .bf16 :=
  pad S2304x1024 ![0, 0] ![240, 0] ![0, 0] (truncf (F := Ideal) .bf16 (mulf x (broadcastInDim S2064x1024 ![] bcast_S_S2064x1024 (constant (F := Ideal) S_ .f32 0x3E000000#32))) bitsLt_bf16_f32)
    (sitofp (F := Ideal) .bf16 (constantI S_ 32 0#32)) pads_S2064x1024_S2304x1024_02400_000 h_S_

/-- The other operands. -/
def prep (x : FVec Ideal S2064x1024 .f32) : FVec Ideal S2304x1024 .bf16 :=
  pad S2304x1024 ![0, 0] ![240, 0] ![0, 0] (truncf (F := Ideal) .bf16 x bitsLt_bf16_f32)
    (sitofp (F := Ideal) .bf16 (constantI S_ 32 0#32)) pads_S2064x1024_S2304x1024_02400_000 h_S_

/-- The sums of the rows. -/
def prepS (x y : FVec Ideal S2064x1024 .f32) : FVec Ideal S16x2304x1 .f32 :=
  broadcastInDim S16x2304x1 ![0, 1] bcast_S16x2304_S16x2304x1_0_1 (pad S16x2304 ![0, 0] ![0, 240] ![0, 0]
    (Host.reduceAdd (F := Ideal) (φ := .f32) (Cert.ReferenceIdeal.Read.val_main_v14_0 (F := Ideal) x y) (constant (F := Ideal) S_ .f32 0#32) reducesTo_S16x2064x2064_S16x2064_d2 h_S_)
    (sitofp (F := Ideal) .f32 (constantI S_ 32 0#32)) pads_S16x2064_S16x2304_000_02400 h_S_)

theorem prepQ_up : prepQ (up S2064x1024 .f32 q) = up S2304x1024 .bf16 (ext (scl q)) := by
  unfold prepQ
  have e : truncf (F := Ideal) .bf16 (mulf (up S2064x1024 .f32 q) (broadcastInDim S2064x1024 ![] bcast_S_S2064x1024 (constant (F := Ideal) S_ .f32 0x3E000000#32))) bitsLt_bf16_f32 = up S2064x1024 .bf16 (scl q) := by
    funext j
    show (up S2064x1024 .f32 q j) * (FloatOps.ofBits (F := Ideal) .f32 0x3E000000#32) = _
    rw [eighth32]
    exact (EReal.coe_mul _ _).symm
  rw [e]
  exact pad_up (A := 2064) (B := 2304) (C := 1024) (by omega) .bf16 (scl q) _ h_S_ (sitofp_zero _ _ rfl) pads_S2064x1024_S2304x1024_02400_000

theorem prep_up : prep (up S2064x1024 .f32 k) = up S2304x1024 .bf16 (ext k) :=
  pad_up (A := 2064) (B := 2304) (C := 1024) (by omega) .bf16 k _ h_S_ (sitofp_zero _ _ rfl) pads_S2064x1024_S2304x1024_02400_000

theorem host_k (h : m ((c : Thread nD τ).loc main_arg1) = up S2064x1024 .f32 k) : V m c main_v22 = up S2304x1024 .bf16 (ext k) := by
  unfold V
  after_reads_simp
  exact (congrArg prep h).trans (prep_up k)

theorem host_v (h : m ((c : Thread nD τ).loc main_arg2) = up S2064x1024 .f32 v) : V m c main_v24 = up S2304x1024 .bf16 (ext v) := by
  unfold V
  after_reads_simp
  exact (congrArg prep h).trans (prep_up v)

theorem host_d (h : m ((c : Thread nD τ).loc main_arg3) = up S2064x1024 .f32 d) : V m c main_v26 = up S2304x1024 .bf16 (ext d) := by
  unfold V
  after_reads_simp
  exact (congrArg prep h).trans (prep_up d)

theorem host_q (h0 : m ((c : Thread nD τ).loc main_arg0) = up S2064x1024 .f32 q) : V m c main_v20 = up S2304x1024 .bf16 (ext (scl q)) := by
  unfold V
  after_reads_simp
  exact (congrArg prepQ h0).trans (prepQ_up q)

theorem sitofp_zero32 {u : Shape} (x : IVec u 32) (i : u.Idx) (h : x i = 0#32) : sitofp (F := Ideal) .f32 x i = ((0 : ℝ) : EReal) := by
  show FloatOps.sitofp (F := Ideal) .f32 (x i) = _
  rw [h]
  show (((0#32).toInt : ℝ) : EReal) = _
  norm_num

/-- The sums of the rows, as the reduction takes them. -/
theorem reduce_rows (f : ℕ → ℕ → ℕ → ℝ) (init : S_.Idx → Ideal .f32) (hi : init (Shape.Idx.first h_S_) = 0) :
    Host.reduceAdd (F := Ideal) (φ := .f32) (up3 S16x2064x2064 f) init reducesTo_S16x2064x2064_S16x2064_d2 h_S_
      = up S16x2064 .f32 (fun h t => ∑ s ∈ Finset.range 2064, f h t s) := by
  funext j
  show Ideal.hostReduceAdd _ (up3 S16x2064x2064 f) (init (Shape.Idx.first h_S_)) j = _
  rw [Ideal.hostReduceAdd_r3_a2, hi]
  rw [zero_add, up_apply, coe_sum_range]
  rfl

/-- The sums of the rows on their longer axis. -/
theorem pad_rows (f : ℕ → ℕ → ℝ) (v : S_.Idx → Ideal .f32) (hv : v (Shape.Idx.first h_S_) = ((0 : ℝ) : EReal)) :
    broadcastInDim S16x2304x1 ![0, 1] bcast_S16x2304_S16x2304x1_0_1 (pad S16x2304 ![0, 0] ![0, 240] ![0, 0] (up S16x2064 .f32 f) v pads_S16x2064_S16x2304_000_02400 h_S_)
      = sums3 S16x2304x1 (fun h t => if t < 2064 then f h t else 0) := by
  funext j
  have c0 : (j 0).val < 16 := (j 0).isLt
  have c1 : (j 1).val < 2304 := (j 1).isLt
  rw [broadcastInDim_apply _ _ _ j (ix2 ⟨(j 0).val, c0⟩ ⟨(j 1).val, c1⟩) (fun a => by
    match a with
    | ⟨0, _⟩ => rfl
    | ⟨1, _⟩ => rfl), pad_apply]
  by_cases hr : (j 1).val < 2064
  · rw [dif_pos (fun a => by
      match a with
      | ⟨0, _⟩ => exact ⟨Nat.zero_le _, Nat.mod_one _, by show ((j 0).val - 0) / 1 < 16; rw [Nat.div_one]; exact c0⟩
      | ⟨1, _⟩ => exact ⟨Nat.zero_le _, Nat.mod_one _, by show ((j 1).val - 0) / 1 < 2064; rw [Nat.div_one]; exact hr⟩)]
    show ((f (((j 0).val - 0) / 1) (((j 1).val - 0) / 1) : ℝ) : EReal) = (((if (j 1).val < 2064 then f (j 0).val (j 1).val else 0) : ℝ) : EReal)
    rw [if_pos hr, Nat.div_one, Nat.div_one, Nat.sub_zero, Nat.sub_zero]
  · rw [dif_neg (fun hin => hr (by
      have h0 : ((j 1).val - 0) / 1 < 2064 := (hin 1).2.2
      rwa [Nat.div_one] at h0)), hv]
    show _ = (((if (j 1).val < 2064 then f (j 0).val (j 1).val else 0) : ℝ) : EReal)
    rw [if_neg hr]

theorem prepS_up : prepS (up S2064x1024 .f32 q) (up S2064x1024 .f32 k) = sums3 S16x2304x1 (rowSums q k) := by
  unfold prepS
  rw [ref_sm, reduce_rows _ _ (by exact constant_zero_apply)]
  exact pad_rows _ _ (sitofp_zero32 _ _ rfl)

theorem host_s (h0 : m ((c : Thread nD τ).loc main_arg0) = up S2064x1024 .f32 q) (h1 : m ((c : Thread nD τ).loc main_arg1) = up S2064x1024 .f32 k) : V m c main_v16 = sums3 S16x2304x1 (rowSums q k) := by
  unfold V
  after_reads_simp
  exact (congrArg₂ prepS h0 h1).trans (prepS_up q k)
end
end Cert.Att
end
-- ==== Proof.Finite.lean ====
module

public import proofs.«01_k».proof.Proof.Args
public import proofs.«01_k».proof.Pre_finite

/- Arguments with no infinite entry are arrays of real numbers. -/
@[expose] public section
noncomputable section
namespace Cert.Att
open Idealize.ShloMosaic
open scoped Classical

theorem and_one {x y : BitVec 1} (h : x &&& y = 1#1) : x = 1#1 ∧ y = 1#1 := by
  revert x y; decide

/-- An entry smaller in size than infinity is a real number. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  rw [ofBits_inf] at h
  have hl : max x (-x) < ⊤ := by
    by_contra hn
    have e : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [e] at h
    exact absurd h (by decide)
  refine EReal.coe_toReal ?_ ?_
  · rintro rfl
    exact absurd hl (by simp)
  · rintro rfl
    exact absurd hl (by simp)

/-- The real numbers of an array. -/
def reals (x : FVec Ideal ⟨2, ![2064, 1024]⟩ .f32) (r w : ℕ) : ℝ :=
  if h : r < 2064 ∧ w < 1024 then EReal.toReal (x (ix2 ⟨r, h.1⟩ ⟨w, h.2⟩)) else 0

theorem up_reals (x : FVec Ideal ⟨2, ![2064, 1024]⟩ .f32) (h : ∀ i, ((EReal.toReal (x i) : ℝ) : EReal) = x i) : x = up ⟨2, ![2064, 1024]⟩ .f32 (reals x) := by
  funext i
  have h0 : (i 0).val < 2064 := (i 0).isLt
  have h1 : (i 1).val < 1024 := (i 1).isLt
  show x i = ((reals x (i 0).val (i 1).val : ℝ) : EReal)
  rw [reals, dif_pos ⟨h0, h1⟩]
  have e : ix2 (⟨(i 0).val, h0⟩ : Fin 2064) (⟨(i 1).val, h1⟩ : Fin 1024) = i := by
    funext a
    match a with
    | ⟨0, _⟩ => rfl
    | ⟨1, _⟩ => rfl
  rw [e]
  exact (h i).symm

theorem facts_finite : Cert.Pre_finite.Facts := ⟨by decide⟩

theorem finite_args (x0 x1 x2 x3 : FVec Ideal ⟨2, ![2064, 1024]⟩ .f32)
    (h : @Cert.Pre_finite.fn facts_finite Ideal _ x0 x1 x2 x3 = fun _ => 1#1) :
    x0 = up ⟨2, ![2064, 1024]⟩ .f32 (reals x0) ∧ x1 = up ⟨2, ![2064, 1024]⟩ .f32 (reals x1)
      ∧ x2 = up ⟨2, ![2064, 1024]⟩ .f32 (reals x2) ∧ x3 = up ⟨2, ![2064, 1024]⟩ .f32 (reals x3) := by
  have e (i) := and_one (congrFun h i)
  have e' (i) := and_one (e i).1
  have e'' (i) := and_one (e' i).1
  exact ⟨up_reals _ fun i => real_of_lt _ (e'' i).1, up_reals _ fun i => real_of_lt _ (e'' i).2,
    up_reals _ fun i => real_of_lt _ (e' i).2, up_reals _ fun i => real_of_lt _ (e i).2⟩
end Cert.Att
end
-- ==== Proof.Blocks.lean ====
module

public import proofs.«01_k».proof.Proof.Rows

/- The parts that the grid points compute, put together over the whole arrays. -/
@[expose] public section
noncomputable section
namespace Cert.Att
open scoped Classical

section
variable (q k v d rt : ℕ → ℕ → ℝ)

/-- The block at rows `b` and lanes `256 * h`. -/
def blk (x : ℕ → ℕ → ℝ) (b h r w : ℕ) : ℝ := x (b + r) (256 * h + w)
/-- The sums of the four heads of `h`, rows `b` and after. -/
def blkS (b h g r : ℕ) : ℝ := rt (4 * h + g) (b + r)

theorem dotH_blk (b h g r s : ℕ) : dotH (blk q b h) (blk k 0 h) g r s = dotH q k (4 * h + g) (b + r) s := by
  unfold dotH blk
  refine Finset.sum_congr rfl fun e _ => ?_
  rw [show 256 * h + (64 * g + e) = 64 * (4 * h + g) + e by ring, Nat.zero_add]

theorem rSp_blk (b h g r s : ℕ) : rSp (blk q b h) (blk k 0 h) b g r s = rSp q k 0 (4 * h + g) (b + r) s := by
  unfold rSp
  rw [dotH_blk, Nat.zero_add]

theorem rCs_blk (b h g r n : ℕ) : rCs (blk q b h) (blk k 0 h) b g r n = rCs q k 0 (4 * h + g) (b + r) n :=
  Finset.sum_congr rfl fun s _ => rSp_blk q k b h g r s

theorem rA_blk (b h g r s : ℕ) :
    rA (blk q b h) (blk k 0 h) (blkS rt b h) b g r s = rA q k rt 0 (4 * h + g) (b + r) s := by
  unfold rA
  rw [dotH_blk, rCs_blk, rSp_blk, Nat.zero_add]
  rfl

theorem rG_blk (b h g r s : ℕ) :
    rG (blk q b h) (blk k 0 h) (blk v 0 h) (blk d b h) (blkS rt b h) b g r s = rG q k v d rt 0 (4 * h + g) (b + r) s := by
  unfold rG
  rw [rA_blk, dotH_blk]

theorem rCg_blk (b h g r n : ℕ) :
    rCg (blk q b h) (blk k 0 h) (blk v 0 h) (blk d b h) (blkS rt b h) b g r n = rCg q k v d rt 0 (4 * h + g) (b + r) n :=
  Finset.sum_congr rfl fun s _ => rG_blk q k v d rt b h g r s

theorem rDz_blk (b h g r s : ℕ) :
    rDz (blk q b h) (blk k 0 h) (blk v 0 h) (blk d b h) (blkS rt b h) b g r s = rDz q k v d rt 0 (4 * h + g) (b + r) s := by
  unfold rDz
  rw [rG_blk, dotH_blk, rCg_blk, Nat.zero_add]

theorem rDz_zero (b g r s : ℕ) (h : b + r ≤ s) : rDz q k v d rt b g r s = 0 := if_neg (by omega)
theorem rA_zero (b g r s : ℕ) (h : b + r ≤ s) : rA q k rt b g r s = 0 := if_neg (by omega)

theorem sum_stop (f : ℕ → ℝ) (t n n' : ℕ) (hn : t ≤ n) (hn' : t ≤ n') (h : ∀ s, t ≤ s → f s = 0) :
    ∑ s ∈ Finset.range n, f s = ∑ s ∈ Finset.range n', f s := by
  have key : ∀ n, t ≤ n → ∑ s ∈ Finset.range n, f s = ∑ s ∈ Finset.range t, f s := fun n hn => by
    refine (Finset.sum_subset (fun x hx => Finset.mem_range.mpr (lt_of_lt_of_le (Finset.mem_range.mp hx) hn)) fun x _ hx => h x ?_).symm
    simpa using hx
  rw [key n hn, key n' hn']

theorem rDq_blk (b h r w n : ℕ) (hr : b + r ≤ n) (hr' : b + r ≤ 2064) :
    rDq (blk q b h) (blk k 0 h) (blk v 0 h) (blk d b h) (blkS rt b h) b (w / 64) r w n =
      rDq q k v d rt 0 ((256 * h + w) / 64) (b + r) (256 * h + w) 2064 := by
  unfold rDq
  rw [sum_stop _ (b + r) n 2064 hr hr' (fun s hs => by rw [rDz_zero _ _ _ _ _ _ _ _ _ hs, zero_mul])]
  refine Finset.sum_congr rfl fun s _ => ?_
  rw [rDz_blk, show (256 * h + w) / 64 = 4 * h + w / 64 by omega, blk, Nat.zero_add]

/-- The rows of block `i`. -/
def bR (i : ℕ) : ℕ := if i = 8 then 16 else 256
/-- What the rows of block `i` give to the gradient of the keys, and of the values. -/
def cK (h i s w : ℕ) : ℝ :=
  if s < 256 * (i + 1) then rDk (blk q (256 * i) h) (blk k 0 h) (blk v 0 h) (blk d (256 * i) h) (blkS rt (256 * i) h) (256 * i) (bR i) s w else 0
def cV (h i s w : ℕ) : ℝ :=
  if s < 256 * (i + 1) then rDv (blk q (256 * i) h) (blk k 0 h) (blk d (256 * i) h) (blkS rt (256 * i) h) (256 * i) (bR i) s w else 0

theorem cK_eq (h i s w : ℕ) (hi : i ≤ 8) :
    cK q k v d rt h i s w = ∑ r ∈ Finset.range (bR i), rDz q k v d rt 0 ((256 * h + w) / 64) (256 * i + r) s * q (256 * i + r) (256 * h + w) := by
  have hb : bR i ≤ 256 := by unfold bR; split <;> omega
  unfold cK
  rw [show (256 * h + w) / 64 = 4 * h + w / 64 by omega]
  split
  · exact Finset.sum_congr rfl fun r _ => by rw [rDz_blk]; rfl
  · refine (Finset.sum_eq_zero fun r hr => ?_).symm
    have := Finset.mem_range.mp hr
    rw [rDz_zero _ _ _ _ _ _ _ _ _ (by omega), zero_mul]

theorem cV_eq (h i s w : ℕ) (hi : i ≤ 8) :
    cV q k d rt h i s w = ∑ r ∈ Finset.range (bR i), rA q k rt 0 ((256 * h + w) / 64) (256 * i + r) s * d (256 * i + r) (256 * h + w) := by
  have hb : bR i ≤ 256 := by unfold bR; split <;> omega
  unfold cV
  rw [show (256 * h + w) / 64 = 4 * h + w / 64 by omega]
  split
  · exact Finset.sum_congr rfl fun r _ => by rw [rA_blk]; rfl
  · refine (Finset.sum_eq_zero fun r hr => ?_).symm
    have := Finset.mem_range.mp hr
    rw [rA_zero _ _ _ _ _ _ _ (by omega), zero_mul]

theorem sum_blocks (f : ℕ → ℝ) : ∑ i ∈ Finset.range 9, ∑ r ∈ Finset.range (bR i), f (256 * i + r) = ∑ t ∈ Finset.range 2064, f t := by
  have h8 : ∀ n ≤ 8, ∑ i ∈ Finset.range n, ∑ r ∈ Finset.range (bR i), f (256 * i + r) = ∑ t ∈ Finset.range (256 * n), f t := by
    intro n
    induction n with
    | zero => intro _; simp
    | succ n ih =>
      intro hn
      rw [Finset.sum_range_succ, ih (by omega), show 256 * (n + 1) = 256 * n + 256 by ring, Finset.sum_range_add,
        show bR n = 256 from if_neg (by omega)]
  rw [Finset.sum_range_succ, h8 8 le_rfl, show 2064 = 256 * 8 + 16 from rfl, Finset.sum_range_add]
  rfl

theorem sum_cK (h s w : ℕ) : ∑ i ∈ Finset.range 9, cK q k v d rt h i s w = rDk q k v d rt 0 2064 s (256 * h + w) := by
  rw [Finset.sum_congr rfl fun i hi => cK_eq q k v d rt h i s w (by have := Finset.mem_range.mp hi; omega)]
  exact sum_blocks fun t => rDz q k v d rt 0 ((256 * h + w) / 64) t s * q t (256 * h + w)

theorem sum_cV (h s w : ℕ) : ∑ i ∈ Finset.range 9, cV q k d rt h i s w = rDv q k d rt 0 2064 s (256 * h + w) := by
  rw [Finset.sum_congr rfl fun i hi => cV_eq q k d rt h i s w (by have := Finset.mem_range.mp hi; omega)]
  exact sum_blocks fun t => rA q k rt 0 ((256 * h + w) / 64) t s * d t (256 * h + w)
end
end Cert.Att
end
-- ==== Proof.Trip.lean ====
module

public import proofs.«01_k».proof.Proof.Load
public import proofs.«01_k».proof.Proof.Gen.KernelIdeal.Value

/- One trip of the sweep over the key blocks before the diagonal: what it carries on and what it stores. -/
@[expose] public section
set_option maxRecDepth 16384
noncomputable section
namespace Cert.Att
open Cert.KernelIdeal Cert.KernelIdeal.Gen Idealize.ShloMosaic Idealize.ShloMosaic.TcCoe Idealize.SL.Sem
open scoped Classical

theorem tripR1 (Q0 Q1 K0 K1 V0 V1 D0 D1 : ℕ → ℕ → ℝ) (rt0 rt1 pc0 gc0 pc1 gc1 : ℕ → ℝ) (dq0 dq1 : ℕ → ℕ → ℝ)
  (𝒱 : Variants) (c : Dev nD) (bd : Option 𝒱.V) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg7 : Memref sig .tc .hbm S8x128 .f32) (harg7 : arg7.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (arg1 : BitVec 32) (v3 : IVec S256x256 32) (v4 : IVec S256x256 32) (k0_h2 : k0_cond2 i = 1#1) (v50 : Vec Ideal S1x256x1 .f32) (v52 : Vec Ideal S1x256x1 .f32) (v55 : Vec Ideal S1x256x1 .f32) (v57 : Vec Ideal S1x256x1 .f32) (X_arg3 : BufTy.Contents (Elt Ideal) arg3.view.ty) (X_arg4 : BufTy.Contents (Elt Ideal) arg4.view.ty) (k : Fin (k0_t1_loop i).trips) (f_arg11 : BufTy.Contents (Elt Ideal) arg11.view.ty) (f_arg12 : BufTy.Contents (Elt Ideal) arg12.view.ty)
  (hr0 : k0_pay79 v50 v52 = up S512x1 .f32 fun r _ => rt0 r) (hr1 : k0_pay80 v55 v57 = up S512x1 .f32 fun r _ => rt1 r)
  (hK0 : View.readAt (Elt Ideal) arg3.view (Rect.unit (s := S2304x256) (k0_off1 i k) S256x128.size (k0_off1_inb i k k0_h2)).toLoadRect X_arg3 = up S256x128 .bf16 K0)
  (hK1 : View.readAt (Elt Ideal) arg3.view (Rect.unit (s := S2304x256) (k0_off2 i k) S256x128.size (k0_off2_inb i k k0_h2)).toLoadRect X_arg3 = up S256x128 .bf16 K1)
  (hV0 : View.readAt (Elt Ideal) arg4.view (Rect.unit (s := S2304x256) (k0_off1 i k) S256x128.size (k0_off1_inb i k k0_h2)).toLoadRect X_arg4 = up S256x128 .bf16 V0)
  (hV1 : View.readAt (Elt Ideal) arg4.view (Rect.unit (s := S2304x256) (k0_off2 i k) S256x128.size (k0_off2_inb i k k0_h2)).toLoadRect X_arg4 = up S256x128 .bf16 V1) :
    tripR_k0_t1 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 Q0) (up S512x128 .bf16 Q1) (up S512x128 .bf16 D0) (up S512x128 .bf16 D1) k0_h2 v50 v52 v55 v57 X_arg3 X_arg4 k (up S512x1 .f32 fun r _ => pc0 r, up S512x1 .f32 fun r _ => gc0 r, up S512x128 .f32 dq0, up S512x1 .f32 fun r _ => pc1 r, up S512x1 .f32 fun r _ => gc1 r, up S512x128 .f32 dq1) f_arg11 f_arg12 = (up S512x1 .f32 (fun r _ => pc0 r + cum (tSp (fun _ _ => True) Q0 K0) r 255), up S512x1 .f32 (fun r _ => gc0 r + cum (tG (fun _ _ => True) Q0 K0 V0 D0 rt0 pc0) r 255), up S512x128 .f32 (fun r c => dq0 r c + matDot 256 (tDz (fun _ _ => True) Q0 K0 V0 D0 rt0 pc0 gc0) K0 r c), up S512x1 .f32 (fun r _ => pc1 r + cum (tSp (fun _ _ => True) Q1 K1) r 255), up S512x1 .f32 (fun r _ => gc1 r + cum (tG (fun _ _ => True) Q1 K1 V1 D1 rt1 pc1) r 255), up S512x128 .f32 (fun r c => dq1 r c + matDot 256 (tDz (fun _ _ => True) Q1 K1 V1 D1 rt1 pc1 gc1) K1 r c)) := by
  unfold tripR_k0_t1 trip_k0_t1
  dsimp only
  sl_unfold_run_names
  simp only [hr0, hr1, hK0, hK1, hV0, hV1, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, shapeCast_self_up, constant_zero, nt512, nn512, tn512, cum1024, ↓cc_def, cc1024, lo1024, hi1024, last512, spread512, absf_up, constant_zero_apply, ofBits_one, broadcast_coe, bc_e, subf_up, mulf_up, exp_up, addf_up, divf_one_exp, log_div_exp, maximumf_up, softplus_eq, cmpf_oge_up, select_up, sgm_eq, truncf_up, fold_sp, fold_a, fold_g, fold_dz]

theorem tripL1 (A0 A1 B0 B1 : ℕ → ℕ → ℝ) (Q0 Q1 K0 K1 V0 V1 D0 D1 : ℕ → ℕ → ℝ) (rt0 rt1 pc0 gc0 pc1 gc1 : ℕ → ℝ) (dq0 dq1 : ℕ → ℕ → ℝ)
  (𝒱 : Variants) (c : Dev nD) (bd : Option 𝒱.V) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg7 : Memref sig .tc .hbm S8x128 .f32) (harg7 : arg7.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (arg1 : BitVec 32) (v3 : IVec S256x256 32) (v4 : IVec S256x256 32) (k0_h2 : k0_cond2 i = 1#1) (v50 : Vec Ideal S1x256x1 .f32) (v52 : Vec Ideal S1x256x1 .f32) (v55 : Vec Ideal S1x256x1 .f32) (v57 : Vec Ideal S1x256x1 .f32) (X_arg3 : BufTy.Contents (Elt Ideal) arg3.view.ty) (X_arg4 : BufTy.Contents (Elt Ideal) arg4.view.ty) (k : Fin (k0_t1_loop i).trips) (f_arg11 : BufTy.Contents (Elt Ideal) arg11.view.ty) (f_arg12 : BufTy.Contents (Elt Ideal) arg12.view.ty)
  (hr0 : k0_pay79 v50 v52 = up S512x1 .f32 fun r _ => rt0 r) (hr1 : k0_pay80 v55 v57 = up S512x1 .f32 fun r _ => rt1 r)
  (hK0 : View.readAt (Elt Ideal) arg3.view (Rect.unit (s := S2304x256) (k0_off1 i k) S256x128.size (k0_off1_inb i k k0_h2)).toLoadRect X_arg3 = up S256x128 .bf16 K0)
  (hK1 : View.readAt (Elt Ideal) arg3.view (Rect.unit (s := S2304x256) (k0_off2 i k) S256x128.size (k0_off2_inb i k k0_h2)).toLoadRect X_arg3 = up S256x128 .bf16 K1)
  (hV0 : View.readAt (Elt Ideal) arg4.view (Rect.unit (s := S2304x256) (k0_off1 i k) S256x128.size (k0_off1_inb i k k0_h2)).toLoadRect X_arg4 = up S256x128 .bf16 V0)
  (hV1 : View.readAt (Elt Ideal) arg4.view (Rect.unit (s := S2304x256) (k0_off2 i k) S256x128.size (k0_off2_inb i k k0_h2)).toLoadRect X_arg4 = up S256x128 .bf16 V1)
  (hA0 : View.readAt (Elt Ideal) arg11.view (Rect.unit (s := S2304x256) (k0_off1 i k) S256x128.size (k0_off1_inb i k k0_h2)).toLoadRect f_arg11 = up S256x128 .f32 A0)
  (hA1 : View.readAt (Elt Ideal) arg11.view (Rect.unit (s := S2304x256) (k0_off2 i k) S256x128.size (k0_off2_inb i k k0_h2)).toLoadRect f_arg11 = up S256x128 .f32 A1)
  (hB0 : View.readAt (Elt Ideal) arg12.view (Rect.unit (s := S2304x256) (k0_off1 i k) S256x128.size (k0_off1_inb i k k0_h2)).toLoadRect f_arg12 = up S256x128 .f32 B0)
  (hB1 : View.readAt (Elt Ideal) arg12.view (Rect.unit (s := S2304x256) (k0_off2 i k) S256x128.size (k0_off2_inb i k k0_h2)).toLoadRect f_arg12 = up S256x128 .f32 B1) :
    tripL_k0_t1 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 Q0) (up S512x128 .bf16 Q1) (up S512x128 .bf16 D0) (up S512x128 .bf16 D1) k0_h2 v50 v52 v55 v57 X_arg3 X_arg4 k (up S512x1 .f32 fun r _ => pc0 r, up S512x1 .f32 fun r _ => gc0 r, up S512x128 .f32 dq0, up S512x1 .f32 fun r _ => pc1 r, up S512x1 .f32 fun r _ => gc1 r, up S512x128 .f32 dq1) f_arg11 f_arg12 = ([⟨Rect.unit (s := S2304x256) (k0_off2 i k) S256x128.size (k0_off2_inb i k k0_h2), up S256x128 .f32 (fun r c => A1 r c + colsDot 512 (tDz (fun _ _ => True) Q1 K1 V1 D1 rt1 pc1 gc1) Q1 r c)⟩, ⟨Rect.unit (s := S2304x256) (k0_off1 i k) S256x128.size (k0_off1_inb i k k0_h2), up S256x128 .f32 (fun r c => A0 r c + colsDot 512 (tDz (fun _ _ => True) Q0 K0 V0 D0 rt0 pc0 gc0) Q0 r c)⟩], [⟨Rect.unit (s := S2304x256) (k0_off2 i k) S256x128.size (k0_off2_inb i k k0_h2), up S256x128 .f32 (fun r c => B1 r c + colsDot 512 (tA (fun _ _ => True) Q1 K1 rt1 pc1) D1 r c)⟩, ⟨Rect.unit (s := S2304x256) (k0_off1 i k) S256x128.size (k0_off1_inb i k k0_h2), up S256x128 .f32 (fun r c => B0 r c + colsDot 512 (tA (fun _ _ => True) Q0 K0 rt0 pc0) D0 r c)⟩]) := by
  unfold tripL_k0_t1 trip_k0_t1
  dsimp only
  sl_unfold_run_names
  simp only [hr0, hr1, hK0, hK1, hV0, hV1, hA0, hA1, hB0, hB1, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, shapeCast_self_up, constant_zero, nt512, nn512, tn512, cum1024, ↓cc_def, cc1024, lo1024, hi1024, last512, spread512, absf_up, constant_zero_apply, ofBits_one, broadcast_coe, bc_e, subf_up, mulf_up, exp_up, addf_up, divf_one_exp, log_div_exp, maximumf_up, softplus_eq, cmpf_oge_up, select_up, sgm_eq, truncf_up, fold_sp, fold_a, fold_g, fold_dz]

theorem tripR3 (Q0 Q1 K0 K1 V0 V1 D0 D1 : ℕ → ℕ → ℝ) (rt0 rt1 pc0 gc0 pc1 gc1 : ℕ → ℝ) (dq0 dq1 : ℕ → ℕ → ℝ)
  (v17 v23 v32 v38 : FVec Ideal S512x128 .bf16) (𝒱 : Variants) (c : Dev nD) (bd : Option 𝒱.V) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg7 : Memref sig .tc .hbm S8x128 .f32) (harg7 : arg7.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (arg1 : BitVec 32) (v3 : IVec S256x256 32) (v4 : IVec S256x256 32) (k0_h3 : k0_cond3 i = 1#1) (v63 : Vec Ideal S1x16x1 .f32) (v65 : Vec Ideal S1x16x1 .f32) (v68 : Vec Ideal S1x16x1 .f32) (v70 : Vec Ideal S1x16x1 .f32) (X_arg3 : BufTy.Contents (Elt Ideal) arg3.view.ty) (X_arg4 : BufTy.Contents (Elt Ideal) arg4.view.ty) (k : Fin (k0_t3_loop i).trips) (f_arg11 : BufTy.Contents (Elt Ideal) arg11.view.ty) (f_arg12 : BufTy.Contents (Elt Ideal) arg12.view.ty)
  (h185 : k0_pay185 v17 = up S32x128 .bf16 Q0) (h186 : k0_pay186 v23 = up S32x128 .bf16 Q1) (h187 : k0_pay187 v32 = up S32x128 .bf16 D0) (h188 : k0_pay188 v38 = up S32x128 .bf16 D1) (hr0 : k0_pay189 v63 v65 = up S32x1 .f32 fun r _ => rt0 r) (hr1 : k0_pay190 v68 v70 = up S32x1 .f32 fun r _ => rt1 r)
  (hK0 : View.readAt (Elt Ideal) arg3.view (Rect.unit (s := S2304x256) (k0_off7 i k) S256x128.size (k0_off7_inb i k k0_h3)).toLoadRect X_arg3 = up S256x128 .bf16 K0)
  (hK1 : View.readAt (Elt Ideal) arg3.view (Rect.unit (s := S2304x256) (k0_off8 i k) S256x128.size (k0_off8_inb i k k0_h3)).toLoadRect X_arg3 = up S256x128 .bf16 K1)
  (hV0 : View.readAt (Elt Ideal) arg4.view (Rect.unit (s := S2304x256) (k0_off7 i k) S256x128.size (k0_off7_inb i k k0_h3)).toLoadRect X_arg4 = up S256x128 .bf16 V0)
  (hV1 : View.readAt (Elt Ideal) arg4.view (Rect.unit (s := S2304x256) (k0_off8 i k) S256x128.size (k0_off8_inb i k k0_h3)).toLoadRect X_arg4 = up S256x128 .bf16 V1) :
    tripR_k0_t3 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) v17 v23 v32 v38 k0_h3 v63 v65 v68 v70 X_arg3 X_arg4 k (up S32x1 .f32 fun r _ => pc0 r, up S32x1 .f32 fun r _ => gc0 r, up S32x128 .f32 dq0, up S32x1 .f32 fun r _ => pc1 r, up S32x1 .f32 fun r _ => gc1 r, up S32x128 .f32 dq1) f_arg11 f_arg12 = (up S32x1 .f32 (fun r _ => pc0 r + cum (tSp (fun _ _ => True) Q0 K0) r 255), up S32x1 .f32 (fun r _ => gc0 r + cum (tG (fun _ _ => True) Q0 K0 V0 D0 rt0 pc0) r 255), up S32x128 .f32 (fun r c => dq0 r c + matDot 256 (tDz (fun _ _ => True) Q0 K0 V0 D0 rt0 pc0 gc0) K0 r c), up S32x1 .f32 (fun r _ => pc1 r + cum (tSp (fun _ _ => True) Q1 K1) r 255), up S32x1 .f32 (fun r _ => gc1 r + cum (tG (fun _ _ => True) Q1 K1 V1 D1 rt1 pc1) r 255), up S32x128 .f32 (fun r c => dq1 r c + matDot 256 (tDz (fun _ _ => True) Q1 K1 V1 D1 rt1 pc1 gc1) K1 r c)) := by
  unfold tripR_k0_t3 trip_k0_t3
  dsimp only
  sl_unfold_run_names
  simp only [h185, h186, h187, h188, hr0, hr1, hK0, hK1, hV0, hV1, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, shapeCast_self_up, constant_zero, nt32, nn32, tn32, cum64, ↓cc_def, cc64, lo64, hi64, last32, spread32, absf_up, constant_zero_apply, ofBits_one, broadcast_coe, bc_e, subf_up, mulf_up, exp_up, addf_up, divf_one_exp, log_div_exp, maximumf_up, softplus_eq, cmpf_oge_up, select_up, sgm_eq, truncf_up, fold_sp, fold_a, fold_g, fold_dz]

theorem tripL3 (A0 A1 B0 B1 : ℕ → ℕ → ℝ) (Q0 Q1 K0 K1 V0 V1 D0 D1 : ℕ → ℕ → ℝ) (rt0 rt1 pc0 gc0 pc1 gc1 : ℕ → ℝ) (dq0 dq1 : ℕ → ℕ → ℝ)
  (v17 v23 v32 v38 : FVec Ideal S512x128 .bf16) (𝒱 : Variants) (c : Dev nD) (bd : Option 𝒱.V) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg7 : Memref sig .tc .hbm S8x128 .f32) (harg7 : arg7.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (arg1 : BitVec 32) (v3 : IVec S256x256 32) (v4 : IVec S256x256 32) (k0_h3 : k0_cond3 i = 1#1) (v63 : Vec Ideal S1x16x1 .f32) (v65 : Vec Ideal S1x16x1 .f32) (v68 : Vec Ideal S1x16x1 .f32) (v70 : Vec Ideal S1x16x1 .f32) (X_arg3 : BufTy.Contents (Elt Ideal) arg3.view.ty) (X_arg4 : BufTy.Contents (Elt Ideal) arg4.view.ty) (k : Fin (k0_t3_loop i).trips) (f_arg11 : BufTy.Contents (Elt Ideal) arg11.view.ty) (f_arg12 : BufTy.Contents (Elt Ideal) arg12.view.ty)
  (h185 : k0_pay185 v17 = up S32x128 .bf16 Q0) (h186 : k0_pay186 v23 = up S32x128 .bf16 Q1) (h187 : k0_pay187 v32 = up S32x128 .bf16 D0) (h188 : k0_pay188 v38 = up S32x128 .bf16 D1) (hr0 : k0_pay189 v63 v65 = up S32x1 .f32 fun r _ => rt0 r) (hr1 : k0_pay190 v68 v70 = up S32x1 .f32 fun r _ => rt1 r)
  (hK0 : View.readAt (Elt Ideal) arg3.view (Rect.unit (s := S2304x256) (k0_off7 i k) S256x128.size (k0_off7_inb i k k0_h3)).toLoadRect X_arg3 = up S256x128 .bf16 K0)
  (hK1 : View.readAt (Elt Ideal) arg3.view (Rect.unit (s := S2304x256) (k0_off8 i k) S256x128.size (k0_off8_inb i k k0_h3)).toLoadRect X_arg3 = up S256x128 .bf16 K1)
  (hV0 : View.readAt (Elt Ideal) arg4.view (Rect.unit (s := S2304x256) (k0_off7 i k) S256x128.size (k0_off7_inb i k k0_h3)).toLoadRect X_arg4 = up S256x128 .bf16 V0)
  (hV1 : View.readAt (Elt Ideal) arg4.view (Rect.unit (s := S2304x256) (k0_off8 i k) S256x128.size (k0_off8_inb i k k0_h3)).toLoadRect X_arg4 = up S256x128 .bf16 V1)
  (hA0 : View.readAt (Elt Ideal) arg11.view (Rect.unit (s := S2304x256) (k0_off7 i k) S256x128.size (k0_off7_inb i k k0_h3)).toLoadRect f_arg11 = up S256x128 .f32 A0)
  (hA1 : View.readAt (Elt Ideal) arg11.view (Rect.unit (s := S2304x256) (k0_off8 i k) S256x128.size (k0_off8_inb i k k0_h3)).toLoadRect f_arg11 = up S256x128 .f32 A1)
  (hB0 : View.readAt (Elt Ideal) arg12.view (Rect.unit (s := S2304x256) (k0_off7 i k) S256x128.size (k0_off7_inb i k k0_h3)).toLoadRect f_arg12 = up S256x128 .f32 B0)
  (hB1 : View.readAt (Elt Ideal) arg12.view (Rect.unit (s := S2304x256) (k0_off8 i k) S256x128.size (k0_off8_inb i k k0_h3)).toLoadRect f_arg12 = up S256x128 .f32 B1) :
    tripL_k0_t3 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) v17 v23 v32 v38 k0_h3 v63 v65 v68 v70 X_arg3 X_arg4 k (up S32x1 .f32 fun r _ => pc0 r, up S32x1 .f32 fun r _ => gc0 r, up S32x128 .f32 dq0, up S32x1 .f32 fun r _ => pc1 r, up S32x1 .f32 fun r _ => gc1 r, up S32x128 .f32 dq1) f_arg11 f_arg12 = ([⟨Rect.unit (s := S2304x256) (k0_off8 i k) S256x128.size (k0_off8_inb i k k0_h3), up S256x128 .f32 (fun r c => A1 r c + colsDot 32 (tDz (fun _ _ => True) Q1 K1 V1 D1 rt1 pc1 gc1) Q1 r c)⟩, ⟨Rect.unit (s := S2304x256) (k0_off7 i k) S256x128.size (k0_off7_inb i k k0_h3), up S256x128 .f32 (fun r c => A0 r c + colsDot 32 (tDz (fun _ _ => True) Q0 K0 V0 D0 rt0 pc0 gc0) Q0 r c)⟩], [⟨Rect.unit (s := S2304x256) (k0_off8 i k) S256x128.size (k0_off8_inb i k k0_h3), up S256x128 .f32 (fun r c => B1 r c + colsDot 32 (tA (fun _ _ => True) Q1 K1 rt1 pc1) D1 r c)⟩, ⟨Rect.unit (s := S2304x256) (k0_off7 i k) S256x128.size (k0_off7_inb i k k0_h3), up S256x128 .f32 (fun r c => B0 r c + colsDot 32 (tA (fun _ _ => True) Q0 K0 rt0 pc0) D0 r c)⟩]) := by
  unfold tripL_k0_t3 trip_k0_t3
  dsimp only
  sl_unfold_run_names
  simp only [h185, h186, h187, h188, hr0, hr1, hK0, hK1, hV0, hV1, hA0, hA1, hB0, hB1, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, shapeCast_self_up, constant_zero, nt32, nn32, tn32, cum64, ↓cc_def, cc64, lo64, hi64, last32, spread32, absf_up, constant_zero_apply, ofBits_one, broadcast_coe, bc_e, subf_up, mulf_up, exp_up, addf_up, divf_one_exp, log_div_exp, maximumf_up, softplus_eq, cmpf_oge_up, select_up, sgm_eq, truncf_up, fold_sp, fold_a, fold_g, fold_dz]

end Cert.Att
end
-- ==== Proof.Grid.lean ====
module

public import proofs.«01_k».proof.Proof.Store
public import proofs.«01_k».proof.Proof.Gen.KernelIdeal.Value

/- Where the sweep of a block of rows reads and writes. -/
@[expose] public section
set_option maxRecDepth 16384
noncomputable section
namespace Cert.Att
open Cert.KernelIdeal Cert.KernelIdeal.Gen Idealize.ShloMosaic Idealize.ShloMosaic.TcCoe Idealize.SL.Sem

theorem vec2_ext {f : Fin 2 → ℕ} {a b : ℕ} (h : f 0 = a ∧ f 1 = b) : f = ![a, b] :=
  funext fun x => by fin_cases x; exacts [h.1, h.2]

theorem trips1 : ∀ i : grid0.Coords, (k0_t1_loop i).trips = (i 1).val := by decide +kernel
theorem trips2 : ∀ i : grid0.Coords, (k0_t2_loop i).trips = 0 := by decide +kernel
theorem trips3 : ∀ i : grid0.Coords, (k0_t3_loop i).trips = (i 1).val := by decide +kernel
theorem trips4 : ∀ i : grid0.Coords, (k0_t4_loop i).trips = 0 := by decide +kernel
theorem off1_all : ∀ (i : grid0.Coords) (k : Fin (k0_t1_loop i).trips), k0_off1 i k 0 = 256 * k.val ∧ k0_off1 i k 1 = 0 := by decide +kernel
theorem off2_all : ∀ (i : grid0.Coords) (k : Fin (k0_t1_loop i).trips), k0_off2 i k 0 = 256 * k.val ∧ k0_off2 i k 1 = 128 := by decide +kernel
theorem off7_all : ∀ (i : grid0.Coords) (k : Fin (k0_t3_loop i).trips), k0_off7 i k 0 = 256 * k.val ∧ k0_off7 i k 1 = 0 := by decide +kernel
theorem off8_all : ∀ (i : grid0.Coords) (k : Fin (k0_t3_loop i).trips), k0_off8 i k 0 = 256 * k.val ∧ k0_off8 i k 1 = 128 := by decide +kernel
theorem off5_all : ∀ i : grid0.Coords, k0_off5 i 0 = 256 * (i 1).val ∧ k0_off5 i 1 = 0 := by decide +kernel
theorem off6_all : ∀ i : grid0.Coords, k0_off6 i 0 = 256 * (i 1).val ∧ k0_off6 i 1 = 128 := by decide +kernel
theorem off11_all : ∀ i : grid0.Coords, k0_off11 i 0 = 256 * (i 1).val ∧ k0_off11 i 1 = 0 := by decide +kernel
theorem off12_all : ∀ i : grid0.Coords, k0_off12 i 0 = 256 * (i 1).val ∧ k0_off12 i 1 = 128 := by decide +kernel
end Cert.Att
end
-- ==== Proof.Sweep.lean ====
module

public import proofs.«01_k».proof.Proof.Trip
public import proofs.«01_k».proof.Proof.Grid

/- The sweep over the key blocks before the diagonal: what is carried and what is stored after each of its trips. -/
@[expose] public section
set_option maxRecDepth 16384
noncomputable section
namespace Cert.Att
open Cert.KernelIdeal Cert.KernelIdeal.Gen Idealize.ShloMosaic Idealize.ShloMosaic.TcCoe Idealize.SL.Sem
open scoped Classical

theorem prod6 {α β γ δ ε ζ : Type} {a a' : α} {b b' : β} {c c' : γ} {d d' : δ} {e e' : ε} {f f' : ζ}
    (h1 : a = a') (h2 : b = b') (h3 : c = c') (h4 : d = d') (h5 : e = e') (h6 : f = f') : (a, b, c, d, e, f) = (a', b', c', d', e', f') := by
  subst h1 h2 h3 h4 h5 h6; rfl

theorem inc_step (x y : ℝ) (s j : ℕ) :
    (x + if s < 256 * j then y else 0) + (if 256 * j ≤ s ∧ s < 256 * j + 256 then y else 0) = x + if s < 256 * (j + 1) then y else 0 := by
  by_cases h1 : s < 256 * j
  · rw [if_pos h1, if_neg (by omega), if_pos (by omega), add_zero]
  · by_cases h2 : s < 256 * (j + 1)
    · rw [if_neg h1, if_pos (by omega), if_pos h2, add_zero]
    · rw [if_neg h1, if_neg (by omega), if_neg h2, add_zero]

/-- What the sweep of 256 rows carries after `n` keys. -/
abbrev cyc256 (q k v d rt : ℕ → ℕ → ℝ) (b p0 p1 n : ℕ) :
    FVec Ideal S512x1 .f32 × FVec Ideal S512x1 .f32 × FVec Ideal S512x128 .f32 × FVec Ideal S512x1 .f32 × FVec Ideal S512x1 .f32 × FVec Ideal S512x128 .f32 :=
  (up S512x1 .f32 (fun r _ => rCs q k b (2 * p0 + r / 256) (r % 256) n), up S512x1 .f32 (fun r _ => rCg q k v d rt b (2 * p0 + r / 256) (r % 256) n),
    up S512x128 .f32 (fun r l => rDq q k v d rt b (2 * p0 + r / 256) (r % 256) (128 * p0 + l) n), up S512x1 .f32 (fun r _ => rCs q k b (2 * p1 + r / 256) (r % 256) n), up S512x1 .f32 (fun r _ => rCg q k v d rt b (2 * p1 + r / 256) (r % 256) n),
    up S512x128 .f32 (fun r l => rDq q k v d rt b (2 * p1 + r / 256) (r % 256) (128 * p1 + l) n))

/-- What the sweep of 16 rows carries after `n` keys. -/
abbrev cyc16 (q k v d rt : ℕ → ℕ → ℝ) (b p0 p1 n : ℕ) :
    FVec Ideal S32x1 .f32 × FVec Ideal S32x1 .f32 × FVec Ideal S32x128 .f32 × FVec Ideal S32x1 .f32 × FVec Ideal S32x1 .f32 × FVec Ideal S32x128 .f32 :=
  (up S32x1 .f32 (fun r _ => rCs q k b (2 * p0 + r / 16) (r % 16) n), up S32x1 .f32 (fun r _ => rCg q k v d rt b (2 * p0 + r / 16) (r % 16) n),
    up S32x128 .f32 (fun r l => rDq q k v d rt b (2 * p0 + r / 16) (r % 16) (128 * p0 + l) n), up S32x1 .f32 (fun r _ => rCs q k b (2 * p1 + r / 16) (r % 16) n), up S32x1 .f32 (fun r _ => rCg q k v d rt b (2 * p1 + r / 16) (r % 16) n),
    up S32x128 .f32 (fun r l => rDq q k v d rt b (2 * p1 + r / 16) (r % 16) (128 * p1 + l) n))

theorem sweep1 (q k v d rt B0 B1 : ℕ → ℕ → ℝ) (p0 p1 : ℕ) (hp0 : p0 = 0) (hp1 : p1 = 1)
  (𝒱 : Variants) (c : Dev nD) (bd : Option 𝒱.V) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg7 : Memref sig .tc .hbm S8x128 .f32) (harg7 : arg7.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (arg1 : BitVec 32) (v3 : IVec S256x256 32) (v4 : IVec S256x256 32) (k0_h2 : k0_cond2 i = 1#1) (X_arg3 : BufTy.Contents (Elt Ideal) arg3.view.ty) (X_arg4 : BufTy.Contents (Elt Ideal) arg4.view.ty)  (G_arg11 : BufTy.Contents (Elt Ideal) arg11.view.ty) (G_arg12 : BufTy.Contents (Elt Ideal) arg12.view.ty)
  (hX3 : arg3.view.read (Elt Ideal) X_arg3 = up S2304x256 .bf16 k) (hX4 : arg4.view.read (Elt Ideal) X_arg4 = up S2304x256 .bf16 v)
  (hG11 : arg11.view.read (Elt Ideal) G_arg11 = up S2304x256 .f32 B0) (hG12 : arg12.view.read (Elt Ideal) G_arg12 = up S2304x256 .f32 B1)
  (j : ℕ) (hj : j ≤ (k0_t1_loop i).trips) :
    (st_k0_t1 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 (stk 256 q p0)) (up S512x128 .bf16 (stk 256 q p1)) (up S512x128 .bf16 (stk 256 d p0)) (up S512x128 .bf16 (stk 256 d p1)) k0_h2 (col S1x256x1 (rt (2 * p0))) (col S1x256x1 (rt (2 * p0 + 1))) (col S1x256x1 (rt (2 * p1))) (col S1x256x1 (rt (2 * p1 + 1))) X_arg3 X_arg4 G_arg11 G_arg12 (cyc256 q k v d rt (256 * (i 1).val) p0 p1 0) j).1 = cyc256 q k v d rt (256 * (i 1).val) p0 p1 (256 * j) ∧
    arg11.view.read (Elt Ideal) (arg11.view.writes (Elt Ideal) G_arg11 (st_k0_t1 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 (stk 256 q p0)) (up S512x128 .bf16 (stk 256 q p1)) (up S512x128 .bf16 (stk 256 d p0)) (up S512x128 .bf16 (stk 256 d p1)) k0_h2 (col S1x256x1 (rt (2 * p0))) (col S1x256x1 (rt (2 * p0 + 1))) (col S1x256x1 (rt (2 * p1))) (col S1x256x1 (rt (2 * p1 + 1))) X_arg3 X_arg4 G_arg11 G_arg12 (cyc256 q k v d rt (256 * (i 1).val) p0 p1 0) j).2.1) =
      up S2304x256 .f32 (fun s w => B0 s w + if s < 256 * j then rDk q k v d rt (256 * (i 1).val) 256 s w else 0) ∧
    arg12.view.read (Elt Ideal) (arg12.view.writes (Elt Ideal) G_arg12 (st_k0_t1 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 (stk 256 q p0)) (up S512x128 .bf16 (stk 256 q p1)) (up S512x128 .bf16 (stk 256 d p0)) (up S512x128 .bf16 (stk 256 d p1)) k0_h2 (col S1x256x1 (rt (2 * p0))) (col S1x256x1 (rt (2 * p0 + 1))) (col S1x256x1 (rt (2 * p1))) (col S1x256x1 (rt (2 * p1 + 1))) X_arg3 X_arg4 G_arg11 G_arg12 (cyc256 q k v d rt (256 * (i 1).val) p0 p1 0) j).2.2) =
      up S2304x256 .f32 (fun s w => B1 s w + if s < 256 * j then rDv q k d rt (256 * (i 1).val) 256 s w else 0) := by
  induction j with
  | zero =>
    refine ⟨rfl, ?_, ?_⟩
    · refine hG11.trans (up_congr fun r c _ _ => ?_)
      rw [if_neg (by omega), add_zero]
    · refine hG12.trans (up_congr fun r c _ _ => ?_)
      rw [if_neg (by omega), add_zero]
  | succ j ih =>
    have ih := ih (Nat.le_of_succ_le hj)
    have hj : j < (k0_t1_loop i).trips := hj
    have hji : j < (i 1).val := by rw [← trips1 i]; exact hj
    rw [st_k0_t1_succ 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 (stk 256 q p0)) (up S512x128 .bf16 (stk 256 q p1)) (up S512x128 .bf16 (stk 256 d p0)) (up S512x128 .bf16 (stk 256 d p1)) k0_h2 (col S1x256x1 (rt (2 * p0))) (col S1x256x1 (rt (2 * p0 + 1))) (col S1x256x1 (rt (2 * p1))) (col S1x256x1 (rt (2 * p1 + 1))) X_arg3 X_arg4 G_arg11 G_arg12 _ ⟨j, hj⟩]
    generalize st_k0_t1 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 (stk 256 q p0)) (up S512x128 .bf16 (stk 256 q p1)) (up S512x128 .bf16 (stk 256 d p0)) (up S512x128 .bf16 (stk 256 d p1)) k0_h2 (col S1x256x1 (rt (2 * p0))) (col S1x256x1 (rt (2 * p0 + 1))) (col S1x256x1 (rt (2 * p1))) (col S1x256x1 (rt (2 * p1 + 1))) X_arg3 X_arg4 G_arg11 G_arg12 (cyc256 q k v d rt (256 * (i 1).val) p0 p1 0) j = T at ih ⊢
    obtain ⟨T0, T1, T2⟩ := T
    obtain ⟨h0, h1, h2⟩ := ih
    dsimp only at h0 h1 h2 ⊢
    subst h0
    have e0' := vec2_ext (off1_all i ⟨j, hj⟩)
    have e1' := vec2_ext (off2_all i ⟨j, hj⟩)
    have e0 : k0_off1 i ⟨j, hj⟩ = ![256 * j, 128 * p0] := by rw [hp0]; exact e0'
    have e1 : k0_off2 i ⟨j, hj⟩ = ![256 * j, 128 * p1] := by rw [hp1]; exact e1'
    have hM : ∀ r < 2 * 256, ∀ c < 256, ((fun _ _ => True : ℕ → ℕ → Prop) r c ↔ 256 * j + c < (256 * (i 1).val) + r % 256) :=
      fun r _ c hc => iff_of_true trivial (by omega)
    refine ⟨?_, ?_, ?_⟩
    · refine (tripR1 (stk 256 q p0) (stk 256 q p1) (fun a l => k (256 * j + a) (128 * p0 + l)) (fun a l => k (256 * j + a) (128 * p1 + l)) (fun a l => v (256 * j + a) (128 * p0 + l)) (fun a l => v (256 * j + a) (128 * p1 + l)) (stk 256 d p0) (stk 256 d p1) (fun r => rt (2 * p0 + r / 256) (r % 256)) (fun r => rt (2 * p1 + r / 256) (r % 256)) (fun r => rCs q k (256 * (i 1).val) (2 * p0 + r / 256) (r % 256) (256 * j)) (fun r => rCg q k v d rt (256 * (i 1).val) (2 * p0 + r / 256) (r % 256) (256 * j)) (fun r => rCs q k (256 * (i 1).val) (2 * p1 + r / 256) (r % 256) (256 * j)) (fun r => rCg q k v d rt (256 * (i 1).val) (2 * p1 + r / 256) (r % 256) (256 * j)) (fun r l => rDq q k v d rt (256 * (i 1).val) (2 * p0 + r / 256) (r % 256) (128 * p0 + l) (256 * j)) (fun r l => rDq q k v d rt (256 * (i 1).val) (2 * p1 + r / 256) (r % 256) (128 * p1 + l) (256 * j))
        𝒱 c bd i arg2 harg2 arg3 harg3 arg4 harg4 arg5 harg5 arg6 harg6 arg7 harg7 arg8 harg8 arg9 harg9 arg10 harg10 arg11 harg11 arg12 harg12 arg1 v3 v4 k0_h2 (col S1x256x1 (rt (2 * p0))) (col S1x256x1 (rt (2 * p0 + 1))) (col S1x256x1 (rt (2 * p1))) (col S1x256x1 (rt (2 * p1 + 1))) X_arg3 X_arg4 ⟨j, hj⟩ _ _ (sums79 rt _ _ p0 rfl rfl) (sums80 rt _ _ p1 rfl rfl) (load_bf _ _ _ hX3 _ _ _ e0 _) (load_bf _ _ _ hX3 _ _ _ e1 _) (load_bf _ _ _ hX4 _ _ _ e0 _) (load_bf _ _ _ hX4 _ _ _ e1 _)).trans ?_
      rw [show 256 * (j + 1) = 256 * j + 255 + 1 by omega]
      refine prod6 (up_congr fun r c hr hc => cumSp_rows q k (256 * (i 1).val) 256 p0 (256 * j) _ hM r 255 hr (by omega))
        (up_congr fun r c hr hc => cumG_rows q k v d rt (256 * (i 1).val) 256 p0 (256 * j) _ hM r 255 hr (by omega))
        (up_congr fun r c hr hc => dq_rows q k v d rt (256 * (i 1).val) 256 p0 (256 * j) _ hM r c hr)
        (up_congr fun r c hr hc => cumSp_rows q k (256 * (i 1).val) 256 p1 (256 * j) _ hM r 255 hr (by omega))
        (up_congr fun r c hr hc => cumG_rows q k v d rt (256 * (i 1).val) 256 p1 (256 * j) _ hM r 255 hr (by omega))
        (up_congr fun r c hr hc => dq_rows q k v d rt (256 * (i 1).val) 256 p1 (256 * j) _ hM r c hr)
    · have HL := congrArg Prod.fst (tripL1 (fun r l => (fun s w => B0 s w + if s < 256 * j then rDk q k v d rt (256 * (i 1).val) 256 s w else 0) (256 * j + r) (0 + l)) (fun r l => (fun s w => B0 s w + if s < 256 * j then rDk q k v d rt (256 * (i 1).val) 256 s w else 0) (256 * j + r) (128 + l)) (fun r l => (fun s w => B1 s w + if s < 256 * j then rDv q k d rt (256 * (i 1).val) 256 s w else 0) (256 * j + r) (0 + l)) (fun r l => (fun s w => B1 s w + if s < 256 * j then rDv q k d rt (256 * (i 1).val) 256 s w else 0) (256 * j + r) (128 + l))
        (stk 256 q p0) (stk 256 q p1) (fun a l => k (256 * j + a) (128 * p0 + l)) (fun a l => k (256 * j + a) (128 * p1 + l)) (fun a l => v (256 * j + a) (128 * p0 + l)) (fun a l => v (256 * j + a) (128 * p1 + l)) (stk 256 d p0) (stk 256 d p1) (fun r => rt (2 * p0 + r / 256) (r % 256)) (fun r => rt (2 * p1 + r / 256) (r % 256)) (fun r => rCs q k (256 * (i 1).val) (2 * p0 + r / 256) (r % 256) (256 * j)) (fun r => rCg q k v d rt (256 * (i 1).val) (2 * p0 + r / 256) (r % 256) (256 * j)) (fun r => rCs q k (256 * (i 1).val) (2 * p1 + r / 256) (r % 256) (256 * j)) (fun r => rCg q k v d rt (256 * (i 1).val) (2 * p1 + r / 256) (r % 256) (256 * j)) (fun r l => rDq q k v d rt (256 * (i 1).val) (2 * p0 + r / 256) (r % 256) (128 * p0 + l) (256 * j)) (fun r l => rDq q k v d rt (256 * (i 1).val) (2 * p1 + r / 256) (r % 256) (128 * p1 + l) (256 * j))
        𝒱 c bd i arg2 harg2 arg3 harg3 arg4 harg4 arg5 harg5 arg6 harg6 arg7 harg7 arg8 harg8 arg9 harg9 arg10 harg10 arg11 harg11 arg12 harg12 arg1 v3 v4 k0_h2 (col S1x256x1 (rt (2 * p0))) (col S1x256x1 (rt (2 * p0 + 1))) (col S1x256x1 (rt (2 * p1))) (col S1x256x1 (rt (2 * p1 + 1))) X_arg3 X_arg4 ⟨j, hj⟩ (arg11.view.writes (Elt Ideal) G_arg11 T1) (arg12.view.writes (Elt Ideal) G_arg12 T2) (sums79 rt _ _ p0 rfl rfl) (sums80 rt _ _ p1 rfl rfl) (load_bf _ _ _ hX3 _ _ _ e0 _) (load_bf _ _ _ hX3 _ _ _ e1 _) (load_bf _ _ _ hX4 _ _ _ e0 _) (load_bf _ _ _ hX4 _ _ _ e1 _) (load_f _ _ _ h1 _ _ _ e0' _) (load_f _ _ _ h1 _ _ _ e1' _) (load_f _ _ _ h2 _ _ _ e0' _) (load_f _ _ _ h2 _ _ _ e1' _))
      dsimp only at HL
      rw [View.writes_append, HL]
      refine (store_two (e := .f32) arg11.view _ (fun s w => B0 s w + if s < 256 * j then rDk q k v d rt (256 * (i 1).val) 256 s w else 0) (rDk q k v d rt (256 * (i 1).val) 256) _ _ h1 _ _ (256 * j) e0' e1' _ _ ?_ ?_).trans ?_
      · intro r l hr hl
        rw [dk_rows q k v d rt (256 * (i 1).val) 256 p0 (256 * j) _ hM r l hr hl, hp0, Nat.mul_zero, Nat.zero_add]
      · intro r l hr hl
        rw [dk_rows q k v d rt (256 * (i 1).val) 256 p1 (256 * j) _ hM r l hr hl, hp1, Nat.mul_one]
      · exact up_congr fun s w _ _ => inc_step _ _ _ _
    · have HL := congrArg Prod.snd (tripL1 (fun r l => (fun s w => B0 s w + if s < 256 * j then rDk q k v d rt (256 * (i 1).val) 256 s w else 0) (256 * j + r) (0 + l)) (fun r l => (fun s w => B0 s w + if s < 256 * j then rDk q k v d rt (256 * (i 1).val) 256 s w else 0) (256 * j + r) (128 + l)) (fun r l => (fun s w => B1 s w + if s < 256 * j then rDv q k d rt (256 * (i 1).val) 256 s w else 0) (256 * j + r) (0 + l)) (fun r l => (fun s w => B1 s w + if s < 256 * j then rDv q k d rt (256 * (i 1).val) 256 s w else 0) (256 * j + r) (128 + l))
        (stk 256 q p0) (stk 256 q p1) (fun a l => k (256 * j + a) (128 * p0 + l)) (fun a l => k (256 * j + a) (128 * p1 + l)) (fun a l => v (256 * j + a) (128 * p0 + l)) (fun a l => v (256 * j + a) (128 * p1 + l)) (stk 256 d p0) (stk 256 d p1) (fun r => rt (2 * p0 + r / 256) (r % 256)) (fun r => rt (2 * p1 + r / 256) (r % 256)) (fun r => rCs q k (256 * (i 1).val) (2 * p0 + r / 256) (r % 256) (256 * j)) (fun r => rCg q k v d rt (256 * (i 1).val) (2 * p0 + r / 256) (r % 256) (256 * j)) (fun r => rCs q k (256 * (i 1).val) (2 * p1 + r / 256) (r % 256) (256 * j)) (fun r => rCg q k v d rt (256 * (i 1).val) (2 * p1 + r / 256) (r % 256) (256 * j)) (fun r l => rDq q k v d rt (256 * (i 1).val) (2 * p0 + r / 256) (r % 256) (128 * p0 + l) (256 * j)) (fun r l => rDq q k v d rt (256 * (i 1).val) (2 * p1 + r / 256) (r % 256) (128 * p1 + l) (256 * j))
        𝒱 c bd i arg2 harg2 arg3 harg3 arg4 harg4 arg5 harg5 arg6 harg6 arg7 harg7 arg8 harg8 arg9 harg9 arg10 harg10 arg11 harg11 arg12 harg12 arg1 v3 v4 k0_h2 (col S1x256x1 (rt (2 * p0))) (col S1x256x1 (rt (2 * p0 + 1))) (col S1x256x1 (rt (2 * p1))) (col S1x256x1 (rt (2 * p1 + 1))) X_arg3 X_arg4 ⟨j, hj⟩ (arg11.view.writes (Elt Ideal) G_arg11 T1) (arg12.view.writes (Elt Ideal) G_arg12 T2) (sums79 rt _ _ p0 rfl rfl) (sums80 rt _ _ p1 rfl rfl) (load_bf _ _ _ hX3 _ _ _ e0 _) (load_bf _ _ _ hX3 _ _ _ e1 _) (load_bf _ _ _ hX4 _ _ _ e0 _) (load_bf _ _ _ hX4 _ _ _ e1 _) (load_f _ _ _ h1 _ _ _ e0' _) (load_f _ _ _ h1 _ _ _ e1' _) (load_f _ _ _ h2 _ _ _ e0' _) (load_f _ _ _ h2 _ _ _ e1' _))
      dsimp only at HL
      rw [View.writes_append, HL]
      refine (store_two (e := .f32) arg12.view _ (fun s w => B1 s w + if s < 256 * j then rDv q k d rt (256 * (i 1).val) 256 s w else 0) (rDv q k d rt (256 * (i 1).val) 256) _ _ h2 _ _ (256 * j) e0' e1' _ _ ?_ ?_).trans ?_
      · intro r l hr hl
        rw [dv_rows q k d rt (256 * (i 1).val) 256 p0 (256 * j) _ hM r l hr hl, hp0, Nat.mul_zero, Nat.zero_add]
      · intro r l hr hl
        rw [dv_rows q k d rt (256 * (i 1).val) 256 p1 (256 * j) _ hM r l hr hl, hp1, Nat.mul_one]
      · exact up_congr fun s w _ _ => inc_step _ _ _ _

theorem sweep3 (q k v d rt B0 B1 : ℕ → ℕ → ℝ) (p0 p1 : ℕ) (hp0 : p0 = 0) (hp1 : p1 = 1)
  (𝒱 : Variants) (c : Dev nD) (bd : Option 𝒱.V) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg7 : Memref sig .tc .hbm S8x128 .f32) (harg7 : arg7.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (arg1 : BitVec 32) (v3 : IVec S256x256 32) (v4 : IVec S256x256 32) (k0_h3 : k0_cond3 i = 1#1) (X_arg3 : BufTy.Contents (Elt Ideal) arg3.view.ty) (X_arg4 : BufTy.Contents (Elt Ideal) arg4.view.ty)  (G_arg11 : BufTy.Contents (Elt Ideal) arg11.view.ty) (G_arg12 : BufTy.Contents (Elt Ideal) arg12.view.ty)
  (hX3 : arg3.view.read (Elt Ideal) X_arg3 = up S2304x256 .bf16 k) (hX4 : arg4.view.read (Elt Ideal) X_arg4 = up S2304x256 .bf16 v)
  (hG11 : arg11.view.read (Elt Ideal) G_arg11 = up S2304x256 .f32 B0) (hG12 : arg12.view.read (Elt Ideal) G_arg12 = up S2304x256 .f32 B1)
  (j : ℕ) (hj : j ≤ (k0_t3_loop i).trips) :
    (st_k0_t3 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 (stk 256 q p0)) (up S512x128 .bf16 (stk 256 q p1)) (up S512x128 .bf16 (stk 256 d p0)) (up S512x128 .bf16 (stk 256 d p1)) k0_h3 (col S1x16x1 (rt (2 * p0))) (col S1x16x1 (rt (2 * p0 + 1))) (col S1x16x1 (rt (2 * p1))) (col S1x16x1 (rt (2 * p1 + 1))) X_arg3 X_arg4 G_arg11 G_arg12 (cyc16 q k v d rt (256 * (i 1).val) p0 p1 0) j).1 = cyc16 q k v d rt (256 * (i 1).val) p0 p1 (256 * j) ∧
    arg11.view.read (Elt Ideal) (arg11.view.writes (Elt Ideal) G_arg11 (st_k0_t3 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 (stk 256 q p0)) (up S512x128 .bf16 (stk 256 q p1)) (up S512x128 .bf16 (stk 256 d p0)) (up S512x128 .bf16 (stk 256 d p1)) k0_h3 (col S1x16x1 (rt (2 * p0))) (col S1x16x1 (rt (2 * p0 + 1))) (col S1x16x1 (rt (2 * p1))) (col S1x16x1 (rt (2 * p1 + 1))) X_arg3 X_arg4 G_arg11 G_arg12 (cyc16 q k v d rt (256 * (i 1).val) p0 p1 0) j).2.1) =
      up S2304x256 .f32 (fun s w => B0 s w + if s < 256 * j then rDk q k v d rt (256 * (i 1).val) 16 s w else 0) ∧
    arg12.view.read (Elt Ideal) (arg12.view.writes (Elt Ideal) G_arg12 (st_k0_t3 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 (stk 256 q p0)) (up S512x128 .bf16 (stk 256 q p1)) (up S512x128 .bf16 (stk 256 d p0)) (up S512x128 .bf16 (stk 256 d p1)) k0_h3 (col S1x16x1 (rt (2 * p0))) (col S1x16x1 (rt (2 * p0 + 1))) (col S1x16x1 (rt (2 * p1))) (col S1x16x1 (rt (2 * p1 + 1))) X_arg3 X_arg4 G_arg11 G_arg12 (cyc16 q k v d rt (256 * (i 1).val) p0 p1 0) j).2.2) =
      up S2304x256 .f32 (fun s w => B1 s w + if s < 256 * j then rDv q k d rt (256 * (i 1).val) 16 s w else 0) := by
  induction j with
  | zero =>
    refine ⟨rfl, ?_, ?_⟩
    · refine hG11.trans (up_congr fun r c _ _ => ?_)
      rw [if_neg (by omega), add_zero]
    · refine hG12.trans (up_congr fun r c _ _ => ?_)
      rw [if_neg (by omega), add_zero]
  | succ j ih =>
    have ih := ih (Nat.le_of_succ_le hj)
    have hj : j < (k0_t3_loop i).trips := hj
    have hji : j < (i 1).val := by rw [← trips3 i]; exact hj
    rw [st_k0_t3_succ 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 (stk 256 q p0)) (up S512x128 .bf16 (stk 256 q p1)) (up S512x128 .bf16 (stk 256 d p0)) (up S512x128 .bf16 (stk 256 d p1)) k0_h3 (col S1x16x1 (rt (2 * p0))) (col S1x16x1 (rt (2 * p0 + 1))) (col S1x16x1 (rt (2 * p1))) (col S1x16x1 (rt (2 * p1 + 1))) X_arg3 X_arg4 G_arg11 G_arg12 _ ⟨j, hj⟩]
    generalize st_k0_t3 (F := Ideal) 𝒱 c bd i arg2 harg2 arg3 harg3 arg4 harg4 arg5 harg5 arg6 harg6 arg7 harg7 arg8 harg8 arg9 harg9 arg10 harg10 arg11 harg11 arg12 harg12 arg1 v3 v4 (up S256x256 .bf16 triu) (up S512x128 .bf16 (stk 256 q p0)) (up S512x128 .bf16 (stk 256 q p1)) (up S512x128 .bf16 (stk 256 d p0)) (up S512x128 .bf16 (stk 256 d p1)) k0_h3 (col S1x16x1 (rt (2 * p0))) (col S1x16x1 (rt (2 * p0 + 1))) (col S1x16x1 (rt (2 * p1))) (col S1x16x1 (rt (2 * p1 + 1))) X_arg3 X_arg4 G_arg11 G_arg12 (cyc16 q k v d rt (256 * (i 1).val) p0 p1 0) j = T at ih ⊢
    obtain ⟨T0, T1, T2⟩ := T
    obtain ⟨h0, h1, h2⟩ := ih
    dsimp only at h0 h1 h2 ⊢
    subst h0
    have e0' := vec2_ext (off7_all i ⟨j, hj⟩)
    have e1' := vec2_ext (off8_all i ⟨j, hj⟩)
    have e0 : k0_off7 i ⟨j, hj⟩ = ![256 * j, 128 * p0] := by rw [hp0]; exact e0'
    have e1 : k0_off8 i ⟨j, hj⟩ = ![256 * j, 128 * p1] := by rw [hp1]; exact e1'
    have hM : ∀ r < 2 * 16, ∀ c < 256, ((fun _ _ => True : ℕ → ℕ → Prop) r c ↔ 256 * j + c < (256 * (i 1).val) + r % 16) :=
      fun r _ c hc => iff_of_true trivial (by omega)
    refine ⟨?_, ?_, ?_⟩
    · refine (tripR3 (stk 16 q p0) (stk 16 q p1) (fun a l => k (256 * j + a) (128 * p0 + l)) (fun a l => k (256 * j + a) (128 * p1 + l)) (fun a l => v (256 * j + a) (128 * p0 + l)) (fun a l => v (256 * j + a) (128 * p1 + l)) (stk 16 d p0) (stk 16 d p1) (fun r => rt (2 * p0 + r / 16) (r % 16)) (fun r => rt (2 * p1 + r / 16) (r % 16)) (fun r => rCs q k (256 * (i 1).val) (2 * p0 + r / 16) (r % 16) (256 * j)) (fun r => rCg q k v d rt (256 * (i 1).val) (2 * p0 + r / 16) (r % 16) (256 * j)) (fun r => rCs q k (256 * (i 1).val) (2 * p1 + r / 16) (r % 16) (256 * j)) (fun r => rCg q k v d rt (256 * (i 1).val) (2 * p1 + r / 16) (r % 16) (256 * j)) (fun r l => rDq q k v d rt (256 * (i 1).val) (2 * p0 + r / 16) (r % 16) (128 * p0 + l) (256 * j)) (fun r l => rDq q k v d rt (256 * (i 1).val) (2 * p1 + r / 16) (r % 16) (128 * p1 + l) (256 * j))
        (up S512x128 .bf16 (stk 256 q p0)) (up S512x128 .bf16 (stk 256 q p1)) (up S512x128 .bf16 (stk 256 d p0)) (up S512x128 .bf16 (stk 256 d p1)) 𝒱 c bd i arg2 harg2 arg3 harg3 arg4 harg4 arg5 harg5 arg6 harg6 arg7 harg7 arg8 harg8 arg9 harg9 arg10 harg10 arg11 harg11 arg12 harg12 arg1 v3 v4 k0_h3 (col S1x16x1 (rt (2 * p0))) (col S1x16x1 (rt (2 * p0 + 1))) (col S1x16x1 (rt (2 * p1))) (col S1x16x1 (rt (2 * p1 + 1))) X_arg3 X_arg4 ⟨j, hj⟩ _ _ (stack185 q p0) (stack186 q p1) (stack187 d p0) (stack188 d p1) (sums189 rt _ _ p0 rfl rfl) (sums190 rt _ _ p1 rfl rfl) (load_bf _ _ _ hX3 _ _ _ e0 _) (load_bf _ _ _ hX3 _ _ _ e1 _) (load_bf _ _ _ hX4 _ _ _ e0 _) (load_bf _ _ _ hX4 _ _ _ e1 _)).trans ?_
      rw [show 256 * (j + 1) = 256 * j + 255 + 1 by omega]
      refine prod6 (up_congr fun r c hr hc => cumSp_rows q k (256 * (i 1).val) 16 p0 (256 * j) _ hM r 255 hr (by omega))
        (up_congr fun r c hr hc => cumG_rows q k v d rt (256 * (i 1).val) 16 p0 (256 * j) _ hM r 255 hr (by omega))
        (up_congr fun r c hr hc => dq_rows q k v d rt (256 * (i 1).val) 16 p0 (256 * j) _ hM r c hr)
        (up_congr fun r c hr hc => cumSp_rows q k (256 * (i 1).val) 16 p1 (256 * j) _ hM r 255 hr (by omega))
        (up_congr fun r c hr hc => cumG_rows q k v d rt (256 * (i 1).val) 16 p1 (256 * j) _ hM r 255 hr (by omega))
        (up_congr fun r c hr hc => dq_rows q k v d rt (256 * (i 1).val) 16 p1 (256 * j) _ hM r c hr)
    · have HL := congrArg Prod.fst (tripL3 (fun r l => (fun s w => B0 s w + if s < 256 * j then rDk q k v d rt (256 * (i 1).val) 16 s w else 0) (256 * j + r) (0 + l)) (fun r l => (fun s w => B0 s w + if s < 256 * j then rDk q k v d rt (256 * (i 1).val) 16 s w else 0) (256 * j + r) (128 + l)) (fun r l => (fun s w => B1 s w + if s < 256 * j then rDv q k d rt (256 * (i 1).val) 16 s w else 0) (256 * j + r) (0 + l)) (fun r l => (fun s w => B1 s w + if s < 256 * j then rDv q k d rt (256 * (i 1).val) 16 s w else 0) (256 * j + r) (128 + l))
        (stk 16 q p0) (stk 16 q p1) (fun a l => k (256 * j + a) (128 * p0 + l)) (fun a l => k (256 * j + a) (128 * p1 + l)) (fun a l => v (256 * j + a) (128 * p0 + l)) (fun a l => v (256 * j + a) (128 * p1 + l)) (stk 16 d p0) (stk 16 d p1) (fun r => rt (2 * p0 + r / 16) (r % 16)) (fun r => rt (2 * p1 + r / 16) (r % 16)) (fun r => rCs q k (256 * (i 1).val) (2 * p0 + r / 16) (r % 16) (256 * j)) (fun r => rCg q k v d rt (256 * (i 1).val) (2 * p0 + r / 16) (r % 16) (256 * j)) (fun r => rCs q k (256 * (i 1).val) (2 * p1 + r / 16) (r % 16) (256 * j)) (fun r => rCg q k v d rt (256 * (i 1).val) (2 * p1 + r / 16) (r % 16) (256 * j)) (fun r l => rDq q k v d rt (256 * (i 1).val) (2 * p0 + r / 16) (r % 16) (128 * p0 + l) (256 * j)) (fun r l => rDq q k v d rt (256 * (i 1).val) (2 * p1 + r / 16) (r % 16) (128 * p1 + l) (256 * j))
        (up S512x128 .bf16 (stk 256 q p0)) (up S512x128 .bf16 (stk 256 q p1)) (up S512x128 .bf16 (stk 256 d p0)) (up S512x128 .bf16 (stk 256 d p1)) 𝒱 c bd i arg2 harg2 arg3 harg3 arg4 harg4 arg5 harg5 arg6 harg6 arg7 harg7 arg8 harg8 arg9 harg9 arg10 harg10 arg11 harg11 arg12 harg12 arg1 v3 v4 k0_h3 (col S1x16x1 (rt (2 * p0))) (col S1x16x1 (rt (2 * p0 + 1))) (col S1x16x1 (rt (2 * p1))) (col S1x16x1 (rt (2 * p1 + 1))) X_arg3 X_arg4 ⟨j, hj⟩ (arg11.view.writes (Elt Ideal) G_arg11 T1) (arg12.view.writes (Elt Ideal) G_arg12 T2) (stack185 q p0) (stack186 q p1) (stack187 d p0) (stack188 d p1) (sums189 rt _ _ p0 rfl rfl) (sums190 rt _ _ p1 rfl rfl) (load_bf _ _ _ hX3 _ _ _ e0 _) (load_bf _ _ _ hX3 _ _ _ e1 _) (load_bf _ _ _ hX4 _ _ _ e0 _) (load_bf _ _ _ hX4 _ _ _ e1 _) (load_f _ _ _ h1 _ _ _ e0' _) (load_f _ _ _ h1 _ _ _ e1' _) (load_f _ _ _ h2 _ _ _ e0' _) (load_f _ _ _ h2 _ _ _ e1' _))
      dsimp only at HL
      rw [View.writes_append, HL]
      refine (store_two (e := .f32) arg11.view _ (fun s w => B0 s w + if s < 256 * j then rDk q k v d rt (256 * (i 1).val) 16 s w else 0) (rDk q k v d rt (256 * (i 1).val) 16) _ _ h1 _ _ (256 * j) e0' e1' _ _ ?_ ?_).trans ?_
      · intro r l hr hl
        rw [dk_rows q k v d rt (256 * (i 1).val) 16 p0 (256 * j) _ hM r l hr hl, hp0, Nat.mul_zero, Nat.zero_add]
      · intro r l hr hl
        rw [dk_rows q k v d rt (256 * (i 1).val) 16 p1 (256 * j) _ hM r l hr hl, hp1, Nat.mul_one]
      · exact up_congr fun s w _ _ => inc_step _ _ _ _
    · have HL := congrArg Prod.snd (tripL3 (fun r l => (fun s w => B0 s w + if s < 256 * j then rDk q k v d rt (256 * (i 1).val) 16 s w else 0) (256 * j + r) (0 + l)) (fun r l => (fun s w => B0 s w + if s < 256 * j then rDk q k v d rt (256 * (i 1).val) 16 s w else 0) (256 * j + r) (128 + l)) (fun r l => (fun s w => B1 s w + if s < 256 * j then rDv q k d rt (256 * (i 1).val) 16 s w else 0) (256 * j + r) (0 + l)) (fun r l => (fun s w => B1 s w + if s < 256 * j then rDv q k d rt (256 * (i 1).val) 16 s w else 0) (256 * j + r) (128 + l))
        (stk 16 q p0) (stk 16 q p1) (fun a l => k (256 * j + a) (128 * p0 + l)) (fun a l => k (256 * j + a) (128 * p1 + l)) (fun a l => v (256 * j + a) (128 * p0 + l)) (fun a l => v (256 * j + a) (128 * p1 + l)) (stk 16 d p0) (stk 16 d p1) (fun r => rt (2 * p0 + r / 16) (r % 16)) (fun r => rt (2 * p1 + r / 16) (r % 16)) (fun r => rCs q k (256 * (i 1).val) (2 * p0 + r / 16) (r % 16) (256 * j)) (fun r => rCg q k v d rt (256 * (i 1).val) (2 * p0 + r / 16) (r % 16) (256 * j)) (fun r => rCs q k (256 * (i 1).val) (2 * p1 + r / 16) (r % 16) (256 * j)) (fun r => rCg q k v d rt (256 * (i 1).val) (2 * p1 + r / 16) (r % 16) (256 * j)) (fun r l => rDq q k v d rt (256 * (i 1).val) (2 * p0 + r / 16) (r % 16) (128 * p0 + l) (256 * j)) (fun r l => rDq q k v d rt (256 * (i 1).val) (2 * p1 + r / 16) (r % 16) (128 * p1 + l) (256 * j))
        (up S512x128 .bf16 (stk 256 q p0)) (up S512x128 .bf16 (stk 256 q p1)) (up S512x128 .bf16 (stk 256 d p0)) (up S512x128 .bf16 (stk 256 d p1)) 𝒱 c bd i arg2 harg2 arg3 harg3 arg4 harg4 arg5 harg5 arg6 harg6 arg7 harg7 arg8 harg8 arg9 harg9 arg10 harg10 arg11 harg11 arg12 harg12 arg1 v3 v4 k0_h3 (col S1x16x1 (rt (2 * p0))) (col S1x16x1 (rt (2 * p0 + 1))) (col S1x16x1 (rt (2 * p1))) (col S1x16x1 (rt (2 * p1 + 1))) X_arg3 X_arg4 ⟨j, hj⟩ (arg11.view.writes (Elt Ideal) G_arg11 T1) (arg12.view.writes (Elt Ideal) G_arg12 T2) (stack185 q p0) (stack186 q p1) (stack187 d p0) (stack188 d p1) (sums189 rt _ _ p0 rfl rfl) (sums190 rt _ _ p1 rfl rfl) (load_bf _ _ _ hX3 _ _ _ e0 _) (load_bf _ _ _ hX3 _ _ _ e1 _) (load_bf _ _ _ hX4 _ _ _ e0 _) (load_bf _ _ _ hX4 _ _ _ e1 _) (load_f _ _ _ h1 _ _ _ e0' _) (load_f _ _ _ h1 _ _ _ e1' _) (load_f _ _ _ h2 _ _ _ e0' _) (load_f _ _ _ h2 _ _ _ e1' _))
      dsimp only at HL
      rw [View.writes_append, HL]
      refine (store_two (e := .f32) arg12.view _ (fun s w => B1 s w + if s < 256 * j then rDv q k d rt (256 * (i 1).val) 16 s w else 0) (rDv q k d rt (256 * (i 1).val) 16) _ _ h2 _ _ (256 * j) e0' e1' _ _ ?_ ?_).trans ?_
      · intro r l hr hl
        rw [dv_rows q k d rt (256 * (i 1).val) 16 p0 (256 * j) _ hM r l hr hl, hp0, Nat.mul_zero, Nat.zero_add]
      · intro r l hr hl
        rw [dv_rows q k d rt (256 * (i 1).val) 16 p1 (256 * j) _ hM r l hr hl, hp1, Nat.mul_one]
      · exact up_congr fun s w _ _ => inc_step _ _ _ _

end Cert.Att
end
-- ==== Proof.Fill.lean ====
module

public import proofs.«01_k».proof.Proof.Sweep

/- Loops of no trips, zeros, and stores that fill a block. -/
@[expose] public section
set_option maxRecDepth 16384
noncomputable section
namespace Cert.Att
open Cert.KernelIdeal Cert.KernelIdeal.Gen Idealize.ShloMosaic Idealize.ShloMosaic.TcCoe Idealize.SL.Sem
open scoped Classical
theorem st2_zero (𝒱 : Variants) (c : Dev nD) (bd : Option 𝒱.V) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg7 : Memref sig .tc .hbm S8x128 .f32) (harg7 : arg7.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (arg1 : BitVec 32) (v3 : IVec S256x256 32) (v4 : IVec S256x256 32) (v8 : FVec Ideal S256x256 .bf16) (v17 : FVec Ideal S512x128 .bf16) (v23 : FVec Ideal S512x128 .bf16) (v32 : FVec Ideal S512x128 .bf16) (v38 : FVec Ideal S512x128 .bf16) (k0_h2 : k0_cond2 i = 1#1) (v50 : Vec Ideal S1x256x1 .f32) (v52 : Vec Ideal S1x256x1 .f32) (v55 : Vec Ideal S1x256x1 .f32) (v57 : Vec Ideal S1x256x1 .f32) (v67 : BitVec 32) (X_arg3 : BufTy.Contents (Elt Ideal) arg3.view.ty) (X_arg4 : BufTy.Contents (Elt Ideal) arg4.view.ty) (G_arg11 : BufTy.Contents (Elt Ideal) arg11.view.ty) (G_arg12 : BufTy.Contents (Elt Ideal) arg12.view.ty) (init : FVec Ideal S512x1 .f32 × FVec Ideal S512x1 .f32 × FVec Ideal S512x128 .f32 × FVec Ideal S512x1 .f32 × FVec Ideal S512x1 .f32 × FVec Ideal S512x128 .f32) :
    st_k0_t2 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h2 v50 v52 v55 v57 v67 X_arg3 X_arg4 G_arg11 G_arg12 init 0 = (init, [], []) := rfl
theorem st4_zero (𝒱 : Variants) (c : Dev nD) (bd : Option 𝒱.V) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg7 : Memref sig .tc .hbm S8x128 .f32) (harg7 : arg7.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (arg1 : BitVec 32) (v3 : IVec S256x256 32) (v4 : IVec S256x256 32) (v8 : FVec Ideal S256x256 .bf16) (v17 : FVec Ideal S512x128 .bf16) (v23 : FVec Ideal S512x128 .bf16) (v32 : FVec Ideal S512x128 .bf16) (v38 : FVec Ideal S512x128 .bf16) (k0_h3 : k0_cond3 i = 1#1) (v63 : Vec Ideal S1x16x1 .f32) (v65 : Vec Ideal S1x16x1 .f32) (v68 : Vec Ideal S1x16x1 .f32) (v70 : Vec Ideal S1x16x1 .f32) (v80 : BitVec 32) (X_arg3 : BufTy.Contents (Elt Ideal) arg3.view.ty) (X_arg4 : BufTy.Contents (Elt Ideal) arg4.view.ty) (G_arg11 : BufTy.Contents (Elt Ideal) arg11.view.ty) (G_arg12 : BufTy.Contents (Elt Ideal) arg12.view.ty) (init : FVec Ideal S32x1 .f32 × FVec Ideal S32x1 .f32 × FVec Ideal S32x128 .f32 × FVec Ideal S32x1 .f32 × FVec Ideal S32x1 .f32 × FVec Ideal S32x128 .f32) :
    st_k0_t4 (F := Ideal) 𝒱 c bd i arg2 harg2 arg3 harg3 arg4 harg4 arg5 harg5 arg6 harg6 arg7 harg7 arg8 harg8 arg9 harg9 arg10 harg10 arg11 harg11 arg12 harg12 arg1 v3 v4 v8 v17 v23 v32 v38 k0_h3 v63 v65 v68 v70 v80 X_arg3 X_arg4 G_arg11 G_arg12 init 0 = (init, [], []) := rfl

theorem writes_two {κ sp} {s : Shape} {φ : EltTy} (v : View sig κ sp s φ) (X : v.ty.Contents (Elt Ideal)) (a b : View.Piece (Elt Ideal) s φ) (L : List (View.Piece (Elt Ideal) s φ)) :
    v.writes (Elt Ideal) X (a :: b :: L) = v.writes (Elt Ideal) (v.writes (Elt Ideal) X L) [a, b] := View.writes_append v X [a, b] L

theorem load_skip {κ sp} {A : ℕ} (v : View sig κ sp ⟨2, ![A, 256]⟩ .f32) (X : v.ty.Contents (Elt Ideal)) (L : List (View.Piece (Elt Ideal) ⟨2, ![A, 256]⟩ .f32))
    (w : FVec Ideal ⟨2, ![256, 128]⟩ .f32) (off0 off1 : Fin 2 → ℕ) (o : ℕ) (h0 : off0 = ![o, 0]) (h1 : off1 = ![o, 128]) (inb0 inb1) :
    v.readAt (Elt Ideal) (Rect.unit (s := ⟨2, ![A, 256]⟩) off1 ![256, 128] inb1).toLoadRect (v.writes (Elt Ideal) X (⟨Rect.unit (s := ⟨2, ![A, 256]⟩) off0 ![256, 128] inb0, w⟩ :: L)) =
      v.readAt (Elt Ideal) (Rect.unit (s := ⟨2, ![A, 256]⟩) off1 ![256, 128] inb1).toLoadRect (v.writes (Elt Ideal) X L) := by
  funext x
  refine View.read_writes_cons_unit_of_not_mem v X inb0 _ _ _ h0 1 (Or.inr ?_)
  subst h1
  show 0 + 128 ≤ 128 + 1 * (x 1).val
  omega

theorem tripsE1 (i : grid0.Coords) : Scf.trips (0#32) (Scalar.addi (0#32) (Scalar.muli (Scalar.divsi (Scalar.subi (BitVec.ofNat 32 (i 1).val) 0#32) 1#32) 1#32)) 1#32 = (i 1).val := trips1 i
theorem tripsE2 (i : grid0.Coords) : Scf.trips (Scalar.addi (0#32) (Scalar.muli (Scalar.divsi (Scalar.subi (BitVec.ofNat 32 (i 1).val) 0#32) 1#32) 1#32)) (Scalar.addi (0#32) (Scalar.subi (BitVec.ofNat 32 (i 1).val) 0#32)) 1#32 = 0 := trips2 i
theorem tripsE3 (i : grid0.Coords) : Scf.trips (0#32) (Scalar.addi (0#32) (Scalar.muli (Scalar.divsi (Scalar.subi (BitVec.ofNat 32 (i 1).val) 0#32) 1#32) 1#32)) 1#32 = (i 1).val := trips3 i
theorem tripsE4 (i : grid0.Coords) : Scf.trips (Scalar.addi (0#32) (Scalar.muli (Scalar.divsi (Scalar.subi (BitVec.ofNat 32 (i 1).val) 0#32) 1#32) 1#32)) (Scalar.addi (0#32) (Scalar.subi (BitVec.ofNat 32 (i 1).val) 0#32)) 1#32 = 0 := trips4 i
theorem zero81 : k0_pay81 (F := Ideal) = up S512x1 .f32 (fun _ _ => 0) := by
  unfold k0_pay81
  simp only [constant_zero_apply, bc_e, shapeCast_self_up]
theorem zero82 : k0_pay82 (F := Ideal) = up S512x128 .f32 (fun _ _ => 0) := by
  unfold k0_pay82
  simp only [constant_zero_apply, bc_e, shapeCast_self_up]
theorem zero83 : k0_pay83 (F := Ideal) = up S512x128 .f32 (fun _ _ => 0) := by
  unfold k0_pay83
  simp only [constant_zero_apply, bc_e, shapeCast_self_up]
theorem zero191 : k0_pay191 (F := Ideal) = up S32x1 .f32 (fun _ _ => 0) := by
  unfold k0_pay191
  simp only [constant_zero_apply, bc_e, shapeCast_self_up]
theorem zero192 : k0_pay192 (F := Ideal) = up S32x128 .f32 (fun _ _ => 0) := by
  unfold k0_pay192
  simp only [constant_zero_apply, bc_e, shapeCast_self_up]
theorem zero193 : k0_pay193 (F := Ideal) = up S32x128 .f32 (fun _ _ => 0) := by
  unfold k0_pay193
  simp only [constant_zero_apply, bc_e, shapeCast_self_up]
theorem zero221 : k0_pay221 (F := Ideal) = up S2304x256 .f32 (fun _ _ => 0) := by
  unfold k0_pay221
  simp only [constant_zero_apply, bc_e, shapeCast_self_up]
theorem zero222 : k0_pay222 (F := Ideal) = up S2304x256 .f32 (fun _ _ => 0) := by
  unfold k0_pay222
  simp only [constant_zero_apply, bc_e, shapeCast_self_up]
theorem zero3 : k0_pay3 (F := Ideal) = up S240x128 .bf16 (fun _ _ => 0) := by
  unfold k0_pay3
  simp only [ofBits_zero_bf16, bc_b]
theorem zero5 : k0_pay5 (F := Ideal) = up S240x128 .bf16 (fun _ _ => 0) := by
  unfold k0_pay5
  simp only [ofBits_zero_bf16, bc_b]
theorem cyc256_zero (q k v d rt : ℕ → ℕ → ℝ) (b p0 p1 : ℕ) :
    (k0_pay81 (F := Ideal), k0_pay81 (F := Ideal), k0_pay82 (F := Ideal), k0_pay81 (F := Ideal), k0_pay81 (F := Ideal), k0_pay83 (F := Ideal)) = cyc256 q k v d rt b p0 p1 0 := by
  rw [zero81, zero82, zero83]
  exact prod6 (up_congr fun r l _ _ => rfl) (up_congr fun r l _ _ => rfl) (up_congr fun r l _ _ => rfl) (up_congr fun r l _ _ => rfl) (up_congr fun r l _ _ => rfl) (up_congr fun r l _ _ => rfl)
theorem cyc16_zero (q k v d rt : ℕ → ℕ → ℝ) (b p0 p1 : ℕ) :
    (k0_pay191 (F := Ideal), k0_pay191 (F := Ideal), k0_pay192 (F := Ideal), k0_pay191 (F := Ideal), k0_pay191 (F := Ideal), k0_pay193 (F := Ideal)) = cyc16 q k v d rt b p0 p1 0 := by
  rw [zero191, zero192, zero193]
  exact prod6 (up_congr fun r l _ _ => rfl) (up_congr fun r l _ _ => rfl) (up_congr fun r l _ _ => rfl) (up_congr fun r l _ _ => rfl) (up_congr fun r l _ _ => rfl) (up_congr fun r l _ _ => rfl)

theorem whole_up {κ sp} {A B : ℕ} (v : View sig κ sp ⟨2, ![A, B]⟩ .f32) (X : v.ty.Contents (Elt Ideal)) (f : ℕ → ℕ → ℝ) (inb) :
    v.read (Elt Ideal) (v.writes (Elt Ideal) X [⟨Rect.unit (s := ⟨2, ![A, B]⟩) ![0, 0] ![A, B] inb, up ⟨2, ![A, B]⟩ .f32 f⟩]) = up ⟨2, ![A, B]⟩ .f32 f := by
  funext y
  refine (View.read_writes_cons_unit_of_mem v X inb _ _ y y rfl (Fin.forall_fin_two.mpr ⟨?_, ?_⟩)).trans rfl
  · exact (Nat.zero_add _).symm
  · exact (Nat.zero_add _).symm

theorem whole_bf {κ sp} {A B : ℕ} (v : View sig κ sp ⟨2, ![A, B]⟩ .bf16) (X : v.ty.Contents (Elt Ideal)) (f : ℕ → ℕ → ℝ) (inb) :
    v.read (Elt Ideal) (v.writes (Elt Ideal) X [⟨Rect.unit (s := ⟨2, ![A, B]⟩) ![0, 0] ![A, B] inb, up ⟨2, ![A, B]⟩ .bf16 f⟩]) = up ⟨2, ![A, B]⟩ .bf16 f := by
  funext y
  refine (View.read_writes_cons_unit_of_mem v X inb _ _ y y rfl (Fin.forall_fin_two.mpr ⟨?_, ?_⟩)).trans rfl
  · exact (Nat.zero_add _).symm
  · exact (Nat.zero_add _).symm

/-- Two stores side by side fill a block of 256 rows. -/
theorem fill_two {κ sp} (v : View sig κ sp S256x256 .bf16) (X : v.ty.Contents (Elt Ideal)) (g0 g1 h : ℕ → ℕ → ℝ) (inb0 inb1)
    (h0 : ∀ r l, r < 256 → l < 128 → g0 r l = h r l) (h1 : ∀ r l, r < 256 → l < 128 → g1 r l = h r (128 + l)) :
    v.read (Elt Ideal) (v.writes (Elt Ideal) X
      [⟨Rect.unit (s := S256x256) ![0, 128] ![256, 128] inb1, up S256x128 .bf16 g1⟩,
       ⟨Rect.unit (s := S256x256) ![0, 0] ![256, 128] inb0, up S256x128 .bf16 g0⟩]) = up S256x256 .bf16 h := by
  funext y
  have hy0 : (y 0).val < 256 := (y 0).isLt
  have hy1 : (y 1).val < 256 := (y 1).isLt
  by_cases hl : (y 1).val < 128
  · rw [View.read_writes_cons_unit_of_not_mem v X inb1 _ _ y rfl 1 (Or.inl hl)]
    refine (View.read_writes_cons_unit_of_mem v X inb0 _ _ y (ix2 ⟨(y 0).val, hy0⟩ ⟨(y 1).val, hl⟩) rfl
      (Fin.forall_fin_two.mpr ⟨(Nat.zero_add _).symm, (Nat.zero_add _).symm⟩)).trans ?_
    exact congrArg Real.toEReal (h0 _ _ hy0 hl)
  · refine (View.read_writes_cons_unit_of_mem v X inb1 _ _ y (ix2 ⟨(y 0).val, hy0⟩ ⟨(y 1).val - 128, by omega⟩) rfl
      (Fin.forall_fin_two.mpr ⟨(Nat.zero_add _).symm, ?_⟩)).trans ?_
    · show (y 1).val = 128 + ((y 1).val - 128); omega
    · refine congrArg Real.toEReal ((h1 (y 0).val ((y 1).val - 128) hy0 (by omega)).trans ?_)
      rw [show 128 + ((y 1).val - 128) = (y 1).val by omega]; rfl

/-- Two stores of 16 rows side by side and zeros under them fill a block of 256 rows. -/
theorem fill_four {κ sp} (v : View sig κ sp S256x256 .bf16) (X : v.ty.Contents (Elt Ideal)) (g0 g1 h : ℕ → ℕ → ℝ) (inb0 inb1 inb2 inb3)
    (h0 : ∀ r l, r < 16 → l < 128 → g0 r l = h r l) (h1 : ∀ r l, r < 16 → l < 128 → g1 r l = h r (128 + l)) :
    v.read (Elt Ideal) (v.writes (Elt Ideal) X
      [⟨Rect.unit (s := S256x256) ![16, 128] ![240, 128] inb3, up S240x128 .bf16 (fun _ _ => 0)⟩,
       ⟨Rect.unit (s := S256x256) ![0, 128] ![16, 128] inb2, up S16x128 .bf16 g1⟩,
       ⟨Rect.unit (s := S256x256) ![16, 0] ![240, 128] inb1, up S240x128 .bf16 (fun _ _ => 0)⟩,
       ⟨Rect.unit (s := S256x256) ![0, 0] ![16, 128] inb0, up S16x128 .bf16 g0⟩]) =
      up S256x256 .bf16 (fun r w => if r < 16 then h r w else 0) := by
  funext y
  have hy0 : (y 0).val < 256 := (y 0).isLt
  have hy1 : (y 1).val < 256 := (y 1).isLt
  show _ = (((if (y 0).val < 16 then h (y 0).val (y 1).val else 0) : ℝ) : EReal)
  by_cases hr : (y 0).val < 16
  · rw [if_pos hr]
    by_cases hl : (y 1).val < 128
    · rw [View.read_writes_cons_unit_of_not_mem v X inb3 _ _ y rfl 1 (Or.inl hl),
        View.read_writes_cons_unit_of_not_mem v X inb2 _ _ y rfl 1 (Or.inl hl),
        View.read_writes_cons_unit_of_not_mem v X inb1 _ _ y rfl 0 (Or.inl hr)]
      refine (View.read_writes_cons_unit_of_mem v X inb0 _ _ y (ix2 ⟨(y 0).val, hr⟩ ⟨(y 1).val, hl⟩) rfl
        (Fin.forall_fin_two.mpr ⟨(Nat.zero_add _).symm, (Nat.zero_add _).symm⟩)).trans ?_
      exact congrArg Real.toEReal (h0 _ _ hr hl)
    · rw [View.read_writes_cons_unit_of_not_mem v X inb3 _ _ y rfl 0 (Or.inl hr)]
      refine (View.read_writes_cons_unit_of_mem v X inb2 _ _ y (ix2 ⟨(y 0).val, hr⟩ ⟨(y 1).val - 128, by omega⟩) rfl
        (Fin.forall_fin_two.mpr ⟨(Nat.zero_add _).symm, ?_⟩)).trans ?_
      · show (y 1).val = 128 + ((y 1).val - 128); omega
      · refine congrArg Real.toEReal ((h1 (y 0).val ((y 1).val - 128) hr (by omega)).trans ?_)
        rw [show 128 + ((y 1).val - 128) = (y 1).val by omega]
  · rw [if_neg hr]
    by_cases hl : (y 1).val < 128
    · rw [View.read_writes_cons_unit_of_not_mem v X inb3 _ _ y rfl 1 (Or.inl hl),
        View.read_writes_cons_unit_of_not_mem v X inb2 _ _ y rfl 1 (Or.inl hl)]
      refine (View.read_writes_cons_unit_of_mem v X inb1 _ _ y (ix2 ⟨(y 0).val - 16, by omega⟩ ⟨(y 1).val, hl⟩) rfl
        (Fin.forall_fin_two.mpr ⟨?_, (Nat.zero_add _).symm⟩)).trans rfl
      show (y 0).val = 16 + ((y 0).val - 16); omega
    · refine (View.read_writes_cons_unit_of_mem v X inb3 _ _ y (ix2 ⟨(y 0).val - 16, by omega⟩ ⟨(y 1).val - 128, by omega⟩) rfl
        (Fin.forall_fin_two.mpr ⟨?_, ?_⟩)).trans rfl
      · show (y 0).val = 16 + ((y 0).val - 16); omega
      · show (y 1).val = 128 + ((y 1).val - 128); omega

end Cert.Att
end
-- ==== Proof.PointA.lean ====
module

public import proofs.«01_k».proof.Proof.Fill

/- What one grid point leaves: a block of rows added to the sums of the key blocks, and that block's own rows of the gradient. -/
@[expose] public section
set_option maxRecDepth 16384
noncomputable section
namespace Cert.Att
open Cert.KernelIdeal Cert.KernelIdeal.Gen Idealize.ShloMosaic Idealize.ShloMosaic.TcCoe Idealize.SL.Sem
open scoped Classical

theorem s0_A (q k v d rt : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : cond0_0 i) (hc1 : cond0_1 i) (hc2 : ¬cond0_2 i) (hc3 : ¬cond0_3 i) :
    arg11.view.read (Elt Ideal) (arg11.view.writes (Elt Ideal) arg11.view.junk (kernelRun0_A (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt)).2.2.2.1) = up S2304x256 .f32 (fun s w => (fun _ _ => 0) s w + if s < 256 * ((i 1).val + 1) then (rDk q k v d rt (256 * (i 1).val) 256) s w else 0) := by
  have hq0 : View.readAt (Elt Ideal) arg2.view (Rect.unit (s := S256x256) ![0, 0] S256x128.size inb_S256x256_S256x128_0_0).toLoadRect (harg2.unread (up S256x256 .bf16 q)) = up S256x128 .bf16 (fun r l => q r (128 * p0 + l)) := by
    refine (load_bf _ _ _ (harg2.read_unread _) _ 0 0 rfl _).trans (up_congr fun r l _ _ => ?_)
    rw [hp0, Nat.zero_add, Nat.mul_zero]
  have hq1 : View.readAt (Elt Ideal) arg2.view (Rect.unit (s := S256x256) ![0, 128] S256x128.size inb_S256x256_S256x128_0_128).toLoadRect (harg2.unread (up S256x256 .bf16 q)) = up S256x128 .bf16 (fun r l => q r (128 * p1 + l)) := by
    refine (load_bf _ _ _ (harg2.read_unread _) _ 0 128 rfl _).trans (up_congr fun r l _ _ => ?_)
    rw [hp1, Nat.zero_add]
  have hd0 : View.readAt (Elt Ideal) arg5.view (Rect.unit (s := S256x256) ![0, 0] S256x128.size inb_S256x256_S256x128_0_0).toLoadRect (harg5.unread (up S256x256 .bf16 d)) = up S256x128 .bf16 (fun r l => d r (128 * p0 + l)) := by
    refine (load_bf _ _ _ (harg5.read_unread _) _ 0 0 rfl _).trans (up_congr fun r l _ _ => ?_)
    rw [hp0, Nat.zero_add, Nat.mul_zero]
  have hd1 : View.readAt (Elt Ideal) arg5.view (Rect.unit (s := S256x256) ![0, 128] S256x128.size inb_S256x256_S256x128_0_128).toLoadRect (harg5.unread (up S256x256 .bf16 d)) = up S256x128 .bf16 (fun r l => d r (128 * p1 + l)) := by
    refine (load_bf _ _ _ (harg5.read_unread _) _ 0 128 rfl _).trans (up_congr fun r l _ _ => ?_)
    rw [hp1, Nat.zero_add]
  have hr0 : View.readAt (Elt Ideal) arg6.view (Rect.unit (s := S4x256x1) ![0, 0, 0] S1x256x1.size inb_S4x256x1_S1x256x1_0_0_0).toLoadRect (harg6.unread (sums3 S4x256x1 rt)) = col S1x256x1 (rt (2 * p0)) := by
    rw [load_sums _ _ _ (harg6.read_unread _), hp0]
  have hr1 : View.readAt (Elt Ideal) arg6.view (Rect.unit (s := S4x256x1) ![1, 0, 0] S1x256x1.size inb_S4x256x1_S1x256x1_1_0_0).toLoadRect (harg6.unread (sums3 S4x256x1 rt)) = col S1x256x1 (rt (2 * p0 + 1)) := by
    rw [load_sums _ _ _ (harg6.read_unread _), hp0]
  have hr2 : View.readAt (Elt Ideal) arg6.view (Rect.unit (s := S4x256x1) ![2, 0, 0] S1x256x1.size inb_S4x256x1_S1x256x1_2_0_0).toLoadRect (harg6.unread (sums3 S4x256x1 rt)) = col S1x256x1 (rt (2 * p1)) := by
    rw [load_sums _ _ _ (harg6.read_unread _), hp1]
  have hr3 : View.readAt (Elt Ideal) arg6.view (Rect.unit (s := S4x256x1) ![3, 0, 0] S1x256x1.size inb_S4x256x1_S1x256x1_3_0_0).toLoadRect (harg6.unread (sums3 S4x256x1 rt)) = col S1x256x1 (rt (2 * p1 + 1)) := by
    rw [load_sums _ _ _ (harg6.read_unread _), hp1]
  have S := sweep1 q k v d rt (fun _ _ => 0) (fun _ _ => 0) p0 p1 hp0 hp1 Variants.none c none i arg2 harg2 arg3 harg3 arg4 harg4 arg5 harg5 arg6 harg6 (Memref.whole main_v27) (Memref.isWhole_whole _) arg8 harg8 arg9 harg9 arg10 harg10 arg11 harg11 arg12 harg12 (BitVec.ofNat 32 (i 1).val) (iota Kind.tc S256x256 32 [0] iota_S256x256_d0_w32) (iota Kind.tc S256x256 32 [1] iota_S256x256_d1_w32) hc1 (harg3.unread (up S2304x256 .bf16 k)) (harg4.unread (up S2304x256 .bf16 v)) (arg11.view.writes (Elt Ideal) arg11.view.junk [⟨Rect.unit (s := S2304x256) ![0, 0] ![2304, 256] inb_S2304x256_S2304x256_0_0, up S2304x256 .f32 (fun _ _ => 0)⟩]) (arg12.view.writes (Elt Ideal) arg12.view.junk [⟨Rect.unit (s := S2304x256) ![0, 0] ![2304, 256] inb_S2304x256_S2304x256_0_0, up S2304x256 .f32 (fun _ _ => 0)⟩]) (harg3.read_unread _) (harg4.read_unread _) (whole_up arg11.view _ _ _) (whole_up arg12.view _ _ _) (i 1).val (trips1 i).ge
  obtain ⟨S0, S1, S2⟩ := S
  have e0' := vec2_ext (off5_all i)
  have e1' := vec2_ext (off6_all i)
  have e0 : k0_off5 i = ![256 * (i 1).val, 128 * p0] := by rw [hp0]; exact e0'
  have e1 : k0_off6 i = ![256 * (i 1).val, 128 * p1] := by rw [hp1]; exact e1'
  obtain ⟨M, hmask, hM⟩ : ∃ M : ℕ → ℕ → Prop, k0_pay78 (iota .tc S256x256 32 [0] iota_S256x256_d0_w32) (iota .tc S256x256 32 [1] iota_S256x256_d1_w32) = msk S512x256 M ∧
      ∀ r < 2 * 256, ∀ c < 256, (M r c ↔ 256 * (i 1).val + c < 256 * (i 1).val + r % 256) :=
    ⟨_, mask78, fun r _ c _ => (Nat.add_lt_add_iff_left).symm⟩
  have hk0 : View.readAt (Elt Ideal) arg3.view (Rect.unit (s := S2304x256) (k0_off5 i) S256x128.size (k0_off5_inb i hc1)).toLoadRect (harg3.unread (up S2304x256 .bf16 k)) = up S256x128 .bf16 (fun r l => k (256 * (i 1).val + r) (128 * p0 + l)) :=
    load_bf _ _ _ (harg3.read_unread _) _ _ _ e0 _
  have hk1 : View.readAt (Elt Ideal) arg3.view (Rect.unit (s := S2304x256) (k0_off6 i) S256x128.size (k0_off6_inb i hc1)).toLoadRect (harg3.unread (up S2304x256 .bf16 k)) = up S256x128 .bf16 (fun r l => k (256 * (i 1).val + r) (128 * p1 + l)) :=
    load_bf _ _ _ (harg3.read_unread _) _ _ _ e1 _
  have hv0 : View.readAt (Elt Ideal) arg4.view (Rect.unit (s := S2304x256) (k0_off5 i) S256x128.size (k0_off5_inb i hc1)).toLoadRect (harg4.unread (up S2304x256 .bf16 v)) = up S256x128 .bf16 (fun r l => v (256 * (i 1).val + r) (128 * p0 + l)) :=
    load_bf _ _ _ (harg4.read_unread _) _ _ _ e0 _
  have hv1 : View.readAt (Elt Ideal) arg4.view (Rect.unit (s := S2304x256) (k0_off6 i) S256x128.size (k0_off6_inb i hc1)).toLoadRect (harg4.unread (up S2304x256 .bf16 v)) = up S256x128 .bf16 (fun r l => v (256 * (i 1).val + r) (128 * p1 + l)) :=
    load_bf _ _ _ (harg4.read_unread _) _ _ _ e1 _
  have hc := cyc256_zero q k v d rt (256 * (i 1).val) p0 p1
  unfold kernelRun0_A
  dsimp only
  sl_unfold_run_names
  simp only [hq0, hq1, hd0, hd1, hr0, hr1, hr2, hr3, stack225, stack226, stack228, stack229, lanes_msk, lanes_msk', tri_up, sums79 rt _ _ p0 rfl rfl, sums80 rt _ _ p1 rfl rfl, tripsE1, tripsE2, st2_zero, List.append_nil, List.nil_append, hc, zero221, zero222, View.writes_append]
  simp only [S0]
  have hA0 := load_f arg11.view _ _ S1 _ _ _ e0' (k0_off5_inb i hc1)
  have hA1 := load_f arg11.view _ _ S1 _ _ _ e1' (k0_off6_inb i hc1)
  have hB0 := load_f arg12.view _ _ S2 _ _ _ e0' (k0_off5_inb i hc1)
  have hB1 := load_f arg12.view _ _ S2 _ _ _ e1' (k0_off6_inb i hc1)
  simp only [load_skip arg11.view _ _ _ _ _ _ e0' e1' (k0_off5_inb i hc1) (k0_off6_inb i hc1), load_skip arg12.view _ _ _ _ _ _ e0' e1' (k0_off5_inb i hc1) (k0_off6_inb i hc1), hA0, hA1, hB0, hB1, hk0, hk1, hv0, hv1, View.writes_append]
  try rw [hmask]
  simp only [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay113, shapeCast_self_up, constant_zero, nt512, nn512, tn512, cum1024, ↓cc_def, cc1024, lo1024, hi1024, last512, spread512, absf_up, constant_zero_apply, ofBits_one, broadcast_coe, bc_e, subf_up, mulf_up, exp_up, addf_up, divf_one_exp, log_div_exp, maximumf_up, softplus_eq, cmpf_oge_up, select_up, sgm_eq, truncf_up, fold_spm, fold_am, fold_g, fold_dzm]
  rw [writes_two]
  rw [View.writes_append]
  refine (store_two (e := .f32) arg11.view _ (fun s w => (fun _ _ => 0) s w + if s < 256 * (i 1).val then (rDk q k v d rt (256 * (i 1).val) 256) s w else 0) (rDk q k v d rt (256 * (i 1).val) 256) _ _ S1 _ _ (256 * (i 1).val) e0' e1' _ _ ?_ ?_).trans ?_
  · intro r l hr hl
    rw [dk_rows q k v d rt (256 * (i 1).val) 256 p0 (256 * (i 1).val) M hM r l hr hl, hp0, Nat.mul_zero, Nat.zero_add]
  · intro r l hr hl
    rw [dk_rows q k v d rt (256 * (i 1).val) 256 p1 (256 * (i 1).val) M hM r l hr hl, hp1, Nat.mul_one]
  · exact up_congr fun s w _ _ => inc_step _ _ _ _

theorem s1_A (q k v d rt : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : cond0_0 i) (hc1 : cond0_1 i) (hc2 : ¬cond0_2 i) (hc3 : ¬cond0_3 i) :
    arg12.view.read (Elt Ideal) (arg12.view.writes (Elt Ideal) arg12.view.junk (kernelRun0_A (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt)).2.2.2.2.1) = up S2304x256 .f32 (fun s w => (fun _ _ => 0) s w + if s < 256 * ((i 1).val + 1) then (rDv q k d rt (256 * (i 1).val) 256) s w else 0) := by
  have hq0 : View.readAt (Elt Ideal) arg2.view (Rect.unit (s := S256x256) ![0, 0] S256x128.size inb_S256x256_S256x128_0_0).toLoadRect (harg2.unread (up S256x256 .bf16 q)) = up S256x128 .bf16 (fun r l => q r (128 * p0 + l)) := by
    refine (load_bf _ _ _ (harg2.read_unread _) _ 0 0 rfl _).trans (up_congr fun r l _ _ => ?_)
    rw [hp0, Nat.zero_add, Nat.mul_zero]
  have hq1 : View.readAt (Elt Ideal) arg2.view (Rect.unit (s := S256x256) ![0, 128] S256x128.size inb_S256x256_S256x128_0_128).toLoadRect (harg2.unread (up S256x256 .bf16 q)) = up S256x128 .bf16 (fun r l => q r (128 * p1 + l)) := by
    refine (load_bf _ _ _ (harg2.read_unread _) _ 0 128 rfl _).trans (up_congr fun r l _ _ => ?_)
    rw [hp1, Nat.zero_add]
  have hd0 : View.readAt (Elt Ideal) arg5.view (Rect.unit (s := S256x256) ![0, 0] S256x128.size inb_S256x256_S256x128_0_0).toLoadRect (harg5.unread (up S256x256 .bf16 d)) = up S256x128 .bf16 (fun r l => d r (128 * p0 + l)) := by
    refine (load_bf _ _ _ (harg5.read_unread _) _ 0 0 rfl _).trans (up_congr fun r l _ _ => ?_)
    rw [hp0, Nat.zero_add, Nat.mul_zero]
  have hd1 : View.readAt (Elt Ideal) arg5.view (Rect.unit (s := S256x256) ![0, 128] S256x128.size inb_S256x256_S256x128_0_128).toLoadRect (harg5.unread (up S256x256 .bf16 d)) = up S256x128 .bf16 (fun r l => d r (128 * p1 + l)) := by
    refine (load_bf _ _ _ (harg5.read_unread _) _ 0 128 rfl _).trans (up_congr fun r l _ _ => ?_)
    rw [hp1, Nat.zero_add]
  have hr0 : View.readAt (Elt Ideal) arg6.view (Rect.unit (s := S4x256x1) ![0, 0, 0] S1x256x1.size inb_S4x256x1_S1x256x1_0_0_0).toLoadRect (harg6.unread (sums3 S4x256x1 rt)) = col S1x256x1 (rt (2 * p0)) := by
    rw [load_sums _ _ _ (harg6.read_unread _), hp0]
  have hr1 : View.readAt (Elt Ideal) arg6.view (Rect.unit (s := S4x256x1) ![1, 0, 0] S1x256x1.size inb_S4x256x1_S1x256x1_1_0_0).toLoadRect (harg6.unread (sums3 S4x256x1 rt)) = col S1x256x1 (rt (2 * p0 + 1)) := by
    rw [load_sums _ _ _ (harg6.read_unread _), hp0]
  have hr2 : View.readAt (Elt Ideal) arg6.view (Rect.unit (s := S4x256x1) ![2, 0, 0] S1x256x1.size inb_S4x256x1_S1x256x1_2_0_0).toLoadRect (harg6.unread (sums3 S4x256x1 rt)) = col S1x256x1 (rt (2 * p1)) := by
    rw [load_sums _ _ _ (harg6.read_unread _), hp1]
  have hr3 : View.readAt (Elt Ideal) arg6.view (Rect.unit (s := S4x256x1) ![3, 0, 0] S1x256x1.size inb_S4x256x1_S1x256x1_3_0_0).toLoadRect (harg6.unread (sums3 S4x256x1 rt)) = col S1x256x1 (rt (2 * p1 + 1)) := by
    rw [load_sums _ _ _ (harg6.read_unread _), hp1]
  have S := sweep1 q k v d rt (fun _ _ => 0) (fun _ _ => 0) p0 p1 hp0 hp1 Variants.none c none i arg2 harg2 arg3 harg3 arg4 harg4 arg5 harg5 arg6 harg6 (Memref.whole main_v27) (Memref.isWhole_whole _) arg8 harg8 arg9 harg9 arg10 harg10 arg11 harg11 arg12 harg12 (BitVec.ofNat 32 (i 1).val) (iota Kind.tc S256x256 32 [0] iota_S256x256_d0_w32) (iota Kind.tc S256x256 32 [1] iota_S256x256_d1_w32) hc1 (harg3.unread (up S2304x256 .bf16 k)) (harg4.unread (up S2304x256 .bf16 v)) (arg11.view.writes (Elt Ideal) arg11.view.junk [⟨Rect.unit (s := S2304x256) ![0, 0] ![2304, 256] inb_S2304x256_S2304x256_0_0, up S2304x256 .f32 (fun _ _ => 0)⟩]) (arg12.view.writes (Elt Ideal) arg12.view.junk [⟨Rect.unit (s := S2304x256) ![0, 0] ![2304, 256] inb_S2304x256_S2304x256_0_0, up S2304x256 .f32 (fun _ _ => 0)⟩]) (harg3.read_unread _) (harg4.read_unread _) (whole_up arg11.view _ _ _) (whole_up arg12.view _ _ _) (i 1).val (trips1 i).ge
  obtain ⟨S0, S1, S2⟩ := S
  have e0' := vec2_ext (off5_all i)
  have e1' := vec2_ext (off6_all i)
  have e0 : k0_off5 i = ![256 * (i 1).val, 128 * p0] := by rw [hp0]; exact e0'
  have e1 : k0_off6 i = ![256 * (i 1).val, 128 * p1] := by rw [hp1]; exact e1'
  obtain ⟨M, hmask, hM⟩ : ∃ M : ℕ → ℕ → Prop, k0_pay78 (iota .tc S256x256 32 [0] iota_S256x256_d0_w32) (iota .tc S256x256 32 [1] iota_S256x256_d1_w32) = msk S512x256 M ∧
      ∀ r < 2 * 256, ∀ c < 256, (M r c ↔ 256 * (i 1).val + c < 256 * (i 1).val + r % 256) :=
    ⟨_, mask78, fun r _ c _ => (Nat.add_lt_add_iff_left).symm⟩
  have hk0 : View.readAt (Elt Ideal) arg3.view (Rect.unit (s := S2304x256) (k0_off5 i) S256x128.size (k0_off5_inb i hc1)).toLoadRect (harg3.unread (up S2304x256 .bf16 k)) = up S256x128 .bf16 (fun r l => k (256 * (i 1).val + r) (128 * p0 + l)) :=
    load_bf _ _ _ (harg3.read_unread _) _ _ _ e0 _
  have hk1 : View.readAt (Elt Ideal) arg3.view (Rect.unit (s := S2304x256) (k0_off6 i) S256x128.size (k0_off6_inb i hc1)).toLoadRect (harg3.unread (up S2304x256 .bf16 k)) = up S256x128 .bf16 (fun r l => k (256 * (i 1).val + r) (128 * p1 + l)) :=
    load_bf _ _ _ (harg3.read_unread _) _ _ _ e1 _
  have hv0 : View.readAt (Elt Ideal) arg4.view (Rect.unit (s := S2304x256) (k0_off5 i) S256x128.size (k0_off5_inb i hc1)).toLoadRect (harg4.unread (up S2304x256 .bf16 v)) = up S256x128 .bf16 (fun r l => v (256 * (i 1).val + r) (128 * p0 + l)) :=
    load_bf _ _ _ (harg4.read_unread _) _ _ _ e0 _
  have hv1 : View.readAt (Elt Ideal) arg4.view (Rect.unit (s := S2304x256) (k0_off6 i) S256x128.size (k0_off6_inb i hc1)).toLoadRect (harg4.unread (up S2304x256 .bf16 v)) = up S256x128 .bf16 (fun r l => v (256 * (i 1).val + r) (128 * p1 + l)) :=
    load_bf _ _ _ (harg4.read_unread _) _ _ _ e1 _
  have hc := cyc256_zero q k v d rt (256 * (i 1).val) p0 p1
  unfold kernelRun0_A
  dsimp only
  sl_unfold_run_names
  simp only [hq0, hq1, hd0, hd1, hr0, hr1, hr2, hr3, stack225, stack226, stack228, stack229, lanes_msk, lanes_msk', tri_up, sums79 rt _ _ p0 rfl rfl, sums80 rt _ _ p1 rfl rfl, tripsE1, tripsE2, st2_zero, List.append_nil, List.nil_append, hc, zero221, zero222, View.writes_append]
  simp only [S0]
  have hA0 := load_f arg11.view _ _ S1 _ _ _ e0' (k0_off5_inb i hc1)
  have hA1 := load_f arg11.view _ _ S1 _ _ _ e1' (k0_off6_inb i hc1)
  have hB0 := load_f arg12.view _ _ S2 _ _ _ e0' (k0_off5_inb i hc1)
  have hB1 := load_f arg12.view _ _ S2 _ _ _ e1' (k0_off6_inb i hc1)
  simp only [load_skip arg11.view _ _ _ _ _ _ e0' e1' (k0_off5_inb i hc1) (k0_off6_inb i hc1), load_skip arg12.view _ _ _ _ _ _ e0' e1' (k0_off5_inb i hc1) (k0_off6_inb i hc1), hA0, hA1, hB0, hB1, hk0, hk1, hv0, hv1, View.writes_append]
  try rw [hmask]
  simp only [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay113, shapeCast_self_up, constant_zero, nt512, nn512, tn512, cum1024, ↓cc_def, cc1024, lo1024, hi1024, last512, spread512, absf_up, constant_zero_apply, ofBits_one, broadcast_coe, bc_e, subf_up, mulf_up, exp_up, addf_up, divf_one_exp, log_div_exp, maximumf_up, softplus_eq, cmpf_oge_up, select_up, sgm_eq, truncf_up, fold_spm, fold_am, fold_g, fold_dzm]
  rw [writes_two]
  rw [View.writes_append]
  refine (store_two (e := .f32) arg12.view _ (fun s w => (fun _ _ => 0) s w + if s < 256 * (i 1).val then (rDv q k d rt (256 * (i 1).val) 256) s w else 0) (rDv q k d rt (256 * (i 1).val) 256) _ _ S2 _ _ (256 * (i 1).val) e0' e1' _ _ ?_ ?_).trans ?_
  · intro r l hr hl
    rw [dv_rows q k d rt (256 * (i 1).val) 256 p0 (256 * (i 1).val) M hM r l hr hl, hp0, Nat.mul_zero, Nat.zero_add]
  · intro r l hr hl
    rw [dv_rows q k d rt (256 * (i 1).val) 256 p1 (256 * (i 1).val) M hM r l hr hl, hp1, Nat.mul_one]
  · exact up_congr fun s w _ _ => inc_step _ _ _ _

theorem dq_A (q k v d rt : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : cond0_0 i) (hc1 : cond0_1 i) (hc2 : ¬cond0_2 i) (hc3 : ¬cond0_3 i) :
    out0_A_5 (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) = up S256x256 .bf16 (fun r w => rDq q k v d rt (256 * (i 1).val) (w / 64) r w ((256 * (i 1).val) + 256) * (1 / 8)) := by
  have hq0 : View.readAt (Elt Ideal) arg2.view (Rect.unit (s := S256x256) ![0, 0] S256x128.size inb_S256x256_S256x128_0_0).toLoadRect (harg2.unread (up S256x256 .bf16 q)) = up S256x128 .bf16 (fun r l => q r (128 * p0 + l)) := by
    refine (load_bf _ _ _ (harg2.read_unread _) _ 0 0 rfl _).trans (up_congr fun r l _ _ => ?_)
    rw [hp0, Nat.zero_add, Nat.mul_zero]
  have hq1 : View.readAt (Elt Ideal) arg2.view (Rect.unit (s := S256x256) ![0, 128] S256x128.size inb_S256x256_S256x128_0_128).toLoadRect (harg2.unread (up S256x256 .bf16 q)) = up S256x128 .bf16 (fun r l => q r (128 * p1 + l)) := by
    refine (load_bf _ _ _ (harg2.read_unread _) _ 0 128 rfl _).trans (up_congr fun r l _ _ => ?_)
    rw [hp1, Nat.zero_add]
  have hd0 : View.readAt (Elt Ideal) arg5.view (Rect.unit (s := S256x256) ![0, 0] S256x128.size inb_S256x256_S256x128_0_0).toLoadRect (harg5.unread (up S256x256 .bf16 d)) = up S256x128 .bf16 (fun r l => d r (128 * p0 + l)) := by
    refine (load_bf _ _ _ (harg5.read_unread _) _ 0 0 rfl _).trans (up_congr fun r l _ _ => ?_)
    rw [hp0, Nat.zero_add, Nat.mul_zero]
  have hd1 : View.readAt (Elt Ideal) arg5.view (Rect.unit (s := S256x256) ![0, 128] S256x128.size inb_S256x256_S256x128_0_128).toLoadRect (harg5.unread (up S256x256 .bf16 d)) = up S256x128 .bf16 (fun r l => d r (128 * p1 + l)) := by
    refine (load_bf _ _ _ (harg5.read_unread _) _ 0 128 rfl _).trans (up_congr fun r l _ _ => ?_)
    rw [hp1, Nat.zero_add]
  have hr0 : View.readAt (Elt Ideal) arg6.view (Rect.unit (s := S4x256x1) ![0, 0, 0] S1x256x1.size inb_S4x256x1_S1x256x1_0_0_0).toLoadRect (harg6.unread (sums3 S4x256x1 rt)) = col S1x256x1 (rt (2 * p0)) := by
    rw [load_sums _ _ _ (harg6.read_unread _), hp0]
  have hr1 : View.readAt (Elt Ideal) arg6.view (Rect.unit (s := S4x256x1) ![1, 0, 0] S1x256x1.size inb_S4x256x1_S1x256x1_1_0_0).toLoadRect (harg6.unread (sums3 S4x256x1 rt)) = col S1x256x1 (rt (2 * p0 + 1)) := by
    rw [load_sums _ _ _ (harg6.read_unread _), hp0]
  have hr2 : View.readAt (Elt Ideal) arg6.view (Rect.unit (s := S4x256x1) ![2, 0, 0] S1x256x1.size inb_S4x256x1_S1x256x1_2_0_0).toLoadRect (harg6.unread (sums3 S4x256x1 rt)) = col S1x256x1 (rt (2 * p1)) := by
    rw [load_sums _ _ _ (harg6.read_unread _), hp1]
  have hr3 : View.readAt (Elt Ideal) arg6.view (Rect.unit (s := S4x256x1) ![3, 0, 0] S1x256x1.size inb_S4x256x1_S1x256x1_3_0_0).toLoadRect (harg6.unread (sums3 S4x256x1 rt)) = col S1x256x1 (rt (2 * p1 + 1)) := by
    rw [load_sums _ _ _ (harg6.read_unread _), hp1]
  have S := sweep1 q k v d rt (fun _ _ => 0) (fun _ _ => 0) p0 p1 hp0 hp1 Variants.none c none i arg2 harg2 arg3 harg3 arg4 harg4 arg5 harg5 arg6 harg6 (Memref.whole main_v27) (Memref.isWhole_whole _) arg8 harg8 arg9 harg9 arg10 harg10 arg11 harg11 arg12 harg12 (BitVec.ofNat 32 (i 1).val) (iota Kind.tc S256x256 32 [0] iota_S256x256_d0_w32) (iota Kind.tc S256x256 32 [1] iota_S256x256_d1_w32) hc1 (harg3.unread (up S2304x256 .bf16 k)) (harg4.unread (up S2304x256 .bf16 v)) (arg11.view.writes (Elt Ideal) arg11.view.junk [⟨Rect.unit (s := S2304x256) ![0, 0] ![2304, 256] inb_S2304x256_S2304x256_0_0, up S2304x256 .f32 (fun _ _ => 0)⟩]) (arg12.view.writes (Elt Ideal) arg12.view.junk [⟨Rect.unit (s := S2304x256) ![0, 0] ![2304, 256] inb_S2304x256_S2304x256_0_0, up S2304x256 .f32 (fun _ _ => 0)⟩]) (harg3.read_unread _) (harg4.read_unread _) (whole_up arg11.view _ _ _) (whole_up arg12.view _ _ _) (i 1).val (trips1 i).ge
  obtain ⟨S0, S1, S2⟩ := S
  have e0' := vec2_ext (off5_all i)
  have e1' := vec2_ext (off6_all i)
  have e0 : k0_off5 i = ![256 * (i 1).val, 128 * p0] := by rw [hp0]; exact e0'
  have e1 : k0_off6 i = ![256 * (i 1).val, 128 * p1] := by rw [hp1]; exact e1'
  obtain ⟨M, hmask, hM⟩ : ∃ M : ℕ → ℕ → Prop, k0_pay78 (iota .tc S256x256 32 [0] iota_S256x256_d0_w32) (iota .tc S256x256 32 [1] iota_S256x256_d1_w32) = msk S512x256 M ∧
      ∀ r < 2 * 256, ∀ c < 256, (M r c ↔ 256 * (i 1).val + c < 256 * (i 1).val + r % 256) :=
    ⟨_, mask78, fun r _ c _ => (Nat.add_lt_add_iff_left).symm⟩
  have hk0 : View.readAt (Elt Ideal) arg3.view (Rect.unit (s := S2304x256) (k0_off5 i) S256x128.size (k0_off5_inb i hc1)).toLoadRect (harg3.unread (up S2304x256 .bf16 k)) = up S256x128 .bf16 (fun r l => k (256 * (i 1).val + r) (128 * p0 + l)) :=
    load_bf _ _ _ (harg3.read_unread _) _ _ _ e0 _
  have hk1 : View.readAt (Elt Ideal) arg3.view (Rect.unit (s := S2304x256) (k0_off6 i) S256x128.size (k0_off6_inb i hc1)).toLoadRect (harg3.unread (up S2304x256 .bf16 k)) = up S256x128 .bf16 (fun r l => k (256 * (i 1).val + r) (128 * p1 + l)) :=
    load_bf _ _ _ (harg3.read_unread _) _ _ _ e1 _
  have hv0 : View.readAt (Elt Ideal) arg4.view (Rect.unit (s := S2304x256) (k0_off5 i) S256x128.size (k0_off5_inb i hc1)).toLoadRect (harg4.unread (up S2304x256 .bf16 v)) = up S256x128 .bf16 (fun r l => v (256 * (i 1).val + r) (128 * p0 + l)) :=
    load_bf _ _ _ (harg4.read_unread _) _ _ _ e0 _
  have hv1 : View.readAt (Elt Ideal) arg4.view (Rect.unit (s := S2304x256) (k0_off6 i) S256x128.size (k0_off6_inb i hc1)).toLoadRect (harg4.unread (up S2304x256 .bf16 v)) = up S256x128 .bf16 (fun r l => v (256 * (i 1).val + r) (128 * p1 + l)) :=
    load_bf _ _ _ (harg4.read_unread _) _ _ _ e1 _
  have hc := cyc256_zero q k v d rt (256 * (i 1).val) p0 p1
  unfold out0_A_5 kernelRun0_A
  dsimp only
  sl_unfold_run_names
  simp only [hq0, hq1, hd0, hd1, hr0, hr1, hr2, hr3, stack225, stack226, stack228, stack229, lanes_msk, lanes_msk', tri_up, sums79 rt _ _ p0 rfl rfl, sums80 rt _ _ p1 rfl rfl, tripsE1, tripsE2, st2_zero, List.append_nil, List.nil_append, hc, zero221, zero222, View.writes_append]
  simp only [S0]
  have hA0 := load_f arg11.view _ _ S1 _ _ _ e0' (k0_off5_inb i hc1)
  have hA1 := load_f arg11.view _ _ S1 _ _ _ e1' (k0_off6_inb i hc1)
  have hB0 := load_f arg12.view _ _ S2 _ _ _ e0' (k0_off5_inb i hc1)
  have hB1 := load_f arg12.view _ _ S2 _ _ _ e1' (k0_off6_inb i hc1)
  simp only [load_skip arg11.view _ _ _ _ _ _ e0' e1' (k0_off5_inb i hc1) (k0_off6_inb i hc1), load_skip arg12.view _ _ _ _ _ _ e0' e1' (k0_off5_inb i hc1) (k0_off6_inb i hc1), hA0, hA1, hB0, hB1, hk0, hk1, hv0, hv1, View.writes_append]
  try rw [hmask]
  simp only [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay113, shapeCast_self_up, constant_zero, nt512, nn512, tn512, cum1024, ↓cc_def, cc1024, lo1024, hi1024, last512, spread512, absf_up, constant_zero_apply, ofBits_one, broadcast_coe, bc_e, subf_up, mulf_up, exp_up, addf_up, divf_one_exp, log_div_exp, maximumf_up, softplus_eq, cmpf_oge_up, select_up, sgm_eq, truncf_up, fold_spm, fold_am, fold_g, fold_dzm]
  have g0 := up_congr (a := 512) (b := 128) (φ := .f32) fun r l hr hl => dq_rows q k v d rt (256 * (i 1).val) 256 p0 (256 * (i 1).val) M hM r l hr
  have g1 := up_congr (a := 512) (b := 128) (φ := .f32) fun r l hr hl => dq_rows q k v d rt (256 * (i 1).val) 256 p1 (256 * (i 1).val) M hM r l hr
  simp only [g0, g1]
  rw [out112 (fun h r l => rDq q k v d rt (256 * (i 1).val) (2 * p0 + h) r (128 * p0 + l) ((256 * (i 1).val) + 256)), out1 (fun h r l => rDq q k v d rt (256 * (i 1).val) (2 * p1 + h) r (128 * p1 + l) ((256 * (i 1).val) + 256))]
  refine fill_two VO0_5 _ _ _ _ _ _ ?_ ?_
  · intro r l hr hl
    dsimp only
    simp only [hp0, Nat.mul_zero, Nat.zero_add]
  · intro r l hr hl
    dsimp only
    simp only [hp1, Nat.mul_one, show (128 + l) / 64 = 2 + l / 64 by omega]

end Cert.Att
end
-- ==== Proof.PointB.lean ====
module

public import proofs.«01_k».proof.Proof.Fill

/- What one grid point leaves: a block of rows added to the sums of the key blocks, and that block's own rows of the gradient. -/
@[expose] public section
set_option maxRecDepth 16384
noncomputable section
namespace Cert.Att
open Cert.KernelIdeal Cert.KernelIdeal.Gen Idealize.ShloMosaic Idealize.ShloMosaic.TcCoe Idealize.SL.Sem
open scoped Classical

theorem s0_B (q k v d rt B0 B1 : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : ¬cond0_0 i) (hc1 : cond0_1 i) (hc2 : ¬cond0_2 i) (hc3 : ¬cond0_3 i) :
    arg11.view.read (Elt Ideal) (arg11.view.writes (Elt Ideal) (harg11.unread (up S2304x256 .f32 B0)) (kernelRun0_B (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1)).2.2.2.1) = up S2304x256 .f32 (fun s w => B0 s w + if s < 256 * ((i 1).val + 1) then (rDk q k v d rt (256 * (i 1).val) 256) s w else 0) := by
  have hq0 : View.readAt (Elt Ideal) arg2.view (Rect.unit (s := S256x256) ![0, 0] S256x128.size inb_S256x256_S256x128_0_0).toLoadRect (harg2.unread (up S256x256 .bf16 q)) = up S256x128 .bf16 (fun r l => q r (128 * p0 + l)) := by
    refine (load_bf _ _ _ (harg2.read_unread _) _ 0 0 rfl _).trans (up_congr fun r l _ _ => ?_)
    rw [hp0, Nat.zero_add, Nat.mul_zero]
  have hq1 : View.readAt (Elt Ideal) arg2.view (Rect.unit (s := S256x256) ![0, 128] S256x128.size inb_S256x256_S256x128_0_128).toLoadRect (harg2.unread (up S256x256 .bf16 q)) = up S256x128 .bf16 (fun r l => q r (128 * p1 + l)) := by
    refine (load_bf _ _ _ (harg2.read_unread _) _ 0 128 rfl _).trans (up_congr fun r l _ _ => ?_)
    rw [hp1, Nat.zero_add]
  have hd0 : View.readAt (Elt Ideal) arg5.view (Rect.unit (s := S256x256) ![0, 0] S256x128.size inb_S256x256_S256x128_0_0).toLoadRect (harg5.unread (up S256x256 .bf16 d)) = up S256x128 .bf16 (fun r l => d r (128 * p0 + l)) := by
    refine (load_bf _ _ _ (harg5.read_unread _) _ 0 0 rfl _).trans (up_congr fun r l _ _ => ?_)
    rw [hp0, Nat.zero_add, Nat.mul_zero]
  have hd1 : View.readAt (Elt Ideal) arg5.view (Rect.unit (s := S256x256) ![0, 128] S256x128.size inb_S256x256_S256x128_0_128).toLoadRect (harg5.unread (up S256x256 .bf16 d)) = up S256x128 .bf16 (fun r l => d r (128 * p1 + l)) := by
    refine (load_bf _ _ _ (harg5.read_unread _) _ 0 128 rfl _).trans (up_congr fun r l _ _ => ?_)
    rw [hp1, Nat.zero_add]
  have hr0 : View.readAt (Elt Ideal) arg6.view (Rect.unit (s := S4x256x1) ![0, 0, 0] S1x256x1.size inb_S4x256x1_S1x256x1_0_0_0).toLoadRect (harg6.unread (sums3 S4x256x1 rt)) = col S1x256x1 (rt (2 * p0)) := by
    rw [load_sums _ _ _ (harg6.read_unread _), hp0]
  have hr1 : View.readAt (Elt Ideal) arg6.view (Rect.unit (s := S4x256x1) ![1, 0, 0] S1x256x1.size inb_S4x256x1_S1x256x1_1_0_0).toLoadRect (harg6.unread (sums3 S4x256x1 rt)) = col S1x256x1 (rt (2 * p0 + 1)) := by
    rw [load_sums _ _ _ (harg6.read_unread _), hp0]
  have hr2 : View.readAt (Elt Ideal) arg6.view (Rect.unit (s := S4x256x1) ![2, 0, 0] S1x256x1.size inb_S4x256x1_S1x256x1_2_0_0).toLoadRect (harg6.unread (sums3 S4x256x1 rt)) = col S1x256x1 (rt (2 * p1)) := by
    rw [load_sums _ _ _ (harg6.read_unread _), hp1]
  have hr3 : View.readAt (Elt Ideal) arg6.view (Rect.unit (s := S4x256x1) ![3, 0, 0] S1x256x1.size inb_S4x256x1_S1x256x1_3_0_0).toLoadRect (harg6.unread (sums3 S4x256x1 rt)) = col S1x256x1 (rt (2 * p1 + 1)) := by
    rw [load_sums _ _ _ (harg6.read_unread _), hp1]
  have S := sweep1 q k v d rt B0 B1 p0 p1 hp0 hp1 Variants.none c none i arg2 harg2 arg3 harg3 arg4 harg4 arg5 harg5 arg6 harg6 (Memref.whole main_v27) (Memref.isWhole_whole _) arg8 harg8 arg9 harg9 arg10 harg10 arg11 harg11 arg12 harg12 (BitVec.ofNat 32 (i 1).val) (iota Kind.tc S256x256 32 [0] iota_S256x256_d0_w32) (iota Kind.tc S256x256 32 [1] iota_S256x256_d1_w32) hc1 (harg3.unread (up S2304x256 .bf16 k)) (harg4.unread (up S2304x256 .bf16 v)) (harg11.unread (up S2304x256 .f32 B0)) (harg12.unread (up S2304x256 .f32 B1)) (harg3.read_unread _) (harg4.read_unread _) (harg11.read_unread _) (harg12.read_unread _) (i 1).val (trips1 i).ge
  obtain ⟨S0, S1, S2⟩ := S
  have e0' := vec2_ext (off5_all i)
  have e1' := vec2_ext (off6_all i)
  have e0 : k0_off5 i = ![256 * (i 1).val, 128 * p0] := by rw [hp0]; exact e0'
  have e1 : k0_off6 i = ![256 * (i 1).val, 128 * p1] := by rw [hp1]; exact e1'
  obtain ⟨M, hmask, hM⟩ : ∃ M : ℕ → ℕ → Prop, k0_pay78 (iota .tc S256x256 32 [0] iota_S256x256_d0_w32) (iota .tc S256x256 32 [1] iota_S256x256_d1_w32) = msk S512x256 M ∧
      ∀ r < 2 * 256, ∀ c < 256, (M r c ↔ 256 * (i 1).val + c < 256 * (i 1).val + r % 256) :=
    ⟨_, mask78, fun r _ c _ => (Nat.add_lt_add_iff_left).symm⟩
  have hk0 : View.readAt (Elt Ideal) arg3.view (Rect.unit (s := S2304x256) (k0_off5 i) S256x128.size (k0_off5_inb i hc1)).toLoadRect (harg3.unread (up S2304x256 .bf16 k)) = up S256x128 .bf16 (fun r l => k (256 * (i 1).val + r) (128 * p0 + l)) :=
    load_bf _ _ _ (harg3.read_unread _) _ _ _ e0 _
  have hk1 : View.readAt (Elt Ideal) arg3.view (Rect.unit (s := S2304x256) (k0_off6 i) S256x128.size (k0_off6_inb i hc1)).toLoadRect (harg3.unread (up S2304x256 .bf16 k)) = up S256x128 .bf16 (fun r l => k (256 * (i 1).val + r) (128 * p1 + l)) :=
    load_bf _ _ _ (harg3.read_unread _) _ _ _ e1 _
  have hv0 : View.readAt (Elt Ideal) arg4.view (Rect.unit (s := S2304x256) (k0_off5 i) S256x128.size (k0_off5_inb i hc1)).toLoadRect (harg4.unread (up S2304x256 .bf16 v)) = up S256x128 .bf16 (fun r l => v (256 * (i 1).val + r) (128 * p0 + l)) :=
    load_bf _ _ _ (harg4.read_unread _) _ _ _ e0 _
  have hv1 : View.readAt (Elt Ideal) arg4.view (Rect.unit (s := S2304x256) (k0_off6 i) S256x128.size (k0_off6_inb i hc1)).toLoadRect (harg4.unread (up S2304x256 .bf16 v)) = up S256x128 .bf16 (fun r l => v (256 * (i 1).val + r) (128 * p1 + l)) :=
    load_bf _ _ _ (harg4.read_unread _) _ _ _ e1 _
  have hc := cyc256_zero q k v d rt (256 * (i 1).val) p0 p1
  unfold kernelRun0_B
  dsimp only
  sl_unfold_run_names
  simp only [hq0, hq1, hd0, hd1, hr0, hr1, hr2, hr3, stack225, stack226, stack228, stack229, lanes_msk, lanes_msk', tri_up, sums79 rt _ _ p0 rfl rfl, sums80 rt _ _ p1 rfl rfl, tripsE1, tripsE2, st2_zero, List.append_nil, List.nil_append, hc]
  simp only [S0]
  have hA0 := load_f arg11.view _ _ S1 _ _ _ e0' (k0_off5_inb i hc1)
  have hA1 := load_f arg11.view _ _ S1 _ _ _ e1' (k0_off6_inb i hc1)
  have hB0 := load_f arg12.view _ _ S2 _ _ _ e0' (k0_off5_inb i hc1)
  have hB1 := load_f arg12.view _ _ S2 _ _ _ e1' (k0_off6_inb i hc1)
  simp only [load_skip arg11.view _ _ _ _ _ _ e0' e1' (k0_off5_inb i hc1) (k0_off6_inb i hc1), load_skip arg12.view _ _ _ _ _ _ e0' e1' (k0_off5_inb i hc1) (k0_off6_inb i hc1), hA0, hA1, hB0, hB1, hk0, hk1, hv0, hv1]
  try rw [hmask]
  simp only [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay113, shapeCast_self_up, constant_zero, nt512, nn512, tn512, cum1024, ↓cc_def, cc1024, lo1024, hi1024, last512, spread512, absf_up, constant_zero_apply, ofBits_one, broadcast_coe, bc_e, subf_up, mulf_up, exp_up, addf_up, divf_one_exp, log_div_exp, maximumf_up, softplus_eq, cmpf_oge_up, select_up, sgm_eq, truncf_up, fold_spm, fold_am, fold_g, fold_dzm]
  rw [writes_two]
  refine (store_two (e := .f32) arg11.view _ (fun s w => B0 s w + if s < 256 * (i 1).val then (rDk q k v d rt (256 * (i 1).val) 256) s w else 0) (rDk q k v d rt (256 * (i 1).val) 256) _ _ S1 _ _ (256 * (i 1).val) e0' e1' _ _ ?_ ?_).trans ?_
  · intro r l hr hl
    rw [dk_rows q k v d rt (256 * (i 1).val) 256 p0 (256 * (i 1).val) M hM r l hr hl, hp0, Nat.mul_zero, Nat.zero_add]
  · intro r l hr hl
    rw [dk_rows q k v d rt (256 * (i 1).val) 256 p1 (256 * (i 1).val) M hM r l hr hl, hp1, Nat.mul_one]
  · exact up_congr fun s w _ _ => inc_step _ _ _ _

theorem s1_B (q k v d rt B0 B1 : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : ¬cond0_0 i) (hc1 : cond0_1 i) (hc2 : ¬cond0_2 i) (hc3 : ¬cond0_3 i) :
    arg12.view.read (Elt Ideal) (arg12.view.writes (Elt Ideal) (harg12.unread (up S2304x256 .f32 B1)) (kernelRun0_B (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1)).2.2.2.2.1) = up S2304x256 .f32 (fun s w => B1 s w + if s < 256 * ((i 1).val + 1) then (rDv q k d rt (256 * (i 1).val) 256) s w else 0) := by
  have hq0 : View.readAt (Elt Ideal) arg2.view (Rect.unit (s := S256x256) ![0, 0] S256x128.size inb_S256x256_S256x128_0_0).toLoadRect (harg2.unread (up S256x256 .bf16 q)) = up S256x128 .bf16 (fun r l => q r (128 * p0 + l)) := by
    refine (load_bf _ _ _ (harg2.read_unread _) _ 0 0 rfl _).trans (up_congr fun r l _ _ => ?_)
    rw [hp0, Nat.zero_add, Nat.mul_zero]
  have hq1 : View.readAt (Elt Ideal) arg2.view (Rect.unit (s := S256x256) ![0, 128] S256x128.size inb_S256x256_S256x128_0_128).toLoadRect (harg2.unread (up S256x256 .bf16 q)) = up S256x128 .bf16 (fun r l => q r (128 * p1 + l)) := by
    refine (load_bf _ _ _ (harg2.read_unread _) _ 0 128 rfl _).trans (up_congr fun r l _ _ => ?_)
    rw [hp1, Nat.zero_add]
  have hd0 : View.readAt (Elt Ideal) arg5.view (Rect.unit (s := S256x256) ![0, 0] S256x128.size inb_S256x256_S256x128_0_0).toLoadRect (harg5.unread (up S256x256 .bf16 d)) = up S256x128 .bf16 (fun r l => d r (128 * p0 + l)) := by
    refine (load_bf _ _ _ (harg5.read_unread _) _ 0 0 rfl _).trans (up_congr fun r l _ _ => ?_)
    rw [hp0, Nat.zero_add, Nat.mul_zero]
  have hd1 : View.readAt (Elt Ideal) arg5.view (Rect.unit (s := S256x256) ![0, 128] S256x128.size inb_S256x256_S256x128_0_128).toLoadRect (harg5.unread (up S256x256 .bf16 d)) = up S256x128 .bf16 (fun r l => d r (128 * p1 + l)) := by
    refine (load_bf _ _ _ (harg5.read_unread _) _ 0 128 rfl _).trans (up_congr fun r l _ _ => ?_)
    rw [hp1, Nat.zero_add]
  have hr0 : View.readAt (Elt Ideal) arg6.view (Rect.unit (s := S4x256x1) ![0, 0, 0] S1x256x1.size inb_S4x256x1_S1x256x1_0_0_0).toLoadRect (harg6.unread (sums3 S4x256x1 rt)) = col S1x256x1 (rt (2 * p0)) := by
    rw [load_sums _ _ _ (harg6.read_unread _), hp0]
  have hr1 : View.readAt (Elt Ideal) arg6.view (Rect.unit (s := S4x256x1) ![1, 0, 0] S1x256x1.size inb_S4x256x1_S1x256x1_1_0_0).toLoadRect (harg6.unread (sums3 S4x256x1 rt)) = col S1x256x1 (rt (2 * p0 + 1)) := by
    rw [load_sums _ _ _ (harg6.read_unread _), hp0]
  have hr2 : View.readAt (Elt Ideal) arg6.view (Rect.unit (s := S4x256x1) ![2, 0, 0] S1x256x1.size inb_S4x256x1_S1x256x1_2_0_0).toLoadRect (harg6.unread (sums3 S4x256x1 rt)) = col S1x256x1 (rt (2 * p1)) := by
    rw [load_sums _ _ _ (harg6.read_unread _), hp1]
  have hr3 : View.readAt (Elt Ideal) arg6.view (Rect.unit (s := S4x256x1) ![3, 0, 0] S1x256x1.size inb_S4x256x1_S1x256x1_3_0_0).toLoadRect (harg6.unread (sums3 S4x256x1 rt)) = col S1x256x1 (rt (2 * p1 + 1)) := by
    rw [load_sums _ _ _ (harg6.read_unread _), hp1]
  have S := sweep1 q k v d rt B0 B1 p0 p1 hp0 hp1 Variants.none c none i arg2 harg2 arg3 harg3 arg4 harg4 arg5 harg5 arg6 harg6 (Memref.whole main_v27) (Memref.isWhole_whole _) arg8 harg8 arg9 harg9 arg10 harg10 arg11 harg11 arg12 harg12 (BitVec.ofNat 32 (i 1).val) (iota Kind.tc S256x256 32 [0] iota_S256x256_d0_w32) (iota Kind.tc S256x256 32 [1] iota_S256x256_d1_w32) hc1 (harg3.unread (up S2304x256 .bf16 k)) (harg4.unread (up S2304x256 .bf16 v)) (harg11.unread (up S2304x256 .f32 B0)) (harg12.unread (up S2304x256 .f32 B1)) (harg3.read_unread _) (harg4.read_unread _) (harg11.read_unread _) (harg12.read_unread _) (i 1).val (trips1 i).ge
  obtain ⟨S0, S1, S2⟩ := S
  have e0' := vec2_ext (off5_all i)
  have e1' := vec2_ext (off6_all i)
  have e0 : k0_off5 i = ![256 * (i 1).val, 128 * p0] := by rw [hp0]; exact e0'
  have e1 : k0_off6 i = ![256 * (i 1).val, 128 * p1] := by rw [hp1]; exact e1'
  obtain ⟨M, hmask, hM⟩ : ∃ M : ℕ → ℕ → Prop, k0_pay78 (iota .tc S256x256 32 [0] iota_S256x256_d0_w32) (iota .tc S256x256 32 [1] iota_S256x256_d1_w32) = msk S512x256 M ∧
      ∀ r < 2 * 256, ∀ c < 256, (M r c ↔ 256 * (i 1).val + c < 256 * (i 1).val + r % 256) :=
    ⟨_, mask78, fun r _ c _ => (Nat.add_lt_add_iff_left).symm⟩
  have hk0 : View.readAt (Elt Ideal) arg3.view (Rect.unit (s := S2304x256) (k0_off5 i) S256x128.size (k0_off5_inb i hc1)).toLoadRect (harg3.unread (up S2304x256 .bf16 k)) = up S256x128 .bf16 (fun r l => k (256 * (i 1).val + r) (128 * p0 + l)) :=
    load_bf _ _ _ (harg3.read_unread _) _ _ _ e0 _
  have hk1 : View.readAt (Elt Ideal) arg3.view (Rect.unit (s := S2304x256) (k0_off6 i) S256x128.size (k0_off6_inb i hc1)).toLoadRect (harg3.unread (up S2304x256 .bf16 k)) = up S256x128 .bf16 (fun r l => k (256 * (i 1).val + r) (128 * p1 + l)) :=
    load_bf _ _ _ (harg3.read_unread _) _ _ _ e1 _
  have hv0 : View.readAt (Elt Ideal) arg4.view (Rect.unit (s := S2304x256) (k0_off5 i) S256x128.size (k0_off5_inb i hc1)).toLoadRect (harg4.unread (up S2304x256 .bf16 v)) = up S256x128 .bf16 (fun r l => v (256 * (i 1).val + r) (128 * p0 + l)) :=
    load_bf _ _ _ (harg4.read_unread _) _ _ _ e0 _
  have hv1 : View.readAt (Elt Ideal) arg4.view (Rect.unit (s := S2304x256) (k0_off6 i) S256x128.size (k0_off6_inb i hc1)).toLoadRect (harg4.unread (up S2304x256 .bf16 v)) = up S256x128 .bf16 (fun r l => v (256 * (i 1).val + r) (128 * p1 + l)) :=
    load_bf _ _ _ (harg4.read_unread _) _ _ _ e1 _
  have hc := cyc256_zero q k v d rt (256 * (i 1).val) p0 p1
  unfold kernelRun0_B
  dsimp only
  sl_unfold_run_names
  simp only [hq0, hq1, hd0, hd1, hr0, hr1, hr2, hr3, stack225, stack226, stack228, stack229, lanes_msk, lanes_msk', tri_up, sums79 rt _ _ p0 rfl rfl, sums80 rt _ _ p1 rfl rfl, tripsE1, tripsE2, st2_zero, List.append_nil, List.nil_append, hc]
  simp only [S0]
  have hA0 := load_f arg11.view _ _ S1 _ _ _ e0' (k0_off5_inb i hc1)
  have hA1 := load_f arg11.view _ _ S1 _ _ _ e1' (k0_off6_inb i hc1)
  have hB0 := load_f arg12.view _ _ S2 _ _ _ e0' (k0_off5_inb i hc1)
  have hB1 := load_f arg12.view _ _ S2 _ _ _ e1' (k0_off6_inb i hc1)
  simp only [load_skip arg11.view _ _ _ _ _ _ e0' e1' (k0_off5_inb i hc1) (k0_off6_inb i hc1), load_skip arg12.view _ _ _ _ _ _ e0' e1' (k0_off5_inb i hc1) (k0_off6_inb i hc1), hA0, hA1, hB0, hB1, hk0, hk1, hv0, hv1]
  try rw [hmask]
  simp only [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay113, shapeCast_self_up, constant_zero, nt512, nn512, tn512, cum1024, ↓cc_def, cc1024, lo1024, hi1024, last512, spread512, absf_up, constant_zero_apply, ofBits_one, broadcast_coe, bc_e, subf_up, mulf_up, exp_up, addf_up, divf_one_exp, log_div_exp, maximumf_up, softplus_eq, cmpf_oge_up, select_up, sgm_eq, truncf_up, fold_spm, fold_am, fold_g, fold_dzm]
  rw [writes_two]
  refine (store_two (e := .f32) arg12.view _ (fun s w => B1 s w + if s < 256 * (i 1).val then (rDv q k d rt (256 * (i 1).val) 256) s w else 0) (rDv q k d rt (256 * (i 1).val) 256) _ _ S2 _ _ (256 * (i 1).val) e0' e1' _ _ ?_ ?_).trans ?_
  · intro r l hr hl
    rw [dv_rows q k d rt (256 * (i 1).val) 256 p0 (256 * (i 1).val) M hM r l hr hl, hp0, Nat.mul_zero, Nat.zero_add]
  · intro r l hr hl
    rw [dv_rows q k d rt (256 * (i 1).val) 256 p1 (256 * (i 1).val) M hM r l hr hl, hp1, Nat.mul_one]
  · exact up_congr fun s w _ _ => inc_step _ _ _ _

theorem dq_B (q k v d rt B0 B1 : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : ¬cond0_0 i) (hc1 : cond0_1 i) (hc2 : ¬cond0_2 i) (hc3 : ¬cond0_3 i) :
    out0_B_5 (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1) = up S256x256 .bf16 (fun r w => rDq q k v d rt (256 * (i 1).val) (w / 64) r w ((256 * (i 1).val) + 256) * (1 / 8)) := by
  have hq0 : View.readAt (Elt Ideal) arg2.view (Rect.unit (s := S256x256) ![0, 0] S256x128.size inb_S256x256_S256x128_0_0).toLoadRect (harg2.unread (up S256x256 .bf16 q)) = up S256x128 .bf16 (fun r l => q r (128 * p0 + l)) := by
    refine (load_bf _ _ _ (harg2.read_unread _) _ 0 0 rfl _).trans (up_congr fun r l _ _ => ?_)
    rw [hp0, Nat.zero_add, Nat.mul_zero]
  have hq1 : View.readAt (Elt Ideal) arg2.view (Rect.unit (s := S256x256) ![0, 128] S256x128.size inb_S256x256_S256x128_0_128).toLoadRect (harg2.unread (up S256x256 .bf16 q)) = up S256x128 .bf16 (fun r l => q r (128 * p1 + l)) := by
    refine (load_bf _ _ _ (harg2.read_unread _) _ 0 128 rfl _).trans (up_congr fun r l _ _ => ?_)
    rw [hp1, Nat.zero_add]
  have hd0 : View.readAt (Elt Ideal) arg5.view (Rect.unit (s := S256x256) ![0, 0] S256x128.size inb_S256x256_S256x128_0_0).toLoadRect (harg5.unread (up S256x256 .bf16 d)) = up S256x128 .bf16 (fun r l => d r (128 * p0 + l)) := by
    refine (load_bf _ _ _ (harg5.read_unread _) _ 0 0 rfl _).trans (up_congr fun r l _ _ => ?_)
    rw [hp0, Nat.zero_add, Nat.mul_zero]
  have hd1 : View.readAt (Elt Ideal) arg5.view (Rect.unit (s := S256x256) ![0, 128] S256x128.size inb_S256x256_S256x128_0_128).toLoadRect (harg5.unread (up S256x256 .bf16 d)) = up S256x128 .bf16 (fun r l => d r (128 * p1 + l)) := by
    refine (load_bf _ _ _ (harg5.read_unread _) _ 0 128 rfl _).trans (up_congr fun r l _ _ => ?_)
    rw [hp1, Nat.zero_add]
  have hr0 : View.readAt (Elt Ideal) arg6.view (Rect.unit (s := S4x256x1) ![0, 0, 0] S1x256x1.size inb_S4x256x1_S1x256x1_0_0_0).toLoadRect (harg6.unread (sums3 S4x256x1 rt)) = col S1x256x1 (rt (2 * p0)) := by
    rw [load_sums _ _ _ (harg6.read_unread _), hp0]
  have hr1 : View.readAt (Elt Ideal) arg6.view (Rect.unit (s := S4x256x1) ![1, 0, 0] S1x256x1.size inb_S4x256x1_S1x256x1_1_0_0).toLoadRect (harg6.unread (sums3 S4x256x1 rt)) = col S1x256x1 (rt (2 * p0 + 1)) := by
    rw [load_sums _ _ _ (harg6.read_unread _), hp0]
  have hr2 : View.readAt (Elt Ideal) arg6.view (Rect.unit (s := S4x256x1) ![2, 0, 0] S1x256x1.size inb_S4x256x1_S1x256x1_2_0_0).toLoadRect (harg6.unread (sums3 S4x256x1 rt)) = col S1x256x1 (rt (2 * p1)) := by
    rw [load_sums _ _ _ (harg6.read_unread _), hp1]
  have hr3 : View.readAt (Elt Ideal) arg6.view (Rect.unit (s := S4x256x1) ![3, 0, 0] S1x256x1.size inb_S4x256x1_S1x256x1_3_0_0).toLoadRect (harg6.unread (sums3 S4x256x1 rt)) = col S1x256x1 (rt (2 * p1 + 1)) := by
    rw [load_sums _ _ _ (harg6.read_unread _), hp1]
  have S := sweep1 q k v d rt B0 B1 p0 p1 hp0 hp1 Variants.none c none i arg2 harg2 arg3 harg3 arg4 harg4 arg5 harg5 arg6 harg6 (Memref.whole main_v27) (Memref.isWhole_whole _) arg8 harg8 arg9 harg9 arg10 harg10 arg11 harg11 arg12 harg12 (BitVec.ofNat 32 (i 1).val) (iota Kind.tc S256x256 32 [0] iota_S256x256_d0_w32) (iota Kind.tc S256x256 32 [1] iota_S256x256_d1_w32) hc1 (harg3.unread (up S2304x256 .bf16 k)) (harg4.unread (up S2304x256 .bf16 v)) (harg11.unread (up S2304x256 .f32 B0)) (harg12.unread (up S2304x256 .f32 B1)) (harg3.read_unread _) (harg4.read_unread _) (harg11.read_unread _) (harg12.read_unread _) (i 1).val (trips1 i).ge
  obtain ⟨S0, S1, S2⟩ := S
  have e0' := vec2_ext (off5_all i)
  have e1' := vec2_ext (off6_all i)
  have e0 : k0_off5 i = ![256 * (i 1).val, 128 * p0] := by rw [hp0]; exact e0'
  have e1 : k0_off6 i = ![256 * (i 1).val, 128 * p1] := by rw [hp1]; exact e1'
  obtain ⟨M, hmask, hM⟩ : ∃ M : ℕ → ℕ → Prop, k0_pay78 (iota .tc S256x256 32 [0] iota_S256x256_d0_w32) (iota .tc S256x256 32 [1] iota_S256x256_d1_w32) = msk S512x256 M ∧
      ∀ r < 2 * 256, ∀ c < 256, (M r c ↔ 256 * (i 1).val + c < 256 * (i 1).val + r % 256) :=
    ⟨_, mask78, fun r _ c _ => (Nat.add_lt_add_iff_left).symm⟩
  have hk0 : View.readAt (Elt Ideal) arg3.view (Rect.unit (s := S2304x256) (k0_off5 i) S256x128.size (k0_off5_inb i hc1)).toLoadRect (harg3.unread (up S2304x256 .bf16 k)) = up S256x128 .bf16 (fun r l => k (256 * (i 1).val + r) (128 * p0 + l)) :=
    load_bf _ _ _ (harg3.read_unread _) _ _ _ e0 _
  have hk1 : View.readAt (Elt Ideal) arg3.view (Rect.unit (s := S2304x256) (k0_off6 i) S256x128.size (k0_off6_inb i hc1)).toLoadRect (harg3.unread (up S2304x256 .bf16 k)) = up S256x128 .bf16 (fun r l => k (256 * (i 1).val + r) (128 * p1 + l)) :=
    load_bf _ _ _ (harg3.read_unread _) _ _ _ e1 _
  have hv0 : View.readAt (Elt Ideal) arg4.view (Rect.unit (s := S2304x256) (k0_off5 i) S256x128.size (k0_off5_inb i hc1)).toLoadRect (harg4.unread (up S2304x256 .bf16 v)) = up S256x128 .bf16 (fun r l => v (256 * (i 1).val + r) (128 * p0 + l)) :=
    load_bf _ _ _ (harg4.read_unread _) _ _ _ e0 _
  have hv1 : View.readAt (Elt Ideal) arg4.view (Rect.unit (s := S2304x256) (k0_off6 i) S256x128.size (k0_off6_inb i hc1)).toLoadRect (harg4.unread (up S2304x256 .bf16 v)) = up S256x128 .bf16 (fun r l => v (256 * (i 1).val + r) (128 * p1 + l)) :=
    load_bf _ _ _ (harg4.read_unread _) _ _ _ e1 _
  have hc := cyc256_zero q k v d rt (256 * (i 1).val) p0 p1
  unfold out0_B_5 kernelRun0_B
  dsimp only
  sl_unfold_run_names
  simp only [hq0, hq1, hd0, hd1, hr0, hr1, hr2, hr3, stack225, stack226, stack228, stack229, lanes_msk, lanes_msk', tri_up, sums79 rt _ _ p0 rfl rfl, sums80 rt _ _ p1 rfl rfl, tripsE1, tripsE2, st2_zero, List.append_nil, List.nil_append, hc]
  simp only [S0]
  have hA0 := load_f arg11.view _ _ S1 _ _ _ e0' (k0_off5_inb i hc1)
  have hA1 := load_f arg11.view _ _ S1 _ _ _ e1' (k0_off6_inb i hc1)
  have hB0 := load_f arg12.view _ _ S2 _ _ _ e0' (k0_off5_inb i hc1)
  have hB1 := load_f arg12.view _ _ S2 _ _ _ e1' (k0_off6_inb i hc1)
  simp only [load_skip arg11.view _ _ _ _ _ _ e0' e1' (k0_off5_inb i hc1) (k0_off6_inb i hc1), load_skip arg12.view _ _ _ _ _ _ e0' e1' (k0_off5_inb i hc1) (k0_off6_inb i hc1), hA0, hA1, hB0, hB1, hk0, hk1, hv0, hv1]
  try rw [hmask]
  simp only [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay113, shapeCast_self_up, constant_zero, nt512, nn512, tn512, cum1024, ↓cc_def, cc1024, lo1024, hi1024, last512, spread512, absf_up, constant_zero_apply, ofBits_one, broadcast_coe, bc_e, subf_up, mulf_up, exp_up, addf_up, divf_one_exp, log_div_exp, maximumf_up, softplus_eq, cmpf_oge_up, select_up, sgm_eq, truncf_up, fold_spm, fold_am, fold_g, fold_dzm]
  have g0 := up_congr (a := 512) (b := 128) (φ := .f32) fun r l hr hl => dq_rows q k v d rt (256 * (i 1).val) 256 p0 (256 * (i 1).val) M hM r l hr
  have g1 := up_congr (a := 512) (b := 128) (φ := .f32) fun r l hr hl => dq_rows q k v d rt (256 * (i 1).val) 256 p1 (256 * (i 1).val) M hM r l hr
  simp only [g0, g1]
  rw [out112 (fun h r l => rDq q k v d rt (256 * (i 1).val) (2 * p0 + h) r (128 * p0 + l) ((256 * (i 1).val) + 256)), out1 (fun h r l => rDq q k v d rt (256 * (i 1).val) (2 * p1 + h) r (128 * p1 + l) ((256 * (i 1).val) + 256))]
  refine fill_two VO0_5 _ _ _ _ _ _ ?_ ?_
  · intro r l hr hl
    dsimp only
    simp only [hp0, Nat.mul_zero, Nat.zero_add]
  · intro r l hr hl
    dsimp only
    simp only [hp1, Nat.mul_one, show (128 + l) / 64 = 2 + l / 64 by omega]

end Cert.Att
end
-- ==== Proof.PointC.lean ====
module

public import proofs.«01_k».proof.Proof.Fill

/- What one grid point leaves: a block of rows added to the sums of the key blocks, and that block's own rows of the gradient. -/
@[expose] public section
set_option maxRecDepth 16384
noncomputable section
namespace Cert.Att
open Cert.KernelIdeal Cert.KernelIdeal.Gen Idealize.ShloMosaic Idealize.ShloMosaic.TcCoe Idealize.SL.Sem
open scoped Classical

theorem s0_C (q k v d rt B0 B1 : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : ¬cond0_0 i) (hc1 : ¬cond0_1 i) (hc2 : cond0_2 i) (hc3 : cond0_3 i) :
    arg11.view.read (Elt Ideal) (arg11.view.writes (Elt Ideal) (harg11.unread (up S2304x256 .f32 B0)) (kernelRun0_C (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1)).2.2.2.1) = up S2304x256 .f32 (fun s w => B0 s w + if s < 256 * ((i 1).val + 1) then (rDk q k v d rt (256 * (i 1).val) 16) s w else 0) := by
  have hq0 : View.readAt (Elt Ideal) arg2.view (Rect.unit (s := S256x256) ![0, 0] S256x128.size inb_S256x256_S256x128_0_0).toLoadRect (harg2.unread (up S256x256 .bf16 q)) = up S256x128 .bf16 (fun r l => q r (128 * p0 + l)) := by
    refine (load_bf _ _ _ (harg2.read_unread _) _ 0 0 rfl _).trans (up_congr fun r l _ _ => ?_)
    rw [hp0, Nat.zero_add, Nat.mul_zero]
  have hq1 : View.readAt (Elt Ideal) arg2.view (Rect.unit (s := S256x256) ![0, 128] S256x128.size inb_S256x256_S256x128_0_128).toLoadRect (harg2.unread (up S256x256 .bf16 q)) = up S256x128 .bf16 (fun r l => q r (128 * p1 + l)) := by
    refine (load_bf _ _ _ (harg2.read_unread _) _ 0 128 rfl _).trans (up_congr fun r l _ _ => ?_)
    rw [hp1, Nat.zero_add]
  have hd0 : View.readAt (Elt Ideal) arg5.view (Rect.unit (s := S256x256) ![0, 0] S256x128.size inb_S256x256_S256x128_0_0).toLoadRect (harg5.unread (up S256x256 .bf16 d)) = up S256x128 .bf16 (fun r l => d r (128 * p0 + l)) := by
    refine (load_bf _ _ _ (harg5.read_unread _) _ 0 0 rfl _).trans (up_congr fun r l _ _ => ?_)
    rw [hp0, Nat.zero_add, Nat.mul_zero]
  have hd1 : View.readAt (Elt Ideal) arg5.view (Rect.unit (s := S256x256) ![0, 128] S256x128.size inb_S256x256_S256x128_0_128).toLoadRect (harg5.unread (up S256x256 .bf16 d)) = up S256x128 .bf16 (fun r l => d r (128 * p1 + l)) := by
    refine (load_bf _ _ _ (harg5.read_unread _) _ 0 128 rfl _).trans (up_congr fun r l _ _ => ?_)
    rw [hp1, Nat.zero_add]
  have hr0 : View.readAt (Elt Ideal) arg6.view (Rect.unit (s := S4x256x1) ![0, 0, 0] S1x16x1.size inb_S4x256x1_S1x16x1_0_0_0).toLoadRect (harg6.unread (sums3 S4x256x1 rt)) = col S1x16x1 (rt (2 * p0)) := by
    rw [load_sums _ _ _ (harg6.read_unread _), hp0]
  have hr1 : View.readAt (Elt Ideal) arg6.view (Rect.unit (s := S4x256x1) ![1, 0, 0] S1x16x1.size inb_S4x256x1_S1x16x1_1_0_0).toLoadRect (harg6.unread (sums3 S4x256x1 rt)) = col S1x16x1 (rt (2 * p0 + 1)) := by
    rw [load_sums _ _ _ (harg6.read_unread _), hp0]
  have hr2 : View.readAt (Elt Ideal) arg6.view (Rect.unit (s := S4x256x1) ![2, 0, 0] S1x16x1.size inb_S4x256x1_S1x16x1_2_0_0).toLoadRect (harg6.unread (sums3 S4x256x1 rt)) = col S1x16x1 (rt (2 * p1)) := by
    rw [load_sums _ _ _ (harg6.read_unread _), hp1]
  have hr3 : View.readAt (Elt Ideal) arg6.view (Rect.unit (s := S4x256x1) ![3, 0, 0] S1x16x1.size inb_S4x256x1_S1x16x1_3_0_0).toLoadRect (harg6.unread (sums3 S4x256x1 rt)) = col S1x16x1 (rt (2 * p1 + 1)) := by
    rw [load_sums _ _ _ (harg6.read_unread _), hp1]
  have S := sweep3 q k v d rt B0 B1 p0 p1 hp0 hp1 Variants.none c none i arg2 harg2 arg3 harg3 arg4 harg4 arg5 harg5 arg6 harg6 (Memref.whole main_v27) (Memref.isWhole_whole _) arg8 harg8 arg9 harg9 arg10 harg10 arg11 harg11 arg12 harg12 (BitVec.ofNat 32 (i 1).val) (iota Kind.tc S256x256 32 [0] iota_S256x256_d0_w32) (iota Kind.tc S256x256 32 [1] iota_S256x256_d1_w32) hc2 (harg3.unread (up S2304x256 .bf16 k)) (harg4.unread (up S2304x256 .bf16 v)) (harg11.unread (up S2304x256 .f32 B0)) (harg12.unread (up S2304x256 .f32 B1)) (harg3.read_unread _) (harg4.read_unread _) (harg11.read_unread _) (harg12.read_unread _) (i 1).val (trips3 i).ge
  obtain ⟨S0, S1, S2⟩ := S
  have e0' := vec2_ext (off11_all i)
  have e1' := vec2_ext (off12_all i)
  have e0 : k0_off11 i = ![256 * (i 1).val, 128 * p0] := by rw [hp0]; exact e0'
  have e1 : k0_off12 i = ![256 * (i 1).val, 128 * p1] := by rw [hp1]; exact e1'
  obtain ⟨M, hmask, hM⟩ : ∃ M : ℕ → ℕ → Prop, k0_pay184 (iota .tc S256x256 32 [0] iota_S256x256_d0_w32) (iota .tc S256x256 32 [1] iota_S256x256_d1_w32) = msk S32x256 M ∧
      ∀ r < 2 * 16, ∀ c < 256, (M r c ↔ 256 * (i 1).val + c < 256 * (i 1).val + r % 16) :=
    ⟨_, mask184, fun r _ c _ => (Nat.add_lt_add_iff_left).symm⟩
  have hk0 : View.readAt (Elt Ideal) arg3.view (Rect.unit (s := S2304x256) (k0_off11 i) S256x128.size (k0_off11_inb i hc2)).toLoadRect (harg3.unread (up S2304x256 .bf16 k)) = up S256x128 .bf16 (fun r l => k (256 * (i 1).val + r) (128 * p0 + l)) :=
    load_bf _ _ _ (harg3.read_unread _) _ _ _ e0 _
  have hk1 : View.readAt (Elt Ideal) arg3.view (Rect.unit (s := S2304x256) (k0_off12 i) S256x128.size (k0_off12_inb i hc2)).toLoadRect (harg3.unread (up S2304x256 .bf16 k)) = up S256x128 .bf16 (fun r l => k (256 * (i 1).val + r) (128 * p1 + l)) :=
    load_bf _ _ _ (harg3.read_unread _) _ _ _ e1 _
  have hv0 : View.readAt (Elt Ideal) arg4.view (Rect.unit (s := S2304x256) (k0_off11 i) S256x128.size (k0_off11_inb i hc2)).toLoadRect (harg4.unread (up S2304x256 .bf16 v)) = up S256x128 .bf16 (fun r l => v (256 * (i 1).val + r) (128 * p0 + l)) :=
    load_bf _ _ _ (harg4.read_unread _) _ _ _ e0 _
  have hv1 : View.readAt (Elt Ideal) arg4.view (Rect.unit (s := S2304x256) (k0_off12 i) S256x128.size (k0_off12_inb i hc2)).toLoadRect (harg4.unread (up S2304x256 .bf16 v)) = up S256x128 .bf16 (fun r l => v (256 * (i 1).val + r) (128 * p1 + l)) :=
    load_bf _ _ _ (harg4.read_unread _) _ _ _ e1 _
  have hc := cyc16_zero q k v d rt (256 * (i 1).val) p0 p1
  unfold kernelRun0_C
  dsimp only
  sl_unfold_run_names
  simp only [hq0, hq1, hd0, hd1, hr0, hr1, hr2, hr3, stack225, stack226, stack228, stack229, stack185, stack186, stack187, stack188, lanes_msk, lanes_msk', tri_up, sums189 rt _ _ p0 rfl rfl, sums190 rt _ _ p1 rfl rfl, tripsE3, tripsE4, st4_zero, List.append_nil, List.nil_append, hc]
  simp only [S0]
  have hA0 := load_f arg11.view _ _ S1 _ _ _ e0' (k0_off11_inb i hc2)
  have hA1 := load_f arg11.view _ _ S1 _ _ _ e1' (k0_off12_inb i hc2)
  have hB0 := load_f arg12.view _ _ S2 _ _ _ e0' (k0_off11_inb i hc2)
  have hB1 := load_f arg12.view _ _ S2 _ _ _ e1' (k0_off12_inb i hc2)
  simp only [load_skip arg11.view _ _ _ _ _ _ e0' e1' (k0_off11_inb i hc2) (k0_off12_inb i hc2), load_skip arg12.view _ _ _ _ _ _ e0' e1' (k0_off11_inb i hc2) (k0_off12_inb i hc2), hA0, hA1, hB0, hB1, hk0, hk1, hv0, hv1]
  try rw [hmask]
  simp only [k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, shapeCast_self_up, constant_zero, nt32, nn32, tn32, cum64, ↓cc_def, cc64, lo64, hi64, last32, spread32, absf_up, constant_zero_apply, ofBits_one, broadcast_coe, bc_e, subf_up, mulf_up, exp_up, addf_up, divf_one_exp, log_div_exp, maximumf_up, softplus_eq, cmpf_oge_up, select_up, sgm_eq, truncf_up, fold_spm, fold_am, fold_g, fold_dzm]
  rw [writes_two]
  refine (store_two (e := .f32) arg11.view _ (fun s w => B0 s w + if s < 256 * (i 1).val then (rDk q k v d rt (256 * (i 1).val) 16) s w else 0) (rDk q k v d rt (256 * (i 1).val) 16) _ _ S1 _ _ (256 * (i 1).val) e0' e1' _ _ ?_ ?_).trans ?_
  · intro r l hr hl
    rw [dk_rows q k v d rt (256 * (i 1).val) 16 p0 (256 * (i 1).val) M hM r l hr hl, hp0, Nat.mul_zero, Nat.zero_add]
  · intro r l hr hl
    rw [dk_rows q k v d rt (256 * (i 1).val) 16 p1 (256 * (i 1).val) M hM r l hr hl, hp1, Nat.mul_one]
  · exact up_congr fun s w _ _ => inc_step _ _ _ _

theorem s1_C (q k v d rt B0 B1 : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : ¬cond0_0 i) (hc1 : ¬cond0_1 i) (hc2 : cond0_2 i) (hc3 : cond0_3 i) :
    arg12.view.read (Elt Ideal) (arg12.view.writes (Elt Ideal) (harg12.unread (up S2304x256 .f32 B1)) (kernelRun0_C (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1)).2.2.2.2.1) = up S2304x256 .f32 (fun s w => B1 s w + if s < 256 * ((i 1).val + 1) then (rDv q k d rt (256 * (i 1).val) 16) s w else 0) := by
  have hq0 : View.readAt (Elt Ideal) arg2.view (Rect.unit (s := S256x256) ![0, 0] S256x128.size inb_S256x256_S256x128_0_0).toLoadRect (harg2.unread (up S256x256 .bf16 q)) = up S256x128 .bf16 (fun r l => q r (128 * p0 + l)) := by
    refine (load_bf _ _ _ (harg2.read_unread _) _ 0 0 rfl _).trans (up_congr fun r l _ _ => ?_)
    rw [hp0, Nat.zero_add, Nat.mul_zero]
  have hq1 : View.readAt (Elt Ideal) arg2.view (Rect.unit (s := S256x256) ![0, 128] S256x128.size inb_S256x256_S256x128_0_128).toLoadRect (harg2.unread (up S256x256 .bf16 q)) = up S256x128 .bf16 (fun r l => q r (128 * p1 + l)) := by
    refine (load_bf _ _ _ (harg2.read_unread _) _ 0 128 rfl _).trans (up_congr fun r l _ _ => ?_)
    rw [hp1, Nat.zero_add]
  have hd0 : View.readAt (Elt Ideal) arg5.view (Rect.unit (s := S256x256) ![0, 0] S256x128.size inb_S256x256_S256x128_0_0).toLoadRect (harg5.unread (up S256x256 .bf16 d)) = up S256x128 .bf16 (fun r l => d r (128 * p0 + l)) := by
    refine (load_bf _ _ _ (harg5.read_unread _) _ 0 0 rfl _).trans (up_congr fun r l _ _ => ?_)
    rw [hp0, Nat.zero_add, Nat.mul_zero]
  have hd1 : View.readAt (Elt Ideal) arg5.view (Rect.unit (s := S256x256) ![0, 128] S256x128.size inb_S256x256_S256x128_0_128).toLoadRect (harg5.unread (up S256x256 .bf16 d)) = up S256x128 .bf16 (fun r l => d r (128 * p1 + l)) := by
    refine (load_bf _ _ _ (harg5.read_unread _) _ 0 128 rfl _).trans (up_congr fun r l _ _ => ?_)
    rw [hp1, Nat.zero_add]
  have hr0 : View.readAt (Elt Ideal) arg6.view (Rect.unit (s := S4x256x1) ![0, 0, 0] S1x16x1.size inb_S4x256x1_S1x16x1_0_0_0).toLoadRect (harg6.unread (sums3 S4x256x1 rt)) = col S1x16x1 (rt (2 * p0)) := by
    rw [load_sums _ _ _ (harg6.read_unread _), hp0]
  have hr1 : View.readAt (Elt Ideal) arg6.view (Rect.unit (s := S4x256x1) ![1, 0, 0] S1x16x1.size inb_S4x256x1_S1x16x1_1_0_0).toLoadRect (harg6.unread (sums3 S4x256x1 rt)) = col S1x16x1 (rt (2 * p0 + 1)) := by
    rw [load_sums _ _ _ (harg6.read_unread _), hp0]
  have hr2 : View.readAt (Elt Ideal) arg6.view (Rect.unit (s := S4x256x1) ![2, 0, 0] S1x16x1.size inb_S4x256x1_S1x16x1_2_0_0).toLoadRect (harg6.unread (sums3 S4x256x1 rt)) = col S1x16x1 (rt (2 * p1)) := by
    rw [load_sums _ _ _ (harg6.read_unread _), hp1]
  have hr3 : View.readAt (Elt Ideal) arg6.view (Rect.unit (s := S4x256x1) ![3, 0, 0] S1x16x1.size inb_S4x256x1_S1x16x1_3_0_0).toLoadRect (harg6.unread (sums3 S4x256x1 rt)) = col S1x16x1 (rt (2 * p1 + 1)) := by
    rw [load_sums _ _ _ (harg6.read_unread _), hp1]
  have S := sweep3 q k v d rt B0 B1 p0 p1 hp0 hp1 Variants.none c none i arg2 harg2 arg3 harg3 arg4 harg4 arg5 harg5 arg6 harg6 (Memref.whole main_v27) (Memref.isWhole_whole _) arg8 harg8 arg9 harg9 arg10 harg10 arg11 harg11 arg12 harg12 (BitVec.ofNat 32 (i 1).val) (iota Kind.tc S256x256 32 [0] iota_S256x256_d0_w32) (iota Kind.tc S256x256 32 [1] iota_S256x256_d1_w32) hc2 (harg3.unread (up S2304x256 .bf16 k)) (harg4.unread (up S2304x256 .bf16 v)) (harg11.unread (up S2304x256 .f32 B0)) (harg12.unread (up S2304x256 .f32 B1)) (harg3.read_unread _) (harg4.read_unread _) (harg11.read_unread _) (harg12.read_unread _) (i 1).val (trips3 i).ge
  obtain ⟨S0, S1, S2⟩ := S
  have e0' := vec2_ext (off11_all i)
  have e1' := vec2_ext (off12_all i)
  have e0 : k0_off11 i = ![256 * (i 1).val, 128 * p0] := by rw [hp0]; exact e0'
  have e1 : k0_off12 i = ![256 * (i 1).val, 128 * p1] := by rw [hp1]; exact e1'
  obtain ⟨M, hmask, hM⟩ : ∃ M : ℕ → ℕ → Prop, k0_pay184 (iota .tc S256x256 32 [0] iota_S256x256_d0_w32) (iota .tc S256x256 32 [1] iota_S256x256_d1_w32) = msk S32x256 M ∧
      ∀ r < 2 * 16, ∀ c < 256, (M r c ↔ 256 * (i 1).val + c < 256 * (i 1).val + r % 16) :=
    ⟨_, mask184, fun r _ c _ => (Nat.add_lt_add_iff_left).symm⟩
  have hk0 : View.readAt (Elt Ideal) arg3.view (Rect.unit (s := S2304x256) (k0_off11 i) S256x128.size (k0_off11_inb i hc2)).toLoadRect (harg3.unread (up S2304x256 .bf16 k)) = up S256x128 .bf16 (fun r l => k (256 * (i 1).val + r) (128 * p0 + l)) :=
    load_bf _ _ _ (harg3.read_unread _) _ _ _ e0 _
  have hk1 : View.readAt (Elt Ideal) arg3.view (Rect.unit (s := S2304x256) (k0_off12 i) S256x128.size (k0_off12_inb i hc2)).toLoadRect (harg3.unread (up S2304x256 .bf16 k)) = up S256x128 .bf16 (fun r l => k (256 * (i 1).val + r) (128 * p1 + l)) :=
    load_bf _ _ _ (harg3.read_unread _) _ _ _ e1 _
  have hv0 : View.readAt (Elt Ideal) arg4.view (Rect.unit (s := S2304x256) (k0_off11 i) S256x128.size (k0_off11_inb i hc2)).toLoadRect (harg4.unread (up S2304x256 .bf16 v)) = up S256x128 .bf16 (fun r l => v (256 * (i 1).val + r) (128 * p0 + l)) :=
    load_bf _ _ _ (harg4.read_unread _) _ _ _ e0 _
  have hv1 : View.readAt (Elt Ideal) arg4.view (Rect.unit (s := S2304x256) (k0_off12 i) S256x128.size (k0_off12_inb i hc2)).toLoadRect (harg4.unread (up S2304x256 .bf16 v)) = up S256x128 .bf16 (fun r l => v (256 * (i 1).val + r) (128 * p1 + l)) :=
    load_bf _ _ _ (harg4.read_unread _) _ _ _ e1 _
  have hc := cyc16_zero q k v d rt (256 * (i 1).val) p0 p1
  unfold kernelRun0_C
  dsimp only
  sl_unfold_run_names
  simp only [hq0, hq1, hd0, hd1, hr0, hr1, hr2, hr3, stack225, stack226, stack228, stack229, stack185, stack186, stack187, stack188, lanes_msk, lanes_msk', tri_up, sums189 rt _ _ p0 rfl rfl, sums190 rt _ _ p1 rfl rfl, tripsE3, tripsE4, st4_zero, List.append_nil, List.nil_append, hc]
  simp only [S0]
  have hA0 := load_f arg11.view _ _ S1 _ _ _ e0' (k0_off11_inb i hc2)
  have hA1 := load_f arg11.view _ _ S1 _ _ _ e1' (k0_off12_inb i hc2)
  have hB0 := load_f arg12.view _ _ S2 _ _ _ e0' (k0_off11_inb i hc2)
  have hB1 := load_f arg12.view _ _ S2 _ _ _ e1' (k0_off12_inb i hc2)
  simp only [load_skip arg11.view _ _ _ _ _ _ e0' e1' (k0_off11_inb i hc2) (k0_off12_inb i hc2), load_skip arg12.view _ _ _ _ _ _ e0' e1' (k0_off11_inb i hc2) (k0_off12_inb i hc2), hA0, hA1, hB0, hB1, hk0, hk1, hv0, hv1]
  try rw [hmask]
  simp only [k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, shapeCast_self_up, constant_zero, nt32, nn32, tn32, cum64, ↓cc_def, cc64, lo64, hi64, last32, spread32, absf_up, constant_zero_apply, ofBits_one, broadcast_coe, bc_e, subf_up, mulf_up, exp_up, addf_up, divf_one_exp, log_div_exp, maximumf_up, softplus_eq, cmpf_oge_up, select_up, sgm_eq, truncf_up, fold_spm, fold_am, fold_g, fold_dzm]
  rw [writes_two]
  refine (store_two (e := .f32) arg12.view _ (fun s w => B1 s w + if s < 256 * (i 1).val then (rDv q k d rt (256 * (i 1).val) 16) s w else 0) (rDv q k d rt (256 * (i 1).val) 16) _ _ S2 _ _ (256 * (i 1).val) e0' e1' _ _ ?_ ?_).trans ?_
  · intro r l hr hl
    rw [dv_rows q k d rt (256 * (i 1).val) 16 p0 (256 * (i 1).val) M hM r l hr hl, hp0, Nat.mul_zero, Nat.zero_add]
  · intro r l hr hl
    rw [dv_rows q k d rt (256 * (i 1).val) 16 p1 (256 * (i 1).val) M hM r l hr hl, hp1, Nat.mul_one]
  · exact up_congr fun s w _ _ => inc_step _ _ _ _

theorem dq_C (q k v d rt B0 B1 : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : ¬cond0_0 i) (hc1 : ¬cond0_1 i) (hc2 : cond0_2 i) (hc3 : cond0_3 i) :
    out0_C_5 (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1) = up S256x256 .bf16 (fun r w => if r < 16 then rDq q k v d rt (256 * (i 1).val) (w / 64) r w ((256 * (i 1).val) + 256) * (1 / 8) else 0) := by
  have hq0 : View.readAt (Elt Ideal) arg2.view (Rect.unit (s := S256x256) ![0, 0] S256x128.size inb_S256x256_S256x128_0_0).toLoadRect (harg2.unread (up S256x256 .bf16 q)) = up S256x128 .bf16 (fun r l => q r (128 * p0 + l)) := by
    refine (load_bf _ _ _ (harg2.read_unread _) _ 0 0 rfl _).trans (up_congr fun r l _ _ => ?_)
    rw [hp0, Nat.zero_add, Nat.mul_zero]
  have hq1 : View.readAt (Elt Ideal) arg2.view (Rect.unit (s := S256x256) ![0, 128] S256x128.size inb_S256x256_S256x128_0_128).toLoadRect (harg2.unread (up S256x256 .bf16 q)) = up S256x128 .bf16 (fun r l => q r (128 * p1 + l)) := by
    refine (load_bf _ _ _ (harg2.read_unread _) _ 0 128 rfl _).trans (up_congr fun r l _ _ => ?_)
    rw [hp1, Nat.zero_add]
  have hd0 : View.readAt (Elt Ideal) arg5.view (Rect.unit (s := S256x256) ![0, 0] S256x128.size inb_S256x256_S256x128_0_0).toLoadRect (harg5.unread (up S256x256 .bf16 d)) = up S256x128 .bf16 (fun r l => d r (128 * p0 + l)) := by
    refine (load_bf _ _ _ (harg5.read_unread _) _ 0 0 rfl _).trans (up_congr fun r l _ _ => ?_)
    rw [hp0, Nat.zero_add, Nat.mul_zero]
  have hd1 : View.readAt (Elt Ideal) arg5.view (Rect.unit (s := S256x256) ![0, 128] S256x128.size inb_S256x256_S256x128_0_128).toLoadRect (harg5.unread (up S256x256 .bf16 d)) = up S256x128 .bf16 (fun r l => d r (128 * p1 + l)) := by
    refine (load_bf _ _ _ (harg5.read_unread _) _ 0 128 rfl _).trans (up_congr fun r l _ _ => ?_)
    rw [hp1, Nat.zero_add]
  have hr0 : View.readAt (Elt Ideal) arg6.view (Rect.unit (s := S4x256x1) ![0, 0, 0] S1x16x1.size inb_S4x256x1_S1x16x1_0_0_0).toLoadRect (harg6.unread (sums3 S4x256x1 rt)) = col S1x16x1 (rt (2 * p0)) := by
    rw [load_sums _ _ _ (harg6.read_unread _), hp0]
  have hr1 : View.readAt (Elt Ideal) arg6.view (Rect.unit (s := S4x256x1) ![1, 0, 0] S1x16x1.size inb_S4x256x1_S1x16x1_1_0_0).toLoadRect (harg6.unread (sums3 S4x256x1 rt)) = col S1x16x1 (rt (2 * p0 + 1)) := by
    rw [load_sums _ _ _ (harg6.read_unread _), hp0]
  have hr2 : View.readAt (Elt Ideal) arg6.view (Rect.unit (s := S4x256x1) ![2, 0, 0] S1x16x1.size inb_S4x256x1_S1x16x1_2_0_0).toLoadRect (harg6.unread (sums3 S4x256x1 rt)) = col S1x16x1 (rt (2 * p1)) := by
    rw [load_sums _ _ _ (harg6.read_unread _), hp1]
  have hr3 : View.readAt (Elt Ideal) arg6.view (Rect.unit (s := S4x256x1) ![3, 0, 0] S1x16x1.size inb_S4x256x1_S1x16x1_3_0_0).toLoadRect (harg6.unread (sums3 S4x256x1 rt)) = col S1x16x1 (rt (2 * p1 + 1)) := by
    rw [load_sums _ _ _ (harg6.read_unread _), hp1]
  have S := sweep3 q k v d rt B0 B1 p0 p1 hp0 hp1 Variants.none c none i arg2 harg2 arg3 harg3 arg4 harg4 arg5 harg5 arg6 harg6 (Memref.whole main_v27) (Memref.isWhole_whole _) arg8 harg8 arg9 harg9 arg10 harg10 arg11 harg11 arg12 harg12 (BitVec.ofNat 32 (i 1).val) (iota Kind.tc S256x256 32 [0] iota_S256x256_d0_w32) (iota Kind.tc S256x256 32 [1] iota_S256x256_d1_w32) hc2 (harg3.unread (up S2304x256 .bf16 k)) (harg4.unread (up S2304x256 .bf16 v)) (harg11.unread (up S2304x256 .f32 B0)) (harg12.unread (up S2304x256 .f32 B1)) (harg3.read_unread _) (harg4.read_unread _) (harg11.read_unread _) (harg12.read_unread _) (i 1).val (trips3 i).ge
  obtain ⟨S0, S1, S2⟩ := S
  have e0' := vec2_ext (off11_all i)
  have e1' := vec2_ext (off12_all i)
  have e0 : k0_off11 i = ![256 * (i 1).val, 128 * p0] := by rw [hp0]; exact e0'
  have e1 : k0_off12 i = ![256 * (i 1).val, 128 * p1] := by rw [hp1]; exact e1'
  obtain ⟨M, hmask, hM⟩ : ∃ M : ℕ → ℕ → Prop, k0_pay184 (iota .tc S256x256 32 [0] iota_S256x256_d0_w32) (iota .tc S256x256 32 [1] iota_S256x256_d1_w32) = msk S32x256 M ∧
      ∀ r < 2 * 16, ∀ c < 256, (M r c ↔ 256 * (i 1).val + c < 256 * (i 1).val + r % 16) :=
    ⟨_, mask184, fun r _ c _ => (Nat.add_lt_add_iff_left).symm⟩
  have hk0 : View.readAt (Elt Ideal) arg3.view (Rect.unit (s := S2304x256) (k0_off11 i) S256x128.size (k0_off11_inb i hc2)).toLoadRect (harg3.unread (up S2304x256 .bf16 k)) = up S256x128 .bf16 (fun r l => k (256 * (i 1).val + r) (128 * p0 + l)) :=
    load_bf _ _ _ (harg3.read_unread _) _ _ _ e0 _
  have hk1 : View.readAt (Elt Ideal) arg3.view (Rect.unit (s := S2304x256) (k0_off12 i) S256x128.size (k0_off12_inb i hc2)).toLoadRect (harg3.unread (up S2304x256 .bf16 k)) = up S256x128 .bf16 (fun r l => k (256 * (i 1).val + r) (128 * p1 + l)) :=
    load_bf _ _ _ (harg3.read_unread _) _ _ _ e1 _
  have hv0 : View.readAt (Elt Ideal) arg4.view (Rect.unit (s := S2304x256) (k0_off11 i) S256x128.size (k0_off11_inb i hc2)).toLoadRect (harg4.unread (up S2304x256 .bf16 v)) = up S256x128 .bf16 (fun r l => v (256 * (i 1).val + r) (128 * p0 + l)) :=
    load_bf _ _ _ (harg4.read_unread _) _ _ _ e0 _
  have hv1 : View.readAt (Elt Ideal) arg4.view (Rect.unit (s := S2304x256) (k0_off12 i) S256x128.size (k0_off12_inb i hc2)).toLoadRect (harg4.unread (up S2304x256 .bf16 v)) = up S256x128 .bf16 (fun r l => v (256 * (i 1).val + r) (128 * p1 + l)) :=
    load_bf _ _ _ (harg4.read_unread _) _ _ _ e1 _
  have hc := cyc16_zero q k v d rt (256 * (i 1).val) p0 p1
  unfold out0_C_5 kernelRun0_C
  dsimp only
  sl_unfold_run_names
  simp only [hq0, hq1, hd0, hd1, hr0, hr1, hr2, hr3, stack225, stack226, stack228, stack229, stack185, stack186, stack187, stack188, lanes_msk, lanes_msk', tri_up, sums189 rt _ _ p0 rfl rfl, sums190 rt _ _ p1 rfl rfl, tripsE3, tripsE4, st4_zero, List.append_nil, List.nil_append, hc]
  simp only [S0]
  have hA0 := load_f arg11.view _ _ S1 _ _ _ e0' (k0_off11_inb i hc2)
  have hA1 := load_f arg11.view _ _ S1 _ _ _ e1' (k0_off12_inb i hc2)
  have hB0 := load_f arg12.view _ _ S2 _ _ _ e0' (k0_off11_inb i hc2)
  have hB1 := load_f arg12.view _ _ S2 _ _ _ e1' (k0_off12_inb i hc2)
  simp only [load_skip arg11.view _ _ _ _ _ _ e0' e1' (k0_off11_inb i hc2) (k0_off12_inb i hc2), load_skip arg12.view _ _ _ _ _ _ e0' e1' (k0_off11_inb i hc2) (k0_off12_inb i hc2), hA0, hA1, hB0, hB1, hk0, hk1, hv0, hv1]
  try rw [hmask]
  simp only [k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, shapeCast_self_up, constant_zero, nt32, nn32, tn32, cum64, ↓cc_def, cc64, lo64, hi64, last32, spread32, absf_up, constant_zero_apply, ofBits_one, broadcast_coe, bc_e, subf_up, mulf_up, exp_up, addf_up, divf_one_exp, log_div_exp, maximumf_up, softplus_eq, cmpf_oge_up, select_up, sgm_eq, truncf_up, fold_spm, fold_am, fold_g, fold_dzm]
  have g0 := up_congr (a := 32) (b := 128) (φ := .f32) fun r l hr hl => dq_rows q k v d rt (256 * (i 1).val) 16 p0 (256 * (i 1).val) M hM r l hr
  have g1 := up_congr (a := 32) (b := 128) (φ := .f32) fun r l hr hl => dq_rows q k v d rt (256 * (i 1).val) 16 p1 (256 * (i 1).val) M hM r l hr
  simp only [g0, g1, zero3, zero5]
  rw [out2 (fun h r l => rDq q k v d rt (256 * (i 1).val) (2 * p0 + h) r (128 * p0 + l) ((256 * (i 1).val) + 256)), out4 (fun h r l => rDq q k v d rt (256 * (i 1).val) (2 * p1 + h) r (128 * p1 + l) ((256 * (i 1).val) + 256))]
  refine fill_four VO0_5 _ _ _ (fun r w => rDq q k v d rt (256 * (i 1).val) (w / 64) r w ((256 * (i 1).val) + 256) * (1 / 8)) _ _ _ _ ?_ ?_
  · intro r l hr hl
    dsimp only
    simp only [hp0, Nat.mul_zero, Nat.zero_add]
  · intro r l hr hl
    dsimp only
    simp only [hp1, Nat.mul_one, show (128 + l) / 64 = 2 + l / 64 by omega]

end Cert.Att
end
-- ==== Proof.PointD.lean ====
module

public import proofs.«01_k».proof.Proof.PointC

/- What the last point of a head pair writes out: the sums of the key blocks. -/
@[expose] public section
set_option maxRecDepth 16384
noncomputable section
namespace Cert.Att
open Cert.KernelIdeal Cert.KernelIdeal.Gen Idealize.ShloMosaic Idealize.ShloMosaic.TcCoe Idealize.SL.Sem
open scoped Classical

theorem o6_C (q k v d rt B0 B1 : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : ¬cond0_0 i) (hc1 : ¬cond0_1 i) (hc2 : cond0_2 i) (hc3 : cond0_3 i) :
    out0_C_6 (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1) = up S2304x256 .bf16 (fun s w => B0 s w + if s < 256 * ((i 1).val + 1) then (rDk q k v d rt (256 * (i 1).val) 16) s w else 0) := by
  have hs := s0_C q k v d rt B0 B1 p0 p1 hp0 hp1 c i arg2 harg2 arg3 harg3 arg4 harg4 arg5 harg5 arg6 harg6 arg8 harg8 arg9 harg9 arg10 harg10 arg11 harg11 arg12 harg12 hc0 hc1 hc2 hc3
  have hl := load_f arg11.view _ _ hs ![0, 0] 0 0 rfl inb_S2304x256_S2304x256_0_0
  have hL : (kernelRun0_C (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1)).2.1 = [⟨Rect.unit (s := S2304x256) ![0, 0] ![2304, 256] inb_S2304x256_S2304x256_0_0, k0_pay6 (View.readAt (Elt Ideal) arg11.view (Rect.unit (s := S2304x256) ![0, 0] ![2304, 256] inb_S2304x256_S2304x256_0_0).toLoadRect (arg11.view.writes (Elt Ideal) (harg11.unread (up S2304x256 .f32 B0)) (kernelRun0_C (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1)).2.2.2.1))⟩] := by
    unfold kernelRun0_C
    dsimp only
    sl_unfold_run_names
    rfl
  unfold out0_C_6
  rw [hL, hl]
  unfold k0_pay6
  simp only [truncf_up]
  refine (whole_bf VO0_6 _ _ _).trans (up_congr fun r l _ _ => ?_)
  rw [Nat.zero_add, Nat.zero_add]

theorem o7_C (q k v d rt B0 B1 : ℕ → ℕ → ℝ) (p0 p1 : ℕ) (hp0 : p0 = 0) (hp1 : p1 = 1) (c : Dev nD) (i : grid0.Coords) (arg2 : Memref sig .tc .vmem S256x256 .bf16) (harg2 : arg2.IsWhole) (arg3 : Memref sig .tc .vmem S2304x256 .bf16) (harg3 : arg3.IsWhole) (arg4 : Memref sig .tc .vmem S2304x256 .bf16) (harg4 : arg4.IsWhole) (arg5 : Memref sig .tc .vmem S256x256 .bf16) (harg5 : arg5.IsWhole) (arg6 : Memref sig .tc .vmem S4x256x1 .f32) (harg6 : arg6.IsWhole) (arg8 : Memref sig .tc .vmem S256x256 .bf16) (harg8 : arg8.IsWhole) (arg9 : Memref sig .tc .vmem S2304x256 .bf16) (harg9 : arg9.IsWhole) (arg10 : Memref sig .tc .vmem S2304x256 .bf16) (harg10 : arg10.IsWhole) (arg11 : Memref sig .tc .vmem S2304x256 .f32) (harg11 : arg11.IsWhole) (arg12 : Memref sig .tc .vmem S2304x256 .f32) (harg12 : arg12.IsWhole) (hc0 : ¬cond0_0 i) (hc1 : ¬cond0_1 i) (hc2 : cond0_2 i) (hc3 : cond0_3 i) :
    out0_C_7 (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1) = up S2304x256 .bf16 (fun s w => B1 s w + if s < 256 * ((i 1).val + 1) then (rDv q k d rt (256 * (i 1).val) 16) s w else 0) := by
  have hs := s1_C q k v d rt B0 B1 p0 p1 hp0 hp1 c i arg2 harg2 arg3 harg3 arg4 harg4 arg5 harg5 arg6 harg6 arg8 harg8 arg9 harg9 arg10 harg10 arg11 harg11 arg12 harg12 hc0 hc1 hc2 hc3
  have hl := load_f arg12.view _ _ hs ![0, 0] 0 0 rfl inb_S2304x256_S2304x256_0_0
  have hL : (kernelRun0_C (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1)).2.2.1 = [⟨Rect.unit (s := S2304x256) ![0, 0] ![2304, 256] inb_S2304x256_S2304x256_0_0, k0_pay7 (View.readAt (Elt Ideal) arg12.view (Rect.unit (s := S2304x256) ![0, 0] ![2304, 256] inb_S2304x256_S2304x256_0_0).toLoadRect (arg12.view.writes (Elt Ideal) (harg12.unread (up S2304x256 .f32 B1)) (kernelRun0_C (F := Ideal) c i arg2 harg2 arg3 harg3 arg4 harg4 arg5 harg5 arg6 harg6 arg8 harg8 arg9 harg9 arg10 harg10 arg11 harg11 arg12 harg12 hc0 hc1 hc2 hc3 (up S256x256 .bf16 q) (up S2304x256 .bf16 k) (up S2304x256 .bf16 v) (up S256x256 .bf16 d) (sums3 S4x256x1 rt) (up S2304x256 .f32 B0) (up S2304x256 .f32 B1)).2.2.2.2.1))⟩] := by
    unfold kernelRun0_C
    dsimp only
    sl_unfold_run_names
    rfl
  unfold out0_C_7
  rw [hL, hl]
  unfold k0_pay7
  simp only [truncf_up]
  refine (whole_bf VO0_7 _ _ _).trans (up_congr fun r l _ _ => ?_)
  rw [Nat.zero_add, Nat.zero_add]

end Cert.Att
end
-- ==== Proof.Fold.lean ====
module

public import proofs.«01_k».proof.Proof.Blocks
public import proofs.«01_k».proof.Proof.PointA
public import proofs.«01_k».proof.Proof.PointB
public import proofs.«01_k».proof.Proof.PointD
public import Idealize.ShloMosaic.Lib.Pipeline.ValueKit

/- The grid: the blocks each point reads, and the sums carried from point to point. -/
@[expose] public section
set_option maxRecDepth 16384
noncomputable section
namespace Cert.Att
open Cert.KernelIdeal Cert.KernelIdeal.Gen Idealize.ShloMosaic Idealize.ShloMosaic.TcCoe Idealize.ShloMosaic.Pipeline Idealize.SL.Sem
open scoped Classical

theorem co_0 : ∀ t : Fin cfg0.N, ((grid0.coords t) 1).val = t.val % 9 := by decide +kernel
theorem ix_q : ∀ t : Fin cfg0.N, win0_0.index t = ![t.val % 9, t.val / 9] := by decide +kernel
theorem ix_k : ∀ t : Fin cfg0.N, win0_1.index t = ![0, t.val / 9] := by decide +kernel
theorem ix_v : ∀ t : Fin cfg0.N, win0_2.index t = ![0, t.val / 9] := by decide +kernel
theorem ix_d : ∀ t : Fin cfg0.N, win0_3.index t = ![t.val % 9, t.val / 9] := by decide +kernel
theorem ix_s : ∀ t : Fin cfg0.N, win0_4.index t = ![t.val / 9, t.val % 9, 0] := by decide +kernel
theorem ix_5 : ∀ t : Fin cfg0.N, win0_5.index t = ![t.val % 9, t.val / 9] := by decide +kernel
theorem ix_6 : ∀ t : Fin cfg0.N, win0_6.index t = ![0, t.val / 9] := by decide +kernel
theorem ix_7 : ∀ t : Fin cfg0.N, win0_7.index t = ![0, t.val / 9] := by decide +kernel

section
variable (m : (ℓ : Loc nD τ sig) → Buf (Elt Ideal) ℓ) (c : Dev nD) (q k v d rt : ℕ → ℕ → ℝ)
  (hq : V m c main_v20 = up S2304x1024 .bf16 q) (hk : V m c main_v22 = up S2304x1024 .bf16 k)
  (hv : V m c main_v24 = up S2304x1024 .bf16 v) (hd : V m c main_v26 = up S2304x1024 .bf16 d)
  (hs : V m c main_v16 = sums3 S16x2304x1 rt)

include hq in
theorem iblk_q (t : Fin cfg0.N) : iblk m c 0 t = up S256x256 .bf16 (blk q (256 * (t.val % 9)) (t.val / 9)) := by
  funext y
  blk_simp [iblk, ix_q]
  rw [hq]
  refine congrArg Real.toEReal ?_
  show q ((((cfg0.win 0).blk t).view.emb y) 0).val ((((cfg0.win 0).blk t).view.emb y) 1).val = blk q (256 * (t.val % 9)) (t.val / 9) (y 0).val (y 1).val
  blk_simp [ix_q]
  unfold blk
  congr 1
  all_goals (simp; try omega)

include hk in
theorem iblk_k (t : Fin cfg0.N) : iblk m c 1 t = up S2304x256 .bf16 (blk k 0 (t.val / 9)) := by
  funext y
  blk_simp [iblk, ix_k]
  rw [hk]
  refine congrArg Real.toEReal ?_
  show k ((((cfg0.win 1).blk t).view.emb y) 0).val ((((cfg0.win 1).blk t).view.emb y) 1).val = blk k 0 (t.val / 9) (y 0).val (y 1).val
  blk_simp [ix_k]
  unfold blk
  congr 1
  all_goals (simp; try omega)

include hv in
theorem iblk_v (t : Fin cfg0.N) : iblk m c 2 t = up S2304x256 .bf16 (blk v 0 (t.val / 9)) := by
  funext y
  blk_simp [iblk, ix_v]
  rw [hv]
  refine congrArg Real.toEReal ?_
  show v ((((cfg0.win 2).blk t).view.emb y) 0).val ((((cfg0.win 2).blk t).view.emb y) 1).val = blk v 0 (t.val / 9) (y 0).val (y 1).val
  blk_simp [ix_v]
  unfold blk
  congr 1
  all_goals (simp; try omega)

include hd in
theorem iblk_d (t : Fin cfg0.N) : iblk m c 3 t = up S256x256 .bf16 (blk d (256 * (t.val % 9)) (t.val / 9)) := by
  funext y
  blk_simp [iblk, ix_d]
  rw [hd]
  refine congrArg Real.toEReal ?_
  show d ((((cfg0.win 3).blk t).view.emb y) 0).val ((((cfg0.win 3).blk t).view.emb y) 1).val = blk d (256 * (t.val % 9)) (t.val / 9) (y 0).val (y 1).val
  blk_simp [ix_d]
  unfold blk
  congr 1
  all_goals (simp; try omega)

include hs in
theorem iblk_s (t : Fin cfg0.N) : iblk m c 4 t = sums3 S4x256x1 (blkS rt (256 * (t.val % 9)) (t.val / 9)) := by
  funext y
  blk_simp [iblk, ix_s]
  rw [hs]
  refine congrArg Real.toEReal ?_
  show rt ((((cfg0.win 4).blk t).view.emb y) 0).val ((((cfg0.win 4).blk t).view.emb y) 1).val = blkS rt (256 * (t.val % 9)) (t.val / 9) (y 0).val (y 1).val
  blk_simp [ix_s]
  unfold blkS
  congr 1
  all_goals (simp; try omega)

/-- The blocks of the gradient of the keys, and of the values, after `n + 1` points. -/
def aK (n s w : ℕ) : ℝ := ∑ i ∈ Finset.range (n % 9 + 1), cK q k v d rt (n / 9) i s w
def aV (n s w : ℕ) : ℝ := ∑ i ∈ Finset.range (n % 9 + 1), cV q k d rt (n / 9) i s w

theorem aK_start (n s w : ℕ) (h : n % 9 = 0) : 0 + cK q k v d rt (n / 9) (n % 9) s w = aK q k v d rt n s w := by
  unfold aK
  rw [h, Finset.sum_range_succ, Finset.sum_range_zero]
theorem aV_start (n s w : ℕ) (h : n % 9 = 0) : 0 + cV q k d rt (n / 9) (n % 9) s w = aV q k d rt n s w := by
  unfold aV
  rw [h, Finset.sum_range_succ, Finset.sum_range_zero]
theorem aK_next (n s w : ℕ) (h : ¬n % 9 = 0) : aK q k v d rt (n - 1) s w + cK q k v d rt (n / 9) (n % 9) s w = aK q k v d rt n s w := by
  unfold aK
  rw [show (n - 1) % 9 + 1 = n % 9 by omega, show (n - 1) / 9 = n / 9 by omega, Finset.sum_range_succ]
theorem aV_next (n s w : ℕ) (h : ¬n % 9 = 0) : aV q k d rt (n - 1) s w + cV q k d rt (n / 9) (n % 9) s w = aV q k d rt n s w := by
  unfold aV
  rw [show (n - 1) % 9 + 1 = n % 9 by omega, show (n - 1) / 9 = n / 9 by omega, Finset.sum_range_succ]

include hq hk hv hd hs in
theorem stepA_K (n : ℕ) (hn : n < cfg0.N) (h0 : n % 9 = 0) (h1 : n % 9 ≤ 7) (h2 : ¬n % 9 = 8) (h3 : ¬n % 9 = 8) :
    (outsAt0 m c n hn).2.2.2.1 = up S2304x256 .f32 (aK q k v d rt n) := by
  rw [outsAt0_A m c ⟨n, hn⟩ h0 h1 h2 h3]
  dsimp only
  rw [iblk_q m c q hq, iblk_k m c k hk, iblk_v m c v hv, iblk_d m c d hd, iblk_s m c rt hs]
  refine (View.read_writes_of_cover _ _ _ _ _ (scover0_A_0 c _ _ _ _ _ _ _ _ _ _ _ _ _ _ _ _ _ _ _ _ _ _ _ _ _ _ _ _ _ _)).symm.trans ((s0_A _ _ _ _ _ 0 1 rfl rfl c _ _ _ _ _ _ _ _ _ _ _ _ _ _ _ _ _ _ _ _ _ _ _ _ _).trans ?_)
  refine up_congr fun s w _ _ => ?_
  have e : ((grid0.coords ⟨n, hn⟩) 1).val = n % 9 := co_0 ⟨n, hn⟩
  rw [e, ← aK_start q k v d rt n s w h0, cK, show bR (n % 9) = 256 from if_neg h2]

include hq hk hv hd hs in
theorem stepA_V (n : ℕ) (hn : n < cfg0.N) (h0 : n % 9 = 0) (h1 : n % 9 ≤ 7) (h2 : ¬n % 9 = 8) (h3 : ¬n % 9 = 8) :
    (outsAt0 m c n hn).2.2.2.2 = up S2304x256 .f32 (aV q k d rt n) := by
  rw [outsAt0_A m c ⟨n, hn⟩ h0 h1 h2 h3]
  dsimp only
  rw [iblk_q m c q hq, iblk_k m c k hk, iblk_v m c v hv, iblk_d m c d hd, iblk_s m c rt hs]
  refine (View.read_writes_of_cover _ _ _ _ _ (scover0_A_1 c _ _ _ _ _ _ _ _ _ _ _ _ _ _ _ _ _ _ _ _ _ _ _ _ _ _ _ _ _ _)).symm.trans ((s1_A _ _ _ _ _ 0 1 rfl rfl c _ _ _ _ _ _ _ _ _ _ _ _ _ _ _ _ _ _ _ _ _ _ _ _ _).trans ?_)
  refine up_congr fun s w _ _ => ?_
  have e : ((grid0.coords ⟨n, hn⟩) 1).val = n % 9 := co_0 ⟨n, hn⟩
  rw [e, ← aV_start q k d rt n s w h0, cV, show bR (n % 9) = 256 from if_neg h2]

include hq hk hv hd hs in
theorem stepB_K (n : ℕ) (hn : n < cfg0.N) (h0 : ¬n % 9 = 0) (h1 : n % 9 ≤ 7) (h2 : ¬n % 9 = 8) (h3 : ¬n % 9 = 8)
  (hp0 : (outsAt0 m c (n - 1) (Nat.lt_of_le_of_lt (Nat.sub_le _ _) hn)).2.2.2.1 = up S2304x256 .f32 (aK q k v d rt (n - 1)))
  (hp1 : (outsAt0 m c (n - 1) (Nat.lt_of_le_of_lt (Nat.sub_le _ _) hn)).2.2.2.2 = up S2304x256 .f32 (aV q k d rt (n - 1))) :
    (outsAt0 m c n hn).2.2.2.1 = up S2304x256 .f32 (aK q k v d rt n) := by
  rw [outsAt0_B m c ⟨n, hn⟩ h0 h1 h2 h3]
  dsimp only
  rw [iblk_q m c q hq, iblk_k m c k hk, iblk_v m c v hv, iblk_d m c d hd, iblk_s m c rt hs, hp0, hp1]
  refine (s0_B _ _ _ _ _ _ _ 0 1 rfl rfl c _ _ _ _ _ _ _ _ _ _ _ _ _ _ _ _ _ _ _ _ _ _ _ _ _).trans ?_
  refine up_congr fun s w _ _ => ?_
  have e : ((grid0.coords ⟨n, hn⟩) 1).val = n % 9 := co_0 ⟨n, hn⟩
  rw [e, ← aK_next q k v d rt n s w h0, cK, show bR (n % 9) = 256 from if_neg h2]

include hq hk hv hd hs in
theorem stepB_V (n : ℕ) (hn : n < cfg0.N) (h0 : ¬n % 9 = 0) (h1 : n % 9 ≤ 7) (h2 : ¬n % 9 = 8) (h3 : ¬n % 9 = 8)
  (hp0 : (outsAt0 m c (n - 1) (Nat.lt_of_le_of_lt (Nat.sub_le _ _) hn)).2.2.2.1 = up S2304x256 .f32 (aK q k v d rt (n - 1)))
  (hp1 : (outsAt0 m c (n - 1) (Nat.lt_of_le_of_lt (Nat.sub_le _ _) hn)).2.2.2.2 = up S2304x256 .f32 (aV q k d rt (n - 1))) :
    (outsAt0 m c n hn).2.2.2.2 = up S2304x256 .f32 (aV q k d rt n) := by
  rw [outsAt0_B m c ⟨n, hn⟩ h0 h1 h2 h3]
  dsimp only
  rw [iblk_q m c q hq, iblk_k m c k hk, iblk_v m c v hv, iblk_d m c d hd, iblk_s m c rt hs, hp0, hp1]
  refine (s1_B _ _ _ _ _ _ _ 0 1 rfl rfl c _ _ _ _ _ _ _ _ _ _ _ _ _ _ _ _ _ _ _ _ _ _ _ _ _).trans ?_
  refine up_congr fun s w _ _ => ?_
  have e : ((grid0.coords ⟨n, hn⟩) 1).val = n % 9 := co_0 ⟨n, hn⟩
  rw [e, ← aV_next q k d rt n s w h0, cV, show bR (n % 9) = 256 from if_neg h2]

include hq hk hv hd hs in
theorem stepC_K (n : ℕ) (hn : n < cfg0.N) (h0 : ¬n % 9 = 0) (h1 : ¬n % 9 ≤ 7) (h2 : n % 9 = 8) (h3 : n % 9 = 8)
  (hp0 : (outsAt0 m c (n - 1) (Nat.lt_of_le_of_lt (Nat.sub_le _ _) hn)).2.2.2.1 = up S2304x256 .f32 (aK q k v d rt (n - 1)))
  (hp1 : (outsAt0 m c (n - 1) (Nat.lt_of_le_of_lt (Nat.sub_le _ _) hn)).2.2.2.2 = up S2304x256 .f32 (aV q k d rt (n - 1))) :
    (outsAt0 m c n hn).2.2.2.1 = up S2304x256 .f32 (aK q k v d rt n) := by
  rw [outsAt0_C m c ⟨n, hn⟩ h0 h1 h2 h3]
  dsimp only
  rw [iblk_q m c q hq, iblk_k m c k hk, iblk_v m c v hv, iblk_d m c d hd, iblk_s m c rt hs, hp0, hp1]
  refine (s0_C _ _ _ _ _ _ _ 0 1 rfl rfl c _ _ _ _ _ _ _ _ _ _ _ _ _ _ _ _ _ _ _ _ _ _ _ _ _).trans ?_
  refine up_congr fun s w _ _ => ?_
  have e : ((grid0.coords ⟨n, hn⟩) 1).val = n % 9 := co_0 ⟨n, hn⟩
  rw [e, ← aK_next q k v d rt n s w h0, cK, show bR (n % 9) = 16 from if_pos h2]

include hq hk hv hd hs in
theorem stepC_V (n : ℕ) (hn : n < cfg0.N) (h0 : ¬n % 9 = 0) (h1 : ¬n % 9 ≤ 7) (h2 : n % 9 = 8) (h3 : n % 9 = 8)
  (hp0 : (outsAt0 m c (n - 1) (Nat.lt_of_le_of_lt (Nat.sub_le _ _) hn)).2.2.2.1 = up S2304x256 .f32 (aK q k v d rt (n - 1)))
  (hp1 : (outsAt0 m c (n - 1) (Nat.lt_of_le_of_lt (Nat.sub_le _ _) hn)).2.2.2.2 = up S2304x256 .f32 (aV q k d rt (n - 1))) :
    (outsAt0 m c n hn).2.2.2.2 = up S2304x256 .f32 (aV q k d rt n) := by
  rw [outsAt0_C m c ⟨n, hn⟩ h0 h1 h2 h3]
  dsimp only
  rw [iblk_q m c q hq, iblk_k m c k hk, iblk_v m c v hv, iblk_d m c d hd, iblk_s m c rt hs, hp0, hp1]
  refine (s1_C _ _ _ _ _ _ _ 0 1 rfl rfl c _ _ _ _ _ _ _ _ _ _ _ _ _ _ _ _ _ _ _ _ _ _ _ _ _).trans ?_
  refine up_congr fun s w _ _ => ?_
  have e : ((grid0.coords ⟨n, hn⟩) 1).val = n % 9 := co_0 ⟨n, hn⟩
  rw [e, ← aV_next q k d rt n s w h0, cV, show bR (n % 9) = 16 from if_pos h2]
end
end Cert.Att
end
-- ==== Proof.Carry.lean ====
module

public import proofs.«01_k».proof.Proof.Fold

/- What the two carried buffers hold after each point, and what the three results hold. -/
@[expose] public section
set_option maxRecDepth 16384
noncomputable section
namespace Cert.Att
open Cert.KernelIdeal Cert.KernelIdeal.Gen Idealize.ShloMosaic Idealize.ShloMosaic.TcCoe Idealize.ShloMosaic.Pipeline Idealize.SL.Sem
open scoped Classical

theorem dqRow (q k v d rt : ℕ → ℕ → ℝ) (b h r w : ℕ) (hr : r < 256) (hb : b + r < 2064) :
    rDq (blk q b h) (blk k 0 h) (blk v 0 h) (blk d b h) (blkS rt b h) b (w / 64) r w (b + 256) * (1 / 8) = if b + r < 2064 then rDq q k v d rt 0 ((256 * h + w) / 64) (b + r) (256 * h + w) 2064 * (1 / 8) else 0 := by
  rw [if_pos hb, rDq_blk q k v d rt b h r w (b + 256) (by omega) (by omega)]

theorem flush_6 : ∀ t : Fin cfg0.N, (cfg0.win 6).flush t = true → t.val % 9 = 8 := by decide +kernel
theorem flush_7 : ∀ t : Fin cfg0.N, (cfg0.win 7).flush t = true → t.val % 9 = 8 := by decide +kernel

section
variable (m : (ℓ : Loc nD τ sig) → Buf (Elt Ideal) ℓ) (c : Dev nD) (q k v d rt : ℕ → ℕ → ℝ)
  (hq : V m c main_v20 = up S2304x1024 .bf16 q) (hk : V m c main_v22 = up S2304x1024 .bf16 k)
  (hv : V m c main_v24 = up S2304x1024 .bf16 v) (hd : V m c main_v26 = up S2304x1024 .bf16 d)
  (hs : V m c main_v16 = sums3 S16x2304x1 rt)

include hq hk hv hd hs in
theorem carried : ∀ (n : ℕ) (hn : n < cfg0.N),
    (outsAt0 m c n hn).2.2.2.1 = up S2304x256 .f32 (aK q k v d rt n) ∧ (outsAt0 m c n hn).2.2.2.2 = up S2304x256 .f32 (aV q k d rt n) := by
  intro n
  induction n with
  | zero =>
    intro hn
    exact ⟨stepA_K m c q k v d rt hq hk hv hd hs 0 hn (by omega) (by omega) (by omega) (by omega), stepA_V m c q k v d rt hq hk hv hd hs 0 hn (by omega) (by omega) (by omega) (by omega)⟩
  | succ n ih =>
    intro hn
    obtain ⟨i0, i1⟩ := ih (by omega)
    by_cases h0 : (n + 1) % 9 = 0
    · exact ⟨stepA_K m c q k v d rt hq hk hv hd hs _ hn h0 (by omega) (by omega) (by omega), stepA_V m c q k v d rt hq hk hv hd hs _ hn h0 (by omega) (by omega) (by omega)⟩
    · by_cases h2 : (n + 1) % 9 = 8
      · exact ⟨stepC_K m c q k v d rt hq hk hv hd hs _ hn h0 (by omega) h2 h2 i0 i1, stepC_V m c q k v d rt hq hk hv hd hs _ hn h0 (by omega) h2 h2 i0 i1⟩
      · exact ⟨stepB_K m c q k v d rt hq hk hv hd hs _ hn h0 (by omega) h2 h2 i0 i1, stepB_V m c q k v d rt hq hk hv hd hs _ hn h0 (by omega) h2 h2 i0 i1⟩

/-- The block of the gradient of the queries a point leaves. -/
def bQ (n r w : ℕ) : ℝ :=
  if 256 * (n % 9) + r < 2064 then rDq q k v d rt 0 ((256 * (n / 9) + w) / 64) (256 * (n % 9) + r) (256 * (n / 9) + w) 2064 * (1 / 8) else 0

include hq hk hv hd hs in
theorem outA (n : ℕ) (hn : n < cfg0.N) (h0 : n % 9 = 0) (h1 : n % 9 ≤ 7) (h2 : ¬n % 9 = 8) (h3 : ¬n % 9 = 8) :
    (outsAt0 m c n hn).1 = up S256x256 .bf16 (bQ q k v d rt n) := by
  rw [outsAt0_A m c ⟨n, hn⟩ h0 h1 h2 h3]
  dsimp only
  rw [iblk_q m c q hq, iblk_k m c k hk, iblk_v m c v hv, iblk_d m c d hd, iblk_s m c rt hs]
  refine (dq_A _ _ _ _ _ 0 1 rfl rfl c _ _ _ _ _ _ _ _ _ _ _ _ _ _ _ _ _ _ _ _ _ _ _ _ _).trans ?_
  refine up_congr fun r w hr _ => ?_
  have e : ((grid0.coords ⟨n, hn⟩) 1).val = n % 9 := co_0 ⟨n, hn⟩
  rw [e]
  exact dqRow q k v d rt (256 * (n % 9)) (n / 9) r w (by exact hr) (by have : r < 256 := hr; omega)

include hq hk hv hd hs in
theorem outB (n : ℕ) (hn : n < cfg0.N) (h0 : ¬n % 9 = 0) (h1 : n % 9 ≤ 7) (h2 : ¬n % 9 = 8) (h3 : ¬n % 9 = 8) :
    (outsAt0 m c n hn).1 = up S256x256 .bf16 (bQ q k v d rt n) := by
  have hp := carried m c q k v d rt hq hk hv hd hs (n - 1) (Nat.lt_of_le_of_lt (Nat.sub_le _ _) hn)
  rw [outsAt0_B m c ⟨n, hn⟩ h0 h1 h2 h3]
  dsimp only
  rw [iblk_q m c q hq, iblk_k m c k hk, iblk_v m c v hv, iblk_d m c d hd, iblk_s m c rt hs, hp.1, hp.2]
  refine (dq_B _ _ _ _ _ _ _ 0 1 rfl rfl c _ _ _ _ _ _ _ _ _ _ _ _ _ _ _ _ _ _ _ _ _ _ _ _ _).trans ?_
  refine up_congr fun r w hr _ => ?_
  have e : ((grid0.coords ⟨n, hn⟩) 1).val = n % 9 := co_0 ⟨n, hn⟩
  rw [e]
  exact dqRow q k v d rt (256 * (n % 9)) (n / 9) r w (by exact hr) (by have : r < 256 := hr; omega)

include hq hk hv hd hs in
theorem outC (n : ℕ) (hn : n < cfg0.N) (h0 : ¬n % 9 = 0) (h1 : ¬n % 9 ≤ 7) (h2 : n % 9 = 8) (h3 : n % 9 = 8) :
    (outsAt0 m c n hn).1 = up S256x256 .bf16 (bQ q k v d rt n) := by
  have hp := carried m c q k v d rt hq hk hv hd hs (n - 1) (Nat.lt_of_le_of_lt (Nat.sub_le _ _) hn)
  rw [outsAt0_C m c ⟨n, hn⟩ h0 h1 h2 h3]
  dsimp only
  rw [iblk_q m c q hq, iblk_k m c k hk, iblk_v m c v hv, iblk_d m c d hd, iblk_s m c rt hs, hp.1, hp.2]
  refine (dq_C _ _ _ _ _ _ _ 0 1 rfl rfl c _ _ _ _ _ _ _ _ _ _ _ _ _ _ _ _ _ _ _ _ _ _ _ _ _).trans ?_
  refine up_congr fun r w hr _ => ?_
  have e : ((grid0.coords ⟨n, hn⟩) 1).val = n % 9 := co_0 ⟨n, hn⟩
  rw [e]
  by_cases hc : r < 16
  · rw [if_pos hc]
    exact dqRow q k v d rt (256 * (n % 9)) (n / 9) r w (by exact hr) (by omega)
  · rw [if_neg hc, bQ, if_neg (by omega)]

include hq hk hv hd hs in
theorem outQ (t : Fin cfg0.N) : (outsAt0 m c t.val t.isLt).1 = up S256x256 .bf16 (bQ q k v d rt t.val) := by
  by_cases h0 : t.val % 9 = 0
  · exact outA m c q k v d rt hq hk hv hd hs _ t.isLt h0 (by omega) (by omega) (by omega)
  · by_cases h2 : t.val % 9 = 8
    · exact outC m c q k v d rt hq hk hv hd hs _ t.isLt h0 (by omega) h2 h2
    · exact outB m c q k v d rt hq hk hv hd hs _ t.isLt h0 (by omega) h2 h2

include hq hk hv hd hs in
theorem outK (n : ℕ) (hn : n < cfg0.N) (h2 : n % 9 = 8) :
    (outsAt0 m c n hn).2.1 = up S2304x256 .bf16 (fun s w => rDk q k v d rt 0 2064 s (256 * (n / 9) + w)) := by
  have h0 : ¬n % 9 = 0 := by omega
  have hp := carried m c q k v d rt hq hk hv hd hs (n - 1) (Nat.lt_of_le_of_lt (Nat.sub_le _ _) hn)
  rw [outsAt0_C m c ⟨n, hn⟩ h0 (show ¬n % 9 ≤ 7 by omega) h2 h2]
  dsimp only
  rw [iblk_q m c q hq, iblk_k m c k hk, iblk_v m c v hv, iblk_d m c d hd, iblk_s m c rt hs, hp.1, hp.2]
  refine (o6_C _ _ _ _ _ _ _ 0 1 rfl rfl c _ _ _ _ _ _ _ _ _ _ _ _ _ _ _ _ _ _ _ _ _ _ _ _ _).trans ?_
  refine up_congr fun s w _ hw => ?_
  have e : ((grid0.coords ⟨n, hn⟩) 1).val = n % 9 := co_0 ⟨n, hn⟩
  have hb := aK_next q k v d rt n s w h0
  rw [cK, show bR (n % 9) = 16 from if_pos h2] at hb
  rw [e]
  refine hb.trans ?_
  rw [← sum_cK q k v d rt (n / 9) s w, aK, h2]

include hq hk hv hd hs in
theorem outV (n : ℕ) (hn : n < cfg0.N) (h2 : n % 9 = 8) :
    (outsAt0 m c n hn).2.2.1 = up S2304x256 .bf16 (fun s w => rDv q k d rt 0 2064 s (256 * (n / 9) + w)) := by
  have h0 : ¬n % 9 = 0 := by omega
  have hp := carried m c q k v d rt hq hk hv hd hs (n - 1) (Nat.lt_of_le_of_lt (Nat.sub_le _ _) hn)
  rw [outsAt0_C m c ⟨n, hn⟩ h0 (show ¬n % 9 ≤ 7 by omega) h2 h2]
  dsimp only
  rw [iblk_q m c q hq, iblk_k m c k hk, iblk_v m c v hv, iblk_d m c d hd, iblk_s m c rt hs, hp.1, hp.2]
  refine (o7_C _ _ _ _ _ _ _ 0 1 rfl rfl c _ _ _ _ _ _ _ _ _ _ _ _ _ _ _ _ _ _ _ _ _ _ _ _ _).trans ?_
  refine up_congr fun s w _ hw => ?_
  have e : ((grid0.coords ⟨n, hn⟩) 1).val = n % 9 := co_0 ⟨n, hn⟩
  have hb := aV_next q k d rt n s w h0
  rw [cV, show bR (n % 9) = 16 from if_pos h2] at hb
  rw [e]
  refine hb.trans ?_
  rw [← sum_cV q k d rt (n / 9) s w, aV, h2]

include hq hk hv hd hs in
theorem arrQ : (dats m 0 c).arrAt 5 cfg0.N = up S2304x1024 .bf16 (fun t w => if t < 2064 then rDq q k v d rt 0 (w / 64) t w 2064 * (1 / 8) else 0) := by
  refine Dat.arrAt_eq_of_covers (dats m 0 c) 5 _ (by decide +kernel) fun t hf y => ?_
  blk_simp
  rw [after0_5]
  rw [outQ m c q k v d rt hq hk hv hd hs t]
  refine congrArg Real.toEReal ?_
  show bQ q k v d rt t.val (y 0).val (y 1).val = (fun t w => if t < 2064 then rDq q k v d rt 0 (w / 64) t w 2064 * (1 / 8) else 0) ((((cfg0.win 5).blk t).view.emb y) 0).val ((((cfg0.win 5).blk t).view.emb y) 1).val
  blk_simp [ix_5]
  unfold bQ
  simp [Nat.mul_comm]

include hq hk hv hd hs in
theorem arrK : (dats m 0 c).arrAt 6 cfg0.N = up S2304x1024 .bf16 (fun s w => rDk q k v d rt 0 2064 s w) := by
  refine Dat.arrAt_eq_of_covers (dats m 0 c) 6 _ (by decide +kernel) fun t hf y => ?_
  blk_simp
  rw [after0_6]
  rw [outK m c q k v d rt hq hk hv hd hs t.val t.isLt (flush_6 t hf)]
  refine congrArg Real.toEReal ?_
  show rDk q k v d rt 0 2064 (y 0).val (256 * (t.val / 9) + (y 1).val) = rDk q k v d rt 0 2064 ((((cfg0.win 6).blk t).view.emb y) 0).val ((((cfg0.win 6).blk t).view.emb y) 1).val
  blk_simp [ix_6]
  simp [Nat.mul_comm]

include hq hk hv hd hs in
theorem arrV : (dats m 0 c).arrAt 7 cfg0.N = up S2304x1024 .bf16 (fun s w => rDv q k d rt 0 2064 s w) := by
  refine Dat.arrAt_eq_of_covers (dats m 0 c) 7 _ (by decide +kernel) fun t hf y => ?_
  blk_simp
  rw [after0_7]
  rw [outV m c q k v d rt hq hk hv hd hs t.val t.isLt (flush_7 t hf)]
  refine congrArg Real.toEReal ?_
  show rDv q k d rt 0 2064 (y 0).val (256 * (t.val / 9) + (y 1).val) = rDv q k d rt 0 2064 ((((cfg0.win 7).blk t).view.emb y) 0).val ((((cfg0.win 7).blk t).view.emb y) 1).val
  blk_simp [ix_7]
  simp [Nat.mul_comm]
end
end Cert.Att
end
-- ==== Proof.Same.lean ====
module

public import proofs.«01_k».proof.Proof.Finite
public import proofs.«01_k».proof.Proof.Carry
public import proofs.«01_k».proof.Proof.Gen.KernelIdeal.Value
public import proofs.«01_k».proof.Proof.Gen.ReferenceIdeal.Run
public import Idealize.ShloMosaic.Lib.Quiescent

/- The results of the kernel are those of the reference. -/
@[expose] public section
noncomputable section
namespace Cert.Att
open Idealize.ShloMosaic Idealize.ShloMosaic.TcCoe Idealize.ShloMosaic.Pipeline Idealize.SL.Sem
open scoped Classical

section
open Cert.KernelIdeal Cert.KernelIdeal.Gen
variable (m : (ℓ : Loc nD τ sig) → Buf (Elt Ideal) ℓ) (c : Dev nD) (q k v d : ℕ → ℕ → ℝ)
  (h0 : m ((c : Thread nD τ).loc main_arg0) = up S2064x1024 .f32 q) (h1 : m ((c : Thread nD τ).loc main_arg1) = up S2064x1024 .f32 k)
  (h2 : m ((c : Thread nD τ).loc main_arg2) = up S2064x1024 .f32 v) (h3 : m ((c : Thread nD τ).loc main_arg3) = up S2064x1024 .f32 d)

include h0 h1 h2 h3 in
theorem same_q : (dats m 0 c).arrAt 5 cfg0.N = Cert.ReferenceIdeal.Read.val_main_v44 (F := Ideal) (up S2064x1024 .f32 q) (up S2064x1024 .f32 k) (up S2064x1024 .f32 v) (up S2064x1024 .f32 d) := by
  rw [res_dq, arrQ m c _ _ _ _ _ (host_q m c q h0) (host_k m c k h1) (host_v m c v h2) (host_d m c d h3) (host_s m c q k h0 h1)]
  exact congrArg (up S2304x1024 .bf16) (funext fun t => funext fun w => eq_dq q k v d t w)

include h0 h1 h2 h3 in
theorem same_k : (dats m 0 c).arrAt 6 cfg0.N = Cert.ReferenceIdeal.Read.val_main_v46 (F := Ideal) (up S2064x1024 .f32 q) (up S2064x1024 .f32 k) (up S2064x1024 .f32 v) (up S2064x1024 .f32 d) := by
  rw [res_dk, arrK m c _ _ _ _ _ (host_q m c q h0) (host_k m c k h1) (host_v m c v h2) (host_d m c d h3) (host_s m c q k h0 h1)]
  exact congrArg (up S2304x1024 .bf16) (funext fun t => funext fun w => eq_dk q k v d t w)

include h0 h1 h2 h3 in
theorem same_v : (dats m 0 c).arrAt 7 cfg0.N = Cert.ReferenceIdeal.Read.val_main_v48 (F := Ideal) (up S2064x1024 .f32 q) (up S2064x1024 .f32 k) (up S2064x1024 .f32 d) := by
  rw [res_dv, arrV m c _ _ _ _ _ (host_q m c q h0) (host_k m c k h1) (host_v m c v h2) (host_d m c d h3) (host_s m c q k h0 h1)]
  exact congrArg (up S2304x1024 .bf16) (funext fun t => funext fun w => eq_dv q k d t w)
end

open Cert.ReferenceIdeal in
/-- The reference runs, and no semaphore is used. -/
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2.2, sem_eq_zero_of_no_sems (by decide) r.2⟩) (Value.run m g)
end Cert.Att
end
-- ==== Proof.lean ====
/- The claims, assembled: the three frames, and the equation of the kernel and the reference. -/
module

public import proofs.«01_k».proof.Defs
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.In.Frame
public import proofs.«01_k».proof.Proof.Gen.InIdeal.Frame
public import proofs.«01_k».proof.Proof.Gen.InRefIdeal
public import proofs.«01_k».proof.Proof.Gen.InDx.Frame
public import proofs.«01_k».proof.Proof.Gen.InDxIdeal.Frame
public import proofs.«01_k».proof.Proof.Gen.InDxRefIdeal
public import proofs.«01_k».proof.Proof.Gen.InDw.Frame
public import proofs.«01_k».proof.Proof.Gen.InDwIdeal.Frame
public import proofs.«01_k».proof.Proof.Gen.InDwRefIdeal
public import proofs.«01_k».proof.Proof.Gen.FfnIn.Frame
public import proofs.«01_k».proof.Proof.Gen.FfnInIdeal.Frame
public import proofs.«01_k».proof.Proof.Gen.FfnInRefIdeal
public import proofs.«01_k».proof.Proof.Gen.FfnInDx.Frame
public import proofs.«01_k».proof.Proof.Gen.FfnInDxIdeal.Frame
public import proofs.«01_k».proof.Proof.Gen.FfnInDxRefIdeal
public import proofs.«01_k».proof.Proof.Gen.FfnInDw.Frame
public import proofs.«01_k».proof.Proof.Gen.FfnInDwIdeal.Frame
public import proofs.«01_k».proof.Proof.Gen.FfnInDwRefIdeal
public import proofs.«01_k».proof.Proof.Gen.FfnOut.Frame
public import proofs.«01_k».proof.Proof.Gen.FfnOutIdeal.Frame
public import proofs.«01_k».proof.Proof.Gen.FfnOutRefIdeal
public import proofs.«01_k».proof.Proof.Gen.FfnOutDx.Frame
public import proofs.«01_k».proof.Proof.Gen.FfnOutDxIdeal.Frame
public import proofs.«01_k».proof.Proof.Gen.FfnOutDxRefIdeal
public import proofs.«01_k».proof.Proof.Gen.FfnOutDw.Frame
public import proofs.«01_k».proof.Proof.Gen.FfnOutDwIdeal.Frame
public import proofs.«01_k».proof.Proof.Gen.FfnOutDwRefIdeal
public import proofs.«01_k».proof.Proof.Gen.Mix.Frame
public import proofs.«01_k».proof.Proof.Gen.MixIdeal
public import proofs.«01_k».proof.Proof.Gen.MixRefIdeal
public import proofs.«01_k».proof.Proof.Gen.MixDx.Frame
public import proofs.«01_k».proof.Proof.Gen.MixDxIdeal
public import proofs.«01_k».proof.Proof.Gen.MixDxRefIdeal
public import proofs.«01_k».proof.Proof.Gen.MixDw.Frame
public import proofs.«01_k».proof.Proof.Gen.MixDwIdeal
public import proofs.«01_k».proof.Proof.Gen.MixDwRefIdeal
public import proofs.«01_k».proof.Proof.Gen.AttnOut.Frame
public import proofs.«01_k».proof.Proof.Gen.AttnOutIdeal.Frame
public import proofs.«01_k».proof.Proof.Gen.AttnOutRefIdeal
public import proofs.«01_k».proof.Proof.Gen.AttnOutDx.Frame
public import proofs.«01_k».proof.Proof.Gen.AttnOutDxIdeal.Frame
public import proofs.«01_k».proof.Proof.Gen.AttnOutDxRefIdeal
public import proofs.«01_k».proof.Proof.Gen.AttnOutDw.Frame
public import proofs.«01_k».proof.Proof.Gen.AttnOutDwIdeal.Frame
public import proofs.«01_k».proof.Proof.Gen.AttnOutDwRefIdeal
public import proofs.«01_k».proof.Proof.Gen.SwigluBwd.Frame
public import proofs.«01_k».proof.Proof.Gen.SwigluBwdIdeal.Frame
public import proofs.«01_k».proof.Proof.Gen.SwigluBwdRefIdeal
public import proofs.«01_k».proof.Proof.Gen.GluBwd.Frame
public import proofs.«01_k».proof.Proof.Gen.GluBwdIdeal.Frame
public import proofs.«01_k».proof.Proof.Gen.GluBwdRefIdeal
public import proofs.«01_k».proof.Proof.Gen.GateBwd.Frame
public import proofs.«01_k».proof.Proof.Gen.GateBwdIdeal.Frame
public import proofs.«01_k».proof.Proof.Gen.GateBwdRefIdeal
public import proofs.«01_k».proof.Proof.Gen.RmsBwd.Frame
public import proofs.«01_k».proof.Proof.Gen.RmsBwdIdeal.Frame
public import proofs.«01_k».proof.Proof.Gen.RmsBwdRefIdeal
public import proofs.«01_k».proof.Proof.Gen.ResBwd.Frame
public import proofs.«01_k».proof.Proof.Gen.ResBwdIdeal.Frame
public import proofs.«01_k».proof.Proof.Gen.ResBwdRefIdeal
public import proofs.«01_k».proof.Proof.Gen.PostBwd.Frame
public import proofs.«01_k».proof.Proof.Gen.PostBwdIdeal.Frame
public import proofs.«01_k».proof.Proof.Gen.PostBwdRefIdeal
public import proofs.«01_k».proof.Proof.Gen.ConvDx.Frame
public import proofs.«01_k».proof.Proof.Gen.ConvDxIdeal.Frame
public import proofs.«01_k».proof.Proof.Gen.ConvDxRefIdeal
public import proofs.«01_k».proof.Proof.Gen.ConvDw.Frame
public import proofs.«01_k».proof.Proof.Gen.ConvDwIdeal.Frame
public import proofs.«01_k».proof.Proof.Gen.ConvDwRefIdeal
public import proofs.«01_k».proof.Proof.Gen.ConvFw.Frame
public import proofs.«01_k».proof.Proof.Gen.ConvFwIdeal.Frame
public import proofs.«01_k».proof.Proof.Gen.ConvFwRefIdeal
public import proofs.«01_k».proof.Proof.ProdIn
public import proofs.«01_k».proof.Proof.ProdInDx
public import proofs.«01_k».proof.Proof.ProdInDw
public import proofs.«01_k».proof.Proof.ProdFfnIn
public import proofs.«01_k».proof.Proof.ProdFfnInDx
public import proofs.«01_k».proof.Proof.ProdFfnInDw
public import proofs.«01_k».proof.Proof.ProdFfnOut
public import proofs.«01_k».proof.Proof.ProdFfnOutDx
public import proofs.«01_k».proof.Proof.ProdFfnOutDw
public import proofs.«01_k».proof.Proof.ProdMix
public import proofs.«01_k».proof.Proof.ProdMixDx
public import proofs.«01_k».proof.Proof.ProdMixDw
public import proofs.«01_k».proof.Proof.ProdConvOut
public import proofs.«01_k».proof.Proof.ProdAttnOut
public import proofs.«01_k».proof.Proof.ProdAttnOutDx
public import proofs.«01_k».proof.Proof.ProdAttnOutDw
public import proofs.«01_k».proof.Proof.ProdSwigluBwd
public import proofs.«01_k».proof.Proof.ProdGluBwd
public import proofs.«01_k».proof.Proof.ProdGateBwd
public import proofs.«01_k».proof.Proof.ProdRmsBwd
public import proofs.«01_k».proof.Proof.ProdResBwd
public import proofs.«01_k».proof.Proof.ProdPostBwd
public import proofs.«01_k».proof.Proof.ProdConvDx
public import proofs.«01_k».proof.Proof.ProdConvDw
public import proofs.«01_k».proof.Proof.ProdConvFw
public import proofs.«01_k».proof.Proof.Same
public import Idealize.ShloMosaic.Adequacy
public import Idealize.ShloMosaic.Init

@[expose] public section

noncomputable section

namespace Cert.Proof

open Idealize.ShloMosaic Idealize.SL.Sem

theorem algebraic : @Cert.algebraic_KernelIdeal_ReferenceIdeal_pre_finite Cert.KernelIdeal.Gen.facts Cert.ReferenceIdeal.Gen.facts Cert.Att.facts_finite := by
  intro m g m' g' hpre hag
  refine ⟨_, _, _, Cert.KernelIdeal.Value.run_blocks m g, (θ_run _ _ _).mono ?_ (Cert.ReferenceIdeal.Value.run m' g')⟩
  intro r h c
  obtain ⟨r0, r1, r2, ra⟩ := h c
  obtain ⟨a0, a1, a2, a3⟩ := hag c
  obtain ⟨f0, f1, f2, f3⟩ := Cert.Att.finite_args _ _ _ _ (hpre c)
  refine ⟨r0.trans ?_, r1.trans ?_, r2.trans ?_, ra⟩
  · rw [Cert.ReferenceIdeal.Read.val_main_v44_eq, a0, a1, a2, a3]
    refine Eq.trans ?_ (Cert.Att.same_q m c _ _ _ _ f0 f1 f2 f3).symm
    exact congr (congr (congrArg₂ Cert.ReferenceIdeal.Read.val_main_v44 f0 f1) f2) f3
  · rw [Cert.ReferenceIdeal.Read.val_main_v46_eq, a0, a1, a2, a3]
    refine Eq.trans ?_ (Cert.Att.same_k m c _ _ _ _ f0 f1 f2 f3).symm
    exact congr (congr (congrArg₂ Cert.ReferenceIdeal.Read.val_main_v46 f0 f1) f2) f3
  · rw [Cert.ReferenceIdeal.Read.val_main_v48_eq, a0, a1, a3]
    refine Eq.trans ?_ (Cert.Att.same_v m c _ _ _ _ f0 f1 f2 f3).symm
    exact congr (congrArg₂ Cert.ReferenceIdeal.Read.val_main_v48 f0 f1) f3

theorem claim : Cert.Claim := ⟨Cert.Kernel.Gen.facts, Cert.KernelIdeal.Gen.facts, Cert.ReferenceIdeal.Gen.facts,
  Cert.In.Gen.facts, Cert.InIdeal.Gen.facts, Cert.InRefIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.FfnIn.Gen.facts, Cert.FfnInIdeal.Gen.facts, Cert.FfnInRefIdeal.Gen.facts,
  Cert.FfnInDx.Gen.facts, Cert.FfnInDxIdeal.Gen.facts, Cert.FfnInDxRefIdeal.Gen.facts,
  Cert.FfnInDw.Gen.facts, Cert.FfnInDwIdeal.Gen.facts, Cert.FfnInDwRefIdeal.Gen.facts,
  Cert.FfnOut.Gen.facts, Cert.FfnOutIdeal.Gen.facts, Cert.FfnOutRefIdeal.Gen.facts,
  Cert.FfnOutDx.Gen.facts, Cert.FfnOutDxIdeal.Gen.facts, Cert.FfnOutDxRefIdeal.Gen.facts,
  Cert.FfnOutDw.Gen.facts, Cert.FfnOutDwIdeal.Gen.facts, Cert.FfnOutDwRefIdeal.Gen.facts,
  Cert.Mix.Gen.facts, Cert.MixIdeal.Gen.facts, Cert.MixRefIdeal.Gen.facts,
  Cert.MixDx.Gen.facts, Cert.MixDxIdeal.Gen.facts, Cert.MixDxRefIdeal.Gen.facts,
  Cert.MixDw.Gen.facts, Cert.MixDwIdeal.Gen.facts, Cert.MixDwRefIdeal.Gen.facts,
  Cert.ConvOut.Gen.facts, Cert.ConvOutIdeal.Gen.facts, Cert.ConvOutRefIdeal.Gen.facts,
  Cert.ConvOutDx.Gen.facts, Cert.ConvOutDxIdeal.Gen.facts, Cert.ConvOutDxRefIdeal.Gen.facts,
  Cert.ConvOutDw.Gen.facts, Cert.ConvOutDwIdeal.Gen.facts, Cert.ConvOutDwRefIdeal.Gen.facts,
  Cert.AttnOut.Gen.facts, Cert.AttnOutIdeal.Gen.facts, Cert.AttnOutRefIdeal.Gen.facts,
  Cert.AttnOutDx.Gen.facts, Cert.AttnOutDxIdeal.Gen.facts, Cert.AttnOutDxRefIdeal.Gen.facts,
  Cert.AttnOutDw.Gen.facts, Cert.AttnOutDwIdeal.Gen.facts, Cert.AttnOutDwRefIdeal.Gen.facts,
  Cert.SwigluBwd.Gen.facts, Cert.SwigluBwdIdeal.Gen.facts, Cert.SwigluBwdRefIdeal.Gen.facts,
  Cert.GluBwd.Gen.facts, Cert.GluBwdIdeal.Gen.facts, Cert.GluBwdRefIdeal.Gen.facts,
  Cert.GateBwd.Gen.facts, Cert.GateBwdIdeal.Gen.facts, Cert.GateBwdRefIdeal.Gen.facts,
  Cert.RmsBwd.Gen.facts, Cert.RmsBwdIdeal.Gen.facts, Cert.RmsBwdRefIdeal.Gen.facts,
  Cert.ResBwd.Gen.facts, Cert.ResBwdIdeal.Gen.facts, Cert.ResBwdRefIdeal.Gen.facts,
  Cert.PostBwd.Gen.facts, Cert.PostBwdIdeal.Gen.facts, Cert.PostBwdRefIdeal.Gen.facts,
  Cert.ConvDx.Gen.facts, Cert.ConvDxIdeal.Gen.facts, Cert.ConvDxRefIdeal.Gen.facts,
  Cert.ConvDw.Gen.facts, Cert.ConvDwIdeal.Gen.facts, Cert.ConvDwRefIdeal.Gen.facts,
  Cert.ConvFw.Gen.facts, Cert.ConvFwIdeal.Gen.facts, Cert.ConvFwRefIdeal.Gen.facts,
  Cert.Att.facts_finite,
  fun m ρ _ => Cert.Kernel.Gen.frame m ρ, fun m ρ _ => Cert.KernelIdeal.Gen.frame m ρ, fun m ρ _ => Cert.KernelIdeal.Gen.frame m ρ,
  fun m ρ _ => Cert.Att.ref_frame m ρ, fun m ρ _ => Cert.Att.ref_frame m ρ,
  fun m ρ _ => Cert.In.Gen.frame m ρ, fun m ρ _ => Cert.InIdeal.Gen.frame m ρ, fun m ρ _ => Cert.Prod.In.ref_frame m ρ,
  fun m ρ _ => Cert.InDx.Gen.frame m ρ, fun m ρ _ => Cert.InDxIdeal.Gen.frame m ρ, fun m ρ _ => Cert.Prod.InDx.ref_frame m ρ,
  fun m ρ _ => Cert.InDw.Gen.frame m ρ, fun m ρ _ => Cert.InDwIdeal.Gen.frame m ρ, fun m ρ _ => Cert.Prod.InDw.ref_frame m ρ,
  fun m ρ _ => Cert.FfnIn.Gen.frame m ρ, fun m ρ _ => Cert.FfnInIdeal.Gen.frame m ρ, fun m ρ _ => Cert.Prod.FfnIn.ref_frame m ρ,
  fun m ρ _ => Cert.FfnInDx.Gen.frame m ρ, fun m ρ _ => Cert.FfnInDxIdeal.Gen.frame m ρ, fun m ρ _ => Cert.Prod.FfnInDx.ref_frame m ρ,
  fun m ρ _ => Cert.FfnInDw.Gen.frame m ρ, fun m ρ _ => Cert.FfnInDwIdeal.Gen.frame m ρ, fun m ρ _ => Cert.Prod.FfnInDw.ref_frame m ρ,
  fun m ρ _ => Cert.FfnOut.Gen.frame m ρ, fun m ρ _ => Cert.FfnOutIdeal.Gen.frame m ρ, fun m ρ _ => Cert.Prod.FfnOut.ref_frame m ρ,
  fun m ρ _ => Cert.FfnOutDx.Gen.frame m ρ, fun m ρ _ => Cert.FfnOutDxIdeal.Gen.frame m ρ, fun m ρ _ => Cert.Prod.FfnOutDx.ref_frame m ρ,
  fun m ρ _ => Cert.FfnOutDw.Gen.frame m ρ, fun m ρ _ => Cert.FfnOutDwIdeal.Gen.frame m ρ, fun m ρ _ => Cert.Prod.FfnOutDw.ref_frame m ρ,
  fun m ρ _ => Cert.Mix.Gen.frame m ρ, fun m ρ _ => Cert.MixIdeal.Gen.frame m ρ, fun m ρ _ => Cert.Prod.Mix.ref_frame m ρ,
  fun m ρ _ => Cert.MixDx.Gen.frame m ρ, fun m ρ _ => Cert.MixDxIdeal.Gen.frame m ρ, fun m ρ _ => Cert.Prod.MixDx.ref_frame m ρ,
  fun m ρ _ => Cert.MixDw.Gen.frame m ρ, fun m ρ _ => Cert.MixDwIdeal.Gen.frame m ρ, fun m ρ _ => Cert.Prod.MixDw.ref_frame m ρ,
  Cert.Prod.ConvOut.frame, Cert.Prod.ConvOut.ideal_frame, Cert.Prod.ConvOut.ref_frame,
  Cert.Prod.ConvOutDx.frame, Cert.Prod.ConvOutDx.ideal_frame, Cert.Prod.ConvOutDx.ref_frame,
  Cert.Prod.ConvOutDw.frame, Cert.Prod.ConvOutDw.ideal_frame, Cert.Prod.ConvOutDw.ref_frame,
  fun m ρ _ => Cert.AttnOut.Gen.frame m ρ, fun m ρ _ => Cert.AttnOutIdeal.Gen.frame m ρ, fun m ρ _ => Cert.Prod.AttnOut.ref_frame m ρ,
  fun m ρ _ => Cert.AttnOutDx.Gen.frame m ρ, fun m ρ _ => Cert.AttnOutDxIdeal.Gen.frame m ρ, fun m ρ _ => Cert.Prod.AttnOutDx.ref_frame m ρ,
  fun m ρ _ => Cert.AttnOutDw.Gen.frame m ρ, fun m ρ _ => Cert.AttnOutDwIdeal.Gen.frame m ρ, fun m ρ _ => Cert.Prod.AttnOutDw.ref_frame m ρ,
  fun m ρ _ => Cert.SwigluBwd.Gen.frame m ρ, fun m ρ _ => Cert.SwigluBwdIdeal.Gen.frame m ρ, fun m ρ _ => Cert.Prod.SwigluBwd.ref_frame m ρ,
  fun m ρ _ => Cert.GluBwd.Gen.frame m ρ, fun m ρ _ => Cert.GluBwdIdeal.Gen.frame m ρ, fun m ρ _ => Cert.Prod.GluBwd.ref_frame m ρ,
  fun m ρ _ => Cert.GateBwd.Gen.frame m ρ, fun m ρ _ => Cert.GateBwdIdeal.Gen.frame m ρ, fun m ρ _ => Cert.Prod.GateBwd.ref_frame m ρ,
  fun m ρ _ => Cert.RmsBwd.Gen.frame m ρ, fun m ρ _ => Cert.RmsBwdIdeal.Gen.frame m ρ, fun m ρ _ => Cert.Prod.RmsBwd.ref_frame m ρ,
  fun m ρ _ => Cert.ResBwd.Gen.frame m ρ, fun m ρ _ => Cert.ResBwdIdeal.Gen.frame m ρ, fun m ρ _ => Cert.Prod.ResBwd.ref_frame m ρ,
  fun m ρ _ => Cert.PostBwd.Gen.frame m ρ, fun m ρ _ => Cert.PostBwdIdeal.Gen.frame m ρ, fun m ρ _ => Cert.Prod.PostBwd.ref_frame m ρ,
  fun m ρ _ => Cert.ConvDx.Gen.frame m ρ, fun m ρ _ => Cert.ConvDxIdeal.Gen.frame m ρ, fun m ρ _ => Cert.Prod.ConvDx.ref_frame m ρ,
  fun m ρ _ => Cert.ConvDw.Gen.frame m ρ, fun m ρ _ => Cert.ConvDwIdeal.Gen.frame m ρ, fun m ρ _ => Cert.Prod.ConvDw.ref_frame m ρ,
  fun m ρ _ => Cert.ConvFw.Gen.frame m ρ, fun m ρ _ => Cert.ConvFwIdeal.Gen.frame m ρ, fun m ρ _ => Cert.Prod.ConvFw.ref_frame m ρ,
  trivial, algebraic,
  trivial, Cert.Prod.In.same,
  trivial, Cert.Prod.InDx.same,
  trivial, Cert.Prod.InDw.same,
  trivial, Cert.Prod.FfnIn.same,
  trivial, Cert.Prod.FfnInDx.same,
  trivial, Cert.Prod.FfnInDw.same,
  trivial, Cert.Prod.FfnOut.same,
  trivial, Cert.Prod.FfnOutDx.same,
  trivial, Cert.Prod.FfnOutDw.same,
  trivial, Cert.Prod.Mix.same,
  trivial, Cert.Prod.MixDx.same,
  trivial, Cert.Prod.MixDw.same,
  trivial, Cert.Prod.ConvOut.same,
  trivial, Cert.Prod.ConvOutDx.same,
  trivial, Cert.Prod.ConvOutDw.same,
  trivial, Cert.Prod.AttnOut.same,
  trivial, Cert.Prod.AttnOutDx.same,
  trivial, Cert.Prod.AttnOutDw.same,
  trivial, Cert.Prod.SwigluBwd.same,
  trivial, Cert.Prod.GluBwd.same,
  trivial, Cert.Prod.GateBwd.same,
  trivial, Cert.Prod.RmsBwd.same,
  trivial, Cert.Prod.ResBwd.same,
  trivial, Cert.Prod.PostBwd.same,
  trivial, Cert.Prod.ConvDx.same,
  trivial, Cert.Prod.ConvDw.same,
  trivial, Cert.Prod.ConvFw.same⟩

end Cert.Proof

end
